-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.2 = (fun _ => 1#1)

def Pre_GwUp (m : (ℓ : Loc Cert.GwUp.nD Cert.GwUp.τ Cert.GwUp.sig) → Buf (Elt Bits) ℓ) : Prop :=
  True

def Pre_GwUpIdeal (m : (ℓ : Loc Cert.GwUpIdeal.nD Cert.GwUpIdeal.τ Cert.GwUpIdeal.sig) → Buf (Elt Ideal) ℓ) : Prop :=
  True

def Pre_RefGwUpIdeal (m : (ℓ : Loc Cert.RefGwUpIdeal.nD Cert.RefGwUpIdeal.τ Cert.RefGwUpIdeal.sig) → Buf (Elt Ideal) ℓ) : Prop :=
  True

def Pre_Dh2 (m : (ℓ : Loc Cert.Dh2.nD Cert.Dh2.τ Cert.Dh2.sig) → Buf (Elt Bits) ℓ) : Prop :=
  True

def Pre_Dh2Ideal (m : (ℓ : Loc Cert.Dh2Ideal.nD Cert.Dh2Ideal.τ Cert.Dh2Ideal.sig) → Buf (Elt Ideal) ℓ) : Prop :=
  True

def Pre_RefDh2Ideal (m : (ℓ : Loc Cert.RefDh2Ideal.nD Cert.RefDh2Ideal.τ Cert.RefDh2Ideal.sig) → Buf (Elt Ideal) ℓ) : Prop :=
  True

def Pre_GwDown (m : (ℓ : Loc Cert.GwDown.nD Cert.GwDown.τ Cert.GwDown.sig) → Buf (Elt Bits) ℓ) : Prop :=
  True

def Pre_GwDownIdeal (m : (ℓ : Loc Cert.GwDownIdeal.nD Cert.GwDownIdeal.τ Cert.GwDownIdeal.sig) → Buf (Elt Ideal) ℓ) : Prop :=
  True

def Pre_RefGwDownIdeal (m : (ℓ : Loc Cert.RefGwDownIdeal.nD Cert.RefGwDownIdeal.τ Cert.RefGwDownIdeal.sig) → Buf (Elt Ideal) ℓ) : Prop :=
  True

def Pre_Dact (m : (ℓ : Loc Cert.Dact.nD Cert.Dact.τ Cert.Dact.sig) → Buf (Elt Bits) ℓ) : Prop :=
  True

def Pre_DactIdeal (m : (ℓ : Loc Cert.DactIdeal.nD Cert.DactIdeal.τ Cert.DactIdeal.sig) → Buf (Elt Ideal) ℓ) : Prop :=
  True

def Pre_RefDactIdeal (m : (ℓ : Loc Cert.RefDactIdeal.nD Cert.RefDactIdeal.τ Cert.RefDactIdeal.sig) → Buf (Elt Ideal) ℓ) : Prop :=
  True

def Pre_GwIn (m : (ℓ : Loc Cert.GwIn.nD Cert.GwIn.τ Cert.GwIn.sig) → Buf (Elt Bits) ℓ) : Prop :=
  True

def Pre_GwInIdeal (m : (ℓ : Loc Cert.GwInIdeal.nD Cert.GwInIdeal.τ Cert.GwInIdeal.sig) → Buf (Elt Ideal) ℓ) : Prop :=
  True

def Pre_RefGwInIdeal (m : (ℓ : Loc Cert.RefGwInIdeal.nD Cert.RefGwInIdeal.τ Cert.RefGwInIdeal.sig) → Buf (Elt Ideal) ℓ) : Prop :=
  True

def Pre_Dh1 (m : (ℓ : Loc Cert.Dh1.nD Cert.Dh1.τ Cert.Dh1.sig) → Buf (Elt Bits) ℓ) : Prop :=
  True

def Pre_Dh1Ideal (m : (ℓ : Loc Cert.Dh1Ideal.nD Cert.Dh1Ideal.τ Cert.Dh1Ideal.sig) → Buf (Elt Ideal) ℓ) : Prop :=
  True

def Pre_RefDh1Ideal (m : (ℓ : Loc Cert.RefDh1Ideal.nD Cert.RefDh1Ideal.τ Cert.RefDh1Ideal.sig) → Buf (Elt Ideal) ℓ) : Prop :=
  True

def Pre_GwOut (m : (ℓ : Loc Cert.GwOut.nD Cert.GwOut.τ Cert.GwOut.sig) → Buf (Elt Bits) ℓ) : Prop :=
  True

def Pre_GwOutIdeal (m : (ℓ : Loc Cert.GwOutIdeal.nD Cert.GwOutIdeal.τ Cert.GwOutIdeal.sig) → Buf (Elt Ideal) ℓ) : Prop :=
  True

def Pre_RefGwOutIdeal (m : (ℓ : Loc Cert.RefGwOutIdeal.nD Cert.RefGwOutIdeal.τ Cert.RefGwOutIdeal.sig) → Buf (Elt Ideal) ℓ) : Prop :=
  True

def Pre_Dy (m : (ℓ : Loc Cert.Dy.nD Cert.Dy.τ Cert.Dy.sig) → Buf (Elt Bits) ℓ) : Prop :=
  True

def Pre_DyIdeal (m : (ℓ : Loc Cert.DyIdeal.nD Cert.DyIdeal.τ Cert.DyIdeal.sig) → Buf (Elt Ideal) ℓ) : Prop :=
  True

def Pre_RefDyIdeal (m : (ℓ : Loc Cert.RefDyIdeal.nD Cert.RefDyIdeal.τ Cert.RefDyIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_RefDownIdeal (m : (ℓ : Loc Cert.RefDownIdeal.nD Cert.RefDownIdeal.τ Cert.RefDownIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_RefOutIdeal (m : (ℓ : Loc Cert.RefOutIdeal.nD Cert.RefOutIdeal.τ Cert.RefOutIdeal.sig) → Buf (Elt Ideal) ℓ) : Prop :=
  True

def Pre_ProjNear [hPre_proj_near_ids : Cert.Pre_proj_near_ids.Facts] (m : (ℓ : Loc Cert.ProjNear.nD Cert.ProjNear.τ Cert.ProjNear.sig) → Buf (Elt Bits) ℓ) : Prop :=
  ∀ c : Dev Cert.ProjNear.nD,
    (Cert.Pre_proj_near_ids.fn (F := Bits) (m ((c.tc : Thread Cert.ProjNear.nD Cert.ProjNear.τ).loc Cert.ProjNear.main_arg0)) (m ((c.tc : Thread Cert.ProjNear.nD Cert.ProjNear.τ).loc Cert.ProjNear.main_arg1)) (m ((c.tc : Thread Cert.ProjNear.nD Cert.ProjNear.τ).loc Cert.ProjNear.main_arg2))) = (fun _ => 1#1)

def Pre_ProjNearIdeal [hPre_proj_near_ids : Cert.Pre_proj_near_ids.Facts] (m : (ℓ : Loc Cert.ProjNearIdeal.nD Cert.ProjNearIdeal.τ Cert.ProjNearIdeal.sig) → Buf (Elt Ideal) ℓ) : Prop :=
  ∀ c : Dev Cert.ProjNearIdeal.nD,
    (Cert.Pre_proj_near_ids.fn (F := Ideal) (m ((c.tc : Thread Cert.ProjNearIdeal.nD Cert.ProjNearIdeal.τ).loc Cert.ProjNearIdeal.main_arg0)) (m ((c.tc : Thread Cert.ProjNearIdeal.nD Cert.ProjNearIdeal.τ).loc Cert.ProjNearIdeal.main_arg1)) (m ((c.tc : Thread Cert.ProjNearIdeal.nD Cert.ProjNearIdeal.τ).loc Cert.ProjNearIdeal.main_arg2))) = (fun _ => 1#1)

def Pre_RefProjNearIdeal (m : (ℓ : Loc Cert.RefProjNearIdeal.nD Cert.RefProjNearIdeal.τ Cert.RefProjNearIdeal.sig) → Buf (Elt Ideal) ℓ) : Prop :=
  True

def Pre_RefProjNearIdeal_proj_near_ids [hPre_proj_near_ids : Cert.Pre_proj_near_ids.Facts] (m : (ℓ : Loc Cert.RefProjNearIdeal.nD Cert.RefProjNearIdeal.τ Cert.RefProjNearIdeal.sig) → Buf (Elt Ideal) ℓ) : Prop :=
  ∀ c : Dev Cert.RefProjNearIdeal.nD,
    (Cert.Pre_proj_near_ids.fn (F := Ideal) (m ((c.tc : Thread Cert.RefProjNearIdeal.nD Cert.RefProjNearIdeal.τ).loc Cert.RefProjNearIdeal.main_arg0)) (m ((c.tc : Thread Cert.RefProjNearIdeal.nD Cert.RefProjNearIdeal.τ).loc Cert.RefProjNearIdeal.main_arg1)) (m ((c.tc : Thread Cert.RefProjNearIdeal.nD Cert.RefProjNearIdeal.τ).loc Cert.RefProjNearIdeal.main_arg2))) = (fun _ => 1#1)

def Pre_ProjRest [hPre_proj_rest_ids : Cert.Pre_proj_rest_ids.Facts] (m : (ℓ : Loc Cert.ProjRest.nD Cert.ProjRest.τ Cert.ProjRest.sig) → Buf (Elt Bits) ℓ) : Prop :=
  ∀ c : Dev Cert.ProjRest.nD,
    (Cert.Pre_proj_rest_ids.fn (F := Bits) (m ((c.tc : Thread Cert.ProjRest.nD Cert.ProjRest.τ).loc Cert.ProjRest.main_arg0)) (m ((c.tc : Thread Cert.ProjRest.nD Cert.ProjRest.τ).loc Cert.ProjRest.main_arg1)) (m ((c.tc : Thread Cert.ProjRest.nD Cert.ProjRest.τ).loc Cert.ProjRest.main_arg2)) (m ((c.tc : Thread Cert.ProjRest.nD Cert.ProjRest.τ).loc Cert.ProjRest.main_arg3))) = (fun _ => 1#1)

def Pre_ProjRestIdeal [hPre_proj_rest_ids : Cert.Pre_proj_rest_ids.Facts] (m : (ℓ : Loc Cert.ProjRestIdeal.nD Cert.ProjRestIdeal.τ Cert.ProjRestIdeal.sig) → Buf (Elt Ideal) ℓ) : Prop :=
  ∀ c : Dev Cert.ProjRestIdeal.nD,
    (Cert.Pre_proj_rest_ids.fn (F := Ideal) (m ((c.tc : Thread Cert.ProjRestIdeal.nD Cert.ProjRestIdeal.τ).loc Cert.ProjRestIdeal.main_arg0)) (m ((c.tc : Thread Cert.ProjRestIdeal.nD Cert.ProjRestIdeal.τ).loc Cert.ProjRestIdeal.main_arg1)) (m ((c.tc : Thread Cert.ProjRestIdeal.nD Cert.ProjRestIdeal.τ).loc Cert.ProjRestIdeal.main_arg2)) (m ((c.tc : Thread Cert.ProjRestIdeal.nD Cert.ProjRestIdeal.τ).loc Cert.ProjRestIdeal.main_arg3))) = (fun _ => 1#1)

def Pre_RefProjRestIdeal (m : (ℓ : Loc Cert.RefProjRestIdeal.nD Cert.RefProjRestIdeal.τ Cert.RefProjRestIdeal.sig) → Buf (Elt Ideal) ℓ) : Prop :=
  True

def Pre_RefProjRestIdeal_proj_rest_ids [hPre_proj_rest_ids : Cert.Pre_proj_rest_ids.Facts] (m : (ℓ : Loc Cert.RefProjRestIdeal.nD Cert.RefProjRestIdeal.τ Cert.RefProjRestIdeal.sig) → Buf (Elt Ideal) ℓ) : Prop :=
  ∀ c : Dev Cert.RefProjRestIdeal.nD,
    (Cert.Pre_proj_rest_ids.fn (F := Ideal) (m ((c.tc : Thread Cert.RefProjRestIdeal.nD Cert.RefProjRestIdeal.τ).loc Cert.RefProjRestIdeal.main_arg0)) (m ((c.tc : Thread Cert.RefProjRestIdeal.nD Cert.RefProjRestIdeal.τ).loc Cert.RefProjRestIdeal.main_arg1)) (m ((c.tc : Thread Cert.RefProjRestIdeal.nD Cert.RefProjRestIdeal.τ).loc Cert.RefProjRestIdeal.main_arg2)) (m ((c.tc : Thread Cert.RefProjRestIdeal.nD Cert.RefProjRestIdeal.τ).loc Cert.RefProjRestIdeal.main_arg3))) = (fun _ => 1#1)

def Pre_UpNear [hPre_up_near_ids : Cert.Pre_up_near_ids.Facts] (m : (ℓ : Loc Cert.UpNear.nD Cert.UpNear.τ Cert.UpNear.sig) → Buf (Elt Bits) ℓ) : Prop :=
  ∀ c : Dev Cert.UpNear.nD,
    (Cert.Pre_up_near_ids.fn (F := Bits) (m ((c.tc : Thread Cert.UpNear.nD Cert.UpNear.τ).loc Cert.UpNear.main_arg0)) (m ((c.tc : Thread Cert.UpNear.nD Cert.UpNear.τ).loc Cert.UpNear.main_arg1)) (m ((c.tc : Thread Cert.UpNear.nD Cert.UpNear.τ).loc Cert.UpNear.main_arg2))) = (fun _ => 1#1)

def Pre_UpNearIdeal [hPre_up_near_ids : Cert.Pre_up_near_ids.Facts] (m : (ℓ : Loc Cert.UpNearIdeal.nD Cert.UpNearIdeal.τ Cert.UpNearIdeal.sig) → Buf (Elt Ideal) ℓ) : Prop :=
  ∀ c : Dev Cert.UpNearIdeal.nD,
    (Cert.Pre_up_near_ids.fn (F := Ideal) (m ((c.tc : Thread Cert.UpNearIdeal.nD Cert.UpNearIdeal.τ).loc Cert.UpNearIdeal.main_arg0)) (m ((c.tc : Thread Cert.UpNearIdeal.nD Cert.UpNearIdeal.τ).loc Cert.UpNearIdeal.main_arg1)) (m ((c.tc : Thread Cert.UpNearIdeal.nD Cert.UpNearIdeal.τ).loc Cert.UpNearIdeal.main_arg2))) = (fun _ => 1#1)

def Pre_RefUpNearIdeal (m : (ℓ : Loc Cert.RefUpNearIdeal.nD Cert.RefUpNearIdeal.τ Cert.RefUpNearIdeal.sig) → Buf (Elt Ideal) ℓ) : Prop :=
  True

def Pre_RefUpNearIdeal_up_near_ids [hPre_up_near_ids : Cert.Pre_up_near_ids.Facts] (m : (ℓ : Loc Cert.RefUpNearIdeal.nD Cert.RefUpNearIdeal.τ Cert.RefUpNearIdeal.sig) → Buf (Elt Ideal) ℓ) : Prop :=
  ∀ c : Dev Cert.RefUpNearIdeal.nD,
    (Cert.Pre_up_near_ids.fn (F := Ideal) (m ((c.tc : Thread Cert.RefUpNearIdeal.nD Cert.RefUpNearIdeal.τ).loc Cert.RefUpNearIdeal.main_arg0)) (m ((c.tc : Thread Cert.RefUpNearIdeal.nD Cert.RefUpNearIdeal.τ).loc Cert.RefUpNearIdeal.main_arg1)) (m ((c.tc : Thread Cert.RefUpNearIdeal.nD Cert.RefUpNearIdeal.τ).loc Cert.RefUpNearIdeal.main_arg2))) = (fun _ => 1#1)

def Pre_UpRest [hPre_up_rest_ids : Cert.Pre_up_rest_ids.Facts] (m : (ℓ : Loc Cert.UpRest.nD Cert.UpRest.τ Cert.UpRest.sig) → Buf (Elt Bits) ℓ) : Prop :=
  ∀ c : Dev Cert.UpRest.nD,
    (Cert.Pre_up_rest_ids.fn (F := Bits) (m ((c.tc : Thread Cert.UpRest.nD Cert.UpRest.τ).loc Cert.UpRest.main_arg0)) (m ((c.tc : Thread Cert.UpRest.nD Cert.UpRest.τ).loc Cert.UpRest.main_arg1)) (m ((c.tc : Thread Cert.UpRest.nD Cert.UpRest.τ).loc Cert.UpRest.main_arg2)) (m ((c.tc : Thread Cert.UpRest.nD Cert.UpRest.τ).loc Cert.UpRest.main_arg3))) = (fun _ => 1#1)

def Pre_UpRestIdeal [hPre_up_rest_ids : Cert.Pre_up_rest_ids.Facts] (m : (ℓ : Loc Cert.UpRestIdeal.nD Cert.UpRestIdeal.τ Cert.UpRestIdeal.sig) → Buf (Elt Ideal) ℓ) : Prop :=
  ∀ c : Dev Cert.UpRestIdeal.nD,
    (Cert.Pre_up_rest_ids.fn (F := Ideal) (m ((c.tc : Thread Cert.UpRestIdeal.nD Cert.UpRestIdeal.τ).loc Cert.UpRestIdeal.main_arg0)) (m ((c.tc : Thread Cert.UpRestIdeal.nD Cert.UpRestIdeal.τ).loc Cert.UpRestIdeal.main_arg1)) (m ((c.tc : Thread Cert.UpRestIdeal.nD Cert.UpRestIdeal.τ).loc Cert.UpRestIdeal.main_arg2)) (m ((c.tc : Thread Cert.UpRestIdeal.nD Cert.UpRestIdeal.τ).loc Cert.UpRestIdeal.main_arg3))) = (fun _ => 1#1)

def Pre_RefUpRestIdeal (m : (ℓ : Loc Cert.RefUpRestIdeal.nD Cert.RefUpRestIdeal.τ Cert.RefUpRestIdeal.sig) → Buf (Elt Ideal) ℓ) : Prop :=
  True

def Pre_RefUpRestIdeal_up_rest_ids [hPre_up_rest_ids : Cert.Pre_up_rest_ids.Facts] (m : (ℓ : Loc Cert.RefUpRestIdeal.nD Cert.RefUpRestIdeal.τ Cert.RefUpRestIdeal.sig) → Buf (Elt Ideal) ℓ) : Prop :=
  ∀ c : Dev Cert.RefUpRestIdeal.nD,
    (Cert.Pre_up_rest_ids.fn (F := Ideal) (m ((c.tc : Thread Cert.RefUpRestIdeal.nD Cert.RefUpRestIdeal.τ).loc Cert.RefUpRestIdeal.main_arg0)) (m ((c.tc : Thread Cert.RefUpRestIdeal.nD Cert.RefUpRestIdeal.τ).loc Cert.RefUpRestIdeal.main_arg1)) (m ((c.tc : Thread Cert.RefUpRestIdeal.nD Cert.RefUpRestIdeal.τ).loc Cert.RefUpRestIdeal.main_arg2)) (m ((c.tc : Thread Cert.RefUpRestIdeal.nD Cert.RefUpRestIdeal.τ).loc Cert.RefUpRestIdeal.main_arg3))) = (fun _ => 1#1)

def Pre_AdamIn [hPre_adam_in_place : Cert.Pre_adam_in_place.Facts] (m : (ℓ : Loc Cert.AdamIn.nD Cert.AdamIn.τ Cert.AdamIn.sig) → Buf (Elt Bits) ℓ) : Prop :=
  ∀ c : Dev Cert.AdamIn.nD,
    (Cert.Pre_adam_in_place.fn (F := Bits) (m ((c.tc : Thread Cert.AdamIn.nD Cert.AdamIn.τ).loc Cert.AdamIn.main_arg0)) (m ((c.tc : Thread Cert.AdamIn.nD Cert.AdamIn.τ).loc Cert.AdamIn.main_arg1)) (m ((c.tc : Thread Cert.AdamIn.nD Cert.AdamIn.τ).loc Cert.AdamIn.main_arg2)) (m ((c.tc : Thread Cert.AdamIn.nD Cert.AdamIn.τ).loc Cert.AdamIn.main_arg3)) (m ((c.tc : Thread Cert.AdamIn.nD Cert.AdamIn.τ).loc Cert.AdamIn.main_arg4)) (m ((c.tc : Thread Cert.AdamIn.nD Cert.AdamIn.τ).loc Cert.AdamIn.main_arg5))) = (fun _ => 1#1)

def Pre_AdamInIdeal [hPre_adam_in_place : Cert.Pre_adam_in_place.Facts] (m : (ℓ : Loc Cert.AdamInIdeal.nD Cert.AdamInIdeal.τ Cert.AdamInIdeal.sig) → Buf (Elt Ideal) ℓ) : Prop :=
  ∀ c : Dev Cert.AdamInIdeal.nD,
    (Cert.Pre_adam_in_place.fn (F := Ideal) (m ((c.tc : Thread Cert.AdamInIdeal.nD Cert.AdamInIdeal.τ).loc Cert.AdamInIdeal.main_arg0)) (m ((c.tc : Thread Cert.AdamInIdeal.nD Cert.AdamInIdeal.τ).loc Cert.AdamInIdeal.main_arg1)) (m ((c.tc : Thread Cert.AdamInIdeal.nD Cert.AdamInIdeal.τ).loc Cert.AdamInIdeal.main_arg2)) (m ((c.tc : Thread Cert.AdamInIdeal.nD Cert.AdamInIdeal.τ).loc Cert.AdamInIdeal.main_arg3)) (m ((c.tc : Thread Cert.AdamInIdeal.nD Cert.AdamInIdeal.τ).loc Cert.AdamInIdeal.main_arg4)) (m ((c.tc : Thread Cert.AdamInIdeal.nD Cert.AdamInIdeal.τ).loc Cert.AdamInIdeal.main_arg5))) = (fun _ => 1#1)

def Pre_RefAdamInIdeal (m : (ℓ : Loc Cert.RefAdamInIdeal.nD Cert.RefAdamInIdeal.τ Cert.RefAdamInIdeal.sig) → Buf (Elt Ideal) ℓ) : Prop :=
  True

def Pre_RefAdamInIdeal_adam_in_place [hPre_adam_in_place : Cert.Pre_adam_in_place.Facts] (m : (ℓ : Loc Cert.RefAdamInIdeal.nD Cert.RefAdamInIdeal.τ Cert.RefAdamInIdeal.sig) → Buf (Elt Ideal) ℓ) : Prop :=
  ∀ c : Dev Cert.RefAdamInIdeal.nD,
    (Cert.Pre_adam_in_place.fn (F := Ideal) (m ((c.tc : Thread Cert.RefAdamInIdeal.nD Cert.RefAdamInIdeal.τ).loc Cert.RefAdamInIdeal.main_arg0)) (m ((c.tc : Thread Cert.RefAdamInIdeal.nD Cert.RefAdamInIdeal.τ).loc Cert.RefAdamInIdeal.main_arg1)) (m ((c.tc : Thread Cert.RefAdamInIdeal.nD Cert.RefAdamInIdeal.τ).loc Cert.RefAdamInIdeal.main_arg2)) (m ((c.tc : Thread Cert.RefAdamInIdeal.nD Cert.RefAdamInIdeal.τ).loc Cert.RefAdamInIdeal.main_arg3)) (m ((c.tc : Thread Cert.RefAdamInIdeal.nD Cert.RefAdamInIdeal.τ).loc Cert.RefAdamInIdeal.main_arg4)) (m ((c.tc : Thread Cert.RefAdamInIdeal.nD Cert.RefAdamInIdeal.τ).loc Cert.RefAdamInIdeal.main_arg5))) = (fun _ => 1#1)

def Pre_AdamOut [hPre_adam_out_place : Cert.Pre_adam_out_place.Facts] (m : (ℓ : Loc Cert.AdamOut.nD Cert.AdamOut.τ Cert.AdamOut.sig) → Buf (Elt Bits) ℓ) : Prop :=
  ∀ c : Dev Cert.AdamOut.nD,
    (Cert.Pre_adam_out_place.fn (F := Bits) (m ((c.tc : Thread Cert.AdamOut.nD Cert.AdamOut.τ).loc Cert.AdamOut.main_arg0)) (m ((c.tc : Thread Cert.AdamOut.nD Cert.AdamOut.τ).loc Cert.AdamOut.main_arg1)) (m ((c.tc : Thread Cert.AdamOut.nD Cert.AdamOut.τ).loc Cert.AdamOut.main_arg2)) (m ((c.tc : Thread Cert.AdamOut.nD Cert.AdamOut.τ).loc Cert.AdamOut.main_arg3)) (m ((c.tc : Thread Cert.AdamOut.nD Cert.AdamOut.τ).loc Cert.AdamOut.main_arg4)) (m ((c.tc : Thread Cert.AdamOut.nD Cert.AdamOut.τ).loc Cert.AdamOut.main_arg5))) = (fun _ => 1#1)

def Pre_AdamOutIdeal [hPre_adam_out_place : Cert.Pre_adam_out_place.Facts] (m : (ℓ : Loc Cert.AdamOutIdeal.nD Cert.AdamOutIdeal.τ Cert.AdamOutIdeal.sig) → Buf (Elt Ideal) ℓ) : Prop :=
  ∀ c : Dev Cert.AdamOutIdeal.nD,
    (Cert.Pre_adam_out_place.fn (F := Ideal) (m ((c.tc : Thread Cert.AdamOutIdeal.nD Cert.AdamOutIdeal.τ).loc Cert.AdamOutIdeal.main_arg0)) (m ((c.tc : Thread Cert.AdamOutIdeal.nD Cert.AdamOutIdeal.τ).loc Cert.AdamOutIdeal.main_arg1)) (m ((c.tc : Thread Cert.AdamOutIdeal.nD Cert.AdamOutIdeal.τ).loc Cert.AdamOutIdeal.main_arg2)) (m ((c.tc : Thread Cert.AdamOutIdeal.nD Cert.AdamOutIdeal.τ).loc Cert.AdamOutIdeal.main_arg3)) (m ((c.tc : Thread Cert.AdamOutIdeal.nD Cert.AdamOutIdeal.τ).loc Cert.AdamOutIdeal.main_arg4)) (m ((c.tc : Thread Cert.AdamOutIdeal.nD Cert.AdamOutIdeal.τ).loc Cert.AdamOutIdeal.main_arg5))) = (fun _ => 1#1)

def Pre_RefAdamOutIdeal (m : (ℓ : Loc Cert.RefAdamOutIdeal.nD Cert.RefAdamOutIdeal.τ Cert.RefAdamOutIdeal.sig) → Buf (Elt Ideal) ℓ) : Prop :=
  True

def Pre_RefAdamOutIdeal_adam_out_place [hPre_adam_out_place : Cert.Pre_adam_out_place.Facts] (m : (ℓ : Loc Cert.RefAdamOutIdeal.nD Cert.RefAdamOutIdeal.τ Cert.RefAdamOutIdeal.sig) → Buf (Elt Ideal) ℓ) : Prop :=
  ∀ c : Dev Cert.RefAdamOutIdeal.nD,
    (Cert.Pre_adam_out_place.fn (F := Ideal) (m ((c.tc : Thread Cert.RefAdamOutIdeal.nD Cert.RefAdamOutIdeal.τ).loc Cert.RefAdamOutIdeal.main_arg0)) (m ((c.tc : Thread Cert.RefAdamOutIdeal.nD Cert.RefAdamOutIdeal.τ).loc Cert.RefAdamOutIdeal.main_arg1)) (m ((c.tc : Thread Cert.RefAdamOutIdeal.nD Cert.RefAdamOutIdeal.τ).loc Cert.RefAdamOutIdeal.main_arg2)) (m ((c.tc : Thread Cert.RefAdamOutIdeal.nD Cert.RefAdamOutIdeal.τ).loc Cert.RefAdamOutIdeal.main_arg3)) (m ((c.tc : Thread Cert.RefAdamOutIdeal.nD Cert.RefAdamOutIdeal.τ).loc Cert.RefAdamOutIdeal.main_arg4)) (m ((c.tc : Thread Cert.RefAdamOutIdeal.nD Cert.RefAdamOutIdeal.τ).loc Cert.RefAdamOutIdeal.main_arg5))) = (fun _ => 1#1)

def Pre_AdamUp [hPre_adam_up_place : Cert.Pre_adam_up_place.Facts] (m : (ℓ : Loc Cert.AdamUp.nD Cert.AdamUp.τ Cert.AdamUp.sig) → Buf (Elt Bits) ℓ) : Prop :=
  ∀ c : Dev Cert.AdamUp.nD,
    (Cert.Pre_adam_up_place.fn (F := Bits) (m ((c.tc : Thread Cert.AdamUp.nD Cert.AdamUp.τ).loc Cert.AdamUp.main_arg0)) (m ((c.tc : Thread Cert.AdamUp.nD Cert.AdamUp.τ).loc Cert.AdamUp.main_arg1)) (m ((c.tc : Thread Cert.AdamUp.nD Cert.AdamUp.τ).loc Cert.AdamUp.main_arg2)) (m ((c.tc : Thread Cert.AdamUp.nD Cert.AdamUp.τ).loc Cert.AdamUp.main_arg3)) (m ((c.tc : Thread Cert.AdamUp.nD Cert.AdamUp.τ).loc Cert.AdamUp.main_arg4)) (m ((c.tc : Thread Cert.AdamUp.nD Cert.AdamUp.τ).loc Cert.AdamUp.main_arg5))) = (fun _ => 1#1)

def Pre_AdamUpIdeal [hPre_adam_up_place : Cert.Pre_adam_up_place.Facts] (m : (ℓ : Loc Cert.AdamUpIdeal.nD Cert.AdamUpIdeal.τ Cert.AdamUpIdeal.sig) → Buf (Elt Ideal) ℓ) : Prop :=
  ∀ c : Dev Cert.AdamUpIdeal.nD,
    (Cert.Pre_adam_up_place.fn (F := Ideal) (m ((c.tc : Thread Cert.AdamUpIdeal.nD Cert.AdamUpIdeal.τ).loc Cert.AdamUpIdeal.main_arg0)) (m ((c.tc : Thread Cert.AdamUpIdeal.nD Cert.AdamUpIdeal.τ).loc Cert.AdamUpIdeal.main_arg1)) (m ((c.tc : Thread Cert.AdamUpIdeal.nD Cert.AdamUpIdeal.τ).loc Cert.AdamUpIdeal.main_arg2)) (m ((c.tc : Thread Cert.AdamUpIdeal.nD Cert.AdamUpIdeal.τ).loc Cert.AdamUpIdeal.main_arg3)) (m ((c.tc : Thread Cert.AdamUpIdeal.nD Cert.AdamUpIdeal.τ).loc Cert.AdamUpIdeal.main_arg4)) (m ((c.tc : Thread Cert.AdamUpIdeal.nD Cert.AdamUpIdeal.τ).loc Cert.AdamUpIdeal.main_arg5))) = (fun _ => 1#1)

def Pre_RefAdamUpIdeal (m : (ℓ : Loc Cert.RefAdamUpIdeal.nD Cert.RefAdamUpIdeal.τ Cert.RefAdamUpIdeal.sig) → Buf (Elt Ideal) ℓ) : Prop :=
  True

def Pre_RefAdamUpIdeal_adam_up_place [hPre_adam_up_place : Cert.Pre_adam_up_place.Facts] (m : (ℓ : Loc Cert.RefAdamUpIdeal.nD Cert.RefAdamUpIdeal.τ Cert.RefAdamUpIdeal.sig) → Buf (Elt Ideal) ℓ) : Prop :=
  ∀ c : Dev Cert.RefAdamUpIdeal.nD,
    (Cert.Pre_adam_up_place.fn (F := Ideal) (m ((c.tc : Thread Cert.RefAdamUpIdeal.nD Cert.RefAdamUpIdeal.τ).loc Cert.RefAdamUpIdeal.main_arg0)) (m ((c.tc : Thread Cert.RefAdamUpIdeal.nD Cert.RefAdamUpIdeal.τ).loc Cert.RefAdamUpIdeal.main_arg1)) (m ((c.tc : Thread Cert.RefAdamUpIdeal.nD Cert.RefAdamUpIdeal.τ).loc Cert.RefAdamUpIdeal.main_arg2)) (m ((c.tc : Thread Cert.RefAdamUpIdeal.nD Cert.RefAdamUpIdeal.τ).loc Cert.RefAdamUpIdeal.main_arg3)) (m ((c.tc : Thread Cert.RefAdamUpIdeal.nD Cert.RefAdamUpIdeal.τ).loc Cert.RefAdamUpIdeal.main_arg4)) (m ((c.tc : Thread Cert.RefAdamUpIdeal.nD Cert.RefAdamUpIdeal.τ).loc Cert.RefAdamUpIdeal.main_arg5))) = (fun _ => 1#1)

def Pre_AdamDown [hPre_adam_down_place : Cert.Pre_adam_down_place.Facts] (m : (ℓ : Loc Cert.AdamDown.nD Cert.AdamDown.τ Cert.AdamDown.sig) → Buf (Elt Bits) ℓ) : Prop :=
  ∀ c : Dev Cert.AdamDown.nD,
    (Cert.Pre_adam_down_place.fn (F := Bits) (m ((c.tc : Thread Cert.AdamDown.nD Cert.AdamDown.τ).loc Cert.AdamDown.main_arg0)) (m ((c.tc : Thread Cert.AdamDown.nD Cert.AdamDown.τ).loc Cert.AdamDown.main_arg1)) (m ((c.tc : Thread Cert.AdamDown.nD Cert.AdamDown.τ).loc Cert.AdamDown.main_arg2)) (m ((c.tc : Thread Cert.AdamDown.nD Cert.AdamDown.τ).loc Cert.AdamDown.main_arg3)) (m ((c.tc : Thread Cert.AdamDown.nD Cert.AdamDown.τ).loc Cert.AdamDown.main_arg4)) (m ((c.tc : Thread Cert.AdamDown.nD Cert.AdamDown.τ).loc Cert.AdamDown.main_arg5))) = (fun _ => 1#1)

def Pre_AdamDownIdeal [hPre_adam_down_place : Cert.Pre_adam_down_place.Facts] (m : (ℓ : Loc Cert.AdamDownIdeal.nD Cert.AdamDownIdeal.τ Cert.AdamDownIdeal.sig) → Buf (Elt Ideal) ℓ) : Prop :=
  ∀ c : Dev Cert.AdamDownIdeal.nD,
    (Cert.Pre_adam_down_place.fn (F := Ideal) (m ((c.tc : Thread Cert.AdamDownIdeal.nD Cert.AdamDownIdeal.τ).loc Cert.AdamDownIdeal.main_arg0)) (m ((c.tc : Thread Cert.AdamDownIdeal.nD Cert.AdamDownIdeal.τ).loc Cert.AdamDownIdeal.main_arg1)) (m ((c.tc : Thread Cert.AdamDownIdeal.nD Cert.AdamDownIdeal.τ).loc Cert.AdamDownIdeal.main_arg2)) (m ((c.tc : Thread Cert.AdamDownIdeal.nD Cert.AdamDownIdeal.τ).loc Cert.AdamDownIdeal.main_arg3)) (m ((c.tc : Thread Cert.AdamDownIdeal.nD Cert.AdamDownIdeal.τ).loc Cert.AdamDownIdeal.main_arg4)) (m ((c.tc : Thread Cert.AdamDownIdeal.nD Cert.AdamDownIdeal.τ).loc Cert.AdamDownIdeal.main_arg5))) = (fun _ => 1#1)

def Pre_RefAdamDownIdeal (m : (ℓ : Loc Cert.RefAdamDownIdeal.nD Cert.RefAdamDownIdeal.τ Cert.RefAdamDownIdeal.sig) → Buf (Elt Ideal) ℓ) : Prop :=
  True

def Pre_RefAdamDownIdeal_adam_down_place [hPre_adam_down_place : Cert.Pre_adam_down_place.Facts] (m : (ℓ : Loc Cert.RefAdamDownIdeal.nD Cert.RefAdamDownIdeal.τ Cert.RefAdamDownIdeal.sig) → Buf (Elt Ideal) ℓ) : Prop :=
  ∀ c : Dev Cert.RefAdamDownIdeal.nD,
    (Cert.Pre_adam_down_place.fn (F := Ideal) (m ((c.tc : Thread Cert.RefAdamDownIdeal.nD Cert.RefAdamDownIdeal.τ).loc Cert.RefAdamDownIdeal.main_arg0)) (m ((c.tc : Thread Cert.RefAdamDownIdeal.nD Cert.RefAdamDownIdeal.τ).loc Cert.RefAdamDownIdeal.main_arg1)) (m ((c.tc : Thread Cert.RefAdamDownIdeal.nD Cert.RefAdamDownIdeal.τ).loc Cert.RefAdamDownIdeal.main_arg2)) (m ((c.tc : Thread Cert.RefAdamDownIdeal.nD Cert.RefAdamDownIdeal.τ).loc Cert.RefAdamDownIdeal.main_arg3)) (m ((c.tc : Thread Cert.RefAdamDownIdeal.nD Cert.RefAdamDownIdeal.τ).loc Cert.RefAdamDownIdeal.main_arg4)) (m ((c.tc : Thread Cert.RefAdamDownIdeal.nD Cert.RefAdamDownIdeal.τ).loc Cert.RefAdamDownIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_GwUp [hGwUp : Cert.GwUp.Facts] : Prop :=
  ∀ (m : (ℓ : Loc Cert.GwUp.nD Cert.GwUp.τ Cert.GwUp.sig) → Buf (Elt Bits) ℓ) (g : Dev Cert.GwUp.nD → PrngReg), Pre_GwUp m →
    θ_run (Cert.GwUp.defs (F := Bits)) (onTc (τ := Cert.GwUp.τ) (Cert.GwUp.main (F := Bits))) ⟨m, fun _ => 0, g⟩ (fun r => (∀ c : Dev Cert.GwUp.nD,
      r.2.mem ((c.tc : Thread Cert.GwUp.nD Cert.GwUp.τ).loc Cert.GwUp.main_arg0) = m ((c.tc : Thread Cert.GwUp.nD Cert.GwUp.τ).loc Cert.GwUp.main_arg0)
      ∧ r.2.mem ((c.tc : Thread Cert.GwUp.nD Cert.GwUp.τ).loc Cert.GwUp.main_arg1) = m ((c.tc : Thread Cert.GwUp.nD Cert.GwUp.τ).loc Cert.GwUp.main_arg1))
      ∧ r.2.sem = fun _ => 0)

def quiescent_GwUpIdeal [hGwUpIdeal : Cert.GwUpIdeal.Facts] : Prop :=
  ∀ (m : (ℓ : Loc Cert.GwUpIdeal.nD Cert.GwUpIdeal.τ Cert.GwUpIdeal.sig) → Buf (Elt Ideal) ℓ) (g : Dev Cert.GwUpIdeal.nD → PrngReg), Pre_GwUpIdeal m →
    θ_run (Cert.GwUpIdeal.defs (F := Ideal)) (onTc (τ := Cert.GwUpIdeal.τ) (Cert.GwUpIdeal.main (F := Ideal))) ⟨m, fun _ => 0, g⟩ (fun r => (∀ c : Dev Cert.GwUpIdeal.nD,
      r.2.mem ((c.tc : Thread Cert.GwUpIdeal.nD Cert.GwUpIdeal.τ).loc Cert.GwUpIdeal.main_arg0) = m ((c.tc : Thread Cert.GwUpIdeal.nD Cert.GwUpIdeal.τ).loc Cert.GwUpIdeal.main_arg0)
      ∧ r.2.mem ((c.tc : Thread Cert.GwUpIdeal.nD Cert.GwUpIdeal.τ).loc Cert.GwUpIdeal.main_arg1) = m ((c.tc : Thread Cert.GwUpIdeal.nD Cert.GwUpIdeal.τ).loc Cert.GwUpIdeal.main_arg1))
      ∧ r.2.sem = fun _ => 0)

def quiescent_RefGwUpIdeal [hRefGwUpIdeal : Cert.RefGwUpIdeal.Facts] : Prop :=
  ∀ (m : (ℓ : Loc Cert.RefGwUpIdeal.nD Cert.RefGwUpIdeal.τ Cert.RefGwUpIdeal.sig) → Buf (Elt Ideal) ℓ) (g : Dev Cert.RefGwUpIdeal.nD → PrngReg), Pre_RefGwUpIdeal m →
    θ_run (Cert.RefGwUpIdeal.defs (F := Ideal)) (onTc (τ := Cert.RefGwUpIdeal.τ) (Cert.RefGwUpIdeal.main (F := Ideal))) ⟨m, fun _ => 0, g⟩ (fun r => (∀ c : Dev Cert.RefGwUpIdeal.nD,
      r.2.mem ((c.tc : Thread Cert.RefGwUpIdeal.nD Cert.RefGwUpIdeal.τ).loc Cert.RefGwUpIdeal.main_arg0) = m ((c.tc : Thread Cert.RefGwUpIdeal.nD Cert.RefGwUpIdeal.τ).loc Cert.RefGwUpIdeal.main_arg0)
      ∧ r.2.mem ((c.tc : Thread Cert.RefGwUpIdeal.nD Cert.RefGwUpIdeal.τ).loc Cert.RefGwUpIdeal.main_arg1) = m ((c.tc : Thread Cert.RefGwUpIdeal.nD Cert.RefGwUpIdeal.τ).loc Cert.RefGwUpIdeal.main_arg1))
      ∧ r.2.sem = fun _ => 0)

def quiescent_Dh2 [hDh2 : Cert.Dh2.Facts] : Prop :=
  ∀ (m : (ℓ : Loc Cert.Dh2.nD Cert.Dh2.τ Cert.Dh2.sig) → Buf (Elt Bits) ℓ) (g : Dev Cert.Dh2.nD → PrngReg), Pre_Dh2 m →
    θ_run (Cert.Dh2.defs (F := Bits)) (onTc (τ := Cert.Dh2.τ) (Cert.Dh2.main (F := Bits))) ⟨m, fun _ => 0, g⟩ (fun r => (∀ c : Dev Cert.Dh2.nD,
      r.2.mem ((c.tc : Thread Cert.Dh2.nD Cert.Dh2.τ).loc Cert.Dh2.main_arg0) = m ((c.tc : Thread Cert.Dh2.nD Cert.Dh2.τ).loc Cert.Dh2.main_arg0)
      ∧ r.2.mem ((c.tc : Thread Cert.Dh2.nD Cert.Dh2.τ).loc Cert.Dh2.main_arg1) = m ((c.tc : Thread Cert.Dh2.nD Cert.Dh2.τ).loc Cert.Dh2.main_arg1))
      ∧ r.2.sem = fun _ => 0)

def quiescent_Dh2Ideal [hDh2Ideal : Cert.Dh2Ideal.Facts] : Prop :=
  ∀ (m : (ℓ : Loc Cert.Dh2Ideal.nD Cert.Dh2Ideal.τ Cert.Dh2Ideal.sig) → Buf (Elt Ideal) ℓ) (g : Dev Cert.Dh2Ideal.nD → PrngReg), Pre_Dh2Ideal m →
    θ_run (Cert.Dh2Ideal.defs (F := Ideal)) (onTc (τ := Cert.Dh2Ideal.τ) (Cert.Dh2Ideal.main (F := Ideal))) ⟨m, fun _ => 0, g⟩ (fun r => (∀ c : Dev Cert.Dh2Ideal.nD,
      r.2.mem ((c.tc : Thread Cert.Dh2Ideal.nD Cert.Dh2Ideal.τ).loc Cert.Dh2Ideal.main_arg0) = m ((c.tc : Thread Cert.Dh2Ideal.nD Cert.Dh2Ideal.τ).loc Cert.Dh2Ideal.main_arg0)
      ∧ r.2.mem ((c.tc : Thread Cert.Dh2Ideal.nD Cert.Dh2Ideal.τ).loc Cert.Dh2Ideal.main_arg1) = m ((c.tc : Thread Cert.Dh2Ideal.nD Cert.Dh2Ideal.τ).loc Cert.Dh2Ideal.main_arg1))
      ∧ r.2.sem = fun _ => 0)

def quiescent_RefDh2Ideal [hRefDh2Ideal : Cert.RefDh2Ideal.Facts] : Prop :=
  ∀ (m : (ℓ : Loc Cert.RefDh2Ideal.nD Cert.RefDh2Ideal.τ Cert.RefDh2Ideal.sig) → Buf (Elt Ideal) ℓ) (g : Dev Cert.RefDh2Ideal.nD → PrngReg), Pre_RefDh2Ideal m →
    θ_run (Cert.RefDh2Ideal.defs (F := Ideal)) (onTc (τ := Cert.RefDh2Ideal.τ) (Cert.RefDh2Ideal.main (F := Ideal))) ⟨m, fun _ => 0, g⟩ (fun r => (∀ c : Dev Cert.RefDh2Ideal.nD,
      r.2.mem ((c.tc : Thread Cert.RefDh2Ideal.nD Cert.RefDh2Ideal.τ).loc Cert.RefDh2Ideal.main_arg0) = m ((c.tc : Thread Cert.RefDh2Ideal.nD Cert.RefDh2Ideal.τ).loc Cert.RefDh2Ideal.main_arg0)
      ∧ r.2.mem ((c.tc : Thread Cert.RefDh2Ideal.nD Cert.RefDh2Ideal.τ).loc Cert.RefDh2Ideal.main_arg1) = m ((c.tc : Thread Cert.RefDh2Ideal.nD Cert.RefDh2Ideal.τ).loc Cert.RefDh2Ideal.main_arg1))
      ∧ r.2.sem = fun _ => 0)

def quiescent_GwDown [hGwDown : Cert.GwDown.Facts] : Prop :=
  ∀ (m : (ℓ : Loc Cert.GwDown.nD Cert.GwDown.τ Cert.GwDown.sig) → Buf (Elt Bits) ℓ) (g : Dev Cert.GwDown.nD → PrngReg), Pre_GwDown m →
    θ_run (Cert.GwDown.defs (F := Bits)) (onTc (τ := Cert.GwDown.τ) (Cert.GwDown.main (F := Bits))) ⟨m, fun _ => 0, g⟩ (fun r => (∀ c : Dev Cert.GwDown.nD,
      r.2.mem ((c.tc : Thread Cert.GwDown.nD Cert.GwDown.τ).loc Cert.GwDown.main_arg0) = m ((c.tc : Thread Cert.GwDown.nD Cert.GwDown.τ).loc Cert.GwDown.main_arg0)
      ∧ r.2.mem ((c.tc : Thread Cert.GwDown.nD Cert.GwDown.τ).loc Cert.GwDown.main_arg1) = m ((c.tc : Thread Cert.GwDown.nD Cert.GwDown.τ).loc Cert.GwDown.main_arg1))
      ∧ r.2.sem = fun _ => 0)

def quiescent_GwDownIdeal [hGwDownIdeal : Cert.GwDownIdeal.Facts] : Prop :=
  ∀ (m : (ℓ : Loc Cert.GwDownIdeal.nD Cert.GwDownIdeal.τ Cert.GwDownIdeal.sig) → Buf (Elt Ideal) ℓ) (g : Dev Cert.GwDownIdeal.nD → PrngReg), Pre_GwDownIdeal m →
    θ_run (Cert.GwDownIdeal.defs (F := Ideal)) (onTc (τ := Cert.GwDownIdeal.τ) (Cert.GwDownIdeal.main (F := Ideal))) ⟨m, fun _ => 0, g⟩ (fun r => (∀ c : Dev Cert.GwDownIdeal.nD,
      r.2.mem ((c.tc : Thread Cert.GwDownIdeal.nD Cert.GwDownIdeal.τ).loc Cert.GwDownIdeal.main_arg0) = m ((c.tc : Thread Cert.GwDownIdeal.nD Cert.GwDownIdeal.τ).loc Cert.GwDownIdeal.main_arg0)
      ∧ r.2.mem ((c.tc : Thread Cert.GwDownIdeal.nD Cert.GwDownIdeal.τ).loc Cert.GwDownIdeal.main_arg1) = m ((c.tc : Thread Cert.GwDownIdeal.nD Cert.GwDownIdeal.τ).loc Cert.GwDownIdeal.main_arg1))
      ∧ r.2.sem = fun _ => 0)

def quiescent_RefGwDownIdeal [hRefGwDownIdeal : Cert.RefGwDownIdeal.Facts] : Prop :=
  ∀ (m : (ℓ : Loc Cert.RefGwDownIdeal.nD Cert.RefGwDownIdeal.τ Cert.RefGwDownIdeal.sig) → Buf (Elt Ideal) ℓ) (g : Dev Cert.RefGwDownIdeal.nD → PrngReg), Pre_RefGwDownIdeal m →
    θ_run (Cert.RefGwDownIdeal.defs (F := Ideal)) (onTc (τ := Cert.RefGwDownIdeal.τ) (Cert.RefGwDownIdeal.main (F := Ideal))) ⟨m, fun _ => 0, g⟩ (fun r => (∀ c : Dev Cert.RefGwDownIdeal.nD,
      r.2.mem ((c.tc : Thread Cert.RefGwDownIdeal.nD Cert.RefGwDownIdeal.τ).loc Cert.RefGwDownIdeal.main_arg0) = m ((c.tc : Thread Cert.RefGwDownIdeal.nD Cert.RefGwDownIdeal.τ).loc Cert.RefGwDownIdeal.main_arg0)
      ∧ r.2.mem ((c.tc : Thread Cert.RefGwDownIdeal.nD Cert.RefGwDownIdeal.τ).loc Cert.RefGwDownIdeal.main_arg1) = m ((c.tc : Thread Cert.RefGwDownIdeal.nD Cert.RefGwDownIdeal.τ).loc Cert.RefGwDownIdeal.main_arg1))
      ∧ r.2.sem = fun _ => 0)

def quiescent_Dact [hDact : Cert.Dact.Facts] : Prop :=
  ∀ (m : (ℓ : Loc Cert.Dact.nD Cert.Dact.τ Cert.Dact.sig) → Buf (Elt Bits) ℓ) (g : Dev Cert.Dact.nD → PrngReg), Pre_Dact m →
    θ_run (Cert.Dact.defs (F := Bits)) (onTc (τ := Cert.Dact.τ) (Cert.Dact.main (F := Bits))) ⟨m, fun _ => 0, g⟩ (fun r => (∀ c : Dev Cert.Dact.nD,
      r.2.mem ((c.tc : Thread Cert.Dact.nD Cert.Dact.τ).loc Cert.Dact.main_arg0) = m ((c.tc : Thread Cert.Dact.nD Cert.Dact.τ).loc Cert.Dact.main_arg0)
      ∧ r.2.mem ((c.tc : Thread Cert.Dact.nD Cert.Dact.τ).loc Cert.Dact.main_arg1) = m ((c.tc : Thread Cert.Dact.nD Cert.Dact.τ).loc Cert.Dact.main_arg1))
      ∧ r.2.sem = fun _ => 0)

def quiescent_DactIdeal [hDactIdeal : Cert.DactIdeal.Facts] : Prop :=
  ∀ (m : (ℓ : Loc Cert.DactIdeal.nD Cert.DactIdeal.τ Cert.DactIdeal.sig) → Buf (Elt Ideal) ℓ) (g : Dev Cert.DactIdeal.nD → PrngReg), Pre_DactIdeal m →
    θ_run (Cert.DactIdeal.defs (F := Ideal)) (onTc (τ := Cert.DactIdeal.τ) (Cert.DactIdeal.main (F := Ideal))) ⟨m, fun _ => 0, g⟩ (fun r => (∀ c : Dev Cert.DactIdeal.nD,
      r.2.mem ((c.tc : Thread Cert.DactIdeal.nD Cert.DactIdeal.τ).loc Cert.DactIdeal.main_arg0) = m ((c.tc : Thread Cert.DactIdeal.nD Cert.DactIdeal.τ).loc Cert.DactIdeal.main_arg0)
      ∧ r.2.mem ((c.tc : Thread Cert.DactIdeal.nD Cert.DactIdeal.τ).loc Cert.DactIdeal.main_arg1) = m ((c.tc : Thread Cert.DactIdeal.nD Cert.DactIdeal.τ).loc Cert.DactIdeal.main_arg1))
      ∧ r.2.sem = fun _ => 0)

def quiescent_RefDactIdeal [hRefDactIdeal : Cert.RefDactIdeal.Facts] : Prop :=
  ∀ (m : (ℓ : Loc Cert.RefDactIdeal.nD Cert.RefDactIdeal.τ Cert.RefDactIdeal.sig) → Buf (Elt Ideal) ℓ) (g : Dev Cert.RefDactIdeal.nD → PrngReg), Pre_RefDactIdeal m →
    θ_run (Cert.RefDactIdeal.defs (F := Ideal)) (onTc (τ := Cert.RefDactIdeal.τ) (Cert.RefDactIdeal.main (F := Ideal))) ⟨m, fun _ => 0, g⟩ (fun r => (∀ c : Dev Cert.RefDactIdeal.nD,
      r.2.mem ((c.tc : Thread Cert.RefDactIdeal.nD Cert.RefDactIdeal.τ).loc Cert.RefDactIdeal.main_arg0) = m ((c.tc : Thread Cert.RefDactIdeal.nD Cert.RefDactIdeal.τ).loc Cert.RefDactIdeal.main_arg0)
      ∧ r.2.mem ((c.tc : Thread Cert.RefDactIdeal.nD Cert.RefDactIdeal.τ).loc Cert.RefDactIdeal.main_arg1) = m ((c.tc : Thread Cert.RefDactIdeal.nD Cert.RefDactIdeal.τ).loc Cert.RefDactIdeal.main_arg1))
      ∧ r.2.sem = fun _ => 0)

def quiescent_GwIn [hGwIn : Cert.GwIn.Facts] : Prop :=
  ∀ (m : (ℓ : Loc Cert.GwIn.nD Cert.GwIn.τ Cert.GwIn.sig) → Buf (Elt Bits) ℓ) (g : Dev Cert.GwIn.nD → PrngReg), Pre_GwIn m →
    θ_run (Cert.GwIn.defs (F := Bits)) (onTc (τ := Cert.GwIn.τ) (Cert.GwIn.main (F := Bits))) ⟨m, fun _ => 0, g⟩ (fun r => (∀ c : Dev Cert.GwIn.nD,
      r.2.mem ((c.tc : Thread Cert.GwIn.nD Cert.GwIn.τ).loc Cert.GwIn.main_arg0) = m ((c.tc : Thread Cert.GwIn.nD Cert.GwIn.τ).loc Cert.GwIn.main_arg0)
      ∧ r.2.mem ((c.tc : Thread Cert.GwIn.nD Cert.GwIn.τ).loc Cert.GwIn.main_arg1) = m ((c.tc : Thread Cert.GwIn.nD Cert.GwIn.τ).loc Cert.GwIn.main_arg1))
      ∧ r.2.sem = fun _ => 0)

def quiescent_GwInIdeal [hGwInIdeal : Cert.GwInIdeal.Facts] : Prop :=
  ∀ (m : (ℓ : Loc Cert.GwInIdeal.nD Cert.GwInIdeal.τ Cert.GwInIdeal.sig) → Buf (Elt Ideal) ℓ) (g : Dev Cert.GwInIdeal.nD → PrngReg), Pre_GwInIdeal m →
    θ_run (Cert.GwInIdeal.defs (F := Ideal)) (onTc (τ := Cert.GwInIdeal.τ) (Cert.GwInIdeal.main (F := Ideal))) ⟨m, fun _ => 0, g⟩ (fun r => (∀ c : Dev Cert.GwInIdeal.nD,
      r.2.mem ((c.tc : Thread Cert.GwInIdeal.nD Cert.GwInIdeal.τ).loc Cert.GwInIdeal.main_arg0) = m ((c.tc : Thread Cert.GwInIdeal.nD Cert.GwInIdeal.τ).loc Cert.GwInIdeal.main_arg0)
      ∧ r.2.mem ((c.tc : Thread Cert.GwInIdeal.nD Cert.GwInIdeal.τ).loc Cert.GwInIdeal.main_arg1) = m ((c.tc : Thread Cert.GwInIdeal.nD Cert.GwInIdeal.τ).loc Cert.GwInIdeal.main_arg1))
      ∧ r.2.sem = fun _ => 0)

def quiescent_RefGwInIdeal [hRefGwInIdeal : Cert.RefGwInIdeal.Facts] : Prop :=
  ∀ (m : (ℓ : Loc Cert.RefGwInIdeal.nD Cert.RefGwInIdeal.τ Cert.RefGwInIdeal.sig) → Buf (Elt Ideal) ℓ) (g : Dev Cert.RefGwInIdeal.nD → PrngReg), Pre_RefGwInIdeal m →
    θ_run (Cert.RefGwInIdeal.defs (F := Ideal)) (onTc (τ := Cert.RefGwInIdeal.τ) (Cert.RefGwInIdeal.main (F := Ideal))) ⟨m, fun _ => 0, g⟩ (fun r => (∀ c : Dev Cert.RefGwInIdeal.nD,
      r.2.mem ((c.tc : Thread Cert.RefGwInIdeal.nD Cert.RefGwInIdeal.τ).loc Cert.RefGwInIdeal.main_arg0) = m ((c.tc : Thread Cert.RefGwInIdeal.nD Cert.RefGwInIdeal.τ).loc Cert.RefGwInIdeal.main_arg0)
      ∧ r.2.mem ((c.tc : Thread Cert.RefGwInIdeal.nD Cert.RefGwInIdeal.τ).loc Cert.RefGwInIdeal.main_arg1) = m ((c.tc : Thread Cert.RefGwInIdeal.nD Cert.RefGwInIdeal.τ).loc Cert.RefGwInIdeal.main_arg1))
      ∧ r.2.sem = fun _ => 0)

def quiescent_Dh1 [hDh1 : Cert.Dh1.Facts] : Prop :=
  ∀ (m : (ℓ : Loc Cert.Dh1.nD Cert.Dh1.τ Cert.Dh1.sig) → Buf (Elt Bits) ℓ) (g : Dev Cert.Dh1.nD → PrngReg), Pre_Dh1 m →
    θ_run (Cert.Dh1.defs (F := Bits)) (onTc (τ := Cert.Dh1.τ) (Cert.Dh1.main (F := Bits))) ⟨m, fun _ => 0, g⟩ (fun r => (∀ c : Dev Cert.Dh1.nD,
      r.2.mem ((c.tc : Thread Cert.Dh1.nD Cert.Dh1.τ).loc Cert.Dh1.main_arg0) = m ((c.tc : Thread Cert.Dh1.nD Cert.Dh1.τ).loc Cert.Dh1.main_arg0)
      ∧ r.2.mem ((c.tc : Thread Cert.Dh1.nD Cert.Dh1.τ).loc Cert.Dh1.main_arg1) = m ((c.tc : Thread Cert.Dh1.nD Cert.Dh1.τ).loc Cert.Dh1.main_arg1))
      ∧ r.2.sem = fun _ => 0)

def quiescent_Dh1Ideal [hDh1Ideal : Cert.Dh1Ideal.Facts] : Prop :=
  ∀ (m : (ℓ : Loc Cert.Dh1Ideal.nD Cert.Dh1Ideal.τ Cert.Dh1Ideal.sig) → Buf (Elt Ideal) ℓ) (g : Dev Cert.Dh1Ideal.nD → PrngReg), Pre_Dh1Ideal m →
    θ_run (Cert.Dh1Ideal.defs (F := Ideal)) (onTc (τ := Cert.Dh1Ideal.τ) (Cert.Dh1Ideal.main (F := Ideal))) ⟨m, fun _ => 0, g⟩ (fun r => (∀ c : Dev Cert.Dh1Ideal.nD,
      r.2.mem ((c.tc : Thread Cert.Dh1Ideal.nD Cert.Dh1Ideal.τ).loc Cert.Dh1Ideal.main_arg0) = m ((c.tc : Thread Cert.Dh1Ideal.nD Cert.Dh1Ideal.τ).loc Cert.Dh1Ideal.main_arg0)
      ∧ r.2.mem ((c.tc : Thread Cert.Dh1Ideal.nD Cert.Dh1Ideal.τ).loc Cert.Dh1Ideal.main_arg1) = m ((c.tc : Thread Cert.Dh1Ideal.nD Cert.Dh1Ideal.τ).loc Cert.Dh1Ideal.main_arg1))
      ∧ r.2.sem = fun _ => 0)

def quiescent_RefDh1Ideal [hRefDh1Ideal : Cert.RefDh1Ideal.Facts] : Prop :=
  ∀ (m : (ℓ : Loc Cert.RefDh1Ideal.nD Cert.RefDh1Ideal.τ Cert.RefDh1Ideal.sig) → Buf (Elt Ideal) ℓ) (g : Dev Cert.RefDh1Ideal.nD → PrngReg), Pre_RefDh1Ideal m →
    θ_run (Cert.RefDh1Ideal.defs (F := Ideal)) (onTc (τ := Cert.RefDh1Ideal.τ) (Cert.RefDh1Ideal.main (F := Ideal))) ⟨m, fun _ => 0, g⟩ (fun r => (∀ c : Dev Cert.RefDh1Ideal.nD,
      r.2.mem ((c.tc : Thread Cert.RefDh1Ideal.nD Cert.RefDh1Ideal.τ).loc Cert.RefDh1Ideal.main_arg0) = m ((c.tc : Thread Cert.RefDh1Ideal.nD Cert.RefDh1Ideal.τ).loc Cert.RefDh1Ideal.main_arg0)
      ∧ r.2.mem ((c.tc : Thread Cert.RefDh1Ideal.nD Cert.RefDh1Ideal.τ).loc Cert.RefDh1Ideal.main_arg1) = m ((c.tc : Thread Cert.RefDh1Ideal.nD Cert.RefDh1Ideal.τ).loc Cert.RefDh1Ideal.main_arg1))
      ∧ r.2.sem = fun _ => 0)

def quiescent_GwOut [hGwOut : Cert.GwOut.Facts] : Prop :=
  ∀ (m : (ℓ : Loc Cert.GwOut.nD Cert.GwOut.τ Cert.GwOut.sig) → Buf (Elt Bits) ℓ) (g : Dev Cert.GwOut.nD → PrngReg), Pre_GwOut m →
    θ_run (Cert.GwOut.defs (F := Bits)) (onTc (τ := Cert.GwOut.τ) (Cert.GwOut.main (F := Bits))) ⟨m, fun _ => 0, g⟩ (fun r => (∀ c : Dev Cert.GwOut.nD,
      r.2.mem ((c.tc : Thread Cert.GwOut.nD Cert.GwOut.τ).loc Cert.GwOut.main_arg0) = m ((c.tc : Thread Cert.GwOut.nD Cert.GwOut.τ).loc Cert.GwOut.main_arg0)
      ∧ r.2.mem ((c.tc : Thread Cert.GwOut.nD Cert.GwOut.τ).loc Cert.GwOut.main_arg1) = m ((c.tc : Thread Cert.GwOut.nD Cert.GwOut.τ).loc Cert.GwOut.main_arg1))
      ∧ r.2.sem = fun _ => 0)

def quiescent_GwOutIdeal [hGwOutIdeal : Cert.GwOutIdeal.Facts] : Prop :=
  ∀ (m : (ℓ : Loc Cert.GwOutIdeal.nD Cert.GwOutIdeal.τ Cert.GwOutIdeal.sig) → Buf (Elt Ideal) ℓ) (g : Dev Cert.GwOutIdeal.nD → PrngReg), Pre_GwOutIdeal m →
    θ_run (Cert.GwOutIdeal.defs (F := Ideal)) (onTc (τ := Cert.GwOutIdeal.τ) (Cert.GwOutIdeal.main (F := Ideal))) ⟨m, fun _ => 0, g⟩ (fun r => (∀ c : Dev Cert.GwOutIdeal.nD,
      r.2.mem ((c.tc : Thread Cert.GwOutIdeal.nD Cert.GwOutIdeal.τ).loc Cert.GwOutIdeal.main_arg0) = m ((c.tc : Thread Cert.GwOutIdeal.nD Cert.GwOutIdeal.τ).loc Cert.GwOutIdeal.main_arg0)
      ∧ r.2.mem ((c.tc : Thread Cert.GwOutIdeal.nD Cert.GwOutIdeal.τ).loc Cert.GwOutIdeal.main_arg1) = m ((c.tc : Thread Cert.GwOutIdeal.nD Cert.GwOutIdeal.τ).loc Cert.GwOutIdeal.main_arg1))
      ∧ r.2.sem = fun _ => 0)

def quiescent_RefGwOutIdeal [hRefGwOutIdeal : Cert.RefGwOutIdeal.Facts] : Prop :=
  ∀ (m : (ℓ : Loc Cert.RefGwOutIdeal.nD Cert.RefGwOutIdeal.τ Cert.RefGwOutIdeal.sig) → Buf (Elt Ideal) ℓ) (g : Dev Cert.RefGwOutIdeal.nD → PrngReg), Pre_RefGwOutIdeal m →
    θ_run (Cert.RefGwOutIdeal.defs (F := Ideal)) (onTc (τ := Cert.RefGwOutIdeal.τ) (Cert.RefGwOutIdeal.main (F := Ideal))) ⟨m, fun _ => 0, g⟩ (fun r => (∀ c : Dev Cert.RefGwOutIdeal.nD,
      r.2.mem ((c.tc : Thread Cert.RefGwOutIdeal.nD Cert.RefGwOutIdeal.τ).loc Cert.RefGwOutIdeal.main_arg0) = m ((c.tc : Thread Cert.RefGwOutIdeal.nD Cert.RefGwOutIdeal.τ).loc Cert.RefGwOutIdeal.main_arg0)
      ∧ r.2.mem ((c.tc : Thread Cert.RefGwOutIdeal.nD Cert.RefGwOutIdeal.τ).loc Cert.RefGwOutIdeal.main_arg1) = m ((c.tc : Thread Cert.RefGwOutIdeal.nD Cert.RefGwOutIdeal.τ).loc Cert.RefGwOutIdeal.main_arg1))
      ∧ r.2.sem = fun _ => 0)

def quiescent_Dy [hDy : Cert.Dy.Facts] : Prop :=
  ∀ (m : (ℓ : Loc Cert.Dy.nD Cert.Dy.τ Cert.Dy.sig) → Buf (Elt Bits) ℓ) (g : Dev Cert.Dy.nD → PrngReg), Pre_Dy m →
    θ_run (Cert.Dy.defs (F := Bits)) (onTc (τ := Cert.Dy.τ) (Cert.Dy.main (F := Bits))) ⟨m, fun _ => 0, g⟩ (fun r => (∀ c : Dev Cert.Dy.nD,
      r.2.mem ((c.tc : Thread Cert.Dy.nD Cert.Dy.τ).loc Cert.Dy.main_arg0) = m ((c.tc : Thread Cert.Dy.nD Cert.Dy.τ).loc Cert.Dy.main_arg0)
      ∧ r.2.mem ((c.tc : Thread Cert.Dy.nD Cert.Dy.τ).loc Cert.Dy.main_arg1) = m ((c.tc : Thread Cert.Dy.nD Cert.Dy.τ).loc Cert.Dy.main_arg1))
      ∧ r.2.sem = fun _ => 0)

def quiescent_DyIdeal [hDyIdeal : Cert.DyIdeal.Facts] : Prop :=
  ∀ (m : (ℓ : Loc Cert.DyIdeal.nD Cert.DyIdeal.τ Cert.DyIdeal.sig) → Buf (Elt Ideal) ℓ) (g : Dev Cert.DyIdeal.nD → PrngReg), Pre_DyIdeal m →
    θ_run (Cert.DyIdeal.defs (F := Ideal)) (onTc (τ := Cert.DyIdeal.τ) (Cert.DyIdeal.main (F := Ideal))) ⟨m, fun _ => 0, g⟩ (fun r => (∀ c : Dev Cert.DyIdeal.nD,
      r.2.mem ((c.tc : Thread Cert.DyIdeal.nD Cert.DyIdeal.τ).loc Cert.DyIdeal.main_arg0) = m ((c.tc : Thread Cert.DyIdeal.nD Cert.DyIdeal.τ).loc Cert.DyIdeal.main_arg0)
      ∧ r.2.mem ((c.tc : Thread Cert.DyIdeal.nD Cert.DyIdeal.τ).loc Cert.DyIdeal.main_arg1) = m ((c.tc : Thread Cert.DyIdeal.nD Cert.DyIdeal.τ).loc Cert.DyIdeal.main_arg1))
      ∧ r.2.sem = fun _ => 0)

def quiescent_RefDyIdeal [hRefDyIdeal : Cert.RefDyIdeal.Facts] : Prop :=
  ∀ (m : (ℓ : Loc Cert.RefDyIdeal.nD Cert.RefDyIdeal.τ Cert.RefDyIdeal.sig) → Buf (Elt Ideal) ℓ) (g : Dev Cert.RefDyIdeal.nD → PrngReg), Pre_RefDyIdeal m →
    θ_run (Cert.RefDyIdeal.defs (F := Ideal)) (onTc (τ := Cert.RefDyIdeal.τ) (Cert.RefDyIdeal.main (F := Ideal))) ⟨m, fun _ => 0, g⟩ (fun r => (∀ c : Dev Cert.RefDyIdeal.nD,
      r.2.mem ((c.tc : Thread Cert.RefDyIdeal.nD Cert.RefDyIdeal.τ).loc Cert.RefDyIdeal.main_arg0) = m ((c.tc : Thread Cert.RefDyIdeal.nD Cert.RefDyIdeal.τ).loc Cert.RefDyIdeal.main_arg0)
      ∧ r.2.mem ((c.tc : Thread Cert.RefDyIdeal.nD Cert.RefDyIdeal.τ).loc Cert.RefDyIdeal.main_arg1) = m ((c.tc : Thread Cert.RefDyIdeal.nD Cert.RefDyIdeal.τ).loc Cert.RefDyIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_RefDownIdeal [hRefDownIdeal : Cert.RefDownIdeal.Facts] : Prop :=
  ∀ (m : (ℓ : Loc Cert.RefDownIdeal.nD Cert.RefDownIdeal.τ Cert.RefDownIdeal.sig) → Buf (Elt Ideal) ℓ) (g : Dev Cert.RefDownIdeal.nD → PrngReg), Pre_RefDownIdeal m →
    θ_run (Cert.RefDownIdeal.defs (F := Ideal)) (onTc (τ := Cert.RefDownIdeal.τ) (Cert.RefDownIdeal.main (F := Ideal))) ⟨m, fun _ => 0, g⟩ (fun r => (∀ c : Dev Cert.RefDownIdeal.nD,
      r.2.mem ((c.tc : Thread Cert.RefDownIdeal.nD Cert.RefDownIdeal.τ).loc Cert.RefDownIdeal.main_arg0) = m ((c.tc : Thread Cert.RefDownIdeal.nD Cert.RefDownIdeal.τ).loc Cert.RefDownIdeal.main_arg0)
      ∧ r.2.mem ((c.tc : Thread Cert.RefDownIdeal.nD Cert.RefDownIdeal.τ).loc Cert.RefDownIdeal.main_arg1) = m ((c.tc : Thread Cert.RefDownIdeal.nD Cert.RefDownIdeal.τ).loc Cert.RefDownIdeal.main_arg1)
      ∧ r.2.mem ((c.tc : Thread Cert.RefDownIdeal.nD Cert.RefDownIdeal.τ).loc Cert.RefDownIdeal.main_arg2) = m ((c.tc : Thread Cert.RefDownIdeal.nD Cert.RefDownIdeal.τ).loc Cert.RefDownIdeal.main_arg2)
      ∧ r.2.mem ((c.tc : Thread Cert.RefDownIdeal.nD Cert.RefDownIdeal.τ).loc Cert.RefDownIdeal.main_arg3) = m ((c.tc : Thread Cert.RefDownIdeal.nD Cert.RefDownIdeal.τ).loc Cert.RefDownIdeal.main_arg3))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_RefOutIdeal [hRefOutIdeal : Cert.RefOutIdeal.Facts] : Prop :=
  ∀ (m : (ℓ : Loc Cert.RefOutIdeal.nD Cert.RefOutIdeal.τ Cert.RefOutIdeal.sig) → Buf (Elt Ideal) ℓ) (g : Dev Cert.RefOutIdeal.nD → PrngReg), Pre_RefOutIdeal m →
    θ_run (Cert.RefOutIdeal.defs (F := Ideal)) (onTc (τ := Cert.RefOutIdeal.τ) (Cert.RefOutIdeal.main (F := Ideal))) ⟨m, fun _ => 0, g⟩ (fun r => (∀ c : Dev Cert.RefOutIdeal.nD,
      r.2.mem ((c.tc : Thread Cert.RefOutIdeal.nD Cert.RefOutIdeal.τ).loc Cert.RefOutIdeal.main_arg0) = m ((c.tc : Thread Cert.RefOutIdeal.nD Cert.RefOutIdeal.τ).loc Cert.RefOutIdeal.main_arg0)
      ∧ r.2.mem ((c.tc : Thread Cert.RefOutIdeal.nD Cert.RefOutIdeal.τ).loc Cert.RefOutIdeal.main_arg1) = m ((c.tc : Thread Cert.RefOutIdeal.nD Cert.RefOutIdeal.τ).loc Cert.RefOutIdeal.main_arg1)
      ∧ r.2.mem ((c.tc : Thread Cert.RefOutIdeal.nD Cert.RefOutIdeal.τ).loc Cert.RefOutIdeal.main_arg2) = m ((c.tc : Thread Cert.RefOutIdeal.nD Cert.RefOutIdeal.τ).loc Cert.RefOutIdeal.main_arg2)
      ∧ r.2.mem ((c.tc : Thread Cert.RefOutIdeal.nD Cert.RefOutIdeal.τ).loc Cert.RefOutIdeal.main_arg3) = m ((c.tc : Thread Cert.RefOutIdeal.nD Cert.RefOutIdeal.τ).loc Cert.RefOutIdeal.main_arg3))
      ∧ r.2.sem = fun _ => 0)

def quiescent_ProjNear [hProjNear : Cert.ProjNear.Facts] [hPre_proj_near_ids : Cert.Pre_proj_near_ids.Facts] : Prop :=
  ∀ (m : (ℓ : Loc Cert.ProjNear.nD Cert.ProjNear.τ Cert.ProjNear.sig) → Buf (Elt Bits) ℓ) (g : Dev Cert.ProjNear.nD → PrngReg), Pre_ProjNear m →
    θ_run (Cert.ProjNear.defs (F := Bits)) (onTc (τ := Cert.ProjNear.τ) (Cert.ProjNear.main (F := Bits))) ⟨m, fun _ => 0, g⟩ (fun r => (∀ c : Dev Cert.ProjNear.nD,
      r.2.mem ((c.tc : Thread Cert.ProjNear.nD Cert.ProjNear.τ).loc Cert.ProjNear.main_arg0) = m ((c.tc : Thread Cert.ProjNear.nD Cert.ProjNear.τ).loc Cert.ProjNear.main_arg0)
      ∧ r.2.mem ((c.tc : Thread Cert.ProjNear.nD Cert.ProjNear.τ).loc Cert.ProjNear.main_arg1) = m ((c.tc : Thread Cert.ProjNear.nD Cert.ProjNear.τ).loc Cert.ProjNear.main_arg1)
      ∧ r.2.mem ((c.tc : Thread Cert.ProjNear.nD Cert.ProjNear.τ).loc Cert.ProjNear.main_arg2) = m ((c.tc : Thread Cert.ProjNear.nD Cert.ProjNear.τ).loc Cert.ProjNear.main_arg2))
      ∧ r.2.sem = fun _ => 0)

def quiescent_ProjNearIdeal [hProjNearIdeal : Cert.ProjNearIdeal.Facts] [hPre_proj_near_ids : Cert.Pre_proj_near_ids.Facts] : Prop :=
  ∀ (m : (ℓ : Loc Cert.ProjNearIdeal.nD Cert.ProjNearIdeal.τ Cert.ProjNearIdeal.sig) → Buf (Elt Ideal) ℓ) (g : Dev Cert.ProjNearIdeal.nD → PrngReg), Pre_ProjNearIdeal m →
    θ_run (Cert.ProjNearIdeal.defs (F := Ideal)) (onTc (τ := Cert.ProjNearIdeal.τ) (Cert.ProjNearIdeal.main (F := Ideal))) ⟨m, fun _ => 0, g⟩ (fun r => (∀ c : Dev Cert.ProjNearIdeal.nD,
      r.2.mem ((c.tc : Thread Cert.ProjNearIdeal.nD Cert.ProjNearIdeal.τ).loc Cert.ProjNearIdeal.main_arg0) = m ((c.tc : Thread Cert.ProjNearIdeal.nD Cert.ProjNearIdeal.τ).loc Cert.ProjNearIdeal.main_arg0)
      ∧ r.2.mem ((c.tc : Thread Cert.ProjNearIdeal.nD Cert.ProjNearIdeal.τ).loc Cert.ProjNearIdeal.main_arg1) = m ((c.tc : Thread Cert.ProjNearIdeal.nD Cert.ProjNearIdeal.τ).loc Cert.ProjNearIdeal.main_arg1)
      ∧ r.2.mem ((c.tc : Thread Cert.ProjNearIdeal.nD Cert.ProjNearIdeal.τ).loc Cert.ProjNearIdeal.main_arg2) = m ((c.tc : Thread Cert.ProjNearIdeal.nD Cert.ProjNearIdeal.τ).loc Cert.ProjNearIdeal.main_arg2))
      ∧ r.2.sem = fun _ => 0)

def quiescent_RefProjNearIdeal [hRefProjNearIdeal : Cert.RefProjNearIdeal.Facts] : Prop :=
  ∀ (m : (ℓ : Loc Cert.RefProjNearIdeal.nD Cert.RefProjNearIdeal.τ Cert.RefProjNearIdeal.sig) → Buf (Elt Ideal) ℓ) (g : Dev Cert.RefProjNearIdeal.nD → PrngReg), Pre_RefProjNearIdeal m →
    θ_run (Cert.RefProjNearIdeal.defs (F := Ideal)) (onTc (τ := Cert.RefProjNearIdeal.τ) (Cert.RefProjNearIdeal.main (F := Ideal))) ⟨m, fun _ => 0, g⟩ (fun r => (∀ c : Dev Cert.RefProjNearIdeal.nD,
      r.2.mem ((c.tc : Thread Cert.RefProjNearIdeal.nD Cert.RefProjNearIdeal.τ).loc Cert.RefProjNearIdeal.main_arg0) = m ((c.tc : Thread Cert.RefProjNearIdeal.nD Cert.RefProjNearIdeal.τ).loc Cert.RefProjNearIdeal.main_arg0)
      ∧ r.2.mem ((c.tc : Thread Cert.RefProjNearIdeal.nD Cert.RefProjNearIdeal.τ).loc Cert.RefProjNearIdeal.main_arg1) = m ((c.tc : Thread Cert.RefProjNearIdeal.nD Cert.RefProjNearIdeal.τ).loc Cert.RefProjNearIdeal.main_arg1)
      ∧ r.2.mem ((c.tc : Thread Cert.RefProjNearIdeal.nD Cert.RefProjNearIdeal.τ).loc Cert.RefProjNearIdeal.main_arg2) = m ((c.tc : Thread Cert.RefProjNearIdeal.nD Cert.RefProjNearIdeal.τ).loc Cert.RefProjNearIdeal.main_arg2))
      ∧ r.2.sem = fun _ => 0)

def quiescent_RefProjNearIdeal_pre_proj_near_ids [hRefProjNearIdeal : Cert.RefProjNearIdeal.Facts] [hPre_proj_near_ids : Cert.Pre_proj_near_ids.Facts] : Prop :=
  ∀ (m : (ℓ : Loc Cert.RefProjNearIdeal.nD Cert.RefProjNearIdeal.τ Cert.RefProjNearIdeal.sig) → Buf (Elt Ideal) ℓ) (g : Dev Cert.RefProjNearIdeal.nD → PrngReg), Pre_RefProjNearIdeal_proj_near_ids m →
    θ_run (Cert.RefProjNearIdeal.defs (F := Ideal)) (onTc (τ := Cert.RefProjNearIdeal.τ) (Cert.RefProjNearIdeal.main (F := Ideal))) ⟨m, fun _ => 0, g⟩ (fun r => (∀ c : Dev Cert.RefProjNearIdeal.nD,
      r.2.mem ((c.tc : Thread Cert.RefProjNearIdeal.nD Cert.RefProjNearIdeal.τ).loc Cert.RefProjNearIdeal.main_arg0) = m ((c.tc : Thread Cert.RefProjNearIdeal.nD Cert.RefProjNearIdeal.τ).loc Cert.RefProjNearIdeal.main_arg0)
      ∧ r.2.mem ((c.tc : Thread Cert.RefProjNearIdeal.nD Cert.RefProjNearIdeal.τ).loc Cert.RefProjNearIdeal.main_arg1) = m ((c.tc : Thread Cert.RefProjNearIdeal.nD Cert.RefProjNearIdeal.τ).loc Cert.RefProjNearIdeal.main_arg1)
      ∧ r.2.mem ((c.tc : Thread Cert.RefProjNearIdeal.nD Cert.RefProjNearIdeal.τ).loc Cert.RefProjNearIdeal.main_arg2) = m ((c.tc : Thread Cert.RefProjNearIdeal.nD Cert.RefProjNearIdeal.τ).loc Cert.RefProjNearIdeal.main_arg2))
      ∧ r.2.sem = fun _ => 0)

def quiescent_ProjRest [hProjRest : Cert.ProjRest.Facts] [hPre_proj_rest_ids : Cert.Pre_proj_rest_ids.Facts] : Prop :=
  ∀ (m : (ℓ : Loc Cert.ProjRest.nD Cert.ProjRest.τ Cert.ProjRest.sig) → Buf (Elt Bits) ℓ) (g : Dev Cert.ProjRest.nD → PrngReg), Pre_ProjRest m →
    θ_run (Cert.ProjRest.defs (F := Bits)) (onTc (τ := Cert.ProjRest.τ) (Cert.ProjRest.main (F := Bits))) ⟨m, fun _ => 0, g⟩ (fun r => (∀ c : Dev Cert.ProjRest.nD,
      r.2.mem ((c.tc : Thread Cert.ProjRest.nD Cert.ProjRest.τ).loc Cert.ProjRest.main_arg0) = m ((c.tc : Thread Cert.ProjRest.nD Cert.ProjRest.τ).loc Cert.ProjRest.main_arg0)
      ∧ r.2.mem ((c.tc : Thread Cert.ProjRest.nD Cert.ProjRest.τ).loc Cert.ProjRest.main_arg1) = m ((c.tc : Thread Cert.ProjRest.nD Cert.ProjRest.τ).loc Cert.ProjRest.main_arg1)
      ∧ r.2.mem ((c.tc : Thread Cert.ProjRest.nD Cert.ProjRest.τ).loc Cert.ProjRest.main_arg2) = m ((c.tc : Thread Cert.ProjRest.nD Cert.ProjRest.τ).loc Cert.ProjRest.main_arg2)
      ∧ r.2.mem ((c.tc : Thread Cert.ProjRest.nD Cert.ProjRest.τ).loc Cert.ProjRest.main_arg3) = m ((c.tc : Thread Cert.ProjRest.nD Cert.ProjRest.τ).loc Cert.ProjRest.main_arg3))
      ∧ r.2.sem = fun _ => 0)

def quiescent_ProjRestIdeal [hProjRestIdeal : Cert.ProjRestIdeal.Facts] [hPre_proj_rest_ids : Cert.Pre_proj_rest_ids.Facts] : Prop :=
  ∀ (m : (ℓ : Loc Cert.ProjRestIdeal.nD Cert.ProjRestIdeal.τ Cert.ProjRestIdeal.sig) → Buf (Elt Ideal) ℓ) (g : Dev Cert.ProjRestIdeal.nD → PrngReg), Pre_ProjRestIdeal m →
    θ_run (Cert.ProjRestIdeal.defs (F := Ideal)) (onTc (τ := Cert.ProjRestIdeal.τ) (Cert.ProjRestIdeal.main (F := Ideal))) ⟨m, fun _ => 0, g⟩ (fun r => (∀ c : Dev Cert.ProjRestIdeal.nD,
      r.2.mem ((c.tc : Thread Cert.ProjRestIdeal.nD Cert.ProjRestIdeal.τ).loc Cert.ProjRestIdeal.main_arg0) = m ((c.tc : Thread Cert.ProjRestIdeal.nD Cert.ProjRestIdeal.τ).loc Cert.ProjRestIdeal.main_arg0)
      ∧ r.2.mem ((c.tc : Thread Cert.ProjRestIdeal.nD Cert.ProjRestIdeal.τ).loc Cert.ProjRestIdeal.main_arg1) = m ((c.tc : Thread Cert.ProjRestIdeal.nD Cert.ProjRestIdeal.τ).loc Cert.ProjRestIdeal.main_arg1)
      ∧ r.2.mem ((c.tc : Thread Cert.ProjRestIdeal.nD Cert.ProjRestIdeal.τ).loc Cert.ProjRestIdeal.main_arg2) = m ((c.tc : Thread Cert.ProjRestIdeal.nD Cert.ProjRestIdeal.τ).loc Cert.ProjRestIdeal.main_arg2)
      ∧ r.2.mem ((c.tc : Thread Cert.ProjRestIdeal.nD Cert.ProjRestIdeal.τ).loc Cert.ProjRestIdeal.main_arg3) = m ((c.tc : Thread Cert.ProjRestIdeal.nD Cert.ProjRestIdeal.τ).loc Cert.ProjRestIdeal.main_arg3))
      ∧ r.2.sem = fun _ => 0)

def quiescent_RefProjRestIdeal [hRefProjRestIdeal : Cert.RefProjRestIdeal.Facts] : Prop :=
  ∀ (m : (ℓ : Loc Cert.RefProjRestIdeal.nD Cert.RefProjRestIdeal.τ Cert.RefProjRestIdeal.sig) → Buf (Elt Ideal) ℓ) (g : Dev Cert.RefProjRestIdeal.nD → PrngReg), Pre_RefProjRestIdeal m →
    θ_run (Cert.RefProjRestIdeal.defs (F := Ideal)) (onTc (τ := Cert.RefProjRestIdeal.τ) (Cert.RefProjRestIdeal.main (F := Ideal))) ⟨m, fun _ => 0, g⟩ (fun r => (∀ c : Dev Cert.RefProjRestIdeal.nD,
      r.2.mem ((c.tc : Thread Cert.RefProjRestIdeal.nD Cert.RefProjRestIdeal.τ).loc Cert.RefProjRestIdeal.main_arg0) = m ((c.tc : Thread Cert.RefProjRestIdeal.nD Cert.RefProjRestIdeal.τ).loc Cert.RefProjRestIdeal.main_arg0)
      ∧ r.2.mem ((c.tc : Thread Cert.RefProjRestIdeal.nD Cert.RefProjRestIdeal.τ).loc Cert.RefProjRestIdeal.main_arg1) = m ((c.tc : Thread Cert.RefProjRestIdeal.nD Cert.RefProjRestIdeal.τ).loc Cert.RefProjRestIdeal.main_arg1)
      ∧ r.2.mem ((c.tc : Thread Cert.RefProjRestIdeal.nD Cert.RefProjRestIdeal.τ).loc Cert.RefProjRestIdeal.main_arg2) = m ((c.tc : Thread Cert.RefProjRestIdeal.nD Cert.RefProjRestIdeal.τ).loc Cert.RefProjRestIdeal.main_arg2)
      ∧ r.2.mem ((c.tc : Thread Cert.RefProjRestIdeal.nD Cert.RefProjRestIdeal.τ).loc Cert.RefProjRestIdeal.main_arg3) = m ((c.tc : Thread Cert.RefProjRestIdeal.nD Cert.RefProjRestIdeal.τ).loc Cert.RefProjRestIdeal.main_arg3))
      ∧ r.2.sem = fun _ => 0)

def quiescent_RefProjRestIdeal_pre_proj_rest_ids [hRefProjRestIdeal : Cert.RefProjRestIdeal.Facts] [hPre_proj_rest_ids : Cert.Pre_proj_rest_ids.Facts] : Prop :=
  ∀ (m : (ℓ : Loc Cert.RefProjRestIdeal.nD Cert.RefProjRestIdeal.τ Cert.RefProjRestIdeal.sig) → Buf (Elt Ideal) ℓ) (g : Dev Cert.RefProjRestIdeal.nD → PrngReg), Pre_RefProjRestIdeal_proj_rest_ids m →
    θ_run (Cert.RefProjRestIdeal.defs (F := Ideal)) (onTc (τ := Cert.RefProjRestIdeal.τ) (Cert.RefProjRestIdeal.main (F := Ideal))) ⟨m, fun _ => 0, g⟩ (fun r => (∀ c : Dev Cert.RefProjRestIdeal.nD,
      r.2.mem ((c.tc : Thread Cert.RefProjRestIdeal.nD Cert.RefProjRestIdeal.τ).loc Cert.RefProjRestIdeal.main_arg0) = m ((c.tc : Thread Cert.RefProjRestIdeal.nD Cert.RefProjRestIdeal.τ).loc Cert.RefProjRestIdeal.main_arg0)
      ∧ r.2.mem ((c.tc : Thread Cert.RefProjRestIdeal.nD Cert.RefProjRestIdeal.τ).loc Cert.RefProjRestIdeal.main_arg1) = m ((c.tc : Thread Cert.RefProjRestIdeal.nD Cert.RefProjRestIdeal.τ).loc Cert.RefProjRestIdeal.main_arg1)
      ∧ r.2.mem ((c.tc : Thread Cert.RefProjRestIdeal.nD Cert.RefProjRestIdeal.τ).loc Cert.RefProjRestIdeal.main_arg2) = m ((c.tc : Thread Cert.RefProjRestIdeal.nD Cert.RefProjRestIdeal.τ).loc Cert.RefProjRestIdeal.main_arg2)
      ∧ r.2.mem ((c.tc : Thread Cert.RefProjRestIdeal.nD Cert.RefProjRestIdeal.τ).loc Cert.RefProjRestIdeal.main_arg3) = m ((c.tc : Thread Cert.RefProjRestIdeal.nD Cert.RefProjRestIdeal.τ).loc Cert.RefProjRestIdeal.main_arg3))
      ∧ r.2.sem = fun _ => 0)

def quiescent_UpNear [hUpNear : Cert.UpNear.Facts] [hPre_up_near_ids : Cert.Pre_up_near_ids.Facts] : Prop :=
  ∀ (m : (ℓ : Loc Cert.UpNear.nD Cert.UpNear.τ Cert.UpNear.sig) → Buf (Elt Bits) ℓ) (g : Dev Cert.UpNear.nD → PrngReg), Pre_UpNear m →
    θ_run (Cert.UpNear.defs (F := Bits)) (onTc (τ := Cert.UpNear.τ) (Cert.UpNear.main (F := Bits))) ⟨m, fun _ => 0, g⟩ (fun r => (∀ c : Dev Cert.UpNear.nD,
      r.2.mem ((c.tc : Thread Cert.UpNear.nD Cert.UpNear.τ).loc Cert.UpNear.main_arg0) = m ((c.tc : Thread Cert.UpNear.nD Cert.UpNear.τ).loc Cert.UpNear.main_arg0)
      ∧ r.2.mem ((c.tc : Thread Cert.UpNear.nD Cert.UpNear.τ).loc Cert.UpNear.main_arg1) = m ((c.tc : Thread Cert.UpNear.nD Cert.UpNear.τ).loc Cert.UpNear.main_arg1)
      ∧ r.2.mem ((c.tc : Thread Cert.UpNear.nD Cert.UpNear.τ).loc Cert.UpNear.main_arg2) = m ((c.tc : Thread Cert.UpNear.nD Cert.UpNear.τ).loc Cert.UpNear.main_arg2))
      ∧ r.2.sem = fun _ => 0)

def quiescent_UpNearIdeal [hUpNearIdeal : Cert.UpNearIdeal.Facts] [hPre_up_near_ids : Cert.Pre_up_near_ids.Facts] : Prop :=
  ∀ (m : (ℓ : Loc Cert.UpNearIdeal.nD Cert.UpNearIdeal.τ Cert.UpNearIdeal.sig) → Buf (Elt Ideal) ℓ) (g : Dev Cert.UpNearIdeal.nD → PrngReg), Pre_UpNearIdeal m →
    θ_run (Cert.UpNearIdeal.defs (F := Ideal)) (onTc (τ := Cert.UpNearIdeal.τ) (Cert.UpNearIdeal.main (F := Ideal))) ⟨m, fun _ => 0, g⟩ (fun r => (∀ c : Dev Cert.UpNearIdeal.nD,
      r.2.mem ((c.tc : Thread Cert.UpNearIdeal.nD Cert.UpNearIdeal.τ).loc Cert.UpNearIdeal.main_arg0) = m ((c.tc : Thread Cert.UpNearIdeal.nD Cert.UpNearIdeal.τ).loc Cert.UpNearIdeal.main_arg0)
      ∧ r.2.mem ((c.tc : Thread Cert.UpNearIdeal.nD Cert.UpNearIdeal.τ).loc Cert.UpNearIdeal.main_arg1) = m ((c.tc : Thread Cert.UpNearIdeal.nD Cert.UpNearIdeal.τ).loc Cert.UpNearIdeal.main_arg1)
      ∧ r.2.mem ((c.tc : Thread Cert.UpNearIdeal.nD Cert.UpNearIdeal.τ).loc Cert.UpNearIdeal.main_arg2) = m ((c.tc : Thread Cert.UpNearIdeal.nD Cert.UpNearIdeal.τ).loc Cert.UpNearIdeal.main_arg2))
      ∧ r.2.sem = fun _ => 0)

def quiescent_RefUpNearIdeal [hRefUpNearIdeal : Cert.RefUpNearIdeal.Facts] : Prop :=
  ∀ (m : (ℓ : Loc Cert.RefUpNearIdeal.nD Cert.RefUpNearIdeal.τ Cert.RefUpNearIdeal.sig) → Buf (Elt Ideal) ℓ) (g : Dev Cert.RefUpNearIdeal.nD → PrngReg), Pre_RefUpNearIdeal m →
    θ_run (Cert.RefUpNearIdeal.defs (F := Ideal)) (onTc (τ := Cert.RefUpNearIdeal.τ) (Cert.RefUpNearIdeal.main (F := Ideal))) ⟨m, fun _ => 0, g⟩ (fun r => (∀ c : Dev Cert.RefUpNearIdeal.nD,
      r.2.mem ((c.tc : Thread Cert.RefUpNearIdeal.nD Cert.RefUpNearIdeal.τ).loc Cert.RefUpNearIdeal.main_arg0) = m ((c.tc : Thread Cert.RefUpNearIdeal.nD Cert.RefUpNearIdeal.τ).loc Cert.RefUpNearIdeal.main_arg0)
      ∧ r.2.mem ((c.tc : Thread Cert.RefUpNearIdeal.nD Cert.RefUpNearIdeal.τ).loc Cert.RefUpNearIdeal.main_arg1) = m ((c.tc : Thread Cert.RefUpNearIdeal.nD Cert.RefUpNearIdeal.τ).loc Cert.RefUpNearIdeal.main_arg1)
      ∧ r.2.mem ((c.tc : Thread Cert.RefUpNearIdeal.nD Cert.RefUpNearIdeal.τ).loc Cert.RefUpNearIdeal.main_arg2) = m ((c.tc : Thread Cert.RefUpNearIdeal.nD Cert.RefUpNearIdeal.τ).loc Cert.RefUpNearIdeal.main_arg2))
      ∧ r.2.sem = fun _ => 0)

def quiescent_RefUpNearIdeal_pre_up_near_ids [hRefUpNearIdeal : Cert.RefUpNearIdeal.Facts] [hPre_up_near_ids : Cert.Pre_up_near_ids.Facts] : Prop :=
  ∀ (m : (ℓ : Loc Cert.RefUpNearIdeal.nD Cert.RefUpNearIdeal.τ Cert.RefUpNearIdeal.sig) → Buf (Elt Ideal) ℓ) (g : Dev Cert.RefUpNearIdeal.nD → PrngReg), Pre_RefUpNearIdeal_up_near_ids m →
    θ_run (Cert.RefUpNearIdeal.defs (F := Ideal)) (onTc (τ := Cert.RefUpNearIdeal.τ) (Cert.RefUpNearIdeal.main (F := Ideal))) ⟨m, fun _ => 0, g⟩ (fun r => (∀ c : Dev Cert.RefUpNearIdeal.nD,
      r.2.mem ((c.tc : Thread Cert.RefUpNearIdeal.nD Cert.RefUpNearIdeal.τ).loc Cert.RefUpNearIdeal.main_arg0) = m ((c.tc : Thread Cert.RefUpNearIdeal.nD Cert.RefUpNearIdeal.τ).loc Cert.RefUpNearIdeal.main_arg0)
      ∧ r.2.mem ((c.tc : Thread Cert.RefUpNearIdeal.nD Cert.RefUpNearIdeal.τ).loc Cert.RefUpNearIdeal.main_arg1) = m ((c.tc : Thread Cert.RefUpNearIdeal.nD Cert.RefUpNearIdeal.τ).loc Cert.RefUpNearIdeal.main_arg1)
      ∧ r.2.mem ((c.tc : Thread Cert.RefUpNearIdeal.nD Cert.RefUpNearIdeal.τ).loc Cert.RefUpNearIdeal.main_arg2) = m ((c.tc : Thread Cert.RefUpNearIdeal.nD Cert.RefUpNearIdeal.τ).loc Cert.RefUpNearIdeal.main_arg2))
      ∧ r.2.sem = fun _ => 0)

def quiescent_UpRest [hUpRest : Cert.UpRest.Facts] [hPre_up_rest_ids : Cert.Pre_up_rest_ids.Facts] : Prop :=
  ∀ (m : (ℓ : Loc Cert.UpRest.nD Cert.UpRest.τ Cert.UpRest.sig) → Buf (Elt Bits) ℓ) (g : Dev Cert.UpRest.nD → PrngReg), Pre_UpRest m →
    θ_run (Cert.UpRest.defs (F := Bits)) (onTc (τ := Cert.UpRest.τ) (Cert.UpRest.main (F := Bits))) ⟨m, fun _ => 0, g⟩ (fun r => (∀ c : Dev Cert.UpRest.nD,
      r.2.mem ((c.tc : Thread Cert.UpRest.nD Cert.UpRest.τ).loc Cert.UpRest.main_arg0) = m ((c.tc : Thread Cert.UpRest.nD Cert.UpRest.τ).loc Cert.UpRest.main_arg0)
      ∧ r.2.mem ((c.tc : Thread Cert.UpRest.nD Cert.UpRest.τ).loc Cert.UpRest.main_arg1) = m ((c.tc : Thread Cert.UpRest.nD Cert.UpRest.τ).loc Cert.UpRest.main_arg1)
      ∧ r.2.mem ((c.tc : Thread Cert.UpRest.nD Cert.UpRest.τ).loc Cert.UpRest.main_arg2) = m ((c.tc : Thread Cert.UpRest.nD Cert.UpRest.τ).loc Cert.UpRest.main_arg2)
      ∧ r.2.mem ((c.tc : Thread Cert.UpRest.nD Cert.UpRest.τ).loc Cert.UpRest.main_arg3) = m ((c.tc : Thread Cert.UpRest.nD Cert.UpRest.τ).loc Cert.UpRest.main_arg3))
      ∧ r.2.sem = fun _ => 0)

def quiescent_UpRestIdeal [hUpRestIdeal : Cert.UpRestIdeal.Facts] [hPre_up_rest_ids : Cert.Pre_up_rest_ids.Facts] : Prop :=
  ∀ (m : (ℓ : Loc Cert.UpRestIdeal.nD Cert.UpRestIdeal.τ Cert.UpRestIdeal.sig) → Buf (Elt Ideal) ℓ) (g : Dev Cert.UpRestIdeal.nD → PrngReg), Pre_UpRestIdeal m →
    θ_run (Cert.UpRestIdeal.defs (F := Ideal)) (onTc (τ := Cert.UpRestIdeal.τ) (Cert.UpRestIdeal.main (F := Ideal))) ⟨m, fun _ => 0, g⟩ (fun r => (∀ c : Dev Cert.UpRestIdeal.nD,
      r.2.mem ((c.tc : Thread Cert.UpRestIdeal.nD Cert.UpRestIdeal.τ).loc Cert.UpRestIdeal.main_arg0) = m ((c.tc : Thread Cert.UpRestIdeal.nD Cert.UpRestIdeal.τ).loc Cert.UpRestIdeal.main_arg0)
      ∧ r.2.mem ((c.tc : Thread Cert.UpRestIdeal.nD Cert.UpRestIdeal.τ).loc Cert.UpRestIdeal.main_arg1) = m ((c.tc : Thread Cert.UpRestIdeal.nD Cert.UpRestIdeal.τ).loc Cert.UpRestIdeal.main_arg1)
      ∧ r.2.mem ((c.tc : Thread Cert.UpRestIdeal.nD Cert.UpRestIdeal.τ).loc Cert.UpRestIdeal.main_arg2) = m ((c.tc : Thread Cert.UpRestIdeal.nD Cert.UpRestIdeal.τ).loc Cert.UpRestIdeal.main_arg2)
      ∧ r.2.mem ((c.tc : Thread Cert.UpRestIdeal.nD Cert.UpRestIdeal.τ).loc Cert.UpRestIdeal.main_arg3) = m ((c.tc : Thread Cert.UpRestIdeal.nD Cert.UpRestIdeal.τ).loc Cert.UpRestIdeal.main_arg3))
      ∧ r.2.sem = fun _ => 0)

def quiescent_RefUpRestIdeal [hRefUpRestIdeal : Cert.RefUpRestIdeal.Facts] : Prop :=
  ∀ (m : (ℓ : Loc Cert.RefUpRestIdeal.nD Cert.RefUpRestIdeal.τ Cert.RefUpRestIdeal.sig) → Buf (Elt Ideal) ℓ) (g : Dev Cert.RefUpRestIdeal.nD → PrngReg), Pre_RefUpRestIdeal m →
    θ_run (Cert.RefUpRestIdeal.defs (F := Ideal)) (onTc (τ := Cert.RefUpRestIdeal.τ) (Cert.RefUpRestIdeal.main (F := Ideal))) ⟨m, fun _ => 0, g⟩ (fun r => (∀ c : Dev Cert.RefUpRestIdeal.nD,
      r.2.mem ((c.tc : Thread Cert.RefUpRestIdeal.nD Cert.RefUpRestIdeal.τ).loc Cert.RefUpRestIdeal.main_arg0) = m ((c.tc : Thread Cert.RefUpRestIdeal.nD Cert.RefUpRestIdeal.τ).loc Cert.RefUpRestIdeal.main_arg0)
      ∧ r.2.mem ((c.tc : Thread Cert.RefUpRestIdeal.nD Cert.RefUpRestIdeal.τ).loc Cert.RefUpRestIdeal.main_arg1) = m ((c.tc : Thread Cert.RefUpRestIdeal.nD Cert.RefUpRestIdeal.τ).loc Cert.RefUpRestIdeal.main_arg1)
      ∧ r.2.mem ((c.tc : Thread Cert.RefUpRestIdeal.nD Cert.RefUpRestIdeal.τ).loc Cert.RefUpRestIdeal.main_arg2) = m ((c.tc : Thread Cert.RefUpRestIdeal.nD Cert.RefUpRestIdeal.τ).loc Cert.RefUpRestIdeal.main_arg2)
      ∧ r.2.mem ((c.tc : Thread Cert.RefUpRestIdeal.nD Cert.RefUpRestIdeal.τ).loc Cert.RefUpRestIdeal.main_arg3) = m ((c.tc : Thread Cert.RefUpRestIdeal.nD Cert.RefUpRestIdeal.τ).loc Cert.RefUpRestIdeal.main_arg3))
      ∧ r.2.sem = fun _ => 0)

def quiescent_RefUpRestIdeal_pre_up_rest_ids [hRefUpRestIdeal : Cert.RefUpRestIdeal.Facts] [hPre_up_rest_ids : Cert.Pre_up_rest_ids.Facts] : Prop :=
  ∀ (m : (ℓ : Loc Cert.RefUpRestIdeal.nD Cert.RefUpRestIdeal.τ Cert.RefUpRestIdeal.sig) → Buf (Elt Ideal) ℓ) (g : Dev Cert.RefUpRestIdeal.nD → PrngReg), Pre_RefUpRestIdeal_up_rest_ids m →
    θ_run (Cert.RefUpRestIdeal.defs (F := Ideal)) (onTc (τ := Cert.RefUpRestIdeal.τ) (Cert.RefUpRestIdeal.main (F := Ideal))) ⟨m, fun _ => 0, g⟩ (fun r => (∀ c : Dev Cert.RefUpRestIdeal.nD,
      r.2.mem ((c.tc : Thread Cert.RefUpRestIdeal.nD Cert.RefUpRestIdeal.τ).loc Cert.RefUpRestIdeal.main_arg0) = m ((c.tc : Thread Cert.RefUpRestIdeal.nD Cert.RefUpRestIdeal.τ).loc Cert.RefUpRestIdeal.main_arg0)
      ∧ r.2.mem ((c.tc : Thread Cert.RefUpRestIdeal.nD Cert.RefUpRestIdeal.τ).loc Cert.RefUpRestIdeal.main_arg1) = m ((c.tc : Thread Cert.RefUpRestIdeal.nD Cert.RefUpRestIdeal.τ).loc Cert.RefUpRestIdeal.main_arg1)
      ∧ r.2.mem ((c.tc : Thread Cert.RefUpRestIdeal.nD Cert.RefUpRestIdeal.τ).loc Cert.RefUpRestIdeal.main_arg2) = m ((c.tc : Thread Cert.RefUpRestIdeal.nD Cert.RefUpRestIdeal.τ).loc Cert.RefUpRestIdeal.main_arg2)
      ∧ r.2.mem ((c.tc : Thread Cert.RefUpRestIdeal.nD Cert.RefUpRestIdeal.τ).loc Cert.RefUpRestIdeal.main_arg3) = m ((c.tc : Thread Cert.RefUpRestIdeal.nD Cert.RefUpRestIdeal.τ).loc Cert.RefUpRestIdeal.main_arg3))
      ∧ r.2.sem = fun _ => 0)

def quiescent_AdamIn [hAdamIn : Cert.AdamIn.Facts] [hPre_adam_in_place : Cert.Pre_adam_in_place.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3)
      ∧ r.2.mem ((c.tc : Thread Cert.AdamIn.nD Cert.AdamIn.τ).loc Cert.AdamIn.main_arg4) = m ((c.tc : Thread Cert.AdamIn.nD Cert.AdamIn.τ).loc Cert.AdamIn.main_arg4)
      ∧ r.2.mem ((c.tc : Thread Cert.AdamIn.nD Cert.AdamIn.τ).loc Cert.AdamIn.main_arg5) = m ((c.tc : Thread Cert.AdamIn.nD Cert.AdamIn.τ).loc Cert.AdamIn.main_arg5))
      ∧ r.2.sem = fun _ => 0)

def quiescent_AdamInIdeal [hAdamInIdeal : Cert.AdamInIdeal.Facts] [hPre_adam_in_place : Cert.Pre_adam_in_place.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
      ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4)
      ∧ r.2.mem ((c.tc : Thread Cert.AdamInIdeal.nD Cert.AdamInIdeal.τ).loc Cert.AdamInIdeal.main_arg5) = m ((c.tc : Thread Cert.AdamInIdeal.nD Cert.AdamInIdeal.τ).loc Cert.AdamInIdeal.main_arg5))
      ∧ r.2.sem = fun _ => 0)

def quiescent_RefAdamInIdeal [hRefAdamInIdeal : Cert.RefAdamInIdeal.Facts] : Prop :=
  ∀ (m : (ℓ : Loc Cert.RefAdamInIdeal.nD Cert.RefAdamInIdeal.τ Cert.RefAdamInIdeal.sig) → Buf (Elt Ideal) ℓ) (g : Dev Cert.RefAdamInIdeal.nD → PrngReg), Pre_RefAdamInIdeal m →
    θ_run (Cert.RefAdamInIdeal.defs (F := Ideal)) (onTc (τ := Cert.RefAdamInIdeal.τ) (Cert.RefAdamInIdeal.main (F := Ideal))) ⟨m, fun _ => 0, g⟩ (fun r => (∀ c : Dev Cert.RefAdamInIdeal.nD,
      r.2.mem ((c.tc : Thread Cert.RefAdamInIdeal.nD Cert.RefAdamInIdeal.τ).loc Cert.RefAdamInIdeal.main_arg0) = m ((c.tc : Thread Cert.RefAdamInIdeal.nD Cert.RefAdamInIdeal.τ).loc Cert.RefAdamInIdeal.main_arg0)
      ∧ r.2.mem ((c.tc : Thread Cert.RefAdamInIdeal.nD Cert.RefAdamInIdeal.τ).loc Cert.RefAdamInIdeal.main_arg1) = m ((c.tc : Thread Cert.RefAdamInIdeal.nD Cert.RefAdamInIdeal.τ).loc Cert.RefAdamInIdeal.main_arg1)
      ∧ r.2.mem ((c.tc : Thread Cert.RefAdamInIdeal.nD Cert.RefAdamInIdeal.τ).loc Cert.RefAdamInIdeal.main_arg2) = m ((c.tc : Thread Cert.RefAdamInIdeal.nD Cert.RefAdamInIdeal.τ).loc Cert.RefAdamInIdeal.main_arg2)
      ∧ r.2.mem ((c.tc : Thread Cert.RefAdamInIdeal.nD Cert.RefAdamInIdeal.τ).loc Cert.RefAdamInIdeal.main_arg3) = m ((c.tc : Thread Cert.RefAdamInIdeal.nD Cert.RefAdamInIdeal.τ).loc Cert.RefAdamInIdeal.main_arg3)
      ∧ r.2.mem ((c.tc : Thread Cert.RefAdamInIdeal.nD Cert.RefAdamInIdeal.τ).loc Cert.RefAdamInIdeal.main_arg4) = m ((c.tc : Thread Cert.RefAdamInIdeal.nD Cert.RefAdamInIdeal.τ).loc Cert.RefAdamInIdeal.main_arg4)
      ∧ r.2.mem ((c.tc : Thread Cert.RefAdamInIdeal.nD Cert.RefAdamInIdeal.τ).loc Cert.RefAdamInIdeal.main_arg5) = m ((c.tc : Thread Cert.RefAdamInIdeal.nD Cert.RefAdamInIdeal.τ).loc Cert.RefAdamInIdeal.main_arg5))
      ∧ r.2.sem = fun _ => 0)

def quiescent_RefAdamInIdeal_pre_adam_in_place [hRefAdamInIdeal : Cert.RefAdamInIdeal.Facts] [hPre_adam_in_place : Cert.Pre_adam_in_place.Facts] : Prop :=
  ∀ (m : (ℓ : Loc Cert.RefAdamInIdeal.nD Cert.RefAdamInIdeal.τ Cert.RefAdamInIdeal.sig) → Buf (Elt Ideal) ℓ) (g : Dev Cert.RefAdamInIdeal.nD → PrngReg), Pre_RefAdamInIdeal_adam_in_place m →
    θ_run (Cert.RefAdamInIdeal.defs (F := Ideal)) (onTc (τ := Cert.RefAdamInIdeal.τ) (Cert.RefAdamInIdeal.main (F := Ideal))) ⟨m, fun _ => 0, g⟩ (fun r => (∀ c : Dev Cert.RefAdamInIdeal.nD,
      r.2.mem ((c.tc : Thread Cert.RefAdamInIdeal.nD Cert.RefAdamInIdeal.τ).loc Cert.RefAdamInIdeal.main_arg0) = m ((c.tc : Thread Cert.RefAdamInIdeal.nD Cert.RefAdamInIdeal.τ).loc Cert.RefAdamInIdeal.main_arg0)
      ∧ r.2.mem ((c.tc : Thread Cert.RefAdamInIdeal.nD Cert.RefAdamInIdeal.τ).loc Cert.RefAdamInIdeal.main_arg1) = m ((c.tc : Thread Cert.RefAdamInIdeal.nD Cert.RefAdamInIdeal.τ).loc Cert.RefAdamInIdeal.main_arg1)
      ∧ r.2.mem ((c.tc : Thread Cert.RefAdamInIdeal.nD Cert.RefAdamInIdeal.τ).loc Cert.RefAdamInIdeal.main_arg2) = m ((c.tc : Thread Cert.RefAdamInIdeal.nD Cert.RefAdamInIdeal.τ).loc Cert.RefAdamInIdeal.main_arg2)
      ∧ r.2.mem ((c.tc : Thread Cert.RefAdamInIdeal.nD Cert.RefAdamInIdeal.τ).loc Cert.RefAdamInIdeal.main_arg3) = m ((c.tc : Thread Cert.RefAdamInIdeal.nD Cert.RefAdamInIdeal.τ).loc Cert.RefAdamInIdeal.main_arg3)
      ∧ r.2.mem ((c.tc : Thread Cert.RefAdamInIdeal.nD Cert.RefAdamInIdeal.τ).loc Cert.RefAdamInIdeal.main_arg4) = m ((c.tc : Thread Cert.RefAdamInIdeal.nD Cert.RefAdamInIdeal.τ).loc Cert.RefAdamInIdeal.main_arg4)
      ∧ r.2.mem ((c.tc : Thread Cert.RefAdamInIdeal.nD Cert.RefAdamInIdeal.τ).loc Cert.RefAdamInIdeal.main_arg5) = m ((c.tc : Thread Cert.RefAdamInIdeal.nD Cert.RefAdamInIdeal.τ).loc Cert.RefAdamInIdeal.main_arg5))
      ∧ r.2.sem = fun _ => 0)

def quiescent_AdamOut [hAdamOut : Cert.AdamOut.Facts] [hPre_adam_out_place : Cert.Pre_adam_out_place.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3)
      ∧ r.2.mem ((c.tc : Thread Cert.AdamOut.nD Cert.AdamOut.τ).loc Cert.AdamOut.main_arg4) = m ((c.tc : Thread Cert.AdamOut.nD Cert.AdamOut.τ).loc Cert.AdamOut.main_arg4)
      ∧ r.2.mem ((c.tc : Thread Cert.AdamOut.nD Cert.AdamOut.τ).loc Cert.AdamOut.main_arg5) = m ((c.tc : Thread Cert.AdamOut.nD Cert.AdamOut.τ).loc Cert.AdamOut.main_arg5))
      ∧ r.2.sem = fun _ => 0)

def quiescent_AdamOutIdeal [hAdamOutIdeal : Cert.AdamOutIdeal.Facts] [hPre_adam_out_place : Cert.Pre_adam_out_place.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
      ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4)
      ∧ r.2.mem ((c.tc : Thread Cert.AdamOutIdeal.nD Cert.AdamOutIdeal.τ).loc Cert.AdamOutIdeal.main_arg5) = m ((c.tc : Thread Cert.AdamOutIdeal.nD Cert.AdamOutIdeal.τ).loc Cert.AdamOutIdeal.main_arg5))
      ∧ r.2.sem = fun _ => 0)

def quiescent_RefAdamOutIdeal [hRefAdamOutIdeal : Cert.RefAdamOutIdeal.Facts] : Prop :=
  ∀ (m : (ℓ : Loc Cert.RefAdamOutIdeal.nD Cert.RefAdamOutIdeal.τ Cert.RefAdamOutIdeal.sig) → Buf (Elt Ideal) ℓ) (g : Dev Cert.RefAdamOutIdeal.nD → PrngReg), Pre_RefAdamOutIdeal m →
    θ_run (Cert.RefAdamOutIdeal.defs (F := Ideal)) (onTc (τ := Cert.RefAdamOutIdeal.τ) (Cert.RefAdamOutIdeal.main (F := Ideal))) ⟨m, fun _ => 0, g⟩ (fun r => (∀ c : Dev Cert.RefAdamOutIdeal.nD,
      r.2.mem ((c.tc : Thread Cert.RefAdamOutIdeal.nD Cert.RefAdamOutIdeal.τ).loc Cert.RefAdamOutIdeal.main_arg0) = m ((c.tc : Thread Cert.RefAdamOutIdeal.nD Cert.RefAdamOutIdeal.τ).loc Cert.RefAdamOutIdeal.main_arg0)
      ∧ r.2.mem ((c.tc : Thread Cert.RefAdamOutIdeal.nD Cert.RefAdamOutIdeal.τ).loc Cert.RefAdamOutIdeal.main_arg1) = m ((c.tc : Thread Cert.RefAdamOutIdeal.nD Cert.RefAdamOutIdeal.τ).loc Cert.RefAdamOutIdeal.main_arg1)
      ∧ r.2.mem ((c.tc : Thread Cert.RefAdamOutIdeal.nD Cert.RefAdamOutIdeal.τ).loc Cert.RefAdamOutIdeal.main_arg2) = m ((c.tc : Thread Cert.RefAdamOutIdeal.nD Cert.RefAdamOutIdeal.τ).loc Cert.RefAdamOutIdeal.main_arg2)
      ∧ r.2.mem ((c.tc : Thread Cert.RefAdamOutIdeal.nD Cert.RefAdamOutIdeal.τ).loc Cert.RefAdamOutIdeal.main_arg3) = m ((c.tc : Thread Cert.RefAdamOutIdeal.nD Cert.RefAdamOutIdeal.τ).loc Cert.RefAdamOutIdeal.main_arg3)
      ∧ r.2.mem ((c.tc : Thread Cert.RefAdamOutIdeal.nD Cert.RefAdamOutIdeal.τ).loc Cert.RefAdamOutIdeal.main_arg4) = m ((c.tc : Thread Cert.RefAdamOutIdeal.nD Cert.RefAdamOutIdeal.τ).loc Cert.RefAdamOutIdeal.main_arg4)
      ∧ r.2.mem ((c.tc : Thread Cert.RefAdamOutIdeal.nD Cert.RefAdamOutIdeal.τ).loc Cert.RefAdamOutIdeal.main_arg5) = m ((c.tc : Thread Cert.RefAdamOutIdeal.nD Cert.RefAdamOutIdeal.τ).loc Cert.RefAdamOutIdeal.main_arg5))
      ∧ r.2.sem = fun _ => 0)

def quiescent_RefAdamOutIdeal_pre_adam_out_place [hRefAdamOutIdeal : Cert.RefAdamOutIdeal.Facts] [hPre_adam_out_place : Cert.Pre_adam_out_place.Facts] : Prop :=
  ∀ (m : (ℓ : Loc Cert.RefAdamOutIdeal.nD Cert.RefAdamOutIdeal.τ Cert.RefAdamOutIdeal.sig) → Buf (Elt Ideal) ℓ) (g : Dev Cert.RefAdamOutIdeal.nD → PrngReg), Pre_RefAdamOutIdeal_adam_out_place m →
    θ_run (Cert.RefAdamOutIdeal.defs (F := Ideal)) (onTc (τ := Cert.RefAdamOutIdeal.τ) (Cert.RefAdamOutIdeal.main (F := Ideal))) ⟨m, fun _ => 0, g⟩ (fun r => (∀ c : Dev Cert.RefAdamOutIdeal.nD,
      r.2.mem ((c.tc : Thread Cert.RefAdamOutIdeal.nD Cert.RefAdamOutIdeal.τ).loc Cert.RefAdamOutIdeal.main_arg0) = m ((c.tc : Thread Cert.RefAdamOutIdeal.nD Cert.RefAdamOutIdeal.τ).loc Cert.RefAdamOutIdeal.main_arg0)
      ∧ r.2.mem ((c.tc : Thread Cert.RefAdamOutIdeal.nD Cert.RefAdamOutIdeal.τ).loc Cert.RefAdamOutIdeal.main_arg1) = m ((c.tc : Thread Cert.RefAdamOutIdeal.nD Cert.RefAdamOutIdeal.τ).loc Cert.RefAdamOutIdeal.main_arg1)
      ∧ r.2.mem ((c.tc : Thread Cert.RefAdamOutIdeal.nD Cert.RefAdamOutIdeal.τ).loc Cert.RefAdamOutIdeal.main_arg2) = m ((c.tc : Thread Cert.RefAdamOutIdeal.nD Cert.RefAdamOutIdeal.τ).loc Cert.RefAdamOutIdeal.main_arg2)
      ∧ r.2.mem ((c.tc : Thread Cert.RefAdamOutIdeal.nD Cert.RefAdamOutIdeal.τ).loc Cert.RefAdamOutIdeal.main_arg3) = m ((c.tc : Thread Cert.RefAdamOutIdeal.nD Cert.RefAdamOutIdeal.τ).loc Cert.RefAdamOutIdeal.main_arg3)
      ∧ r.2.mem ((c.tc : Thread Cert.RefAdamOutIdeal.nD Cert.RefAdamOutIdeal.τ).loc Cert.RefAdamOutIdeal.main_arg4) = m ((c.tc : Thread Cert.RefAdamOutIdeal.nD Cert.RefAdamOutIdeal.τ).loc Cert.RefAdamOutIdeal.main_arg4)
      ∧ r.2.mem ((c.tc : Thread Cert.RefAdamOutIdeal.nD Cert.RefAdamOutIdeal.τ).loc Cert.RefAdamOutIdeal.main_arg5) = m ((c.tc : Thread Cert.RefAdamOutIdeal.nD Cert.RefAdamOutIdeal.τ).loc Cert.RefAdamOutIdeal.main_arg5))
      ∧ r.2.sem = fun _ => 0)

def quiescent_AdamUp [hAdamUp : Cert.AdamUp.Facts] [hPre_adam_up_place : Cert.Pre_adam_up_place.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3)
      ∧ r.2.mem ((c.tc : Thread Cert.AdamUp.nD Cert.AdamUp.τ).loc Cert.AdamUp.main_arg4) = m ((c.tc : Thread Cert.AdamUp.nD Cert.AdamUp.τ).loc Cert.AdamUp.main_arg4)
      ∧ r.2.mem ((c.tc : Thread Cert.AdamUp.nD Cert.AdamUp.τ).loc Cert.AdamUp.main_arg5) = m ((c.tc : Thread Cert.AdamUp.nD Cert.AdamUp.τ).loc Cert.AdamUp.main_arg5))
      ∧ r.2.sem = fun _ => 0)

def quiescent_AdamUpIdeal [hAdamUpIdeal : Cert.AdamUpIdeal.Facts] [hPre_adam_up_place : Cert.Pre_adam_up_place.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
      ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4)
      ∧ r.2.mem ((c.tc : Thread Cert.AdamUpIdeal.nD Cert.AdamUpIdeal.τ).loc Cert.AdamUpIdeal.main_arg5) = m ((c.tc : Thread Cert.AdamUpIdeal.nD Cert.AdamUpIdeal.τ).loc Cert.AdamUpIdeal.main_arg5))
      ∧ r.2.sem = fun _ => 0)

def quiescent_RefAdamUpIdeal [hRefAdamUpIdeal : Cert.RefAdamUpIdeal.Facts] : Prop :=
  ∀ (m : (ℓ : Loc Cert.RefAdamUpIdeal.nD Cert.RefAdamUpIdeal.τ Cert.RefAdamUpIdeal.sig) → Buf (Elt Ideal) ℓ) (g : Dev Cert.RefAdamUpIdeal.nD → PrngReg), Pre_RefAdamUpIdeal m →
    θ_run (Cert.RefAdamUpIdeal.defs (F := Ideal)) (onTc (τ := Cert.RefAdamUpIdeal.τ) (Cert.RefAdamUpIdeal.main (F := Ideal))) ⟨m, fun _ => 0, g⟩ (fun r => (∀ c : Dev Cert.RefAdamUpIdeal.nD,
      r.2.mem ((c.tc : Thread Cert.RefAdamUpIdeal.nD Cert.RefAdamUpIdeal.τ).loc Cert.RefAdamUpIdeal.main_arg0) = m ((c.tc : Thread Cert.RefAdamUpIdeal.nD Cert.RefAdamUpIdeal.τ).loc Cert.RefAdamUpIdeal.main_arg0)
      ∧ r.2.mem ((c.tc : Thread Cert.RefAdamUpIdeal.nD Cert.RefAdamUpIdeal.τ).loc Cert.RefAdamUpIdeal.main_arg1) = m ((c.tc : Thread Cert.RefAdamUpIdeal.nD Cert.RefAdamUpIdeal.τ).loc Cert.RefAdamUpIdeal.main_arg1)
      ∧ r.2.mem ((c.tc : Thread Cert.RefAdamUpIdeal.nD Cert.RefAdamUpIdeal.τ).loc Cert.RefAdamUpIdeal.main_arg2) = m ((c.tc : Thread Cert.RefAdamUpIdeal.nD Cert.RefAdamUpIdeal.τ).loc Cert.RefAdamUpIdeal.main_arg2)
      ∧ r.2.mem ((c.tc : Thread Cert.RefAdamUpIdeal.nD Cert.RefAdamUpIdeal.τ).loc Cert.RefAdamUpIdeal.main_arg3) = m ((c.tc : Thread Cert.RefAdamUpIdeal.nD Cert.RefAdamUpIdeal.τ).loc Cert.RefAdamUpIdeal.main_arg3)
      ∧ r.2.mem ((c.tc : Thread Cert.RefAdamUpIdeal.nD Cert.RefAdamUpIdeal.τ).loc Cert.RefAdamUpIdeal.main_arg4) = m ((c.tc : Thread Cert.RefAdamUpIdeal.nD Cert.RefAdamUpIdeal.τ).loc Cert.RefAdamUpIdeal.main_arg4)
      ∧ r.2.mem ((c.tc : Thread Cert.RefAdamUpIdeal.nD Cert.RefAdamUpIdeal.τ).loc Cert.RefAdamUpIdeal.main_arg5) = m ((c.tc : Thread Cert.RefAdamUpIdeal.nD Cert.RefAdamUpIdeal.τ).loc Cert.RefAdamUpIdeal.main_arg5))
      ∧ r.2.sem = fun _ => 0)

def quiescent_RefAdamUpIdeal_pre_adam_up_place [hRefAdamUpIdeal : Cert.RefAdamUpIdeal.Facts] [hPre_adam_up_place : Cert.Pre_adam_up_place.Facts] : Prop :=
  ∀ (m : (ℓ : Loc Cert.RefAdamUpIdeal.nD Cert.RefAdamUpIdeal.τ Cert.RefAdamUpIdeal.sig) → Buf (Elt Ideal) ℓ) (g : Dev Cert.RefAdamUpIdeal.nD → PrngReg), Pre_RefAdamUpIdeal_adam_up_place m →
    θ_run (Cert.RefAdamUpIdeal.defs (F := Ideal)) (onTc (τ := Cert.RefAdamUpIdeal.τ) (Cert.RefAdamUpIdeal.main (F := Ideal))) ⟨m, fun _ => 0, g⟩ (fun r => (∀ c : Dev Cert.RefAdamUpIdeal.nD,
      r.2.mem ((c.tc : Thread Cert.RefAdamUpIdeal.nD Cert.RefAdamUpIdeal.τ).loc Cert.RefAdamUpIdeal.main_arg0) = m ((c.tc : Thread Cert.RefAdamUpIdeal.nD Cert.RefAdamUpIdeal.τ).loc Cert.RefAdamUpIdeal.main_arg0)
      ∧ r.2.mem ((c.tc : Thread Cert.RefAdamUpIdeal.nD Cert.RefAdamUpIdeal.τ).loc Cert.RefAdamUpIdeal.main_arg1) = m ((c.tc : Thread Cert.RefAdamUpIdeal.nD Cert.RefAdamUpIdeal.τ).loc Cert.RefAdamUpIdeal.main_arg1)
      ∧ r.2.mem ((c.tc : Thread Cert.RefAdamUpIdeal.nD Cert.RefAdamUpIdeal.τ).loc Cert.RefAdamUpIdeal.main_arg2) = m ((c.tc : Thread Cert.RefAdamUpIdeal.nD Cert.RefAdamUpIdeal.τ).loc Cert.RefAdamUpIdeal.main_arg2)
      ∧ r.2.mem ((c.tc : Thread Cert.RefAdamUpIdeal.nD Cert.RefAdamUpIdeal.τ).loc Cert.RefAdamUpIdeal.main_arg3) = m ((c.tc : Thread Cert.RefAdamUpIdeal.nD Cert.RefAdamUpIdeal.τ).loc Cert.RefAdamUpIdeal.main_arg3)
      ∧ r.2.mem ((c.tc : Thread Cert.RefAdamUpIdeal.nD Cert.RefAdamUpIdeal.τ).loc Cert.RefAdamUpIdeal.main_arg4) = m ((c.tc : Thread Cert.RefAdamUpIdeal.nD Cert.RefAdamUpIdeal.τ).loc Cert.RefAdamUpIdeal.main_arg4)
      ∧ r.2.mem ((c.tc : Thread Cert.RefAdamUpIdeal.nD Cert.RefAdamUpIdeal.τ).loc Cert.RefAdamUpIdeal.main_arg5) = m ((c.tc : Thread Cert.RefAdamUpIdeal.nD Cert.RefAdamUpIdeal.τ).loc Cert.RefAdamUpIdeal.main_arg5))
      ∧ r.2.sem = fun _ => 0)

def quiescent_AdamDown [hAdamDown : Cert.AdamDown.Facts] [hPre_adam_down_place : Cert.Pre_adam_down_place.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3)
      ∧ r.2.mem ((c.tc : Thread Cert.AdamDown.nD Cert.AdamDown.τ).loc Cert.AdamDown.main_arg4) = m ((c.tc : Thread Cert.AdamDown.nD Cert.AdamDown.τ).loc Cert.AdamDown.main_arg4)
      ∧ r.2.mem ((c.tc : Thread Cert.AdamDown.nD Cert.AdamDown.τ).loc Cert.AdamDown.main_arg5) = m ((c.tc : Thread Cert.AdamDown.nD Cert.AdamDown.τ).loc Cert.AdamDown.main_arg5))
      ∧ r.2.sem = fun _ => 0)

def quiescent_AdamDownIdeal [hAdamDownIdeal : Cert.AdamDownIdeal.Facts] [hPre_adam_down_place : Cert.Pre_adam_down_place.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
      ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4)
      ∧ r.2.mem ((c.tc : Thread Cert.AdamDownIdeal.nD Cert.AdamDownIdeal.τ).loc Cert.AdamDownIdeal.main_arg5) = m ((c.tc : Thread Cert.AdamDownIdeal.nD Cert.AdamDownIdeal.τ).loc Cert.AdamDownIdeal.main_arg5))
      ∧ r.2.sem = fun _ => 0)

def quiescent_RefAdamDownIdeal [hRefAdamDownIdeal : Cert.RefAdamDownIdeal.Facts] : Prop :=
  ∀ (m : (ℓ : Loc Cert.RefAdamDownIdeal.nD Cert.RefAdamDownIdeal.τ Cert.RefAdamDownIdeal.sig) → Buf (Elt Ideal) ℓ) (g : Dev Cert.RefAdamDownIdeal.nD → PrngReg), Pre_RefAdamDownIdeal m →
    θ_run (Cert.RefAdamDownIdeal.defs (F := Ideal)) (onTc (τ := Cert.RefAdamDownIdeal.τ) (Cert.RefAdamDownIdeal.main (F := Ideal))) ⟨m, fun _ => 0, g⟩ (fun r => (∀ c : Dev Cert.RefAdamDownIdeal.nD,
      r.2.mem ((c.tc : Thread Cert.RefAdamDownIdeal.nD Cert.RefAdamDownIdeal.τ).loc Cert.RefAdamDownIdeal.main_arg0) = m ((c.tc : Thread Cert.RefAdamDownIdeal.nD Cert.RefAdamDownIdeal.τ).loc Cert.RefAdamDownIdeal.main_arg0)
      ∧ r.2.mem ((c.tc : Thread Cert.RefAdamDownIdeal.nD Cert.RefAdamDownIdeal.τ).loc Cert.RefAdamDownIdeal.main_arg1) = m ((c.tc : Thread Cert.RefAdamDownIdeal.nD Cert.RefAdamDownIdeal.τ).loc Cert.RefAdamDownIdeal.main_arg1)
      ∧ r.2.mem ((c.tc : Thread Cert.RefAdamDownIdeal.nD Cert.RefAdamDownIdeal.τ).loc Cert.RefAdamDownIdeal.main_arg2) = m ((c.tc : Thread Cert.RefAdamDownIdeal.nD Cert.RefAdamDownIdeal.τ).loc Cert.RefAdamDownIdeal.main_arg2)
      ∧ r.2.mem ((c.tc : Thread Cert.RefAdamDownIdeal.nD Cert.RefAdamDownIdeal.τ).loc Cert.RefAdamDownIdeal.main_arg3) = m ((c.tc : Thread Cert.RefAdamDownIdeal.nD Cert.RefAdamDownIdeal.τ).loc Cert.RefAdamDownIdeal.main_arg3)
      ∧ r.2.mem ((c.tc : Thread Cert.RefAdamDownIdeal.nD Cert.RefAdamDownIdeal.τ).loc Cert.RefAdamDownIdeal.main_arg4) = m ((c.tc : Thread Cert.RefAdamDownIdeal.nD Cert.RefAdamDownIdeal.τ).loc Cert.RefAdamDownIdeal.main_arg4)
      ∧ r.2.mem ((c.tc : Thread Cert.RefAdamDownIdeal.nD Cert.RefAdamDownIdeal.τ).loc Cert.RefAdamDownIdeal.main_arg5) = m ((c.tc : Thread Cert.RefAdamDownIdeal.nD Cert.RefAdamDownIdeal.τ).loc Cert.RefAdamDownIdeal.main_arg5))
      ∧ r.2.sem = fun _ => 0)

def quiescent_RefAdamDownIdeal_pre_adam_down_place [hRefAdamDownIdeal : Cert.RefAdamDownIdeal.Facts] [hPre_adam_down_place : Cert.Pre_adam_down_place.Facts] : Prop :=
  ∀ (m : (ℓ : Loc Cert.RefAdamDownIdeal.nD Cert.RefAdamDownIdeal.τ Cert.RefAdamDownIdeal.sig) → Buf (Elt Ideal) ℓ) (g : Dev Cert.RefAdamDownIdeal.nD → PrngReg), Pre_RefAdamDownIdeal_adam_down_place m →
    θ_run (Cert.RefAdamDownIdeal.defs (F := Ideal)) (onTc (τ := Cert.RefAdamDownIdeal.τ) (Cert.RefAdamDownIdeal.main (F := Ideal))) ⟨m, fun _ => 0, g⟩ (fun r => (∀ c : Dev Cert.RefAdamDownIdeal.nD,
      r.2.mem ((c.tc : Thread Cert.RefAdamDownIdeal.nD Cert.RefAdamDownIdeal.τ).loc Cert.RefAdamDownIdeal.main_arg0) = m ((c.tc : Thread Cert.RefAdamDownIdeal.nD Cert.RefAdamDownIdeal.τ).loc Cert.RefAdamDownIdeal.main_arg0)
      ∧ r.2.mem ((c.tc : Thread Cert.RefAdamDownIdeal.nD Cert.RefAdamDownIdeal.τ).loc Cert.RefAdamDownIdeal.main_arg1) = m ((c.tc : Thread Cert.RefAdamDownIdeal.nD Cert.RefAdamDownIdeal.τ).loc Cert.RefAdamDownIdeal.main_arg1)
      ∧ r.2.mem ((c.tc : Thread Cert.RefAdamDownIdeal.nD Cert.RefAdamDownIdeal.τ).loc Cert.RefAdamDownIdeal.main_arg2) = m ((c.tc : Thread Cert.RefAdamDownIdeal.nD Cert.RefAdamDownIdeal.τ).loc Cert.RefAdamDownIdeal.main_arg2)
      ∧ r.2.mem ((c.tc : Thread Cert.RefAdamDownIdeal.nD Cert.RefAdamDownIdeal.τ).loc Cert.RefAdamDownIdeal.main_arg3) = m ((c.tc : Thread Cert.RefAdamDownIdeal.nD Cert.RefAdamDownIdeal.τ).loc Cert.RefAdamDownIdeal.main_arg3)
      ∧ r.2.mem ((c.tc : Thread Cert.RefAdamDownIdeal.nD Cert.RefAdamDownIdeal.τ).loc Cert.RefAdamDownIdeal.main_arg4) = m ((c.tc : Thread Cert.RefAdamDownIdeal.nD Cert.RefAdamDownIdeal.τ).loc Cert.RefAdamDownIdeal.main_arg4)
      ∧ r.2.mem ((c.tc : Thread Cert.RefAdamDownIdeal.nD Cert.RefAdamDownIdeal.τ).loc Cert.RefAdamDownIdeal.main_arg5) = m ((c.tc : Thread Cert.RefAdamDownIdeal.nD Cert.RefAdamDownIdeal.τ).loc Cert.RefAdamDownIdeal.main_arg5))
      ∧ r.2.sem = fun _ => 0)

def preserves_Kernel_KernelIdeal : Prop :=
  IdealRules.named_const.Statement Cert.KernelIdeal.κ "inv_sqrt2" .f32 0x3F3504F3#32 (((Real.sqrt 2)⁻¹ : ℝ) : EReal)
  ∧ IdealRules.named_const.Statement Cert.KernelIdeal.κ "inv_sqrt2pi" .f32 0x3ECC422A#32 (((Real.sqrt (2 * Real.pi))⁻¹ : ℝ) : EReal)

def algebraic_KernelIdeal_ReferenceIdeal_on_written_pre_finite [hKernelIdeal : Cert.KernelIdeal.Facts] [hReferenceIdeal : Cert.ReferenceIdeal.Facts] [hPre_finite : Cert.Pre_finite.Facts] [hOn_written : Cert.On_written.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)) (v2 : (c : Dev Cert.KernelIdeal.nD) → Buf (Elt Ideal) ((c.tc : Thread Cert.KernelIdeal.nD Cert.KernelIdeal.τ).loc Cert.KernelIdeal.main_v9_2)) (v3 : (c : Dev Cert.KernelIdeal.nD) → Buf (Elt Ideal) ((c.tc : Thread Cert.KernelIdeal.nD Cert.KernelIdeal.τ).loc Cert.KernelIdeal.main_v9_3)) (v4 : (c : Dev Cert.KernelIdeal.nD) → Buf (Elt Ideal) ((c.tc : Thread Cert.KernelIdeal.nD Cert.KernelIdeal.τ).loc Cert.KernelIdeal.main_v9_4)) (v5 : (c : Dev Cert.KernelIdeal.nD) → Buf (Elt Ideal) ((c.tc : Thread Cert.KernelIdeal.nD Cert.KernelIdeal.τ).loc Cert.KernelIdeal.main_v9_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![4096, 8192]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 i = 1#1 → r.2.mem ((c.tc : Thread Cert.KernelIdeal.nD Cert.KernelIdeal.τ).loc Cert.KernelIdeal.main_v9_0) i = v0 c i)
          ∧ (∀ i : (⟨2, ![1, 2048]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 i = 1#1 → r.2.mem ((c.tc : Thread Cert.KernelIdeal.nD Cert.KernelIdeal.τ).loc Cert.KernelIdeal.main_v9_1) i = v1 c i)
          ∧ (∀ i : (⟨2, ![1, 2048]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 i = 1#1 → r.2.mem ((c.tc : Thread Cert.KernelIdeal.nD Cert.KernelIdeal.τ).loc Cert.KernelIdeal.main_v9_2) i = v2 c i)
          ∧ (∀ i : (⟨2, ![1, 2048]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 i = 1#1 → r.2.mem ((c.tc : Thread Cert.KernelIdeal.nD Cert.KernelIdeal.τ).loc Cert.KernelIdeal.main_v9_3) i = v3 c i)
          ∧ (∀ i : (⟨3, ![16, 128, 128]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 i = 1#1 → r.2.mem ((c.tc : Thread Cert.KernelIdeal.nD Cert.KernelIdeal.τ).loc Cert.KernelIdeal.main_v9_4) i = v4 c i)
          ∧ (∀ i : (⟨2, ![128, 2048]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2 i = 1#1 → r.2.mem ((c.tc : Thread Cert.KernelIdeal.nD Cert.KernelIdeal.τ).loc Cert.KernelIdeal.main_v9_5) i = v5 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![4096, 8192]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 i = 1#1 → r.2.mem ((c.tc : Thread Cert.ReferenceIdeal.nD Cert.ReferenceIdeal.τ).loc Cert.ReferenceIdeal.main_v180) i = v0 c i)
          ∧ (∀ i : (⟨2, ![1, 2048]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 i = 1#1 → r.2.mem ((c.tc : Thread Cert.ReferenceIdeal.nD Cert.ReferenceIdeal.τ).loc Cert.ReferenceIdeal.main_v181) i = v1 c i)
          ∧ (∀ i : (⟨2, ![1, 2048]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 i = 1#1 → r.2.mem ((c.tc : Thread Cert.ReferenceIdeal.nD Cert.ReferenceIdeal.τ).loc Cert.ReferenceIdeal.main_v182) i = v2 c i)
          ∧ (∀ i : (⟨2, ![1, 2048]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 i = 1#1 → r.2.mem ((c.tc : Thread Cert.ReferenceIdeal.nD Cert.ReferenceIdeal.τ).loc Cert.ReferenceIdeal.main_v183) i = v3 c i)
          ∧ (∀ i : (⟨3, ![16, 128, 128]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 i = 1#1 → r.2.mem ((c.tc : Thread Cert.ReferenceIdeal.nD Cert.ReferenceIdeal.τ).loc Cert.ReferenceIdeal.main_v124) i = v4 c i)
          ∧ (∀ i : (⟨2, ![128, 2048]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2 i = 1#1 → r.2.mem ((c.tc : Thread Cert.ReferenceIdeal.nD Cert.ReferenceIdeal.τ).loc Cert.ReferenceIdeal.main_v184) i = v5 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_GwUp_GwUpIdeal : Prop :=
  True

def algebraic_GwUpIdeal_RefGwUpIdeal [hGwUpIdeal : Cert.GwUpIdeal.Facts] [hRefGwUpIdeal : Cert.RefGwUpIdeal.Facts] : Prop :=
  ∀ (m : (ℓ : Loc Cert.GwUpIdeal.nD Cert.GwUpIdeal.τ Cert.GwUpIdeal.sig) → Buf (Elt Ideal) ℓ) (g : Dev Cert.GwUpIdeal.nD → PrngReg)
    (m' : (ℓ : Loc Cert.RefGwUpIdeal.nD Cert.RefGwUpIdeal.τ Cert.RefGwUpIdeal.sig) → Buf (Elt Ideal) ℓ) (g' : Dev Cert.RefGwUpIdeal.nD → PrngReg), Pre_GwUpIdeal m →
    (∀ c : Dev Cert.GwUpIdeal.nD,
      m' ((c.tc : Thread Cert.RefGwUpIdeal.nD Cert.RefGwUpIdeal.τ).loc Cert.RefGwUpIdeal.main_arg0) = m ((c.tc : Thread Cert.GwUpIdeal.nD Cert.GwUpIdeal.τ).loc Cert.GwUpIdeal.main_arg0)
      ∧ m' ((c.tc : Thread Cert.RefGwUpIdeal.nD Cert.RefGwUpIdeal.τ).loc Cert.RefGwUpIdeal.main_arg1) = m ((c.tc : Thread Cert.GwUpIdeal.nD Cert.GwUpIdeal.τ).loc Cert.GwUpIdeal.main_arg1)) →
    ∃ (v0 : (c : Dev Cert.GwUpIdeal.nD) → Buf (Elt Ideal) ((c.tc : Thread Cert.GwUpIdeal.nD Cert.GwUpIdeal.τ).loc Cert.GwUpIdeal.main_v0)),
      θ_run (Cert.GwUpIdeal.defs (F := Ideal)) (onTc (τ := Cert.GwUpIdeal.τ) (Cert.GwUpIdeal.main (F := Ideal))) ⟨m, fun _ => 0, g⟩ (fun r => ∀ c : Dev Cert.GwUpIdeal.nD,
          r.2.mem ((c.tc : Thread Cert.GwUpIdeal.nD Cert.GwUpIdeal.τ).loc Cert.GwUpIdeal.main_v0) = v0 c
          ∧ r.2.mem ((c.tc : Thread Cert.GwUpIdeal.nD Cert.GwUpIdeal.τ).loc Cert.GwUpIdeal.main_arg0) = m ((c.tc : Thread Cert.GwUpIdeal.nD Cert.GwUpIdeal.τ).loc Cert.GwUpIdeal.main_arg0)
          ∧ r.2.mem ((c.tc : Thread Cert.GwUpIdeal.nD Cert.GwUpIdeal.τ).loc Cert.GwUpIdeal.main_arg1) = m ((c.tc : Thread Cert.GwUpIdeal.nD Cert.GwUpIdeal.τ).loc Cert.GwUpIdeal.main_arg1))
      ∧ θ_run (Cert.RefGwUpIdeal.defs (F := Ideal)) (onTc (τ := Cert.RefGwUpIdeal.τ) (Cert.RefGwUpIdeal.main (F := Ideal))) ⟨m', fun _ => 0, g'⟩ (fun r => ∀ c : Dev Cert.RefGwUpIdeal.nD,
          r.2.mem ((c.tc : Thread Cert.RefGwUpIdeal.nD Cert.RefGwUpIdeal.τ).loc Cert.RefGwUpIdeal.main_v10) = v0 c
          ∧ r.2.mem ((c.tc : Thread Cert.RefGwUpIdeal.nD Cert.RefGwUpIdeal.τ).loc Cert.RefGwUpIdeal.main_arg0) = m' ((c.tc : Thread Cert.RefGwUpIdeal.nD Cert.RefGwUpIdeal.τ).loc Cert.RefGwUpIdeal.main_arg0)
          ∧ r.2.mem ((c.tc : Thread Cert.RefGwUpIdeal.nD Cert.RefGwUpIdeal.τ).loc Cert.RefGwUpIdeal.main_arg1) = m' ((c.tc : Thread Cert.RefGwUpIdeal.nD Cert.RefGwUpIdeal.τ).loc Cert.RefGwUpIdeal.main_arg1))

def preserves_Dh2_Dh2Ideal : Prop :=
  True

def algebraic_Dh2Ideal_RefDh2Ideal [hDh2Ideal : Cert.Dh2Ideal.Facts] [hRefDh2Ideal : Cert.RefDh2Ideal.Facts] : Prop :=
  ∀ (m : (ℓ : Loc Cert.Dh2Ideal.nD Cert.Dh2Ideal.τ Cert.Dh2Ideal.sig) → Buf (Elt Ideal) ℓ) (g : Dev Cert.Dh2Ideal.nD → PrngReg)
    (m' : (ℓ : Loc Cert.RefDh2Ideal.nD Cert.RefDh2Ideal.τ Cert.RefDh2Ideal.sig) → Buf (Elt Ideal) ℓ) (g' : Dev Cert.RefDh2Ideal.nD → PrngReg), Pre_Dh2Ideal m →
    (∀ c : Dev Cert.Dh2Ideal.nD,
      m' ((c.tc : Thread Cert.RefDh2Ideal.nD Cert.RefDh2Ideal.τ).loc Cert.RefDh2Ideal.main_arg0) = m ((c.tc : Thread Cert.Dh2Ideal.nD Cert.Dh2Ideal.τ).loc Cert.Dh2Ideal.main_arg0)
      ∧ m' ((c.tc : Thread Cert.RefDh2Ideal.nD Cert.RefDh2Ideal.τ).loc Cert.RefDh2Ideal.main_arg1) = m ((c.tc : Thread Cert.Dh2Ideal.nD Cert.Dh2Ideal.τ).loc Cert.Dh2Ideal.main_arg1)) →
    ∃ (v0 : (c : Dev Cert.Dh2Ideal.nD) → Buf (Elt Ideal) ((c.tc : Thread Cert.Dh2Ideal.nD Cert.Dh2Ideal.τ).loc Cert.Dh2Ideal.main_v0)),
      θ_run (Cert.Dh2Ideal.defs (F := Ideal)) (onTc (τ := Cert.Dh2Ideal.τ) (Cert.Dh2Ideal.main (F := Ideal))) ⟨m, fun _ => 0, g⟩ (fun r => ∀ c : Dev Cert.Dh2Ideal.nD,
          r.2.mem ((c.tc : Thread Cert.Dh2Ideal.nD Cert.Dh2Ideal.τ).loc Cert.Dh2Ideal.main_v0) = v0 c
          ∧ r.2.mem ((c.tc : Thread Cert.Dh2Ideal.nD Cert.Dh2Ideal.τ).loc Cert.Dh2Ideal.main_arg0) = m ((c.tc : Thread Cert.Dh2Ideal.nD Cert.Dh2Ideal.τ).loc Cert.Dh2Ideal.main_arg0)
          ∧ r.2.mem ((c.tc : Thread Cert.Dh2Ideal.nD Cert.Dh2Ideal.τ).loc Cert.Dh2Ideal.main_arg1) = m ((c.tc : Thread Cert.Dh2Ideal.nD Cert.Dh2Ideal.τ).loc Cert.Dh2Ideal.main_arg1))
      ∧ θ_run (Cert.RefDh2Ideal.defs (F := Ideal)) (onTc (τ := Cert.RefDh2Ideal.τ) (Cert.RefDh2Ideal.main (F := Ideal))) ⟨m', fun _ => 0, g'⟩ (fun r => ∀ c : Dev Cert.RefDh2Ideal.nD,
          r.2.mem ((c.tc : Thread Cert.RefDh2Ideal.nD Cert.RefDh2Ideal.τ).loc Cert.RefDh2Ideal.main_v8) = v0 c
          ∧ r.2.mem ((c.tc : Thread Cert.RefDh2Ideal.nD Cert.RefDh2Ideal.τ).loc Cert.RefDh2Ideal.main_arg0) = m' ((c.tc : Thread Cert.RefDh2Ideal.nD Cert.RefDh2Ideal.τ).loc Cert.RefDh2Ideal.main_arg0)
          ∧ r.2.mem ((c.tc : Thread Cert.RefDh2Ideal.nD Cert.RefDh2Ideal.τ).loc Cert.RefDh2Ideal.main_arg1) = m' ((c.tc : Thread Cert.RefDh2Ideal.nD Cert.RefDh2Ideal.τ).loc Cert.RefDh2Ideal.main_arg1))

def preserves_GwDown_GwDownIdeal : Prop :=
  True

def algebraic_GwDownIdeal_RefGwDownIdeal [hGwDownIdeal : Cert.GwDownIdeal.Facts] [hRefGwDownIdeal : Cert.RefGwDownIdeal.Facts] : Prop :=
  ∀ (m : (ℓ : Loc Cert.GwDownIdeal.nD Cert.GwDownIdeal.τ Cert.GwDownIdeal.sig) → Buf (Elt Ideal) ℓ) (g : Dev Cert.GwDownIdeal.nD → PrngReg)
    (m' : (ℓ : Loc Cert.RefGwDownIdeal.nD Cert.RefGwDownIdeal.τ Cert.RefGwDownIdeal.sig) → Buf (Elt Ideal) ℓ) (g' : Dev Cert.RefGwDownIdeal.nD → PrngReg), Pre_GwDownIdeal m →
    (∀ c : Dev Cert.GwDownIdeal.nD,
      m' ((c.tc : Thread Cert.RefGwDownIdeal.nD Cert.RefGwDownIdeal.τ).loc Cert.RefGwDownIdeal.main_arg0) = m ((c.tc : Thread Cert.GwDownIdeal.nD Cert.GwDownIdeal.τ).loc Cert.GwDownIdeal.main_arg0)
      ∧ m' ((c.tc : Thread Cert.RefGwDownIdeal.nD Cert.RefGwDownIdeal.τ).loc Cert.RefGwDownIdeal.main_arg1) = m ((c.tc : Thread Cert.GwDownIdeal.nD Cert.GwDownIdeal.τ).loc Cert.GwDownIdeal.main_arg1)) →
    ∃ (v0 : (c : Dev Cert.GwDownIdeal.nD) → Buf (Elt Ideal) ((c.tc : Thread Cert.GwDownIdeal.nD Cert.GwDownIdeal.τ).loc Cert.GwDownIdeal.main_v0)),
      θ_run (Cert.GwDownIdeal.defs (F := Ideal)) (onTc (τ := Cert.GwDownIdeal.τ) (Cert.GwDownIdeal.main (F := Ideal))) ⟨m, fun _ => 0, g⟩ (fun r => ∀ c : Dev Cert.GwDownIdeal.nD,
          r.2.mem ((c.tc : Thread Cert.GwDownIdeal.nD Cert.GwDownIdeal.τ).loc Cert.GwDownIdeal.main_v0) = v0 c
          ∧ r.2.mem ((c.tc : Thread Cert.GwDownIdeal.nD Cert.GwDownIdeal.τ).loc Cert.GwDownIdeal.main_arg0) = m ((c.tc : Thread Cert.GwDownIdeal.nD Cert.GwDownIdeal.τ).loc Cert.GwDownIdeal.main_arg0)
          ∧ r.2.mem ((c.tc : Thread Cert.GwDownIdeal.nD Cert.GwDownIdeal.τ).loc Cert.GwDownIdeal.main_arg1) = m ((c.tc : Thread Cert.GwDownIdeal.nD Cert.GwDownIdeal.τ).loc Cert.GwDownIdeal.main_arg1))
      ∧ θ_run (Cert.RefGwDownIdeal.defs (F := Ideal)) (onTc (τ := Cert.RefGwDownIdeal.τ) (Cert.RefGwDownIdeal.main (F := Ideal))) ⟨m', fun _ => 0, g'⟩ (fun r => ∀ c : Dev Cert.RefGwDownIdeal.nD,
          r.2.mem ((c.tc : Thread Cert.RefGwDownIdeal.nD Cert.RefGwDownIdeal.τ).loc Cert.RefGwDownIdeal.main_v9) = v0 c
          ∧ r.2.mem ((c.tc : Thread Cert.RefGwDownIdeal.nD Cert.RefGwDownIdeal.τ).loc Cert.RefGwDownIdeal.main_arg0) = m' ((c.tc : Thread Cert.RefGwDownIdeal.nD Cert.RefGwDownIdeal.τ).loc Cert.RefGwDownIdeal.main_arg0)
          ∧ r.2.mem ((c.tc : Thread Cert.RefGwDownIdeal.nD Cert.RefGwDownIdeal.τ).loc Cert.RefGwDownIdeal.main_arg1) = m' ((c.tc : Thread Cert.RefGwDownIdeal.nD Cert.RefGwDownIdeal.τ).loc Cert.RefGwDownIdeal.main_arg1))

def preserves_Dact_DactIdeal : Prop :=
  True

def algebraic_DactIdeal_RefDactIdeal [hDactIdeal : Cert.DactIdeal.Facts] [hRefDactIdeal : Cert.RefDactIdeal.Facts] : Prop :=
  ∀ (m : (ℓ : Loc Cert.DactIdeal.nD Cert.DactIdeal.τ Cert.DactIdeal.sig) → Buf (Elt Ideal) ℓ) (g : Dev Cert.DactIdeal.nD → PrngReg)
    (m' : (ℓ : Loc Cert.RefDactIdeal.nD Cert.RefDactIdeal.τ Cert.RefDactIdeal.sig) → Buf (Elt Ideal) ℓ) (g' : Dev Cert.RefDactIdeal.nD → PrngReg), Pre_DactIdeal m →
    (∀ c : Dev Cert.DactIdeal.nD,
      m' ((c.tc : Thread Cert.RefDactIdeal.nD Cert.RefDactIdeal.τ).loc Cert.RefDactIdeal.main_arg0) = m ((c.tc : Thread Cert.DactIdeal.nD Cert.DactIdeal.τ).loc Cert.DactIdeal.main_arg0)
      ∧ m' ((c.tc : Thread Cert.RefDactIdeal.nD Cert.RefDactIdeal.τ).loc Cert.RefDactIdeal.main_arg1) = m ((c.tc : Thread Cert.DactIdeal.nD Cert.DactIdeal.τ).loc Cert.DactIdeal.main_arg1)) →
    ∃ (v0 : (c : Dev Cert.DactIdeal.nD) → Buf (Elt Ideal) ((c.tc : Thread Cert.DactIdeal.nD Cert.DactIdeal.τ).loc Cert.DactIdeal.main_v0)),
      θ_run (Cert.DactIdeal.defs (F := Ideal)) (onTc (τ := Cert.DactIdeal.τ) (Cert.DactIdeal.main (F := Ideal))) ⟨m, fun _ => 0, g⟩ (fun r => ∀ c : Dev Cert.DactIdeal.nD,
          r.2.mem ((c.tc : Thread Cert.DactIdeal.nD Cert.DactIdeal.τ).loc Cert.DactIdeal.main_v0) = v0 c
          ∧ r.2.mem ((c.tc : Thread Cert.DactIdeal.nD Cert.DactIdeal.τ).loc Cert.DactIdeal.main_arg0) = m ((c.tc : Thread Cert.DactIdeal.nD Cert.DactIdeal.τ).loc Cert.DactIdeal.main_arg0)
          ∧ r.2.mem ((c.tc : Thread Cert.DactIdeal.nD Cert.DactIdeal.τ).loc Cert.DactIdeal.main_arg1) = m ((c.tc : Thread Cert.DactIdeal.nD Cert.DactIdeal.τ).loc Cert.DactIdeal.main_arg1))
      ∧ θ_run (Cert.RefDactIdeal.defs (F := Ideal)) (onTc (τ := Cert.RefDactIdeal.τ) (Cert.RefDactIdeal.main (F := Ideal))) ⟨m', fun _ => 0, g'⟩ (fun r => ∀ c : Dev Cert.RefDactIdeal.nD,
          r.2.mem ((c.tc : Thread Cert.RefDactIdeal.nD Cert.RefDactIdeal.τ).loc Cert.RefDactIdeal.main_v8) = v0 c
          ∧ r.2.mem ((c.tc : Thread Cert.RefDactIdeal.nD Cert.RefDactIdeal.τ).loc Cert.RefDactIdeal.main_arg0) = m' ((c.tc : Thread Cert.RefDactIdeal.nD Cert.RefDactIdeal.τ).loc Cert.RefDactIdeal.main_arg0)
          ∧ r.2.mem ((c.tc : Thread Cert.RefDactIdeal.nD Cert.RefDactIdeal.τ).loc Cert.RefDactIdeal.main_arg1) = m' ((c.tc : Thread Cert.RefDactIdeal.nD Cert.RefDactIdeal.τ).loc Cert.RefDactIdeal.main_arg1))

def preserves_GwIn_GwInIdeal : Prop :=
  True

def algebraic_GwInIdeal_RefGwInIdeal [hGwInIdeal : Cert.GwInIdeal.Facts] [hRefGwInIdeal : Cert.RefGwInIdeal.Facts] : Prop :=
  ∀ (m : (ℓ : Loc Cert.GwInIdeal.nD Cert.GwInIdeal.τ Cert.GwInIdeal.sig) → Buf (Elt Ideal) ℓ) (g : Dev Cert.GwInIdeal.nD → PrngReg)
    (m' : (ℓ : Loc Cert.RefGwInIdeal.nD Cert.RefGwInIdeal.τ Cert.RefGwInIdeal.sig) → Buf (Elt Ideal) ℓ) (g' : Dev Cert.RefGwInIdeal.nD → PrngReg), Pre_GwInIdeal m →
    (∀ c : Dev Cert.GwInIdeal.nD,
      m' ((c.tc : Thread Cert.RefGwInIdeal.nD Cert.RefGwInIdeal.τ).loc Cert.RefGwInIdeal.main_arg0) = m ((c.tc : Thread Cert.GwInIdeal.nD Cert.GwInIdeal.τ).loc Cert.GwInIdeal.main_arg0)
      ∧ m' ((c.tc : Thread Cert.RefGwInIdeal.nD Cert.RefGwInIdeal.τ).loc Cert.RefGwInIdeal.main_arg1) = m ((c.tc : Thread Cert.GwInIdeal.nD Cert.GwInIdeal.τ).loc Cert.GwInIdeal.main_arg1)) →
    ∃ (v0 : (c : Dev Cert.GwInIdeal.nD) → Buf (Elt Ideal) ((c.tc : Thread Cert.GwInIdeal.nD Cert.GwInIdeal.τ).loc Cert.GwInIdeal.main_v0)),
      θ_run (Cert.GwInIdeal.defs (F := Ideal)) (onTc (τ := Cert.GwInIdeal.τ) (Cert.GwInIdeal.main (F := Ideal))) ⟨m, fun _ => 0, g⟩ (fun r => ∀ c : Dev Cert.GwInIdeal.nD,
          r.2.mem ((c.tc : Thread Cert.GwInIdeal.nD Cert.GwInIdeal.τ).loc Cert.GwInIdeal.main_v0) = v0 c
          ∧ r.2.mem ((c.tc : Thread Cert.GwInIdeal.nD Cert.GwInIdeal.τ).loc Cert.GwInIdeal.main_arg0) = m ((c.tc : Thread Cert.GwInIdeal.nD Cert.GwInIdeal.τ).loc Cert.GwInIdeal.main_arg0)
          ∧ r.2.mem ((c.tc : Thread Cert.GwInIdeal.nD Cert.GwInIdeal.τ).loc Cert.GwInIdeal.main_arg1) = m ((c.tc : Thread Cert.GwInIdeal.nD Cert.GwInIdeal.τ).loc Cert.GwInIdeal.main_arg1))
      ∧ θ_run (Cert.RefGwInIdeal.defs (F := Ideal)) (onTc (τ := Cert.RefGwInIdeal.τ) (Cert.RefGwInIdeal.main (F := Ideal))) ⟨m', fun _ => 0, g'⟩ (fun r => ∀ c : Dev Cert.RefGwInIdeal.nD,
          r.2.mem ((c.tc : Thread Cert.RefGwInIdeal.nD Cert.RefGwInIdeal.τ).loc Cert.RefGwInIdeal.main_v8) = v0 c
          ∧ r.2.mem ((c.tc : Thread Cert.RefGwInIdeal.nD Cert.RefGwInIdeal.τ).loc Cert.RefGwInIdeal.main_arg0) = m' ((c.tc : Thread Cert.RefGwInIdeal.nD Cert.RefGwInIdeal.τ).loc Cert.RefGwInIdeal.main_arg0)
          ∧ r.2.mem ((c.tc : Thread Cert.RefGwInIdeal.nD Cert.RefGwInIdeal.τ).loc Cert.RefGwInIdeal.main_arg1) = m' ((c.tc : Thread Cert.RefGwInIdeal.nD Cert.RefGwInIdeal.τ).loc Cert.RefGwInIdeal.main_arg1))

def preserves_Dh1_Dh1Ideal : Prop :=
  True

def algebraic_Dh1Ideal_RefDh1Ideal [hDh1Ideal : Cert.Dh1Ideal.Facts] [hRefDh1Ideal : Cert.RefDh1Ideal.Facts] : Prop :=
  ∀ (m : (ℓ : Loc Cert.Dh1Ideal.nD Cert.Dh1Ideal.τ Cert.Dh1Ideal.sig) → Buf (Elt Ideal) ℓ) (g : Dev Cert.Dh1Ideal.nD → PrngReg)
    (m' : (ℓ : Loc Cert.RefDh1Ideal.nD Cert.RefDh1Ideal.τ Cert.RefDh1Ideal.sig) → Buf (Elt Ideal) ℓ) (g' : Dev Cert.RefDh1Ideal.nD → PrngReg), Pre_Dh1Ideal m →
    (∀ c : Dev Cert.Dh1Ideal.nD,
      m' ((c.tc : Thread Cert.RefDh1Ideal.nD Cert.RefDh1Ideal.τ).loc Cert.RefDh1Ideal.main_arg0) = m ((c.tc : Thread Cert.Dh1Ideal.nD Cert.Dh1Ideal.τ).loc Cert.Dh1Ideal.main_arg0)
      ∧ m' ((c.tc : Thread Cert.RefDh1Ideal.nD Cert.RefDh1Ideal.τ).loc Cert.RefDh1Ideal.main_arg1) = m ((c.tc : Thread Cert.Dh1Ideal.nD Cert.Dh1Ideal.τ).loc Cert.Dh1Ideal.main_arg1)) →
    ∃ (v0 : (c : Dev Cert.Dh1Ideal.nD) → Buf (Elt Ideal) ((c.tc : Thread Cert.Dh1Ideal.nD Cert.Dh1Ideal.τ).loc Cert.Dh1Ideal.main_v0)),
      θ_run (Cert.Dh1Ideal.defs (F := Ideal)) (onTc (τ := Cert.Dh1Ideal.τ) (Cert.Dh1Ideal.main (F := Ideal))) ⟨m, fun _ => 0, g⟩ (fun r => ∀ c : Dev Cert.Dh1Ideal.nD,
          r.2.mem ((c.tc : Thread Cert.Dh1Ideal.nD Cert.Dh1Ideal.τ).loc Cert.Dh1Ideal.main_v0) = v0 c
          ∧ r.2.mem ((c.tc : Thread Cert.Dh1Ideal.nD Cert.Dh1Ideal.τ).loc Cert.Dh1Ideal.main_arg0) = m ((c.tc : Thread Cert.Dh1Ideal.nD Cert.Dh1Ideal.τ).loc Cert.Dh1Ideal.main_arg0)
          ∧ r.2.mem ((c.tc : Thread Cert.Dh1Ideal.nD Cert.Dh1Ideal.τ).loc Cert.Dh1Ideal.main_arg1) = m ((c.tc : Thread Cert.Dh1Ideal.nD Cert.Dh1Ideal.τ).loc Cert.Dh1Ideal.main_arg1))
      ∧ θ_run (Cert.RefDh1Ideal.defs (F := Ideal)) (onTc (τ := Cert.RefDh1Ideal.τ) (Cert.RefDh1Ideal.main (F := Ideal))) ⟨m', fun _ => 0, g'⟩ (fun r => ∀ c : Dev Cert.RefDh1Ideal.nD,
          r.2.mem ((c.tc : Thread Cert.RefDh1Ideal.nD Cert.RefDh1Ideal.τ).loc Cert.RefDh1Ideal.main_v6) = v0 c
          ∧ r.2.mem ((c.tc : Thread Cert.RefDh1Ideal.nD Cert.RefDh1Ideal.τ).loc Cert.RefDh1Ideal.main_arg0) = m' ((c.tc : Thread Cert.RefDh1Ideal.nD Cert.RefDh1Ideal.τ).loc Cert.RefDh1Ideal.main_arg0)
          ∧ r.2.mem ((c.tc : Thread Cert.RefDh1Ideal.nD Cert.RefDh1Ideal.τ).loc Cert.RefDh1Ideal.main_arg1) = m' ((c.tc : Thread Cert.RefDh1Ideal.nD Cert.RefDh1Ideal.τ).loc Cert.RefDh1Ideal.main_arg1))

def preserves_GwOut_GwOutIdeal : Prop :=
  True

def algebraic_GwOutIdeal_RefGwOutIdeal [hGwOutIdeal : Cert.GwOutIdeal.Facts] [hRefGwOutIdeal : Cert.RefGwOutIdeal.Facts] : Prop :=
  ∀ (m : (ℓ : Loc Cert.GwOutIdeal.nD Cert.GwOutIdeal.τ Cert.GwOutIdeal.sig) → Buf (Elt Ideal) ℓ) (g : Dev Cert.GwOutIdeal.nD → PrngReg)
    (m' : (ℓ : Loc Cert.RefGwOutIdeal.nD Cert.RefGwOutIdeal.τ Cert.RefGwOutIdeal.sig) → Buf (Elt Ideal) ℓ) (g' : Dev Cert.RefGwOutIdeal.nD → PrngReg), Pre_GwOutIdeal m →
    (∀ c : Dev Cert.GwOutIdeal.nD,
      m' ((c.tc : Thread Cert.RefGwOutIdeal.nD Cert.RefGwOutIdeal.τ).loc Cert.RefGwOutIdeal.main_arg0) = m ((c.tc : Thread Cert.GwOutIdeal.nD Cert.GwOutIdeal.τ).loc Cert.GwOutIdeal.main_arg0)
      ∧ m' ((c.tc : Thread Cert.RefGwOutIdeal.nD Cert.RefGwOutIdeal.τ).loc Cert.RefGwOutIdeal.main_arg1) = m ((c.tc : Thread Cert.GwOutIdeal.nD Cert.GwOutIdeal.τ).loc Cert.GwOutIdeal.main_arg1)) →
    ∃ (v0 : (c : Dev Cert.GwOutIdeal.nD) → Buf (Elt Ideal) ((c.tc : Thread Cert.GwOutIdeal.nD Cert.GwOutIdeal.τ).loc Cert.GwOutIdeal.main_v0)),
      θ_run (Cert.GwOutIdeal.defs (F := Ideal)) (onTc (τ := Cert.GwOutIdeal.τ) (Cert.GwOutIdeal.main (F := Ideal))) ⟨m, fun _ => 0, g⟩ (fun r => ∀ c : Dev Cert.GwOutIdeal.nD,
          r.2.mem ((c.tc : Thread Cert.GwOutIdeal.nD Cert.GwOutIdeal.τ).loc Cert.GwOutIdeal.main_v0) = v0 c
          ∧ r.2.mem ((c.tc : Thread Cert.GwOutIdeal.nD Cert.GwOutIdeal.τ).loc Cert.GwOutIdeal.main_arg0) = m ((c.tc : Thread Cert.GwOutIdeal.nD Cert.GwOutIdeal.τ).loc Cert.GwOutIdeal.main_arg0)
          ∧ r.2.mem ((c.tc : Thread Cert.GwOutIdeal.nD Cert.GwOutIdeal.τ).loc Cert.GwOutIdeal.main_arg1) = m ((c.tc : Thread Cert.GwOutIdeal.nD Cert.GwOutIdeal.τ).loc Cert.GwOutIdeal.main_arg1))
      ∧ θ_run (Cert.RefGwOutIdeal.defs (F := Ideal)) (onTc (τ := Cert.RefGwOutIdeal.τ) (Cert.RefGwOutIdeal.main (F := Ideal))) ⟨m', fun _ => 0, g'⟩ (fun r => ∀ c : Dev Cert.RefGwOutIdeal.nD,
          r.2.mem ((c.tc : Thread Cert.RefGwOutIdeal.nD Cert.RefGwOutIdeal.τ).loc Cert.RefGwOutIdeal.main_v6) = v0 c
          ∧ r.2.mem ((c.tc : Thread Cert.RefGwOutIdeal.nD Cert.RefGwOutIdeal.τ).loc Cert.RefGwOutIdeal.main_arg0) = m' ((c.tc : Thread Cert.RefGwOutIdeal.nD Cert.RefGwOutIdeal.τ).loc Cert.RefGwOutIdeal.main_arg0)
          ∧ r.2.mem ((c.tc : Thread Cert.RefGwOutIdeal.nD Cert.RefGwOutIdeal.τ).loc Cert.RefGwOutIdeal.main_arg1) = m' ((c.tc : Thread Cert.RefGwOutIdeal.nD Cert.RefGwOutIdeal.τ).loc Cert.RefGwOutIdeal.main_arg1))

def preserves_Dy_DyIdeal : Prop :=
  True

def algebraic_DyIdeal_RefDyIdeal [hDyIdeal : Cert.DyIdeal.Facts] [hRefDyIdeal : Cert.RefDyIdeal.Facts] : Prop :=
  ∀ (m : (ℓ : Loc Cert.DyIdeal.nD Cert.DyIdeal.τ Cert.DyIdeal.sig) → Buf (Elt Ideal) ℓ) (g : Dev Cert.DyIdeal.nD → PrngReg)
    (m' : (ℓ : Loc Cert.RefDyIdeal.nD Cert.RefDyIdeal.τ Cert.RefDyIdeal.sig) → Buf (Elt Ideal) ℓ) (g' : Dev Cert.RefDyIdeal.nD → PrngReg), Pre_DyIdeal m →
    (∀ c : Dev Cert.DyIdeal.nD,
      m' ((c.tc : Thread Cert.RefDyIdeal.nD Cert.RefDyIdeal.τ).loc Cert.RefDyIdeal.main_arg0) = m ((c.tc : Thread Cert.DyIdeal.nD Cert.DyIdeal.τ).loc Cert.DyIdeal.main_arg0)
      ∧ m' ((c.tc : Thread Cert.RefDyIdeal.nD Cert.RefDyIdeal.τ).loc Cert.RefDyIdeal.main_arg1) = m ((c.tc : Thread Cert.DyIdeal.nD Cert.DyIdeal.τ).loc Cert.DyIdeal.main_arg1)) →
    ∃ (v0 : (c : Dev Cert.DyIdeal.nD) → Buf (Elt Ideal) ((c.tc : Thread Cert.DyIdeal.nD Cert.DyIdeal.τ).loc Cert.DyIdeal.main_v0)),
      θ_run (Cert.DyIdeal.defs (F := Ideal)) (onTc (τ := Cert.DyIdeal.τ) (Cert.DyIdeal.main (F := Ideal))) ⟨m, fun _ => 0, g⟩ (fun r => ∀ c : Dev Cert.DyIdeal.nD,
          r.2.mem ((c.tc : Thread Cert.DyIdeal.nD Cert.DyIdeal.τ).loc Cert.DyIdeal.main_v0) = v0 c
          ∧ r.2.mem ((c.tc : Thread Cert.DyIdeal.nD Cert.DyIdeal.τ).loc Cert.DyIdeal.main_arg0) = m ((c.tc : Thread Cert.DyIdeal.nD Cert.DyIdeal.τ).loc Cert.DyIdeal.main_arg0)
          ∧ r.2.mem ((c.tc : Thread Cert.DyIdeal.nD Cert.DyIdeal.τ).loc Cert.DyIdeal.main_arg1) = m ((c.tc : Thread Cert.DyIdeal.nD Cert.DyIdeal.τ).loc Cert.DyIdeal.main_arg1))
      ∧ θ_run (Cert.RefDyIdeal.defs (F := Ideal)) (onTc (τ := Cert.RefDyIdeal.τ) (Cert.RefDyIdeal.main (F := Ideal))) ⟨m', fun _ => 0, g'⟩ (fun r => ∀ c : Dev Cert.RefDyIdeal.nD,
          r.2.mem ((c.tc : Thread Cert.RefDyIdeal.nD Cert.RefDyIdeal.τ).loc Cert.RefDyIdeal.main_v5) = v0 c
          ∧ r.2.mem ((c.tc : Thread Cert.RefDyIdeal.nD Cert.RefDyIdeal.τ).loc Cert.RefDyIdeal.main_arg0) = m' ((c.tc : Thread Cert.RefDyIdeal.nD Cert.RefDyIdeal.τ).loc Cert.RefDyIdeal.main_arg0)
          ∧ r.2.mem ((c.tc : Thread Cert.RefDyIdeal.nD Cert.RefDyIdeal.τ).loc Cert.RefDyIdeal.main_arg1) = m' ((c.tc : Thread Cert.RefDyIdeal.nD Cert.RefDyIdeal.τ).loc Cert.RefDyIdeal.main_arg1))

def preserves_Down_DownIdeal : Prop :=
  True

def algebraic_DownIdeal_RefDownIdeal [hDownIdeal : Cert.DownIdeal.Facts] [hRefDownIdeal : Cert.RefDownIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.RefDownIdeal.nD Cert.RefDownIdeal.τ Cert.RefDownIdeal.sig) → Buf (Elt Ideal) ℓ) (g' : Dev Cert.RefDownIdeal.nD → PrngReg), Pre_DownIdeal m →
    (∀ c : Dev Cert.DownIdeal.nD,
      m' ((c.tc : Thread Cert.RefDownIdeal.nD Cert.RefDownIdeal.τ).loc Cert.RefDownIdeal.main_arg0) = m ((c.tc : Thread Cert.DownIdeal.nD Cert.DownIdeal.τ).loc Cert.DownIdeal.main_arg0)
      ∧ m' ((c.tc : Thread Cert.RefDownIdeal.nD Cert.RefDownIdeal.τ).loc Cert.RefDownIdeal.main_arg1) = m ((c.tc : Thread Cert.DownIdeal.nD Cert.DownIdeal.τ).loc Cert.DownIdeal.main_arg1)
      ∧ m' ((c.tc : Thread Cert.RefDownIdeal.nD Cert.RefDownIdeal.τ).loc Cert.RefDownIdeal.main_arg2) = m ((c.tc : Thread Cert.DownIdeal.nD Cert.DownIdeal.τ).loc Cert.DownIdeal.main_arg2)
      ∧ m' ((c.tc : Thread Cert.RefDownIdeal.nD Cert.RefDownIdeal.τ).loc Cert.RefDownIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v0_0)) (v1 : (c : Dev Cert.DownIdeal.nD) → Buf (Elt Ideal) ((c.tc : Thread Cert.DownIdeal.nD Cert.DownIdeal.τ).loc Cert.DownIdeal.main_v0_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0_0) = v0 c
          ∧ r.2.mem ((c.tc : Thread Cert.DownIdeal.nD Cert.DownIdeal.τ).loc Cert.DownIdeal.main_v0_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.RefDownIdeal.defs (F := Ideal)) (onTc (τ := Cert.RefDownIdeal.τ) (Cert.RefDownIdeal.main (F := Ideal))) ⟨m', fun _ => 0, g'⟩ (fun r => ∀ c : Dev Cert.RefDownIdeal.nD,
          r.2.mem ((c.tc : Thread Cert.RefDownIdeal.nD Cert.RefDownIdeal.τ).loc Cert.RefDownIdeal.main_v5) = v0 c
          ∧ r.2.mem ((c.tc : Thread Cert.RefDownIdeal.nD Cert.RefDownIdeal.τ).loc Cert.RefDownIdeal.main_v11) = v1 c
          ∧ r.2.mem ((c.tc : Thread Cert.RefDownIdeal.nD Cert.RefDownIdeal.τ).loc Cert.RefDownIdeal.main_arg0) = m' ((c.tc : Thread Cert.RefDownIdeal.nD Cert.RefDownIdeal.τ).loc Cert.RefDownIdeal.main_arg0)
          ∧ r.2.mem ((c.tc : Thread Cert.RefDownIdeal.nD Cert.RefDownIdeal.τ).loc Cert.RefDownIdeal.main_arg1) = m' ((c.tc : Thread Cert.RefDownIdeal.nD Cert.RefDownIdeal.τ).loc Cert.RefDownIdeal.main_arg1)
          ∧ r.2.mem ((c.tc : Thread Cert.RefDownIdeal.nD Cert.RefDownIdeal.τ).loc Cert.RefDownIdeal.main_arg2) = m' ((c.tc : Thread Cert.RefDownIdeal.nD Cert.RefDownIdeal.τ).loc Cert.RefDownIdeal.main_arg2)
          ∧ r.2.mem ((c.tc : Thread Cert.RefDownIdeal.nD Cert.RefDownIdeal.τ).loc Cert.RefDownIdeal.main_arg3) = m' ((c.tc : Thread Cert.RefDownIdeal.nD Cert.RefDownIdeal.τ).loc Cert.RefDownIdeal.main_arg3))

def preserves_Out_OutIdeal : Prop :=
  True

def algebraic_OutIdeal_RefOutIdeal [hOutIdeal : Cert.OutIdeal.Facts] [hRefOutIdeal : Cert.RefOutIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.RefOutIdeal.nD Cert.RefOutIdeal.τ Cert.RefOutIdeal.sig) → Buf (Elt Ideal) ℓ) (g' : Dev Cert.RefOutIdeal.nD → PrngReg), Pre_OutIdeal m →
    (∀ c : Dev Cert.OutIdeal.nD,
      m' ((c.tc : Thread Cert.RefOutIdeal.nD Cert.RefOutIdeal.τ).loc Cert.RefOutIdeal.main_arg0) = m ((c.tc : Thread Cert.OutIdeal.nD Cert.OutIdeal.τ).loc Cert.OutIdeal.main_arg0)
      ∧ m' ((c.tc : Thread Cert.RefOutIdeal.nD Cert.RefOutIdeal.τ).loc Cert.RefOutIdeal.main_arg1) = m ((c.tc : Thread Cert.OutIdeal.nD Cert.OutIdeal.τ).loc Cert.OutIdeal.main_arg1)
      ∧ m' ((c.tc : Thread Cert.RefOutIdeal.nD Cert.RefOutIdeal.τ).loc Cert.RefOutIdeal.main_arg2) = m ((c.tc : Thread Cert.OutIdeal.nD Cert.OutIdeal.τ).loc Cert.OutIdeal.main_arg2)
      ∧ m' ((c.tc : Thread Cert.RefOutIdeal.nD Cert.RefOutIdeal.τ).loc Cert.RefOutIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v0_0)) (v1 : (c : Dev Cert.OutIdeal.nD) → Buf (Elt Ideal) ((c.tc : Thread Cert.OutIdeal.nD Cert.OutIdeal.τ).loc Cert.OutIdeal.main_v0_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0_0) = v0 c
          ∧ r.2.mem ((c.tc : Thread Cert.OutIdeal.nD Cert.OutIdeal.τ).loc Cert.OutIdeal.main_v0_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.RefOutIdeal.defs (F := Ideal)) (onTc (τ := Cert.RefOutIdeal.τ) (Cert.RefOutIdeal.main (F := Ideal))) ⟨m', fun _ => 0, g'⟩ (fun r => ∀ c : Dev Cert.RefOutIdeal.nD,
          r.2.mem ((c.tc : Thread Cert.RefOutIdeal.nD Cert.RefOutIdeal.τ).loc Cert.RefOutIdeal.main_v2) = v0 c
          ∧ r.2.mem ((c.tc : Thread Cert.RefOutIdeal.nD Cert.RefOutIdeal.τ).loc Cert.RefOutIdeal.main_v8) = v1 c
          ∧ r.2.mem ((c.tc : Thread Cert.RefOutIdeal.nD Cert.RefOutIdeal.τ).loc Cert.RefOutIdeal.main_arg0) = m' ((c.tc : Thread Cert.RefOutIdeal.nD Cert.RefOutIdeal.τ).loc Cert.RefOutIdeal.main_arg0)
          ∧ r.2.mem ((c.tc : Thread Cert.RefOutIdeal.nD Cert.RefOutIdeal.τ).loc Cert.RefOutIdeal.main_arg1) = m' ((c.tc : Thread Cert.RefOutIdeal.nD Cert.RefOutIdeal.τ).loc Cert.RefOutIdeal.main_arg1)
          ∧ r.2.mem ((c.tc : Thread Cert.RefOutIdeal.nD Cert.RefOutIdeal.τ).loc Cert.RefOutIdeal.main_arg2) = m' ((c.tc : Thread Cert.RefOutIdeal.nD Cert.RefOutIdeal.τ).loc Cert.RefOutIdeal.main_arg2)
          ∧ r.2.mem ((c.tc : Thread Cert.RefOutIdeal.nD Cert.RefOutIdeal.τ).loc Cert.RefOutIdeal.main_arg3) = m' ((c.tc : Thread Cert.RefOutIdeal.nD Cert.RefOutIdeal.τ).loc Cert.RefOutIdeal.main_arg3))

def preserves_ProjNear_ProjNearIdeal : Prop :=
  True

def algebraic_ProjNearIdeal_RefProjNearIdeal_on_proj_near_part [hProjNearIdeal : Cert.ProjNearIdeal.Facts] [hRefProjNearIdeal : Cert.RefProjNearIdeal.Facts] [hPre_proj_near_ids : Cert.Pre_proj_near_ids.Facts] [hOn_proj_near_part : Cert.On_proj_near_part.Facts] : Prop :=
  ∀ (m : (ℓ : Loc Cert.ProjNearIdeal.nD Cert.ProjNearIdeal.τ Cert.ProjNearIdeal.sig) → Buf (Elt Ideal) ℓ) (g : Dev Cert.ProjNearIdeal.nD → PrngReg)
    (m' : (ℓ : Loc Cert.RefProjNearIdeal.nD Cert.RefProjNearIdeal.τ Cert.RefProjNearIdeal.sig) → Buf (Elt Ideal) ℓ) (g' : Dev Cert.RefProjNearIdeal.nD → PrngReg), Pre_ProjNearIdeal m →
    (∀ c : Dev Cert.ProjNearIdeal.nD,
      m' ((c.tc : Thread Cert.RefProjNearIdeal.nD Cert.RefProjNearIdeal.τ).loc Cert.RefProjNearIdeal.main_arg0) = m ((c.tc : Thread Cert.ProjNearIdeal.nD Cert.ProjNearIdeal.τ).loc Cert.ProjNearIdeal.main_arg0)
      ∧ m' ((c.tc : Thread Cert.RefProjNearIdeal.nD Cert.RefProjNearIdeal.τ).loc Cert.RefProjNearIdeal.main_arg1) = m ((c.tc : Thread Cert.ProjNearIdeal.nD Cert.ProjNearIdeal.τ).loc Cert.ProjNearIdeal.main_arg1)
      ∧ m' ((c.tc : Thread Cert.RefProjNearIdeal.nD Cert.RefProjNearIdeal.τ).loc Cert.RefProjNearIdeal.main_arg2) = m ((c.tc : Thread Cert.ProjNearIdeal.nD Cert.ProjNearIdeal.τ).loc Cert.ProjNearIdeal.main_arg2)) →
    ∃ (v0 : (c : Dev Cert.ProjNearIdeal.nD) → Buf (Elt Ideal) ((c.tc : Thread Cert.ProjNearIdeal.nD Cert.ProjNearIdeal.τ).loc Cert.ProjNearIdeal.main_v0)),
      θ_run (Cert.ProjNearIdeal.defs (F := Ideal)) (onTc (τ := Cert.ProjNearIdeal.τ) (Cert.ProjNearIdeal.main (F := Ideal))) ⟨m, fun _ => 0, g⟩ (fun r => ∀ c : Dev Cert.ProjNearIdeal.nD,
          (∀ i : (⟨2, ![4096, 8192]⟩ : Shape).Idx, (Cert.On_proj_near_part.fn (F := Ideal) (m ((c.tc : Thread Cert.ProjNearIdeal.nD Cert.ProjNearIdeal.τ).loc Cert.ProjNearIdeal.main_arg0)) (m ((c.tc : Thread Cert.ProjNearIdeal.nD Cert.ProjNearIdeal.τ).loc Cert.ProjNearIdeal.main_arg1)) (m ((c.tc : Thread Cert.ProjNearIdeal.nD Cert.ProjNearIdeal.τ).loc Cert.ProjNearIdeal.main_arg2))) i = 1#1 → r.2.mem ((c.tc : Thread Cert.ProjNearIdeal.nD Cert.ProjNearIdeal.τ).loc Cert.ProjNearIdeal.main_v0) i = v0 c i)
          ∧ r.2.mem ((c.tc : Thread Cert.ProjNearIdeal.nD Cert.ProjNearIdeal.τ).loc Cert.ProjNearIdeal.main_arg0) = m ((c.tc : Thread Cert.ProjNearIdeal.nD Cert.ProjNearIdeal.τ).loc Cert.ProjNearIdeal.main_arg0)
          ∧ r.2.mem ((c.tc : Thread Cert.ProjNearIdeal.nD Cert.ProjNearIdeal.τ).loc Cert.ProjNearIdeal.main_arg1) = m ((c.tc : Thread Cert.ProjNearIdeal.nD Cert.ProjNearIdeal.τ).loc Cert.ProjNearIdeal.main_arg1)
          ∧ r.2.mem ((c.tc : Thread Cert.ProjNearIdeal.nD Cert.ProjNearIdeal.τ).loc Cert.ProjNearIdeal.main_arg2) = m ((c.tc : Thread Cert.ProjNearIdeal.nD Cert.ProjNearIdeal.τ).loc Cert.ProjNearIdeal.main_arg2))
      ∧ θ_run (Cert.RefProjNearIdeal.defs (F := Ideal)) (onTc (τ := Cert.RefProjNearIdeal.τ) (Cert.RefProjNearIdeal.main (F := Ideal))) ⟨m', fun _ => 0, g'⟩ (fun r => ∀ c : Dev Cert.RefProjNearIdeal.nD,
          (∀ i : (⟨2, ![4096, 8192]⟩ : Shape).Idx, (Cert.On_proj_near_part.fn (F := Ideal) (m ((c.tc : Thread Cert.ProjNearIdeal.nD Cert.ProjNearIdeal.τ).loc Cert.ProjNearIdeal.main_arg0)) (m ((c.tc : Thread Cert.ProjNearIdeal.nD Cert.ProjNearIdeal.τ).loc Cert.ProjNearIdeal.main_arg1)) (m ((c.tc : Thread Cert.ProjNearIdeal.nD Cert.ProjNearIdeal.τ).loc Cert.ProjNearIdeal.main_arg2))) i = 1#1 → r.2.mem ((c.tc : Thread Cert.RefProjNearIdeal.nD Cert.RefProjNearIdeal.τ).loc Cert.RefProjNearIdeal.main_v7) i = v0 c i)
          ∧ r.2.mem ((c.tc : Thread Cert.RefProjNearIdeal.nD Cert.RefProjNearIdeal.τ).loc Cert.RefProjNearIdeal.main_arg0) = m' ((c.tc : Thread Cert.RefProjNearIdeal.nD Cert.RefProjNearIdeal.τ).loc Cert.RefProjNearIdeal.main_arg0)
          ∧ r.2.mem ((c.tc : Thread Cert.RefProjNearIdeal.nD Cert.RefProjNearIdeal.τ).loc Cert.RefProjNearIdeal.main_arg1) = m' ((c.tc : Thread Cert.RefProjNearIdeal.nD Cert.RefProjNearIdeal.τ).loc Cert.RefProjNearIdeal.main_arg1)
          ∧ r.2.mem ((c.tc : Thread Cert.RefProjNearIdeal.nD Cert.RefProjNearIdeal.τ).loc Cert.RefProjNearIdeal.main_arg2) = m' ((c.tc : Thread Cert.RefProjNearIdeal.nD Cert.RefProjNearIdeal.τ).loc Cert.RefProjNearIdeal.main_arg2))

def preserves_ProjRest_ProjRestIdeal : Prop :=
  True

def algebraic_ProjRestIdeal_RefProjRestIdeal [hProjRestIdeal : Cert.ProjRestIdeal.Facts] [hRefProjRestIdeal : Cert.RefProjRestIdeal.Facts] [hPre_proj_rest_ids : Cert.Pre_proj_rest_ids.Facts] : Prop :=
  ∀ (m : (ℓ : Loc Cert.ProjRestIdeal.nD Cert.ProjRestIdeal.τ Cert.ProjRestIdeal.sig) → Buf (Elt Ideal) ℓ) (g : Dev Cert.ProjRestIdeal.nD → PrngReg)
    (m' : (ℓ : Loc Cert.RefProjRestIdeal.nD Cert.RefProjRestIdeal.τ Cert.RefProjRestIdeal.sig) → Buf (Elt Ideal) ℓ) (g' : Dev Cert.RefProjRestIdeal.nD → PrngReg), Pre_ProjRestIdeal m →
    (∀ c : Dev Cert.ProjRestIdeal.nD,
      m' ((c.tc : Thread Cert.RefProjRestIdeal.nD Cert.RefProjRestIdeal.τ).loc Cert.RefProjRestIdeal.main_arg0) = m ((c.tc : Thread Cert.ProjRestIdeal.nD Cert.ProjRestIdeal.τ).loc Cert.ProjRestIdeal.main_arg0)
      ∧ m' ((c.tc : Thread Cert.RefProjRestIdeal.nD Cert.RefProjRestIdeal.τ).loc Cert.RefProjRestIdeal.main_arg1) = m ((c.tc : Thread Cert.ProjRestIdeal.nD Cert.ProjRestIdeal.τ).loc Cert.ProjRestIdeal.main_arg1)
      ∧ m' ((c.tc : Thread Cert.RefProjRestIdeal.nD Cert.RefProjRestIdeal.τ).loc Cert.RefProjRestIdeal.main_arg2) = m ((c.tc : Thread Cert.ProjRestIdeal.nD Cert.ProjRestIdeal.τ).loc Cert.ProjRestIdeal.main_arg2)
      ∧ m' ((c.tc : Thread Cert.RefProjRestIdeal.nD Cert.RefProjRestIdeal.τ).loc Cert.RefProjRestIdeal.main_arg3) = m ((c.tc : Thread Cert.ProjRestIdeal.nD Cert.ProjRestIdeal.τ).loc Cert.ProjRestIdeal.main_arg3)) →
    ∃ (v0 : (c : Dev Cert.ProjRestIdeal.nD) → Buf (Elt Ideal) ((c.tc : Thread Cert.ProjRestIdeal.nD Cert.ProjRestIdeal.τ).loc Cert.ProjRestIdeal.main_v0)),
      θ_run (Cert.ProjRestIdeal.defs (F := Ideal)) (onTc (τ := Cert.ProjRestIdeal.τ) (Cert.ProjRestIdeal.main (F := Ideal))) ⟨m, fun _ => 0, g⟩ (fun r => ∀ c : Dev Cert.ProjRestIdeal.nD,
          r.2.mem ((c.tc : Thread Cert.ProjRestIdeal.nD Cert.ProjRestIdeal.τ).loc Cert.ProjRestIdeal.main_v0) = v0 c
          ∧ r.2.mem ((c.tc : Thread Cert.ProjRestIdeal.nD Cert.ProjRestIdeal.τ).loc Cert.ProjRestIdeal.main_arg0) = m ((c.tc : Thread Cert.ProjRestIdeal.nD Cert.ProjRestIdeal.τ).loc Cert.ProjRestIdeal.main_arg0)
          ∧ r.2.mem ((c.tc : Thread Cert.ProjRestIdeal.nD Cert.ProjRestIdeal.τ).loc Cert.ProjRestIdeal.main_arg1) = m ((c.tc : Thread Cert.ProjRestIdeal.nD Cert.ProjRestIdeal.τ).loc Cert.ProjRestIdeal.main_arg1)
          ∧ r.2.mem ((c.tc : Thread Cert.ProjRestIdeal.nD Cert.ProjRestIdeal.τ).loc Cert.ProjRestIdeal.main_arg2) = m ((c.tc : Thread Cert.ProjRestIdeal.nD Cert.ProjRestIdeal.τ).loc Cert.ProjRestIdeal.main_arg2)
          ∧ r.2.mem ((c.tc : Thread Cert.ProjRestIdeal.nD Cert.ProjRestIdeal.τ).loc Cert.ProjRestIdeal.main_arg3) = m ((c.tc : Thread Cert.ProjRestIdeal.nD Cert.ProjRestIdeal.τ).loc Cert.ProjRestIdeal.main_arg3))
      ∧ θ_run (Cert.RefProjRestIdeal.defs (F := Ideal)) (onTc (τ := Cert.RefProjRestIdeal.τ) (Cert.RefProjRestIdeal.main (F := Ideal))) ⟨m', fun _ => 0, g'⟩ (fun r => ∀ c : Dev Cert.RefProjRestIdeal.nD,
          r.2.mem ((c.tc : Thread Cert.RefProjRestIdeal.nD Cert.RefProjRestIdeal.τ).loc Cert.RefProjRestIdeal.main_v25) = v0 c
          ∧ r.2.mem ((c.tc : Thread Cert.RefProjRestIdeal.nD Cert.RefProjRestIdeal.τ).loc Cert.RefProjRestIdeal.main_arg0) = m' ((c.tc : Thread Cert.RefProjRestIdeal.nD Cert.RefProjRestIdeal.τ).loc Cert.RefProjRestIdeal.main_arg0)
          ∧ r.2.mem ((c.tc : Thread Cert.RefProjRestIdeal.nD Cert.RefProjRestIdeal.τ).loc Cert.RefProjRestIdeal.main_arg1) = m' ((c.tc : Thread Cert.RefProjRestIdeal.nD Cert.RefProjRestIdeal.τ).loc Cert.RefProjRestIdeal.main_arg1)
          ∧ r.2.mem ((c.tc : Thread Cert.RefProjRestIdeal.nD Cert.RefProjRestIdeal.τ).loc Cert.RefProjRestIdeal.main_arg2) = m' ((c.tc : Thread Cert.RefProjRestIdeal.nD Cert.RefProjRestIdeal.τ).loc Cert.RefProjRestIdeal.main_arg2)
          ∧ r.2.mem ((c.tc : Thread Cert.RefProjRestIdeal.nD Cert.RefProjRestIdeal.τ).loc Cert.RefProjRestIdeal.main_arg3) = m' ((c.tc : Thread Cert.RefProjRestIdeal.nD Cert.RefProjRestIdeal.τ).loc Cert.RefProjRestIdeal.main_arg3))

def preserves_UpNear_UpNearIdeal : Prop :=
  True

def algebraic_UpNearIdeal_RefUpNearIdeal_on_up_near_part [hUpNearIdeal : Cert.UpNearIdeal.Facts] [hRefUpNearIdeal : Cert.RefUpNearIdeal.Facts] [hPre_up_near_ids : Cert.Pre_up_near_ids.Facts] [hOn_up_near_part : Cert.On_up_near_part.Facts] : Prop :=
  ∀ (m : (ℓ : Loc Cert.UpNearIdeal.nD Cert.UpNearIdeal.τ Cert.UpNearIdeal.sig) → Buf (Elt Ideal) ℓ) (g : Dev Cert.UpNearIdeal.nD → PrngReg)
    (m' : (ℓ : Loc Cert.RefUpNearIdeal.nD Cert.RefUpNearIdeal.τ Cert.RefUpNearIdeal.sig) → Buf (Elt Ideal) ℓ) (g' : Dev Cert.RefUpNearIdeal.nD → PrngReg), Pre_UpNearIdeal m →
    (∀ c : Dev Cert.UpNearIdeal.nD,
      m' ((c.tc : Thread Cert.RefUpNearIdeal.nD Cert.RefUpNearIdeal.τ).loc Cert.RefUpNearIdeal.main_arg0) = m ((c.tc : Thread Cert.UpNearIdeal.nD Cert.UpNearIdeal.τ).loc Cert.UpNearIdeal.main_arg0)
      ∧ m' ((c.tc : Thread Cert.RefUpNearIdeal.nD Cert.RefUpNearIdeal.τ).loc Cert.RefUpNearIdeal.main_arg1) = m ((c.tc : Thread Cert.UpNearIdeal.nD Cert.UpNearIdeal.τ).loc Cert.UpNearIdeal.main_arg1)
      ∧ m' ((c.tc : Thread Cert.RefUpNearIdeal.nD Cert.RefUpNearIdeal.τ).loc Cert.RefUpNearIdeal.main_arg2) = m ((c.tc : Thread Cert.UpNearIdeal.nD Cert.UpNearIdeal.τ).loc Cert.UpNearIdeal.main_arg2)) →
    ∃ (v0 : (c : Dev Cert.UpNearIdeal.nD) → Buf (Elt Ideal) ((c.tc : Thread Cert.UpNearIdeal.nD Cert.UpNearIdeal.τ).loc Cert.UpNearIdeal.main_v0)),
      θ_run (Cert.UpNearIdeal.defs (F := Ideal)) (onTc (τ := Cert.UpNearIdeal.τ) (Cert.UpNearIdeal.main (F := Ideal))) ⟨m, fun _ => 0, g⟩ (fun r => ∀ c : Dev Cert.UpNearIdeal.nD,
          (∀ i : (⟨3, ![8, 4096, 2752]⟩ : Shape).Idx, (Cert.On_up_near_part.fn (F := Ideal) (m ((c.tc : Thread Cert.UpNearIdeal.nD Cert.UpNearIdeal.τ).loc Cert.UpNearIdeal.main_arg0)) (m ((c.tc : Thread Cert.UpNearIdeal.nD Cert.UpNearIdeal.τ).loc Cert.UpNearIdeal.main_arg1)) (m ((c.tc : Thread Cert.UpNearIdeal.nD Cert.UpNearIdeal.τ).loc Cert.UpNearIdeal.main_arg2))) i = 1#1 → r.2.mem ((c.tc : Thread Cert.UpNearIdeal.nD Cert.UpNearIdeal.τ).loc Cert.UpNearIdeal.main_v0) i = v0 c i)
          ∧ r.2.mem ((c.tc : Thread Cert.UpNearIdeal.nD Cert.UpNearIdeal.τ).loc Cert.UpNearIdeal.main_arg0) = m ((c.tc : Thread Cert.UpNearIdeal.nD Cert.UpNearIdeal.τ).loc Cert.UpNearIdeal.main_arg0)
          ∧ r.2.mem ((c.tc : Thread Cert.UpNearIdeal.nD Cert.UpNearIdeal.τ).loc Cert.UpNearIdeal.main_arg1) = m ((c.tc : Thread Cert.UpNearIdeal.nD Cert.UpNearIdeal.τ).loc Cert.UpNearIdeal.main_arg1)
          ∧ r.2.mem ((c.tc : Thread Cert.UpNearIdeal.nD Cert.UpNearIdeal.τ).loc Cert.UpNearIdeal.main_arg2) = m ((c.tc : Thread Cert.UpNearIdeal.nD Cert.UpNearIdeal.τ).loc Cert.UpNearIdeal.main_arg2))
      ∧ θ_run (Cert.RefUpNearIdeal.defs (F := Ideal)) (onTc (τ := Cert.RefUpNearIdeal.τ) (Cert.RefUpNearIdeal.main (F := Ideal))) ⟨m', fun _ => 0, g'⟩ (fun r => ∀ c : Dev Cert.RefUpNearIdeal.nD,
          (∀ i : (⟨3, ![8, 4096, 2752]⟩ : Shape).Idx, (Cert.On_up_near_part.fn (F := Ideal) (m ((c.tc : Thread Cert.UpNearIdeal.nD Cert.UpNearIdeal.τ).loc Cert.UpNearIdeal.main_arg0)) (m ((c.tc : Thread Cert.UpNearIdeal.nD Cert.UpNearIdeal.τ).loc Cert.UpNearIdeal.main_arg1)) (m ((c.tc : Thread Cert.UpNearIdeal.nD Cert.UpNearIdeal.τ).loc Cert.UpNearIdeal.main_arg2))) i = 1#1 → r.2.mem ((c.tc : Thread Cert.RefUpNearIdeal.nD Cert.RefUpNearIdeal.τ).loc Cert.RefUpNearIdeal.main_v7) i = v0 c i)
          ∧ r.2.mem ((c.tc : Thread Cert.RefUpNearIdeal.nD Cert.RefUpNearIdeal.τ).loc Cert.RefUpNearIdeal.main_arg0) = m' ((c.tc : Thread Cert.RefUpNearIdeal.nD Cert.RefUpNearIdeal.τ).loc Cert.RefUpNearIdeal.main_arg0)
          ∧ r.2.mem ((c.tc : Thread Cert.RefUpNearIdeal.nD Cert.RefUpNearIdeal.τ).loc Cert.RefUpNearIdeal.main_arg1) = m' ((c.tc : Thread Cert.RefUpNearIdeal.nD Cert.RefUpNearIdeal.τ).loc Cert.RefUpNearIdeal.main_arg1)
          ∧ r.2.mem ((c.tc : Thread Cert.RefUpNearIdeal.nD Cert.RefUpNearIdeal.τ).loc Cert.RefUpNearIdeal.main_arg2) = m' ((c.tc : Thread Cert.RefUpNearIdeal.nD Cert.RefUpNearIdeal.τ).loc Cert.RefUpNearIdeal.main_arg2))

def preserves_UpRest_UpRestIdeal : Prop :=
  True

def algebraic_UpRestIdeal_RefUpRestIdeal [hUpRestIdeal : Cert.UpRestIdeal.Facts] [hRefUpRestIdeal : Cert.RefUpRestIdeal.Facts] [hPre_up_rest_ids : Cert.Pre_up_rest_ids.Facts] : Prop :=
  ∀ (m : (ℓ : Loc Cert.UpRestIdeal.nD Cert.UpRestIdeal.τ Cert.UpRestIdeal.sig) → Buf (Elt Ideal) ℓ) (g : Dev Cert.UpRestIdeal.nD → PrngReg)
    (m' : (ℓ : Loc Cert.RefUpRestIdeal.nD Cert.RefUpRestIdeal.τ Cert.RefUpRestIdeal.sig) → Buf (Elt Ideal) ℓ) (g' : Dev Cert.RefUpRestIdeal.nD → PrngReg), Pre_UpRestIdeal m →
    (∀ c : Dev Cert.UpRestIdeal.nD,
      m' ((c.tc : Thread Cert.RefUpRestIdeal.nD Cert.RefUpRestIdeal.τ).loc Cert.RefUpRestIdeal.main_arg0) = m ((c.tc : Thread Cert.UpRestIdeal.nD Cert.UpRestIdeal.τ).loc Cert.UpRestIdeal.main_arg0)
      ∧ m' ((c.tc : Thread Cert.RefUpRestIdeal.nD Cert.RefUpRestIdeal.τ).loc Cert.RefUpRestIdeal.main_arg1) = m ((c.tc : Thread Cert.UpRestIdeal.nD Cert.UpRestIdeal.τ).loc Cert.UpRestIdeal.main_arg1)
      ∧ m' ((c.tc : Thread Cert.RefUpRestIdeal.nD Cert.RefUpRestIdeal.τ).loc Cert.RefUpRestIdeal.main_arg2) = m ((c.tc : Thread Cert.UpRestIdeal.nD Cert.UpRestIdeal.τ).loc Cert.UpRestIdeal.main_arg2)
      ∧ m' ((c.tc : Thread Cert.RefUpRestIdeal.nD Cert.RefUpRestIdeal.τ).loc Cert.RefUpRestIdeal.main_arg3) = m ((c.tc : Thread Cert.UpRestIdeal.nD Cert.UpRestIdeal.τ).loc Cert.UpRestIdeal.main_arg3)) →
    ∃ (v0 : (c : Dev Cert.UpRestIdeal.nD) → Buf (Elt Ideal) ((c.tc : Thread Cert.UpRestIdeal.nD Cert.UpRestIdeal.τ).loc Cert.UpRestIdeal.main_v0)),
      θ_run (Cert.UpRestIdeal.defs (F := Ideal)) (onTc (τ := Cert.UpRestIdeal.τ) (Cert.UpRestIdeal.main (F := Ideal))) ⟨m, fun _ => 0, g⟩ (fun r => ∀ c : Dev Cert.UpRestIdeal.nD,
          r.2.mem ((c.tc : Thread Cert.UpRestIdeal.nD Cert.UpRestIdeal.τ).loc Cert.UpRestIdeal.main_v0) = v0 c
          ∧ r.2.mem ((c.tc : Thread Cert.UpRestIdeal.nD Cert.UpRestIdeal.τ).loc Cert.UpRestIdeal.main_arg0) = m ((c.tc : Thread Cert.UpRestIdeal.nD Cert.UpRestIdeal.τ).loc Cert.UpRestIdeal.main_arg0)
          ∧ r.2.mem ((c.tc : Thread Cert.UpRestIdeal.nD Cert.UpRestIdeal.τ).loc Cert.UpRestIdeal.main_arg1) = m ((c.tc : Thread Cert.UpRestIdeal.nD Cert.UpRestIdeal.τ).loc Cert.UpRestIdeal.main_arg1)
          ∧ r.2.mem ((c.tc : Thread Cert.UpRestIdeal.nD Cert.UpRestIdeal.τ).loc Cert.UpRestIdeal.main_arg2) = m ((c.tc : Thread Cert.UpRestIdeal.nD Cert.UpRestIdeal.τ).loc Cert.UpRestIdeal.main_arg2)
          ∧ r.2.mem ((c.tc : Thread Cert.UpRestIdeal.nD Cert.UpRestIdeal.τ).loc Cert.UpRestIdeal.main_arg3) = m ((c.tc : Thread Cert.UpRestIdeal.nD Cert.UpRestIdeal.τ).loc Cert.UpRestIdeal.main_arg3))
      ∧ θ_run (Cert.RefUpRestIdeal.defs (F := Ideal)) (onTc (τ := Cert.RefUpRestIdeal.τ) (Cert.RefUpRestIdeal.main (F := Ideal))) ⟨m', fun _ => 0, g'⟩ (fun r => ∀ c : Dev Cert.RefUpRestIdeal.nD,
          r.2.mem ((c.tc : Thread Cert.RefUpRestIdeal.nD Cert.RefUpRestIdeal.τ).loc Cert.RefUpRestIdeal.main_v24) = v0 c
          ∧ r.2.mem ((c.tc : Thread Cert.RefUpRestIdeal.nD Cert.RefUpRestIdeal.τ).loc Cert.RefUpRestIdeal.main_arg0) = m' ((c.tc : Thread Cert.RefUpRestIdeal.nD Cert.RefUpRestIdeal.τ).loc Cert.RefUpRestIdeal.main_arg0)
          ∧ r.2.mem ((c.tc : Thread Cert.RefUpRestIdeal.nD Cert.RefUpRestIdeal.τ).loc Cert.RefUpRestIdeal.main_arg1) = m' ((c.tc : Thread Cert.RefUpRestIdeal.nD Cert.RefUpRestIdeal.τ).loc Cert.RefUpRestIdeal.main_arg1)
          ∧ r.2.mem ((c.tc : Thread Cert.RefUpRestIdeal.nD Cert.RefUpRestIdeal.τ).loc Cert.RefUpRestIdeal.main_arg2) = m' ((c.tc : Thread Cert.RefUpRestIdeal.nD Cert.RefUpRestIdeal.τ).loc Cert.RefUpRestIdeal.main_arg2)
          ∧ r.2.mem ((c.tc : Thread Cert.RefUpRestIdeal.nD Cert.RefUpRestIdeal.τ).loc Cert.RefUpRestIdeal.main_arg3) = m' ((c.tc : Thread Cert.RefUpRestIdeal.nD Cert.RefUpRestIdeal.τ).loc Cert.RefUpRestIdeal.main_arg3))

def preserves_AdamIn_AdamInIdeal : Prop :=
  True

def algebraic_AdamInIdeal_RefAdamInIdeal [hAdamInIdeal : Cert.AdamInIdeal.Facts] [hRefAdamInIdeal : Cert.RefAdamInIdeal.Facts] [hPre_adam_in_place : Cert.Pre_adam_in_place.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.RefAdamInIdeal.nD Cert.RefAdamInIdeal.τ Cert.RefAdamInIdeal.sig) → Buf (Elt Ideal) ℓ) (g' : Dev Cert.RefAdamInIdeal.nD → PrngReg), Pre_AdamInIdeal m →
    (∀ c : Dev Cert.AdamInIdeal.nD,
      m' ((c.tc : Thread Cert.RefAdamInIdeal.nD Cert.RefAdamInIdeal.τ).loc Cert.RefAdamInIdeal.main_arg0) = m ((c.tc : Thread Cert.AdamInIdeal.nD Cert.AdamInIdeal.τ).loc Cert.AdamInIdeal.main_arg0)
      ∧ m' ((c.tc : Thread Cert.RefAdamInIdeal.nD Cert.RefAdamInIdeal.τ).loc Cert.RefAdamInIdeal.main_arg1) = m ((c.tc : Thread Cert.AdamInIdeal.nD Cert.AdamInIdeal.τ).loc Cert.AdamInIdeal.main_arg1)
      ∧ m' ((c.tc : Thread Cert.RefAdamInIdeal.nD Cert.RefAdamInIdeal.τ).loc Cert.RefAdamInIdeal.main_arg2) = m ((c.tc : Thread Cert.AdamInIdeal.nD Cert.AdamInIdeal.τ).loc Cert.AdamInIdeal.main_arg2)
      ∧ m' ((c.tc : Thread Cert.RefAdamInIdeal.nD Cert.RefAdamInIdeal.τ).loc Cert.RefAdamInIdeal.main_arg3) = m ((c.tc : Thread Cert.AdamInIdeal.nD Cert.AdamInIdeal.τ).loc Cert.AdamInIdeal.main_arg3)
      ∧ m' ((c.tc : Thread Cert.RefAdamInIdeal.nD Cert.RefAdamInIdeal.τ).loc Cert.RefAdamInIdeal.main_arg4) = m ((c.tc : Thread Cert.AdamInIdeal.nD Cert.AdamInIdeal.τ).loc Cert.AdamInIdeal.main_arg4)
      ∧ m' ((c.tc : Thread Cert.RefAdamInIdeal.nD Cert.RefAdamInIdeal.τ).loc Cert.RefAdamInIdeal.main_arg5) = m ((c.tc : Thread Cert.AdamInIdeal.nD Cert.AdamInIdeal.τ).loc Cert.AdamInIdeal.main_arg5)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
          ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4)
          ∧ r.2.mem ((c.tc : Thread Cert.AdamInIdeal.nD Cert.AdamInIdeal.τ).loc Cert.AdamInIdeal.main_arg5) = m ((c.tc : Thread Cert.AdamInIdeal.nD Cert.AdamInIdeal.τ).loc Cert.AdamInIdeal.main_arg5))
      ∧ θ_run (Cert.RefAdamInIdeal.defs (F := Ideal)) (onTc (τ := Cert.RefAdamInIdeal.τ) (Cert.RefAdamInIdeal.main (F := Ideal))) ⟨m', fun _ => 0, g'⟩ (fun r => ∀ c : Dev Cert.RefAdamInIdeal.nD,
          r.2.mem ((c.tc : Thread Cert.RefAdamInIdeal.nD Cert.RefAdamInIdeal.τ).loc Cert.RefAdamInIdeal.main_v6) = v0 c
          ∧ r.2.mem ((c.tc : Thread Cert.RefAdamInIdeal.nD Cert.RefAdamInIdeal.τ).loc Cert.RefAdamInIdeal.main_v30) = v1 c
          ∧ r.2.mem ((c.tc : Thread Cert.RefAdamInIdeal.nD Cert.RefAdamInIdeal.τ).loc Cert.RefAdamInIdeal.main_v11) = v2 c
          ∧ r.2.mem ((c.tc : Thread Cert.RefAdamInIdeal.nD Cert.RefAdamInIdeal.τ).loc Cert.RefAdamInIdeal.main_v17) = v3 c
          ∧ r.2.mem ((c.tc : Thread Cert.RefAdamInIdeal.nD Cert.RefAdamInIdeal.τ).loc Cert.RefAdamInIdeal.main_arg0) = m' ((c.tc : Thread Cert.RefAdamInIdeal.nD Cert.RefAdamInIdeal.τ).loc Cert.RefAdamInIdeal.main_arg0)
          ∧ r.2.mem ((c.tc : Thread Cert.RefAdamInIdeal.nD Cert.RefAdamInIdeal.τ).loc Cert.RefAdamInIdeal.main_arg1) = m' ((c.tc : Thread Cert.RefAdamInIdeal.nD Cert.RefAdamInIdeal.τ).loc Cert.RefAdamInIdeal.main_arg1)
          ∧ r.2.mem ((c.tc : Thread Cert.RefAdamInIdeal.nD Cert.RefAdamInIdeal.τ).loc Cert.RefAdamInIdeal.main_arg2) = m' ((c.tc : Thread Cert.RefAdamInIdeal.nD Cert.RefAdamInIdeal.τ).loc Cert.RefAdamInIdeal.main_arg2)
          ∧ r.2.mem ((c.tc : Thread Cert.RefAdamInIdeal.nD Cert.RefAdamInIdeal.τ).loc Cert.RefAdamInIdeal.main_arg3) = m' ((c.tc : Thread Cert.RefAdamInIdeal.nD Cert.RefAdamInIdeal.τ).loc Cert.RefAdamInIdeal.main_arg3)
          ∧ r.2.mem ((c.tc : Thread Cert.RefAdamInIdeal.nD Cert.RefAdamInIdeal.τ).loc Cert.RefAdamInIdeal.main_arg4) = m' ((c.tc : Thread Cert.RefAdamInIdeal.nD Cert.RefAdamInIdeal.τ).loc Cert.RefAdamInIdeal.main_arg4)
          ∧ r.2.mem ((c.tc : Thread Cert.RefAdamInIdeal.nD Cert.RefAdamInIdeal.τ).loc Cert.RefAdamInIdeal.main_arg5) = m' ((c.tc : Thread Cert.RefAdamInIdeal.nD Cert.RefAdamInIdeal.τ).loc Cert.RefAdamInIdeal.main_arg5))

def preserves_AdamOut_AdamOutIdeal : Prop :=
  True

def algebraic_AdamOutIdeal_RefAdamOutIdeal [hAdamOutIdeal : Cert.AdamOutIdeal.Facts] [hRefAdamOutIdeal : Cert.RefAdamOutIdeal.Facts] [hPre_adam_out_place : Cert.Pre_adam_out_place.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.RefAdamOutIdeal.nD Cert.RefAdamOutIdeal.τ Cert.RefAdamOutIdeal.sig) → Buf (Elt Ideal) ℓ) (g' : Dev Cert.RefAdamOutIdeal.nD → PrngReg), Pre_AdamOutIdeal m →
    (∀ c : Dev Cert.AdamOutIdeal.nD,
      m' ((c.tc : Thread Cert.RefAdamOutIdeal.nD Cert.RefAdamOutIdeal.τ).loc Cert.RefAdamOutIdeal.main_arg0) = m ((c.tc : Thread Cert.AdamOutIdeal.nD Cert.AdamOutIdeal.τ).loc Cert.AdamOutIdeal.main_arg0)
      ∧ m' ((c.tc : Thread Cert.RefAdamOutIdeal.nD Cert.RefAdamOutIdeal.τ).loc Cert.RefAdamOutIdeal.main_arg1) = m ((c.tc : Thread Cert.AdamOutIdeal.nD Cert.AdamOutIdeal.τ).loc Cert.AdamOutIdeal.main_arg1)
      ∧ m' ((c.tc : Thread Cert.RefAdamOutIdeal.nD Cert.RefAdamOutIdeal.τ).loc Cert.RefAdamOutIdeal.main_arg2) = m ((c.tc : Thread Cert.AdamOutIdeal.nD Cert.AdamOutIdeal.τ).loc Cert.AdamOutIdeal.main_arg2)
      ∧ m' ((c.tc : Thread Cert.RefAdamOutIdeal.nD Cert.RefAdamOutIdeal.τ).loc Cert.RefAdamOutIdeal.main_arg3) = m ((c.tc : Thread Cert.AdamOutIdeal.nD Cert.AdamOutIdeal.τ).loc Cert.AdamOutIdeal.main_arg3)
      ∧ m' ((c.tc : Thread Cert.RefAdamOutIdeal.nD Cert.RefAdamOutIdeal.τ).loc Cert.RefAdamOutIdeal.main_arg4) = m ((c.tc : Thread Cert.AdamOutIdeal.nD Cert.AdamOutIdeal.τ).loc Cert.AdamOutIdeal.main_arg4)
      ∧ m' ((c.tc : Thread Cert.RefAdamOutIdeal.nD Cert.RefAdamOutIdeal.τ).loc Cert.RefAdamOutIdeal.main_arg5) = m ((c.tc : Thread Cert.AdamOutIdeal.nD Cert.AdamOutIdeal.τ).loc Cert.AdamOutIdeal.main_arg5)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
          ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4)
          ∧ r.2.mem ((c.tc : Thread Cert.AdamOutIdeal.nD Cert.AdamOutIdeal.τ).loc Cert.AdamOutIdeal.main_arg5) = m ((c.tc : Thread Cert.AdamOutIdeal.nD Cert.AdamOutIdeal.τ).loc Cert.AdamOutIdeal.main_arg5))
      ∧ θ_run (Cert.RefAdamOutIdeal.defs (F := Ideal)) (onTc (τ := Cert.RefAdamOutIdeal.τ) (Cert.RefAdamOutIdeal.main (F := Ideal))) ⟨m', fun _ => 0, g'⟩ (fun r => ∀ c : Dev Cert.RefAdamOutIdeal.nD,
          r.2.mem ((c.tc : Thread Cert.RefAdamOutIdeal.nD Cert.RefAdamOutIdeal.τ).loc Cert.RefAdamOutIdeal.main_v6) = v0 c
          ∧ r.2.mem ((c.tc : Thread Cert.RefAdamOutIdeal.nD Cert.RefAdamOutIdeal.τ).loc Cert.RefAdamOutIdeal.main_v30) = v1 c
          ∧ r.2.mem ((c.tc : Thread Cert.RefAdamOutIdeal.nD Cert.RefAdamOutIdeal.τ).loc Cert.RefAdamOutIdeal.main_v11) = v2 c
          ∧ r.2.mem ((c.tc : Thread Cert.RefAdamOutIdeal.nD Cert.RefAdamOutIdeal.τ).loc Cert.RefAdamOutIdeal.main_v17) = v3 c
          ∧ r.2.mem ((c.tc : Thread Cert.RefAdamOutIdeal.nD Cert.RefAdamOutIdeal.τ).loc Cert.RefAdamOutIdeal.main_arg0) = m' ((c.tc : Thread Cert.RefAdamOutIdeal.nD Cert.RefAdamOutIdeal.τ).loc Cert.RefAdamOutIdeal.main_arg0)
          ∧ r.2.mem ((c.tc : Thread Cert.RefAdamOutIdeal.nD Cert.RefAdamOutIdeal.τ).loc Cert.RefAdamOutIdeal.main_arg1) = m' ((c.tc : Thread Cert.RefAdamOutIdeal.nD Cert.RefAdamOutIdeal.τ).loc Cert.RefAdamOutIdeal.main_arg1)
          ∧ r.2.mem ((c.tc : Thread Cert.RefAdamOutIdeal.nD Cert.RefAdamOutIdeal.τ).loc Cert.RefAdamOutIdeal.main_arg2) = m' ((c.tc : Thread Cert.RefAdamOutIdeal.nD Cert.RefAdamOutIdeal.τ).loc Cert.RefAdamOutIdeal.main_arg2)
          ∧ r.2.mem ((c.tc : Thread Cert.RefAdamOutIdeal.nD Cert.RefAdamOutIdeal.τ).loc Cert.RefAdamOutIdeal.main_arg3) = m' ((c.tc : Thread Cert.RefAdamOutIdeal.nD Cert.RefAdamOutIdeal.τ).loc Cert.RefAdamOutIdeal.main_arg3)
          ∧ r.2.mem ((c.tc : Thread Cert.RefAdamOutIdeal.nD Cert.RefAdamOutIdeal.τ).loc Cert.RefAdamOutIdeal.main_arg4) = m' ((c.tc : Thread Cert.RefAdamOutIdeal.nD Cert.RefAdamOutIdeal.τ).loc Cert.RefAdamOutIdeal.main_arg4)
          ∧ r.2.mem ((c.tc : Thread Cert.RefAdamOutIdeal.nD Cert.RefAdamOutIdeal.τ).loc Cert.RefAdamOutIdeal.main_arg5) = m' ((c.tc : Thread Cert.RefAdamOutIdeal.nD Cert.RefAdamOutIdeal.τ).loc Cert.RefAdamOutIdeal.main_arg5))

def preserves_AdamUp_AdamUpIdeal : Prop :=
  True

def algebraic_AdamUpIdeal_RefAdamUpIdeal [hAdamUpIdeal : Cert.AdamUpIdeal.Facts] [hRefAdamUpIdeal : Cert.RefAdamUpIdeal.Facts] [hPre_adam_up_place : Cert.Pre_adam_up_place.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.RefAdamUpIdeal.nD Cert.RefAdamUpIdeal.τ Cert.RefAdamUpIdeal.sig) → Buf (Elt Ideal) ℓ) (g' : Dev Cert.RefAdamUpIdeal.nD → PrngReg), Pre_AdamUpIdeal m →
    (∀ c : Dev Cert.AdamUpIdeal.nD,
      m' ((c.tc : Thread Cert.RefAdamUpIdeal.nD Cert.RefAdamUpIdeal.τ).loc Cert.RefAdamUpIdeal.main_arg0) = m ((c.tc : Thread Cert.AdamUpIdeal.nD Cert.AdamUpIdeal.τ).loc Cert.AdamUpIdeal.main_arg0)
      ∧ m' ((c.tc : Thread Cert.RefAdamUpIdeal.nD Cert.RefAdamUpIdeal.τ).loc Cert.RefAdamUpIdeal.main_arg1) = m ((c.tc : Thread Cert.AdamUpIdeal.nD Cert.AdamUpIdeal.τ).loc Cert.AdamUpIdeal.main_arg1)
      ∧ m' ((c.tc : Thread Cert.RefAdamUpIdeal.nD Cert.RefAdamUpIdeal.τ).loc Cert.RefAdamUpIdeal.main_arg2) = m ((c.tc : Thread Cert.AdamUpIdeal.nD Cert.AdamUpIdeal.τ).loc Cert.AdamUpIdeal.main_arg2)
      ∧ m' ((c.tc : Thread Cert.RefAdamUpIdeal.nD Cert.RefAdamUpIdeal.τ).loc Cert.RefAdamUpIdeal.main_arg3) = m ((c.tc : Thread Cert.AdamUpIdeal.nD Cert.AdamUpIdeal.τ).loc Cert.AdamUpIdeal.main_arg3)
      ∧ m' ((c.tc : Thread Cert.RefAdamUpIdeal.nD Cert.RefAdamUpIdeal.τ).loc Cert.RefAdamUpIdeal.main_arg4) = m ((c.tc : Thread Cert.AdamUpIdeal.nD Cert.AdamUpIdeal.τ).loc Cert.AdamUpIdeal.main_arg4)
      ∧ m' ((c.tc : Thread Cert.RefAdamUpIdeal.nD Cert.RefAdamUpIdeal.τ).loc Cert.RefAdamUpIdeal.main_arg5) = m ((c.tc : Thread Cert.AdamUpIdeal.nD Cert.AdamUpIdeal.τ).loc Cert.AdamUpIdeal.main_arg5)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)) (v3 : (c : Dev Cert.AdamUpIdeal.nD) → Buf (Elt Ideal) ((c.tc : Thread Cert.AdamUpIdeal.nD Cert.AdamUpIdeal.τ).loc Cert.AdamUpIdeal.main_v0_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_v0_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
          ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4)
          ∧ r.2.mem ((c.tc : Thread Cert.AdamUpIdeal.nD Cert.AdamUpIdeal.τ).loc Cert.AdamUpIdeal.main_arg5) = m ((c.tc : Thread Cert.AdamUpIdeal.nD Cert.AdamUpIdeal.τ).loc Cert.AdamUpIdeal.main_arg5))
      ∧ θ_run (Cert.RefAdamUpIdeal.defs (F := Ideal)) (onTc (τ := Cert.RefAdamUpIdeal.τ) (Cert.RefAdamUpIdeal.main (F := Ideal))) ⟨m', fun _ => 0, g'⟩ (fun r => ∀ c : Dev Cert.RefAdamUpIdeal.nD,
          r.2.mem ((c.tc : Thread Cert.RefAdamUpIdeal.nD Cert.RefAdamUpIdeal.τ).loc Cert.RefAdamUpIdeal.main_v6) = v0 c
          ∧ r.2.mem ((c.tc : Thread Cert.RefAdamUpIdeal.nD Cert.RefAdamUpIdeal.τ).loc Cert.RefAdamUpIdeal.main_v30) = v1 c
          ∧ r.2.mem ((c.tc : Thread Cert.RefAdamUpIdeal.nD Cert.RefAdamUpIdeal.τ).loc Cert.RefAdamUpIdeal.main_v11) = v2 c
          ∧ r.2.mem ((c.tc : Thread Cert.RefAdamUpIdeal.nD Cert.RefAdamUpIdeal.τ).loc Cert.RefAdamUpIdeal.main_v17) = v3 c
          ∧ r.2.mem ((c.tc : Thread Cert.RefAdamUpIdeal.nD Cert.RefAdamUpIdeal.τ).loc Cert.RefAdamUpIdeal.main_arg0) = m' ((c.tc : Thread Cert.RefAdamUpIdeal.nD Cert.RefAdamUpIdeal.τ).loc Cert.RefAdamUpIdeal.main_arg0)
          ∧ r.2.mem ((c.tc : Thread Cert.RefAdamUpIdeal.nD Cert.RefAdamUpIdeal.τ).loc Cert.RefAdamUpIdeal.main_arg1) = m' ((c.tc : Thread Cert.RefAdamUpIdeal.nD Cert.RefAdamUpIdeal.τ).loc Cert.RefAdamUpIdeal.main_arg1)
          ∧ r.2.mem ((c.tc : Thread Cert.RefAdamUpIdeal.nD Cert.RefAdamUpIdeal.τ).loc Cert.RefAdamUpIdeal.main_arg2) = m' ((c.tc : Thread Cert.RefAdamUpIdeal.nD Cert.RefAdamUpIdeal.τ).loc Cert.RefAdamUpIdeal.main_arg2)
          ∧ r.2.mem ((c.tc : Thread Cert.RefAdamUpIdeal.nD Cert.RefAdamUpIdeal.τ).loc Cert.RefAdamUpIdeal.main_arg3) = m' ((c.tc : Thread Cert.RefAdamUpIdeal.nD Cert.RefAdamUpIdeal.τ).loc Cert.RefAdamUpIdeal.main_arg3)
          ∧ r.2.mem ((c.tc : Thread Cert.RefAdamUpIdeal.nD Cert.RefAdamUpIdeal.τ).loc Cert.RefAdamUpIdeal.main_arg4) = m' ((c.tc : Thread Cert.RefAdamUpIdeal.nD Cert.RefAdamUpIdeal.τ).loc Cert.RefAdamUpIdeal.main_arg4)
          ∧ r.2.mem ((c.tc : Thread Cert.RefAdamUpIdeal.nD Cert.RefAdamUpIdeal.τ).loc Cert.RefAdamUpIdeal.main_arg5) = m' ((c.tc : Thread Cert.RefAdamUpIdeal.nD Cert.RefAdamUpIdeal.τ).loc Cert.RefAdamUpIdeal.main_arg5))

def preserves_AdamDown_AdamDownIdeal : Prop :=
  True

def algebraic_AdamDownIdeal_RefAdamDownIdeal [hAdamDownIdeal : Cert.AdamDownIdeal.Facts] [hRefAdamDownIdeal : Cert.RefAdamDownIdeal.Facts] [hPre_adam_down_place : Cert.Pre_adam_down_place.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.RefAdamDownIdeal.nD Cert.RefAdamDownIdeal.τ Cert.RefAdamDownIdeal.sig) → Buf (Elt Ideal) ℓ) (g' : Dev Cert.RefAdamDownIdeal.nD → PrngReg), Pre_AdamDownIdeal m →
    (∀ c : Dev Cert.AdamDownIdeal.nD,
      m' ((c.tc : Thread Cert.RefAdamDownIdeal.nD Cert.RefAdamDownIdeal.τ).loc Cert.RefAdamDownIdeal.main_arg0) = m ((c.tc : Thread Cert.AdamDownIdeal.nD Cert.AdamDownIdeal.τ).loc Cert.AdamDownIdeal.main_arg0)
      ∧ m' ((c.tc : Thread Cert.RefAdamDownIdeal.nD Cert.RefAdamDownIdeal.τ).loc Cert.RefAdamDownIdeal.main_arg1) = m ((c.tc : Thread Cert.AdamDownIdeal.nD Cert.AdamDownIdeal.τ).loc Cert.AdamDownIdeal.main_arg1)
      ∧ m' ((c.tc : Thread Cert.RefAdamDownIdeal.nD Cert.RefAdamDownIdeal.τ).loc Cert.RefAdamDownIdeal.main_arg2) = m ((c.tc : Thread Cert.AdamDownIdeal.nD Cert.AdamDownIdeal.τ).loc Cert.AdamDownIdeal.main_arg2)
      ∧ m' ((c.tc : Thread Cert.RefAdamDownIdeal.nD Cert.RefAdamDownIdeal.τ).loc Cert.RefAdamDownIdeal.main_arg3) = m ((c.tc : Thread Cert.AdamDownIdeal.nD Cert.AdamDownIdeal.τ).loc Cert.AdamDownIdeal.main_arg3)
      ∧ m' ((c.tc : Thread Cert.RefAdamDownIdeal.nD Cert.RefAdamDownIdeal.τ).loc Cert.RefAdamDownIdeal.main_arg4) = m ((c.tc : Thread Cert.AdamDownIdeal.nD Cert.AdamDownIdeal.τ).loc Cert.AdamDownIdeal.main_arg4)
      ∧ m' ((c.tc : Thread Cert.RefAdamDownIdeal.nD Cert.RefAdamDownIdeal.τ).loc Cert.RefAdamDownIdeal.main_arg5) = m ((c.tc : Thread Cert.AdamDownIdeal.nD Cert.AdamDownIdeal.τ).loc Cert.AdamDownIdeal.main_arg5)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)) (v3 : (c : Dev Cert.AdamDownIdeal.nD) → Buf (Elt Ideal) ((c.tc : Thread Cert.AdamDownIdeal.nD Cert.AdamDownIdeal.τ).loc Cert.AdamDownIdeal.main_v0_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_v0_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
          ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4)
          ∧ r.2.mem ((c.tc : Thread Cert.AdamDownIdeal.nD Cert.AdamDownIdeal.τ).loc Cert.AdamDownIdeal.main_arg5) = m ((c.tc : Thread Cert.AdamDownIdeal.nD Cert.AdamDownIdeal.τ).loc Cert.AdamDownIdeal.main_arg5))
      ∧ θ_run (Cert.RefAdamDownIdeal.defs (F := Ideal)) (onTc (τ := Cert.RefAdamDownIdeal.τ) (Cert.RefAdamDownIdeal.main (F := Ideal))) ⟨m', fun _ => 0, g'⟩ (fun r => ∀ c : Dev Cert.RefAdamDownIdeal.nD,
          r.2.mem ((c.tc : Thread Cert.RefAdamDownIdeal.nD Cert.RefAdamDownIdeal.τ).loc Cert.RefAdamDownIdeal.main_v6) = v0 c
          ∧ r.2.mem ((c.tc : Thread Cert.RefAdamDownIdeal.nD Cert.RefAdamDownIdeal.τ).loc Cert.RefAdamDownIdeal.main_v30) = v1 c
          ∧ r.2.mem ((c.tc : Thread Cert.RefAdamDownIdeal.nD Cert.RefAdamDownIdeal.τ).loc Cert.RefAdamDownIdeal.main_v11) = v2 c
          ∧ r.2.mem ((c.tc : Thread Cert.RefAdamDownIdeal.nD Cert.RefAdamDownIdeal.τ).loc Cert.RefAdamDownIdeal.main_v17) = v3 c
          ∧ r.2.mem ((c.tc : Thread Cert.RefAdamDownIdeal.nD Cert.RefAdamDownIdeal.τ).loc Cert.RefAdamDownIdeal.main_arg0) = m' ((c.tc : Thread Cert.RefAdamDownIdeal.nD Cert.RefAdamDownIdeal.τ).loc Cert.RefAdamDownIdeal.main_arg0)
          ∧ r.2.mem ((c.tc : Thread Cert.RefAdamDownIdeal.nD Cert.RefAdamDownIdeal.τ).loc Cert.RefAdamDownIdeal.main_arg1) = m' ((c.tc : Thread Cert.RefAdamDownIdeal.nD Cert.RefAdamDownIdeal.τ).loc Cert.RefAdamDownIdeal.main_arg1)
          ∧ r.2.mem ((c.tc : Thread Cert.RefAdamDownIdeal.nD Cert.RefAdamDownIdeal.τ).loc Cert.RefAdamDownIdeal.main_arg2) = m' ((c.tc : Thread Cert.RefAdamDownIdeal.nD Cert.RefAdamDownIdeal.τ).loc Cert.RefAdamDownIdeal.main_arg2)
          ∧ r.2.mem ((c.tc : Thread Cert.RefAdamDownIdeal.nD Cert.RefAdamDownIdeal.τ).loc Cert.RefAdamDownIdeal.main_arg3) = m' ((c.tc : Thread Cert.RefAdamDownIdeal.nD Cert.RefAdamDownIdeal.τ).loc Cert.RefAdamDownIdeal.main_arg3)
          ∧ r.2.mem ((c.tc : Thread Cert.RefAdamDownIdeal.nD Cert.RefAdamDownIdeal.τ).loc Cert.RefAdamDownIdeal.main_arg4) = m' ((c.tc : Thread Cert.RefAdamDownIdeal.nD Cert.RefAdamDownIdeal.τ).loc Cert.RefAdamDownIdeal.main_arg4)
          ∧ r.2.mem ((c.tc : Thread Cert.RefAdamDownIdeal.nD Cert.RefAdamDownIdeal.τ).loc Cert.RefAdamDownIdeal.main_arg5) = m' ((c.tc : Thread Cert.RefAdamDownIdeal.nD Cert.RefAdamDownIdeal.τ).loc Cert.RefAdamDownIdeal.main_arg5))

def Claim : Prop :=
  ∃ (hKernel : Cert.Kernel.Facts) (hKernelIdeal : Cert.KernelIdeal.Facts) (hReferenceIdeal : Cert.ReferenceIdeal.Facts) (hGwUp : Cert.GwUp.Facts) (hGwUpIdeal : Cert.GwUpIdeal.Facts) (hRefGwUpIdeal : Cert.RefGwUpIdeal.Facts) (hDh2 : Cert.Dh2.Facts) (hDh2Ideal : Cert.Dh2Ideal.Facts) (hRefDh2Ideal : Cert.RefDh2Ideal.Facts) (hGwDown : Cert.GwDown.Facts) (hGwDownIdeal : Cert.GwDownIdeal.Facts) (hRefGwDownIdeal : Cert.RefGwDownIdeal.Facts) (hDact : Cert.Dact.Facts) (hDactIdeal : Cert.DactIdeal.Facts) (hRefDactIdeal : Cert.RefDactIdeal.Facts) (hGwIn : Cert.GwIn.Facts) (hGwInIdeal : Cert.GwInIdeal.Facts) (hRefGwInIdeal : Cert.RefGwInIdeal.Facts) (hDh1 : Cert.Dh1.Facts) (hDh1Ideal : Cert.Dh1Ideal.Facts) (hRefDh1Ideal : Cert.RefDh1Ideal.Facts) (hGwOut : Cert.GwOut.Facts) (hGwOutIdeal : Cert.GwOutIdeal.Facts) (hRefGwOutIdeal : Cert.RefGwOutIdeal.Facts) (hDy : Cert.Dy.Facts) (hDyIdeal : Cert.DyIdeal.Facts) (hRefDyIdeal : Cert.RefDyIdeal.Facts) (hDown : Cert.Down.Facts) (hDownIdeal : Cert.DownIdeal.Facts) (hRefDownIdeal : Cert.RefDownIdeal.Facts) (hOut : Cert.Out.Facts) (hOutIdeal : Cert.OutIdeal.Facts) (hRefOutIdeal : Cert.RefOutIdeal.Facts) (hProjNear : Cert.ProjNear.Facts) (hProjNearIdeal : Cert.ProjNearIdeal.Facts) (hRefProjNearIdeal : Cert.RefProjNearIdeal.Facts) (hProjRest : Cert.ProjRest.Facts) (hProjRestIdeal : Cert.ProjRestIdeal.Facts) (hRefProjRestIdeal : Cert.RefProjRestIdeal.Facts) (hUpNear : Cert.UpNear.Facts) (hUpNearIdeal : Cert.UpNearIdeal.Facts) (hRefUpNearIdeal : Cert.RefUpNearIdeal.Facts) (hUpRest : Cert.UpRest.Facts) (hUpRestIdeal : Cert.UpRestIdeal.Facts) (hRefUpRestIdeal : Cert.RefUpRestIdeal.Facts) (hAdamIn : Cert.AdamIn.Facts) (hAdamInIdeal : Cert.AdamInIdeal.Facts) (hRefAdamInIdeal : Cert.RefAdamInIdeal.Facts) (hAdamOut : Cert.AdamOut.Facts) (hAdamOutIdeal : Cert.AdamOutIdeal.Facts) (hRefAdamOutIdeal : Cert.RefAdamOutIdeal.Facts) (hAdamUp : Cert.AdamUp.Facts) (hAdamUpIdeal : Cert.AdamUpIdeal.Facts) (hRefAdamUpIdeal : Cert.RefAdamUpIdeal.Facts) (hAdamDown : Cert.AdamDown.Facts) (hAdamDownIdeal : Cert.AdamDownIdeal.Facts) (hRefAdamDownIdeal : Cert.RefAdamDownIdeal.Facts) (hPre_finite : Cert.Pre_finite.Facts) (hPre_proj_near_ids : Cert.Pre_proj_near_ids.Facts) (hPre_proj_rest_ids : Cert.Pre_proj_rest_ids.Facts) (hPre_up_near_ids : Cert.Pre_up_near_ids.Facts) (hPre_up_rest_ids : Cert.Pre_up_rest_ids.Facts) (hPre_adam_in_place : Cert.Pre_adam_in_place.Facts) (hPre_adam_out_place : Cert.Pre_adam_out_place.Facts) (hPre_adam_up_place : Cert.Pre_adam_up_place.Facts) (hPre_adam_down_place : Cert.Pre_adam_down_place.Facts) (hOn_written : Cert.On_written.Facts) (hOn_proj_near_part : Cert.On_proj_near_part.Facts) (hOn_up_near_part : Cert.On_up_near_part.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_GwUp (hGwUp := hGwUp)
    ∧ quiescent_GwUpIdeal (hGwUpIdeal := hGwUpIdeal)
    ∧ quiescent_RefGwUpIdeal (hRefGwUpIdeal := hRefGwUpIdeal)
    ∧ quiescent_Dh2 (hDh2 := hDh2)
    ∧ quiescent_Dh2Ideal (hDh2Ideal := hDh2Ideal)
    ∧ quiescent_RefDh2Ideal (hRefDh2Ideal := hRefDh2Ideal)
    ∧ quiescent_GwDown (hGwDown := hGwDown)
    ∧ quiescent_GwDownIdeal (hGwDownIdeal := hGwDownIdeal)
    ∧ quiescent_RefGwDownIdeal (hRefGwDownIdeal := hRefGwDownIdeal)
    ∧ quiescent_Dact (hDact := hDact)
    ∧ quiescent_DactIdeal (hDactIdeal := hDactIdeal)
    ∧ quiescent_RefDactIdeal (hRefDactIdeal := hRefDactIdeal)
    ∧ quiescent_GwIn (hGwIn := hGwIn)
    ∧ quiescent_GwInIdeal (hGwInIdeal := hGwInIdeal)
    ∧ quiescent_RefGwInIdeal (hRefGwInIdeal := hRefGwInIdeal)
    ∧ quiescent_Dh1 (hDh1 := hDh1)
    ∧ quiescent_Dh1Ideal (hDh1Ideal := hDh1Ideal)
    ∧ quiescent_RefDh1Ideal (hRefDh1Ideal := hRefDh1Ideal)
    ∧ quiescent_GwOut (hGwOut := hGwOut)
    ∧ quiescent_GwOutIdeal (hGwOutIdeal := hGwOutIdeal)
    ∧ quiescent_RefGwOutIdeal (hRefGwOutIdeal := hRefGwOutIdeal)
    ∧ quiescent_Dy (hDy := hDy)
    ∧ quiescent_DyIdeal (hDyIdeal := hDyIdeal)
    ∧ quiescent_RefDyIdeal (hRefDyIdeal := hRefDyIdeal)
    ∧ quiescent_Down (hDown := hDown)
    ∧ quiescent_DownIdeal (hDownIdeal := hDownIdeal)
    ∧ quiescent_RefDownIdeal (hRefDownIdeal := hRefDownIdeal)
    ∧ quiescent_Out (hOut := hOut)
    ∧ quiescent_OutIdeal (hOutIdeal := hOutIdeal)
    ∧ quiescent_RefOutIdeal (hRefOutIdeal := hRefOutIdeal)
    ∧ quiescent_ProjNear (hProjNear := hProjNear) (hPre_proj_near_ids := hPre_proj_near_ids)
    ∧ quiescent_ProjNearIdeal (hProjNearIdeal := hProjNearIdeal) (hPre_proj_near_ids := hPre_proj_near_ids)
    ∧ quiescent_RefProjNearIdeal (hRefProjNearIdeal := hRefProjNearIdeal)
    ∧ quiescent_RefProjNearIdeal_pre_proj_near_ids (hRefProjNearIdeal := hRefProjNearIdeal) (hPre_proj_near_ids := hPre_proj_near_ids)
    ∧ quiescent_ProjRest (hProjRest := hProjRest) (hPre_proj_rest_ids := hPre_proj_rest_ids)
    ∧ quiescent_ProjRestIdeal (hProjRestIdeal := hProjRestIdeal) (hPre_proj_rest_ids := hPre_proj_rest_ids)
    ∧ quiescent_RefProjRestIdeal (hRefProjRestIdeal := hRefProjRestIdeal)
    ∧ quiescent_RefProjRestIdeal_pre_proj_rest_ids (hRefProjRestIdeal := hRefProjRestIdeal) (hPre_proj_rest_ids := hPre_proj_rest_ids)
    ∧ quiescent_UpNear (hUpNear := hUpNear) (hPre_up_near_ids := hPre_up_near_ids)
    ∧ quiescent_UpNearIdeal (hUpNearIdeal := hUpNearIdeal) (hPre_up_near_ids := hPre_up_near_ids)
    ∧ quiescent_RefUpNearIdeal (hRefUpNearIdeal := hRefUpNearIdeal)
    ∧ quiescent_RefUpNearIdeal_pre_up_near_ids (hRefUpNearIdeal := hRefUpNearIdeal) (hPre_up_near_ids := hPre_up_near_ids)
    ∧ quiescent_UpRest (hUpRest := hUpRest) (hPre_up_rest_ids := hPre_up_rest_ids)
    ∧ quiescent_UpRestIdeal (hUpRestIdeal := hUpRestIdeal) (hPre_up_rest_ids := hPre_up_rest_ids)
    ∧ quiescent_RefUpRestIdeal (hRefUpRestIdeal := hRefUpRestIdeal)
    ∧ quiescent_RefUpRestIdeal_pre_up_rest_ids (hRefUpRestIdeal := hRefUpRestIdeal) (hPre_up_rest_ids := hPre_up_rest_ids)
    ∧ quiescent_AdamIn (hAdamIn := hAdamIn) (hPre_adam_in_place := hPre_adam_in_place)
    ∧ quiescent_AdamInIdeal (hAdamInIdeal := hAdamInIdeal) (hPre_adam_in_place := hPre_adam_in_place)
    ∧ quiescent_RefAdamInIdeal (hRefAdamInIdeal := hRefAdamInIdeal)
    ∧ quiescent_RefAdamInIdeal_pre_adam_in_place (hRefAdamInIdeal := hRefAdamInIdeal) (hPre_adam_in_place := hPre_adam_in_place)
    ∧ quiescent_AdamOut (hAdamOut := hAdamOut) (hPre_adam_out_place := hPre_adam_out_place)
    ∧ quiescent_AdamOutIdeal (hAdamOutIdeal := hAdamOutIdeal) (hPre_adam_out_place := hPre_adam_out_place)
    ∧ quiescent_RefAdamOutIdeal (hRefAdamOutIdeal := hRefAdamOutIdeal)
    ∧ quiescent_RefAdamOutIdeal_pre_adam_out_place (hRefAdamOutIdeal := hRefAdamOutIdeal) (hPre_adam_out_place := hPre_adam_out_place)
    ∧ quiescent_AdamUp (hAdamUp := hAdamUp) (hPre_adam_up_place := hPre_adam_up_place)
    ∧ quiescent_AdamUpIdeal (hAdamUpIdeal := hAdamUpIdeal) (hPre_adam_up_place := hPre_adam_up_place)
    ∧ quiescent_RefAdamUpIdeal (hRefAdamUpIdeal := hRefAdamUpIdeal)
    ∧ quiescent_RefAdamUpIdeal_pre_adam_up_place (hRefAdamUpIdeal := hRefAdamUpIdeal) (hPre_adam_up_place := hPre_adam_up_place)
    ∧ quiescent_AdamDown (hAdamDown := hAdamDown) (hPre_adam_down_place := hPre_adam_down_place)
    ∧ quiescent_AdamDownIdeal (hAdamDownIdeal := hAdamDownIdeal) (hPre_adam_down_place := hPre_adam_down_place)
    ∧ quiescent_RefAdamDownIdeal (hRefAdamDownIdeal := hRefAdamDownIdeal)
    ∧ quiescent_RefAdamDownIdeal_pre_adam_down_place (hRefAdamDownIdeal := hRefAdamDownIdeal) (hPre_adam_down_place := hPre_adam_down_place)
    ∧ preserves_Kernel_KernelIdeal
    ∧ algebraic_KernelIdeal_ReferenceIdeal_on_written_pre_finite (hKernelIdeal := hKernelIdeal) (hReferenceIdeal := hReferenceIdeal) (hPre_finite := hPre_finite) (hOn_written := hOn_written)
    ∧ preserves_GwUp_GwUpIdeal
    ∧ algebraic_GwUpIdeal_RefGwUpIdeal (hGwUpIdeal := hGwUpIdeal) (hRefGwUpIdeal := hRefGwUpIdeal)
    ∧ preserves_Dh2_Dh2Ideal
    ∧ algebraic_Dh2Ideal_RefDh2Ideal (hDh2Ideal := hDh2Ideal) (hRefDh2Ideal := hRefDh2Ideal)
    ∧ preserves_GwDown_GwDownIdeal
    ∧ algebraic_GwDownIdeal_RefGwDownIdeal (hGwDownIdeal := hGwDownIdeal) (hRefGwDownIdeal := hRefGwDownIdeal)
    ∧ preserves_Dact_DactIdeal
    ∧ algebraic_DactIdeal_RefDactIdeal (hDactIdeal := hDactIdeal) (hRefDactIdeal := hRefDactIdeal)
    ∧ preserves_GwIn_GwInIdeal
    ∧ algebraic_GwInIdeal_RefGwInIdeal (hGwInIdeal := hGwInIdeal) (hRefGwInIdeal := hRefGwInIdeal)
    ∧ preserves_Dh1_Dh1Ideal
    ∧ algebraic_Dh1Ideal_RefDh1Ideal (hDh1Ideal := hDh1Ideal) (hRefDh1Ideal := hRefDh1Ideal)
    ∧ preserves_GwOut_GwOutIdeal
    ∧ algebraic_GwOutIdeal_RefGwOutIdeal (hGwOutIdeal := hGwOutIdeal) (hRefGwOutIdeal := hRefGwOutIdeal)
    ∧ preserves_Dy_DyIdeal
    ∧ algebraic_DyIdeal_RefDyIdeal (hDyIdeal := hDyIdeal) (hRefDyIdeal := hRefDyIdeal)
    ∧ preserves_Down_DownIdeal
    ∧ algebraic_DownIdeal_RefDownIdeal (hDownIdeal := hDownIdeal) (hRefDownIdeal := hRefDownIdeal)
    ∧ preserves_Out_OutIdeal
    ∧ algebraic_OutIdeal_RefOutIdeal (hOutIdeal := hOutIdeal) (hRefOutIdeal := hRefOutIdeal)
    ∧ preserves_ProjNear_ProjNearIdeal
    ∧ algebraic_ProjNearIdeal_RefProjNearIdeal_on_proj_near_part (hProjNearIdeal := hProjNearIdeal) (hRefProjNearIdeal := hRefProjNearIdeal) (hPre_proj_near_ids := hPre_proj_near_ids) (hOn_proj_near_part := hOn_proj_near_part)
    ∧ preserves_ProjRest_ProjRestIdeal
    ∧ algebraic_ProjRestIdeal_RefProjRestIdeal (hProjRestIdeal := hProjRestIdeal) (hRefProjRestIdeal := hRefProjRestIdeal) (hPre_proj_rest_ids := hPre_proj_rest_ids)
    ∧ preserves_UpNear_UpNearIdeal
    ∧ algebraic_UpNearIdeal_RefUpNearIdeal_on_up_near_part (hUpNearIdeal := hUpNearIdeal) (hRefUpNearIdeal := hRefUpNearIdeal) (hPre_up_near_ids := hPre_up_near_ids) (hOn_up_near_part := hOn_up_near_part)
    ∧ preserves_UpRest_UpRestIdeal
    ∧ algebraic_UpRestIdeal_RefUpRestIdeal (hUpRestIdeal := hUpRestIdeal) (hRefUpRestIdeal := hRefUpRestIdeal) (hPre_up_rest_ids := hPre_up_rest_ids)
    ∧ preserves_AdamIn_AdamInIdeal
    ∧ algebraic_AdamInIdeal_RefAdamInIdeal (hAdamInIdeal := hAdamInIdeal) (hRefAdamInIdeal := hRefAdamInIdeal) (hPre_adam_in_place := hPre_adam_in_place)
    ∧ preserves_AdamOut_AdamOutIdeal
    ∧ algebraic_AdamOutIdeal_RefAdamOutIdeal (hAdamOutIdeal := hAdamOutIdeal) (hRefAdamOutIdeal := hRefAdamOutIdeal) (hPre_adam_out_place := hPre_adam_out_place)
    ∧ preserves_AdamUp_AdamUpIdeal
    ∧ algebraic_AdamUpIdeal_RefAdamUpIdeal (hAdamUpIdeal := hAdamUpIdeal) (hRefAdamUpIdeal := hRefAdamUpIdeal) (hPre_adam_up_place := hPre_adam_up_place)
    ∧ preserves_AdamDown_AdamDownIdeal
    ∧ algebraic_AdamDownIdeal_RefAdamDownIdeal (hAdamDownIdeal := hAdamDownIdeal) (hRefAdamDownIdeal := hRefAdamDownIdeal) (hPre_adam_down_place := hPre_adam_down_place)
-- ==== On_proj_near_part.lean ====
abbrev S4096x4096 : Shape := ⟨2, ![4096, 4096]⟩
abbrev S8x4096x1024 : Shape := ⟨3, ![8, 4096, 1024]⟩
abbrev S2 : Shape := ⟨1, ![2]⟩
abbrev S8 : Shape := ⟨1, ![8]⟩
abbrev S1 : Shape := ⟨1, ![1]⟩
abbrev S_ : Shape := ⟨0, ![]⟩
abbrev S1x8x1 : Shape := ⟨3, ![1, 8, 1]⟩
abbrev S4096x8x1024 : Shape := ⟨3, ![4096, 8, 1024]⟩
abbrev S4096x8192 : Shape := ⟨2, ![4096, 8192]⟩

class Facts : Prop where
  slices_S2_S1_0 : S2.Slices ![0] S1
  shapeCasts_S1_S_ : S1.ShapeCasts S_
  bcast_S_S8 : S_.BroadcastsInDim S8 (![] : Fin 0 → Fin S8.rank)
  slices_S2_S1_1 : S2.Slices ![1] S1
  bcast_S8_S1x8x1_1 : S8.BroadcastsInDim S1x8x1 (![1] : Fin 1 → Fin S1x8x1.rank)
  bcast_S1x8x1_S4096x8x1024_0_1_2 : S1x8x1.BroadcastsInDim S4096x8x1024 (![0, 1, 2] : Fin 3 → Fin S4096x8x1024.rank)
  shapeCasts_S4096x8x1024_S4096x8192 : S4096x8x1024.ShapeCasts S4096x8192

variable [Facts]

def fn {F : FTy → Type} [FloatOps F] (main_arg0 : FVec F S4096x4096 .bf16) (main_arg1 : FVec F S8x4096x1024 .bf16) (main_arg2 : IVec S2 32) : IVec S4096x8192 1 :=
  let main_v0 : IVec S8 32 := iotaInDim S8 32 0
  let main_v1 : IVec S1 32 := (extractStridedSlice S1 ![0] · slices_S2_S1_0) main_arg2
  let main_v2 : IVec S_ 32 := shapeCast S_ main_v1 shapeCasts_S1_S_
  let main_v3 : IVec S8 32 := broadcastInDim S8 ![] bcast_S_S8 main_v2
  let main_v4 : IVec S8 1 := cmpi .eq main_v0 main_v3
  let main_v5 : IVec S1 32 := (extractStridedSlice S1 ![1] · slices_S2_S1_1) main_arg2
  let main_v6 : IVec S_ 32 := shapeCast S_ main_v5 shapeCasts_S1_S_
  let main_v7 : IVec S8 32 := broadcastInDim S8 ![] bcast_S_S8 main_v6
  let main_v8 : IVec S8 1 := cmpi .eq main_v0 main_v7
  let main_v9 : IVec S8 1 := ori main_v4 main_v8
  let main_v10 : IVec S1x8x1 1 := broadcastInDim S1x8x1 ![1] bcast_S8_S1x8x1_1 main_v9
  let main_v11 : IVec S4096x8x1024 1 := broadcastInDim S4096x8x1024 ![0, 1, 2] bcast_S1x8x1_S4096x8x1024_0_1_2 main_v10
  let main_v12 : IVec S4096x8192 1 := shapeCast S4096x8192 main_v11 shapeCasts_S4096x8x1024_S4096x8192
  main_v12
-- ==== On_up_near_part.lean ====
abbrev S4096x4096 : Shape := ⟨2, ![4096, 4096]⟩
abbrev S8x2752x4096 : Shape := ⟨3, ![8, 2752, 4096]⟩
abbrev S2 : Shape := ⟨1, ![2]⟩
abbrev S8 : Shape := ⟨1, ![8]⟩
abbrev S1 : Shape := ⟨1, ![1]⟩
abbrev S_ : Shape := ⟨0, ![]⟩
abbrev S8x1x1 : Shape := ⟨3, ![8, 1, 1]⟩
abbrev S8x4096x2752 : Shape := ⟨3, ![8, 4096, 2752]⟩

class Facts : Prop where
  slices_S2_S1_0 : S2.Slices ![0] S1
  shapeCasts_S1_S_ : S1.ShapeCasts S_
  bcast_S_S8 : S_.BroadcastsInDim S8 (![] : Fin 0 → Fin S8.rank)
  slices_S2_S1_1 : S2.Slices ![1] S1
  bcast_S8_S8x1x1_0 : S8.BroadcastsInDim S8x1x1 (![0] : Fin 1 → Fin S8x1x1.rank)
  bcast_S8x1x1_S8x4096x2752_0_1_2 : S8x1x1.BroadcastsInDim S8x4096x2752 (![0, 1, 2] : Fin 3 → Fin S8x4096x2752.rank)

variable [Facts]

def fn {F : FTy → Type} [FloatOps F] (main_arg0 : FVec F S4096x4096 .bf16) (main_arg1 : FVec F S8x2752x4096 .bf16) (main_arg2 : IVec S2 32) : IVec S8x4096x2752 1 :=
  let main_v0 : IVec S8 32 := iotaInDim S8 32 0
  let main_v1 : IVec S1 32 := (extractStridedSlice S1 ![0] · slices_S2_S1_0) main_arg2
  let main_v2 : IVec S_ 32 := shapeCast S_ main_v1 shapeCasts_S1_S_
  let main_v3 : IVec S8 32 := broadcastInDim S8 ![] bcast_S_S8 main_v2
  let main_v4 : IVec S8 1 := cmpi .eq main_v0 main_v3
  let main_v5 : IVec S1 32 := (extractStridedSlice S1 ![1] · slices_S2_S1_1) main_arg2
  let main_v6 : IVec S_ 32 := shapeCast S_ main_v5 shapeCasts_S1_S_
  let main_v7 : IVec S8 32 := broadcastInDim S8 ![] bcast_S_S8 main_v6
  let main_v8 : IVec S8 1 := cmpi .eq main_v0 main_v7
  let main_v9 : IVec S8 1 := ori main_v4 main_v8
  let main_v10 : IVec S8x1x1 1 := broadcastInDim S8x1x1 ![0] bcast_S8_S8x1x1_0 main_v9
  let main_v11 : IVec S8x4096x2752 1 := broadcastInDim S8x4096x2752 ![0, 1, 2] bcast_S8x1x1_S8x4096x2752_0_1_2 main_v10
  main_v11
-- ==== On_written.lean ====
abbrev S4096x4096 : Shape := ⟨2, ![4096, 4096]⟩
abbrev S4096x8192 : Shape := ⟨2, ![4096, 8192]⟩
abbrev S1x2048 : Shape := ⟨2, ![1, 2048]⟩
abbrev S1x16x128x128 : Shape := ⟨4, ![1, 16, 128, 128]⟩
abbrev S1x16x128 : Shape := ⟨3, ![1, 16, 128]⟩
abbrev S_ : Shape := ⟨0, ![]⟩
abbrev S16x128x128 : Shape := ⟨3, ![16, 128, 128]⟩
abbrev S128x2048 : Shape := ⟨2, ![128, 2048]⟩

class Facts : Prop where
  bcast_S_S4096x8192 : S_.BroadcastsInDim S4096x8192 (![] : Fin 0 → Fin S4096x8192.rank)
  bcast_S_S1x2048 : S_.BroadcastsInDim S1x2048 (![] : Fin 0 → Fin S1x2048.rank)
  bcast_S_S16x128x128 : S_.BroadcastsInDim S16x128x128 (![] : Fin 0 → Fin S16x128x128.rank)
  bcast_S_S128x2048 : S_.BroadcastsInDim S128x2048 (![] : Fin 0 → Fin S128x2048.rank)

variable [Facts]

def fn {F : FTy → Type} [FloatOps F] (main_arg0 : FVec F S4096x4096 .bf16) (main_arg1 : FVec F S4096x8192 .bf16) (main_arg2 : FVec F S1x2048 .f32) (main_arg3 : FVec F S1x2048 .f32) (main_arg4 : FVec F S1x16x128x128 .f32) (main_arg5 : FVec F S1x16x128 .f32) (main_arg6 : FVec F S1x2048 .f32) : IVec S4096x8192 1 × IVec S1x2048 1 × IVec S1x2048 1 × IVec S1x2048 1 × IVec S16x128x128 1 × IVec S128x2048 1 :=
  let main_v0 : IVec S4096x8192 32 := iotaInDim S4096x8192 32 1
  let main_c : IVec S_ 32 := constantI S_ 32 4096#32
  let main_v1 : IVec S4096x8192 32 := broadcastInDim S4096x8192 ![] bcast_S_S4096x8192 main_c
  let main_v2 : IVec S4096x8192 1 := cmpi .sge main_v0 main_v1
  let main_c_0 : IVec S_ 1 := constantI S_ 1 1#1
  let main_v3 : IVec S1x2048 1 := broadcastInDim S1x2048 ![] bcast_S_S1x2048 main_c_0
  let main_c_1 : IVec S_ 1 := constantI S_ 1 1#1
  let main_v4 : IVec S1x2048 1 := broadcastInDim S1x2048 ![] bcast_S_S1x2048 main_c_1
  let main_c_2 : IVec S_ 1 := constantI S_ 1 1#1
  let main_v5 : IVec S1x2048 1 := broadcastInDim S1x2048 ![] bcast_S_S1x2048 main_c_2
  let main_c_3 : IVec S_ 1 := constantI S_ 1 1#1
  let main_v6 : IVec S16x128x128 1 := broadcastInDim S16x128x128 ![] bcast_S_S16x128x128 main_c_3
  let main_c_4 : IVec S_ 1 := constantI S_ 1 1#1
  let main_v7 : IVec S128x2048 1 := broadcastInDim S128x2048 ![] bcast_S_S128x2048 main_c_4
  (main_v2, main_v3, main_v4, main_v5, main_v6, main_v7)
-- ==== Pre_adam_down_place.lean ====
abbrev S8x1376x4096 : Shape := ⟨3, ![8, 1376, 4096]⟩
abbrev S1 : Shape := ⟨1, ![1]⟩
abbrev S1376x4096 : Shape := ⟨2, ![1376, 4096]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S8x1376x4096 .bf16) (main_arg1 : FVec F S8x1376x4096 .bf16) (main_arg2 : IVec S1 32) (main_arg3 : FVec F S1376x4096 .f32) (main_arg4 : FVec F S1376x4096 .f32) (main_arg5 : FVec F S1376x4096 .f32) : IVec S1 1 :=
  let main_c : IVec S_ 32 := constantI S_ 32 0#32
  let main_v0 : IVec S1 32 := broadcastInDim S1 ![] bcast_S_S1 main_c
  let main_v1 : IVec S1 1 := cmpi .sge main_arg2 main_v0
  let main_c_0 : IVec S_ 32 := constantI S_ 32 8#32
  let main_v2 : IVec S1 32 := broadcastInDim S1 ![] bcast_S_S1 main_c_0
  let main_v3 : IVec S1 1 := cmpi .slt main_arg2 main_v2
  let main_v4 : IVec S1 1 := andi main_v1 main_v3
  main_v4
-- ==== Pre_adam_in_place.lean ====
abbrev S8x4096x1024 : Shape := ⟨3, ![8, 4096, 1024]⟩
abbrev S1 : Shape := ⟨1, ![1]⟩
abbrev S4096x1024 : Shape := ⟨2, ![4096, 1024]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S8x4096x1024 .bf16) (main_arg1 : FVec F S8x4096x1024 .bf16) (main_arg2 : IVec S1 32) (main_arg3 : FVec F S4096x1024 .f32) (main_arg4 : FVec F S4096x1024 .f32) (main_arg5 : FVec F S4096x1024 .f32) : IVec S1 1 :=
  let main_c : IVec S_ 32 := constantI S_ 32 0#32
  let main_v0 : IVec S1 32 := broadcastInDim S1 ![] bcast_S_S1 main_c
  let main_v1 : IVec S1 1 := cmpi .sge main_arg2 main_v0
  let main_c_0 : IVec S_ 32 := constantI S_ 32 8#32
  let main_v2 : IVec S1 32 := broadcastInDim S1 ![] bcast_S_S1 main_c_0
  let main_v3 : IVec S1 1 := cmpi .slt main_arg2 main_v2
  let main_v4 : IVec S1 1 := andi main_v1 main_v3
  main_v4
-- ==== Pre_adam_out_place.lean ====
abbrev S8x512x4096 : Shape := ⟨3, ![8, 512, 4096]⟩
abbrev S1 : Shape := ⟨1, ![1]⟩
abbrev S512x4096 : Shape := ⟨2, ![512, 4096]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S8x512x4096 .bf16) (main_arg1 : FVec F S8x512x4096 .bf16) (main_arg2 : IVec S1 32) (main_arg3 : FVec F S512x4096 .f32) (main_arg4 : FVec F S512x4096 .f32) (main_arg5 : FVec F S512x4096 .f32) : IVec S1 1 :=
  let main_c : IVec S_ 32 := constantI S_ 32 0#32
  let main_v0 : IVec S1 32 := broadcastInDim S1 ![] bcast_S_S1 main_c
  let main_v1 : IVec S1 1 := cmpi .sge main_arg2 main_v0
  let main_c_0 : IVec S_ 32 := constantI S_ 32 8#32
  let main_v2 : IVec S1 32 := broadcastInDim S1 ![] bcast_S_S1 main_c_0
  let main_v3 : IVec S1 1 := cmpi .slt main_arg2 main_v2
  let main_v4 : IVec S1 1 := andi main_v1 main_v3
  main_v4
-- ==== Pre_adam_up_place.lean ====
abbrev S8x2752x4096 : Shape := ⟨3, ![8, 2752, 4096]⟩
abbrev S1 : Shape := ⟨1, ![1]⟩
abbrev S2752x4096 : Shape := ⟨2, ![2752, 4096]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S8x2752x4096 .bf16) (main_arg1 : FVec F S8x2752x4096 .bf16) (main_arg2 : IVec S1 32) (main_arg3 : FVec F S2752x4096 .f32) (main_arg4 : FVec F S2752x4096 .f32) (main_arg5 : FVec F S2752x4096 .f32) : IVec S1 1 :=
  let main_c : IVec S_ 32 := constantI S_ 32 0#32
  let main_v0 : IVec S1 32 := broadcastInDim S1 ![] bcast_S_S1 main_c
  let main_v1 : IVec S1 1 := cmpi .sge main_arg2 main_v0
  let main_c_0 : IVec S_ 32 := constantI S_ 32 8#32
  let main_v2 : IVec S1 32 := broadcastInDim S1 ![] bcast_S_S1 main_c_0
  let main_v3 : IVec S1 1 := cmpi .slt main_arg2 main_v2
  let main_v4 : IVec S1 1 := andi main_v1 main_v3
  main_v4
-- ==== Pre_finite.lean ====
abbrev S4096x4096 : Shape := ⟨2, ![4096, 4096]⟩
abbrev S4096x8192 : Shape := ⟨2, ![4096, 8192]⟩
abbrev S1x2048 : Shape := ⟨2, ![1, 2048]⟩
abbrev S1x16x128x128 : Shape := ⟨4, ![1, 16, 128, 128]⟩
abbrev S1x16x128 : Shape := ⟨3, ![1, 16, 128]⟩
abbrev S_ : Shape := ⟨0, ![]⟩

class Facts : Prop where
  bitsLt_bf16_f32 : FTy.bits .bf16 < FTy.bits .f32
  bcast_S_S4096x4096 : S_.BroadcastsInDim S4096x4096 (![] : Fin 0 → Fin S4096x4096.rank)
  bcast_S_S4096x8192 : S_.BroadcastsInDim S4096x8192 (![] : Fin 0 → Fin S4096x8192.rank)
  bcast_S_S1x2048 : S_.BroadcastsInDim S1x2048 (![] : Fin 0 → Fin S1x2048.rank)
  bcast_S_S1x16x128x128 : S_.BroadcastsInDim S1x16x128x128 (![] : Fin 0 → Fin S1x16x128x128.rank)
  bcast_S_S1x16x128 : S_.BroadcastsInDim S1x16x128 (![] : Fin 0 → Fin S1x16x128.rank)

variable [Facts]

def fn_part2 {F : FTy → Type} [FloatOps F] (main_arg6 : FVec F S1x2048 .f32) (main_v5 : IVec S4096x4096 1) (main_v11 : IVec S4096x8192 1) (main_v16 : IVec S1x2048 1) (main_v21 : IVec S1x2048 1) (main_v26 : IVec S1x16x128x128 1) (main_v31 : IVec S1x16x128 1) (main_v33 : IVec S1x2048 1) (main_cst_12 : FVec F S_ .f32) : IVec S4096x4096 1 × IVec S4096x8192 1 × IVec S1x2048 1 × IVec S1x2048 1 × IVec S1x16x128x128 1 × IVec S1x16x128 1 × IVec S1x2048 1 :=
  let main_v34 : FVec F S1x2048 .f32 := broadcastInDim S1x2048 ![] bcast_S_S1x2048 main_cst_12
  let main_v35 : IVec S1x2048 1 := cmpf .ogt main_arg6 main_v34
  let main_v36 : IVec S1x2048 1 := andi main_v33 main_v35
  (main_v5, main_v11, main_v16, main_v21, main_v26, main_v31, main_v36)

def fn_part1 {F : FTy → Type} [FloatOps F] (main_arg3 : FVec F S1x2048 .f32) (main_arg4 : FVec F S1x16x128x128 .f32) (main_arg5 : FVec F S1x16x128 .f32) (main_arg6 : FVec F S1x2048 .f32) (main_v5 : IVec S4096x4096 1) (main_v11 : IVec S4096x8192 1) (main_v16 : IVec S1x2048 1) (main_cst_5 : FVec F S_ .f32) : IVec S4096x4096 1 × IVec S4096x8192 1 × IVec S1x2048 1 × IVec S1x2048 1 × IVec S1x16x128x128 1 × IVec S1x16x128 1 × IVec S1x2048 1 :=
  let main_v17 : FVec F S1x2048 .f32 := broadcastInDim S1x2048 ![] bcast_S_S1x2048 main_cst_5
  let main_v18 : IVec S1x2048 1 := cmpf .olt main_arg3 main_v17
  let main_cst_6 : FVec F S_ .f32 := constant S_ .f32 0xFF800000#32
  let main_v19 : FVec F S1x2048 .f32 := broadcastInDim S1x2048 ![] bcast_S_S1x2048 main_cst_6
  let main_v20 : IVec S1x2048 1 := cmpf .ogt main_arg3 main_v19
  let main_v21 : IVec S1x2048 1 := andi main_v18 main_v20
  let main_cst_7 : FVec F S_ .f32 := constant S_ .f32 0x7F800000#32
  let main_v22 : FVec F S1x16x128x128 .f32 := broadcastInDim S1x16x128x128 ![] bcast_S_S1x16x128x128 main_cst_7
  let main_v23 : IVec S1x16x128x128 1 := cmpf .olt main_arg4 main_v22
  let main_cst_8 : FVec F S_ .f32 := constant S_ .f32 0xFF800000#32
  let main_v24 : FVec F S1x16x128x128 .f32 := broadcastInDim S1x16x128x128 ![] bcast_S_S1x16x128x128 main_cst_8
  let main_v25 : IVec S1x16x128x128 1 := cmpf .ogt main_arg4 main_v24
  let main_v26 : IVec S1x16x128x128 1 := andi main_v23 main_v25
  let main_cst_9 : FVec F S_ .f32 := constant S_ .f32 0x7F800000#32
  let main_v27 : FVec F S1x16x128 .f32 := broadcastInDim S1x16x128 ![] bcast_S_S1x16x128 main_cst_9
  let main_v28 : IVec S1x16x128 1 := cmpf .olt main_arg5 main_v27
  let main_cst_10 : FVec F S_ .f32 := constant S_ .f32 0xFF800000#32
  let main_v29 : FVec F S1x16x128 .f32 := broadcastInDim S1x16x128 ![] bcast_S_S1x16x128 main_cst_10
  let main_v30 : IVec S1x16x128 1 := cmpf .ogt main_arg5 main_v29
  let main_v31 : IVec S1x16x128 1 := andi main_v28 main_v30
  let main_cst_11 : FVec F S_ .f32 := constant S_ .f32 0x7F800000#32
  let main_v32 : FVec F S1x2048 .f32 := broadcastInDim S1x2048 ![] bcast_S_S1x2048 main_cst_11
  let main_v33 : IVec S1x2048 1 := cmpf .olt main_arg6 main_v32
  let main_cst_12 : FVec F S_ .f32 := constant S_ .f32 0xFF800000#32
  fn_part2 (F := F) main_arg6 main_v5 main_v11 main_v16 main_v21 main_v26 main_v31 main_v33 main_cst_12

def fn {F : FTy → Type} [FloatOps F] (main_arg0 : FVec F S4096x4096 .bf16) (main_arg1 : FVec F S4096x8192 .bf16) (main_arg2 : FVec F S1x2048 .f32) (main_arg3 : FVec F S1x2048 .f32) (main_arg4 : FVec F S1x16x128x128 .f32) (main_arg5 : FVec F S1x16x128 .f32) (main_arg6 : FVec F S1x2048 .f32) : IVec S4096x4096 1 × IVec S4096x8192 1 × IVec S1x2048 1 × IVec S1x2048 1 × IVec S1x16x128x128 1 × IVec S1x16x128 1 × IVec S1x2048 1 :=
  let main_v0 : FVec F S4096x4096 .f32 := (extf .f32 · bitsLt_bf16_f32) main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_cst_0 : FVec F S_ .f32 := constant S_ .f32 0xFF800000#32
  let main_v3 : FVec F S4096x4096 .f32 := broadcastInDim S4096x4096 ![] bcast_S_S4096x4096 main_cst_0
  let main_v4 : IVec S4096x4096 1 := cmpf .ogt main_v0 main_v3
  let main_v5 : IVec S4096x4096 1 := andi main_v2 main_v4
  let main_v6 : FVec F S4096x8192 .f32 := (extf .f32 · bitsLt_bf16_f32) main_arg1
  let main_cst_1 : FVec F S_ .f32 := constant S_ .f32 0x7F800000#32
  let main_v7 : FVec F S4096x8192 .f32 := broadcastInDim S4096x8192 ![] bcast_S_S4096x8192 main_cst_1
  let main_v8 : IVec S4096x8192 1 := cmpf .olt main_v6 main_v7
  let main_cst_2 : FVec F S_ .f32 := constant S_ .f32 0xFF800000#32
  let main_v9 : FVec F S4096x8192 .f32 := broadcastInDim S4096x8192 ![] bcast_S_S4096x8192 main_cst_2
  let main_v10 : IVec S4096x8192 1 := cmpf .ogt main_v6 main_v9
  let main_v11 : IVec S4096x8192 1 := andi main_v8 main_v10
  let main_cst_3 : FVec F S_ .f32 := constant S_ .f32 0x7F800000#32
  let main_v12 : FVec F S1x2048 .f32 := broadcastInDim S1x2048 ![] bcast_S_S1x2048 main_cst_3
  let main_v13 : IVec S1x2048 1 := cmpf .olt main_arg2 main_v12
  let main_cst_4 : FVec F S_ .f32 := constant S_ .f32 0xFF800000#32
  let main_v14 : FVec F S1x2048 .f32 := broadcastInDim S1x2048 ![] bcast_S_S1x2048 main_cst_4
  let main_v15 : IVec S1x2048 1 := cmpf .ogt main_arg2 main_v14
  let main_v16 : IVec S1x2048 1 := andi main_v13 main_v15
  let main_cst_5 : FVec F S_ .f32 := constant S_ .f32 0x7F800000#32
  fn_part1 (F := F) main_arg3 main_arg4 main_arg5 main_arg6 main_v5 main_v11 main_v16 main_cst_5
-- ==== Pre_proj_near_ids.lean ====
abbrev S4096x4096 : Shape := ⟨2, ![4096, 4096]⟩
abbrev S8x4096x1024 : Shape := ⟨3, ![8, 4096, 1024]⟩
abbrev S2 : Shape := ⟨1, ![2]⟩
abbrev S_ : Shape := ⟨0, ![]⟩

class Facts : Prop where
  bcast_S_S2 : S_.BroadcastsInDim S2 (![] : Fin 0 → Fin S2.rank)

variable [Facts]

def fn {F : FTy → Type} [FloatOps F] (main_arg0 : FVec F S4096x4096 .bf16) (main_arg1 : FVec F S8x4096x1024 .bf16) (main_arg2 : IVec S2 32) : IVec S2 1 :=
  let main_c : IVec S_ 32 := constantI S_ 32 0#32
  let main_v0 : IVec S2 32 := broadcastInDim S2 ![] bcast_S_S2 main_c
  let main_v1 : IVec S2 1 := cmpi .sge main_arg2 main_v0
  let main_c_0 : IVec S_ 32 := constantI S_ 32 8#32
  let main_v2 : IVec S2 32 := broadcastInDim S2 ![] bcast_S_S2 main_c_0
  let main_v3 : IVec S2 1 := cmpi .slt main_arg2 main_v2
  let main_v4 : IVec S2 1 := andi main_v1 main_v3
  main_v4
-- ==== Pre_proj_rest_ids.lean ====
abbrev S4096x4096 : Shape := ⟨2, ![4096, 4096]⟩
abbrev S8x4096x1024 : Shape := ⟨3, ![8, 4096, 1024]⟩
abbrev S3 : Shape := ⟨1, ![3]⟩
abbrev S4096x8192 : Shape := ⟨2, ![4096, 8192]⟩
abbrev S_ : Shape := ⟨0, ![]⟩

class Facts : Prop where
  bcast_S_S3 : S_.BroadcastsInDim S3 (![] : Fin 0 → Fin S3.rank)

variable [Facts]

def fn {F : FTy → Type} [FloatOps F] (main_arg0 : FVec F S4096x4096 .bf16) (main_arg1 : FVec F S8x4096x1024 .bf16) (main_arg2 : IVec S3 32) (main_arg3 : FVec F S4096x8192 .bf16) : IVec S3 1 :=
  let main_c : IVec S_ 32 := constantI S_ 32 0#32
  let main_v0 : IVec S3 32 := broadcastInDim S3 ![] bcast_S_S3 main_c
  let main_v1 : IVec S3 1 := cmpi .sge main_arg2 main_v0
  let main_c_0 : IVec S_ 32 := constantI S_ 32 8#32
  let main_v2 : IVec S3 32 := broadcastInDim S3 ![] bcast_S_S3 main_c_0
  let main_v3 : IVec S3 1 := cmpi .slt main_arg2 main_v2
  let main_v4 : IVec S3 1 := andi main_v1 main_v3
  main_v4
-- ==== Pre_up_near_ids.lean ====
abbrev S4096x4096 : Shape := ⟨2, ![4096, 4096]⟩
abbrev S8x2752x4096 : Shape := ⟨3, ![8, 2752, 4096]⟩
abbrev S2 : Shape := ⟨1, ![2]⟩
abbrev S_ : Shape := ⟨0, ![]⟩

class Facts : Prop where
  bcast_S_S2 : S_.BroadcastsInDim S2 (![] : Fin 0 → Fin S2.rank)

variable [Facts]

def fn {F : FTy → Type} [FloatOps F] (main_arg0 : FVec F S4096x4096 .bf16) (main_arg1 : FVec F S8x2752x4096 .bf16) (main_arg2 : IVec S2 32) : IVec S2 1 :=
  let main_c : IVec S_ 32 := constantI S_ 32 0#32
  let main_v0 : IVec S2 32 := broadcastInDim S2 ![] bcast_S_S2 main_c
  let main_v1 : IVec S2 1 := cmpi .sge main_arg2 main_v0
  let main_c_0 : IVec S_ 32 := constantI S_ 32 8#32
  let main_v2 : IVec S2 32 := broadcastInDim S2 ![] bcast_S_S2 main_c_0
  let main_v3 : IVec S2 1 := cmpi .slt main_arg2 main_v2
  let main_v4 : IVec S2 1 := andi main_v1 main_v3
  main_v4
-- ==== Pre_up_rest_ids.lean ====
abbrev S4096x4096 : Shape := ⟨2, ![4096, 4096]⟩
abbrev S8x2752x4096 : Shape := ⟨3, ![8, 2752, 4096]⟩
abbrev S3 : Shape := ⟨1, ![3]⟩
abbrev S8x4096x2752 : Shape := ⟨3, ![8, 4096, 2752]⟩
abbrev S_ : Shape := ⟨0, ![]⟩

class Facts : Prop where
  bcast_S_S3 : S_.BroadcastsInDim S3 (![] : Fin 0 → Fin S3.rank)

variable [Facts]

def fn {F : FTy → Type} [FloatOps F] (main_arg0 : FVec F S4096x4096 .bf16) (main_arg1 : FVec F S8x2752x4096 .bf16) (main_arg2 : IVec S3 32) (main_arg3 : FVec F S8x4096x2752 .bf16) : IVec S3 1 :=
  let main_c : IVec S_ 32 := constantI S_ 32 0#32
  let main_v0 : IVec S3 32 := broadcastInDim S3 ![] bcast_S_S3 main_c
  let main_v1 : IVec S3 1 := cmpi .sge main_arg2 main_v0
  let main_c_0 : IVec S_ 32 := constantI S_ 32 8#32
  let main_v2 : IVec S3 32 := broadcastInDim S3 ![] bcast_S_S3 main_c_0
  let main_v3 : IVec S3 1 := cmpi .slt main_arg2 main_v2
  let main_v4 : IVec S3 1 := andi main_v1 main_v3
  main_v4
-- ==== Kernel.lean ====
abbrev S4096x4096 : Shape := ⟨2, ![4096, 4096]⟩
abbrev S4096x8192 : Shape := ⟨2, ![4096, 8192]⟩
abbrev S1x2048 : Shape := ⟨2, ![1, 2048]⟩
abbrev S1x16x128x128 : Shape := ⟨4, ![1, 16, 128, 128]⟩
abbrev S1x16x128 : Shape := ⟨3, ![1, 16, 128]⟩
abbrev S16x128x128 : Shape := ⟨3, ![16, 128, 128]⟩
abbrev S16x128 : Shape := ⟨2, ![16, 128]⟩
abbrev S128x16 : Shape := ⟨2, ![128, 16]⟩
abbrev S128x16x128 : Shape := ⟨3, ![128, 16, 128]⟩
abbrev S128x2048 : Shape := ⟨2, ![128, 2048]⟩
abbrev S128x4096 : Shape := ⟨2, ![128, 4096]⟩
abbrev S128 : Shape := ⟨1, ![128]⟩
abbrev S128x1 : Shape := ⟨2, ![128, 1]⟩
abbrev S1x128x128 : Shape := ⟨3, ![1, 128, 128]⟩
abbrev S128x128 : Shape := ⟨2, ![128, 128]⟩
abbrev S2048 : Shape := ⟨1, ![2048]⟩

abbrev nBuf : Space → Nat
  | .hbm => 22
  | .vmem => 21
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .bf16⟩
  | .hbm, ⟨2, _⟩ => ⟨S1x2048, .f32⟩
  | .hbm, ⟨3, _⟩ => ⟨S1x2048, .f32⟩
  | .hbm, ⟨4, _⟩ => ⟨S1x16x128x128, .f32⟩
  | .hbm, ⟨5, _⟩ => ⟨S1x16x128, .f32⟩
  | .hbm, ⟨6, _⟩ => ⟨S1x2048, .f32⟩
  | .hbm, ⟨7, _⟩ => ⟨S16x128x128, .f32⟩
  | .hbm, ⟨8, _⟩ => ⟨S16x128x128, .bf16⟩
  | .hbm, ⟨9, _⟩ => ⟨S16x128x128, .f32⟩
  | .hbm, ⟨10, _⟩ => ⟨S16x128x128, .f32⟩
  | .hbm, ⟨11, _⟩ => ⟨S16x128x128, .bf16⟩
  | .hbm, ⟨12, _⟩ => ⟨S16x128, .f32⟩
  | .hbm, ⟨13, _⟩ => ⟨S128x16, .f32⟩
  | .hbm, ⟨14, _⟩ => ⟨S128x16x128, .f32⟩
  | .hbm, ⟨15, _⟩ => ⟨S128x2048, .f32⟩
  | .hbm, ⟨16, _⟩ => ⟨S4096x8192, .bf16⟩
  | .hbm, ⟨17, _⟩ => ⟨S1x2048, .f32⟩
  | .hbm, ⟨18, _⟩ => ⟨S1x2048, .f32⟩
  | .hbm, ⟨19, _⟩ => ⟨S1x2048, .f32⟩
  | .hbm, ⟨20, _⟩ => ⟨S16x128x128, .f32⟩
  | .hbm, ⟨21, _⟩ => ⟨S128x2048, .f32⟩
  | .local _ .vmem, ⟨0, _⟩ => ⟨S128x2048, .bf16⟩
  | .local _ .vmem, ⟨1, _⟩ => ⟨S128x2048, .bf16⟩
  | .local _ .vmem, ⟨2, _⟩ => ⟨S128x2048, .bf16⟩
  | .local _ .vmem, ⟨3, _⟩ => ⟨S128x2048, .bf16⟩
  | .local _ .vmem, ⟨4, _⟩ => ⟨S128x2048, .bf16⟩
  | .local _ .vmem, ⟨5, _⟩ => ⟨S128x2048, .bf16⟩
  | .local _ .vmem, ⟨6, _⟩ => ⟨S1x2048, .f32⟩
  | .local _ .vmem, ⟨7, _⟩ => ⟨S1x2048, .f32⟩
  | .local _ .vmem, ⟨8, _⟩ => ⟨S16x128x128, .bf16⟩
  | .local _ .vmem, ⟨9, _⟩ => ⟨S16x128x128, .bf16⟩
  | .local _ .vmem, ⟨10, _⟩ => ⟨S128x2048, .f32⟩
  | .local _ .vmem, ⟨11, _⟩ => ⟨S1x2048, .f32⟩
  | .local _ .vmem, ⟨12, _⟩ => ⟨S128x4096, .bf16⟩
  | .local _ .vmem, ⟨13, _⟩ => ⟨S128x4096, .bf16⟩
  | .local _ .vmem, ⟨14, _⟩ => ⟨S1x2048, .f32⟩
  | .local _ .vmem, ⟨15, _⟩ => ⟨S1x2048, .f32⟩
  | .local _ .vmem, ⟨16, _⟩ => ⟨S1x2048, .f32⟩
  | .local _ .vmem, ⟨17, _⟩ => ⟨S16x128x128, .f32⟩
  | .local _ .vmem, ⟨18, _⟩ => ⟨S128x2048, .f32⟩
  | .local _ .vmem, ⟨19, _⟩ => ⟨S128x2048, .f32⟩
  | .local _ .vmem, ⟨20, _⟩ => ⟨S128x2048, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev main_v9_3 : Ref sig .tc := ⟨.hbm, 19, rfl⟩
abbrev main_v9_4 : Ref sig .tc := ⟨.hbm, 20, rfl⟩
abbrev main_v9_5 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S16x128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== KernelIdeal.lean ====
variable {F : FTy → Type} [FloatOps F] [Named F]
def κ : String → Option EReal := fun
  | "inv_sqrt2" => some (((Real.sqrt 2)⁻¹ : ℝ) : EReal)
  | "inv_sqrt2pi" => some (((Real.sqrt (2 * Real.pi))⁻¹ : ℝ) : EReal)
  | _ => none
-- ==== ReferenceIdeal.lean ====
abbrev S4096x4096 : Shape := ⟨2, ![4096, 4096]⟩
abbrev S4096x8192 : Shape := ⟨2, ![4096, 8192]⟩
abbrev S1x2048 : Shape := ⟨2, ![1, 2048]⟩
abbrev S1x16x128x128 : Shape := ⟨4, ![1, 16, 128, 128]⟩
abbrev S1x16x128 : Shape := ⟨3, ![1, 16, 128]⟩
abbrev S2x2048x4096 : Shape := ⟨3, ![2, 2048, 4096]⟩
abbrev S4096x2048 : Shape := ⟨2, ![4096, 2048]⟩
abbrev S2x2048x2048 : Shape := ⟨3, ![2, 2048, 2048]⟩
abbrev S16x128 : Shape := ⟨2, ![16, 128]⟩
abbrev S128x16 : Shape := ⟨2, ![128, 16]⟩
abbrev S128x16x1 : Shape := ⟨3, ![128, 16, 1]⟩
abbrev S128x16x128 : Shape := ⟨3, ![128, 16, 128]⟩
abbrev S2048 : Shape := ⟨1, ![2048]⟩
abbrev S16x128x128 : Shape := ⟨3, ![16, 128, 128]⟩
abbrev S_ : Shape := ⟨0, ![]⟩
abbrev S2x2048 : Shape := ⟨2, ![2, 2048]⟩
abbrev S2x2048x1 : Shape := ⟨3, ![2, 2048, 1]⟩
abbrev S1x1x2048 : Shape := ⟨3, ![1, 1, 2048]⟩
abbrev S2x16x128x16x128 : Shape := ⟨5, ![2, 16, 128, 16, 128]⟩
abbrev S16x2x16x128x128 : Shape := ⟨5, ![16, 2, 16, 128, 128]⟩
abbrev S1x1x128x16x128 : Shape := ⟨5, ![1, 1, 128, 16, 128]⟩
abbrev S2x2048x8192 : Shape := ⟨3, ![2, 2048, 8192]⟩
abbrev S128x2048 : Shape := ⟨2, ![128, 2048]⟩

abbrev nBuf : Space → Nat
  | .hbm => 230
  | .vmem => 0
  | .smem => 0
  | _ => 0

abbrev hbmTy0_0 (i : Nat) : BufTy := match i % 128 with
  | 0 => ⟨S4096x4096, .bf16⟩
  | 1 => ⟨S4096x8192, .bf16⟩
  | 2 => ⟨S1x2048, .f32⟩
  | 3 => ⟨S1x2048, .f32⟩
  | 4 => ⟨S1x16x128x128, .f32⟩
  | 5 => ⟨S1x16x128, .f32⟩
  | 6 => ⟨S1x2048, .f32⟩
  | 7 => ⟨S4096x8192, .f32⟩
  | 8 => ⟨S4096x4096, .f32⟩
  | 9 => ⟨S2x2048x4096, .f32⟩
  | 10 => ⟨S4096x4096, .f32⟩
  | 11 => ⟨S4096x2048, .f32⟩
  | 12 => ⟨S2x2048x2048, .f32⟩
  | 13 => ⟨S16x128, .f32⟩
  | 14 => ⟨S128x16, .f32⟩
  | 15 => ⟨S128x16x1, .f32⟩
  | 16 => ⟨S128x16x128, .f32⟩
  | 17 => ⟨S2x2048x2048, .f32⟩
  | 18 => ⟨S2x2048x2048, .f32⟩
  | 19 => ⟨S2048, .f32⟩
  | 20 => ⟨S2048, .f32⟩
  | 21 => ⟨S16x128x128, .f32⟩
  | 22 => ⟨S2048, .f32⟩
  | 23 => ⟨S_, .f32⟩
  | 24 => ⟨S2x2048x2048, .f32⟩
  | 25 => ⟨S2x2048x2048, .f32⟩
  | 26 => ⟨S2x2048x2048, .f32⟩
  | 27 => ⟨S_, .f32⟩
  | 28 => ⟨S_, .f32⟩
  | 29 => ⟨S2x2048x2048, .f32⟩
  | 30 => ⟨S2x2048x2048, .f32⟩
  | 31 => ⟨S2x2048x2048, .f32⟩
  | 32 => ⟨S_, .f32⟩
  | 33 => ⟨S_, .f32⟩
  | 34 => ⟨S_, .f32⟩
  | 35 => ⟨S_, .f32⟩
  | 36 => ⟨S_, .f32⟩
  | 37 => ⟨S2x2048x2048, .f32⟩
  | 38 => ⟨S2x2048x2048, .f32⟩
  | 39 => ⟨S2x2048x2048, .f32⟩
  | 40 => ⟨S2x2048x2048, .f32⟩
  | 41 => ⟨S2x2048x2048, .f32⟩
  | 42 => ⟨S2x2048x2048, .f32⟩
  | 43 => ⟨S_, .f32⟩
  | 44 => ⟨S2x2048x2048, .f32⟩
  | 45 => ⟨S2x2048x2048, .f32⟩
  | 46 => ⟨S2x2048x2048, .f32⟩
  | 47 => ⟨S_, .f32⟩
  | 48 => ⟨S_, .f32⟩
  | 49 => ⟨S2x2048x2048, .f32⟩
  | 50 => ⟨S2x2048x2048, .f32⟩
  | 51 => ⟨S2x2048x2048, .f32⟩
  | 52 => ⟨S_, .f32⟩
  | 53 => ⟨S_, .f32⟩
  | 54 => ⟨S_, .f32⟩
  | 55 => ⟨S_, .f32⟩
  | 56 => ⟨S_, .f32⟩
  | 57 => ⟨S2x2048x2048, .f32⟩
  | 58 => ⟨S2x2048x2048, .f32⟩
  | 59 => ⟨S2x2048x2048, .f32⟩
  | 60 => ⟨S2x2048x2048, .f32⟩
  | 61 => ⟨S2x2048x2048, .f32⟩
  | 62 => ⟨S2x2048x2048, .f32⟩
  | 63 => ⟨S_, .f32⟩
  | 64 => ⟨S2x2048, .f32⟩
  | 65 => ⟨S2x2048x1, .f32⟩
  | 66 => ⟨S_, .f32⟩
  | 67 => ⟨S2x2048x1, .f32⟩
  | 68 => ⟨S2x2048x1, .f32⟩
  | 69 => ⟨S2x2048x2048, .f32⟩
  | 70 => ⟨S2x2048x2048, .f32⟩
  | 71 => ⟨S2x2048x2048, .f32⟩
  | 72 => ⟨S_, .f32⟩
  | 73 => ⟨S2x2048, .f32⟩
  | 74 => ⟨S2x2048x1, .f32⟩
  | 75 => ⟨S_, .f32⟩
  | 76 => ⟨S2x2048x1, .f32⟩
  | 77 => ⟨S2x2048x1, .f32⟩
  | 78 => ⟨S_, .f32⟩
  | 79 => ⟨S2x2048x1, .f32⟩
  | 80 => ⟨S2x2048x1, .f32⟩
  | 81 => ⟨S2x2048x1, .f32⟩
  | 82 => ⟨S2x2048x1, .f32⟩
  | 83 => ⟨S_, .f32⟩
  | 84 => ⟨S2x2048x1, .f32⟩
  | 85 => ⟨S2x2048x1, .f32⟩
  | 86 => ⟨S2x2048x2048, .f32⟩
  | 87 => ⟨S2x2048x2048, .f32⟩
  | 88 => ⟨S1x1x2048, .f32⟩
  | 89 => ⟨S2x2048x2048, .f32⟩
  | 90 => ⟨S2x2048x2048, .f32⟩
  | 91 => ⟨S1x1x2048, .f32⟩
  | 92 => ⟨S2x2048x2048, .f32⟩
  | 93 => ⟨S2x2048x2048, .f32⟩
  | 94 => ⟨S2x16x128x16x128, .f32⟩
  | 95 => ⟨S16x2x16x128x128, .f32⟩
  | 96 => ⟨S2x16x128x16x128, .f32⟩
  | 97 => ⟨S1x1x128x16x128, .f32⟩
  | 98 => ⟨S2x16x128x16x128, .f32⟩
  | 99 => ⟨S2x16x128x16x128, .f32⟩
  | 100 => ⟨S2x2048x2048, .f32⟩
  | 101 => ⟨S2x2048x2048, .f32⟩
  | 102 => ⟨S2x2048x2048, .f32⟩
  | 103 => ⟨S_, .f32⟩
  | 104 => ⟨S2x2048, .f32⟩
  | 105 => ⟨S2x2048x1, .f32⟩
  | 106 => ⟨S_, .f32⟩
  | 107 => ⟨S2x2048x1, .f32⟩
  | 108 => ⟨S2x2048x1, .f32⟩
  | 109 => ⟨S_, .f32⟩
  | 110 => ⟨S2x2048x1, .f32⟩
  | 111 => ⟨S2x2048x1, .f32⟩
  | 112 => ⟨S2x2048x1, .f32⟩
  | 113 => ⟨S2x2048x1, .f32⟩
  | 114 => ⟨S_, .f32⟩
  | 115 => ⟨S2x2048x1, .f32⟩
  | 116 => ⟨S2x2048x1, .f32⟩
  | 117 => ⟨S2x2048x2048, .f32⟩
  | 118 => ⟨S2x2048x2048, .f32⟩
  | 119 => ⟨S1x1x2048, .f32⟩
  | 120 => ⟨S2x2048x2048, .f32⟩
  | 121 => ⟨S2x2048x2048, .f32⟩
  | 122 => ⟨S2x2048x2048, .f32⟩
  | 123 => ⟨S_, .f32⟩
  | 124 => ⟨S2048, .f32⟩
  | 125 => ⟨S1x1x2048, .f32⟩
  | 126 => ⟨S2x2048x2048, .f32⟩
  | 127 => ⟨S2x2048x2048, .f32⟩
  | _ => ⟨S4096x4096, .bf16⟩

abbrev hbmTy0_1 (i : Nat) : BufTy := match i % 128 with
  | 0 => ⟨S_, .f32⟩
  | 1 => ⟨S2048, .f32⟩
  | 2 => ⟨S2x2048x2048, .f32⟩
  | 3 => ⟨S_, .f32⟩
  | 4 => ⟨S2x2048, .f32⟩
  | 5 => ⟨S2x2048x1, .f32⟩
  | 6 => ⟨S2x2048x2048, .f32⟩
  | 7 => ⟨S2x2048x2048, .f32⟩
  | 8 => ⟨S2x2048x1, .f32⟩
  | 9 => ⟨S_, .f32⟩
  | 10 => ⟨S2x2048x1, .f32⟩
  | 11 => ⟨S2x2048x1, .f32⟩
  | 12 => ⟨S_, .f32⟩
  | 13 => ⟨S2x2048, .f32⟩
  | 14 => ⟨S2x2048x2048, .f32⟩
  | 15 => ⟨S2x2048x2048, .f32⟩
  | 16 => ⟨S2x2048x2048, .f32⟩
  | 17 => ⟨S2x2048x2048, .f32⟩
  | 18 => ⟨S2x2048x2048, .f32⟩
  | 19 => ⟨S2x2048x2048, .f32⟩
  | 20 => ⟨S2x2048x2048, .f32⟩
  | 21 => ⟨S2x16x128x16x128, .f32⟩
  | 22 => ⟨S_, .f32⟩
  | 23 => ⟨S128x16x128, .f32⟩
  | 24 => ⟨S1x1x128x16x128, .f32⟩
  | 25 => ⟨S_, .f32⟩
  | 26 => ⟨S128x16x128, .f32⟩
  | 27 => ⟨S16x2x16x128x128, .f32⟩
  | 28 => ⟨S16x128x128, .f32⟩
  | 29 => ⟨S16x2x16x128x128, .f32⟩
  | 30 => ⟨S2x16x128x16x128, .f32⟩
  | 31 => ⟨S2x2048x2048, .f32⟩
  | 32 => ⟨S_, .f32⟩
  | 33 => ⟨S2048, .f32⟩
  | 34 => ⟨S1x1x2048, .f32⟩
  | 35 => ⟨S_, .f32⟩
  | 36 => ⟨S2048, .f32⟩
  | 37 => ⟨S2x2048x2048, .f32⟩
  | 38 => ⟨S_, .f32⟩
  | 39 => ⟨S2048, .f32⟩
  | 40 => ⟨S1x1x2048, .f32⟩
  | 41 => ⟨S2x2048x2048, .f32⟩
  | 42 => ⟨S2x2048x2048, .f32⟩
  | 43 => ⟨S_, .f32⟩
  | 44 => ⟨S2048, .f32⟩
  | 45 => ⟨S2x2048x2048, .f32⟩
  | 46 => ⟨S_, .f32⟩
  | 47 => ⟨S2x2048, .f32⟩
  | 48 => ⟨S2x2048x1, .f32⟩
  | 49 => ⟨S2x2048x2048, .f32⟩
  | 50 => ⟨S2x2048x2048, .f32⟩
  | 51 => ⟨S2x2048x1, .f32⟩
  | 52 => ⟨S_, .f32⟩
  | 53 => ⟨S2x2048x1, .f32⟩
  | 54 => ⟨S2x2048x1, .f32⟩
  | 55 => ⟨S_, .f32⟩
  | 56 => ⟨S2x2048, .f32⟩
  | 57 => ⟨S2x2048x2048, .f32⟩
  | 58 => ⟨S2x2048x2048, .f32⟩
  | 59 => ⟨S2x2048x2048, .f32⟩
  | 60 => ⟨S2x2048x2048, .f32⟩
  | 61 => ⟨S2x2048x2048, .f32⟩
  | 62 => ⟨S2x2048x2048, .f32⟩
  | 63 => ⟨S_, .f32⟩
  | 64 => ⟨S2x2048, .f32⟩
  | 65 => ⟨S2x2048x1, .f32⟩
  | 66 => ⟨S_, .f32⟩
  | 67 => ⟨S2x2048x1, .f32⟩
  | 68 => ⟨S2x2048x1, .f32⟩
  | 69 => ⟨S_, .f32⟩
  | 70 => ⟨S2x2048, .f32⟩
  | 71 => ⟨S2x2048x2048, .f32⟩
  | 72 => ⟨S2x2048x2048, .f32⟩
  | 73 => ⟨S2x2048x2048, .f32⟩
  | 74 => ⟨S2x2048x2048, .f32⟩
  | 75 => ⟨S2x2048x2048, .f32⟩
  | 76 => ⟨S2x2048x2048, .f32⟩
  | 77 => ⟨S2x2048x2048, .f32⟩
  | 78 => ⟨S2x2048x2048, .f32⟩
  | 79 => ⟨S_, .f32⟩
  | 80 => ⟨S2x2048x2048, .f32⟩
  | 81 => ⟨S2x2048x2048, .f32⟩
  | 82 => ⟨S2x2048x2048, .f32⟩
  | 83 => ⟨S2x2048x2048, .f32⟩
  | 84 => ⟨S2x2048x2048, .f32⟩
  | 85 => ⟨S2x2048x2048, .f32⟩
  | 86 => ⟨S2x2048x2048, .f32⟩
  | 87 => ⟨S2x2048x2048, .f32⟩
  | 88 => ⟨S2x2048x2048, .f32⟩
  | 89 => ⟨S_, .f32⟩
  | 90 => ⟨S2x2048x2048, .f32⟩
  | 91 => ⟨S2x2048x2048, .f32⟩
  | 92 => ⟨S2x2048x2048, .f32⟩
  | 93 => ⟨S_, .f32⟩
  | 94 => ⟨S2x2048x4096, .f32⟩
  | 95 => ⟨S2x2048x8192, .f32⟩
  | 96 => ⟨S4096x8192, .f32⟩
  | 97 => ⟨S4096x8192, .bf16⟩
  | 98 => ⟨S1x2048, .f32⟩
  | 99 => ⟨S1x2048, .f32⟩
  | 100 => ⟨S1x2048, .f32⟩
  | 101 => ⟨S128x2048, .f32⟩
  | _ => ⟨S4096x4096, .bf16⟩

abbrev hbmTy (i : Nat) : BufTy := match i / 128 with
  | 0 => hbmTy0_0 i
  | 1 => hbmTy0_1 i
  | _ => ⟨S4096x4096, .bf16⟩

abbrev bufTy : (tb : Table) → Fin (tcTables nBuf tb) → BufTy
  | .hbm, ⟨i, _⟩ => hbmTy i
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_0 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_4 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_5 : Ref sig .tc := ⟨.hbm, 52, rfl⟩
abbrev main_v39 : Ref sig .tc := ⟨.hbm, 53, rfl⟩
abbrev main_v40 : Ref sig .tc := ⟨.hbm, 54, rfl⟩
abbrev main_cst_6 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_7 : Ref sig .tc := ⟨.hbm, 63, rfl⟩
abbrev main_v48 : Ref sig .tc := ⟨.hbm, 64, rfl⟩
abbrev main_v49 : Ref sig .tc := ⟨.hbm, 65, rfl⟩
abbrev main_cst_8 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_9 : Ref sig .tc := ⟨.hbm, 72, rfl⟩
abbrev main_v55 : Ref sig .tc := ⟨.hbm, 73, rfl⟩
abbrev main_v56 : Ref sig .tc := ⟨.hbm, 74, rfl⟩
abbrev main_cst_10 : Ref sig .tc := ⟨.hbm, 75, rfl⟩
abbrev main_v57 : Ref sig .tc := ⟨.hbm, 76, rfl⟩
abbrev main_v58 : Ref sig .tc := ⟨.hbm, 77, rfl⟩
abbrev main_cst_11 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_12 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_cst_13 : Ref sig .tc := ⟨.hbm, 103, rfl⟩
abbrev main_v82 : Ref sig .tc := ⟨.hbm, 104, rfl⟩
abbrev main_v83 : Ref sig .tc := ⟨.hbm, 105, rfl⟩
abbrev main_cst_14 : Ref sig .tc := ⟨.hbm, 106, rfl⟩
abbrev main_v84 : Ref sig .tc := ⟨.hbm, 107, rfl⟩
abbrev main_v85 : Ref sig .tc := ⟨.hbm, 108, rfl⟩
abbrev main_cst_15 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_cst_16 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_cst_17 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_cst_18 : Ref sig .tc := ⟨.hbm, 128, rfl⟩
abbrev main_v102 : Ref sig .tc := ⟨.hbm, 129, rfl⟩
abbrev main_v103 : Ref sig .tc := ⟨.hbm, 130, rfl⟩
abbrev main_cst_19 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_cst_20 : Ref sig .tc := ⟨.hbm, 137, rfl⟩
abbrev main_v109 : Ref sig .tc := ⟨.hbm, 138, rfl⟩
abbrev main_v110 : Ref sig .tc := ⟨.hbm, 139, rfl⟩
abbrev main_cst_21 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_cst_22 : Ref sig .tc := ⟨.hbm, 150, rfl⟩
abbrev main_v120 : Ref sig .tc := ⟨.hbm, 151, rfl⟩
abbrev main_v121 : Ref sig .tc := ⟨.hbm, 152, rfl⟩
abbrev main_cst_23 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_cst_24 : Ref sig .tc := ⟨.hbm, 160, rfl⟩
abbrev main_v128 : Ref sig .tc := ⟨.hbm, 161, rfl⟩
abbrev main_v129 : Ref sig .tc := ⟨.hbm, 162, rfl⟩
abbrev main_cst_25 : Ref sig .tc := ⟨.hbm, 163, rfl⟩
abbrev main_v130 : Ref sig .tc := ⟨.hbm, 164, rfl⟩
abbrev main_v131 : Ref sig .tc := ⟨.hbm, 165, rfl⟩
abbrev main_cst_26 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_cst_27 : Ref sig .tc := ⟨.hbm, 171, rfl⟩
abbrev main_v136 : Ref sig .tc := ⟨.hbm, 172, rfl⟩
abbrev main_v137 : Ref sig .tc := ⟨.hbm, 173, rfl⟩
abbrev main_cst_28 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_cst_29 : Ref sig .tc := ⟨.hbm, 180, rfl⟩
abbrev main_v143 : Ref sig .tc := ⟨.hbm, 181, rfl⟩
abbrev main_v144 : Ref sig .tc := ⟨.hbm, 182, rfl⟩
abbrev main_cst_30 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_cst_31 : Ref sig .tc := ⟨.hbm, 191, rfl⟩
abbrev main_v152 : Ref sig .tc := ⟨.hbm, 192, rfl⟩
abbrev main_v153 : Ref sig .tc := ⟨.hbm, 193, rfl⟩
abbrev main_cst_32 : Ref sig .tc := ⟨.hbm, 194, rfl⟩
abbrev main_v154 : Ref sig .tc := ⟨.hbm, 195, rfl⟩
abbrev main_v155 : Ref sig .tc := ⟨.hbm, 196, rfl⟩
abbrev main_cst_33 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩
abbrev main_v163 : Ref sig .tc := ⟨.hbm, 205, rfl⟩
abbrev main_v164 : Ref sig .tc := ⟨.hbm, 206, rfl⟩
abbrev main_cst_34 : Ref sig .tc := ⟨.hbm, 207, rfl⟩
abbrev main_v165 : Ref sig .tc := ⟨.hbm, 208, rfl⟩
abbrev main_v166 : Ref sig .tc := ⟨.hbm, 209, rfl⟩
abbrev main_v167 : Ref sig .tc := ⟨.hbm, 210, rfl⟩
abbrev main_v168 : Ref sig .tc := ⟨.hbm, 211, rfl⟩
abbrev main_v169 : Ref sig .tc := ⟨.hbm, 212, rfl⟩
abbrev main_v170 : Ref sig .tc := ⟨.hbm, 213, rfl⟩
abbrev main_v171 : Ref sig .tc := ⟨.hbm, 214, rfl⟩
abbrev main_v172 : Ref sig .tc := ⟨.hbm, 215, rfl⟩
abbrev main_v173 : Ref sig .tc := ⟨.hbm, 216, rfl⟩
abbrev main_cst_35 : Ref sig .tc := ⟨.hbm, 217, rfl⟩
abbrev main_v174 : Ref sig .tc := ⟨.hbm, 218, rfl⟩
abbrev main_v175 : Ref sig .tc := ⟨.hbm, 219, rfl⟩
abbrev main_v176 : Ref sig .tc := ⟨.hbm, 220, rfl⟩
abbrev main_cst_36 : Ref sig .tc := ⟨.hbm, 221, rfl⟩
abbrev main_v177 : Ref sig .tc := ⟨.hbm, 222, rfl⟩
abbrev main_v178 : Ref sig .tc := ⟨.hbm, 223, rfl⟩
abbrev main_v179 : Ref sig .tc := ⟨.hbm, 224, rfl⟩
abbrev main_v180 : Ref sig .tc := ⟨.hbm, 225, rfl⟩
abbrev main_v181 : Ref sig .tc := ⟨.hbm, 226, rfl⟩
abbrev main_v182 : Ref sig .tc := ⟨.hbm, 227, rfl⟩
abbrev main_v183 : Ref sig .tc := ⟨.hbm, 228, rfl⟩
abbrev main_v184 : Ref sig .tc := ⟨.hbm, 229, rfl⟩

abbrev nD : Nat := 1
abbrev τ : Topo := Topo.v7x

variable {F : FTy → Type} [FloatOps F]
-- ==== GwUp.lean ====
abbrev S8x4096x2752 : Shape := ⟨3, ![8, 4096, 2752]⟩
abbrev S4096x4096 : Shape := ⟨2, ![4096, 4096]⟩
abbrev S8x2752x4096 : Shape := ⟨3, ![8, 2752, 4096]⟩
abbrev S1x1024x2752 : Shape := ⟨3, ![1, 1024, 2752]⟩
abbrev S1024x1024 : Shape := ⟨2, ![1024, 1024]⟩
abbrev S1x2752x1024 : Shape := ⟨3, ![1, 2752, 1024]⟩
abbrev S2752x1024 : Shape := ⟨2, ![2752, 1024]⟩
abbrev S1024x2752 : Shape := ⟨2, ![1024, 2752]⟩

abbrev nBuf : Space → Nat
  | .hbm => 3
  | .vmem => 7
  | .smem => 0
  | _ => 0

abbrev bufTy : (tb : Table) → Fin (tcTables nBuf tb) → BufTy
  | .hbm, ⟨0, _⟩ => ⟨S8x4096x2752, .bf16⟩
  | .hbm, ⟨1, _⟩ => ⟨S4096x4096, .bf16⟩
  | .hbm, ⟨2, _⟩ => ⟨S8x2752x4096, .bf16⟩
  | .local _ .vmem, ⟨0, _⟩ => ⟨S1x1024x2752, .bf16⟩
  | .local _ .vmem, ⟨1, _⟩ => ⟨S1x1024x2752, .bf16⟩
  | .local _ .vmem, ⟨2, _⟩ => ⟨S1024x1024, .bf16⟩
  | .local _ .vmem, ⟨3, _⟩ => ⟨S1024x1024, .bf16⟩
  | .local _ .vmem, ⟨4, _⟩ => ⟨S1x2752x1024, .bf16⟩
  | .local _ .vmem, ⟨5, _⟩ => ⟨S1x2752x1024, .bf16⟩
  | .local _ .vmem, ⟨6, _⟩ => ⟨S2752x1024, .f32⟩
  | _, _ => ⟨S8x4096x2752, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x1024x2752 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2752x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefGwUpIdeal.lean ====
abbrev S8x4096x2752 : Shape := ⟨3, ![8, 4096, 2752]⟩
abbrev S4096x4096 : Shape := ⟨2, ![4096, 4096]⟩
abbrev S4096x8x2752 : Shape := ⟨3, ![4096, 8, 2752]⟩
abbrev S4096x22016 : Shape := ⟨2, ![4096, 22016]⟩
abbrev S_ : Shape := ⟨0, ![]⟩
abbrev S22016x4096 : Shape := ⟨2, ![22016, 4096]⟩
abbrev S8x2752x4096 : Shape := ⟨3, ![8, 2752, 4096]⟩

abbrev nBuf : Space → Nat
  | .hbm => 14
  | .vmem => 0
  | .smem => 0
  | _ => 0

abbrev bufTy : (tb : Table) → Fin (tcTables nBuf tb) → BufTy
  | .hbm, ⟨0, _⟩ => ⟨S8x4096x2752, .bf16⟩
  | .hbm, ⟨1, _⟩ => ⟨S4096x4096, .bf16⟩
  | .hbm, ⟨2, _⟩ => ⟨S4096x4096, .f32⟩
  | .hbm, ⟨3, _⟩ => ⟨S8x4096x2752, .f32⟩
  | .hbm, ⟨4, _⟩ => ⟨S4096x8x2752, .f32⟩
  | .hbm, ⟨5, _⟩ => ⟨S4096x22016, .f32⟩
  | .hbm, ⟨6, _⟩ => ⟨S_, .f32⟩
  | .hbm, ⟨7, _⟩ => ⟨S4096x22016, .f32⟩
  | .hbm, ⟨8, _⟩ => ⟨S4096x22016, .f32⟩
  | .hbm, ⟨9, _⟩ => ⟨S22016x4096, .f32⟩
  | .hbm, ⟨10, _⟩ => ⟨S4096x22016, .f32⟩
  | .hbm, ⟨11, _⟩ => ⟨S4096x8x2752, .f32⟩
  | .hbm, ⟨12, _⟩ => ⟨S8x2752x4096, .f32⟩
  | .hbm, ⟨13, _⟩ => ⟨S8x2752x4096, .bf16⟩
  | _, _ => ⟨S8x4096x2752, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Dh2.lean ====
abbrev S8x4096x2752 : Shape := ⟨3, ![8, 4096, 2752]⟩
abbrev S8x2752x4096 : Shape := ⟨3, ![8, 2752, 4096]⟩
abbrev S4096x4096 : Shape := ⟨2, ![4096, 4096]⟩
abbrev S1x1024x2752 : Shape := ⟨3, ![1, 1024, 2752]⟩
abbrev S1x2752x1024 : Shape := ⟨3, ![1, 2752, 1024]⟩
abbrev S1024x1024 : Shape := ⟨2, ![1024, 1024]⟩
abbrev S1024x2752 : Shape := ⟨2, ![1024, 2752]⟩
abbrev S2752x1024 : Shape := ⟨2, ![2752, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8x4096x2752, .bf16⟩
  | .hbm, ⟨1, _⟩ => ⟨S8x2752x4096, .bf16⟩
  | .hbm, ⟨2, _⟩ => ⟨S4096x4096, .f32⟩
  | .local _ .vmem, ⟨0, _⟩ => ⟨S1x1024x2752, .bf16⟩
  | .local _ .vmem, ⟨1, _⟩ => ⟨S1x1024x2752, .bf16⟩
  | .local _ .vmem, ⟨2, _⟩ => ⟨S1x2752x1024, .bf16⟩
  | .local _ .vmem, ⟨3, _⟩ => ⟨S1x2752x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8x4096x2752, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 8], ![false, false, false]⟩

def k0_cond3 (i : grid0.Coords) : BitVec 1 :=
  let arg2 : BitVec 32 := BitVec.ofNat 32 (i 2).val
  let c7_i32_3 : BitVec 32 := 7#32
  let v8 : BitVec 1 := Scalar.cmpi .eq arg2 c7_i32_3
  let v9 : BitVec 32 := Scalar.extui v8
  let c0_i32_4 : BitVec 32 := 0#32
  let v10 : BitVec 1 := Scalar.cmpi .ne v9 c0_i32_4
  v10

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x2752 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2752x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDh2Ideal.lean ====
abbrev S8x4096x2752 : Shape := ⟨3, ![8, 4096, 2752]⟩
abbrev S8x2752x4096 : Shape := ⟨3, ![8, 2752, 4096]⟩
abbrev S4096x8x2752 : Shape := ⟨3, ![4096, 8, 2752]⟩
abbrev S4096x22016 : Shape := ⟨2, ![4096, 22016]⟩
abbrev S_ : Shape := ⟨0, ![]⟩
abbrev S4096x4096 : Shape := ⟨2, ![4096, 4096]⟩

abbrev nBuf : Space → Nat
  | .hbm => 12
  | .vmem => 0
  | .smem => 0
  | _ => 0

abbrev bufTy : (tb : Table) → Fin (tcTables nBuf tb) → BufTy
  | .hbm, ⟨0, _⟩ => ⟨S8x4096x2752, .bf16⟩
  | .hbm, ⟨1, _⟩ => ⟨S8x2752x4096, .bf16⟩
  | .hbm, ⟨2, _⟩ => ⟨S8x2752x4096, .f32⟩
  | .hbm, ⟨3, _⟩ => ⟨S4096x8x2752, .f32⟩
  | .hbm, ⟨4, _⟩ => ⟨S4096x22016, .f32⟩
  | .hbm, ⟨5, _⟩ => ⟨S8x4096x2752, .f32⟩
  | .hbm, ⟨6, _⟩ => ⟨S4096x8x2752, .f32⟩
  | .hbm, ⟨7, _⟩ => ⟨S4096x22016, .f32⟩
  | .hbm, ⟨8, _⟩ => ⟨S_, .f32⟩
  | .hbm, ⟨9, _⟩ => ⟨S4096x4096, .f32⟩
  | .hbm, ⟨10, _⟩ => ⟨S4096x22016, .f32⟩
  | .hbm, ⟨11, _⟩ => ⟨S4096x4096, .f32⟩
  | _, _ => ⟨S8x4096x2752, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== GwDown.lean ====
abbrev S4x4096x2752 : Shape := ⟨3, ![4, 4096, 2752]⟩
abbrev S4096x4096 : Shape := ⟨2, ![4096, 4096]⟩
abbrev S4x2752x4096 : Shape := ⟨3, ![4, 2752, 4096]⟩
abbrev S1x1024x2752 : Shape := ⟨3, ![1, 1024, 2752]⟩
abbrev S1024x1024 : Shape := ⟨2, ![1024, 1024]⟩
abbrev S1x2752x1024 : Shape := ⟨3, ![1, 2752, 1024]⟩
abbrev S2752x1024 : Shape := ⟨2, ![2752, 1024]⟩
abbrev S1024x2752 : Shape := ⟨2, ![1024, 2752]⟩

abbrev nBuf : Space → Nat
  | .hbm => 3
  | .vmem => 7
  | .smem => 0
  | _ => 0

abbrev bufTy : (tb : Table) → Fin (tcTables nBuf tb) → BufTy
  | .hbm, ⟨0, _⟩ => ⟨S4x4096x2752, .bf16⟩
  | .hbm, ⟨1, _⟩ => ⟨S4096x4096, .bf16⟩
  | .hbm, ⟨2, _⟩ => ⟨S4x2752x4096, .bf16⟩
  | .local _ .vmem, ⟨0, _⟩ => ⟨S1x1024x2752, .bf16⟩
  | .local _ .vmem, ⟨1, _⟩ => ⟨S1x1024x2752, .bf16⟩
  | .local _ .vmem, ⟨2, _⟩ => ⟨S1024x1024, .bf16⟩
  | .local _ .vmem, ⟨3, _⟩ => ⟨S1024x1024, .bf16⟩
  | .local _ .vmem, ⟨4, _⟩ => ⟨S1x2752x1024, .bf16⟩
  | .local _ .vmem, ⟨5, _⟩ => ⟨S1x2752x1024, .bf16⟩
  | .local _ .vmem, ⟨6, _⟩ => ⟨S2752x1024, .f32⟩
  | _, _ => ⟨S4x4096x2752, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x1024x2752 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2752x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefGwDownIdeal.lean ====
abbrev S4x4096x2752 : Shape := ⟨3, ![4, 4096, 2752]⟩
abbrev S4096x4096 : Shape := ⟨2, ![4096, 4096]⟩
abbrev S4096x4x2752 : Shape := ⟨3, ![4096, 4, 2752]⟩
abbrev S4096x11008 : Shape := ⟨2, ![4096, 11008]⟩
abbrev S_ : Shape := ⟨0, ![]⟩
abbrev S11008x4096 : Shape := ⟨2, ![11008, 4096]⟩
abbrev S4x2752x4096 : Shape := ⟨3, ![4, 2752, 4096]⟩

abbrev nBuf : Space → Nat
  | .hbm => 13
  | .vmem => 0
  | .smem => 0
  | _ => 0

abbrev bufTy : (tb : Table) → Fin (tcTables nBuf tb) → BufTy
  | .hbm, ⟨0, _⟩ => ⟨S4x4096x2752, .bf16⟩
  | .hbm, ⟨1, _⟩ => ⟨S4096x4096, .bf16⟩
  | .hbm, ⟨2, _⟩ => ⟨S4x4096x2752, .f32⟩
  | .hbm, ⟨3, _⟩ => ⟨S4096x4x2752, .f32⟩
  | .hbm, ⟨4, _⟩ => ⟨S4096x11008, .f32⟩
  | .hbm, ⟨5, _⟩ => ⟨S4096x4096, .f32⟩
  | .hbm, ⟨6, _⟩ => ⟨S_, .f32⟩
  | .hbm, ⟨7, _⟩ => ⟨S11008x4096, .f32⟩
  | .hbm, ⟨8, _⟩ => ⟨S4096x4096, .f32⟩
  | .hbm, ⟨9, _⟩ => ⟨S4096x11008, .f32⟩
  | .hbm, ⟨10, _⟩ => ⟨S11008x4096, .f32⟩
  | .hbm, ⟨11, _⟩ => ⟨S4x2752x4096, .f32⟩
  | .hbm, ⟨12, _⟩ => ⟨S4x2752x4096, .bf16⟩
  | _, _ => ⟨S4x4096x2752, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Dact.lean ====
abbrev S4096x4096 : Shape := ⟨2, ![4096, 4096]⟩
abbrev S4x2752x4096 : Shape := ⟨3, ![4, 2752, 4096]⟩
abbrev S4x4096x2752 : Shape := ⟨3, ![4, 4096, 2752]⟩
abbrev S1024x1024 : Shape := ⟨2, ![1024, 1024]⟩
abbrev S1x2752x1024 : Shape := ⟨3, ![1, 2752, 1024]⟩
abbrev S1x1024x2752 : Shape := ⟨3, ![1, 1024, 2752]⟩
abbrev S1024x2752 : Shape := ⟨2, ![1024, 2752]⟩
abbrev S2752x1024 : Shape := ⟨2, ![2752, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4x2752x4096, .bf16⟩
  | .hbm, ⟨2, _⟩ => ⟨S4x4096x2752, .bf16⟩
  | .local _ .vmem, ⟨0, _⟩ => ⟨S1024x1024, .bf16⟩
  | .local _ .vmem, ⟨1, _⟩ => ⟨S1024x1024, .bf16⟩
  | .local _ .vmem, ⟨2, _⟩ => ⟨S1x2752x1024, .bf16⟩
  | .local _ .vmem, ⟨3, _⟩ => ⟨S1x2752x1024, .bf16⟩
  | .local _ .vmem, ⟨4, _⟩ => ⟨S1x1024x2752, .bf16⟩
  | .local _ .vmem, ⟨5, _⟩ => ⟨S1x1024x2752, .bf16⟩
  | .local _ .vmem, ⟨6, _⟩ => ⟨S1024x2752, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2752x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x2752 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDactIdeal.lean ====
abbrev S4096x4096 : Shape := ⟨2, ![4096, 4096]⟩
abbrev S4x2752x4096 : Shape := ⟨3, ![4, 2752, 4096]⟩
abbrev S11008x4096 : Shape := ⟨2, ![11008, 4096]⟩
abbrev S_ : Shape := ⟨0, ![]⟩
abbrev S4096x11008 : Shape := ⟨2, ![4096, 11008]⟩
abbrev S4096x4x2752 : Shape := ⟨3, ![4096, 4, 2752]⟩
abbrev S4x4096x2752 : Shape := ⟨3, ![4, 4096, 2752]⟩

abbrev nBuf : Space → Nat
  | .hbm => 12
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4x2752x4096, .bf16⟩
  | .hbm, ⟨2, _⟩ => ⟨S4x2752x4096, .f32⟩
  | .hbm, ⟨3, _⟩ => ⟨S11008x4096, .f32⟩
  | .hbm, ⟨4, _⟩ => ⟨S4096x4096, .f32⟩
  | .hbm, ⟨5, _⟩ => ⟨S_, .f32⟩
  | .hbm, ⟨6, _⟩ => ⟨S4096x11008, .f32⟩
  | .hbm, ⟨7, _⟩ => ⟨S4096x4096, .f32⟩
  | .hbm, ⟨8, _⟩ => ⟨S4096x11008, .f32⟩
  | .hbm, ⟨9, _⟩ => ⟨S4096x4x2752, .f32⟩
  | .hbm, ⟨10, _⟩ => ⟨S4x4096x2752, .f32⟩
  | .hbm, ⟨11, _⟩ => ⟨S4x4096x2752, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== GwIn.lean ====
abbrev S4096x4096 : Shape := ⟨2, ![4096, 4096]⟩
abbrev S4096x8192 : Shape := ⟨2, ![4096, 8192]⟩
abbrev S8x4096x1024 : Shape := ⟨3, ![8, 4096, 1024]⟩
abbrev S1024x2048 : Shape := ⟨2, ![1024, 2048]⟩
abbrev S1024x1024 : Shape := ⟨2, ![1024, 1024]⟩
abbrev S1x2048x1024 : Shape := ⟨3, ![1, 2048, 1024]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .bf16⟩
  | .hbm, ⟨2, _⟩ => ⟨S8x4096x1024, .bf16⟩
  | .local _ .vmem, ⟨0, _⟩ => ⟨S1024x2048, .bf16⟩
  | .local _ .vmem, ⟨1, _⟩ => ⟨S1024x2048, .bf16⟩
  | .local _ .vmem, ⟨2, _⟩ => ⟨S1024x1024, .bf16⟩
  | .local _ .vmem, ⟨3, _⟩ => ⟨S1024x1024, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S2048x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefGwInIdeal.lean ====
abbrev S4096x4096 : Shape := ⟨2, ![4096, 4096]⟩
abbrev S4096x8192 : Shape := ⟨2, ![4096, 8192]⟩
abbrev S_ : Shape := ⟨0, ![]⟩
abbrev S8192x4096 : Shape := ⟨2, ![8192, 4096]⟩
abbrev S4096x8x1024 : Shape := ⟨3, ![4096, 8, 1024]⟩
abbrev S8x4096x1024 : Shape := ⟨3, ![8, 4096, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .bf16⟩
  | .hbm, ⟨2, _⟩ => ⟨S4096x4096, .f32⟩
  | .hbm, ⟨3, _⟩ => ⟨S4096x8192, .f32⟩
  | .hbm, ⟨4, _⟩ => ⟨S_, .f32⟩
  | .hbm, ⟨5, _⟩ => ⟨S4096x8192, .f32⟩
  | .hbm, ⟨6, _⟩ => ⟨S4096x8192, .f32⟩
  | .hbm, ⟨7, _⟩ => ⟨S8192x4096, .f32⟩
  | .hbm, ⟨8, _⟩ => ⟨S4096x8192, .f32⟩
  | .hbm, ⟨9, _⟩ => ⟨S4096x8x1024, .f32⟩
  | .hbm, ⟨10, _⟩ => ⟨S8x4096x1024, .f32⟩
  | .hbm, ⟨11, _⟩ => ⟨S8x4096x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Dh1.lean ====
abbrev S4096x8192 : Shape := ⟨2, ![4096, 8192]⟩
abbrev S8x4096x1024 : Shape := ⟨3, ![8, 4096, 1024]⟩
abbrev S4096x4096 : Shape := ⟨2, ![4096, 4096]⟩
abbrev S1024x1024 : Shape := ⟨2, ![1024, 1024]⟩
abbrev S1x2048x1024 : Shape := ⟨3, ![1, 2048, 1024]⟩
abbrev S1024x2048 : Shape := ⟨2, ![1024, 2048]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S8x4096x1024, .bf16⟩
  | .hbm, ⟨2, _⟩ => ⟨S4096x4096, .f32⟩
  | .local _ .vmem, ⟨0, _⟩ => ⟨S1024x1024, .bf16⟩
  | .local _ .vmem, ⟨1, _⟩ => ⟨S1024x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 8], ![false, false, false]⟩

def k0_cond3 (i : grid0.Coords) : BitVec 1 :=
  let arg2 : BitVec 32 := BitVec.ofNat 32 (i 2).val
  let c7_i32_3 : BitVec 32 := 7#32
  let v8 : BitVec 1 := Scalar.cmpi .eq arg2 c7_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDh1Ideal.lean ====
abbrev S4096x8192 : Shape := ⟨2, ![4096, 8192]⟩
abbrev S8x4096x1024 : Shape := ⟨3, ![8, 4096, 1024]⟩
abbrev S4096x8x1024 : Shape := ⟨3, ![4096, 8, 1024]⟩
abbrev S_ : Shape := ⟨0, ![]⟩
abbrev S4096x4096 : Shape := ⟨2, ![4096, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S8x4096x1024, .bf16⟩
  | .hbm, ⟨2, _⟩ => ⟨S8x4096x1024, .f32⟩
  | .hbm, ⟨3, _⟩ => ⟨S4096x8x1024, .f32⟩
  | .hbm, ⟨4, _⟩ => ⟨S4096x8192, .f32⟩
  | .hbm, ⟨5, _⟩ => ⟨S4096x8192, .f32⟩
  | .hbm, ⟨6, _⟩ => ⟨S_, .f32⟩
  | .hbm, ⟨7, _⟩ => ⟨S4096x4096, .f32⟩
  | .hbm, ⟨8, _⟩ => ⟨S4096x8192, .f32⟩
  | .hbm, ⟨9, _⟩ => ⟨S4096x4096, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GwOut.lean ====
abbrev S4096x4096 : Shape := ⟨2, ![4096, 4096]⟩
abbrev S1024x1024 : Shape := ⟨2, ![1024, 1024]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefGwOutIdeal.lean ====
abbrev S4096x4096 : Shape := ⟨2, ![4096, 4096]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .hbm, ⟨3, _⟩ => ⟨S4096x4096, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Dy.lean ====
abbrev S4096x4096 : Shape := ⟨2, ![4096, 4096]⟩
abbrev S512x4096 : Shape := ⟨2, ![512, 4096]⟩
abbrev S1024x4096 : Shape := ⟨2, ![1024, 4096]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .bf16⟩
  | .local _ .vmem, ⟨0, _⟩ => ⟨S512x4096, .bf16⟩
  | .local _ .vmem, ⟨1, _⟩ => ⟨S512x4096, .bf16⟩
  | .local _ .vmem, ⟨2, _⟩ => ⟨S1024x4096, .bf16⟩
  | .local _ .vmem, ⟨3, _⟩ => ⟨S1024x4096, .bf16⟩
  | .local _ .vmem, ⟨4, _⟩ => ⟨S512x1024, .bf16⟩
  | .local _ .vmem, ⟨5, _⟩ => ⟨S512x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDyIdeal.lean ====
abbrev S4096x4096 : Shape := ⟨2, ![4096, 4096]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .hbm, ⟨3, _⟩ => ⟨S4096x4096, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Down.lean ====
abbrev S4x4096x2752 : Shape := ⟨3, ![4, 4096, 2752]⟩
abbrev S4x2752x4096 : Shape := ⟨3, ![4, 2752, 4096]⟩
abbrev S4096x4096 : Shape := ⟨2, ![4096, 4096]⟩
abbrev S2x1x4096 : Shape := ⟨3, ![2, 1, 4096]⟩
abbrev S1x1024x2752 : Shape := ⟨3, ![1, 1024, 2752]⟩
abbrev S1x2752x1024 : Shape := ⟨3, ![1, 2752, 1024]⟩
abbrev S1024x1024 : Shape := ⟨2, ![1024, 1024]⟩
abbrev S1x1x1024 : Shape := ⟨3, ![1, 1, 1024]⟩
abbrev S1024x2752 : Shape := ⟨2, ![1024, 2752]⟩
abbrev S2752x1024 : Shape := ⟨2, ![2752, 1024]⟩
abbrev S1x1024 : Shape := ⟨2, ![1, 1024]⟩

abbrev nBuf : Space → Nat
  | .hbm => 6
  | .vmem => 13
  | .smem => 0
  | _ => 0

abbrev bufTy : (tb : Table) → Fin (tcTables nBuf tb) → BufTy
  | .hbm, ⟨0, _⟩ => ⟨S4x4096x2752, .bf16⟩
  | .hbm, ⟨1, _⟩ => ⟨S4x2752x4096, .bf16⟩
  | .hbm, ⟨2, _⟩ => ⟨S4096x4096, .f32⟩
  | .hbm, ⟨3, _⟩ => ⟨S2x1x4096, .f32⟩
  | .hbm, ⟨4, _⟩ => ⟨S4096x4096, .f32⟩
  | .hbm, ⟨5, _⟩ => ⟨S4096x4096, .f32⟩
  | .local _ .vmem, ⟨0, _⟩ => ⟨S1x1024x2752, .bf16⟩
  | .local _ .vmem, ⟨1, _⟩ => ⟨S1x1024x2752, .bf16⟩
  | .local _ .vmem, ⟨2, _⟩ => ⟨S1x2752x1024, .bf16⟩
  | .local _ .vmem, ⟨3, _⟩ => ⟨S1x2752x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1x1024, .f32⟩
  | .local _ .vmem, ⟨7, _⟩ => ⟨S1x1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | _, _ => ⟨S4x4096x2752, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x2752 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2752x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== RefDownIdeal.lean ====
abbrev S4x4096x2752 : Shape := ⟨3, ![4, 4096, 2752]⟩
abbrev S4x2752x4096 : Shape := ⟨3, ![4, 2752, 4096]⟩
abbrev S4096x4096 : Shape := ⟨2, ![4096, 4096]⟩
abbrev S2x1x4096 : Shape := ⟨3, ![2, 1, 4096]⟩
abbrev S11008x4096 : Shape := ⟨2, ![11008, 4096]⟩
abbrev S4096x4x2752 : Shape := ⟨3, ![4096, 4, 2752]⟩
abbrev S4096x11008 : Shape := ⟨2, ![4096, 11008]⟩
abbrev S2x2048x4096 : Shape := ⟨3, ![2, 2048, 4096]⟩

abbrev nBuf : Space → Nat
  | .hbm => 16
  | .vmem => 0
  | .smem => 0
  | _ => 0

abbrev bufTy : (tb : Table) → Fin (tcTables nBuf tb) → BufTy
  | .hbm, ⟨0, _⟩ => ⟨S4x4096x2752, .bf16⟩
  | .hbm, ⟨1, _⟩ => ⟨S4x2752x4096, .bf16⟩
  | .hbm, ⟨2, _⟩ => ⟨S4096x4096, .f32⟩
  | .hbm, ⟨3, _⟩ => ⟨S2x1x4096, .f32⟩
  | .hbm, ⟨4, _⟩ => ⟨S4x2752x4096, .f32⟩
  | .hbm, ⟨5, _⟩ => ⟨S11008x4096, .f32⟩
  | .hbm, ⟨6, _⟩ => ⟨S4x4096x2752, .f32⟩
  | .hbm, ⟨7, _⟩ => ⟨S4096x4x2752, .f32⟩
  | .hbm, ⟨8, _⟩ => ⟨S4096x11008, .f32⟩
  | .hbm, ⟨9, _⟩ => ⟨S4096x4096, .f32⟩
  | .hbm, ⟨10, _⟩ => ⟨S2x2048x4096, .f32⟩
  | .hbm, ⟨11, _⟩ => ⟨S2x2048x4096, .f32⟩
  | .hbm, ⟨12, _⟩ => ⟨S2x2048x4096, .f32⟩
  | .hbm, ⟨13, _⟩ => ⟨S2x2048x4096, .f32⟩
  | .hbm, ⟨14, _⟩ => ⟨S2x2048x4096, .f32⟩
  | .hbm, ⟨15, _⟩ => ⟨S4096x4096, .f32⟩
  | _, _ => ⟨S4x4096x2752, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Out.lean ====
abbrev S4096x4096 : Shape := ⟨2, ![4096, 4096]⟩
abbrev S2x1x4096 : Shape := ⟨3, ![2, 1, 4096]⟩
abbrev S512x4096 : Shape := ⟨2, ![512, 4096]⟩
abbrev S4096x1024 : Shape := ⟨2, ![4096, 1024]⟩
abbrev S512x1024 : Shape := ⟨2, ![512, 1024]⟩
abbrev S1x1x1024 : Shape := ⟨3, ![1, 1, 1024]⟩
abbrev S1x1024 : Shape := ⟨2, ![1, 1024]⟩

abbrev nBuf : Space → Nat
  | .hbm => 6
  | .vmem => 12
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .hbm, ⟨3, _⟩ => ⟨S2x1x4096, .f32⟩
  | .hbm, ⟨4, _⟩ => ⟨S4096x4096, .f32⟩
  | .hbm, ⟨5, _⟩ => ⟨S4096x4096, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .f32⟩
  | .local _ .vmem, ⟨5, _⟩ => ⟨S512x1024, .f32⟩
  | .local _ .vmem, ⟨6, _⟩ => ⟨S1x1x1024, .f32⟩
  | .local _ .vmem, ⟨7, _⟩ => ⟨S1x1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== RefOutIdeal.lean ====
abbrev S4096x4096 : Shape := ⟨2, ![4096, 4096]⟩
abbrev S2x1x4096 : Shape := ⟨3, ![2, 1, 4096]⟩
abbrev S2x2048x4096 : Shape := ⟨3, ![2, 2048, 4096]⟩

abbrev nBuf : Space → Nat
  | .hbm => 13
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .hbm, ⟨3, _⟩ => ⟨S2x1x4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S2x2048x4096, .f32⟩
  | .hbm, ⟨8, _⟩ => ⟨S2x2048x4096, .f32⟩
  | .hbm, ⟨9, _⟩ => ⟨S2x2048x4096, .f32⟩
  | .hbm, ⟨10, _⟩ => ⟨S2x2048x4096, .f32⟩
  | .hbm, ⟨11, _⟩ => ⟨S2x2048x4096, .f32⟩
  | .hbm, ⟨12, _⟩ => ⟨S4096x4096, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== ProjNear.lean ====
abbrev S4096x4096 : Shape := ⟨2, ![4096, 4096]⟩
abbrev S8x4096x1024 : Shape := ⟨3, ![8, 4096, 1024]⟩
abbrev S2 : Shape := ⟨1, ![2]⟩
abbrev S4096x8192 : Shape := ⟨2, ![4096, 8192]⟩
abbrev S512x4096 : Shape := ⟨2, ![512, 4096]⟩
abbrev S1x4096x1024 : Shape := ⟨3, ![1, 4096, 1024]⟩
abbrev S1 : Shape := ⟨1, ![1]⟩
abbrev S512x1024 : Shape := ⟨2, ![512, 1024]⟩
abbrev S4096x1024 : Shape := ⟨2, ![4096, 1024]⟩

abbrev nBuf : Space → Nat
  | .hbm => 3
  | .vmem => 6
  | .smem => 1
  | _ => 0

abbrev bufTy : (tb : Table) → Fin (tcTables nBuf tb) → BufTy
  | .hbm, ⟨0, _⟩ => ⟨S4096x4096, .bf16⟩
  | .hbm, ⟨1, _⟩ => ⟨S8x4096x1024, .bf16⟩
  | .hbm, ⟨2, _⟩ => ⟨S4096x8192, .bf16⟩
  | .local _ .vmem, ⟨0, _⟩ => ⟨S512x4096, .bf16⟩
  | .local _ .vmem, ⟨1, _⟩ => ⟨S512x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S512x1024, .bf16⟩
  | .local _ .vmem, ⟨5, _⟩ => ⟨S512x1024, .bf16⟩
  | .local _ .smem, ⟨0, _⟩ => ⟨S2, .i32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S2.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg1
  let v1 : BitVec 32 := pf.at 0 (Rect.unit (s := S2) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S2.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg1
  let v1 : BitVec 32 := pf.at 0 (Rect.unit (s := S2) ![v0.toNat] S1.size (k0_off1_inb i)) numel1_S1
  let c0_i32 : BitVec 32 := 0#32
  ![arg0.toNat, v1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefProjNearIdeal.lean ====
abbrev S4096x4096 : Shape := ⟨2, ![4096, 4096]⟩
abbrev S8x4096x1024 : Shape := ⟨3, ![8, 4096, 1024]⟩
abbrev S2 : Shape := ⟨1, ![2]⟩
abbrev S4096x8x1024 : Shape := ⟨3, ![4096, 8, 1024]⟩
abbrev S4096x8192 : Shape := ⟨2, ![4096, 8192]⟩

abbrev nBuf : Space → Nat
  | .hbm => 11
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S8x4096x1024, .bf16⟩
  | .hbm, ⟨2, _⟩ => ⟨S2, .i32⟩
  | .hbm, ⟨3, _⟩ => ⟨S4096x4096, .f32⟩
  | .hbm, ⟨4, _⟩ => ⟨S8x4096x1024, .f32⟩
  | .hbm, ⟨5, _⟩ => ⟨S4096x8x1024, .f32⟩
  | .hbm, ⟨6, _⟩ => ⟨S4096x8192, .f32⟩
  | .hbm, ⟨7, _⟩ => ⟨S4096x8192, .f32⟩
  | .hbm, ⟨8, _⟩ => ⟨S4096x8192, .bf16⟩
  | .hbm, ⟨9, _⟩ => ⟨S4096x8x1024, .bf16⟩
  | .hbm, ⟨10, _⟩ => ⟨S4096x8192, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== ProjRest.lean ====
abbrev S4096x4096 : Shape := ⟨2, ![4096, 4096]⟩
abbrev S8x4096x1024 : Shape := ⟨3, ![8, 4096, 1024]⟩
abbrev S3 : Shape := ⟨1, ![3]⟩
abbrev S4096x8192 : Shape := ⟨2, ![4096, 8192]⟩
abbrev S512x4096 : Shape := ⟨2, ![512, 4096]⟩
abbrev S1x4096x1024 : Shape := ⟨3, ![1, 4096, 1024]⟩
abbrev S1 : Shape := ⟨1, ![1]⟩
abbrev S512x1024 : Shape := ⟨2, ![512, 1024]⟩
abbrev S4096x1024 : Shape := ⟨2, ![4096, 1024]⟩

abbrev nBuf : Space → Nat
  | .hbm => 4
  | .vmem => 6
  | .smem => 1
  | _ => 0

abbrev bufTy : (tb : Table) → Fin (tcTables nBuf tb) → BufTy
  | .hbm, ⟨0, _⟩ => ⟨S4096x4096, .bf16⟩
  | .hbm, ⟨1, _⟩ => ⟨S8x4096x1024, .bf16⟩
  | .hbm, ⟨2, _⟩ => ⟨S4096x8192, .bf16⟩
  | .hbm, ⟨3, _⟩ => ⟨S4096x8192, .bf16⟩
  | .local _ .vmem, ⟨0, _⟩ => ⟨S512x4096, .bf16⟩
  | .local _ .vmem, ⟨1, _⟩ => ⟨S512x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S512x1024, .bf16⟩
  | .local _ .vmem, ⟨5, _⟩ => ⟨S512x1024, .bf16⟩
  | .local _ .smem, ⟨0, _⟩ => ⟨S3, .i32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_v0 : Ref sig .tc := ⟨.hbm, 3, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 3, 1], ![false, false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S3.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg1
  let v1 : BitVec 32 := pf.at 0 (Rect.unit (s := S3) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S3.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg1
  let v1 : BitVec 32 := pf.at 0 (Rect.unit (s := S3) ![v0.toNat] S1.size (k0_off1_inb i)) numel1_S1
  let c0_i32 : BitVec 32 := 0#32
  ![arg0.toNat, v1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefProjRestIdeal.lean ====
abbrev S4096x4096 : Shape := ⟨2, ![4096, 4096]⟩
abbrev S8x4096x1024 : Shape := ⟨3, ![8, 4096, 1024]⟩
abbrev S3 : Shape := ⟨1, ![3]⟩
abbrev S4096x8192 : Shape := ⟨2, ![4096, 8192]⟩
abbrev S4096x8x1024 : Shape := ⟨3, ![4096, 8, 1024]⟩
abbrev S8 : Shape := ⟨1, ![8]⟩
abbrev S1 : Shape := ⟨1, ![1]⟩
abbrev S_ : Shape := ⟨0, ![]⟩
abbrev S1x8x1 : Shape := ⟨3, ![1, 8, 1]⟩

abbrev nBuf : Space → Nat
  | .hbm => 31
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S8x4096x1024, .bf16⟩
  | .hbm, ⟨2, _⟩ => ⟨S3, .i32⟩
  | .hbm, ⟨3, _⟩ => ⟨S4096x8192, .bf16⟩
  | .hbm, ⟨4, _⟩ => ⟨S4096x8x1024, .bf16⟩
  | .hbm, ⟨5, _⟩ => ⟨S8, .i32⟩
  | .hbm, ⟨6, _⟩ => ⟨S1, .i32⟩
  | .hbm, ⟨7, _⟩ => ⟨S_, .i32⟩
  | .hbm, ⟨8, _⟩ => ⟨S8, .i32⟩
  | .hbm, ⟨9, _⟩ => ⟨S8, .i1⟩
  | .hbm, ⟨10, _⟩ => ⟨S1, .i32⟩
  | .hbm, ⟨11, _⟩ => ⟨S_, .i32⟩
  | .hbm, ⟨12, _⟩ => ⟨S8, .i32⟩
  | .hbm, ⟨13, _⟩ => ⟨S8, .i1⟩
  | .hbm, ⟨14, _⟩ => ⟨S8, .i1⟩
  | .hbm, ⟨15, _⟩ => ⟨S1, .i32⟩
  | .hbm, ⟨16, _⟩ => ⟨S_, .i32⟩
  | .hbm, ⟨17, _⟩ => ⟨S8, .i32⟩
  | .hbm, ⟨18, _⟩ => ⟨S8, .i1⟩
  | .hbm, ⟨19, _⟩ => ⟨S8, .i1⟩
  | .hbm, ⟨20, _⟩ => ⟨S1x8x1, .i1⟩
  | .hbm, ⟨21, _⟩ => ⟨S4096x4096, .f32⟩
  | .hbm, ⟨22, _⟩ => ⟨S8x4096x1024, .f32⟩
  | .hbm, ⟨23, _⟩ => ⟨S4096x8x1024, .f32⟩
  | .hbm, ⟨24, _⟩ => ⟨S4096x8192, .f32⟩
  | .hbm, ⟨25, _⟩ => ⟨S4096x8192, .f32⟩
  | .hbm, ⟨26, _⟩ => ⟨S4096x8192, .bf16⟩
  | .hbm, ⟨27, _⟩ => ⟨S4096x8x1024, .bf16⟩
  | .hbm, ⟨28, _⟩ => ⟨S4096x8x1024, .i1⟩
  | .hbm, ⟨29, _⟩ => ⟨S4096x8x1024, .bf16⟩
  | .hbm, ⟨30, _⟩ => ⟨S4096x8192, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_call0_v0 : Ref sig .tc := ⟨.hbm, 28, rfl⟩
abbrev main_v24 : Ref sig .tc := ⟨.hbm, 29, rfl⟩
abbrev main_v25 : Ref sig .tc := ⟨.hbm, 30, rfl⟩

abbrev nD : Nat := 1
abbrev τ : Topo := Topo.v7x

variable {F : FTy → Type} [FloatOps F]
-- ==== UpNear.lean ====
abbrev S4096x4096 : Shape := ⟨2, ![4096, 4096]⟩
abbrev S8x2752x4096 : Shape := ⟨3, ![8, 2752, 4096]⟩
abbrev S2 : Shape := ⟨1, ![2]⟩
abbrev S8x4096x2752 : Shape := ⟨3, ![8, 4096, 2752]⟩
abbrev S1024x1024 : Shape := ⟨2, ![1024, 1024]⟩
abbrev S1x2752x1024 : Shape := ⟨3, ![1, 2752, 1024]⟩
abbrev S1 : Shape := ⟨1, ![1]⟩
abbrev S1x1024x2752 : Shape := ⟨3, ![1, 1024, 2752]⟩
abbrev S1024x2752 : Shape := ⟨2, ![1024, 2752]⟩
abbrev S2752x1024 : Shape := ⟨2, ![2752, 1024]⟩

abbrev nBuf : Space → Nat
  | .hbm => 3
  | .vmem => 7
  | .smem => 1
  | _ => 0

abbrev bufTy : (tb : Table) → Fin (tcTables nBuf tb) → BufTy
  | .hbm, ⟨0, _⟩ => ⟨S4096x4096, .bf16⟩
  | .hbm, ⟨1, _⟩ => ⟨S8x2752x4096, .bf16⟩
  | .hbm, ⟨2, _⟩ => ⟨S8x4096x2752, .bf16⟩
  | .local _ .vmem, ⟨0, _⟩ => ⟨S1024x1024, .bf16⟩
  | .local _ .vmem, ⟨1, _⟩ => ⟨S1024x1024, .bf16⟩
  | .local _ .vmem, ⟨2, _⟩ => ⟨S1x2752x1024, .bf16⟩
  | .local _ .vmem, ⟨3, _⟩ => ⟨S1x2752x1024, .bf16⟩
  | .local _ .vmem, ⟨4, _⟩ => ⟨S1x1024x2752, .bf16⟩
  | .local _ .vmem, ⟨5, _⟩ => ⟨S1x1024x2752, .bf16⟩
  | .local _ .vmem, ⟨6, _⟩ => ⟨S1024x2752, .f32⟩
  | .local _ .smem, ⟨0, _⟩ => ⟨S2, .i32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (k0_off1_inb : ∀ i : grid0.Coords, ∀ a, (k0_off1 i) a + S1.size a ≤ S2.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg1
  let v1 : BitVec 32 := pf.at 0 (Rect.unit (s := S2) ![v0.toNat] S1.size (k0_off1_inb i)) numel1_S1
  let c0_i32 : BitVec 32 := 0#32
  let c0_i32_0 : BitVec 32 := 0#32
  ![v1.toNat, c0_i32.toNat, arg2.toNat]

def cc0_transform_2 (k0_off1_inb : ∀ i : grid0.Coords, ∀ a, (k0_off1 i) a + S1.size a ≤ S2.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg1
  let v1 : BitVec 32 := pf.at 0 (Rect.unit (s := S2) ![v0.toNat] S1.size (k0_off1_inb i)) numel1_S1
  let c0_i32 : BitVec 32 := 0#32
  let c0_i32_0 : BitVec 32 := 0#32
  ![v1.toNat, arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2752x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x2752 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefUpNearIdeal.lean ====
abbrev S4096x4096 : Shape := ⟨2, ![4096, 4096]⟩
abbrev S8x2752x4096 : Shape := ⟨3, ![8, 2752, 4096]⟩
abbrev S2 : Shape := ⟨1, ![2]⟩
abbrev S4096x8x2752 : Shape := ⟨3, ![4096, 8, 2752]⟩
abbrev S4096x22016 : Shape := ⟨2, ![4096, 22016]⟩
abbrev S8x4096x2752 : Shape := ⟨3, ![8, 4096, 2752]⟩

abbrev nBuf : Space → Nat
  | .hbm => 11
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S8x2752x4096, .bf16⟩
  | .hbm, ⟨2, _⟩ => ⟨S2, .i32⟩
  | .hbm, ⟨3, _⟩ => ⟨S8x2752x4096, .f32⟩
  | .hbm, ⟨4, _⟩ => ⟨S4096x8x2752, .f32⟩
  | .hbm, ⟨5, _⟩ => ⟨S4096x22016, .f32⟩
  | .hbm, ⟨6, _⟩ => ⟨S4096x4096, .f32⟩
  | .hbm, ⟨7, _⟩ => ⟨S4096x22016, .f32⟩
  | .hbm, ⟨8, _⟩ => ⟨S4096x22016, .bf16⟩
  | .hbm, ⟨9, _⟩ => ⟨S4096x8x2752, .bf16⟩
  | .hbm, ⟨10, _⟩ => ⟨S8x4096x2752, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== UpRest.lean ====
abbrev S4096x4096 : Shape := ⟨2, ![4096, 4096]⟩
abbrev S8x2752x4096 : Shape := ⟨3, ![8, 2752, 4096]⟩
abbrev S3 : Shape := ⟨1, ![3]⟩
abbrev S8x4096x2752 : Shape := ⟨3, ![8, 4096, 2752]⟩
abbrev S1024x1024 : Shape := ⟨2, ![1024, 1024]⟩
abbrev S1x2752x1024 : Shape := ⟨3, ![1, 2752, 1024]⟩
abbrev S1 : Shape := ⟨1, ![1]⟩
abbrev S1x1024x2752 : Shape := ⟨3, ![1, 1024, 2752]⟩
abbrev S1024x2752 : Shape := ⟨2, ![1024, 2752]⟩
abbrev S2752x1024 : Shape := ⟨2, ![2752, 1024]⟩

abbrev nBuf : Space → Nat
  | .hbm => 4
  | .vmem => 7
  | .smem => 1
  | _ => 0

abbrev bufTy : (tb : Table) → Fin (tcTables nBuf tb) → BufTy
  | .hbm, ⟨0, _⟩ => ⟨S4096x4096, .bf16⟩
  | .hbm, ⟨1, _⟩ => ⟨S8x2752x4096, .bf16⟩
  | .hbm, ⟨2, _⟩ => ⟨S8x4096x2752, .bf16⟩
  | .hbm, ⟨3, _⟩ => ⟨S8x4096x2752, .bf16⟩
  | .local _ .vmem, ⟨0, _⟩ => ⟨S1024x1024, .bf16⟩
  | .local _ .vmem, ⟨1, _⟩ => ⟨S1024x1024, .bf16⟩
  | .local _ .vmem, ⟨2, _⟩ => ⟨S1x2752x1024, .bf16⟩
  | .local _ .vmem, ⟨3, _⟩ => ⟨S1x2752x1024, .bf16⟩
  | .local _ .vmem, ⟨4, _⟩ => ⟨S1x1024x2752, .bf16⟩
  | .local _ .vmem, ⟨5, _⟩ => ⟨S1x1024x2752, .bf16⟩
  | .local _ .vmem, ⟨6, _⟩ => ⟨S1024x2752, .f32⟩
  | .local _ .smem, ⟨0, _⟩ => ⟨S3, .i32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_v0 : Ref sig .tc := ⟨.hbm, 3, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 4], ![false, false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (k0_off1_inb : ∀ i : grid0.Coords, ∀ a, (k0_off1 i) a + S1.size a ≤ S3.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg1
  let v1 : BitVec 32 := pf.at 0 (Rect.unit (s := S3) ![v0.toNat] S1.size (k0_off1_inb i)) numel1_S1
  let c0_i32 : BitVec 32 := 0#32
  let c0_i32_0 : BitVec 32 := 0#32
  ![v1.toNat, c0_i32.toNat, arg2.toNat]

def cc0_transform_3 (k0_off1_inb : ∀ i : grid0.Coords, ∀ a, (k0_off1 i) a + S1.size a ≤ S3.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg1
  let v1 : BitVec 32 := pf.at 0 (Rect.unit (s := S3) ![v0.toNat] S1.size (k0_off1_inb i)) numel1_S1
  let c0_i32 : BitVec 32 := 0#32
  let c0_i32_0 : BitVec 32 := 0#32
  ![v1.toNat, arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2752x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x2752 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefUpRestIdeal.lean ====
abbrev S4096x4096 : Shape := ⟨2, ![4096, 4096]⟩
abbrev S8x2752x4096 : Shape := ⟨3, ![8, 2752, 4096]⟩
abbrev S3 : Shape := ⟨1, ![3]⟩
abbrev S8x4096x2752 : Shape := ⟨3, ![8, 4096, 2752]⟩
abbrev S8 : Shape := ⟨1, ![8]⟩
abbrev S1 : Shape := ⟨1, ![1]⟩
abbrev S_ : Shape := ⟨0, ![]⟩
abbrev S8x1x1 : Shape := ⟨3, ![8, 1, 1]⟩
abbrev S4096x8x2752 : Shape := ⟨3, ![4096, 8, 2752]⟩
abbrev S4096x22016 : Shape := ⟨2, ![4096, 22016]⟩

abbrev nBuf : Space → Nat
  | .hbm => 30
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S8x2752x4096, .bf16⟩
  | .hbm, ⟨2, _⟩ => ⟨S3, .i32⟩
  | .hbm, ⟨3, _⟩ => ⟨S8x4096x2752, .bf16⟩
  | .hbm, ⟨4, _⟩ => ⟨S8, .i32⟩
  | .hbm, ⟨5, _⟩ => ⟨S1, .i32⟩
  | .hbm, ⟨6, _⟩ => ⟨S_, .i32⟩
  | .hbm, ⟨7, _⟩ => ⟨S8, .i32⟩
  | .hbm, ⟨8, _⟩ => ⟨S8, .i1⟩
  | .hbm, ⟨9, _⟩ => ⟨S1, .i32⟩
  | .hbm, ⟨10, _⟩ => ⟨S_, .i32⟩
  | .hbm, ⟨11, _⟩ => ⟨S8, .i32⟩
  | .hbm, ⟨12, _⟩ => ⟨S8, .i1⟩
  | .hbm, ⟨13, _⟩ => ⟨S8, .i1⟩
  | .hbm, ⟨14, _⟩ => ⟨S1, .i32⟩
  | .hbm, ⟨15, _⟩ => ⟨S_, .i32⟩
  | .hbm, ⟨16, _⟩ => ⟨S8, .i32⟩
  | .hbm, ⟨17, _⟩ => ⟨S8, .i1⟩
  | .hbm, ⟨18, _⟩ => ⟨S8, .i1⟩
  | .hbm, ⟨19, _⟩ => ⟨S8x1x1, .i1⟩
  | .hbm, ⟨20, _⟩ => ⟨S8x2752x4096, .f32⟩
  | .hbm, ⟨21, _⟩ => ⟨S4096x8x2752, .f32⟩
  | .hbm, ⟨22, _⟩ => ⟨S4096x22016, .f32⟩
  | .hbm, ⟨23, _⟩ => ⟨S4096x4096, .f32⟩
  | .hbm, ⟨24, _⟩ => ⟨S4096x22016, .f32⟩
  | .hbm, ⟨25, _⟩ => ⟨S4096x22016, .bf16⟩
  | .hbm, ⟨26, _⟩ => ⟨S4096x8x2752, .bf16⟩
  | .hbm, ⟨27, _⟩ => ⟨S8x4096x2752, .bf16⟩
  | .hbm, ⟨28, _⟩ => ⟨S8x4096x2752, .i1⟩
  | .hbm, ⟨29, _⟩ => ⟨S8x4096x2752, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_call0_v0 : Ref sig .tc := ⟨.hbm, 28, rfl⟩
abbrev main_v24 : Ref sig .tc := ⟨.hbm, 29, rfl⟩

abbrev nD : Nat := 1
abbrev τ : Topo := Topo.v7x

variable {F : FTy → Type} [FloatOps F]
-- ==== AdamIn.lean ====
abbrev S8x4096x1024 : Shape := ⟨3, ![8, 4096, 1024]⟩
abbrev S1 : Shape := ⟨1, ![1]⟩
abbrev S4096x1024 : Shape := ⟨2, ![4096, 1024]⟩
abbrev S8x256x1024 : Shape := ⟨3, ![8, 256, 1024]⟩
abbrev S1x256x1024 : Shape := ⟨3, ![1, 256, 1024]⟩
abbrev S256x1024 : Shape := ⟨2, ![256, 1024]⟩

abbrev nBuf : Space → Nat
  | .hbm => 9
  | .vmem => 18
  | .smem => 1
  | _ => 0

abbrev bufTy : (tb : Table) → Fin (tcTables nBuf tb) → BufTy
  | .hbm, ⟨0, _⟩ => ⟨S8x4096x1024, .bf16⟩
  | .hbm, ⟨1, _⟩ => ⟨S8x4096x1024, .bf16⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .local _ .vmem, ⟨0, _⟩ => ⟨S8x256x1024, .bf16⟩
  | .local _ .vmem, ⟨1, _⟩ => ⟨S8x256x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .smem, ⟨0, _⟩ => ⟨S1, .i32⟩
  | _, _ => ⟨S8x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== RefAdamInIdeal.lean ====
abbrev S8x4096x1024 : Shape := ⟨3, ![8, 4096, 1024]⟩
abbrev S1 : Shape := ⟨1, ![1]⟩
abbrev S4096x1024 : Shape := ⟨2, ![4096, 1024]⟩
abbrev S8 : Shape := ⟨1, ![8]⟩
abbrev S8x1x1 : Shape := ⟨3, ![8, 1, 1]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S8x4096x1024, .bf16⟩
  | .hbm, ⟨1, _⟩ => ⟨S8x4096x1024, .bf16⟩
  | .hbm, ⟨2, _⟩ => ⟨S1, .i32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S8, .i32⟩
  | .hbm, ⟨7, _⟩ => ⟨S8, .i32⟩
  | .hbm, ⟨8, _⟩ => ⟨S8, .i1⟩
  | .hbm, ⟨9, _⟩ => ⟨S8x1x1, .i1⟩
  | .hbm, ⟨10, _⟩ => ⟨S8x4096x1024, .i1⟩
  | .hbm, ⟨11, _⟩ => ⟨S8x4096x1024, .bf16⟩
  | .hbm, ⟨12, _⟩ => ⟨S8x4096x1024, .f32⟩
  | .hbm, ⟨13, _⟩ => ⟨S_, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S4096x1024, .f32⟩
  | .hbm, ⟨47, _⟩ => ⟨S4096x1024, .f32⟩
  | _, _ => ⟨S8x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== AdamOut.lean ====
abbrev S8x512x4096 : Shape := ⟨3, ![8, 512, 4096]⟩
abbrev S1 : Shape := ⟨1, ![1]⟩
abbrev S512x4096 : Shape := ⟨2, ![512, 4096]⟩
abbrev S8x64x4096 : Shape := ⟨3, ![8, 64, 4096]⟩
abbrev S1x64x4096 : Shape := ⟨3, ![1, 64, 4096]⟩
abbrev S64x4096 : Shape := ⟨2, ![64, 4096]⟩

abbrev nBuf : Space → Nat
  | .hbm => 9
  | .vmem => 18
  | .smem => 1
  | _ => 0

abbrev bufTy : (tb : Table) → Fin (tcTables nBuf tb) → BufTy
  | .hbm, ⟨0, _⟩ => ⟨S8x512x4096, .bf16⟩
  | .hbm, ⟨1, _⟩ => ⟨S8x512x4096, .bf16⟩
  | .hbm, ⟨2, _⟩ => ⟨S512x4096, .f32⟩
  | .hbm, ⟨3, _⟩ => ⟨S512x4096, .f32⟩
  | .hbm, ⟨4, _⟩ => ⟨S512x4096, .f32⟩
  | .hbm, ⟨5, _⟩ => ⟨S512x4096, .f32⟩
  | .hbm, ⟨6, _⟩ => ⟨S512x4096, .f32⟩
  | .hbm, ⟨7, _⟩ => ⟨S512x4096, .f32⟩
  | .hbm, ⟨8, _⟩ => ⟨S512x4096, .f32⟩
  | .local _ .vmem, ⟨0, _⟩ => ⟨S8x64x4096, .bf16⟩
  | .local _ .vmem, ⟨1, _⟩ => ⟨S8x64x4096, .bf16⟩
  | .local _ .vmem, ⟨2, _⟩ => ⟨S1x64x4096, .bf16⟩
  | .local _ .vmem, ⟨3, _⟩ => ⟨S1x64x4096, .bf16⟩
  | .local _ .vmem, ⟨4, _⟩ => ⟨S64x4096, .f32⟩
  | .local _ .vmem, ⟨5, _⟩ => ⟨S64x4096, .f32⟩
  | .local _ .vmem, ⟨6, _⟩ => ⟨S64x4096, .f32⟩
  | .local _ .vmem, ⟨7, _⟩ => ⟨S64x4096, .f32⟩
  | .local _ .vmem, ⟨8, _⟩ => ⟨S64x4096, .f32⟩
  | .local _ .vmem, ⟨9, _⟩ => ⟨S64x4096, .f32⟩
  | .local _ .vmem, ⟨10, _⟩ => ⟨S64x4096, .f32⟩
  | .local _ .vmem, ⟨11, _⟩ => ⟨S64x4096, .f32⟩
  | .local _ .vmem, ⟨12, _⟩ => ⟨S64x4096, .f32⟩
  | .local _ .vmem, ⟨13, _⟩ => ⟨S64x4096, .f32⟩
  | .local _ .vmem, ⟨14, _⟩ => ⟨S64x4096, .f32⟩
  | .local _ .vmem, ⟨15, _⟩ => ⟨S64x4096, .f32⟩
  | .local _ .vmem, ⟨16, _⟩ => ⟨S64x4096, .f32⟩
  | .local _ .vmem, ⟨17, _⟩ => ⟨S64x4096, .f32⟩
  | .local _ .smem, ⟨0, _⟩ => ⟨S1, .i32⟩
  | _, _ => ⟨S8x512x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== RefAdamOutIdeal.lean ====
abbrev S8x512x4096 : Shape := ⟨3, ![8, 512, 4096]⟩
abbrev S1 : Shape := ⟨1, ![1]⟩
abbrev S512x4096 : Shape := ⟨2, ![512, 4096]⟩
abbrev S8 : Shape := ⟨1, ![8]⟩
abbrev S8x1x1 : Shape := ⟨3, ![8, 1, 1]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S8x512x4096, .bf16⟩
  | .hbm, ⟨1, _⟩ => ⟨S8x512x4096, .bf16⟩
  | .hbm, ⟨2, _⟩ => ⟨S1, .i32⟩
  | .hbm, ⟨3, _⟩ => ⟨S512x4096, .f32⟩
  | .hbm, ⟨4, _⟩ => ⟨S512x4096, .f32⟩
  | .hbm, ⟨5, _⟩ => ⟨S512x4096, .f32⟩
  | .hbm, ⟨6, _⟩ => ⟨S8, .i32⟩
  | .hbm, ⟨7, _⟩ => ⟨S8, .i32⟩
  | .hbm, ⟨8, _⟩ => ⟨S8, .i1⟩
  | .hbm, ⟨9, _⟩ => ⟨S8x1x1, .i1⟩
  | .hbm, ⟨10, _⟩ => ⟨S8x512x4096, .i1⟩
  | .hbm, ⟨11, _⟩ => ⟨S8x512x4096, .bf16⟩
  | .hbm, ⟨12, _⟩ => ⟨S8x512x4096, .f32⟩
  | .hbm, ⟨13, _⟩ => ⟨S_, .f32⟩
  | .hbm, ⟨14, _⟩ => ⟨S512x4096, .f32⟩
  | .hbm, ⟨15, _⟩ => ⟨S_, .f32⟩
  | .hbm, ⟨16, _⟩ => ⟨S512x4096, .f32⟩
  | .hbm, ⟨17, _⟩ => ⟨S512x4096, .f32⟩
  | .hbm, ⟨18, _⟩ => ⟨S_, .f32⟩
  | .hbm, ⟨19, _⟩ => ⟨S512x4096, .f32⟩
  | .hbm, ⟨20, _⟩ => ⟨S512x4096, .f32⟩
  | .hbm, ⟨21, _⟩ => ⟨S512x4096, .f32⟩
  | .hbm, ⟨22, _⟩ => ⟨S_, .f32⟩
  | .hbm, ⟨23, _⟩ => ⟨S512x4096, .f32⟩
  | .hbm, ⟨24, _⟩ => ⟨S512x4096, .f32⟩
  | .hbm, ⟨25, _⟩ => ⟨S512x4096, .f32⟩
  | .hbm, ⟨26, _⟩ => ⟨S_, .f32⟩
  | .hbm, ⟨27, _⟩ => ⟨S512x4096, .f32⟩
  | .hbm, ⟨28, _⟩ => ⟨S512x4096, .f32⟩
  | .hbm, ⟨29, _⟩ => ⟨S512x4096, .f32⟩
  | .hbm, ⟨30, _⟩ => ⟨S_, .f32⟩
  | .hbm, ⟨31, _⟩ => ⟨S512x4096, .f32⟩
  | .hbm, ⟨32, _⟩ => ⟨S512x4096, .f32⟩
  | .hbm, ⟨33, _⟩ => ⟨S_, .f32⟩
  | .hbm, ⟨34, _⟩ => ⟨S512x4096, .f32⟩
  | .hbm, ⟨35, _⟩ => ⟨S512x4096, .f32⟩
  | .hbm, ⟨36, _⟩ => ⟨S512x4096, .f32⟩
  | .hbm, ⟨37, _⟩ => ⟨S_, .f32⟩
  | .hbm, ⟨38, _⟩ => ⟨S512x4096, .f32⟩
  | .hbm, ⟨39, _⟩ => ⟨S512x4096, .f32⟩
  | .hbm, ⟨40, _⟩ => ⟨S512x4096, .f32⟩
  | .hbm, ⟨41, _⟩ => ⟨S_, .f32⟩
  | .hbm, ⟨42, _⟩ => ⟨S512x4096, .f32⟩
  | .hbm, ⟨43, _⟩ => ⟨S512x4096, .f32⟩
  | .hbm, ⟨44, _⟩ => ⟨S512x4096, .f32⟩
  | .hbm, ⟨45, _⟩ => ⟨S_, .f32⟩
  | .hbm, ⟨46, _⟩ => ⟨S512x4096, .f32⟩
  | .hbm, ⟨47, _⟩ => ⟨S512x4096, .f32⟩
  | _, _ => ⟨S8x512x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== AdamUp.lean ====
abbrev S8x2752x4096 : Shape := ⟨3, ![8, 2752, 4096]⟩
abbrev S1 : Shape := ⟨1, ![1]⟩
abbrev S2752x4096 : Shape := ⟨2, ![2752, 4096]⟩
abbrev S8x64x4096 : Shape := ⟨3, ![8, 64, 4096]⟩
abbrev S1x64x4096 : Shape := ⟨3, ![1, 64, 4096]⟩
abbrev S64x4096 : Shape := ⟨2, ![64, 4096]⟩

abbrev nBuf : Space → Nat
  | .hbm => 9
  | .vmem => 18
  | .smem => 1
  | _ => 0

abbrev bufTy : (tb : Table) → Fin (tcTables nBuf tb) → BufTy
  | .hbm, ⟨0, _⟩ => ⟨S8x2752x4096, .bf16⟩
  | .hbm, ⟨1, _⟩ => ⟨S8x2752x4096, .bf16⟩
  | .hbm, ⟨2, _⟩ => ⟨S2752x4096, .f32⟩
  | .hbm, ⟨3, _⟩ => ⟨S2752x4096, .f32⟩
  | .hbm, ⟨4, _⟩ => ⟨S2752x4096, .f32⟩
  | .hbm, ⟨5, _⟩ => ⟨S2752x4096, .f32⟩
  | .hbm, ⟨6, _⟩ => ⟨S2752x4096, .f32⟩
  | .hbm, ⟨7, _⟩ => ⟨S2752x4096, .f32⟩
  | .hbm, ⟨8, _⟩ => ⟨S2752x4096, .f32⟩
  | .local _ .vmem, ⟨0, _⟩ => ⟨S8x64x4096, .bf16⟩
  | .local _ .vmem, ⟨1, _⟩ => ⟨S8x64x4096, .bf16⟩
  | .local _ .vmem, ⟨2, _⟩ => ⟨S1x64x4096, .bf16⟩
  | .local _ .vmem, ⟨3, _⟩ => ⟨S1x64x4096, .bf16⟩
  | .local _ .vmem, ⟨4, _⟩ => ⟨S64x4096, .f32⟩
  | .local _ .vmem, ⟨5, _⟩ => ⟨S64x4096, .f32⟩
  | .local _ .vmem, ⟨6, _⟩ => ⟨S64x4096, .f32⟩
  | .local _ .vmem, ⟨7, _⟩ => ⟨S64x4096, .f32⟩
  | .local _ .vmem, ⟨8, _⟩ => ⟨S64x4096, .f32⟩
  | .local _ .vmem, ⟨9, _⟩ => ⟨S64x4096, .f32⟩
  | .local _ .vmem, ⟨10, _⟩ => ⟨S64x4096, .f32⟩
  | .local _ .vmem, ⟨11, _⟩ => ⟨S64x4096, .f32⟩
  | .local _ .vmem, ⟨12, _⟩ => ⟨S64x4096, .f32⟩
  | .local _ .vmem, ⟨13, _⟩ => ⟨S64x4096, .f32⟩
  | .local _ .vmem, ⟨14, _⟩ => ⟨S64x4096, .f32⟩
  | .local _ .vmem, ⟨15, _⟩ => ⟨S64x4096, .f32⟩
  | .local _ .vmem, ⟨16, _⟩ => ⟨S64x4096, .f32⟩
  | .local _ .vmem, ⟨17, _⟩ => ⟨S64x4096, .f32⟩
  | .local _ .smem, ⟨0, _⟩ => ⟨S1, .i32⟩
  | _, _ => ⟨S8x2752x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![43], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== RefAdamUpIdeal.lean ====
abbrev S8x2752x4096 : Shape := ⟨3, ![8, 2752, 4096]⟩
abbrev S1 : Shape := ⟨1, ![1]⟩
abbrev S2752x4096 : Shape := ⟨2, ![2752, 4096]⟩
abbrev S8 : Shape := ⟨1, ![8]⟩
abbrev S8x1x1 : Shape := ⟨3, ![8, 1, 1]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S8x2752x4096, .bf16⟩
  | .hbm, ⟨1, _⟩ => ⟨S8x2752x4096, .bf16⟩
  | .hbm, ⟨2, _⟩ => ⟨S1, .i32⟩
  | .hbm, ⟨3, _⟩ => ⟨S2752x4096, .f32⟩
  | .hbm, ⟨4, _⟩ => ⟨S2752x4096, .f32⟩
  | .hbm, ⟨5, _⟩ => ⟨S2752x4096, .f32⟩
  | .hbm, ⟨6, _⟩ => ⟨S8, .i32⟩
  | .hbm, ⟨7, _⟩ => ⟨S8, .i32⟩
  | .hbm, ⟨8, _⟩ => ⟨S8, .i1⟩
  | .hbm, ⟨9, _⟩ => ⟨S8x1x1, .i1⟩
  | .hbm, ⟨10, _⟩ => ⟨S8x2752x4096, .i1⟩
  | .hbm, ⟨11, _⟩ => ⟨S8x2752x4096, .bf16⟩
  | .hbm, ⟨12, _⟩ => ⟨S8x2752x4096, .f32⟩
  | .hbm, ⟨13, _⟩ => ⟨S_, .f32⟩
  | .hbm, ⟨14, _⟩ => ⟨S2752x4096, .f32⟩
  | .hbm, ⟨15, _⟩ => ⟨S_, .f32⟩
  | .hbm, ⟨16, _⟩ => ⟨S2752x4096, .f32⟩
  | .hbm, ⟨17, _⟩ => ⟨S2752x4096, .f32⟩
  | .hbm, ⟨18, _⟩ => ⟨S_, .f32⟩
  | .hbm, ⟨19, _⟩ => ⟨S2752x4096, .f32⟩
  | .hbm, ⟨20, _⟩ => ⟨S2752x4096, .f32⟩
  | .hbm, ⟨21, _⟩ => ⟨S2752x4096, .f32⟩
  | .hbm, ⟨22, _⟩ => ⟨S_, .f32⟩
  | .hbm, ⟨23, _⟩ => ⟨S2752x4096, .f32⟩
  | .hbm, ⟨24, _⟩ => ⟨S2752x4096, .f32⟩
  | .hbm, ⟨25, _⟩ => ⟨S2752x4096, .f32⟩
  | .hbm, ⟨26, _⟩ => ⟨S_, .f32⟩
  | .hbm, ⟨27, _⟩ => ⟨S2752x4096, .f32⟩
  | .hbm, ⟨28, _⟩ => ⟨S2752x4096, .f32⟩
  | .hbm, ⟨29, _⟩ => ⟨S2752x4096, .f32⟩
  | .hbm, ⟨30, _⟩ => ⟨S_, .f32⟩
  | .hbm, ⟨31, _⟩ => ⟨S2752x4096, .f32⟩
  | .hbm, ⟨32, _⟩ => ⟨S2752x4096, .f32⟩
  | .hbm, ⟨33, _⟩ => ⟨S_, .f32⟩
  | .hbm, ⟨34, _⟩ => ⟨S2752x4096, .f32⟩
  | .hbm, ⟨35, _⟩ => ⟨S2752x4096, .f32⟩
  | .hbm, ⟨36, _⟩ => ⟨S2752x4096, .f32⟩
  | .hbm, ⟨37, _⟩ => ⟨S_, .f32⟩
  | .hbm, ⟨38, _⟩ => ⟨S2752x4096, .f32⟩
  | .hbm, ⟨39, _⟩ => ⟨S2752x4096, .f32⟩
  | .hbm, ⟨40, _⟩ => ⟨S2752x4096, .f32⟩
  | .hbm, ⟨41, _⟩ => ⟨S_, .f32⟩
  | .hbm, ⟨42, _⟩ => ⟨S2752x4096, .f32⟩
  | .hbm, ⟨43, _⟩ => ⟨S2752x4096, .f32⟩
  | .hbm, ⟨44, _⟩ => ⟨S2752x4096, .f32⟩
  | .hbm, ⟨45, _⟩ => ⟨S_, .f32⟩
  | .hbm, ⟨46, _⟩ => ⟨S2752x4096, .f32⟩
  | .hbm, ⟨47, _⟩ => ⟨S2752x4096, .f32⟩
  | _, _ => ⟨S8x2752x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== AdamDown.lean ====
abbrev S8x1376x4096 : Shape := ⟨3, ![8, 1376, 4096]⟩
abbrev S1 : Shape := ⟨1, ![1]⟩
abbrev S1376x4096 : Shape := ⟨2, ![1376, 4096]⟩
abbrev S8x32x4096 : Shape := ⟨3, ![8, 32, 4096]⟩
abbrev S1x32x4096 : Shape := ⟨3, ![1, 32, 4096]⟩
abbrev S32x4096 : Shape := ⟨2, ![32, 4096]⟩

abbrev nBuf : Space → Nat
  | .hbm => 9
  | .vmem => 18
  | .smem => 1
  | _ => 0

abbrev bufTy : (tb : Table) → Fin (tcTables nBuf tb) → BufTy
  | .hbm, ⟨0, _⟩ => ⟨S8x1376x4096, .bf16⟩
  | .hbm, ⟨1, _⟩ => ⟨S8x1376x4096, .bf16⟩
  | .hbm, ⟨2, _⟩ => ⟨S1376x4096, .f32⟩
  | .hbm, ⟨3, _⟩ => ⟨S1376x4096, .f32⟩
  | .hbm, ⟨4, _⟩ => ⟨S1376x4096, .f32⟩
  | .hbm, ⟨5, _⟩ => ⟨S1376x4096, .f32⟩
  | .hbm, ⟨6, _⟩ => ⟨S1376x4096, .f32⟩
  | .hbm, ⟨7, _⟩ => ⟨S1376x4096, .f32⟩
  | .hbm, ⟨8, _⟩ => ⟨S1376x4096, .f32⟩
  | .local _ .vmem, ⟨0, _⟩ => ⟨S8x32x4096, .bf16⟩
  | .local _ .vmem, ⟨1, _⟩ => ⟨S8x32x4096, .bf16⟩
  | .local _ .vmem, ⟨2, _⟩ => ⟨S1x32x4096, .bf16⟩
  | .local _ .vmem, ⟨3, _⟩ => ⟨S1x32x4096, .bf16⟩
  | .local _ .vmem, ⟨4, _⟩ => ⟨S32x4096, .f32⟩
  | .local _ .vmem, ⟨5, _⟩ => ⟨S32x4096, .f32⟩
  | .local _ .vmem, ⟨6, _⟩ => ⟨S32x4096, .f32⟩
  | .local _ .vmem, ⟨7, _⟩ => ⟨S32x4096, .f32⟩
  | .local _ .vmem, ⟨8, _⟩ => ⟨S32x4096, .f32⟩
  | .local _ .vmem, ⟨9, _⟩ => ⟨S32x4096, .f32⟩
  | .local _ .vmem, ⟨10, _⟩ => ⟨S32x4096, .f32⟩
  | .local _ .vmem, ⟨11, _⟩ => ⟨S32x4096, .f32⟩
  | .local _ .vmem, ⟨12, _⟩ => ⟨S32x4096, .f32⟩
  | .local _ .vmem, ⟨13, _⟩ => ⟨S32x4096, .f32⟩
  | .local _ .vmem, ⟨14, _⟩ => ⟨S32x4096, .f32⟩
  | .local _ .vmem, ⟨15, _⟩ => ⟨S32x4096, .f32⟩
  | .local _ .vmem, ⟨16, _⟩ => ⟨S32x4096, .f32⟩
  | .local _ .vmem, ⟨17, _⟩ => ⟨S32x4096, .f32⟩
  | .local _ .smem, ⟨0, _⟩ => ⟨S1, .i32⟩
  | _, _ => ⟨S8x1376x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![43], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x32x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x32x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== RefAdamDownIdeal.lean ====
abbrev S8x1376x4096 : Shape := ⟨3, ![8, 1376, 4096]⟩
abbrev S1 : Shape := ⟨1, ![1]⟩
abbrev S1376x4096 : Shape := ⟨2, ![1376, 4096]⟩
abbrev S8 : Shape := ⟨1, ![8]⟩
abbrev S8x1x1 : Shape := ⟨3, ![8, 1, 1]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S8x1376x4096, .bf16⟩
  | .hbm, ⟨1, _⟩ => ⟨S8x1376x4096, .bf16⟩
  | .hbm, ⟨2, _⟩ => ⟨S1, .i32⟩
  | .hbm, ⟨3, _⟩ => ⟨S1376x4096, .f32⟩
  | .hbm, ⟨4, _⟩ => ⟨S1376x4096, .f32⟩
  | .hbm, ⟨5, _⟩ => ⟨S1376x4096, .f32⟩
  | .hbm, ⟨6, _⟩ => ⟨S8, .i32⟩
  | .hbm, ⟨7, _⟩ => ⟨S8, .i32⟩
  | .hbm, ⟨8, _⟩ => ⟨S8, .i1⟩
  | .hbm, ⟨9, _⟩ => ⟨S8x1x1, .i1⟩
  | .hbm, ⟨10, _⟩ => ⟨S8x1376x4096, .i1⟩
  | .hbm, ⟨11, _⟩ => ⟨S8x1376x4096, .bf16⟩
  | .hbm, ⟨12, _⟩ => ⟨S8x1376x4096, .f32⟩
  | .hbm, ⟨13, _⟩ => ⟨S_, .f32⟩
  | .hbm, ⟨14, _⟩ => ⟨S1376x4096, .f32⟩
  | .hbm, ⟨15, _⟩ => ⟨S_, .f32⟩
  | .hbm, ⟨16, _⟩ => ⟨S1376x4096, .f32⟩
  | .hbm, ⟨17, _⟩ => ⟨S1376x4096, .f32⟩
  | .hbm, ⟨18, _⟩ => ⟨S_, .f32⟩
  | .hbm, ⟨19, _⟩ => ⟨S1376x4096, .f32⟩
  | .hbm, ⟨20, _⟩ => ⟨S1376x4096, .f32⟩
  | .hbm, ⟨21, _⟩ => ⟨S1376x4096, .f32⟩
  | .hbm, ⟨22, _⟩ => ⟨S_, .f32⟩
  | .hbm, ⟨23, _⟩ => ⟨S1376x4096, .f32⟩
  | .hbm, ⟨24, _⟩ => ⟨S1376x4096, .f32⟩
  | .hbm, ⟨25, _⟩ => ⟨S1376x4096, .f32⟩
  | .hbm, ⟨26, _⟩ => ⟨S_, .f32⟩
  | .hbm, ⟨27, _⟩ => ⟨S1376x4096, .f32⟩
  | .hbm, ⟨28, _⟩ => ⟨S1376x4096, .f32⟩
  | .hbm, ⟨29, _⟩ => ⟨S1376x4096, .f32⟩
  | .hbm, ⟨30, _⟩ => ⟨S_, .f32⟩
  | .hbm, ⟨31, _⟩ => ⟨S1376x4096, .f32⟩
  | .hbm, ⟨32, _⟩ => ⟨S1376x4096, .f32⟩
  | .hbm, ⟨33, _⟩ => ⟨S_, .f32⟩
  | .hbm, ⟨34, _⟩ => ⟨S1376x4096, .f32⟩
  | .hbm, ⟨35, _⟩ => ⟨S1376x4096, .f32⟩
  | .hbm, ⟨36, _⟩ => ⟨S1376x4096, .f32⟩
  | .hbm, ⟨37, _⟩ => ⟨S_, .f32⟩
  | .hbm, ⟨38, _⟩ => ⟨S1376x4096, .f32⟩
  | .hbm, ⟨39, _⟩ => ⟨S1376x4096, .f32⟩
  | .hbm, ⟨40, _⟩ => ⟨S1376x4096, .f32⟩
  | .hbm, ⟨41, _⟩ => ⟨S_, .f32⟩
  | .hbm, ⟨42, _⟩ => ⟨S1376x4096, .f32⟩
  | .hbm, ⟨43, _⟩ => ⟨S1376x4096, .f32⟩
  | .hbm, ⟨44, _⟩ => ⟨S1376x4096, .f32⟩
  | .hbm, ⟨45, _⟩ => ⟨S_, .f32⟩
  | .hbm, ⟨46, _⟩ => ⟨S1376x4096, .f32⟩
  | .hbm, ⟨47, _⟩ => ⟨S1376x4096, .f32⟩
  | _, _ => ⟨S8x1376x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== Proof.Mul.Blocks.lean ====
/- What the blocked products share.  Arrays of the ideal machine are read at numbers, so that an index of a block and of the array it
   is a part of are compared by arithmetic; a product's accumulator over the last axis of the grid is a sum over blocks; and a sum over
   blocks of equal length is one sum. -/
module

public import Idealize.ShloMosaic.PureOps.Ideal.Laws
public import Idealize.ShloMosaic.Lib.Pipeline.Value
public import Idealize.ShloMosaic.Lib.ValueIdxCore

public section
open Idealize.ShloMosaic Idealize.ShloMosaic.Ideal Idealize.ShloMosaic.ValueIdx
set_option maxRecDepth 16384
noncomputable section

namespace Cert.Mul

/-! ### Arrays read at numbers -/

/-- The element of a matrix at two numbers, zero outside. -/
@[expose] def at2 {m n : ℕ} (X : (⟨2, ![m, n]⟩ : Shape).Idx → EReal) (i j : ℕ) : EReal :=
  if h : i < m ∧ j < n then X (ix2 ⟨i, h.1⟩ ⟨j, h.2⟩) else 0

/-- The element of an array of three axes at three numbers, zero outside. -/
@[expose] def at3 {l m n : ℕ} (X : (⟨3, ![l, m, n]⟩ : Shape).Idx → EReal) (i j k : ℕ) : EReal :=
  if h : i < l ∧ j < m ∧ k < n then X (ix3 ⟨i, h.1⟩ ⟨j, h.2.1⟩ ⟨k, h.2.2⟩) else 0

/-- A matrix at an index is its element at the index's coordinates. -/
theorem at2_of {m n : ℕ} (X : (⟨2, ![m, n]⟩ : Shape).Idx → EReal) (x : (⟨2, ![m, n]⟩ : Shape).Idx) {i j : ℕ}
    (h0 : (x 0).val = i) (h1 : (x 1).val = j) : X x = at2 X i j := by
  have l0 : i < m := h0 ▸ (x 0).isLt
  have l1 : j < n := h1 ▸ (x 1).isLt
  rw [at2, dif_pos ⟨l0, l1⟩]
  exact congrArg X (funext fun a => match a with
    | ⟨0, _⟩ => Fin.ext h0 | ⟨1, _⟩ => Fin.ext h1)

/-- An array of three axes at an index is its element at the index's coordinates. -/
theorem at3_of {l m n : ℕ} (X : (⟨3, ![l, m, n]⟩ : Shape).Idx → EReal) (x : (⟨3, ![l, m, n]⟩ : Shape).Idx) {i j k : ℕ}
    (h0 : (x 0).val = i) (h1 : (x 1).val = j) (h2 : (x 2).val = k) : X x = at3 X i j k := by
  have l0 : i < l := h0 ▸ (x 0).isLt
  have l1 : j < m := h1 ▸ (x 1).isLt
  have l2 : k < n := h2 ▸ (x 2).isLt
  rw [at3, dif_pos ⟨l0, l1, l2⟩]
  exact congrArg X (funext fun a => match a with
    | ⟨0, _⟩ => Fin.ext h0 | ⟨1, _⟩ => Fin.ext h1 | ⟨2, _⟩ => Fin.ext h2)

/-! ### Sums over blocks -/

/-- A sum over `J` blocks of `K` terms each is the sum over all the terms. -/
theorem sum_blocks (J K : ℕ) (f : ℕ → EReal) :
    ∑ s ∈ Finset.range J, ∑ k ∈ Finset.range K, f (K * s + k) = ∑ k ∈ Finset.range (J * K), f k := by
  induction J with
  | zero => simp
  | succ J ih =>
    rw [Finset.sum_range_succ, ih, Nat.succ_mul, Finset.sum_range_add, Nat.mul_comm K J]

/-- The same where a block's term is given by the block's number and the place in it. -/
theorem sum_blocks_div (J K : ℕ) (f : ℕ → ℕ → EReal) :
    ∑ s ∈ Finset.range J, ∑ k ∈ Finset.range K, f s k = ∑ p ∈ Finset.range (J * K), f (p / K) (p % K) := by
  rw [← sum_blocks]
  refine Finset.sum_congr rfl fun s _ => Finset.sum_congr rfl fun k hk => ?_
  have h : k < K := Finset.mem_range.1 hk
  rw [Nat.mul_add_div (by omega), Nat.div_eq_of_lt h, Nat.mul_add_mod, Nat.mod_eq_of_lt h, Nat.add_zero]

/-! ### An accumulator over the last axis of the grid

`f n` is what the accumulator holds after point `n`.  The points come in runs of `J`; the first point of a run stores its term, every
later one but the last adds its term, and the last one writes the sum of the accumulator and its own term out. -/

variable {N J : ℕ} (f o : (n : ℕ) → n < N → EReal) (term : ℕ → EReal)

/-- Before the last point of a run, the accumulator holds the sum of the terms so far. -/
theorem acc_sum (hJ : 2 ≤ J) (hA : ∀ n h, n % J = 0 → f n h = term n)
    (hB : ∀ n (h : n + 1 < N), (n + 1) % J ≠ 0 → (n + 1) % J ≠ J - 1 → f (n + 1) h = f n (by omega) + term (n + 1)) (n : ℕ) (h : n < N)
    (hn : n % J ≠ J - 1) : f n h = ∑ s ∈ Finset.range (n % J + 1), term (n - n % J + s) := by
  induction n with
  | zero => rw [hA 0 h (Nat.zero_mod _)]; simp
  | succ n ih =>
    by_cases h0 : (n + 1) % J = 0
    · rw [hA _ h h0, h0]; simp
    · have e : (n + 1) % J = n % J + 1 := by
        have hlt := Nat.mod_lt n (by omega : 0 < J)
        by_cases hl : n % J + 1 = J
        · exact absurd (by rw [Nat.add_mod, Nat.mod_eq_of_lt (by omega : 1 < J), hl, Nat.mod_self]) h0
        · rw [Nat.add_mod, Nat.mod_eq_of_lt (by omega : 1 < J), Nat.mod_eq_of_lt (by omega)]
      have hle := Nat.mod_le n J
      have hlt := Nat.mod_lt (n + 1) (by omega : 0 < J)
      rw [hB n h h0 hn, ih (by omega) (by omega), e, Finset.sum_range_succ _ (n % J + 1)]
      refine congrArg₂ (· + ·) (Finset.sum_congr rfl fun s _ => congrArg term (by omega)) (congrArg term (by omega))

/-- What the last point of a run writes out is the sum of the run's terms. -/
theorem out_sum (hJ : 2 ≤ J) (hA : ∀ n h, n % J = 0 → f n h = term n)
    (hB : ∀ n (h : n + 1 < N), (n + 1) % J ≠ 0 → (n + 1) % J ≠ J - 1 → f (n + 1) h = f n (by omega) + term (n + 1))
    (hC : ∀ n (h : n + 1 < N), (n + 1) % J = J - 1 → o (n + 1) h = f n (by omega) + term (n + 1)) (r : ℕ) (h : J * r + (J - 1) < N) :
    o (J * r + (J - 1)) h = ∑ s ∈ Finset.range J, term (J * r + s) := by
  obtain ⟨n, hn⟩ : ∃ n, J * r + (J - 1) = n + 1 := ⟨J * r + (J - 2), by omega⟩
  have hm : (n + 1) % J = J - 1 := by rw [← hn, Nat.mul_add_mod, Nat.mod_eq_of_lt (by omega)]
  have hm' : n % J = J - 2 := by
    rw [show n = J * r + (J - 2) by omega, Nat.mul_add_mod, Nat.mod_eq_of_lt (by omega)]
  have key : ∀ p (hp : p < N), p = n + 1 → o p hp = ∑ s ∈ Finset.range J, term (J * r + s) := by
    rintro _ hp rfl
    rw [hC n hp hm, acc_sum f term hJ hA hB n (by omega) (by omega), hm', show J - 2 + 1 = J - 1 by omega]
    conv_rhs => rw [show J = (J - 1) + 1 by omega, Finset.sum_range_succ]
    rw [show J - 1 + 1 = J by omega, hn]
    exact congrArg (· + term (n + 1)) (Finset.sum_congr rfl fun s _ => congrArg term (by omega))
  exact key _ h hn

end Cert.Mul
-- ==== Proof.Mul.GwUp.lean ====
/- The cotangent of the feed-forward network's first weight, the product of the saved activations' and the cotangent's transposes, by
   blocks over the tokens: what the kernel's array holds, what the reference's holds, and that they are one. -/
module

public import proofs.«01_k».proof.Defs
public import proofs.«01_k».proof.Proof.Mul.Blocks
public import proofs.«01_k».proof.Proof.Gen.GwUpIdeal.Value
public import proofs.«01_k».proof.Proof.Gen.RefGwUpIdeal.Run
public import Idealize.ShloMosaic.Lib.Pipeline.ValueKit.Acc
public import Idealize.ShloMosaic.Lib.Pointwise

public section
open Idealize.ShloMosaic Idealize.ShloMosaic.Ideal
set_option maxRecDepth 16384
noncomputable section

namespace Cert.GwUpIdeal.Product
open Cert.GwUpIdeal Cert.GwUpIdeal.Gen Cert.Mul Idealize.ShloMosaic.TcCoe

variable (m : (ℓ : Loc nD τ sig) → Buf (Elt Ideal) ℓ) (c : Dev nD)

/-- The two arguments, on a core. -/
@[expose] def X : S8x4096x2752.Idx → EReal := m ((c : Thread nD τ).loc main_arg0)
@[expose] def Y : S4096x4096.Idx → EReal := m ((c : Thread nD τ).loc main_arg1)

/-- The blocks of the two arguments at a point. -/
theorem idx0 : ∀ t : Fin cfg0.N, win0_0.index t = ![t.val / 16, t.val % 4, 0] :=
  (by decide +kernel : ∀ t : Fin grid0.N, win0_0.index t = ![t.val / 16, t.val % 4, 0])
theorem idx1 : ∀ t : Fin cfg0.N, win0_1.index t = ![t.val % 4, t.val / 4 % 4] :=
  (by decide +kernel : ∀ t : Fin grid0.N, win0_1.index t = ![t.val % 4, t.val / 4 % 4])

@[expose] def xb (t : Fin cfg0.N) : S1x1024x2752.Idx → EReal := iblk m c 0 t
@[expose] def yb (t : Fin cfg0.N) : S1024x1024.Idx → EReal := iblk m c 1 t

/-- The product of point `n`'s blocks, at row `p` and column `q`. -/
@[expose] def term (p q n : ℕ) : EReal :=
  ∑ k ∈ Finset.range 1024, at3 (X m c) (n / 16) (1024 * (n % 4) + k) p * at2 (Y m c) (1024 * (n % 4) + k) (1024 * (n / 4 % 4) + q)

theorem term_eq (t : Fin cfg0.N) (p : Fin 2752) (q : Fin 1024) :
    (∑ k : Fin 1024, xb m c t (ix3 0 k p) * yb m c t (ix2 k q)) = term m c p.val q.val t.val := by
  have a0 : win0_0.index t 0 = t.val / 16 := congrFun (idx0 t) 0
  have a1 : win0_0.index t 1 = t.val % 4 := congrFun (idx0 t) 1
  have a2 : win0_0.index t 2 = 0 := congrFun (idx0 t) 2
  have b0 : win0_1.index t 0 = t.val % 4 := congrFun (idx1 t) 0
  have b1 : win0_1.index t 1 = t.val / 4 % 4 := congrFun (idx1 t) 1
  rw [term, Finset.sum_range]
  refine Finset.sum_congr rfl fun k _ => congrArg₂ (· * ·) ?_ ?_
  · refine (congrFun (V_main_arg0 m c) ((win0_0.rect t).emb (ix3 0 k p))).trans (at3_of (X m c) _ ?_ ?_ ?_)
    · show win0_0.index t 0 * 1 + 1 * 0 = _; omega
    · show win0_0.index t 1 * 1024 + 1 * k.val = _; omega
    · show win0_0.index t 2 * 2752 + 1 * p.val = _; omega
  · refine (congrFun (V_main_arg1 m c) ((win0_1.rect t).emb (ix2 k q))).trans (at2_of (Y m c) _ ?_ ?_)
    · show win0_1.index t 0 * 1024 + 1 * k.val = _; omega
    · show win0_1.index t 1 * 1024 + 1 * q.val = _; omega

/-- The first point of a run stores its product in the accumulator, -/
theorem stepA (t : Fin cfg0.N) (h0 : t.val % 4 = 0) (j : S2752x1024.Idx) :
    ((outsAt0 m c t.val t.isLt).2 j : EReal) = term m c (j 0).val (j 1).val t.val := by
  have e : (outsAt0 m c t.val t.isLt).2 = k0_pay1 (iblk m c 0 t) (iblk m c 1 t) := by
    rw [outsAt0_A m c t h0 (by omega) (by omega)]
    frame_out
  refine (congrFun e j).trans (Eq.trans ?_ (term_eq m c t (j 0) (j 1)))
  unfold k0_pay1
  pointwise
  rfl

/-- the next ones add theirs to it, -/
theorem stepB (n : ℕ) (h : n + 1 < cfg0.N) (h0 : (n + 1) % 4 ≠ 0) (h1 : (n + 1) % 4 ≠ 3) (j : S2752x1024.Idx) :
    ((outsAt0 m c (n + 1) h).2 j : EReal) = (outsAt0 m c n (by omega)).2 j + term m c (j 0).val (j 1).val (n + 1) := by
  have e : (outsAt0 m c (n + 1) h).2 = k0_pay2 (outsAt0 m c n (by omega)).2 (iblk m c 0 ⟨n + 1, h⟩) (iblk m c 1 ⟨n + 1, h⟩) := by
    rw [outsAt0_B m c ⟨n + 1, h⟩ h0 (by show 1 ≤ (n + 1) % 4 ∧ (n + 1) % 4 ≤ 2; omega) h1]
    frame_out
    exact congrArg (fun a => k0_pay2 (F := Ideal) a _ _) (Memref.IsWhole.read_unread _ _)
  refine (congrFun e j).trans (Eq.trans ?_ (congrArg ((outsAt0 m c n (by omega)).2 j + ·) (term_eq m c ⟨n + 1, h⟩ (j 0) (j 1))))
  unfold k0_pay2
  pointwise
  rfl

/-- and the last one writes the sum out. -/
theorem stepC (n : ℕ) (h : n + 1 < cfg0.N) (h0 : (n + 1) % 4 = 3) (j : S1x2752x1024.Idx) :
    ((outsAt0 m c (n + 1) h).1 j : EReal) = (outsAt0 m c n (by omega)).2 (ix2 (j 1) (j 2)) + term m c (j 1).val (j 2).val (n + 1) := by
  have e : (outsAt0 m c (n + 1) h).1 = k0_pay3 (outsAt0 m c n (by omega)).2 (iblk m c 0 ⟨n + 1, h⟩) (iblk m c 1 ⟨n + 1, h⟩) := by
    rw [outsAt0_C m c ⟨n + 1, h⟩ (by show (n + 1) % 4 ≠ 0; omega) (by show ¬(1 ≤ (n + 1) % 4 ∧ (n + 1) % 4 ≤ 2); omega) h0]
    frame_out
    exact congrArg (fun a => k0_pay3 (F := Ideal) a _ _) (Memref.IsWhole.read_unread _ _)
  refine (congrFun e j).trans (Eq.trans ?_
    (congrArg ((outsAt0 m c n (by omega)).2 (ix2 (j 1) (j 2)) + ·) (term_eq m c ⟨n + 1, h⟩ (j 1) (j 2))))
  unfold k0_pay3
  pointwise
  rfl

/-- The result: the sum over the tokens. -/
@[expose] def out (x : S8x4096x2752.Idx → EReal) (y : S4096x4096.Idx → EReal) : S8x2752x4096.Idx → EReal := fun i =>
  ∑ k ∈ Finset.range 4096, at3 x (i 0).val k (i 1).val * at2 y k (i 2).val

/-- The kernel's array holds it. -/
theorem final : (Value.G2 m c : S8x2752x4096.Idx → EReal) = out (X m c) (Y m c) := by
  funext i
  have i0 : (i 0).val < 8 := (i 0).isLt
  have i1 : (i 1).val < 2752 := (i 1).isLt
  have i2 : (i 2).val < 4096 := (i 2).isLt
  have hr : Value.run2Of i = 4 * (i 0).val + (i 2).val / 1024 := by
    show 4 * ((i 0).val / 1 - 0) + 4 * ((i 1).val / 2752 - 0) + 1 * ((i 2).val / 1024 - 0) = _; omega
  have h : Value.pt2Of i < cfg0.N := by show 4 * Value.run2Of i + 3 < grid0.N; rw [N_0]; omega
  unfold Value.G2
  rw [dif_pos h, ← Value.outsAt0_sweep m c _ h]
  refine (out_sum (J := 4) (fun n h => (outsAt0 m c n h).2 (ix2 (Value.loc2Of i 1) (Value.loc2Of i 2)))
    (fun n h => (outsAt0 m c n h).1 (Value.loc2Of i)) (term m c (Value.loc2Of i 1).val (Value.loc2Of i 2).val) (by decide)
    (fun n h h0 => stepA m c ⟨n, h⟩ h0 _) (fun n h h0 h1 => stepB m c n h h0 h1 _) (fun n h h0 => stepC m c n h h0 _)
    (Value.run2Of i) h).trans ?_
  rw [out, ← sum_blocks 4 1024]
  refine Finset.sum_congr rfl fun s hs => Finset.sum_congr rfl fun k hk => ?_
  have hs : s < 4 := Finset.mem_range.1 hs
  have e0 : (4 * Value.run2Of i + s) / 16 = (i 0).val := by omega
  have e1 : (4 * Value.run2Of i + s) % 4 = s := by omega
  have e2 : 1024 * ((4 * Value.run2Of i + s) / 4 % 4) + (Value.loc2Of i 2).val = (i 2).val := by
    show _ + (i 2).val % 1024 = _; omega
  have e3 : (Value.loc2Of i 1).val = (i 1).val := Nat.mod_eq_of_lt i1
  rw [e0, e1, e2, e3]

end Cert.GwUpIdeal.Product

namespace Cert.RefGwUpIdeal.Product
open Cert Cert.RefGwUpIdeal Cert.RefGwUpIdeal.Gen Cert.Mul

/-- The reference's array holds it too. -/
theorem value (x : FVec Ideal S8x4096x2752 .bf16) (y : FVec Ideal S4096x4096 .bf16) :
    (truncf .bf16 (transpose S8x2752x4096 [1, 2, 0] (shapeCast _ (transpose S4096x22016 [1, 0] (Host.dotGeneral (F := Ideal) dot_S4096x22016_S4096x4096_S22016x4096_0_0_1_1_n_n none
      (shapeCast _ (transpose S4096x8x2752 [1, 0, 2] (extf .f32 x bitsLt_bf16_f32) transposes_S8x4096x2752_S4096x8x2752_1_0_2) shapeCasts_S4096x8x2752_S4096x22016)
      (extf .f32 y bitsLt_bf16_f32)) transposes_S22016x4096_S4096x22016_1_0) shapeCasts_S4096x22016_S4096x8x2752) transposes_S4096x8x2752_S8x2752x4096_1_2_0) bitsLt_bf16_f32 :
        FVec Ideal S8x2752x4096 .bf16) = Cert.GwUpIdeal.Product.out x y := by
  funext i
  pointwise
  rw [Cert.GwUpIdeal.Product.out, Finset.sum_range]
  exact Finset.sum_congr rfl fun k _ => congrArg₂ (· * ·) (at3_of x _ rfl rfl rfl) (at2_of y _ rfl rfl)

/-- It leaves its arguments, and has no semaphore. -/
theorem frame : quiescent_RefGwUpIdeal (hRefGwUpIdeal := facts) := fun m g _ =>
  (θ_run defs _ _).mono (fun r h => ⟨fun c => (h c).2, sem_eq_zero_of_no_sems (by decide) r.2⟩) (Value.run m g)

end Cert.RefGwUpIdeal.Product

/-- The two runs end with one array. -/
theorem Cert.GwUpIdeal.Product.claim :
    Cert.algebraic_GwUpIdeal_RefGwUpIdeal (hGwUpIdeal := Cert.GwUpIdeal.Gen.facts) (hRefGwUpIdeal := Cert.RefGwUpIdeal.Gen.facts) :=
  fun m g m' g' _ e => ⟨fun c => out (X m c) (Y m c),
    (θ_run Cert.GwUpIdeal.defs _ _).mono (fun _ h c => ⟨(h c).1.trans (final m c), (h c).2⟩) (Cert.GwUpIdeal.Value.run m g),
    (θ_run Cert.RefGwUpIdeal.defs _ _).mono (fun _ h c => ⟨(h c).1.trans
      ((Cert.RefGwUpIdeal.Product.value _ _).trans (congrArg₂ out (e c).1 (e c).2)), (h c).2⟩) (Cert.RefGwUpIdeal.Value.run m' g')⟩
-- ==== Proof.Mul.Dh2.lean ====
/- The cotangent of the feed-forward network's normed input: the product of the cotangents with the transpose of the first weight, by blocks over the
   eight shards and, within a shard, at once. -/
module

public import proofs.«01_k».proof.Defs
public import proofs.«01_k».proof.Proof.Mul.Blocks
public import proofs.«01_k».proof.Proof.Gen.Dh2Ideal.Value
public import proofs.«01_k».proof.Proof.Gen.RefDh2Ideal.Run
public import Idealize.ShloMosaic.Lib.Pipeline.ValueKit.Acc
public import Idealize.ShloMosaic.Lib.Pointwise

public section
open Idealize.ShloMosaic Idealize.ShloMosaic.Ideal
set_option maxRecDepth 16384
noncomputable section

namespace Cert.Dh2Ideal.Product
open Cert.Dh2Ideal Cert.Dh2Ideal.Gen Cert.Mul Idealize.ShloMosaic.TcCoe

variable (m : (ℓ : Loc nD τ sig) → Buf (Elt Ideal) ℓ) (c : Dev nD)

/-- The two arguments, on a core. -/
@[expose] def X : S8x4096x2752.Idx → EReal := m ((c : Thread nD τ).loc main_arg0)
@[expose] def Y : S8x2752x4096.Idx → EReal := m ((c : Thread nD τ).loc main_arg1)

/-- The blocks of the two arguments at a point. -/
theorem idx0 : ∀ t : Fin cfg0.N, win0_0.index t = ![t.val % 8, t.val / 32, 0] :=
  (by decide +kernel : ∀ t : Fin grid0.N, win0_0.index t = ![t.val % 8, t.val / 32, 0])
theorem idx1 : ∀ t : Fin cfg0.N, win0_1.index t = ![t.val % 8, 0, t.val / 8 % 4] :=
  (by decide +kernel : ∀ t : Fin grid0.N, win0_1.index t = ![t.val % 8, 0, t.val / 8 % 4])

@[expose] def xb (t : Fin cfg0.N) : S1x1024x2752.Idx → EReal := iblk m c 0 t
@[expose] def yb (t : Fin cfg0.N) : S1x2752x1024.Idx → EReal := iblk m c 1 t

/-- The product of point `n`'s blocks, at row `p` and column `q`. -/
@[expose] def term (p q n : ℕ) : EReal :=
  ∑ k ∈ Finset.range 2752, at3 (X m c) (n % 8) (1024 * (n / 32) + p) k * at3 (Y m c) (n % 8) k (1024 * (n / 8 % 4) + q)

theorem term_eq (t : Fin cfg0.N) (p : Fin 1024) (q : Fin 1024) :
    (∑ k : Fin 2752, xb m c t (ix3 0 p k) * yb m c t (ix3 0 k q)) = term m c p.val q.val t.val := by
  have a0 : win0_0.index t 0 = t.val % 8 := congrFun (idx0 t) 0
  have a1 : win0_0.index t 1 = t.val / 32 := congrFun (idx0 t) 1
  have a2 : win0_0.index t 2 = 0 := congrFun (idx0 t) 2
  have b0 : win0_1.index t 0 = t.val % 8 := congrFun (idx1 t) 0
  have b1 : win0_1.index t 1 = 0 := congrFun (idx1 t) 1
  have b2 : win0_1.index t 2 = t.val / 8 % 4 := congrFun (idx1 t) 2
  rw [term, Finset.sum_range]
  refine Finset.sum_congr rfl fun k _ => congrArg₂ (· * ·) ?_ ?_
  · refine (congrFun (V_main_arg0 m c) ((win0_0.rect t).emb (ix3 0 p k))).trans (at3_of (X m c) _ ?_ ?_ ?_)
    · show win0_0.index t 0 * 1 + 1 * 0 = _; omega
    · show win0_0.index t 1 * 1024 + 1 * p.val = _; omega
    · show win0_0.index t 2 * 2752 + 1 * k.val = _; omega
  · refine (congrFun (V_main_arg1 m c) ((win0_1.rect t).emb (ix3 0 k q))).trans (at3_of (Y m c) _ ?_ ?_ ?_)
    · show win0_1.index t 0 * 1 + 1 * 0 = _; omega
    · show win0_1.index t 1 * 2752 + 1 * k.val = _; omega
    · show win0_1.index t 2 * 1024 + 1 * q.val = _; omega

/-- The first point of a run stores its product in the accumulator, -/
theorem stepA (t : Fin cfg0.N) (h0 : t.val % 8 = 0) (j : S1024x1024.Idx) :
    ((outsAt0 m c t.val t.isLt).2 j : EReal) = term m c (j 0).val (j 1).val t.val := by
  have e : (outsAt0 m c t.val t.isLt).2 = k0_pay1 (iblk m c 0 t) (iblk m c 1 t) := by
    rw [outsAt0_A m c t h0 (by omega) (by omega)]
    frame_out
  refine (congrFun e j).trans (Eq.trans ?_ (term_eq m c t (j 0) (j 1)))
  unfold k0_pay1
  pointwise
  rfl

/-- the next ones add theirs to it, -/
theorem stepB (n : ℕ) (h : n + 1 < cfg0.N) (h0 : (n + 1) % 8 ≠ 0) (h1 : (n + 1) % 8 ≠ 7) (j : S1024x1024.Idx) :
    ((outsAt0 m c (n + 1) h).2 j : EReal) = (outsAt0 m c n (by omega)).2 j + term m c (j 0).val (j 1).val (n + 1) := by
  have e : (outsAt0 m c (n + 1) h).2 = k0_pay2 (outsAt0 m c n (by omega)).2 (iblk m c 0 ⟨n + 1, h⟩) (iblk m c 1 ⟨n + 1, h⟩) := by
    rw [outsAt0_B m c ⟨n + 1, h⟩ h0 (by show 1 ≤ (n + 1) % 8 ∧ (n + 1) % 8 ≤ 6; omega) h1]
    frame_out
    exact congrArg (fun a => k0_pay2 (F := Ideal) a _ _) (Memref.IsWhole.read_unread _ _)
  refine (congrFun e j).trans (Eq.trans ?_ (congrArg ((outsAt0 m c n (by omega)).2 j + ·) (term_eq m c ⟨n + 1, h⟩ (j 0) (j 1))))
  unfold k0_pay2
  pointwise
  rfl

/-- and the last one writes the sum out. -/
theorem stepC (n : ℕ) (h : n + 1 < cfg0.N) (h0 : (n + 1) % 8 = 7) (j : S1024x1024.Idx) :
    ((outsAt0 m c (n + 1) h).1 j : EReal) = (outsAt0 m c n (by omega)).2 j + term m c (j 0).val (j 1).val (n + 1) := by
  have e : (outsAt0 m c (n + 1) h).1 = k0_pay3 (outsAt0 m c n (by omega)).2 (iblk m c 0 ⟨n + 1, h⟩) (iblk m c 1 ⟨n + 1, h⟩) := by
    rw [outsAt0_C m c ⟨n + 1, h⟩ (by show (n + 1) % 8 ≠ 0; omega) (by show ¬(1 ≤ (n + 1) % 8 ∧ (n + 1) % 8 ≤ 6); omega) h0]
    frame_out
    exact congrArg (fun a => k0_pay3 (F := Ideal) a _ _) (Memref.IsWhole.read_unread _ _)
  refine (congrFun e j).trans (Eq.trans ?_
    (congrArg ((outsAt0 m c n (by omega)).2 j + ·) (term_eq m c ⟨n + 1, h⟩ (j 0) (j 1))))
  unfold k0_pay3
  pointwise
  rfl

/-- The result: the sum over the shards and their columns. -/
@[expose] def out (x : S8x4096x2752.Idx → EReal) (y : S8x2752x4096.Idx → EReal) : S4096x4096.Idx → EReal := fun i =>
  ∑ s ∈ Finset.range 8, ∑ k ∈ Finset.range 2752, at3 x s (i 0).val k * at3 y s k (i 1).val

/-- The kernel's array holds it. -/
theorem final : (Value.G2 m c : S4096x4096.Idx → EReal) = out (X m c) (Y m c) := by
  funext i
  have i0 : (i 0).val < 4096 := (i 0).isLt
  have i1 : (i 1).val < 4096 := (i 1).isLt
  have hr : Value.run2Of i = 4 * ((i 0).val / 1024) + (i 1).val / 1024 := by
    show 4 * ((i 0).val / 1024 - 0) + 1 * ((i 1).val / 1024 - 0) = _; omega
  have h : Value.pt2Of i < cfg0.N := by show 8 * Value.run2Of i + 7 < grid0.N; rw [N_0]; omega
  unfold Value.G2
  rw [dif_pos h, ← Value.outsAt0_sweep m c _ h]
  refine (out_sum (J := 8) (fun n h => (outsAt0 m c n h).2 (Value.loc2Of i))
    (fun n h => (outsAt0 m c n h).1 (Value.loc2Of i)) (term m c (Value.loc2Of i 0).val (Value.loc2Of i 1).val) (by decide)
    (fun n h h0 => stepA m c ⟨n, h⟩ h0 _) (fun n h h0 h1 => stepB m c n h h0 h1 _) (fun n h h0 => stepC m c n h h0 _)
    (Value.run2Of i) h).trans ?_
  rw [out]
  refine Finset.sum_congr rfl fun s hs => Finset.sum_congr rfl fun k hk => ?_
  have hs : s < 8 := Finset.mem_range.1 hs
  have e0 : (8 * Value.run2Of i + s) % 8 = s := by omega
  have e1 : 1024 * ((8 * Value.run2Of i + s) / 32) + (Value.loc2Of i 0).val = (i 0).val := by show _ + (i 0).val % 1024 = _; omega
  have e2 : 1024 * ((8 * Value.run2Of i + s) / 8 % 4) + (Value.loc2Of i 1).val = (i 1).val := by show _ + (i 1).val % 1024 = _; omega
  rw [e0, e1, e2]

end Cert.Dh2Ideal.Product

namespace Cert.RefDh2Ideal.Product
open Cert Cert.RefDh2Ideal Cert.RefDh2Ideal.Gen Cert.Mul

/-- The reference's array holds it too. -/
theorem value (x : FVec Ideal S8x4096x2752 .bf16) (y : FVec Ideal S8x2752x4096 .bf16) :
    (Host.dotGeneral (F := Ideal) dot_S4096x22016_S4096x22016_S4096x4096_1_1_0_0_n_n none (shapeCast _ (transpose S4096x8x2752 [1, 0, 2] (extf .f32 x bitsLt_bf16_f32) transposes_S8x4096x2752_S4096x8x2752_1_0_2) shapeCasts_S4096x8x2752_S4096x22016) (shapeCast _ (transpose S4096x8x2752 [2, 0, 1] (extf .f32 y bitsLt_bf16_f32) transposes_S8x2752x4096_S4096x8x2752_2_0_1) shapeCasts_S4096x8x2752_S4096x22016) :
        FVec Ideal S4096x4096 .f32) = Cert.Dh2Ideal.Product.out x y := by
  funext i
  pointwise
  rw [Cert.Dh2Ideal.Product.out, sum_blocks_div 8 2752, Finset.sum_range]
  exact Finset.sum_congr rfl fun k _ => congrArg₂ (· * ·) (at3_of x _ rfl rfl rfl) (at3_of y _ rfl rfl rfl)
/-- It leaves its arguments, and has no semaphore. -/
theorem frame : quiescent_RefDh2Ideal (hRefDh2Ideal := facts) := fun m g _ =>
  (θ_run defs _ _).mono (fun r h => ⟨fun c => (h c).2, sem_eq_zero_of_no_sems (by decide) r.2⟩) (Value.run m g)

end Cert.RefDh2Ideal.Product

/-- The two runs end with one array. -/
theorem Cert.Dh2Ideal.Product.claim :
    Cert.algebraic_Dh2Ideal_RefDh2Ideal (hDh2Ideal := Cert.Dh2Ideal.Gen.facts) (hRefDh2Ideal := Cert.RefDh2Ideal.Gen.facts) :=
  fun m g m' g' _ e => ⟨fun c => out (X m c) (Y m c),
    (θ_run Cert.Dh2Ideal.defs _ _).mono (fun _ h c => ⟨(h c).1.trans (final m c), (h c).2⟩) (Cert.Dh2Ideal.Value.run m g),
    (θ_run Cert.RefDh2Ideal.defs _ _).mono (fun _ h c => ⟨(h c).1.trans
      ((Cert.RefDh2Ideal.Product.value _ _).trans (congrArg₂ out (e c).1 (e c).2)), (h c).2⟩) (Cert.RefDh2Ideal.Value.run m' g')⟩
-- ==== Proof.Mul.GwDown.lean ====
/- The cotangent of the feed-forward network's second weight: the product of the transposed activations with the cotangent, by blocks over the tokens. -/
module

public import proofs.«01_k».proof.Defs
public import proofs.«01_k».proof.Proof.Mul.Blocks
public import proofs.«01_k».proof.Proof.Gen.GwDownIdeal.Value
public import proofs.«01_k».proof.Proof.Gen.RefGwDownIdeal.Run
public import Idealize.ShloMosaic.Lib.Pipeline.ValueKit.Acc
public import Idealize.ShloMosaic.Lib.Pointwise

public section
open Idealize.ShloMosaic Idealize.ShloMosaic.Ideal
set_option maxRecDepth 16384
noncomputable section

namespace Cert.GwDownIdeal.Product
open Cert.GwDownIdeal Cert.GwDownIdeal.Gen Cert.Mul Idealize.ShloMosaic.TcCoe

variable (m : (ℓ : Loc nD τ sig) → Buf (Elt Ideal) ℓ) (c : Dev nD)

/-- The two arguments, on a core. -/
@[expose] def X : S4x4096x2752.Idx → EReal := m ((c : Thread nD τ).loc main_arg0)
@[expose] def Y : S4096x4096.Idx → EReal := m ((c : Thread nD τ).loc main_arg1)

/-- The blocks of the two arguments at a point. -/
theorem idx0 : ∀ t : Fin cfg0.N, win0_0.index t = ![t.val / 16, t.val % 4, 0] :=
  (by decide +kernel : ∀ t : Fin grid0.N, win0_0.index t = ![t.val / 16, t.val % 4, 0])
theorem idx1 : ∀ t : Fin cfg0.N, win0_1.index t = ![t.val % 4, t.val / 4 % 4] :=
  (by decide +kernel : ∀ t : Fin grid0.N, win0_1.index t = ![t.val % 4, t.val / 4 % 4])

@[expose] def xb (t : Fin cfg0.N) : S1x1024x2752.Idx → EReal := iblk m c 0 t
@[expose] def yb (t : Fin cfg0.N) : S1024x1024.Idx → EReal := iblk m c 1 t

/-- The product of point `n`'s blocks, at row `p` and column `q`. -/
@[expose] def term (p q n : ℕ) : EReal :=
  ∑ k ∈ Finset.range 1024, at3 (X m c) (n / 16) (1024 * (n % 4) + k) p * at2 (Y m c) (1024 * (n % 4) + k) (1024 * (n / 4 % 4) + q)

theorem term_eq (t : Fin cfg0.N) (p : Fin 2752) (q : Fin 1024) :
    (∑ k : Fin 1024, xb m c t (ix3 0 k p) * yb m c t (ix2 k q)) = term m c p.val q.val t.val := by
  have a0 : win0_0.index t 0 = t.val / 16 := congrFun (idx0 t) 0
  have a1 : win0_0.index t 1 = t.val % 4 := congrFun (idx0 t) 1
  have a2 : win0_0.index t 2 = 0 := congrFun (idx0 t) 2
  have b0 : win0_1.index t 0 = t.val % 4 := congrFun (idx1 t) 0
  have b1 : win0_1.index t 1 = t.val / 4 % 4 := congrFun (idx1 t) 1
  rw [term, Finset.sum_range]
  refine Finset.sum_congr rfl fun k _ => congrArg₂ (· * ·) ?_ ?_
  · refine (congrFun (V_main_arg0 m c) ((win0_0.rect t).emb (ix3 0 k p))).trans (at3_of (X m c) _ ?_ ?_ ?_)
    · show win0_0.index t 0 * 1 + 1 * 0 = _; omega
    · show win0_0.index t 1 * 1024 + 1 * k.val = _; omega
    · show win0_0.index t 2 * 2752 + 1 * p.val = _; omega
  · refine (congrFun (V_main_arg1 m c) ((win0_1.rect t).emb (ix2 k q))).trans (at2_of (Y m c) _ ?_ ?_)
    · show win0_1.index t 0 * 1024 + 1 * k.val = _; omega
    · show win0_1.index t 1 * 1024 + 1 * q.val = _; omega

/-- The first point of a run stores its product in the accumulator, -/
theorem stepA (t : Fin cfg0.N) (h0 : t.val % 4 = 0) (j : S2752x1024.Idx) :
    ((outsAt0 m c t.val t.isLt).2 j : EReal) = term m c (j 0).val (j 1).val t.val := by
  have e : (outsAt0 m c t.val t.isLt).2 = k0_pay1 (iblk m c 0 t) (iblk m c 1 t) := by
    rw [outsAt0_A m c t h0 (by omega) (by omega)]
    frame_out
  refine (congrFun e j).trans (Eq.trans ?_ (term_eq m c t (j 0) (j 1)))
  unfold k0_pay1
  pointwise
  rfl

/-- the next ones add theirs to it, -/
theorem stepB (n : ℕ) (h : n + 1 < cfg0.N) (h0 : (n + 1) % 4 ≠ 0) (h1 : (n + 1) % 4 ≠ 3) (j : S2752x1024.Idx) :
    ((outsAt0 m c (n + 1) h).2 j : EReal) = (outsAt0 m c n (by omega)).2 j + term m c (j 0).val (j 1).val (n + 1) := by
  have e : (outsAt0 m c (n + 1) h).2 = k0_pay2 (outsAt0 m c n (by omega)).2 (iblk m c 0 ⟨n + 1, h⟩) (iblk m c 1 ⟨n + 1, h⟩) := by
    rw [outsAt0_B m c ⟨n + 1, h⟩ h0 (by show 1 ≤ (n + 1) % 4 ∧ (n + 1) % 4 ≤ 2; omega) h1]
    frame_out
    exact congrArg (fun a => k0_pay2 (F := Ideal) a _ _) (Memref.IsWhole.read_unread _ _)
  refine (congrFun e j).trans (Eq.trans ?_ (congrArg ((outsAt0 m c n (by omega)).2 j + ·) (term_eq m c ⟨n + 1, h⟩ (j 0) (j 1))))
  unfold k0_pay2
  pointwise
  rfl

/-- and the last one writes the sum out. -/
theorem stepC (n : ℕ) (h : n + 1 < cfg0.N) (h0 : (n + 1) % 4 = 3) (j : S1x2752x1024.Idx) :
    ((outsAt0 m c (n + 1) h).1 j : EReal) = (outsAt0 m c n (by omega)).2 (ix2 (j 1) (j 2)) + term m c (j 1).val (j 2).val (n + 1) := by
  have e : (outsAt0 m c (n + 1) h).1 = k0_pay3 (outsAt0 m c n (by omega)).2 (iblk m c 0 ⟨n + 1, h⟩) (iblk m c 1 ⟨n + 1, h⟩) := by
    rw [outsAt0_C m c ⟨n + 1, h⟩ (by show (n + 1) % 4 ≠ 0; omega) (by show ¬(1 ≤ (n + 1) % 4 ∧ (n + 1) % 4 ≤ 2); omega) h0]
    frame_out
    exact congrArg (fun a => k0_pay3 (F := Ideal) a _ _) (Memref.IsWhole.read_unread _ _)
  refine (congrFun e j).trans (Eq.trans ?_
    (congrArg ((outsAt0 m c n (by omega)).2 (ix2 (j 1) (j 2)) + ·) (term_eq m c ⟨n + 1, h⟩ (j 1) (j 2))))
  unfold k0_pay3
  pointwise
  rfl

/-- The result: the sum over the tokens. -/
@[expose] def out (x : S4x4096x2752.Idx → EReal) (y : S4096x4096.Idx → EReal) : S4x2752x4096.Idx → EReal := fun i =>
  ∑ k ∈ Finset.range 4096, at3 x (i 0).val k (i 1).val * at2 y k (i 2).val

/-- The kernel's array holds it. -/
theorem final : (Value.G2 m c : S4x2752x4096.Idx → EReal) = out (X m c) (Y m c) := by
  funext i
  have i0 : (i 0).val < 4 := (i 0).isLt
  have i1 : (i 1).val < 2752 := (i 1).isLt
  have i2 : (i 2).val < 4096 := (i 2).isLt
  have hr : Value.run2Of i = 4 * (i 0).val + (i 2).val / 1024 := by
    show 4 * ((i 0).val / 1 - 0) + 4 * ((i 1).val / 2752 - 0) + 1 * ((i 2).val / 1024 - 0) = _; omega
  have h : Value.pt2Of i < cfg0.N := by show 4 * Value.run2Of i + 3 < grid0.N; rw [N_0]; omega
  unfold Value.G2
  rw [dif_pos h, ← Value.outsAt0_sweep m c _ h]
  refine (out_sum (J := 4) (fun n h => (outsAt0 m c n h).2 (ix2 (Value.loc2Of i 1) (Value.loc2Of i 2)))
    (fun n h => (outsAt0 m c n h).1 (Value.loc2Of i)) (term m c (Value.loc2Of i 1).val (Value.loc2Of i 2).val) (by decide)
    (fun n h h0 => stepA m c ⟨n, h⟩ h0 _) (fun n h h0 h1 => stepB m c n h h0 h1 _) (fun n h h0 => stepC m c n h h0 _)
    (Value.run2Of i) h).trans ?_
  rw [out, ← sum_blocks 4 1024]
  refine Finset.sum_congr rfl fun s hs => Finset.sum_congr rfl fun k hk => ?_
  have hs : s < 4 := Finset.mem_range.1 hs
  have e0 : (4 * Value.run2Of i + s) / 16 = (i 0).val := by omega
  have e1 : (4 * Value.run2Of i + s) % 4 = s := by omega
  have e2 : 1024 * ((4 * Value.run2Of i + s) / 4 % 4) + (Value.loc2Of i 2).val = (i 2).val := by show _ + (i 2).val % 1024 = _; omega
  have e3 : (Value.loc2Of i 1).val = (i 1).val := by exact Nat.mod_eq_of_lt i1
  rw [e0, e1, e2, e3]

end Cert.GwDownIdeal.Product

namespace Cert.RefGwDownIdeal.Product
open Cert Cert.RefGwDownIdeal Cert.RefGwDownIdeal.Gen Cert.Mul

/-- The reference's array holds it too. -/
theorem value (x : FVec Ideal S4x4096x2752 .bf16) (y : FVec Ideal S4096x4096 .bf16) :
    (truncf .bf16 (shapeCast _ (transpose S11008x4096 [1, 0] (Host.dotGeneral (F := Ideal) dot_S4096x4096_S4096x11008_S4096x11008_0_0_1_1_n_n none (extf .f32 y bitsLt_bf16_f32) (shapeCast _ (transpose S4096x4x2752 [1, 0, 2] (extf .f32 x bitsLt_bf16_f32) transposes_S4x4096x2752_S4096x4x2752_1_0_2) shapeCasts_S4096x4x2752_S4096x11008)) transposes_S4096x11008_S11008x4096_1_0) shapeCasts_S11008x4096_S4x2752x4096) bitsLt_bf16_f32 :
        FVec Ideal S4x2752x4096 .bf16) = Cert.GwDownIdeal.Product.out x y := by
  funext i
  pointwise
  rw [Cert.GwDownIdeal.Product.out, Finset.sum_range]
  exact Finset.sum_congr rfl fun k _ => (mul_comm _ _).trans <| congrArg₂ (· * ·) (at3_of x _ rfl rfl rfl) (at2_of y _ rfl rfl)
/-- It leaves its arguments, and has no semaphore. -/
theorem frame : quiescent_RefGwDownIdeal (hRefGwDownIdeal := facts) := fun m g _ =>
  (θ_run defs _ _).mono (fun r h => ⟨fun c => (h c).2, sem_eq_zero_of_no_sems (by decide) r.2⟩) (Value.run m g)

end Cert.RefGwDownIdeal.Product

/-- The two runs end with one array. -/
theorem Cert.GwDownIdeal.Product.claim :
    Cert.algebraic_GwDownIdeal_RefGwDownIdeal (hGwDownIdeal := Cert.GwDownIdeal.Gen.facts) (hRefGwDownIdeal := Cert.RefGwDownIdeal.Gen.facts) :=
  fun m g m' g' _ e => ⟨fun c => out (X m c) (Y m c),
    (θ_run Cert.GwDownIdeal.defs _ _).mono (fun _ h c => ⟨(h c).1.trans (final m c), (h c).2⟩) (Cert.GwDownIdeal.Value.run m g),
    (θ_run Cert.RefGwDownIdeal.defs _ _).mono (fun _ h c => ⟨(h c).1.trans
      ((Cert.RefGwDownIdeal.Product.value _ _).trans (congrArg₂ out (e c).1 (e c).2)), (h c).2⟩) (Cert.RefGwDownIdeal.Value.run m' g')⟩
-- ==== Proof.Mul.Dact.lean ====
/- The cotangent of the activations: the product of the cotangent with the transpose of the second weight, by blocks over the features. -/
module

public import proofs.«01_k».proof.Defs
public import proofs.«01_k».proof.Proof.Mul.Blocks
public import proofs.«01_k».proof.Proof.Gen.DactIdeal.Value
public import proofs.«01_k».proof.Proof.Gen.RefDactIdeal.Run
public import Idealize.ShloMosaic.Lib.Pipeline.ValueKit.Acc
public import Idealize.ShloMosaic.Lib.Pointwise

public section
open Idealize.ShloMosaic Idealize.ShloMosaic.Ideal
set_option maxRecDepth 16384
noncomputable section

namespace Cert.DactIdeal.Product
open Cert.DactIdeal Cert.DactIdeal.Gen Cert.Mul Idealize.ShloMosaic.TcCoe

variable (m : (ℓ : Loc nD τ sig) → Buf (Elt Ideal) ℓ) (c : Dev nD)

/-- The two arguments, on a core. -/
@[expose] def X : S4096x4096.Idx → EReal := m ((c : Thread nD τ).loc main_arg0)
@[expose] def Y : S4x2752x4096.Idx → EReal := m ((c : Thread nD τ).loc main_arg1)

/-- The blocks of the two arguments at a point. -/
theorem idx0 : ∀ t : Fin cfg0.N, win0_0.index t = ![t.val / 16, t.val % 4] :=
  (by decide +kernel : ∀ t : Fin grid0.N, win0_0.index t = ![t.val / 16, t.val % 4])
theorem idx1 : ∀ t : Fin cfg0.N, win0_1.index t = ![t.val / 4 % 4, 0, t.val % 4] :=
  (by decide +kernel : ∀ t : Fin grid0.N, win0_1.index t = ![t.val / 4 % 4, 0, t.val % 4])

@[expose] def xb (t : Fin cfg0.N) : S1024x1024.Idx → EReal := iblk m c 0 t
@[expose] def yb (t : Fin cfg0.N) : S1x2752x1024.Idx → EReal := iblk m c 1 t

/-- The product of point `n`'s blocks, at row `p` and column `q`. -/
@[expose] def term (p q n : ℕ) : EReal :=
  ∑ k ∈ Finset.range 1024, at2 (X m c) (1024 * (n / 16) + p) (1024 * (n % 4) + k) * at3 (Y m c) (n / 4 % 4) q (1024 * (n % 4) + k)

theorem term_eq (t : Fin cfg0.N) (p : Fin 1024) (q : Fin 2752) :
    (∑ k : Fin 1024, xb m c t (ix2 p k) * yb m c t (ix3 0 q k)) = term m c p.val q.val t.val := by
  have a0 : win0_0.index t 0 = t.val / 16 := congrFun (idx0 t) 0
  have a1 : win0_0.index t 1 = t.val % 4 := congrFun (idx0 t) 1
  have b0 : win0_1.index t 0 = t.val / 4 % 4 := congrFun (idx1 t) 0
  have b1 : win0_1.index t 1 = 0 := congrFun (idx1 t) 1
  have b2 : win0_1.index t 2 = t.val % 4 := congrFun (idx1 t) 2
  rw [term, Finset.sum_range]
  refine Finset.sum_congr rfl fun k _ => congrArg₂ (· * ·) ?_ ?_
  · refine (congrFun (V_main_arg0 m c) ((win0_0.rect t).emb (ix2 p k))).trans (at2_of (X m c) _ ?_ ?_)
    · show win0_0.index t 0 * 1024 + 1 * p.val = _; omega
    · show win0_0.index t 1 * 1024 + 1 * k.val = _; omega
  · refine (congrFun (V_main_arg1 m c) ((win0_1.rect t).emb (ix3 0 q k))).trans (at3_of (Y m c) _ ?_ ?_ ?_)
    · show win0_1.index t 0 * 1 + 1 * 0 = _; omega
    · show win0_1.index t 1 * 2752 + 1 * q.val = _; omega
    · show win0_1.index t 2 * 1024 + 1 * k.val = _; omega

/-- The first point of a run stores its product in the accumulator, -/
theorem stepA (t : Fin cfg0.N) (h0 : t.val % 4 = 0) (j : S1024x2752.Idx) :
    ((outsAt0 m c t.val t.isLt).2 j : EReal) = term m c (j 0).val (j 1).val t.val := by
  have e : (outsAt0 m c t.val t.isLt).2 = k0_pay1 (iblk m c 0 t) (iblk m c 1 t) := by
    rw [outsAt0_A m c t h0 (by omega) (by omega)]
    frame_out
  refine (congrFun e j).trans (Eq.trans ?_ (term_eq m c t (j 0) (j 1)))
  unfold k0_pay1
  pointwise
  rfl

/-- the next ones add theirs to it, -/
theorem stepB (n : ℕ) (h : n + 1 < cfg0.N) (h0 : (n + 1) % 4 ≠ 0) (h1 : (n + 1) % 4 ≠ 3) (j : S1024x2752.Idx) :
    ((outsAt0 m c (n + 1) h).2 j : EReal) = (outsAt0 m c n (by omega)).2 j + term m c (j 0).val (j 1).val (n + 1) := by
  have e : (outsAt0 m c (n + 1) h).2 = k0_pay2 (outsAt0 m c n (by omega)).2 (iblk m c 0 ⟨n + 1, h⟩) (iblk m c 1 ⟨n + 1, h⟩) := by
    rw [outsAt0_B m c ⟨n + 1, h⟩ h0 (by show 1 ≤ (n + 1) % 4 ∧ (n + 1) % 4 ≤ 2; omega) h1]
    frame_out
    exact congrArg (fun a => k0_pay2 (F := Ideal) a _ _) (Memref.IsWhole.read_unread _ _)
  refine (congrFun e j).trans (Eq.trans ?_ (congrArg ((outsAt0 m c n (by omega)).2 j + ·) (term_eq m c ⟨n + 1, h⟩ (j 0) (j 1))))
  unfold k0_pay2
  pointwise
  rfl

/-- and the last one writes the sum out. -/
theorem stepC (n : ℕ) (h : n + 1 < cfg0.N) (h0 : (n + 1) % 4 = 3) (j : S1x1024x2752.Idx) :
    ((outsAt0 m c (n + 1) h).1 j : EReal) = (outsAt0 m c n (by omega)).2 (ix2 (j 1) (j 2)) + term m c (j 1).val (j 2).val (n + 1) := by
  have e : (outsAt0 m c (n + 1) h).1 = k0_pay3 (outsAt0 m c n (by omega)).2 (iblk m c 0 ⟨n + 1, h⟩) (iblk m c 1 ⟨n + 1, h⟩) := by
    rw [outsAt0_C m c ⟨n + 1, h⟩ (by show (n + 1) % 4 ≠ 0; omega) (by show ¬(1 ≤ (n + 1) % 4 ∧ (n + 1) % 4 ≤ 2); omega) h0]
    frame_out
    exact congrArg (fun a => k0_pay3 (F := Ideal) a _ _) (Memref.IsWhole.read_unread _ _)
  refine (congrFun e j).trans (Eq.trans ?_
    (congrArg ((outsAt0 m c n (by omega)).2 (ix2 (j 1) (j 2)) + ·) (term_eq m c ⟨n + 1, h⟩ (j 1) (j 2))))
  unfold k0_pay3
  pointwise
  rfl

/-- The result: the sum over the features. -/
@[expose] def out (x : S4096x4096.Idx → EReal) (y : S4x2752x4096.Idx → EReal) : S4x4096x2752.Idx → EReal := fun i =>
  ∑ k ∈ Finset.range 4096, at2 x (i 1).val k * at3 y (i 0).val (i 2).val k

/-- The kernel's array holds it. -/
theorem final : (Value.G2 m c : S4x4096x2752.Idx → EReal) = out (X m c) (Y m c) := by
  funext i
  have i0 : (i 0).val < 4 := (i 0).isLt
  have i1 : (i 1).val < 4096 := (i 1).isLt
  have i2 : (i 2).val < 2752 := (i 2).isLt
  have hr : Value.run2Of i = (i 0).val + 4 * ((i 1).val / 1024) := by
    show 1 * ((i 0).val / 1 - 0) + 4 * ((i 1).val / 1024 - 0) + 16 * ((i 2).val / 2752 - 0) = _; omega
  have h : Value.pt2Of i < cfg0.N := by show 4 * Value.run2Of i + 3 < grid0.N; rw [N_0]; omega
  unfold Value.G2
  rw [dif_pos h, ← Value.outsAt0_sweep m c _ h]
  refine (out_sum (J := 4) (fun n h => (outsAt0 m c n h).2 (ix2 (Value.loc2Of i 1) (Value.loc2Of i 2)))
    (fun n h => (outsAt0 m c n h).1 (Value.loc2Of i)) (term m c (Value.loc2Of i 1).val (Value.loc2Of i 2).val) (by decide)
    (fun n h h0 => stepA m c ⟨n, h⟩ h0 _) (fun n h h0 h1 => stepB m c n h h0 h1 _) (fun n h h0 => stepC m c n h h0 _)
    (Value.run2Of i) h).trans ?_
  rw [out, ← sum_blocks 4 1024]
  refine Finset.sum_congr rfl fun s hs => Finset.sum_congr rfl fun k hk => ?_
  have hs : s < 4 := Finset.mem_range.1 hs
  have e0 : 1024 * ((4 * Value.run2Of i + s) / 16) + (Value.loc2Of i 1).val = (i 1).val := by show _ + (i 1).val % 1024 = _; omega
  have e1 : (4 * Value.run2Of i + s) % 4 = s := by omega
  have e2 : (4 * Value.run2Of i + s) / 4 % 4 = (i 0).val := by omega
  have e3 : (Value.loc2Of i 2).val = (i 2).val := by exact Nat.mod_eq_of_lt i2
  rw [e0, e1, e2, e3]

end Cert.DactIdeal.Product

namespace Cert.RefDactIdeal.Product
open Cert Cert.RefDactIdeal Cert.RefDactIdeal.Gen Cert.Mul

/-- The reference's array holds it too. -/
theorem value (x : FVec Ideal S4096x4096 .bf16) (y : FVec Ideal S4x2752x4096 .bf16) :
    (truncf .bf16 (transpose S4x4096x2752 [1, 0, 2] (shapeCast _ (Host.dotGeneral (F := Ideal) dot_S4096x4096_S11008x4096_S4096x11008_1_1_0_0_n_n none (extf .f32 x bitsLt_bf16_f32) (shapeCast _ (extf .f32 y bitsLt_bf16_f32) shapeCasts_S4x2752x4096_S11008x4096)) shapeCasts_S4096x11008_S4096x4x2752) transposes_S4096x4x2752_S4x4096x2752_1_0_2) bitsLt_bf16_f32 :
        FVec Ideal S4x4096x2752 .bf16) = Cert.DactIdeal.Product.out x y := by
  funext i
  pointwise
  rw [Cert.DactIdeal.Product.out, Finset.sum_range]
  exact Finset.sum_congr rfl fun k _ => congrArg₂ (· * ·) (at2_of x _ rfl rfl) (at3_of y _ rfl rfl rfl)
/-- It leaves its arguments, and has no semaphore. -/
theorem frame : quiescent_RefDactIdeal (hRefDactIdeal := facts) := fun m g _ =>
  (θ_run defs _ _).mono (fun r h => ⟨fun c => (h c).2, sem_eq_zero_of_no_sems (by decide) r.2⟩) (Value.run m g)

end Cert.RefDactIdeal.Product

/-- The two runs end with one array. -/
theorem Cert.DactIdeal.Product.claim :
    Cert.algebraic_DactIdeal_RefDactIdeal (hDactIdeal := Cert.DactIdeal.Gen.facts) (hRefDactIdeal := Cert.RefDactIdeal.Gen.facts) :=
  fun m g m' g' _ e => ⟨fun c => out (X m c) (Y m c),
    (θ_run Cert.DactIdeal.defs _ _).mono (fun _ h c => ⟨(h c).1.trans (final m c), (h c).2⟩) (Cert.DactIdeal.Value.run m g),
    (θ_run Cert.RefDactIdeal.defs _ _).mono (fun _ h c => ⟨(h c).1.trans
      ((Cert.RefDactIdeal.Product.value _ _).trans (congrArg₂ out (e c).1 (e c).2)), (h c).2⟩) (Cert.RefDactIdeal.Value.run m' g')⟩
-- ==== Proof.Mul.GwIn.lean ====
/- The cotangent of the input projection's weight: the product of the transposed normed input with the cotangent, by blocks over the tokens. -/
module

public import proofs.«01_k».proof.Defs
public import proofs.«01_k».proof.Proof.Mul.Blocks
public import proofs.«01_k».proof.Proof.Gen.GwInIdeal.Value
public import proofs.«01_k».proof.Proof.Gen.RefGwInIdeal.Run
public import Idealize.ShloMosaic.Lib.Pipeline.ValueKit.Acc
public import Idealize.ShloMosaic.Lib.Pointwise

public section
open Idealize.ShloMosaic Idealize.ShloMosaic.Ideal
set_option maxRecDepth 16384
noncomputable section

namespace Cert.GwInIdeal.Product
open Cert.GwInIdeal Cert.GwInIdeal.Gen Cert.Mul Idealize.ShloMosaic.TcCoe

variable (m : (ℓ : Loc nD τ sig) → Buf (Elt Ideal) ℓ) (c : Dev nD)

/-- The two arguments, on a core. -/
@[expose] def X : S4096x4096.Idx → EReal := m ((c : Thread nD τ).loc main_arg0)
@[expose] def Y : S4096x8192.Idx → EReal := m ((c : Thread nD τ).loc main_arg1)

/-- The blocks of the two arguments at a point. -/
theorem idx0 : ∀ t : Fin cfg0.N, win0_0.index t = ![t.val % 4, t.val / 4 % 2] :=
  (by decide +kernel : ∀ t : Fin grid0.N, win0_0.index t = ![t.val % 4, t.val / 4 % 2])
theorem idx1 : ∀ t : Fin cfg0.N, win0_1.index t = ![t.val % 4, t.val / 8] :=
  (by decide +kernel : ∀ t : Fin grid0.N, win0_1.index t = ![t.val % 4, t.val / 8])

@[expose] def xb (t : Fin cfg0.N) : S1024x2048.Idx → EReal := iblk m c 0 t
@[expose] def yb (t : Fin cfg0.N) : S1024x1024.Idx → EReal := iblk m c 1 t

/-- The product of point `n`'s blocks, at row `p` and column `q`. -/
@[expose] def term (p q n : ℕ) : EReal :=
  ∑ k ∈ Finset.range 1024, at2 (X m c) (1024 * (n % 4) + k) (2048 * (n / 4 % 2) + p) * at2 (Y m c) (1024 * (n % 4) + k) (1024 * (n / 8) + q)

theorem term_eq (t : Fin cfg0.N) (p : Fin 2048) (q : Fin 1024) :
    (∑ k : Fin 1024, xb m c t (ix2 k p) * yb m c t (ix2 k q)) = term m c p.val q.val t.val := by
  have a0 : win0_0.index t 0 = t.val % 4 := congrFun (idx0 t) 0
  have a1 : win0_0.index t 1 = t.val / 4 % 2 := congrFun (idx0 t) 1
  have b0 : win0_1.index t 0 = t.val % 4 := congrFun (idx1 t) 0
  have b1 : win0_1.index t 1 = t.val / 8 := congrFun (idx1 t) 1
  rw [term, Finset.sum_range]
  refine Finset.sum_congr rfl fun k _ => congrArg₂ (· * ·) ?_ ?_
  · refine (congrFun (V_main_arg0 m c) ((win0_0.rect t).emb (ix2 k p))).trans (at2_of (X m c) _ ?_ ?_)
    · show win0_0.index t 0 * 1024 + 1 * k.val = _; omega
    · show win0_0.index t 1 * 2048 + 1 * p.val = _; omega
  · refine (congrFun (V_main_arg1 m c) ((win0_1.rect t).emb (ix2 k q))).trans (at2_of (Y m c) _ ?_ ?_)
    · show win0_1.index t 0 * 1024 + 1 * k.val = _; omega
    · show win0_1.index t 1 * 1024 + 1 * q.val = _; omega

/-- The first point of a run stores its product in the accumulator, -/
theorem stepA (t : Fin cfg0.N) (h0 : t.val % 4 = 0) (j : S2048x1024.Idx) :
    ((outsAt0 m c t.val t.isLt).2 j : EReal) = term m c (j 0).val (j 1).val t.val := by
  have e : (outsAt0 m c t.val t.isLt).2 = k0_pay1 (iblk m c 0 t) (iblk m c 1 t) := by
    rw [outsAt0_A m c t h0 (by omega) (by omega)]
    frame_out
  refine (congrFun e j).trans (Eq.trans ?_ (term_eq m c t (j 0) (j 1)))
  unfold k0_pay1
  pointwise
  rfl

/-- the next ones add theirs to it, -/
theorem stepB (n : ℕ) (h : n + 1 < cfg0.N) (h0 : (n + 1) % 4 ≠ 0) (h1 : (n + 1) % 4 ≠ 3) (j : S2048x1024.Idx) :
    ((outsAt0 m c (n + 1) h).2 j : EReal) = (outsAt0 m c n (by omega)).2 j + term m c (j 0).val (j 1).val (n + 1) := by
  have e : (outsAt0 m c (n + 1) h).2 = k0_pay2 (outsAt0 m c n (by omega)).2 (iblk m c 0 ⟨n + 1, h⟩) (iblk m c 1 ⟨n + 1, h⟩) := by
    rw [outsAt0_B m c ⟨n + 1, h⟩ h0 (by show 1 ≤ (n + 1) % 4 ∧ (n + 1) % 4 ≤ 2; omega) h1]
    frame_out
    exact congrArg (fun a => k0_pay2 (F := Ideal) a _ _) (Memref.IsWhole.read_unread _ _)
  refine (congrFun e j).trans (Eq.trans ?_ (congrArg ((outsAt0 m c n (by omega)).2 j + ·) (term_eq m c ⟨n + 1, h⟩ (j 0) (j 1))))
  unfold k0_pay2
  pointwise
  rfl

/-- and the last one writes the sum out. -/
theorem stepC (n : ℕ) (h : n + 1 < cfg0.N) (h0 : (n + 1) % 4 = 3) (j : S1x2048x1024.Idx) :
    ((outsAt0 m c (n + 1) h).1 j : EReal) = (outsAt0 m c n (by omega)).2 (ix2 (j 1) (j 2)) + term m c (j 1).val (j 2).val (n + 1) := by
  have e : (outsAt0 m c (n + 1) h).1 = k0_pay3 (outsAt0 m c n (by omega)).2 (iblk m c 0 ⟨n + 1, h⟩) (iblk m c 1 ⟨n + 1, h⟩) := by
    rw [outsAt0_C m c ⟨n + 1, h⟩ (by show (n + 1) % 4 ≠ 0; omega) (by show ¬(1 ≤ (n + 1) % 4 ∧ (n + 1) % 4 ≤ 2); omega) h0]
    frame_out
    exact congrArg (fun a => k0_pay3 (F := Ideal) a _ _) (Memref.IsWhole.read_unread _ _)
  refine (congrFun e j).trans (Eq.trans ?_
    (congrArg ((outsAt0 m c n (by omega)).2 (ix2 (j 1) (j 2)) + ·) (term_eq m c ⟨n + 1, h⟩ (j 1) (j 2))))
  unfold k0_pay3
  pointwise
  rfl

/-- The result: the sum over the tokens. -/
@[expose] def out (x : S4096x4096.Idx → EReal) (y : S4096x8192.Idx → EReal) : S8x4096x1024.Idx → EReal := fun i =>
  ∑ k ∈ Finset.range 4096, at2 x k (i 1).val * at2 y k (1024 * (i 0).val + (i 2).val)

/-- The kernel's array holds it. -/
theorem final : (Value.G2 m c : S8x4096x1024.Idx → EReal) = out (X m c) (Y m c) := by
  funext i
  have i0 : (i 0).val < 8 := (i 0).isLt
  have i1 : (i 1).val < 4096 := (i 1).isLt
  have i2 : (i 2).val < 1024 := (i 2).isLt
  have hr : Value.run2Of i = 2 * (i 0).val + (i 1).val / 2048 := by
    show 2 * ((i 0).val / 1 - 0) + 1 * ((i 1).val / 2048 - 0) + 1 * ((i 2).val / 1024 - 0) = _; omega
  have h : Value.pt2Of i < cfg0.N := by show 4 * Value.run2Of i + 3 < grid0.N; rw [N_0]; omega
  unfold Value.G2
  rw [dif_pos h, ← Value.outsAt0_sweep m c _ h]
  refine (out_sum (J := 4) (fun n h => (outsAt0 m c n h).2 (ix2 (Value.loc2Of i 1) (Value.loc2Of i 2)))
    (fun n h => (outsAt0 m c n h).1 (Value.loc2Of i)) (term m c (Value.loc2Of i 1).val (Value.loc2Of i 2).val) (by decide)
    (fun n h h0 => stepA m c ⟨n, h⟩ h0 _) (fun n h h0 h1 => stepB m c n h h0 h1 _) (fun n h h0 => stepC m c n h h0 _)
    (Value.run2Of i) h).trans ?_
  rw [out, ← sum_blocks 4 1024]
  refine Finset.sum_congr rfl fun s hs => Finset.sum_congr rfl fun k hk => ?_
  have hs : s < 4 := Finset.mem_range.1 hs
  have e0 : (4 * Value.run2Of i + s) % 4 = s := by omega
  have e1 : 2048 * ((4 * Value.run2Of i + s) / 4 % 2) + (Value.loc2Of i 1).val = (i 1).val := by show _ + (i 1).val % 2048 = _; omega
  have e2 : (4 * Value.run2Of i + s) / 8 = (i 0).val := by omega
  have e3 : (Value.loc2Of i 2).val = (i 2).val := by exact Nat.mod_eq_of_lt i2
  rw [e0, e1, e2, e3]

end Cert.GwInIdeal.Product

namespace Cert.RefGwInIdeal.Product
open Cert Cert.RefGwInIdeal Cert.RefGwInIdeal.Gen Cert.Mul

/-- The reference's array holds it too. -/
theorem value (x : FVec Ideal S4096x4096 .bf16) (y : FVec Ideal S4096x8192 .bf16) :
    (truncf .bf16 (transpose S8x4096x1024 [1, 0, 2] (shapeCast _ (transpose S4096x8192 [1, 0] (Host.dotGeneral (F := Ideal) dot_S4096x8192_S4096x4096_S8192x4096_0_0_1_1_n_n none (extf .f32 y bitsLt_bf16_f32) (extf .f32 x bitsLt_bf16_f32)) transposes_S8192x4096_S4096x8192_1_0) shapeCasts_S4096x8192_S4096x8x1024) transposes_S4096x8x1024_S8x4096x1024_1_0_2) bitsLt_bf16_f32 :
        FVec Ideal S8x4096x1024 .bf16) = Cert.GwInIdeal.Product.out x y := by
  funext i
  pointwise
  rw [Cert.GwInIdeal.Product.out, Finset.sum_range]
  exact Finset.sum_congr rfl fun k _ => (mul_comm _ _).trans <| congrArg₂ (· * ·) (at2_of x _ rfl rfl) (at2_of y _ rfl (congrArg (· + _) (Nat.mul_comm _ _)))
/-- It leaves its arguments, and has no semaphore. -/
theorem frame : quiescent_RefGwInIdeal (hRefGwInIdeal := facts) := fun m g _ =>
  (θ_run defs _ _).mono (fun r h => ⟨fun c => (h c).2, sem_eq_zero_of_no_sems (by decide) r.2⟩) (Value.run m g)

end Cert.RefGwInIdeal.Product

/-- The two runs end with one array. -/
theorem Cert.GwInIdeal.Product.claim :
    Cert.algebraic_GwInIdeal_RefGwInIdeal (hGwInIdeal := Cert.GwInIdeal.Gen.facts) (hRefGwInIdeal := Cert.RefGwInIdeal.Gen.facts) :=
  fun m g m' g' _ e => ⟨fun c => out (X m c) (Y m c),
    (θ_run Cert.GwInIdeal.defs _ _).mono (fun _ h c => ⟨(h c).1.trans (final m c), (h c).2⟩) (Cert.GwInIdeal.Value.run m g),
    (θ_run Cert.RefGwInIdeal.defs _ _).mono (fun _ h c => ⟨(h c).1.trans
      ((Cert.RefGwInIdeal.Product.value _ _).trans (congrArg₂ out (e c).1 (e c).2)), (h c).2⟩) (Cert.RefGwInIdeal.Value.run m' g')⟩
-- ==== Proof.Mul.Dh1.lean ====
/- The cotangent of the block's normed input: the product of the cotangents with the transpose of the input projection's weight, by blocks over its columns. -/
module

public import proofs.«01_k».proof.Defs
public import proofs.«01_k».proof.Proof.Mul.Blocks
public import proofs.«01_k».proof.Proof.Gen.Dh1Ideal.Value
public import proofs.«01_k».proof.Proof.Gen.RefDh1Ideal.Run
public import Idealize.ShloMosaic.Lib.Pipeline.ValueKit.Acc
public import Idealize.ShloMosaic.Lib.Pointwise

public section
open Idealize.ShloMosaic Idealize.ShloMosaic.Ideal
set_option maxRecDepth 16384
noncomputable section

namespace Cert.Dh1Ideal.Product
open Cert.Dh1Ideal Cert.Dh1Ideal.Gen Cert.Mul Idealize.ShloMosaic.TcCoe

variable (m : (ℓ : Loc nD τ sig) → Buf (Elt Ideal) ℓ) (c : Dev nD)

/-- The two arguments, on a core. -/
@[expose] def X : S4096x8192.Idx → EReal := m ((c : Thread nD τ).loc main_arg0)
@[expose] def Y : S8x4096x1024.Idx → EReal := m ((c : Thread nD τ).loc main_arg1)

/-- The blocks of the two arguments at a point. -/
theorem idx0 : ∀ t : Fin cfg0.N, win0_0.index t = ![t.val / 16, t.val % 8] :=
  (by decide +kernel : ∀ t : Fin grid0.N, win0_0.index t = ![t.val / 16, t.val % 8])
theorem idx1 : ∀ t : Fin cfg0.N, win0_1.index t = ![t.val % 8, t.val / 8 % 2, 0] :=
  (by decide +kernel : ∀ t : Fin grid0.N, win0_1.index t = ![t.val % 8, t.val / 8 % 2, 0])

@[expose] def xb (t : Fin cfg0.N) : S1024x1024.Idx → EReal := iblk m c 0 t
@[expose] def yb (t : Fin cfg0.N) : S1x2048x1024.Idx → EReal := iblk m c 1 t

/-- The product of point `n`'s blocks, at row `p` and column `q`. -/
@[expose] def term (p q n : ℕ) : EReal :=
  ∑ k ∈ Finset.range 1024, at2 (X m c) (1024 * (n / 16) + p) (1024 * (n % 8) + k) * at3 (Y m c) (n % 8) (2048 * (n / 8 % 2) + q) k

theorem term_eq (t : Fin cfg0.N) (p : Fin 1024) (q : Fin 2048) :
    (∑ k : Fin 1024, xb m c t (ix2 p k) * yb m c t (ix3 0 q k)) = term m c p.val q.val t.val := by
  have a0 : win0_0.index t 0 = t.val / 16 := congrFun (idx0 t) 0
  have a1 : win0_0.index t 1 = t.val % 8 := congrFun (idx0 t) 1
  have b0 : win0_1.index t 0 = t.val % 8 := congrFun (idx1 t) 0
  have b1 : win0_1.index t 1 = t.val / 8 % 2 := congrFun (idx1 t) 1
  have b2 : win0_1.index t 2 = 0 := congrFun (idx1 t) 2
  rw [term, Finset.sum_range]
  refine Finset.sum_congr rfl fun k _ => congrArg₂ (· * ·) ?_ ?_
  · refine (congrFun (V_main_arg0 m c) ((win0_0.rect t).emb (ix2 p k))).trans (at2_of (X m c) _ ?_ ?_)
    · show win0_0.index t 0 * 1024 + 1 * p.val = _; omega
    · show win0_0.index t 1 * 1024 + 1 * k.val = _; omega
  · refine (congrFun (V_main_arg1 m c) ((win0_1.rect t).emb (ix3 0 q k))).trans (at3_of (Y m c) _ ?_ ?_ ?_)
    · show win0_1.index t 0 * 1 + 1 * 0 = _; omega
    · show win0_1.index t 1 * 2048 + 1 * q.val = _; omega
    · show win0_1.index t 2 * 1024 + 1 * k.val = _; omega

/-- The first point of a run stores its product in the accumulator, -/
theorem stepA (t : Fin cfg0.N) (h0 : t.val % 8 = 0) (j : S1024x2048.Idx) :
    ((outsAt0 m c t.val t.isLt).2 j : EReal) = term m c (j 0).val (j 1).val t.val := by
  have e : (outsAt0 m c t.val t.isLt).2 = k0_pay1 (iblk m c 0 t) (iblk m c 1 t) := by
    rw [outsAt0_A m c t h0 (by omega) (by omega)]
    frame_out
  refine (congrFun e j).trans (Eq.trans ?_ (term_eq m c t (j 0) (j 1)))
  unfold k0_pay1
  pointwise
  rfl

/-- the next ones add theirs to it, -/
theorem stepB (n : ℕ) (h : n + 1 < cfg0.N) (h0 : (n + 1) % 8 ≠ 0) (h1 : (n + 1) % 8 ≠ 7) (j : S1024x2048.Idx) :
    ((outsAt0 m c (n + 1) h).2 j : EReal) = (outsAt0 m c n (by omega)).2 j + term m c (j 0).val (j 1).val (n + 1) := by
  have e : (outsAt0 m c (n + 1) h).2 = k0_pay2 (outsAt0 m c n (by omega)).2 (iblk m c 0 ⟨n + 1, h⟩) (iblk m c 1 ⟨n + 1, h⟩) := by
    rw [outsAt0_B m c ⟨n + 1, h⟩ h0 (by show 1 ≤ (n + 1) % 8 ∧ (n + 1) % 8 ≤ 6; omega) h1]
    frame_out
    exact congrArg (fun a => k0_pay2 (F := Ideal) a _ _) (Memref.IsWhole.read_unread _ _)
  refine (congrFun e j).trans (Eq.trans ?_ (congrArg ((outsAt0 m c n (by omega)).2 j + ·) (term_eq m c ⟨n + 1, h⟩ (j 0) (j 1))))
  unfold k0_pay2
  pointwise
  rfl

/-- and the last one writes the sum out. -/
theorem stepC (n : ℕ) (h : n + 1 < cfg0.N) (h0 : (n + 1) % 8 = 7) (j : S1024x2048.Idx) :
    ((outsAt0 m c (n + 1) h).1 j : EReal) = (outsAt0 m c n (by omega)).2 j + term m c (j 0).val (j 1).val (n + 1) := by
  have e : (outsAt0 m c (n + 1) h).1 = k0_pay3 (outsAt0 m c n (by omega)).2 (iblk m c 0 ⟨n + 1, h⟩) (iblk m c 1 ⟨n + 1, h⟩) := by
    rw [outsAt0_C m c ⟨n + 1, h⟩ (by show (n + 1) % 8 ≠ 0; omega) (by show ¬(1 ≤ (n + 1) % 8 ∧ (n + 1) % 8 ≤ 6); omega) h0]
    frame_out
    exact congrArg (fun a => k0_pay3 (F := Ideal) a _ _) (Memref.IsWhole.read_unread _ _)
  refine (congrFun e j).trans (Eq.trans ?_
    (congrArg ((outsAt0 m c n (by omega)).2 j + ·) (term_eq m c ⟨n + 1, h⟩ (j 0) (j 1))))
  unfold k0_pay3
  pointwise
  rfl

/-- The result: the sum over the columns. -/
@[expose] def out (x : S4096x8192.Idx → EReal) (y : S8x4096x1024.Idx → EReal) : S4096x4096.Idx → EReal := fun i =>
  ∑ s ∈ Finset.range 8, ∑ k ∈ Finset.range 1024, at2 x (i 0).val (1024 * s + k) * at3 y s (i 1).val k

/-- The kernel's array holds it. -/
theorem final : (Value.G2 m c : S4096x4096.Idx → EReal) = out (X m c) (Y m c) := by
  funext i
  have i0 : (i 0).val < 4096 := (i 0).isLt
  have i1 : (i 1).val < 4096 := (i 1).isLt
  have hr : Value.run2Of i = 2 * ((i 0).val / 1024) + (i 1).val / 2048 := by
    show 2 * ((i 0).val / 1024 - 0) + 1 * ((i 1).val / 2048 - 0) = _; omega
  have h : Value.pt2Of i < cfg0.N := by show 8 * Value.run2Of i + 7 < grid0.N; rw [N_0]; omega
  unfold Value.G2
  rw [dif_pos h, ← Value.outsAt0_sweep m c _ h]
  refine (out_sum (J := 8) (fun n h => (outsAt0 m c n h).2 (Value.loc2Of i))
    (fun n h => (outsAt0 m c n h).1 (Value.loc2Of i)) (term m c (Value.loc2Of i 0).val (Value.loc2Of i 1).val) (by decide)
    (fun n h h0 => stepA m c ⟨n, h⟩ h0 _) (fun n h h0 h1 => stepB m c n h h0 h1 _) (fun n h h0 => stepC m c n h h0 _)
    (Value.run2Of i) h).trans ?_
  rw [out]
  refine Finset.sum_congr rfl fun s hs => Finset.sum_congr rfl fun k hk => ?_
  have hs : s < 8 := Finset.mem_range.1 hs
  have e0 : 1024 * ((8 * Value.run2Of i + s) / 16) + (Value.loc2Of i 0).val = (i 0).val := by show _ + (i 0).val % 1024 = _; omega
  have e1 : (8 * Value.run2Of i + s) % 8 = s := by omega
  have e2 : 2048 * ((8 * Value.run2Of i + s) / 8 % 2) + (Value.loc2Of i 1).val = (i 1).val := by show _ + (i 1).val % 2048 = _; omega
  rw [e0, e1, e2]

end Cert.Dh1Ideal.Product

namespace Cert.RefDh1Ideal.Product
open Cert Cert.RefDh1Ideal Cert.RefDh1Ideal.Gen Cert.Mul

/-- The reference's array holds it too. -/
theorem value (x : FVec Ideal S4096x8192 .bf16) (y : FVec Ideal S8x4096x1024 .bf16) :
    (Host.dotGeneral (F := Ideal) dot_S4096x8192_S4096x8192_S4096x4096_1_1_0_0_n_n none (extf .f32 x bitsLt_bf16_f32) (shapeCast _ (transpose S4096x8x1024 [1, 0, 2] (extf .f32 y bitsLt_bf16_f32) transposes_S8x4096x1024_S4096x8x1024_1_0_2) shapeCasts_S4096x8x1024_S4096x8192) :
        FVec Ideal S4096x4096 .f32) = Cert.Dh1Ideal.Product.out x y := by
  funext i
  pointwise
  rw [Cert.Dh1Ideal.Product.out, sum_blocks_div 8 1024, Finset.sum_range]
  exact Finset.sum_congr rfl fun k _ => congrArg₂ (· * ·) (at2_of x _ rfl (Nat.div_add_mod _ _).symm) (at3_of y _ rfl rfl rfl)
/-- It leaves its arguments, and has no semaphore. -/
theorem frame : quiescent_RefDh1Ideal (hRefDh1Ideal := facts) := fun m g _ =>
  (θ_run defs _ _).mono (fun r h => ⟨fun c => (h c).2, sem_eq_zero_of_no_sems (by decide) r.2⟩) (Value.run m g)

end Cert.RefDh1Ideal.Product

/-- The two runs end with one array. -/
theorem Cert.Dh1Ideal.Product.claim :
    Cert.algebraic_Dh1Ideal_RefDh1Ideal (hDh1Ideal := Cert.Dh1Ideal.Gen.facts) (hRefDh1Ideal := Cert.RefDh1Ideal.Gen.facts) :=
  fun m g m' g' _ e => ⟨fun c => out (X m c) (Y m c),
    (θ_run Cert.Dh1Ideal.defs _ _).mono (fun _ h c => ⟨(h c).1.trans (final m c), (h c).2⟩) (Cert.Dh1Ideal.Value.run m g),
    (θ_run Cert.RefDh1Ideal.defs _ _).mono (fun _ h c => ⟨(h c).1.trans
      ((Cert.RefDh1Ideal.Product.value _ _).trans (congrArg₂ out (e c).1 (e c).2)), (h c).2⟩) (Cert.RefDh1Ideal.Value.run m' g')⟩
-- ==== Proof.Mul.GwOut.lean ====
/- The cotangent of the output projection's weight: the product of the transposed input with the cotangent, by blocks over the tokens. -/
module

public import proofs.«01_k».proof.Defs
public import proofs.«01_k».proof.Proof.Mul.Blocks
public import proofs.«01_k».proof.Proof.Gen.GwOutIdeal.Value
public import proofs.«01_k».proof.Proof.Gen.RefGwOutIdeal.Run
public import Idealize.ShloMosaic.Lib.Pipeline.ValueKit.Acc
public import Idealize.ShloMosaic.Lib.Pointwise

public section
open Idealize.ShloMosaic Idealize.ShloMosaic.Ideal
set_option maxRecDepth 16384
noncomputable section

namespace Cert.GwOutIdeal.Product
open Cert.GwOutIdeal Cert.GwOutIdeal.Gen Cert.Mul Idealize.ShloMosaic.TcCoe

variable (m : (ℓ : Loc nD τ sig) → Buf (Elt Ideal) ℓ) (c : Dev nD)

/-- The two arguments, on a core. -/
@[expose] def X : S4096x4096.Idx → EReal := m ((c : Thread nD τ).loc main_arg0)
@[expose] def Y : S4096x4096.Idx → EReal := m ((c : Thread nD τ).loc main_arg1)

/-- The blocks of the two arguments at a point. -/
theorem idx0 : ∀ t : Fin cfg0.N, win0_0.index t = ![t.val % 4, t.val / 8] :=
  (by decide +kernel : ∀ t : Fin grid0.N, win0_0.index t = ![t.val % 4, t.val / 8])
theorem idx1 : ∀ t : Fin cfg0.N, win0_1.index t = ![t.val % 4, t.val / 4 % 2] :=
  (by decide +kernel : ∀ t : Fin grid0.N, win0_1.index t = ![t.val % 4, t.val / 4 % 2])

@[expose] def xb (t : Fin cfg0.N) : S1024x1024.Idx → EReal := iblk m c 0 t
@[expose] def yb (t : Fin cfg0.N) : S1024x2048.Idx → EReal := iblk m c 1 t

/-- The product of point `n`'s blocks, at row `p` and column `q`. -/
@[expose] def term (p q n : ℕ) : EReal :=
  ∑ k ∈ Finset.range 1024, at2 (X m c) (1024 * (n % 4) + k) (1024 * (n / 8) + p) * at2 (Y m c) (1024 * (n % 4) + k) (2048 * (n / 4 % 2) + q)

theorem term_eq (t : Fin cfg0.N) (p : Fin 1024) (q : Fin 2048) :
    (∑ k : Fin 1024, xb m c t (ix2 k p) * yb m c t (ix2 k q)) = term m c p.val q.val t.val := by
  have a0 : win0_0.index t 0 = t.val % 4 := congrFun (idx0 t) 0
  have a1 : win0_0.index t 1 = t.val / 8 := congrFun (idx0 t) 1
  have b0 : win0_1.index t 0 = t.val % 4 := congrFun (idx1 t) 0
  have b1 : win0_1.index t 1 = t.val / 4 % 2 := congrFun (idx1 t) 1
  rw [term, Finset.sum_range]
  refine Finset.sum_congr rfl fun k _ => congrArg₂ (· * ·) ?_ ?_
  · refine (congrFun (V_main_arg0 m c) ((win0_0.rect t).emb (ix2 k p))).trans (at2_of (X m c) _ ?_ ?_)
    · show win0_0.index t 0 * 1024 + 1 * k.val = _; omega
    · show win0_0.index t 1 * 1024 + 1 * p.val = _; omega
  · refine (congrFun (V_main_arg1 m c) ((win0_1.rect t).emb (ix2 k q))).trans (at2_of (Y m c) _ ?_ ?_)
    · show win0_1.index t 0 * 1024 + 1 * k.val = _; omega
    · show win0_1.index t 1 * 2048 + 1 * q.val = _; omega

/-- The first point of a run stores its product in the accumulator, -/
theorem stepA (t : Fin cfg0.N) (h0 : t.val % 4 = 0) (j : S1024x2048.Idx) :
    ((outsAt0 m c t.val t.isLt).2 j : EReal) = term m c (j 0).val (j 1).val t.val := by
  have e : (outsAt0 m c t.val t.isLt).2 = k0_pay1 (iblk m c 0 t) (iblk m c 1 t) := by
    rw [outsAt0_A m c t h0 (by omega) (by omega)]
    frame_out
  refine (congrFun e j).trans (Eq.trans ?_ (term_eq m c t (j 0) (j 1)))
  unfold k0_pay1
  pointwise
  rfl

/-- the next ones add theirs to it, -/
theorem stepB (n : ℕ) (h : n + 1 < cfg0.N) (h0 : (n + 1) % 4 ≠ 0) (h1 : (n + 1) % 4 ≠ 3) (j : S1024x2048.Idx) :
    ((outsAt0 m c (n + 1) h).2 j : EReal) = (outsAt0 m c n (by omega)).2 j + term m c (j 0).val (j 1).val (n + 1) := by
  have e : (outsAt0 m c (n + 1) h).2 = k0_pay2 (outsAt0 m c n (by omega)).2 (iblk m c 0 ⟨n + 1, h⟩) (iblk m c 1 ⟨n + 1, h⟩) := by
    rw [outsAt0_B m c ⟨n + 1, h⟩ h0 (by show 1 ≤ (n + 1) % 4 ∧ (n + 1) % 4 ≤ 2; omega) h1]
    frame_out
    exact congrArg (fun a => k0_pay2 (F := Ideal) a _ _) (Memref.IsWhole.read_unread _ _)
  refine (congrFun e j).trans (Eq.trans ?_ (congrArg ((outsAt0 m c n (by omega)).2 j + ·) (term_eq m c ⟨n + 1, h⟩ (j 0) (j 1))))
  unfold k0_pay2
  pointwise
  rfl

/-- and the last one writes the sum out. -/
theorem stepC (n : ℕ) (h : n + 1 < cfg0.N) (h0 : (n + 1) % 4 = 3) (j : S1024x2048.Idx) :
    ((outsAt0 m c (n + 1) h).1 j : EReal) = (outsAt0 m c n (by omega)).2 j + term m c (j 0).val (j 1).val (n + 1) := by
  have e : (outsAt0 m c (n + 1) h).1 = k0_pay3 (outsAt0 m c n (by omega)).2 (iblk m c 0 ⟨n + 1, h⟩) (iblk m c 1 ⟨n + 1, h⟩) := by
    rw [outsAt0_C m c ⟨n + 1, h⟩ (by show (n + 1) % 4 ≠ 0; omega) (by show ¬(1 ≤ (n + 1) % 4 ∧ (n + 1) % 4 ≤ 2); omega) h0]
    frame_out
    exact congrArg (fun a => k0_pay3 (F := Ideal) a _ _) (Memref.IsWhole.read_unread _ _)
  refine (congrFun e j).trans (Eq.trans ?_
    (congrArg ((outsAt0 m c n (by omega)).2 j + ·) (term_eq m c ⟨n + 1, h⟩ (j 0) (j 1))))
  unfold k0_pay3
  pointwise
  rfl

/-- The result: the sum over the tokens. -/
@[expose] def out (x : S4096x4096.Idx → EReal) (y : S4096x4096.Idx → EReal) : S4096x4096.Idx → EReal := fun i =>
  ∑ k ∈ Finset.range 4096, at2 x k (i 0).val * at2 y k (i 1).val

/-- The kernel's array holds it. -/
theorem final : (Value.G2 m c : S4096x4096.Idx → EReal) = out (X m c) (Y m c) := by
  funext i
  have i0 : (i 0).val < 4096 := (i 0).isLt
  have i1 : (i 1).val < 4096 := (i 1).isLt
  have hr : Value.run2Of i = 2 * ((i 0).val / 1024) + (i 1).val / 2048 := by
    show 2 * ((i 0).val / 1024 - 0) + 1 * ((i 1).val / 2048 - 0) = _; omega
  have h : Value.pt2Of i < cfg0.N := by show 4 * Value.run2Of i + 3 < grid0.N; rw [N_0]; omega
  unfold Value.G2
  rw [dif_pos h, ← Value.outsAt0_sweep m c _ h]
  refine (out_sum (J := 4) (fun n h => (outsAt0 m c n h).2 (Value.loc2Of i))
    (fun n h => (outsAt0 m c n h).1 (Value.loc2Of i)) (term m c (Value.loc2Of i 0).val (Value.loc2Of i 1).val) (by decide)
    (fun n h h0 => stepA m c ⟨n, h⟩ h0 _) (fun n h h0 h1 => stepB m c n h h0 h1 _) (fun n h h0 => stepC m c n h h0 _)
    (Value.run2Of i) h).trans ?_
  rw [out, ← sum_blocks 4 1024]
  refine Finset.sum_congr rfl fun s hs => Finset.sum_congr rfl fun k hk => ?_
  have hs : s < 4 := Finset.mem_range.1 hs
  have e0 : (4 * Value.run2Of i + s) % 4 = s := by omega
  have e1 : 1024 * ((4 * Value.run2Of i + s) / 8) + (Value.loc2Of i 0).val = (i 0).val := by show _ + (i 0).val % 1024 = _; omega
  have e2 : 2048 * ((4 * Value.run2Of i + s) / 4 % 2) + (Value.loc2Of i 1).val = (i 1).val := by show _ + (i 1).val % 2048 = _; omega
  rw [e0, e1, e2]

end Cert.GwOutIdeal.Product

namespace Cert.RefGwOutIdeal.Product
open Cert Cert.RefGwOutIdeal Cert.RefGwOutIdeal.Gen Cert.Mul

/-- The reference's array holds it too. -/
theorem value (x : FVec Ideal S4096x4096 .bf16) (y : FVec Ideal S4096x4096 .bf16) :
    (truncf .bf16 (transpose S4096x4096 [1, 0] (Host.dotGeneral (F := Ideal) dot_S4096x4096_S4096x4096_S4096x4096_0_0_1_1_n_n none (extf .f32 y bitsLt_bf16_f32) (extf .f32 x bitsLt_bf16_f32)) transposes_S4096x4096_S4096x4096_1_0) bitsLt_bf16_f32 :
        FVec Ideal S4096x4096 .bf16) = Cert.GwOutIdeal.Product.out x y := by
  funext i
  pointwise
  rw [Cert.GwOutIdeal.Product.out, Finset.sum_range]
  exact Finset.sum_congr rfl fun k _ => (mul_comm _ _).trans <| congrArg₂ (· * ·) (at2_of x _ rfl rfl) (at2_of y _ rfl rfl)
/-- It leaves its arguments, and has no semaphore. -/
theorem frame : quiescent_RefGwOutIdeal (hRefGwOutIdeal := facts) := fun m g _ =>
  (θ_run defs _ _).mono (fun r h => ⟨fun c => (h c).2, sem_eq_zero_of_no_sems (by decide) r.2⟩) (Value.run m g)

end Cert.RefGwOutIdeal.Product

/-- The two runs end with one array. -/
theorem Cert.GwOutIdeal.Product.claim :
    Cert.algebraic_GwOutIdeal_RefGwOutIdeal (hGwOutIdeal := Cert.GwOutIdeal.Gen.facts) (hRefGwOutIdeal := Cert.RefGwOutIdeal.Gen.facts) :=
  fun m g m' g' _ e => ⟨fun c => out (X m c) (Y m c),
    (θ_run Cert.GwOutIdeal.defs _ _).mono (fun _ h c => ⟨(h c).1.trans (final m c), (h c).2⟩) (Cert.GwOutIdeal.Value.run m g),
    (θ_run Cert.RefGwOutIdeal.defs _ _).mono (fun _ h c => ⟨(h c).1.trans
      ((Cert.RefGwOutIdeal.Product.value _ _).trans (congrArg₂ out (e c).1 (e c).2)), (h c).2⟩) (Cert.RefGwOutIdeal.Value.run m' g')⟩
-- ==== Proof.Mul.Dy.lean ====
/- The cotangent of the gate's output: the product of the cotangent with the transpose of the output projection's weight; each block of the result is
   formed at once. -/
module

public import proofs.«01_k».proof.Defs
public import proofs.«01_k».proof.Proof.Mul.Blocks
public import proofs.«01_k».proof.Proof.Gen.DyIdeal.Value
public import proofs.«01_k».proof.Proof.Gen.RefDyIdeal.Run
public import Idealize.ShloMosaic.Lib.Pipeline.ValueKit.Acc
public import Idealize.ShloMosaic.Lib.Pointwise

public section
open Idealize.ShloMosaic Idealize.ShloMosaic.Ideal
set_option maxRecDepth 16384
noncomputable section

namespace Cert.DyIdeal.Product
open Cert.DyIdeal Cert.DyIdeal.Gen Cert.Mul Idealize.ShloMosaic.TcCoe

variable (m : (ℓ : Loc nD τ sig) → Buf (Elt Ideal) ℓ) (c : Dev nD)

/-- The two arguments, on a core. -/
@[expose] def X : S4096x4096.Idx → EReal := m ((c : Thread nD τ).loc main_arg0)
@[expose] def Y : S4096x4096.Idx → EReal := m ((c : Thread nD τ).loc main_arg1)

/-- The blocks of the two arguments and of the result at a point. -/
theorem idx0 : ∀ t : Fin cfg0.N, win0_0.index t = ![t.val / 4, 0] :=
  (by decide +kernel : ∀ t : Fin grid0.N, win0_0.index t = ![t.val / 4, 0])
theorem idx1 : ∀ t : Fin cfg0.N, win0_1.index t = ![t.val % 4, 0] :=
  (by decide +kernel : ∀ t : Fin grid0.N, win0_1.index t = ![t.val % 4, 0])
theorem idx2 : ∀ t : Fin cfg0.N, win0_2.index t = ![t.val / 4, t.val % 4] :=
  (by decide +kernel : ∀ t : Fin grid0.N, win0_2.index t = ![t.val / 4, t.val % 4])
theorem flush2 : ∀ t : Fin cfg0.N, (cfg0.win 2).flush t = true := (by decide +kernel : ∀ t : Fin grid0.N, win0_2.flush t = true)

@[expose] def xb (t : Fin cfg0.N) : S512x4096.Idx → EReal := iblk m c 0 t
@[expose] def yb (t : Fin cfg0.N) : S1024x4096.Idx → EReal := iblk m c 1 t

/-- The product of a point's blocks, at row `p` and column `q`, in the arguments. -/
theorem term_eq (t : Fin cfg0.N) (p : Fin 512) (q : Fin 1024) :
    (∑ k : Fin 4096, xb m c t (ix2 p k) * yb m c t (ix2 q k))
      = ∑ k ∈ Finset.range 4096, at2 (X m c) (512 * (t.val / 4) + p.val) k * at2 (Y m c) (1024 * (t.val % 4) + q.val) k := by
  have a0 : win0_0.index t 0 = t.val / 4 := congrFun (idx0 t) 0
  have a1 : win0_0.index t 1 = 0 := congrFun (idx0 t) 1
  have b0 : win0_1.index t 0 = t.val % 4 := congrFun (idx1 t) 0
  have b1 : win0_1.index t 1 = 0 := congrFun (idx1 t) 1
  rw [Finset.sum_range]
  refine Finset.sum_congr rfl fun k _ => congrArg₂ (· * ·) ?_ ?_
  · refine (congrFun (V_main_arg0 m c) ((win0_0.rect t).emb (ix2 p k))).trans (at2_of (X m c) _ ?_ ?_)
    · show win0_0.index t 0 * 512 + 1 * p.val = _; omega
    · show win0_0.index t 1 * 4096 + 1 * k.val = _; omega
  · refine (congrFun (V_main_arg1 m c) ((win0_1.rect t).emb (ix2 q k))).trans (at2_of (Y m c) _ ?_ ?_)
    · show win0_1.index t 0 * 1024 + 1 * q.val = _; omega
    · show win0_1.index t 1 * 4096 + 1 * k.val = _; omega

/-- The result: the sum over the features. -/
@[expose] def out (x y : S4096x4096.Idx → EReal) : S4096x4096.Idx → EReal := fun i =>
  ∑ k ∈ Finset.range 4096, at2 x (i 0).val k * at2 y (i 1).val k

/-- What a point writes. -/
theorem body (x : FVec Ideal S512x4096 .bf16) (y : FVec Ideal S1024x4096 .bf16) (j : S512x1024.Idx) :
    (out0_2 (F := Ideal) x y j : EReal) = ∑ k : Fin 4096, x (ix2 (j 0) k) * y (ix2 (j 1) k) := by
  have e : out0_2 (F := Ideal) x y = k0_pay1 (F := Ideal) x y := by
    unfold out0_2
    frame_out
  refine (congrFun e j).trans ?_
  unfold k0_pay1
  pointwise

/-- The kernel's array holds it. -/
theorem final : ((dats m 0 c).arrAt 2 cfg0.N : S4096x4096.Idx → EReal) = out (X m c) (Y m c) := by
  funext i
  have i0 : (i 0).val < 4096 := (i 0).isLt
  have i1 : (i 1).val < 4096 := (i 1).isLt
  let t : Fin cfg0.N := ⟨4 * ((i 0).val / 512) + (i 1).val / 1024, by show _ < grid0.N; rw [N_0]; omega⟩
  have ht : t.val = 4 * ((i 0).val / 512) + (i 1).val / 1024 := rfl
  let y : S512x1024.Idx := ix2 ⟨(i 0).val % 512, Nat.mod_lt _ (by decide)⟩ ⟨(i 1).val % 1024, Nat.mod_lt _ (by decide)⟩
  have h0 : win0_2.index t 0 = t.val / 4 := congrFun (idx2 t) 0
  have h1 : win0_2.index t 1 = t.val % 4 := congrFun (idx2 t) 1
  have e : i = (win0_2.rect t).emb y := funext fun a => match a with
    | ⟨0, _⟩ => Fin.ext (by show (i 0).val = win0_2.index t 0 * 512 + 1 * ((i 0).val % 512); omega)
    | ⟨1, _⟩ => Fin.ext (by show (i 1).val = win0_2.index t 1 * 1024 + 1 * ((i 1).val % 1024); omega)
  refine (congrArg ((dats m 0 c).arrAt 2 cfg0.N) e).trans ((congrFun (Value.blocks2 m c t (flush2 t)) y).trans ?_)
  rw [Value.flushed2]
  refine (body (xb m c t) (yb m c t) y).trans ((term_eq m c t (y 0) (y 1)).trans ?_)
  have e0 : 512 * (t.val / 4) + (y 0).val = (i 0).val := by show _ + (i 0).val % 512 = _; omega
  have e1 : 1024 * (t.val % 4) + (y 1).val = (i 1).val := by show _ + (i 1).val % 1024 = _; omega
  rw [e0, e1]
  rfl

end Cert.DyIdeal.Product

namespace Cert.RefDyIdeal.Product
open Cert Cert.RefDyIdeal Cert.RefDyIdeal.Gen Cert.Mul

/-- The reference's array holds it too. -/
theorem value (x y : FVec Ideal S4096x4096 .bf16) :
    (truncf .bf16 (Host.dotGeneral (F := Ideal) dot_S4096x4096_S4096x4096_S4096x4096_1_1_0_0_n_n none (extf .f32 x bitsLt_bf16_f32) (extf .f32 y bitsLt_bf16_f32)) bitsLt_bf16_f32 :
        FVec Ideal S4096x4096 .bf16) = Cert.DyIdeal.Product.out x y := by
  funext i
  pointwise
  rw [Cert.DyIdeal.Product.out, Finset.sum_range]
  exact Finset.sum_congr rfl fun k _ => congrArg₂ (· * ·) (at2_of x _ rfl rfl) (at2_of y _ rfl rfl)

/-- It leaves its arguments, and has no semaphore. -/
theorem frame : quiescent_RefDyIdeal (hRefDyIdeal := facts) := fun m g _ =>
  (θ_run defs _ _).mono (fun r h => ⟨fun c => (h c).2, sem_eq_zero_of_no_sems (by decide) r.2⟩) (Value.run m g)

end Cert.RefDyIdeal.Product

/-- The two runs end with one array. -/
theorem Cert.DyIdeal.Product.claim :
    Cert.algebraic_DyIdeal_RefDyIdeal (hDyIdeal := Cert.DyIdeal.Gen.facts) (hRefDyIdeal := Cert.RefDyIdeal.Gen.facts) :=
  fun m g m' g' _ e => ⟨fun c => out (X m c) (Y m c),
    (θ_run Cert.DyIdeal.defs _ _).mono (fun _ h c => ⟨(h c).1.trans (final m c), (h c).2⟩) (Cert.DyIdeal.Value.run_blocks m g),
    (θ_run Cert.RefDyIdeal.defs _ _).mono (fun _ h c => ⟨(h c).1.trans
      ((Cert.RefDyIdeal.Product.value _ _).trans (congrArg₂ out (e c).1 (e c).2)), (h c).2⟩) (Cert.RefDyIdeal.Value.run m' g')⟩
-- ==== Proof.Mul.Down.lean ====
/- The feed-forward network's second product with its residual: the sum over the four shards, each at once, then the residual plus the gate times it. -/
module

public import proofs.«01_k».proof.Defs
public import proofs.«01_k».proof.Proof.Mul.Blocks
public import proofs.«01_k».proof.Proof.Gen.DownIdeal.Value
public import proofs.«01_k».proof.Proof.Gen.RefDownIdeal.Run
public import Idealize.ShloMosaic.Lib.Pipeline.ValueKit.Acc
public import Idealize.ShloMosaic.Lib.Pointwise

public section
open Idealize.ShloMosaic Idealize.ShloMosaic.Ideal
set_option maxRecDepth 16384
noncomputable section

namespace Cert.DownIdeal.Product
open Cert.DownIdeal Cert.DownIdeal.Gen Cert.Mul Idealize.ShloMosaic.TcCoe

variable (m : (ℓ : Loc nD τ sig) → Buf (Elt Ideal) ℓ) (c : Dev nD)

/-- The two factors, the residual and the gate, on a core. -/
@[expose] def X : S4x4096x2752.Idx → EReal := m ((c : Thread nD τ).loc main_arg0)
@[expose] def Y : S4x2752x4096.Idx → EReal := m ((c : Thread nD τ).loc main_arg1)
@[expose] def R : S4096x4096.Idx → EReal := m ((c : Thread nD τ).loc main_arg2)
@[expose] def G : S2x1x4096.Idx → EReal := m ((c : Thread nD τ).loc main_arg3)

/-- The blocks of the arguments at a point. -/
theorem idx0 : ∀ t : Fin cfg0.N, win0_0.index t = ![t.val % 4, t.val / 16, 0] :=
  (by decide +kernel : ∀ t : Fin grid0.N, win0_0.index t = ![t.val % 4, t.val / 16, 0])
theorem idx1 : ∀ t : Fin cfg0.N, win0_1.index t = ![t.val % 4, 0, t.val / 4 % 4] :=
  (by decide +kernel : ∀ t : Fin grid0.N, win0_1.index t = ![t.val % 4, 0, t.val / 4 % 4])
theorem idx2 : ∀ t : Fin cfg0.N, win0_2.index t = ![t.val / 16, t.val / 4 % 4] :=
  (by decide +kernel : ∀ t : Fin grid0.N, win0_2.index t = ![t.val / 16, t.val / 4 % 4])
theorem idx3 : ∀ t : Fin cfg0.N, win0_3.index t = ![t.val / 32, 0, t.val / 4 % 4] :=
  (by decide +kernel : ∀ t : Fin grid0.N, win0_3.index t = ![t.val / 32, 0, t.val / 4 % 4])

@[expose] def xb (t : Fin cfg0.N) : S1x1024x2752.Idx → EReal := iblk m c 0 t
@[expose] def yb (t : Fin cfg0.N) : S1x2752x1024.Idx → EReal := iblk m c 1 t
@[expose] def rb (t : Fin cfg0.N) : S1024x1024.Idx → EReal := iblk m c 2 t
@[expose] def gb (t : Fin cfg0.N) : S1x1x1024.Idx → EReal := iblk m c 3 t

/-- The product of point `n`'s blocks, at row `p` and column `q`; -/
@[expose] def term (p q n : ℕ) : EReal :=
  ∑ k ∈ Finset.range 2752, at3 (X m c) (n % 4) (1024 * (n / 16) + p) k * at3 (Y m c) (n % 4) k (1024 * (n / 4 % 4) + q)

theorem term_eq (t : Fin cfg0.N) (p q : Fin 1024) :
    (∑ k : Fin 2752, xb m c t (ix3 0 p k) * yb m c t (ix3 0 k q)) = term m c p.val q.val t.val := by
  have a0 : win0_0.index t 0 = t.val % 4 := congrFun (idx0 t) 0
  have a1 : win0_0.index t 1 = t.val / 16 := congrFun (idx0 t) 1
  have a2 : win0_0.index t 2 = 0 := congrFun (idx0 t) 2
  have b0 : win0_1.index t 0 = t.val % 4 := congrFun (idx1 t) 0
  have b1 : win0_1.index t 1 = 0 := congrFun (idx1 t) 1
  have b2 : win0_1.index t 2 = t.val / 4 % 4 := congrFun (idx1 t) 2
  rw [term, Finset.sum_range]
  refine Finset.sum_congr rfl fun k _ => congrArg₂ (· * ·) ?_ ?_
  · refine (congrFun (V_main_arg0 m c) ((win0_0.rect t).emb (ix3 0 p k))).trans (at3_of (X m c) _ ?_ ?_ ?_)
    · show win0_0.index t 0 * 1 + 1 * 0 = _; omega
    · show win0_0.index t 1 * 1024 + 1 * p.val = _; omega
    · show win0_0.index t 2 * 2752 + 1 * k.val = _; omega
  · refine (congrFun (V_main_arg1 m c) ((win0_1.rect t).emb (ix3 0 k q))).trans (at3_of (Y m c) _ ?_ ?_ ?_)
    · show win0_1.index t 0 * 1 + 1 * 0 = _; omega
    · show win0_1.index t 1 * 2752 + 1 * k.val = _; omega
    · show win0_1.index t 2 * 1024 + 1 * q.val = _; omega

/-- its block of the residual, -/
theorem rb_eq (t : Fin cfg0.N) (p q : Fin 1024) :
    rb m c t (ix2 p q) = at2 (R m c) (1024 * (t.val / 16) + p.val) (1024 * (t.val / 4 % 4) + q.val) := by
  have a0 : win0_2.index t 0 = t.val / 16 := congrFun (idx2 t) 0
  have a1 : win0_2.index t 1 = t.val / 4 % 4 := congrFun (idx2 t) 1
  refine (congrFun (V_main_arg2 m c) ((win0_2.rect t).emb (ix2 p q))).trans (at2_of (R m c) _ ?_ ?_)
  · show win0_2.index t 0 * 1024 + 1 * p.val = _; omega
  · show win0_2.index t 1 * 1024 + 1 * q.val = _; omega

/-- and of the gate. -/
theorem gb_eq (t : Fin cfg0.N) (q : Fin 1024) : gb m c t (ix3 0 0 q) = at3 (G m c) (t.val / 32) 0 (1024 * (t.val / 4 % 4) + q.val) := by
  have a0 : win0_3.index t 0 = t.val / 32 := congrFun (idx3 t) 0
  have a1 : win0_3.index t 1 = 0 := congrFun (idx3 t) 1
  have a2 : win0_3.index t 2 = t.val / 4 % 4 := congrFun (idx3 t) 2
  refine (congrFun (V_main_arg3 m c) ((win0_3.rect t).emb (ix3 0 0 q))).trans (at3_of (G m c) _ ?_ ?_ ?_)
  · show win0_3.index t 0 * 1 + 1 * 0 = _; omega
  · show win0_3.index t 1 * 1 + 1 * 0 = _; omega
  · show win0_3.index t 2 * 1024 + 1 * q.val = _; omega

/-- The first point of a run stores its product in the accumulator, -/
theorem stepA (t : Fin cfg0.N) (h0 : t.val % 4 = 0) (j : S1024x1024.Idx) :
    ((outsAt0 m c t.val t.isLt).2.2 j : EReal) = term m c (j 0).val (j 1).val t.val := by
  have e : (outsAt0 m c t.val t.isLt).2.2 = k0_pay1 (iblk m c 0 t) (iblk m c 1 t) := by
    rw [outsAt0_A m c t h0 (by omega) (by omega)]
    frame_out
  refine (congrFun e j).trans (Eq.trans ?_ (term_eq m c t (j 0) (j 1)))
  unfold k0_pay1
  pointwise
  rfl

/-- the next ones add theirs to it, -/
theorem stepB (n : ℕ) (h : n + 1 < cfg0.N) (h0 : (n + 1) % 4 ≠ 0) (h1 : (n + 1) % 4 ≠ 3) (j : S1024x1024.Idx) :
    ((outsAt0 m c (n + 1) h).2.2 j : EReal) = (outsAt0 m c n (by omega)).2.2 j + term m c (j 0).val (j 1).val (n + 1) := by
  have e : (outsAt0 m c (n + 1) h).2.2 = k0_pay2 (outsAt0 m c n (by omega)).2.2 (iblk m c 0 ⟨n + 1, h⟩) (iblk m c 1 ⟨n + 1, h⟩) := by
    rw [outsAt0_B m c ⟨n + 1, h⟩ h0 (by show 1 ≤ (n + 1) % 4 ∧ (n + 1) % 4 ≤ 2; omega) h1]
    frame_out
    exact congrArg (fun a => k0_pay2 (F := Ideal) a _ _) (Memref.IsWhole.read_unread _ _)
  refine (congrFun e j).trans (Eq.trans ?_ (congrArg ((outsAt0 m c n (by omega)).2.2 j + ·) (term_eq m c ⟨n + 1, h⟩ (j 0) (j 1))))
  unfold k0_pay2
  pointwise
  rfl

/-- the last one writes the sum out, -/
theorem stepC_pay (n : ℕ) (h : n + 1 < cfg0.N) (h0 : (n + 1) % 4 = 3) :
    (outsAt0 m c (n + 1) h).1 = k0_pay3 (outsAt0 m c n (by omega)).2.2 (iblk m c 0 ⟨n + 1, h⟩) (iblk m c 1 ⟨n + 1, h⟩) := by
  rw [outsAt0_C m c ⟨n + 1, h⟩ (by show (n + 1) % 4 ≠ 0; omega) (by show ¬(1 ≤ (n + 1) % 4 ∧ (n + 1) % 4 ≤ 2); omega) h0]
  frame_out
  exact congrArg (fun a => k0_pay3 (F := Ideal) a _ _) (Memref.IsWhole.read_unread _ _)

theorem stepC (n : ℕ) (h : n + 1 < cfg0.N) (h0 : (n + 1) % 4 = 3) (j : S1024x1024.Idx) :
    ((outsAt0 m c (n + 1) h).1 j : EReal) = (outsAt0 m c n (by omega)).2.2 j + term m c (j 0).val (j 1).val (n + 1) := by
  refine (congrFun (stepC_pay m c n h h0) j).trans (Eq.trans ?_
    (congrArg ((outsAt0 m c n (by omega)).2.2 j + ·) (term_eq m c ⟨n + 1, h⟩ (j 0) (j 1))))
  unfold k0_pay3
  pointwise
  rfl

/-- and the residual plus the gate times the sum. -/
theorem stepC' (n : ℕ) (h : n + 1 < cfg0.N) (h0 : (n + 1) % 4 = 3) (j : S1024x1024.Idx) :
    ((outsAt0 m c (n + 1) h).2.1 j : EReal)
      = rb m c ⟨n + 1, h⟩ (ix2 (j 0) (j 1)) + gb m c ⟨n + 1, h⟩ (ix3 0 0 (j 1)) * (outsAt0 m c (n + 1) h).1 j := by
  have e : (outsAt0 m c (n + 1) h).2.1 = k0_pay4 (outsAt0 m c n (by omega)).2.2 (iblk m c 0 ⟨n + 1, h⟩) (iblk m c 1 ⟨n + 1, h⟩)
      (iblk m c 2 ⟨n + 1, h⟩) (iblk m c 3 ⟨n + 1, h⟩) := by
    rw [outsAt0_C m c ⟨n + 1, h⟩ (by show (n + 1) % 4 ≠ 0; omega) (by show ¬(1 ≤ (n + 1) % 4 ∧ (n + 1) % 4 ≤ 2); omega) h0]
    frame_out
    exact congrArg (fun a => k0_pay4 (F := Ideal) a _ _ _ _) (Memref.IsWhole.read_unread _ _)
  rw [e, stepC_pay m c n h h0]
  unfold k0_pay4
  generalize k0_pay3 (outsAt0 m c n (by omega)).2.2 (iblk m c 0 ⟨n + 1, h⟩) (iblk m c 1 ⟨n + 1, h⟩) = s
  pointwise
  rfl

/-- The product: the sum over the shards and their columns; -/
@[expose] def prod (x : S4x4096x2752.Idx → EReal) (y : S4x2752x4096.Idx → EReal) : S4096x4096.Idx → EReal := fun i =>
  ∑ s ∈ Finset.range 4, ∑ k ∈ Finset.range 2752, at3 x s (i 0).val k * at3 y s k (i 1).val
/-- and the residual plus the gate of the row's sequence times it. -/
@[expose] def next (x : S4x4096x2752.Idx → EReal) (y : S4x2752x4096.Idx → EReal) (r : S4096x4096.Idx → EReal) (g : S2x1x4096.Idx → EReal) :
    S4096x4096.Idx → EReal := fun i => at2 r (i 0).val (i 1).val + at3 g ((i 0).val / 2048) 0 (i 1).val * prod x y i

/-- The last point of an index's run, and where in the block the index is. -/
theorem last_lt (i : S4096x4096.Idx) : Value.pt4Of i < cfg0.N := by
  have i0 : (i 0).val < 4096 := (i 0).isLt
  have i1 : (i 1).val < 4096 := (i 1).isLt
  show 4 * (4 * ((i 0).val / 1024 - 0) + 1 * ((i 1).val / 1024 - 0)) + 3 < grid0.N; rw [N_0]; omega

theorem coords (i : S4096x4096.Idx) (s : ℕ) (hs : s < 4) : (4 * Value.run4Of i + s) % 4 = s
    ∧ 1024 * ((4 * Value.run4Of i + s) / 16) + (Value.loc4Of i 0).val = (i 0).val
    ∧ 1024 * ((4 * Value.run4Of i + s) / 4 % 4) + (Value.loc4Of i 1).val = (i 1).val
    ∧ (4 * Value.run4Of i + s) / 32 = (i 0).val / 2048 := by
  have i0 : (i 0).val < 4096 := (i 0).isLt
  have i1 : (i 1).val < 4096 := (i 1).isLt
  have hr : Value.run4Of i = 4 * ((i 0).val / 1024) + (i 1).val / 1024 := by
    show 4 * ((i 0).val / 1024 - 0) + 1 * ((i 1).val / 1024 - 0) = _; omega
  have e0 : (Value.loc4Of i 0).val = (i 0).val % 1024 := rfl
  have e1 : (Value.loc4Of i 1).val = (i 1).val % 1024 := rfl
  omega

theorem sum_at (i : S4096x4096.Idx) : ((outsAt0 m c (Value.pt4Of i) (last_lt i)).1 (Value.loc4Of i) : EReal) = prod (X m c) (Y m c) i := by
  refine (out_sum (J := 4) (fun n h => (outsAt0 m c n h).2.2 (Value.loc4Of i))
    (fun n h => (outsAt0 m c n h).1 (Value.loc4Of i)) (term m c (Value.loc4Of i 0).val (Value.loc4Of i 1).val) (by decide)
    (fun n h h0 => stepA m c ⟨n, h⟩ h0 _) (fun n h h0 h1 => stepB m c n h h0 h1 _) (fun n h h0 => stepC m c n h h0 _)
    (Value.run4Of i) (last_lt i)).trans ?_
  rw [prod]
  refine Finset.sum_congr rfl fun s hs => Finset.sum_congr rfl fun k hk => ?_
  obtain ⟨e0, e1, e2, -⟩ := coords i s (Finset.mem_range.1 hs)
  rw [e0, e1, e2]

/-- The kernel's arrays hold them. -/
theorem final4 : (Value.G4 m c : S4096x4096.Idx → EReal) = prod (X m c) (Y m c) := by
  funext i
  unfold Value.G4
  rw [dif_pos (last_lt i), ← Value.outsAt0_sweep m c _ (last_lt i)]
  exact sum_at m c i

theorem final5 : (Value.G5 m c : S4096x4096.Idx → EReal) = next (X m c) (Y m c) (R m c) (G m c) := by
  funext i
  obtain ⟨-, e1, e2, e3⟩ := coords i 3 (by decide)
  have h : Value.pt5Of i < cfg0.N := last_lt i
  unfold Value.G5
  rw [dif_pos h, ← Value.outsAt0_sweep m c _ h]
  refine (stepC' m c (4 * Value.run4Of i + 2) (last_lt i) (by omega) (Value.loc4Of i)).trans ?_
  refine congrArg₂ (· + ·) ((rb_eq m c ⟨4 * Value.run4Of i + 3, last_lt i⟩ _ _).trans ?_)
    (congrArg₂ (· * ·) ((gb_eq m c ⟨4 * Value.run4Of i + 3, last_lt i⟩ _).trans ?_) (sum_at m c i))
  · show at2 (R m c) (1024 * ((4 * Value.run4Of i + 3) / 16) + (Value.loc4Of i 0).val)
      (1024 * ((4 * Value.run4Of i + 3) / 4 % 4) + (Value.loc4Of i 1).val) = _
    rw [e1, e2]
  · show at3 (G m c) ((4 * Value.run4Of i + 3) / 32) 0 (1024 * ((4 * Value.run4Of i + 3) / 4 % 4) + (Value.loc4Of i 1).val) = _
    rw [e3, e2]

end Cert.DownIdeal.Product

namespace Cert.RefDownIdeal.Product
open Cert Cert.RefDownIdeal Cert.RefDownIdeal.Gen Cert.Mul

/-- The reference's arrays hold them too. -/
theorem value0 (x : FVec Ideal S4x4096x2752 .bf16) (y : FVec Ideal S4x2752x4096 .bf16) :
(Host.dotGeneral (F := Ideal) dot_S4096x11008_S11008x4096_S4096x4096_1_0_0_1_n_n none (shapeCast _ (transpose S4096x4x2752 [1, 0, 2] (extf .f32 x bitsLt_bf16_f32) transposes_S4x4096x2752_S4096x4x2752_1_0_2) shapeCasts_S4096x4x2752_S4096x11008) (shapeCast _ (extf .f32 y bitsLt_bf16_f32) shapeCasts_S4x2752x4096_S11008x4096) :
    FVec Ideal S4096x4096 .f32) = Cert.DownIdeal.Product.prod x y := by
  funext i
  pointwise
  rw [Cert.DownIdeal.Product.prod, sum_blocks_div 4 2752, Finset.sum_range]
  exact Finset.sum_congr rfl fun k _ => congrArg₂ (· * ·) (at3_of x _ rfl rfl rfl) (at3_of y _ rfl rfl rfl)
theorem value1 (x : FVec Ideal S4x4096x2752 .bf16) (y : FVec Ideal S4x2752x4096 .bf16) (r : FVec Ideal S4096x4096 .f32) (g : FVec Ideal S2x1x4096 .f32) :
(shapeCast _ (addf (shapeCast _ r shapeCasts_S4096x4096_S2x2048x4096) (mulf (broadcastInDim S2x2048x4096 ![0, 1, 2] bcast_S2x1x4096_S2x2048x4096_0_1_2 g) (shapeCast _ (Host.dotGeneral (F := Ideal) dot_S4096x11008_S11008x4096_S4096x4096_1_0_0_1_n_n none (shapeCast _ (transpose S4096x4x2752 [1, 0, 2] (extf .f32 x bitsLt_bf16_f32) transposes_S4x4096x2752_S4096x4x2752_1_0_2) shapeCasts_S4096x4x2752_S4096x11008) (shapeCast _ (extf .f32 y bitsLt_bf16_f32) shapeCasts_S4x2752x4096_S11008x4096)) shapeCasts_S4096x4096_S2x2048x4096))) shapeCasts_S2x2048x4096_S4096x4096 :
    FVec Ideal S4096x4096 .f32) = Cert.DownIdeal.Product.next x y r g := by
  rw [value0]
  funext i
  pointwise
  exact congrArg₂ (· + ·) (at2_of r i rfl rfl) (congrArg (· * _) (at3_of g _ rfl rfl rfl))

/-- It leaves its arguments, and has no semaphore. -/
theorem frame : quiescent_RefDownIdeal (hRefDownIdeal := facts) := fun m g _ =>
  (θ_run defs _ _).mono (fun r h => ⟨fun c => (h c).2.2, sem_eq_zero_of_no_sems (by decide) r.2⟩) (Value.run m g)

end Cert.RefDownIdeal.Product

/-- The two runs end with the same arrays. -/
theorem Cert.DownIdeal.Product.claim :
Cert.algebraic_DownIdeal_RefDownIdeal (hDownIdeal := Cert.DownIdeal.Gen.facts) (hRefDownIdeal := Cert.RefDownIdeal.Gen.facts) :=
  fun m g m' g' _ e => ⟨fun c => prod (X m c) (Y m c), fun c => next (X m c) (Y m c) (R m c) (G m c),
(θ_run Cert.DownIdeal.defs _ _).mono (fun _ h c => ⟨(h c).1.trans (final4 m c), (h c).2.1.trans (final5 m c), (h c).2.2⟩)
  (Cert.DownIdeal.Value.run m g),
(θ_run Cert.RefDownIdeal.defs _ _).mono (fun _ h c => ⟨(h c).1.trans
    ((Cert.RefDownIdeal.Product.value0 _ _).trans (congrArg₂ prod (e c).1 (e c).2.1)),
  (h c).2.1.trans ((Cert.RefDownIdeal.Product.value1 _ _ _ _).trans (by rw [(e c).1, (e c).2.1, (e c).2.2.1, (e c).2.2.2]; rfl)), (h c).2.2⟩)
  (Cert.RefDownIdeal.Value.run m' g')⟩
-- ==== Proof.Mul.Out.lean ====
/- The output projection with its residual: the product of the gated input with the weight, and the residual plus the gate times it; each block of the
   two results is formed at once. -/
module

public import proofs.«01_k».proof.Defs
public import proofs.«01_k».proof.Proof.Mul.Blocks
public import proofs.«01_k».proof.Proof.Gen.OutIdeal.Value
public import proofs.«01_k».proof.Proof.Gen.RefOutIdeal.Run
public import Idealize.ShloMosaic.Lib.Pipeline.ValueKit.Acc
public import Idealize.ShloMosaic.Lib.Pointwise

public section
open Idealize.ShloMosaic Idealize.ShloMosaic.Ideal
set_option maxRecDepth 16384
noncomputable section

namespace Cert.OutIdeal.Product
open Cert.OutIdeal Cert.OutIdeal.Gen Cert.Mul Idealize.ShloMosaic.TcCoe

variable (m : (ℓ : Loc nD τ sig) → Buf (Elt Ideal) ℓ) (c : Dev nD)

/-- The two factors, the residual and the gate, on a core. -/
@[expose] def X : S4096x4096.Idx → EReal := m ((c : Thread nD τ).loc main_arg0)
@[expose] def Y : S4096x4096.Idx → EReal := m ((c : Thread nD τ).loc main_arg1)
@[expose] def R : S4096x4096.Idx → EReal := m ((c : Thread nD τ).loc main_arg2)
@[expose] def G : S2x1x4096.Idx → EReal := m ((c : Thread nD τ).loc main_arg3)

/-- The blocks of the arguments and of the results at a point. -/
theorem idx0 : ∀ t : Fin cfg0.N, win0_0.index t = ![t.val / 4, 0] :=
  (by decide +kernel : ∀ t : Fin grid0.N, win0_0.index t = ![t.val / 4, 0])
theorem idx1 : ∀ t : Fin cfg0.N, win0_1.index t = ![0, t.val % 4] :=
  (by decide +kernel : ∀ t : Fin grid0.N, win0_1.index t = ![0, t.val % 4])
theorem idx2 : ∀ t : Fin cfg0.N, win0_2.index t = ![t.val / 4, t.val % 4] :=
  (by decide +kernel : ∀ t : Fin grid0.N, win0_2.index t = ![t.val / 4, t.val % 4])
theorem idx3 : ∀ t : Fin cfg0.N, win0_3.index t = ![t.val / 16, 0, t.val % 4] :=
  (by decide +kernel : ∀ t : Fin grid0.N, win0_3.index t = ![t.val / 16, 0, t.val % 4])
theorem idx4 : ∀ t : Fin cfg0.N, win0_4.index t = ![t.val / 4, t.val % 4] :=
  (by decide +kernel : ∀ t : Fin grid0.N, win0_4.index t = ![t.val / 4, t.val % 4])
theorem idx5 : ∀ t : Fin cfg0.N, win0_5.index t = ![t.val / 4, t.val % 4] :=
  (by decide +kernel : ∀ t : Fin grid0.N, win0_5.index t = ![t.val / 4, t.val % 4])
theorem flush4 : ∀ t : Fin cfg0.N, (cfg0.win 4).flush t = true := (by decide +kernel : ∀ t : Fin grid0.N, win0_4.flush t = true)
theorem flush5 : ∀ t : Fin cfg0.N, (cfg0.win 5).flush t = true := (by decide +kernel : ∀ t : Fin grid0.N, win0_5.flush t = true)

@[expose] def xb (t : Fin cfg0.N) : S512x4096.Idx → EReal := iblk m c 0 t
@[expose] def yb (t : Fin cfg0.N) : S4096x1024.Idx → EReal := iblk m c 1 t
@[expose] def rb (t : Fin cfg0.N) : S512x1024.Idx → EReal := iblk m c 2 t
@[expose] def gb (t : Fin cfg0.N) : S1x1x1024.Idx → EReal := iblk m c 3 t

/-- The product of a point's blocks, at row `p` and column `q`, in the arguments; -/
theorem term_eq (t : Fin cfg0.N) (p : Fin 512) (q : Fin 1024) :
    (∑ k : Fin 4096, xb m c t (ix2 p k) * yb m c t (ix2 k q))
      = ∑ k ∈ Finset.range 4096, at2 (X m c) (512 * (t.val / 4) + p.val) k * at2 (Y m c) k (1024 * (t.val % 4) + q.val) := by
  have a0 : win0_0.index t 0 = t.val / 4 := congrFun (idx0 t) 0
  have a1 : win0_0.index t 1 = 0 := congrFun (idx0 t) 1
  have b0 : win0_1.index t 0 = 0 := congrFun (idx1 t) 0
  have b1 : win0_1.index t 1 = t.val % 4 := congrFun (idx1 t) 1
  rw [Finset.sum_range]
  refine Finset.sum_congr rfl fun k _ => congrArg₂ (· * ·) ?_ ?_
  · refine (congrFun (V_main_arg0 m c) ((win0_0.rect t).emb (ix2 p k))).trans (at2_of (X m c) _ ?_ ?_)
    · show win0_0.index t 0 * 512 + 1 * p.val = _; omega
    · show win0_0.index t 1 * 4096 + 1 * k.val = _; omega
  · refine (congrFun (V_main_arg1 m c) ((win0_1.rect t).emb (ix2 k q))).trans (at2_of (Y m c) _ ?_ ?_)
    · show win0_1.index t 0 * 4096 + 1 * k.val = _; omega
    · show win0_1.index t 1 * 1024 + 1 * q.val = _; omega

/-- its block of the residual, -/
theorem rb_eq (t : Fin cfg0.N) (p : Fin 512) (q : Fin 1024) :
    rb m c t (ix2 p q) = at2 (R m c) (512 * (t.val / 4) + p.val) (1024 * (t.val % 4) + q.val) := by
  have a0 : win0_2.index t 0 = t.val / 4 := congrFun (idx2 t) 0
  have a1 : win0_2.index t 1 = t.val % 4 := congrFun (idx2 t) 1
  refine (congrFun (V_main_arg2 m c) ((win0_2.rect t).emb (ix2 p q))).trans (at2_of (R m c) _ ?_ ?_)
  · show win0_2.index t 0 * 512 + 1 * p.val = _; omega
  · show win0_2.index t 1 * 1024 + 1 * q.val = _; omega

/-- and of the gate. -/
theorem gb_eq (t : Fin cfg0.N) (q : Fin 1024) : gb m c t (ix3 0 0 q) = at3 (G m c) (t.val / 16) 0 (1024 * (t.val % 4) + q.val) := by
  have a0 : win0_3.index t 0 = t.val / 16 := congrFun (idx3 t) 0
  have a1 : win0_3.index t 1 = 0 := congrFun (idx3 t) 1
  have a2 : win0_3.index t 2 = t.val % 4 := congrFun (idx3 t) 2
  refine (congrFun (V_main_arg3 m c) ((win0_3.rect t).emb (ix3 0 0 q))).trans (at3_of (G m c) _ ?_ ?_ ?_)
  · show win0_3.index t 0 * 1 + 1 * 0 = _; omega
  · show win0_3.index t 1 * 1 + 1 * 0 = _; omega
  · show win0_3.index t 2 * 1024 + 1 * q.val = _; omega

/-- The product: the sum over the features; -/
@[expose] def prod (x y : S4096x4096.Idx → EReal) : S4096x4096.Idx → EReal := fun i =>
  ∑ k ∈ Finset.range 4096, at2 x (i 0).val k * at2 y k (i 1).val
/-- and the residual plus the gate of the row's sequence times it. -/
@[expose] def next (x y r : S4096x4096.Idx → EReal) (g : S2x1x4096.Idx → EReal) : S4096x4096.Idx → EReal := fun i =>
  at2 r (i 0).val (i 1).val + at3 g ((i 0).val / 2048) 0 (i 1).val * prod x y i

/-- What a point writes to the two results. -/
theorem body4 (x : FVec Ideal S512x4096 .bf16) (y : FVec Ideal S4096x1024 .bf16) (r : FVec Ideal S512x1024 .f32) (g : FVec Ideal S1x1x1024 .f32)
    (j : S512x1024.Idx) : (out0_4 (F := Ideal) x y r g j : EReal) = ∑ k : Fin 4096, x (ix2 (j 0) k) * y (ix2 k (j 1)) := by
  have e : out0_4 (F := Ideal) x y r g = k0_pay1 (F := Ideal) x y := by
    unfold out0_4
    frame_out
  refine (congrFun e j).trans ?_
  unfold k0_pay1
  pointwise
theorem body5 (x : FVec Ideal S512x4096 .bf16) (y : FVec Ideal S4096x1024 .bf16) (r : FVec Ideal S512x1024 .f32) (g : FVec Ideal S1x1x1024 .f32)
    (j : S512x1024.Idx) : (out0_5 (F := Ideal) x y r g j : EReal)
      = r (ix2 (j 0) (j 1)) + g (ix3 0 0 (j 1)) * ∑ k : Fin 4096, x (ix2 (j 0) k) * y (ix2 k (j 1)) := by
  have e : out0_5 (F := Ideal) x y r g = k0_pay2 (F := Ideal) x y r g := by
    unfold out0_5
    frame_out
  refine (congrFun e j).trans ?_
  unfold k0_pay2 k0_pay1
  pointwise

/-- The point that writes an index of the results, and where in its block. -/
@[expose] def pt (i : S4096x4096.Idx) : Fin cfg0.N := ⟨4 * ((i 0).val / 512) + (i 1).val / 1024, by
  have i0 : (i 0).val < 4096 := (i 0).isLt
  have i1 : (i 1).val < 4096 := (i 1).isLt
  show _ < grid0.N; rw [N_0]; omega⟩
@[expose] def loc (i : S4096x4096.Idx) : S512x1024.Idx := ix2 ⟨(i 0).val % 512, Nat.mod_lt _ (by decide)⟩ ⟨(i 1).val % 1024, Nat.mod_lt _ (by decide)⟩

theorem coords (i : S4096x4096.Idx) : 512 * ((pt i).val / 4) + (loc i 0).val = (i 0).val ∧ 1024 * ((pt i).val % 4) + (loc i 1).val = (i 1).val
    ∧ (pt i).val / 16 = (i 0).val / 2048 := by
  have i0 : (i 0).val < 4096 := (i 0).isLt
  have i1 : (i 1).val < 4096 := (i 1).isLt
  have e0 : (pt i).val = 4 * ((i 0).val / 512) + (i 1).val / 1024 := rfl
  have e1 : (loc i 0).val = (i 0).val % 512 := rfl
  have e2 : (loc i 1).val = (i 1).val % 1024 := rfl
  omega

/-- The kernel's arrays hold them. -/
theorem final4 : ((dats m 0 c).arrAt 4 cfg0.N : S4096x4096.Idx → EReal) = prod (X m c) (Y m c) := by
  funext i
  obtain ⟨e0, e1, -⟩ := coords i
  have h0 : win0_4.index (pt i) 0 = (pt i).val / 4 := congrFun (idx4 (pt i)) 0
  have h1 : win0_4.index (pt i) 1 = (pt i).val % 4 := congrFun (idx4 (pt i)) 1
  have e : i = (win0_4.rect (pt i)).emb (loc i) := funext fun a => match a with
    | ⟨0, _⟩ => Fin.ext (by show (i 0).val = win0_4.index (pt i) 0 * 512 + 1 * (loc i 0).val; omega)
    | ⟨1, _⟩ => Fin.ext (by show (i 1).val = win0_4.index (pt i) 1 * 1024 + 1 * (loc i 1).val; omega)
  refine (congrArg ((dats m 0 c).arrAt 4 cfg0.N) e).trans ((congrFun (Value.blocks4 m c (pt i) (flush4 _)) (loc i)).trans ?_)
  rw [Value.flushed4]
  refine (body4 (xb m c (pt i)) (yb m c (pt i)) (rb m c (pt i)) (gb m c (pt i)) (loc i)).trans ((term_eq m c (pt i) (loc i 0) (loc i 1)).trans ?_)
  rw [e0, e1]
  rfl

theorem final5 : ((dats m 0 c).arrAt 5 cfg0.N : S4096x4096.Idx → EReal) = next (X m c) (Y m c) (R m c) (G m c) := by
  funext i
  obtain ⟨e0, e1, e2⟩ := coords i
  have h0 : win0_5.index (pt i) 0 = (pt i).val / 4 := congrFun (idx5 (pt i)) 0
  have h1 : win0_5.index (pt i) 1 = (pt i).val % 4 := congrFun (idx5 (pt i)) 1
  have e : i = (win0_5.rect (pt i)).emb (loc i) := funext fun a => match a with
    | ⟨0, _⟩ => Fin.ext (by show (i 0).val = win0_5.index (pt i) 0 * 512 + 1 * (loc i 0).val; omega)
    | ⟨1, _⟩ => Fin.ext (by show (i 1).val = win0_5.index (pt i) 1 * 1024 + 1 * (loc i 1).val; omega)
  refine (congrArg ((dats m 0 c).arrAt 5 cfg0.N) e).trans ((congrFun (Value.blocks5 m c (pt i) (flush5 _)) (loc i)).trans ?_)
  rw [Value.flushed5]
  refine (body5 (xb m c (pt i)) (yb m c (pt i)) (rb m c (pt i)) (gb m c (pt i)) (loc i)).trans ?_
  rw [term_eq m c (pt i) (loc i 0) (loc i 1), rb_eq m c (pt i) (loc i 0) (loc i 1), gb_eq m c (pt i) (loc i 1), e0, e1, e2]
  rfl

end Cert.OutIdeal.Product

namespace Cert.RefOutIdeal.Product
open Cert Cert.RefOutIdeal Cert.RefOutIdeal.Gen Cert.Mul

/-- The reference's arrays hold them too. -/
theorem value0 (x : FVec Ideal S4096x4096 .bf16) (y : FVec Ideal S4096x4096 .bf16) :
    (Host.dotGeneral (F := Ideal) dot_S4096x4096_S4096x4096_S4096x4096_1_0_0_1_n_n none (extf .f32 x bitsLt_bf16_f32) (extf .f32 y bitsLt_bf16_f32) :
        FVec Ideal S4096x4096 .f32) = Cert.OutIdeal.Product.prod x y := by
  funext i
  pointwise
  rw [Cert.OutIdeal.Product.prod, Finset.sum_range]
  exact Finset.sum_congr rfl fun k _ => congrArg₂ (· * ·) (at2_of x _ rfl rfl) (at2_of y _ rfl rfl)
theorem value1 (x : FVec Ideal S4096x4096 .bf16) (y : FVec Ideal S4096x4096 .bf16) (r : FVec Ideal S4096x4096 .f32) (g : FVec Ideal S2x1x4096 .f32) :
    (shapeCast _ (addf (shapeCast _ r shapeCasts_S4096x4096_S2x2048x4096) (mulf (broadcastInDim S2x2048x4096 ![0, 1, 2] bcast_S2x1x4096_S2x2048x4096_0_1_2 g) (shapeCast _ (Host.dotGeneral (F := Ideal) dot_S4096x4096_S4096x4096_S4096x4096_1_0_0_1_n_n none (extf .f32 x bitsLt_bf16_f32) (extf .f32 y bitsLt_bf16_f32)) shapeCasts_S4096x4096_S2x2048x4096))) shapeCasts_S2x2048x4096_S4096x4096 :
        FVec Ideal S4096x4096 .f32) = Cert.OutIdeal.Product.next x y r g := by
  rw [value0]
  funext i
  pointwise
  exact congrArg₂ (· + ·) (at2_of r i rfl rfl) (congrArg (· * _) (at3_of g _ rfl rfl rfl))

/-- It leaves its arguments, and has no semaphore. -/
theorem frame : quiescent_RefOutIdeal (hRefOutIdeal := facts) := fun m g _ =>
  (θ_run defs _ _).mono (fun r h => ⟨fun c => (h c).2.2, sem_eq_zero_of_no_sems (by decide) r.2⟩) (Value.run m g)

end Cert.RefOutIdeal.Product

/-- The two runs end with the same arrays. -/
theorem Cert.OutIdeal.Product.claim :
    Cert.algebraic_OutIdeal_RefOutIdeal (hOutIdeal := Cert.OutIdeal.Gen.facts) (hRefOutIdeal := Cert.RefOutIdeal.Gen.facts) :=
  fun m g m' g' _ e => ⟨fun c => prod (X m c) (Y m c), fun c => next (X m c) (Y m c) (R m c) (G m c),
    (θ_run Cert.OutIdeal.defs _ _).mono (fun _ h c => ⟨(h c).1.trans (final4 m c), (h c).2.1.trans (final5 m c), (h c).2.2⟩)
      (Cert.OutIdeal.Value.run_blocks m g),
    (θ_run Cert.RefOutIdeal.defs _ _).mono (fun _ h c => ⟨(h c).1.trans
        ((Cert.RefOutIdeal.Product.value0 _ _).trans (congrArg₂ prod (e c).1 (e c).2.1)),
      (h c).2.1.trans ((Cert.RefOutIdeal.Product.value1 _ _ _ _).trans (by rw [(e c).1, (e c).2.1, (e c).2.2.1, (e c).2.2.2]; rfl)), (h c).2.2⟩)
      (Cert.RefOutIdeal.Value.run m' g')⟩
-- ==== Proof.Mul.Staged.lean ====
/- What the staged products share.  A staged product computes the groups of columns that a table lists, one group per point of an
   axis of its grid: the groups' numbers are words, each in range where the precondition holds, and a block of the result is written
   back at its last visit. -/
module

public import proofs.«01_k».proof.Proof.Mul.Blocks
public import Idealize.ShloMosaic.Lib.Pipeline.Cells

public section
open Idealize.ShloMosaic Idealize.ShloMosaic.Ideal Idealize.ShloMosaic.ValueIdx
set_option maxRecDepth 16384
noncomputable section

namespace Cert.Mul

/-- The number in a table's entry, zero outside. -/
@[expose] def grp {n : ℕ} (s : (⟨1, ![n]⟩ : Shape).Idx → BitVec 32) (j : ℕ) : ℕ :=
  if h : j < n then (s (ix1 ⟨j, h⟩)).toNat else 0

/-- An entry read at an index is the number at the index's coordinate. -/
theorem grp_of {n : ℕ} (s : (⟨1, ![n]⟩ : Shape).Idx → BitVec 32) (x : (⟨1, ![n]⟩ : Shape).Idx) {j : ℕ} (h : (x 0).val = j) :
    (s x).toNat = grp s j := by
  have l : j < n := h ▸ (x 0).isLt
  rw [grp, dif_pos l]
  exact congrArg (fun i => (s i).toNat) (funext fun a => match a with | ⟨0, _⟩ => Fin.ext h)

/-- A group that one of a table's `n` entries lists. -/
abbrev listed {n : ℕ} (s : (⟨1, ![n]⟩ : Shape).Idx → BitVec 32) (g : ℕ) : Prop := ∃ j, j < n ∧ grp s j = g

/-- Entries below eight give groups below eight. -/
theorem grp_lt {n : ℕ} {s : (⟨1, ![n]⟩ : Shape).Idx → BitVec 32} (h : ∀ x, (s x).toNat < 8) (j : ℕ) : grp s j < 8 := by
  unfold grp
  split
  · exact h _
  · decide

/-- A word between zero and eight, as signed numbers, is a number below eight. -/
theorem toNat_lt_of_range (x : BitVec 32) (h : IntOp.andi (IntOp.cmpi .sge x 0#32) (IntOp.cmpi .slt x 8#32) = 1#1) : x.toNat < 8 := by
  have h : BitVec.ofBool ((0#32).sle x) &&& BitVec.ofBool (x.slt 8#32) = 1#1 := h
  cases ha : (0#32).sle x
  · rw [ha] at h; cases hb : x.slt 8#32 <;> rw [hb] at h <;> exact absurd h (by decide)
  · cases hb : x.slt 8#32
    · rw [ha, hb] at h; exact absurd h (by decide)
    · rw [BitVec.sle_iff_toInt_le] at ha
      rw [BitVec.slt_iff_toInt_lt] at hb
      have e0 : (0#32 : BitVec 32).toInt = 0 := by decide
      have e8 : (8#32 : BitVec 32).toInt = 8 := by decide
      rw [e0] at ha
      rw [e8] at hb
      have hx := x.isLt
      rw [BitVec.toInt_eq_toNat_cond] at ha hb
      split at ha <;> omega

/-- A flag says that a group's number is a word's number, -/
theorem eq_flag (g : ℕ) (hg : g < 8) (x : BitVec 32) : IntOp.cmpi .eq (BitVec.ofNat 32 g) x = 1#1 ↔ x.toNat = g := by
  show BitVec.ofBool (BitVec.ofNat 32 g == x) = 1#1 ↔ _
  have e : (BitVec.ofNat 32 g).toNat = g := by rw [BitVec.toNat_ofNat]; exact Nat.mod_eq_of_lt (by omega)
  constructor
  · intro h
    by_contra hn
    have : (BitVec.ofNat 32 g == x) = false := beq_false_of_ne fun hx => hn (by rw [← hx, e])
    rw [this] at h
    exact absurd h (by decide)
  · intro h
    have : BitVec.ofNat 32 g = x := BitVec.eq_of_toNat_eq (e.trans h.symm)
    rw [this, beq_self_eq_true]
    rfl

/-- and two flags together say that one of them holds. -/
theorem or_flag (a b : BitVec 1) : IntOp.ori a b = 1#1 ↔ a = 1#1 ∨ b = 1#1 := by
  revert a b; decide

/-- Two entries' flags together say that a group is listed, -/
theorem flags2 (s : (⟨1, ![2]⟩ : Shape).Idx → BitVec 32) {g : ℕ} (hg : g < 8) :
    IntOp.ori (IntOp.cmpi .eq (BitVec.ofNat 32 g) (s (ix1 0))) (IntOp.cmpi .eq (BitVec.ofNat 32 g) (s (ix1 1))) = 1#1 ↔ listed s g := by
  rw [or_flag, eq_flag g hg, eq_flag g hg, grp_of s (ix1 0) (j := 0) rfl, grp_of s (ix1 1) (j := 1) rfl]
  constructor
  · rintro (h | h) <;> exact ⟨_, by decide, h⟩
  · rintro ⟨j, hj, h⟩
    obtain rfl | rfl : j = 0 ∨ j = 1 := by omega
    exacts [.inl h, .inr h]

/-- and so do three. -/
theorem flags3 (s : (⟨1, ![3]⟩ : Shape).Idx → BitVec 32) {g : ℕ} (hg : g < 8) :
    IntOp.ori (IntOp.ori (IntOp.cmpi .eq (BitVec.ofNat 32 g) (s (ix1 0))) (IntOp.cmpi .eq (BitVec.ofNat 32 g) (s (ix1 1))))
      (IntOp.cmpi .eq (BitVec.ofNat 32 g) (s (ix1 2))) = 1#1 ↔ listed s g := by
  rw [or_flag, or_flag, eq_flag g hg, eq_flag g hg, eq_flag g hg, grp_of s (ix1 0) (j := 0) rfl, grp_of s (ix1 1) (j := 1) rfl,
    grp_of s (ix1 2) (j := 2) rfl]
  constructor
  · rintro ((h | h) | h) <;> exact ⟨_, by decide, h⟩
  · rintro ⟨j, hj, h⟩
    obtain rfl | rfl | rfl : j = 0 ∨ j = 1 ∨ j = 2 := by omega
    exacts [.inl (.inl h), .inl (.inr h), .inr h]

/-- A block of an output is written back after its last visit. -/
theorem exists_flush {sig : RefSig} {G : Pipeline.Grid} (w : Pipeline.Window sig G) (ho : w.isOut = true) (n : ℕ) :
    ∀ t : Fin G.N, G.N - t.val = n → ∃ u, w.flush u = true ∧ w.index u = w.index t := by
  induction n with
  | zero => intro t h; have := t.isLt; omega
  | succ n ih =>
    intro t h
    by_cases hf : w.flush t = true
    · exact ⟨t, hf, rfl⟩
    · rw [w.flush_out ho, not_or] at hf
      have hl : t.val + 1 < G.N := by have := t.isLt; omega
      have e : w.index ⟨t.val + 1, hl⟩ = w.index t := by_contra fun e => hf.2 ⟨hl, e⟩
      obtain ⟨u, hu, eu⟩ := ih ⟨t.val + 1, hl⟩ (by show G.N - (t.val + 1) = n; omega)
      exact ⟨u, hu, eu.trans e⟩

end Cert.Mul
-- ==== Proof.Mul.ProjNear.lean ====
/- The input projection's first stage: the product of the block's normed input with the two groups of the weight's columns that the
   table lists; of the result's other columns nothing is said. -/
module

public import proofs.«01_k».proof.Defs
public import proofs.«01_k».proof.Proof.Mul.Staged
public import proofs.«01_k».proof.Proof.Gen.ProjNearIdeal.Frame
public import proofs.«01_k».proof.Proof.Gen.ProjNear.Frame
public import proofs.«01_k».proof.Proof.Gen.RefProjNearIdeal.Run
public import Idealize.ShloMosaic.Lib.Affine
public import Idealize.ShloMosaic.Lib.Pipeline.ValueKit.Acc
public import Idealize.ShloMosaic.Lib.Pipeline.ValueKit.Geometry
public import Idealize.ShloMosaic.Lib.Pointwise

public section
open Idealize.ShloMosaic Idealize.ShloMosaic.Ideal
set_option maxRecDepth 16384
noncomputable section

namespace Cert.ProjNearIdeal.Product
open Cert.ProjNearIdeal Cert.ProjNearIdeal.Gen Cert.Mul Idealize.ShloMosaic.TcCoe

section Tables
variable {F : FTy → Type} [FloatOps F]

/-- The table's place that a point reads. -/
theorem place : ∀ j : Fin 2, (Scalar.indexCast (BitVec.ofNat 32 j.val) : Index).toNat = j.val := by decide

/-- The blocks of the weight and of the result, by the group that the table lists. -/
theorem ix1_eq (pf : pre0.Contents (Elt F)) (i : grid0.Coords) :
    cc0_transform_1 k0_off1_inb numel1_S1 pf i = ![grp (pf 0 : S2.Idx → BitVec 32) (i 1).val, 0, 0] := by
  have e : (pf.at 0 (Rect.unit (s := S2) ![(Scalar.indexCast (BitVec.ofNat 32 (i 1).val) : Index).toNat] S1.size (k0_off1_inb i)) numel1_S1 : BitVec 32).toNat
      = grp (pf 0 : S2.Idx → BitVec 32) (i 1).val := grp_of (pf 0 : S2.Idx → BitVec 32) _ (place (i 1))
  show ![_, _, _] = _
  rw [← e]
  rfl
theorem ix2_eq (pf : pre0.Contents (Elt F)) (i : grid0.Coords) :
    cc0_transform_2 k0_off1_inb numel1_S1 pf i = ![(i 0).val, grp (pf 0 : S2.Idx → BitVec 32) (i 1).val] := by
  have e : (pf.at 0 (Rect.unit (s := S2) ![(Scalar.indexCast (BitVec.ofNat 32 (i 1).val) : Index).toNat] S1.size (k0_off1_inb i)) numel1_S1 : BitVec 32).toNat
      = grp (pf 0 : S2.Idx → BitVec 32) (i 1).val := grp_of (pf 0 : S2.Idx → BitVec 32) _ (place (i 1))
  have e0 : (BitVec.ofNat 32 (i 0).val).toNat = (i 0).val := by
    have : (i 0).val < 8 := (i 0).isLt
    rw [BitVec.toNat_ofNat]; exact Nat.mod_eq_of_lt (by omega)
  exact congrArg₂ (fun a b => ![a, b]) e0 e

/-- A table in range is admissible. -/
theorem ok_of (pf : pre0.Contents (Elt F)) (h : ∀ x, (pf 0 x : BitVec 32).toNat < 8) : ok0 pf := by
  have hg : ∀ j, grp (pf 0 : S2.Idx → BitVec 32) j < 8 := grp_lt h
  refine ⟨fun i => ⟨?_, .inr ?_⟩, fun i => ⟨?_, .inr ?_⟩⟩
  · rw [ix1_eq]
    have := hg (i 1).val
    intro a
    match a with
    | ⟨0, _⟩ => show (grp _ _ + 1) * 1 ≤ 8; omega
    | ⟨1, _⟩ => show (0 + 1) * 4096 ≤ 4096; omega
    | ⟨2, _⟩ => show (0 + 1) * 1024 ≤ 1024; omega
  · exact Affine.words_rows (by decide) (by rw [ix1_eq]; rfl) rfl
  · rw [ix2_eq]
    have := hg (i 1).val
    have h0 : (i 0).val < 8 := (i 0).isLt
    intro a
    match a with
    | ⟨0, _⟩ => show ((i 0).val + 1) * 512 ≤ 4096; omega
    | ⟨1, _⟩ => show (grp _ _ + 1) * 1024 ≤ 8192; omega
  · exact Affine.words_of_packed (Affine.packed_dvd (by decide) (by rw [ix2_eq]; exact Dvd.intro_left _ (Nat.mul_assoc (i 0).val 256 2)) (by decide))

/-- The precondition's side conditions. -/
theorem preFacts : Cert.Pre_proj_near_ids.Facts := ⟨by decide⟩

/-- Its tables are in range. -/
theorem ok_of_pre (m : (ℓ : Loc nD τ sig) → Buf (Elt F) ℓ)
    (h : ∀ c : Dev nD, @Cert.Pre_proj_near_ids.fn preFacts F _ (m ((c.tc : Thread nD τ).loc main_arg0)) (m ((c.tc : Thread nD τ).loc main_arg1))
      (m ((c.tc : Thread nD τ).loc main_arg2)) = fun _ => 1#1) : Ok m :=
  ok_of (tbl m) fun x => (congrArg BitVec.toNat (congrFun (V_main_arg2 m 0) x)).trans_lt (toNat_lt_of_range _ (congrFun (h 0) x))

end Tables

variable (m : (ℓ : Loc nD τ sig) → Buf (Elt Ideal) ℓ) (hO : Ok m) (c : Dev nD)

/-- The arguments, on a core. -/
@[expose] def X : S4096x4096.Idx → EReal := m ((c : Thread nD τ).loc main_arg0)
@[expose] def Y : S8x4096x1024.Idx → EReal := m ((c : Thread nD τ).loc main_arg1)
@[expose] def ids : S2.Idx → BitVec 32 := m ((c : Thread nD τ).loc main_arg2)

/-- The table that the region reads is the third argument. -/
theorem tbl_eq : (tbl m 0 : S2.Idx → BitVec 32) = ids m c := by
  obtain rfl : c = 0 := Subsingleton.elim _ _
  exact V_main_arg2 m 0

/-- The blocks at a point. -/
theorem row (t : Fin grid0.N) : (grid0.coords t 0).val = t.val / 2 := by
  have e : (grid0.coords t 0).val = t.val / 2 % 8 := Pipeline.Grid.coords_val t 0 (by decide) rfl
  have : t.val < 16 := lt_of_lt_of_eq t.isLt N_0
  omega
theorem entryOf (t : Fin grid0.N) : (grid0.coords t 1).val = t.val % 2 := by
  have e : (grid0.coords t 1).val = t.val / 1 % 2 := Pipeline.Grid.coords_val t 1 (by decide) rfl
  omega
abbrev w0 (t : Fin (cfgM m hO).N) : Fin 2 → ℕ := ((cfgM m hO).win 0).index t
abbrev w1 (t : Fin (cfgM m hO).N) : Fin 3 → ℕ := ((cfgM m hO).win 1).index t
abbrev w2 (t : Fin (cfgM m hO).N) : Fin 2 → ℕ := ((cfgM m hO).win 2).index t
theorem idx0 : ∀ t : Fin (cfgM m hO).N, w0 m hO t = ![t.val / 2, 0] :=
  (by decide +kernel : ∀ t : Fin grid0.N, cc0_transform_0 (grid0.coords t) = ![t.val / 2, 0])
theorem idx1 (t : Fin (cfgM m hO).N) : w1 m hO t = ![grp (ids m c) (t.val % 2), 0, 0] := by
  rw [← tbl_eq, ← entryOf t]; exact ix1_eq (tbl m) _
theorem idx2 (t : Fin (cfgM m hO).N) : w2 m hO t = ![t.val / 2, grp (ids m c) (t.val % 2)] := by
  rw [← tbl_eq, ← row t, ← entryOf t]; exact ix2_eq (tbl m) _

@[expose] def xb (t : Fin (cfgM m hO).N) : S512x4096.Idx → EReal := iblk m hO c 0 t
@[expose] def yb (t : Fin (cfgM m hO).N) : S1x4096x1024.Idx → EReal := iblk m hO c 1 t

/-- An element of a point's block of the result, in the array. -/
abbrev put (t : Fin (cfgM m hO).N) (j : S512x1024.Idx) : S4096x8192.Idx := (((cfgM m hO).win 2).rect t).emb j

/-- The whole product. -/
@[expose] def prod (x : S4096x4096.Idx → EReal) (y : S8x4096x1024.Idx → EReal) : S4096x8192.Idx → EReal := fun i =>
  ∑ k ∈ Finset.range 4096, at2 x (i 0).val k * at3 y ((i 1).val / 1024) k ((i 1).val % 1024)

/-- A point writes its block of the product. -/
theorem point (t : Fin (cfgM m hO).N) (j : S512x1024.Idx) :
    (outsAt0 m hO c t j : EReal) = prod (X m c) (Y m c) (put m hO t j) := by
  have e : outsAt0 m hO c t = k0_pay1 (F := Ideal) (iblk m hO c 0 t) (iblk m hO c 1 t) := by
    unfold outsAt0 out0_A_2
    frame_out
    exact congrArg₂ (k0_pay1 (F := Ideal)) (Memref.IsWhole.read_unread _ _) (Memref.IsWhole.read_unread _ _)
  have a0 : w0 m hO t 0 = t.val / 2 := congrFun (idx0 m hO t) 0
  have a1 : w0 m hO t 1 = 0 := congrFun (idx0 m hO t) 1
  have b0 : w1 m hO t 0 = grp (ids m c) (t.val % 2) := congrFun (idx1 m hO c t) 0
  have b1 : w1 m hO t 1 = 0 := congrFun (idx1 m hO c t) 1
  have b2 : w1 m hO t 2 = 0 := congrFun (idx1 m hO c t) 2
  have d0 : w2 m hO t 0 = t.val / 2 := congrFun (idx2 m hO c t) 0
  have d1 : w2 m hO t 1 = grp (ids m c) (t.val % 2) := congrFun (idx2 m hO c t) 1
  have j0 : (j 0).val < 512 := (j 0).isLt
  have j1 : (j 1).val < 1024 := (j 1).isLt
  have r0 : (put m hO t j 0).val = t.val / 2 * 512 + (j 0).val := by
    show w2 m hO t 0 * 512 + 1 * (j 0).val = _; omega
  have r1 : (put m hO t j 1).val = grp (ids m c) (t.val % 2) * 1024 + (j 1).val := by
    show w2 m hO t 1 * 1024 + 1 * (j 1).val = _; omega
  refine (congrFun e j).trans (Eq.trans (b := ∑ k : Fin 4096, xb m hO c t (ValueIdx.ix2 (j 0) k) * yb m hO c t (ValueIdx.ix3 0 k (j 1))) ?_ ?_)
  · unfold k0_pay1
    pointwise
    rfl
  show _ = ∑ k ∈ Finset.range 4096, _
  rw [Finset.sum_range]
  refine Finset.sum_congr rfl fun k _ => congrArg₂ (· * ·) ?_ ?_
  · refine (congrFun (V_main_arg0 m c) ((((cfgM m hO).win 0).rect t).emb (ValueIdx.ix2 (j 0) k))).trans (at2_of (X m c) _ ?_ ?_)
    · show w0 m hO t 0 * 512 + 1 * (j 0).val = _; omega
    · show w0 m hO t 1 * 4096 + 1 * k.val = _; omega
  · refine (congrFun (V_main_arg1 m c) ((((cfgM m hO).win 1).rect t).emb (ValueIdx.ix3 0 k (j 1)))).trans (at3_of (Y m c) _ ?_ ?_ ?_)
    · show w1 m hO t 0 * 1 + 1 * 0 = _; omega
    · show w1 m hO t 1 * 4096 + 1 * k.val = _; omega
    · show w1 m hO t 2 * 1024 + 1 * (j 1).val = _; omega

/-- The points write back the groups listed. -/
theorem covered (i : S4096x8192.Idx) (h : listed (ids m c) ((i 1).val / 1024)) :
    ∃ t : Fin (cfgM m hO).N, ((cfgM m hO).win 2).flush t = true ∧ i ∈ (((cfgM m hO).win 2).blk t).view.set := by
  have i0 : (i 0).val < 4096 := (i 0).isLt
  have i1 : (i 1).val < 8192 := (i 1).isLt
  obtain ⟨j, hj, h⟩ := h
  have ht : 2 * ((i 0).val / 512) + j < (cfgM m hO).N := by show _ < grid0.N; rw [N_0]; omega
  obtain ⟨u, hu, e⟩ := exists_flush ((cfgM m hO).win 2) rfl _ ⟨2 * ((i 0).val / 512) + j, ht⟩ rfl
  refine ⟨u, hu, (((cfgM m hO).win 2).emb_mem_blk_iff u i).mpr fun a => ?_⟩
  have e : w2 m hO u = ![(2 * ((i 0).val / 512) + j) / 2, grp (ids m c) ((2 * ((i 0).val / 512) + j) % 2)] := e.trans (idx2 m hO c _)
  have e0 : w2 m hO u 0 = (2 * ((i 0).val / 512) + j) / 2 := congrFun e 0
  have e1 : w2 m hO u 1 = grp (ids m c) ((2 * ((i 0).val / 512) + j) % 2) := congrFun e 1
  rw [show (2 * ((i 0).val / 512) + j) % 2 = j by omega] at e1
  match a with
  | ⟨0, _⟩ => show w2 m hO u 0 * 512 ≤ (i 0).val ∧ (i 0).val < w2 m hO u 0 * 512 + 512; omega
  | ⟨1, _⟩ => show w2 m hO u 1 * 1024 ≤ (i 1).val ∧ (i 1).val < w2 m hO u 1 * 1024 + 1024; omega

/-- There the kernel's array holds the product after the run. -/
theorem final (i : S4096x8192.Idx) (h : listed (ids m c) ((i 1).val / 1024)) :
    ((dats m hO 0 c).arrAt 2 (cfgM m hO).N i : EReal) = prod (X m c) (Y m c) i := by
  refine ((dats m hO 0 c).arrAt_eq_piecewise 2 (prod (X m c) (Y m c)) (fun t _ => ?_) i).trans (if_pos (covered m hO c i h))
  funext j
  show (dats m hO 0 c).after 2 t j = _
  rw [after0_2]
  exact point m hO c t j

/-- The mask's side conditions. -/
theorem maskFacts : Cert.On_proj_near_part.Facts := by
  constructor
  all_goals first | decide | exact Cert.RefProjNearIdeal.Gen.facts.1

/-- The mask says that an element's group is listed. -/
theorem mask (x : FVec Ideal S4096x4096 .bf16) (y : FVec Ideal S8x4096x1024 .bf16) (s : IVec S2 32) (i : S4096x8192.Idx)
    (h : @Cert.On_proj_near_part.fn maskFacts Ideal _ x y s i = 1#1) : listed s ((i 1).val / 1024) := by
  unfold Cert.On_proj_near_part.fn at h
  have i1 : (i 1).val < 8192 := (i 1).isLt
  refine (flags2 s (by omega)).mp (Eq.trans ?_ h)
  pointwise
  rfl

/-- The run, with the elements that the mask selects named. -/
theorem named (hO : Ok m) (g : Dev nD → PrngReg) : θ_run defs (onTc (τ := τ) main) ⟨m, fun _ => 0, g⟩ (fun r => ∀ c : Dev nD,
      (∀ i : S4096x8192.Idx, listed (ids m c) ((i 1).val / 1024) → r.2.mem ((c.tc : Thread nD τ).loc main_v0) i = prod (X m c) (Y m c) i)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨fun i hi => (congrFun ((h.1 c).1 2) i).trans (final m hO c i hi), h.2 c⟩)
    (θ_run_and (run_main m g hO) (unchanged m g hO))

end Cert.ProjNearIdeal.Product

namespace Cert.RefProjNearIdeal.Product
open Cert Cert.RefProjNearIdeal Cert.RefProjNearIdeal.Gen Cert.Mul

/-- The reference's array holds the whole product. -/
theorem value (x : FVec Ideal S4096x4096 .bf16) (y : FVec Ideal S8x4096x1024 .bf16) :
    (shapeCast _ (shapeCast _ (truncf .bf16 (Host.dotGeneral (F := Ideal) dot_S4096x4096_S4096x8192_S4096x8192_1_0_0_1_n_n none (extf .f32 x bitsLt_bf16_f32)
      (shapeCast _ (transpose S4096x8x1024 [1, 0, 2] (extf .f32 y bitsLt_bf16_f32) transposes_S8x4096x1024_S4096x8x1024_1_0_2) shapeCasts_S4096x8x1024_S4096x8192))
        bitsLt_bf16_f32) shapeCasts_S4096x8192_S4096x8x1024) shapeCasts_S4096x8x1024_S4096x8192 : FVec Ideal S4096x8192 .bf16)
        = Cert.ProjNearIdeal.Product.prod x y := by
  funext i
  pointwise
  rw [Cert.ProjNearIdeal.Product.prod, Finset.sum_range]
  exact Finset.sum_congr rfl fun k _ => congrArg₂ (· * ·) (at2_of x _ rfl rfl) (at3_of y _ rfl rfl rfl)

/-- It leaves its arguments, and has no semaphore, whatever the table. -/
theorem frame : quiescent_RefProjNearIdeal (hRefProjNearIdeal := facts) := fun m g _ =>
  (θ_run defs _ _).mono (fun r h => ⟨fun c => (h c).2, sem_eq_zero_of_no_sems (by decide) r.2⟩) (Value.run m g)

end Cert.RefProjNearIdeal.Product

/-- The two runs agree where the mask is set. -/
theorem Cert.ProjNearIdeal.Product.claim :
    Cert.algebraic_ProjNearIdeal_RefProjNearIdeal_on_proj_near_part (hProjNearIdeal := Cert.ProjNearIdeal.Gen.facts)
      (hRefProjNearIdeal := Cert.RefProjNearIdeal.Gen.facts) (hPre_proj_near_ids := preFacts) (hOn_proj_near_part := maskFacts) :=
  fun m g m' g' h e => ⟨fun c => prod (X m c) (Y m c),
    (θ_run Cert.ProjNearIdeal.defs _ _).mono (fun _ h c => ⟨fun i hi => (h c).1 i (mask _ _ _ i hi), (h c).2⟩) (named m (ok_of_pre m h) g),
    (θ_run Cert.RefProjNearIdeal.defs _ _).mono (fun _ h c => ⟨fun i _ => congrFun ((h c).1.trans
      ((Cert.RefProjNearIdeal.Product.value _ _).trans (congrArg₂ prod (e c).1 (e c).2.1))) i, (h c).2⟩)
      (Cert.RefProjNearIdeal.Value.run m' g')⟩

/-- The two programs' frames: a table that one admits, the other does. -/
theorem Cert.ProjNearIdeal.Product.wordFrame :
    Cert.quiescent_ProjNear (hProjNear := Cert.ProjNear.Gen.facts) (hPre_proj_near_ids := preFacts) := fun m g h =>
  Cert.ProjNear.Gen.frame m g (ok_of (F := Bits) (Cert.ProjNear.Gen.tbl m)
    fun x => (congrArg BitVec.toNat (congrFun (Cert.ProjNear.Gen.V_main_arg2 m 0) x)).trans_lt (Cert.Mul.toNat_lt_of_range _ (congrFun (h 0) x)))
theorem Cert.ProjNearIdeal.Product.idealFrame :
    Cert.quiescent_ProjNearIdeal (hProjNearIdeal := Cert.ProjNearIdeal.Gen.facts) (hPre_proj_near_ids := preFacts) := fun m g h => Cert.ProjNearIdeal.Gen.frame m g (ok_of_pre m h)
-- ==== Proof.Mul.ProjRest.lean ====
/- The input projection's later stages: the product of the block's normed input with the three groups of the weight's columns that the
   table lists, written into an array that keeps its other columns. -/
module

public import proofs.«01_k».proof.Defs
public import proofs.«01_k».proof.Proof.Mul.Staged
public import proofs.«01_k».proof.Proof.Gen.ProjRestIdeal.Frame
public import proofs.«01_k».proof.Proof.Gen.ProjRest.Frame
public import proofs.«01_k».proof.Proof.Gen.RefProjRestIdeal.Run
public import Idealize.ShloMosaic.Lib.Affine
public import Idealize.ShloMosaic.Lib.Pipeline.ValueKit.Acc
public import Idealize.ShloMosaic.Lib.Pipeline.ValueKit.Geometry
public import Idealize.ShloMosaic.Lib.Pointwise

public section
open Idealize.ShloMosaic Idealize.ShloMosaic.Ideal
set_option maxRecDepth 16384
noncomputable section

namespace Cert.ProjRestIdeal.Product
open Cert.ProjRestIdeal Cert.ProjRestIdeal.Gen Cert.Mul Idealize.ShloMosaic.TcCoe

section Tables
variable {F : FTy → Type} [FloatOps F]

/-- The table's place that a point reads. -/
theorem place : ∀ j : Fin 3, (Scalar.indexCast (BitVec.ofNat 32 j.val) : Index).toNat = j.val := by decide

/-- The blocks of the weight and of the result, by the group that the table lists. -/
theorem ix1_eq (pf : pre0.Contents (Elt F)) (i : grid0.Coords) :
    cc0_transform_1 k0_off1_inb numel1_S1 pf i = ![grp (pf 0 : S3.Idx → BitVec 32) (i 1).val, 0, 0] := by
  have e : (pf.at 0 (Rect.unit (s := S3) ![(Scalar.indexCast (BitVec.ofNat 32 (i 1).val) : Index).toNat] S1.size (k0_off1_inb i)) numel1_S1 : BitVec 32).toNat
      = grp (pf 0 : S3.Idx → BitVec 32) (i 1).val := grp_of (pf 0 : S3.Idx → BitVec 32) _ (place (i 1))
  show ![_, _, _] = _
  rw [← e]
  rfl
theorem ix3_eq (pf : pre0.Contents (Elt F)) (i : grid0.Coords) :
    cc0_transform_3 k0_off1_inb numel1_S1 pf i = ![(i 0).val, grp (pf 0 : S3.Idx → BitVec 32) (i 1).val] := by
  have e : (pf.at 0 (Rect.unit (s := S3) ![(Scalar.indexCast (BitVec.ofNat 32 (i 1).val) : Index).toNat] S1.size (k0_off1_inb i)) numel1_S1 : BitVec 32).toNat
      = grp (pf 0 : S3.Idx → BitVec 32) (i 1).val := grp_of (pf 0 : S3.Idx → BitVec 32) _ (place (i 1))
  have e0 : (BitVec.ofNat 32 (i 0).val).toNat = (i 0).val := by
    have : (i 0).val < 8 := (i 0).isLt
    rw [BitVec.toNat_ofNat]; exact Nat.mod_eq_of_lt (by omega)
  exact congrArg₂ (fun a b => ![a, b]) e0 e

/-- A table in range is admissible. -/
theorem ok_of (pf : pre0.Contents (Elt F)) (h : ∀ x, (pf 0 x : BitVec 32).toNat < 8) : ok0 pf := by
  have hg : ∀ j, grp (pf 0 : S3.Idx → BitVec 32) j < 8 := grp_lt h
  refine ⟨fun i => ⟨?_, .inr ?_⟩, fun i => ⟨?_, .inr ?_⟩⟩
  · rw [ix1_eq]
    have := hg (i 1).val
    intro a
    match a with
    | ⟨0, _⟩ => show (grp _ _ + 1) * 1 ≤ 8; omega
    | ⟨1, _⟩ => show (0 + 1) * 4096 ≤ 4096; omega
    | ⟨2, _⟩ => show (0 + 1) * 1024 ≤ 1024; omega
  · exact Affine.words_rows (by decide) (by rw [ix1_eq]; rfl) rfl
  · rw [ix3_eq]
    have := hg (i 1).val
    have h0 : (i 0).val < 8 := (i 0).isLt
    intro a
    match a with
    | ⟨0, _⟩ => show ((i 0).val + 1) * 512 ≤ 4096; omega
    | ⟨1, _⟩ => show (grp _ _ + 1) * 1024 ≤ 8192; omega
  · exact Affine.words_of_packed (Affine.packed_dvd (by decide) (by rw [ix3_eq]; exact Dvd.intro_left _ (Nat.mul_assoc (i 0).val 256 2)) (by decide))

/-- The precondition's side conditions. -/
theorem preFacts : Cert.Pre_proj_rest_ids.Facts := ⟨by decide⟩

/-- Its tables are in range. -/
theorem ok_of_pre (m : (ℓ : Loc nD τ sig) → Buf (Elt F) ℓ)
    (h : ∀ c : Dev nD, @Cert.Pre_proj_rest_ids.fn preFacts F _ (m ((c.tc : Thread nD τ).loc main_arg0)) (m ((c.tc : Thread nD τ).loc main_arg1))
      (m ((c.tc : Thread nD τ).loc main_arg2)) (m ((c.tc : Thread nD τ).loc main_arg3)) = fun _ => 1#1) : Ok m :=
  ok_of (tbl m) fun x => (congrArg BitVec.toNat (congrFun (V_main_arg2 m 0) x)).trans_lt (Cert.Mul.toNat_lt_of_range _ (congrFun (h 0) x))

end Tables

variable (m : (ℓ : Loc nD τ sig) → Buf (Elt Ideal) ℓ) (hO : Ok m) (c : Dev nD)

/-- The arguments, on a core. -/
@[expose] def X : S4096x4096.Idx → EReal := m ((c : Thread nD τ).loc main_arg0)
@[expose] def Y : S8x4096x1024.Idx → EReal := m ((c : Thread nD τ).loc main_arg1)
@[expose] def ids : S3.Idx → BitVec 32 := m ((c : Thread nD τ).loc main_arg2)
@[expose] def P : S4096x8192.Idx → EReal := m ((c : Thread nD τ).loc main_arg3)

/-- The table that the region reads is the third argument. -/
theorem tbl_eq : (tbl m 0 : S3.Idx → BitVec 32) = ids m c := by
  obtain rfl : c = 0 := Subsingleton.elim _ _
  exact V_main_arg2 m 0

/-- The region finds the fourth argument in the result's array. -/
theorem entry : (V m c main_v0 : S4096x8192.Idx → EReal) = P m c := by
  show StableHlo.after hostOps0 _ _ = _
  simp only [hostOps0]
  after_results <;> rfl

/-- The blocks at a point. -/
theorem row (t : Fin grid0.N) : (grid0.coords t 0).val = t.val / 3 := by
  have e : (grid0.coords t 0).val = t.val / 3 % 8 := Pipeline.Grid.coords_val t 0 (by decide) rfl
  have : t.val < 24 := lt_of_lt_of_eq t.isLt N_0
  omega
theorem entryOf (t : Fin grid0.N) : (grid0.coords t 1).val = t.val % 3 := by
  have e : (grid0.coords t 1).val = t.val / 1 % 3 := Pipeline.Grid.coords_val t 1 (by decide) rfl
  omega
abbrev w0 (t : Fin (cfgM m hO).N) : Fin 2 → ℕ := ((cfgM m hO).win 0).index t
abbrev w1 (t : Fin (cfgM m hO).N) : Fin 3 → ℕ := ((cfgM m hO).win 1).index t
abbrev w2 (t : Fin (cfgM m hO).N) : Fin 2 → ℕ := ((cfgM m hO).win 2).index t
theorem idx0 : ∀ t : Fin (cfgM m hO).N, w0 m hO t = ![t.val / 3, 0] :=
  (by decide +kernel : ∀ t : Fin grid0.N, cc0_transform_0 (grid0.coords t) = ![t.val / 3, 0])
theorem idx1 (t : Fin (cfgM m hO).N) : w1 m hO t = ![grp (ids m c) (t.val % 3), 0, 0] := by
  rw [← tbl_eq, ← entryOf t]; exact ix1_eq (tbl m) _
theorem idx2 (t : Fin (cfgM m hO).N) : w2 m hO t = ![t.val / 3, grp (ids m c) (t.val % 3)] := by
  rw [← tbl_eq, ← row t, ← entryOf t]; exact ix3_eq (tbl m) _

@[expose] def xb (t : Fin (cfgM m hO).N) : S512x4096.Idx → EReal := iblk m hO c 0 t
@[expose] def yb (t : Fin (cfgM m hO).N) : S1x4096x1024.Idx → EReal := iblk m hO c 1 t

/-- An element of a point's block of the result, in the array. -/
abbrev put (t : Fin (cfgM m hO).N) (j : S512x1024.Idx) : S4096x8192.Idx := (((cfgM m hO).win 2).rect t).emb j

/-- The whole product. -/
@[expose] def prod (x : S4096x4096.Idx → EReal) (y : S8x4096x1024.Idx → EReal) : S4096x8192.Idx → EReal := fun i =>
  ∑ k ∈ Finset.range 4096, at2 x (i 0).val k * at3 y ((i 1).val / 1024) k ((i 1).val % 1024)

/-- The result: the product in the groups listed, the fourth argument in the others. -/
@[expose] def out (x : S4096x4096.Idx → EReal) (y : S8x4096x1024.Idx → EReal) (s : S3.Idx → BitVec 32) (p : S4096x8192.Idx → EReal) :
    S4096x8192.Idx → EReal := fun i => if listed s ((i 1).val / 1024) then prod x y i else p i

/-- A point writes its block of the product. -/
theorem point (t : Fin (cfgM m hO).N) (j : S512x1024.Idx) :
    (outsAt0 m hO c t j : EReal) = prod (X m c) (Y m c) (put m hO t j) := by
  have e : outsAt0 m hO c t = k0_pay1 (F := Ideal) (iblk m hO c 0 t) (iblk m hO c 1 t) := by
    unfold outsAt0 out0_A_2
    frame_out
    exact congrArg₂ (k0_pay1 (F := Ideal)) (Memref.IsWhole.read_unread _ _) (Memref.IsWhole.read_unread _ _)
  have a0 : w0 m hO t 0 = t.val / 3 := congrFun (idx0 m hO t) 0
  have a1 : w0 m hO t 1 = 0 := congrFun (idx0 m hO t) 1
  have b0 : w1 m hO t 0 = grp (ids m c) (t.val % 3) := congrFun (idx1 m hO c t) 0
  have b1 : w1 m hO t 1 = 0 := congrFun (idx1 m hO c t) 1
  have b2 : w1 m hO t 2 = 0 := congrFun (idx1 m hO c t) 2
  have d0 : w2 m hO t 0 = t.val / 3 := congrFun (idx2 m hO c t) 0
  have d1 : w2 m hO t 1 = grp (ids m c) (t.val % 3) := congrFun (idx2 m hO c t) 1
  have j0 : (j 0).val < 512 := (j 0).isLt
  have j1 : (j 1).val < 1024 := (j 1).isLt
  have r0 : (put m hO t j 0).val = t.val / 3 * 512 + (j 0).val := by
    show w2 m hO t 0 * 512 + 1 * (j 0).val = _; omega
  have r1 : (put m hO t j 1).val = grp (ids m c) (t.val % 3) * 1024 + (j 1).val := by
    show w2 m hO t 1 * 1024 + 1 * (j 1).val = _; omega
  refine (congrFun e j).trans (Eq.trans (b := ∑ k : Fin 4096, xb m hO c t (ValueIdx.ix2 (j 0) k) * yb m hO c t (ValueIdx.ix3 0 k (j 1))) ?_ ?_)
  · unfold k0_pay1
    pointwise
    rfl
  show _ = ∑ k ∈ Finset.range 4096, _
  rw [Finset.sum_range]
  refine Finset.sum_congr rfl fun k _ => congrArg₂ (· * ·) ?_ ?_
  · refine (congrFun (V_main_arg0 m c) ((((cfgM m hO).win 0).rect t).emb (ValueIdx.ix2 (j 0) k))).trans (at2_of (X m c) _ ?_ ?_)
    · show w0 m hO t 0 * 512 + 1 * (j 0).val = _; omega
    · show w0 m hO t 1 * 4096 + 1 * k.val = _; omega
  · refine (congrFun (V_main_arg1 m c) ((((cfgM m hO).win 1).rect t).emb (ValueIdx.ix3 0 k (j 1)))).trans (at3_of (Y m c) _ ?_ ?_ ?_)
    · show w1 m hO t 0 * 1 + 1 * 0 = _; omega
    · show w1 m hO t 1 * 4096 + 1 * k.val = _; omega
    · show w1 m hO t 2 * 1024 + 1 * (j 1).val = _; omega

/-- The points write back the groups listed, and no other. -/
theorem covered (i : S4096x8192.Idx) :
    (∃ t : Fin (cfgM m hO).N, ((cfgM m hO).win 2).flush t = true ∧ i ∈ (((cfgM m hO).win 2).blk t).view.set)
      ↔ listed (ids m c) ((i 1).val / 1024) := by
  have i0 : (i 0).val < 4096 := (i 0).isLt
  have i1 : (i 1).val < 8192 := (i 1).isLt
  constructor
  · rintro ⟨t, -, h⟩
    have h := (((cfgM m hO).win 2).emb_mem_blk_iff t i).mp h ⟨1, (by decide : 1 < 2)⟩
    have d1 : w2 m hO t 1 = grp (ids m c) (t.val % 3) := congrFun (idx2 m hO c t) 1
    have h : w2 m hO t 1 * 1024 ≤ (i 1).val ∧ (i 1).val < w2 m hO t 1 * 1024 + 1024 := h
    exact ⟨t.val % 3, Nat.mod_lt _ (by decide), by omega⟩
  · rintro ⟨j, hj, h⟩
    have ht : 3 * ((i 0).val / 512) + j < (cfgM m hO).N := by show _ < grid0.N; rw [N_0]; omega
    obtain ⟨u, hu, e⟩ := exists_flush ((cfgM m hO).win 2) rfl _ ⟨3 * ((i 0).val / 512) + j, ht⟩ rfl
    refine ⟨u, hu, (((cfgM m hO).win 2).emb_mem_blk_iff u i).mpr fun a => ?_⟩
    have e : w2 m hO u = ![(3 * ((i 0).val / 512) + j) / 3, grp (ids m c) ((3 * ((i 0).val / 512) + j) % 3)] := e.trans (idx2 m hO c _)
    have e0 : w2 m hO u 0 = (3 * ((i 0).val / 512) + j) / 3 := congrFun e 0
    have e1 : w2 m hO u 1 = grp (ids m c) ((3 * ((i 0).val / 512) + j) % 3) := congrFun e 1
    rw [show (3 * ((i 0).val / 512) + j) % 3 = j by omega] at e1
    match a with
    | ⟨0, _⟩ => show w2 m hO u 0 * 512 ≤ (i 0).val ∧ (i 0).val < w2 m hO u 0 * 512 + 512; omega
    | ⟨1, _⟩ => show w2 m hO u 1 * 1024 ≤ (i 1).val ∧ (i 1).val < w2 m hO u 1 * 1024 + 1024; omega

/-- The kernel's array after the run. -/
theorem final : ((dats m hO 0 c).arrAt 2 (cfgM m hO).N : S4096x8192.Idx → EReal) = out (X m c) (Y m c) (ids m c) (P m c) := by
  funext i
  refine ((dats m hO 0 c).arrAt_eq_piecewise 2 (prod (X m c) (Y m c)) (fun t _ => ?_) i).trans ?_
  · funext j
    show (dats m hO 0 c).after 2 t j = _
    rw [after0_2]
    exact point m hO c t j
  · refine if_congr (covered m hO c i) rfl ?_
    rw [A_eq]
    exact congrFun (entry m c) i

/-- The run, with the result named. -/
theorem named (hO : Ok m) (g : Dev nD → PrngReg) : θ_run defs (onTc (τ := τ) main) ⟨m, fun _ => 0, g⟩ (fun r => ∀ c : Dev nD,
      r.2.mem ((c.tc : Thread nD τ).loc main_v0) = out (X m c) (Y m c) (ids m c) (P m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).1 2).trans (final m hO c), h.2 c⟩) (θ_run_and (run_main m g hO) (unchanged m g hO))

end Cert.ProjRestIdeal.Product

namespace Cert.RefProjRestIdeal.Product
open Cert Cert.RefProjRestIdeal Cert.RefProjRestIdeal.Gen Cert.Mul

/-- The reference's array holds it too. -/
theorem value (x : FVec Ideal S4096x4096 .bf16) (y : FVec Ideal S8x4096x1024 .bf16) (s : IVec S3 32) (p : FVec Ideal S4096x8192 .bf16) :
    (shapeCast _ (select (broadcastInDim S4096x8x1024 ![0, 1, 2] bcast_S1x8x1_S4096x8x1024_0_1_2 (broadcastInDim S1x8x1 ![1] bcast_S8_S1x8x1_1
      (ori (ori (cmpi .eq (iotaInDim S8 32 0) (broadcastInDim S8 ![] bcast_S_S8 (shapeCast _ (extractStridedSlice S1 ![0] s slices_S3_S1_0) shapeCasts_S1_S_)))
        (cmpi .eq (iotaInDim S8 32 0) (broadcastInDim S8 ![] bcast_S_S8 (shapeCast _ (extractStridedSlice S1 ![1] s slices_S3_S1_1) shapeCasts_S1_S_))))
        (cmpi .eq (iotaInDim S8 32 0) (broadcastInDim S8 ![] bcast_S_S8 (shapeCast _ (extractStridedSlice S1 ![2] s slices_S3_S1_2) shapeCasts_S1_S_))))))
      (shapeCast _ (truncf .bf16 (Host.dotGeneral (F := Ideal) dot_S4096x4096_S4096x8192_S4096x8192_1_0_0_1_n_n none (extf .f32 x bitsLt_bf16_f32)
        (shapeCast _ (transpose S4096x8x1024 [1, 0, 2] (extf .f32 y bitsLt_bf16_f32) transposes_S8x4096x1024_S4096x8x1024_1_0_2) shapeCasts_S4096x8x1024_S4096x8192))
          bitsLt_bf16_f32) shapeCasts_S4096x8192_S4096x8x1024)
      (shapeCast _ p shapeCasts_S4096x8192_S4096x8x1024)) shapeCasts_S4096x8x1024_S4096x8192 : FVec Ideal S4096x8192 .bf16)
        = Cert.ProjRestIdeal.Product.out x y s p := by
  funext i
  pointwise
  have i1 : (i 1).val < 8192 := (i 1).isLt
  refine if_congr (flags3 s (by omega)) ?_ rfl
  show _ = ∑ k ∈ Finset.range 4096, _
  rw [Finset.sum_range]
  exact Finset.sum_congr rfl fun k _ => congrArg₂ (· * ·) (at2_of x _ rfl rfl) (at3_of y _ rfl rfl rfl)

/-- It leaves its arguments, and has no semaphore, whatever the table. -/
theorem frame : quiescent_RefProjRestIdeal (hRefProjRestIdeal := facts) := fun m g _ =>
  (θ_run defs _ _).mono (fun r h => ⟨fun c => (h c).2, sem_eq_zero_of_no_sems (by decide) r.2⟩) (Value.run m g)

end Cert.RefProjRestIdeal.Product

/-- The two runs end with one array. -/
theorem Cert.ProjRestIdeal.Product.claim :
    Cert.algebraic_ProjRestIdeal_RefProjRestIdeal (hProjRestIdeal := Cert.ProjRestIdeal.Gen.facts) (hRefProjRestIdeal := Cert.RefProjRestIdeal.Gen.facts)
      (hPre_proj_rest_ids := preFacts) :=
  fun m g m' g' h e => ⟨fun c => out (X m c) (Y m c) (ids m c) (P m c), named m (ok_of_pre m h) g,
    (θ_run Cert.RefProjRestIdeal.defs _ _).mono (fun _ h c => ⟨(h c).1.trans
      ((Cert.RefProjRestIdeal.Product.value _ _ _ _).trans (by rw [(e c).1, (e c).2.1, (e c).2.2.1, (e c).2.2.2]; rfl)), (h c).2⟩)
      (Cert.RefProjRestIdeal.Value.run m' g')⟩

/-- The two programs' frames: a table that one admits, the other does. -/
theorem Cert.ProjRestIdeal.Product.wordFrame :
    Cert.quiescent_ProjRest (hProjRest := Cert.ProjRest.Gen.facts) (hPre_proj_rest_ids := preFacts) := fun m g h =>
  Cert.ProjRest.Gen.frame m g (ok_of (F := Bits) (Cert.ProjRest.Gen.tbl m)
    fun x => (congrArg BitVec.toNat (congrFun (Cert.ProjRest.Gen.V_main_arg2 m 0) x)).trans_lt (Cert.Mul.toNat_lt_of_range _ (congrFun (h 0) x)))
theorem Cert.ProjRestIdeal.Product.idealFrame :
    Cert.quiescent_ProjRestIdeal (hProjRestIdeal := Cert.ProjRestIdeal.Gen.facts) (hPre_proj_rest_ids := preFacts) := fun m g h => Cert.ProjRestIdeal.Gen.frame m g (ok_of_pre m h)
-- ==== Proof.Mul.UpNearRun.lean ====
/- The expanding product's first stage: the run of its kernel. Over the last axis of the grid the first step stores a product of blocks in
   the scratch array, the next two add theirs, and the last adds its own and writes the sum out. -/
module

public import proofs.«01_k».proof.Proof.Mul.Staged
public import proofs.«01_k».proof.Proof.Gen.UpNearIdeal.Launch
public import proofs.«01_k».proof.Proof.Gen.UpNearIdeal.Skeleton
public import Idealize.ShloMosaic.Lib.Affine
public import Idealize.ShloMosaic.Lib.Pipeline.FrameBody
public import Idealize.ShloMosaic.Lib.Ring
public import Idealize.ShloMosaic.Lib.Tactic
public import Idealize.ShloMosaic.Lib.VecWindow
public import Idealize.ShloMosaic.Lib.WordCmp

public section
set_option maxRecDepth 16384
noncomputable section

namespace Cert.UpNearIdeal.Product
open Cert.UpNearIdeal Cert.UpNearIdeal.Gen Cert.Mul
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The table -/

/-- The table's place that a point reads. -/
theorem place : ∀ j : Fin 2, (Scalar.indexCast (BitVec.ofNat 32 j.val) : Index).toNat = j.val := by decide

/-- The blocks of the weight and of the result, by the group that the table lists. -/
theorem ix1_eq (pf : pre0.Contents (Elt F)) (i : grid0.Coords) :
    cc0_transform_1 k0_off1_inb numel1_S1 pf i = ![grp (pf 0 : S2.Idx → BitVec 32) (i 1).val, 0, (i 2).val] := by
  have e : (pf.at 0 (Rect.unit (s := S2) ![(Scalar.indexCast (BitVec.ofNat 32 (i 1).val) : Index).toNat] S1.size (k0_off1_inb i)) numel1_S1 : BitVec 32).toNat
      = grp (pf 0 : S2.Idx → BitVec 32) (i 1).val := grp_of (pf 0 : S2.Idx → BitVec 32) _ (place (i 1))
  have e2 : (BitVec.ofNat 32 (i 2).val).toNat = (i 2).val := by
    have : (i 2).val < 4 := (i 2).isLt
    rw [BitVec.toNat_ofNat]; exact Nat.mod_eq_of_lt (by omega)
  exact congrArg₂ (fun a b => ![a, 0, b]) e e2
theorem ix2_eq (pf : pre0.Contents (Elt F)) (i : grid0.Coords) :
    cc0_transform_2 k0_off1_inb numel1_S1 pf i = ![grp (pf 0 : S2.Idx → BitVec 32) (i 1).val, (i 0).val, 0] := by
  have e : (pf.at 0 (Rect.unit (s := S2) ![(Scalar.indexCast (BitVec.ofNat 32 (i 1).val) : Index).toNat] S1.size (k0_off1_inb i)) numel1_S1 : BitVec 32).toNat
      = grp (pf 0 : S2.Idx → BitVec 32) (i 1).val := grp_of (pf 0 : S2.Idx → BitVec 32) _ (place (i 1))
  have e0 : (BitVec.ofNat 32 (i 0).val).toNat = (i 0).val := by
    have : (i 0).val < 4 := (i 0).isLt
    rw [BitVec.toNat_ofNat]; exact Nat.mod_eq_of_lt (by omega)
  exact congrArg₂ (fun a b => ![a, b, 0]) e e0

/-- A table in range is admissible. -/
theorem ok_of (pf : pre0.Contents (Elt F)) (h : ∀ x, (pf 0 x : BitVec 32).toNat < 8) : ok0 pf := by
  have hg : ∀ j, grp (pf 0 : S2.Idx → BitVec 32) j < 8 := grp_lt h
  refine ⟨fun i => ⟨?_, .inr ?_⟩, fun i => ⟨?_, .inr ?_⟩⟩
  · rw [ix1_eq]
    have := hg (i 1).val
    have h2 : (i 2).val < 4 := (i 2).isLt
    intro a
    match a with
    | ⟨0, _⟩ => show (grp _ _ + 1) * 1 ≤ 8; omega
    | ⟨1, _⟩ => show (0 + 1) * 2752 ≤ 2752; omega
    | ⟨2, _⟩ => show ((i 2).val + 1) * 1024 ≤ 4096; omega
  · exact Affine.words_rows (by decide) (by rw [ix1_eq]; rfl) rfl
  · rw [ix2_eq]
    have := hg (i 1).val
    have h0 : (i 0).val < 4 := (i 0).isLt
    intro a
    match a with
    | ⟨0, _⟩ => show (grp _ _ + 1) * 1 ≤ 8; omega
    | ⟨1, _⟩ => show ((i 0).val + 1) * 1024 ≤ 4096; omega
    | ⟨2, _⟩ => show (0 + 1) * 2752 ≤ 2752; omega
  · exact Affine.words_of_packed (Affine.packed_dvd (by decide) (by rw [ix2_eq]; exact Dvd.intro_left _ (Nat.mul_assoc (i 0).val 512 2)) (by decide))

/-! ## One step of the kernel -/

/-- The step's place in its run of four. -/
abbrev isFirst (i : grid0.Coords) : Prop := (Scalar.cmpi .ne (Scalar.extui (Scalar.cmpi .eq (BitVec.ofNat 32 (i 2).val) 0#32)) 0#32) = 1#1
abbrev isNext (i : grid0.Coords) : Prop :=
  (Scalar.cmpi .ne (Scalar.extui (Scalar.andi (Scalar.cmpi .sgt (BitVec.ofNat 32 (i 2).val) 0#32) (Scalar.cmpi .slt (BitVec.ofNat 32 (i 2).val) 3#32))) 0#32) = 1#1
abbrev isLast (i : grid0.Coords) : Prop := k0_cond3 i = 1#1

/-- The scratch array and the table, whole, and the half of the table that the step holds. -/
abbrev scr : Memref sig .tc .vmem S1024x2752 .f32 := Memref.whole cc0_scratch0
abbrev tab : Memref sig .tc .smem S2 .i32 := Memref.whole main_arg2
abbrev TabBuf (c : Dev nD) : Type := Buf (Elt F) (tab.view.loc (c : Thread nD τ))
abbrev half (c : Dev nD) (M : Memref sig .tc .smem S2 .i32) (f : Buf (Elt F) (M.view.loc (c : Thread nD τ))) : sProp 𝕄 :=
  M.view.loc (c : Thread nD τ) ↦{fullShare.right} f

section Step
variable (c : Dev nD) (i : grid0.Coords)
  (a : Memref sig .tc .vmem S1024x1024 .bf16) (ha : a.IsWhole) (b : Memref sig .tc .vmem S1x2752x1024 .bf16) (hb : b.IsWhole)
  (o : Memref sig .tc .vmem S1x1024x2752 .bf16) (ho : o.IsWhole) (s : Memref sig .tc .vmem S1024x2752 .f32) (hs : s.IsWhole)
  (x : Vec F S1024x1024 .bf16) (y : Vec F S1x2752x1024 .bf16) (z : Vec F S1x1024x2752 .bf16) (w : Vec F S1024x2752 .f32) (xt : TabBuf (F := F) c)

/-- The body of the kernel, on whole buffers. -/
abbrev body : Prog (TpuEff nD τ sig (Elt F) Λ₀ .tc) PUnit :=
  cc0_mm_up_near i tab (Memref.isWhole_whole _) a ha b hb o ho s hs

/-- What a step holds: its two blocks, the result's block, the scratch array and the table. -/
abbrev holds (z : Vec F S1x1024x2752 .bf16) (w : Vec F S1024x2752 .f32) : sProp 𝕄 :=
  iprop(owns (c : Thread nD τ) a fullShare x ∗ owns (c : Thread nD τ) b fullShare y ∗ owns (c : Thread nD τ) o fullShare z
    ∗ owns (c : Thread nD τ) s fullShare w ∗ half c tab xt)

/-- The first step leaves the product in the scratch array, -/
theorem first (h0 : isFirst i) (h1 : ¬isNext i) (h2 : ¬isLast i) (E : Set ℕ) (K : PUnit → sProp 𝕄) :
    iprop(holds c a b o s x y xt z w ∗ (holds c a b o s x y xt z (k0_pay1 x y) -∗ K ⟨⟩))
      ⊢ wp frame (wpE (defs₀ (F := F)) Variants.none c none) E (body i a ha b hb o ho s hs) K := by
  unfold body
  simp only [cc0_mm_up_near_eq_skeleton]; unfold cc0_mm_up_near_skel
  unfold holds owns
  iintro ⟨⟨⟨%f0, %hf0, H0⟩, ⟨%f1, %hf1, H1⟩, ⟨%f2, %hf2, H2⟩, ⟨%fs, %hfs, HS⟩, HT⟩, Hk⟩
  obtain rfl := ha.eq_unread hf0; obtain rfl := hb.eq_unread hf1; obtain rfl := ho.eq_unread hf2; obtain rfl := hs.eq_unread hfs
  sl_exec (disch := first | sl_exact h0 | sl_exact h1 | sl_exact h2)
  sl_step
  iapply Hk
  isplitl [H0]
  · iexists _; isplitr; · ipureintro; exact hf0
    iexact H0
  isplitl [H1]
  · iexists _; isplitr; · ipureintro; exact hf1
    iexact H1
  isplitl [H2]
  · iexists _; isplitr; swap; · iexact H2
    ipureintro; exact hf2
  isplitl [HS]
  · iexists _; isplitr; swap; · iexact HS
    ipureintro; exact (View.read_writes_full ..).trans (by rw [View.readAt_full, View.readAt_full, hf0, hf1])
  iexact HT

/-- the next ones add theirs to it, -/
theorem next (h0 : ¬isFirst i) (h1 : isNext i) (h2 : ¬isLast i) (E : Set ℕ) (K : PUnit → sProp 𝕄) :
    iprop(holds c a b o s x y xt z w ∗ (holds c a b o s x y xt z (k0_pay2 w x y) -∗ K ⟨⟩))
      ⊢ wp frame (wpE (defs₀ (F := F)) Variants.none c none) E (body i a ha b hb o ho s hs) K := by
  unfold body
  simp only [cc0_mm_up_near_eq_skeleton]; unfold cc0_mm_up_near_skel
  unfold holds owns
  iintro ⟨⟨⟨%f0, %hf0, H0⟩, ⟨%f1, %hf1, H1⟩, ⟨%f2, %hf2, H2⟩, ⟨%fs, %hfs, HS⟩, HT⟩, Hk⟩
  obtain rfl := ha.eq_unread hf0; obtain rfl := hb.eq_unread hf1; obtain rfl := ho.eq_unread hf2; obtain rfl := hs.eq_unread hfs
  sl_exec (disch := first | sl_exact h0 | sl_exact h1 | sl_exact h2)
  sl_step
  iapply Hk
  isplitl [H0]
  · iexists _; isplitr; · ipureintro; exact hf0
    iexact H0
  isplitl [H1]
  · iexists _; isplitr; · ipureintro; exact hf1
    iexact H1
  isplitl [H2]
  · iexists _; isplitr; swap; · iexact H2
    ipureintro; exact hf2
  isplitl [HS]
  · iexists _; isplitr; swap; · iexact HS
    ipureintro; exact (View.read_writes_full ..).trans (by rw [View.readAt_full, View.readAt_full, View.readAt_full, hfs, hf0, hf1])
  iexact HT

/-- and the last one writes the sum out. -/
theorem last (h0 : ¬isFirst i) (h1 : ¬isNext i) (h2 : isLast i) (E : Set ℕ) (K : PUnit → sProp 𝕄) :
    iprop(holds c a b o s x y xt z w ∗ (holds c a b o s x y xt (k0_pay3 w x y) w -∗ K ⟨⟩))
      ⊢ wp frame (wpE (defs₀ (F := F)) Variants.none c none) E (body i a ha b hb o ho s hs) K := by
  unfold body
  simp only [cc0_mm_up_near_eq_skeleton]; unfold cc0_mm_up_near_skel
  unfold holds owns
  iintro ⟨⟨⟨%f0, %hf0, H0⟩, ⟨%f1, %hf1, H1⟩, ⟨%f2, %hf2, H2⟩, ⟨%fs, %hfs, HS⟩, HT⟩, Hk⟩
  obtain rfl := ha.eq_unread hf0; obtain rfl := hb.eq_unread hf1; obtain rfl := ho.eq_unread hf2; obtain rfl := hs.eq_unread hfs
  sl_exec (disch := first | sl_exact h0 | sl_exact h1 | sl_exact h2)
  sl_step
  iapply Hk
  isplitl [H0]
  · iexists _; isplitr; · ipureintro; exact hf0
    iexact H0
  isplitl [H1]
  · iexists _; isplitr; · ipureintro; exact hf1
    iexact H1
  isplitl [H2]
  · iexists _; isplitr; swap; · iexact H2
    ipureintro; exact (View.read_writes_full ..).trans (by rw [View.readAt_full, View.readAt_full, View.readAt_full, hfs, hf0, hf1])
  isplitl [HS]
  · iexists _; isplitr; swap; · iexact HS
    ipureintro; exact hfs
  iexact HT

end Step

/-! ## The program up to the kernel's call -/

variable (m : (ℓ : Loc nD τ sig) → Buf (Elt F) ℓ) (g : Dev nD → PrngReg)

/-- The arrays that the call finds. -/
abbrev V (c : Dev nD) (b : Ref sig .tc) : Buf (Elt F) ((c : Thread nD τ).loc b) := m ((c : Thread nD τ).loc b)

theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The table's contents, of which the call's condition is asked. -/
@[expose] def tbl : pre0.Contents (Elt F) := fun j => V m (0 : Dev nD) (pre0.ref j)
theorem V_pre (c : Dev nD) (j : Fin 1) : V m c (pre0.ref j) = tbl m j := by
  obtain rfl : c = 0 := Subsingleton.elim _ _; rfl
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The half of the table that the call hands to the kernel. -/
theorem half_eq (c : Dev nD) : (Pipeline.ΦT pre0 (tbl m) c : sProp 𝕄) = half c tab (tbl m 0) := by
  unfold Pipeline.ΦT Pipeline.prefHeld
  rw [show (Finset.univ : Finset (Fin 1)) = {(0 : Fin 1)} from by decide, bigSep_singleton]
  rfl

/-- The scratch array that it hands to the kernel, at anything. -/
theorem scratch_eq (c : Dev nD) :
    (Pipeline.ΦA spec0 c : sProp 𝕄) = iprop(iprop(∃ d, owns (c : Thread nD τ) scr fullShare d) ∗ (∃ r, prngReg c r)) := by
  unfold Pipeline.ΦA; rw [scopedRest0_eq]; simp only [scr, owns_whole]; rfl

/-! ## The grid -/

theorem row (t : Fin grid0.N) : (grid0.coords t 0).val = t.val / 8 := by
  have e : (grid0.coords t 0).val = t.val / 8 % 4 := Pipeline.Grid.coords_val t 0 (by decide) rfl
  have : t.val < 32 := lt_of_lt_of_eq t.isLt N_0
  omega
theorem entryOf (t : Fin grid0.N) : (grid0.coords t 1).val = t.val / 4 % 2 := Pipeline.Grid.coords_val t 1 (by decide) rfl
theorem turn (t : Fin grid0.N) : (grid0.coords t 2).val = t.val % 4 := by
  have e : (grid0.coords t 2).val = t.val / 1 % 4 := Pipeline.Grid.coords_val t 2 (by decide) rfl
  omega

/-- Which points are the first, the next and the last of their run. -/
theorem isFirst_iff : ∀ t : Fin grid0.N, isFirst (grid0.coords t) ↔ t.val % 4 = 0 := by decide +kernel
theorem isNext_iff : ∀ t : Fin grid0.N, isNext (grid0.coords t) ↔ (1 ≤ t.val % 4 ∧ t.val % 4 ≤ 2) := by decide +kernel
theorem isLast_iff : ∀ t : Fin grid0.N, isLast (grid0.coords t) ↔ t.val % 4 = 3 := by decide +kernel
theorem idle_of : ∀ t : Fin grid0.N, t.val % 4 ≠ 3 → idle0 2 (grid0.coords t) = true := by decide +kernel
theorem live_of : ∀ t : Fin grid0.N, t.val % 4 = 3 → idle0 2 (grid0.coords t) = false := by decide +kernel

section Blocks
variable (hO : Ok m)

/-- The block of the result at a point is that of the point before, but at the first of a run: it is written back at the last only. -/
theorem noFlush (t : Fin (cfgM m hO).N) (h : t.val % 4 ≠ 3) : ((cfgM m hO).win 2).flush t = false := by
  rw [← Bool.not_eq_true, ((cfgM m hO).win 2).flush_out rfl, not_or]
  have hN : t.val < 32 := lt_of_lt_of_eq t.isLt N_0
  refine ⟨fun e => ?_, fun ⟨hl, e⟩ => e ?_⟩
  · have e : t.val + 1 = grid0.N := e
    rw [N_0] at e; omega
  · refine (ix2_eq (tbl m) (grid0.coords ⟨t.val + 1, hl⟩)).trans (Eq.trans ?_ (ix2_eq (tbl m) (grid0.coords t)).symm)
    rw [row, entryOf, row t, entryOf t, show (t.val + 1) / 8 = t.val / 8 by omega, show (t.val + 1) / 4 = t.val / 4 by omega]

/-- A window's block at a point. -/
@[expose] def iblk (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))
abbrev xb (c : Dev nD) (t : Fin (cfgM m hO).N) : Vec F S1024x1024 .bf16 := iblk m hO c 0 t
abbrev yb (c : Dev nD) (t : Fin (cfgM m hO).N) : Vec F S1x2752x1024 .bf16 := iblk m hO c 1 t

/-- What the scratch array holds after a point, -/
@[expose] def acc (c : Dev nD) : (n : ℕ) → n < (cfgM m hO).N → Vec F S1024x2752 .f32
  | 0, h => k0_pay1 (xb m hO c ⟨0, h⟩) (yb m hO c ⟨0, h⟩)
  | n + 1, h =>
    if (n + 1) % 4 = 0 then k0_pay1 (xb m hO c ⟨n + 1, h⟩) (yb m hO c ⟨n + 1, h⟩)
    else if (n + 1) % 4 = 3 then acc c n (Nat.lt_of_succ_lt h)
    else k0_pay2 (acc c n (Nat.lt_of_succ_lt h)) (xb m hO c ⟨n + 1, h⟩) (yb m hO c ⟨n + 1, h⟩)

/-- before it, -/
abbrev before (c : Dev nD) (t : Fin (cfgM m hO).N) : Vec F S1024x2752 .f32 := acc m hO c (t.val - 1) (Nat.lt_of_le_of_lt (Nat.sub_le _ _) t.isLt)

/-- and what the last point of a run writes out. -/
@[expose] def outAt (c : Dev nD) (t : Fin (cfgM m hO).N) : Vec F S1x1024x2752 .bf16 := k0_pay3 (before m hO c t) (xb m hO c t) (yb m hO c t)

theorem acc_first (c : Dev nD) (t : Fin (cfgM m hO).N) (h : t.val % 4 = 0) :
    acc m hO c t.val t.isLt = k0_pay1 (xb m hO c t) (yb m hO c t) := by
  obtain ⟨n, hn⟩ := t
  cases n with
  | zero => rfl
  | succ n => exact if_pos h
theorem acc_next (c : Dev nD) (t : Fin (cfgM m hO).N) (h : t.val % 4 ≠ 0) (h3 : t.val % 4 ≠ 3) :
    acc m hO c t.val t.isLt = k0_pay2 (before m hO c t) (xb m hO c t) (yb m hO c t) := by
  obtain ⟨n, hn⟩ := t
  cases n with
  | zero => exact absurd (Nat.zero_mod _) h
  | succ n => exact (if_neg h).trans (if_neg h3)
theorem acc_last (c : Dev nD) (t : Fin (cfgM m hO).N) (h : t.val % 4 = 3) : acc m hO c t.val t.isLt = before m hO c t := by
  obtain ⟨n, hn⟩ := t
  have h : n % 4 = 3 := h
  cases n with
  | zero => omega
  | succ n => exact (if_neg (by omega)).trans (if_pos h)

/-- What is held between the points: the scratch array, at anything before the first and at its sum after one. -/
@[expose] def kept (c : Dev nD) : (n : ℕ) → n ≤ (cfgM m hO).N → sProp 𝕄
  | 0, _ => Pipeline.ΦA spec0 c
  | n + 1, h => iprop(iprop(owns (c : Thread nD τ) scr fullShare (acc m hO c n h)) ∗ (∃ r, prngReg c r))

theorem kept_pos (c : Dev nD) (n : ℕ) (h : n ≤ (cfgM m hO).N) (hz : n ≠ 0) :
    kept m hO c n h = iprop(iprop(owns (c : Thread nD τ) scr fullShare (acc m hO c (n - 1) (by omega))) ∗ (∃ r, prngReg c r)) := by
  cases n with
  | zero => exact absurd rfl hz
  | succ n => rfl

/-- The sum may be forgotten. -/
theorem kept_any (c : Dev nD) (n : ℕ) (h : n ≤ (cfgM m hO).N) :
    kept m hO c n h ⊢ iprop(iprop(∃ d, owns (c : Thread nD τ) scr fullShare d) ∗ (∃ r, prngReg c r)) := by
  cases n with
  | zero => rw [show kept m hO c 0 h = _ from scratch_eq c]; try exact .rfl
  | succ n =>
    rw [kept_pos m hO c _ _ (Nat.succ_ne_zero n)]
    iintro ⟨HS, Hg⟩
    isplitl [HS]
    · iexists _; iexact HS
    iexact Hg

/-- The kernel's account: the arrays as the call finds them, and what each point leaves. -/
@[expose] def dats (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => outAt m hO c t
  Φ t := iprop(kept m hO c t.val (Nat.le_of_lt_succ t.isLt) ∗ Pipeline.ΦT pre0 (tbl m) c)
  q _ := fullShare
  owed _ := 0

theorem A_eq (c : Dev nD) (w : Fin (cfgM m hO).W) : (dats m hO 0 c).A w = V m c (Pipeline.arrRef spec0 w) := by dsimp only [dats]
theorem after0 (c : Dev nD) (t : Fin (cfgM m hO).N) : (dats m hO 0 c).after 0 t = iblk m hO c 0 t := by dsimp only [dats]; try rfl
theorem after1 (c : Dev nD) (t : Fin (cfgM m hO).N) : (dats m hO 0 c).after 1 t = iblk m hO c 1 t := by dsimp only [dats]; try rfl
theorem after2 (c : Dev nD) (t : Fin (cfgM m hO).N) : (dats m hO 0 c).after 2 t = outAt m hO c t := by dsimp only [dats]; try rfl

/-- An argument's buffer holds the point's block, fetched there or not. -/
theorem before0 (c : Dev nD) (t : Fin (cfgM m hO).N) (d) : (dats m hO 0 c).before 0 t d = iblk m hO c 0 t :=
  ((dats m hO 0 c).before_in_eq_fetched 0 rfl (fun _ => rfl) (fun _ _ _ => rfl)
    (fun t => by rw [after0]; unfold Dat.blockOf iblk; rw [A_eq]) t d).trans (by unfold Dat.fetched Dat.blockOf iblk; rw [A_eq]; rfl)
theorem before1 (c : Dev nD) (t : Fin (cfgM m hO).N) (d) : (dats m hO 0 c).before 1 t d = iblk m hO c 1 t :=
  ((dats m hO 0 c).before_in_eq_fetched 1 rfl (fun _ => rfl) (fun _ _ _ => rfl)
    (fun t => by rw [after1]; unfold Dat.blockOf iblk; rw [A_eq]) t d).trans (by unfold Dat.fetched Dat.blockOf iblk; rw [A_eq]; rfl)

/-! ## The kernel at a point -/

/-- The buffers that a point works on. -/
abbrev b0 (t : Fin (cfgM m hO).N) : Memref sig .tc .vmem S1024x1024 .bf16 := spec0_0.stage ((cfgM m hO).slots t 0)
abbrev b1 (t : Fin (cfgM m hO).N) : Memref sig .tc .vmem S1x2752x1024 .bf16 := spec0_1.stage ((cfgM m hO).slots t 1)
abbrev b2 (t : Fin (cfgM m hO).N) : Memref sig .tc .vmem S1x1024x2752 .bf16 := spec0_2.stage ((cfgM m hO).slots t 2)
abbrev bodyAt (t : Fin (cfgM m hO).N) : Prog (TpuEff nD τ sig (Elt F) Λ₀ .tc) PUnit :=
  body (grid0.coords t) (b0 m hO t) (hstage0_0 (((cfgM m hO).slots t 0).cast nbuf0_0)) (b1 m hO t) (hstage0_1 (((cfgM m hO).slots t 1).cast nbuf0_1))
    (b2 m hO t) (hstage0_2 (((cfgM m hO).slots t 2).cast nbuf0_2)) scr (Memref.isWhole_whole _)

/-- What it is given, and what it gives back. -/
@[expose] def given (c : Dev nD) (t : Fin (cfgM m hO).N) : sProp 𝕄 :=
  iprop((dats m hO 0 c).Φ t.castSucc ∗ (dats m hO 0 c).owesAt () t.castSucc
    ∗ (∃ d, owns (c : Thread nD τ) (b0 m hO t) fullShare ((dats m hO 0 c).before 0 t d))
    ∗ (∃ d, owns (c : Thread nD τ) (b1 m hO t) fullShare ((dats m hO 0 c).before 1 t d))
    ∗ (∃ d, owns (c : Thread nD τ) (b2 m hO t) fullShare ((dats m hO 0 c).before 2 t d)))
@[expose] def back (c : Dev nD) (t : Fin (cfgM m hO).N) : sProp 𝕄 :=
  iprop((dats m hO 0 c).Φ t.succ ∗ (dats m hO 0 c).owesAt () t.succ
    ∗ (dats m hO 0 c).leavesExact 0 t ∗ (dats m hO 0 c).leavesExact 1 t ∗ (dats m hO 0 c).leavesExact 2 t)

theorem given_eq (c : Dev nD) (t : Fin (cfgM m hO).N) : given m hO c t
    = iprop((kept m hO c t.val (Nat.le_of_lt t.isLt) ∗ half c tab (tbl m 0)) ∗ (dats m hO 0 c).owesAt () t.castSucc
      ∗ (∃ d : Vec F S1024x1024 .bf16, owns (c : Thread nD τ) (b0 m hO t) fullShare (xb m hO c t))
      ∗ (∃ d : Vec F S1x2752x1024 .bf16, owns (c : Thread nD τ) (b1 m hO t) fullShare (yb m hO c t))
      ∗ (∃ d, owns (c : Thread nD τ) (b2 m hO t) fullShare ((dats m hO 0 c).before 2 t d))) := by
  unfold given
  simp only [before0, before1]
  rw [← half_eq]
  rfl

theorem back_eq (c : Dev nD) (t : Fin (cfgM m hO).N) : back m hO c t
    = iprop(((owns (c : Thread nD τ) scr fullShare (acc m hO c t.val t.isLt) ∗ (∃ r, prngReg c r)) ∗ half c tab (tbl m 0)) ∗ (dats m hO 0 c).owesAt () t.castSucc
      ∗ owns (c : Thread nD τ) (b0 m hO t) fullShare (xb m hO c t) ∗ owns (c : Thread nD τ) (b1 m hO t) fullShare (yb m hO c t)
      ∗ (dats m hO 0 c).leavesExact 2 t) := by
  unfold back
  rw [show (dats m hO 0 c).leavesExact 0 t = owns (c : Thread nD τ) (b0 m hO t) fullShare ((dats m hO 0 c).after 0 t) from rfl,
    show (dats m hO 0 c).leavesExact 1 t = owns (c : Thread nD τ) (b1 m hO t) fullShare ((dats m hO 0 c).after 1 t) from rfl, after0, after1, ← half_eq]
  rfl

theorem sound_first (c : Dev nD) (t : Fin (cfgM m hO).N) (h : t.val % 4 = 0) :
    given m hO c t ⊢ wp frame (wpE (defs₀ (F := F)) Variants.none c none) Set.univ (bodyAt m hO t) (fun _ => back m hO c t) := by
  rw [given_eq, back_eq, Dat.leavesExact_idle (dats m hO 0 c) 2 t (idle_of t (by omega)) (noFlush m hO t (by omega)), acc_first m hO c t h]
  refine BIBase.Entails.trans (Q := iprop(((iprop(∃ d, owns (c : Thread nD τ) scr fullShare d) ∗ (∃ r, prngReg c r)) ∗ half c tab (tbl m 0)) ∗ (dats m hO 0 c).owesAt () t.castSucc
      ∗ (∃ d : Vec F S1024x1024 .bf16, owns (c : Thread nD τ) (b0 m hO t) fullShare (xb m hO c t))
      ∗ (∃ d : Vec F S1x2752x1024 .bf16, owns (c : Thread nD τ) (b1 m hO t) fullShare (yb m hO c t))
      ∗ (∃ d, owns (c : Thread nD τ) (b2 m hO t) fullShare ((dats m hO 0 c).before 2 t d))))
    (sep_mono_l (sep_mono_l (kept_any m hO c _ _))) ?_
  iintro ⟨⟨⟨⟨%w, HS⟩, Hg⟩, HT⟩, Ho, ⟨%d0, H0⟩, ⟨%d1, H1⟩, ⟨%d2, H2⟩⟩
  iapply (first c (grid0.coords t) _ _ _ _ _ _ _ _ (xb m hO c t) (yb m hO c t) _ w (tbl m 0) ((isFirst_iff t).mpr h)
    (fun e => by have := (isNext_iff t).mp e; omega) (fun e => by have := (isLast_iff t).mp e; omega) Set.univ _)
  isplitl [H0 H1 H2 HS HT]
  · isplitl [H0]; · iexact H0
    isplitl [H1]; · iexact H1
    isplitl [H2]; · iexact H2
    isplitl [HS]; · iexact HS
    iexact HT
  iintro ⟨H0, H1, H2, HS, HT⟩
  isplitl [HS Hg HT]
  · isplitl [HS Hg]
    · isplitl [HS]; · iexact HS
      iexact Hg
    iexact HT
  isplitl [Ho]; · iexact Ho
  isplitl [H0]; · iexact H0
  isplitl [H1]; · iexact H1
  iexists _; iexact H2

theorem sound_next (c : Dev nD) (t : Fin (cfgM m hO).N) (h : t.val % 4 ≠ 0) (h3 : t.val % 4 ≠ 3) :
    given m hO c t ⊢ wp frame (wpE (defs₀ (F := F)) Variants.none c none) Set.univ (bodyAt m hO t) (fun _ => back m hO c t) := by
  rw [given_eq, back_eq, Dat.leavesExact_idle (dats m hO 0 c) 2 t (idle_of t h3) (noFlush m hO t h3), acc_next m hO c t h h3,
    kept_pos m hO c _ _ (by omega)]
  iintro ⟨⟨⟨HS, Hg⟩, HT⟩, Ho, ⟨%d0, H0⟩, ⟨%d1, H1⟩, ⟨%d2, H2⟩⟩
  iapply (next c (grid0.coords t) _ _ _ _ _ _ _ _ (xb m hO c t) (yb m hO c t) _ (before m hO c t) (tbl m 0) (fun e => h ((isFirst_iff t).mp e))
    ((isNext_iff t).mpr (by omega)) (fun e => h3 ((isLast_iff t).mp e)) Set.univ _)
  isplitl [H0 H1 H2 HS HT]
  · isplitl [H0]; · iexact H0
    isplitl [H1]; · iexact H1
    isplitl [H2]; · iexact H2
    isplitl [HS]; · iexact HS
    iexact HT
  iintro ⟨H0, H1, H2, HS, HT⟩
  isplitl [HS Hg HT]
  · isplitl [HS Hg]
    · isplitl [HS]; · iexact HS
      iexact Hg
    iexact HT
  isplitl [Ho]; · iexact Ho
  isplitl [H0]; · iexact H0
  isplitl [H1]; · iexact H1
  iexists _; iexact H2

theorem sound_last (c : Dev nD) (t : Fin (cfgM m hO).N) (h : t.val % 4 = 3) :
    given m hO c t ⊢ wp frame (wpE (defs₀ (F := F)) Variants.none c none) Set.univ (bodyAt m hO t) (fun _ => back m hO c t) := by
  have e2 : (dats m hO 0 c).leavesExact 2 t = owns (c : Thread nD τ) (b2 m hO t) fullShare ((dats m hO 0 c).after 2 t) := by
    unfold Dat.leavesExact; rw [show (cfgM m hO).idle 2 ((cfgM m hO).grid.coords t) = false from live_of t h]; rfl
  rw [given_eq, back_eq, e2, after2, acc_last m hO c t h, kept_pos m hO c _ _ (by omega)]
  iintro ⟨⟨⟨HS, Hg⟩, HT⟩, Ho, ⟨%d0, H0⟩, ⟨%d1, H1⟩, ⟨%d2, H2⟩⟩
  iapply (last c (grid0.coords t) _ _ _ _ _ _ _ _ (xb m hO c t) (yb m hO c t) _ (before m hO c t) (tbl m 0)
    (fun e => by have := (isFirst_iff t).mp e; omega) (fun e => by have := (isNext_iff t).mp e; omega) ((isLast_iff t).mpr h) Set.univ _)
  isplitl [H0 H1 H2 HS HT]
  · isplitl [H0]; · iexact H0
    isplitl [H1]; · iexact H1
    isplitl [H2]; · iexact H2
    isplitl [HS]; · iexact HS
    iexact HT
  iintro ⟨H0, H1, H2, HS, HT⟩
  isplitl [HS Hg HT]
  · isplitl [HS Hg]
    · isplitl [HS]; · iexact HS
      iexact Hg
    iexact HT
  isplitl [Ho]; · iexact Ho
  isplitl [H0]; · iexact H0
  isplitl [H1]; · iexact H1
  iexact H2

theorem sound (c : Dev nD) (t : Fin (cfgM m hO).N) :
    given m hO c t ⊢ wp frame (wpE (defs₀ (F := F)) Variants.none c none) Set.univ (bodyAt m hO t) (fun _ => back m hO c t) := by
  by_cases h : t.val % 4 = 0
  · exact sound_first m hO c t h
  · by_cases h3 : t.val % 4 = 3
    · exact sound_last m hO c t h3
    · exact sound_next m hO c t h h3

theorem obligation (c : Dev nD) : BodyObligation (dats (F := F) m hO 0 c) (defs₀ (F := F)) Variants.none () Set.univ := fun t => by
  rw [bigSep_W0, bigSep_W0, show defs₀ (F := F) .tc (cfgM m hO).body ((cfgM m hO).bodyArgs t ((cfgM m hO).slots t)) = bodyAt m hO t from by
    unfold defs₀; rw [Defs.onTc_tc]]
  exact triple_restated (sound m hO c t) rfl .rfl fun _ => .rfl

/-! ## The run -/

/-- The last point's sum is forgotten. -/
theorem hout (c : Dev nD) : (dats m hO 0 c).Φ (Fin.last (cfgM m hO).N) ⊢ Pipeline.ΦA spec0 c := by
  refine BIBase.Entails.trans (Q := iprop(kept m hO c (cfgM m hO).N le_rfl ∗ Pipeline.ΦT pre0 (tbl m) c)) .rfl ?_
  rw [scratch_eq]
  refine BIBase.Entails.trans (Q := iprop((iprop(∃ d, owns (c : Thread nD τ) scr fullShare d) ∗ (∃ r, prngReg c r)) ∗ Pipeline.ΦT pre0 (tbl m) c))
    (sep_mono_l (kept_any m hO c _ _)) ?_
  iintro ⟨H, -⟩
  iexact H

set_option backward.isDefEq.respectTransparency.types false in
/-- The program ends, its array at what the points wrote, every other at what the call found, and no semaphore raised. -/
theorem run_quiet : θ_run defs (onTc (τ := τ) (main (F := F))) (s₀ m g)
    (fun r => Pipeline.FramePost (Pipeline.pin pcfgs fun _ => adm m hO) (dats m hO) 0 (V m) r ∧ r.2.sem = fun _ => 0) :=
  Pipeline.θ_run_frameP_track (Q' := _) pcfgs (fun _ => adm m hO) (dats m hO) (0 : Fin 1) launch0 defs₀ Variants.none m g main
    (hbody := fun c => (obligation m hO c).loose) (hshare := fun c => (dats m hO 0 c).share_full fun _ => rfl)
    (howed := fun _ _ => rfl) (V := V m) (hmain := hmain m Variants.none) (hA := A_eq m hO) (hpf := V_pre m)
    (hin := fun c => .rfl) (hout := hout m hO)

/-- The result's array after the run, and the arguments as they were. -/
theorem run : θ_run defs (onTc (τ := τ) (main (F := F))) ⟨m, fun _ => 0, g⟩ (fun r => (∀ c : Dev nD,
      r.2.mem ((c.tc : Thread nD τ).loc main_v0) = (dats m hO 0 c).arrAt 2 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c => ⟨(h.1 c).1 2,
    ((h.1 c).1 0).trans (((dats m hO 0 c).arrAt_in 0 rfl _).trans (A_eq m hO c 0)),
    ((h.1 c).1 1).trans (((dats m hO 0 c).arrAt_in 1 rfl _).trans (A_eq m hO c 1)),
    (h.1 c).2 main_arg2 (by decide : main_arg2 ∈ Pipeline.restRefs sig spec0)⟩, h.2⟩) (run_quiet m g hO)

end Blocks

end Cert.UpNearIdeal.Product
end
-- ==== Proof.Mul.UpNear.lean ====
/- The expanding product's first stage: the product of the feed-forward network's modulated input with the two groups of the weight that the
   table lists. The result's other groups are left to the later stages. -/
module

public import proofs.«01_k».proof.Defs
public import proofs.«01_k».proof.Proof.Mul.Blocks
public import proofs.«01_k».proof.Proof.Mul.UpNearRun
public import proofs.«01_k».proof.Proof.Gen.UpNear.Launch
public import proofs.«01_k».proof.Proof.Gen.RefUpNearIdeal.Run
public import Idealize.ShloMosaic.Lib.Pipeline.ValueKit.Acc
public import Idealize.ShloMosaic.Lib.Pipeline.ValueKit.Geometry
public import Idealize.ShloMosaic.Lib.Pointwise

public section
open Idealize.ShloMosaic Idealize.ShloMosaic.Ideal
set_option maxRecDepth 16384
noncomputable section

namespace Cert.UpNearIdeal.Product
open Cert.UpNearIdeal Cert.UpNearIdeal.Gen Cert.Mul Idealize.ShloMosaic.TcCoe

/-- The precondition's side conditions. -/
theorem preFacts : Cert.Pre_up_near_ids.Facts := ⟨by decide⟩

/-- Its tables are in range. -/
theorem ok_of_pre {F : FTy → Type} [FloatOps F] (m : (ℓ : Loc nD τ sig) → Buf (Elt F) ℓ)
    (h : ∀ c : Dev nD, @Cert.Pre_up_near_ids.fn preFacts F _ (m ((c.tc : Thread nD τ).loc main_arg0)) (m ((c.tc : Thread nD τ).loc main_arg1))
      (m ((c.tc : Thread nD τ).loc main_arg2)) = fun _ => 1#1) : Ok m :=
  ok_of (tbl m) fun x => Cert.Mul.toNat_lt_of_range _ (congrFun (h 0) x)

variable (m : (ℓ : Loc nD τ sig) → Buf (Elt Ideal) ℓ) (hO : Ok m) (c : Dev nD)

/-- The arguments, on a core. -/
@[expose] def X : S4096x4096.Idx → EReal := m ((c : Thread nD τ).loc main_arg0)
@[expose] def Y : S8x2752x4096.Idx → EReal := m ((c : Thread nD τ).loc main_arg1)
@[expose] def ids : S2.Idx → BitVec 32 := m ((c : Thread nD τ).loc main_arg2)

/-- The table that the call reads is the third argument. -/
theorem tbl_eq : (tbl m 0 : S2.Idx → BitVec 32) = ids m c := by
  obtain rfl : c = 0 := Subsingleton.elim _ _
  rfl

/-- The blocks at a point. -/
abbrev w0 (t : Fin (cfgM m hO).N) : Fin 2 → ℕ := ((cfgM m hO).win 0).index t
abbrev w1 (t : Fin (cfgM m hO).N) : Fin 3 → ℕ := ((cfgM m hO).win 1).index t
abbrev w2 (t : Fin (cfgM m hO).N) : Fin 3 → ℕ := ((cfgM m hO).win 2).index t
theorem idx0 : ∀ t : Fin (cfgM m hO).N, w0 m hO t = ![t.val / 8, t.val % 4] :=
  (by decide +kernel : ∀ t : Fin grid0.N, cc0_transform_0 (grid0.coords t) = ![t.val / 8, t.val % 4])
theorem idx1 (t : Fin (cfgM m hO).N) : w1 m hO t = ![grp (ids m c) (t.val / 4 % 2), 0, t.val % 4] := by
  rw [← tbl_eq, ← entryOf t, ← turn t]; exact ix1_eq (tbl m) _
theorem idx2 (t : Fin (cfgM m hO).N) : w2 m hO t = ![grp (ids m c) (t.val / 4 % 2), t.val / 8, 0] := by
  rw [← tbl_eq, ← row t, ← entryOf t]; exact ix2_eq (tbl m) _

/-- The product of point `n`'s blocks, at row `p` and column `q`. -/
@[expose] def term (p q n : ℕ) : EReal :=
  ∑ k ∈ Finset.range 1024, at2 (X m c) (1024 * (n / 8) + p) (1024 * (n % 4) + k) * at3 (Y m c) (grp (ids m c) (n / 4 % 2)) q (1024 * (n % 4) + k)

theorem term_eq (t : Fin (cfgM m hO).N) (p : Fin 1024) (q : Fin 2752) :
    (∑ k : Fin 1024, (xb m hO c t (ValueIdx.ix2 p k) * yb m hO c t (ValueIdx.ix3 0 q k) : EReal)) = term m c p.val q.val t.val := by
  have a0 : w0 m hO t 0 = t.val / 8 := congrFun (idx0 m hO t) 0
  have a1 : w0 m hO t 1 = t.val % 4 := congrFun (idx0 m hO t) 1
  have b0 : w1 m hO t 0 = grp (ids m c) (t.val / 4 % 2) := congrFun (idx1 m hO c t) 0
  have b1 : w1 m hO t 1 = 0 := congrFun (idx1 m hO c t) 1
  have b2 : w1 m hO t 2 = t.val % 4 := congrFun (idx1 m hO c t) 2
  rw [term, Finset.sum_range]
  refine Finset.sum_congr rfl fun k _ => congrArg₂ (· * ·) ?_ ?_
  · refine at2_of (X m c) _ ?_ ?_
    · show w0 m hO t 0 * 1024 + 1 * p.val = _; omega
    · show w0 m hO t 1 * 1024 + 1 * k.val = _; omega
  · refine at3_of (Y m c) _ ?_ ?_ ?_
    · show w1 m hO t 0 * 1 + 1 * 0 = _; omega
    · show w1 m hO t 1 * 2752 + 1 * q.val = _; omega
    · show w1 m hO t 2 * 1024 + 1 * k.val = _; omega

/-- The first point of a run stores its product in the accumulator, -/
theorem stepA (t : Fin (cfgM m hO).N) (h0 : t.val % 4 = 0) (j : S1024x2752.Idx) :
    (acc m hO c t.val t.isLt j : EReal) = term m c (j 0).val (j 1).val t.val := by
  refine (congrFun (acc_first m hO c t h0) j).trans (Eq.trans ?_ (term_eq m hO c t (j 0) (j 1)))
  unfold k0_pay1
  pointwise
  rfl

/-- the next ones add theirs to it, -/
theorem stepB (n : ℕ) (h : n + 1 < (cfgM m hO).N) (h0 : (n + 1) % 4 ≠ 0) (h1 : (n + 1) % 4 ≠ 3) (j : S1024x2752.Idx) :
    (acc m hO c (n + 1) h j : EReal) = acc m hO c n (by omega) j + term m c (j 0).val (j 1).val (n + 1) := by
  refine (congrFun (acc_next m hO c ⟨n + 1, h⟩ h0 h1) j).trans
    (Eq.trans ?_ (congrArg (acc m hO c n (by omega) j + ·) (term_eq m hO c ⟨n + 1, h⟩ (j 0) (j 1))))
  unfold k0_pay2
  pointwise
  rfl

/-- and the last one writes the sum out. -/
theorem stepC (n : ℕ) (h : n + 1 < (cfgM m hO).N) (j : S1x1024x2752.Idx) :
    (outAt m hO c ⟨n + 1, h⟩ j : EReal) = acc m hO c n (by omega) (ValueIdx.ix2 (j 1) (j 2)) + term m c (j 1).val (j 2).val (n + 1) := by
  refine Eq.trans ?_ (congrArg (acc m hO c n (by omega) (ValueIdx.ix2 (j 1) (j 2)) + ·) (term_eq m hO c ⟨n + 1, h⟩ (j 1) (j 2)))
  unfold outAt k0_pay3
  pointwise
  rfl

/-- An element of a point's block of the result, in the array. -/
abbrev put (t : Fin (cfgM m hO).N) (j : S1x1024x2752.Idx) : S8x4096x2752.Idx := (((cfgM m hO).win 2).rect t).emb j

/-- The whole product. -/
@[expose] def prod (x : S4096x4096.Idx → EReal) (y : S8x2752x4096.Idx → EReal) : S8x4096x2752.Idx → EReal := fun i =>
  ∑ k ∈ Finset.range 4096, at2 x (i 1).val k * at3 y (i 0).val (i 2).val k

/-- The last point of a run writes its block of the product. -/
theorem point (t : Fin (cfgM m hO).N) (h3 : t.val % 4 = 3) (j : S1x1024x2752.Idx) :
    (outAt m hO c t j : EReal) = prod (X m c) (Y m c) (put m hO t j) := by
  have d0 : w2 m hO t 0 = grp (ids m c) (t.val / 4 % 2) := congrFun (idx2 m hO c t) 0
  have d1 : w2 m hO t 1 = t.val / 8 := congrFun (idx2 m hO c t) 1
  have d2 : w2 m hO t 2 = 0 := congrFun (idx2 m hO c t) 2
  have j0 : (j 0).val < 1 := (j 0).isLt
  have r0 : (put m hO t j 0).val = grp (ids m c) (t.val / 4 % 2) := by show w2 m hO t 0 * 1 + 1 * (j 0).val = _; omega
  have r1 : (put m hO t j 1).val = 1024 * (t.val / 8) + (j 1).val := by show w2 m hO t 1 * 1024 + 1 * (j 1).val = _; omega
  have r2 : (put m hO t j 2).val = (j 2).val := by show w2 m hO t 2 * 2752 + 1 * (j 2).val = _; omega
  have ht : 4 * (t.val / 4) + (4 - 1) = t.val := by omega
  have key := out_sum (J := 4) (fun n h => acc m hO c n h (ValueIdx.ix2 (j 1) (j 2))) (fun n h => outAt m hO c ⟨n, h⟩ j)
    (term m c (j 1).val (j 2).val) (by decide) (fun n h h0 => stepA m hO c ⟨n, h⟩ h0 _) (fun n h h0 h1 => stepB m hO c n h h0 h1 _)
    (fun n h _ => stepC m hO c n h j) (t.val / 4) (ht.trans_lt t.isLt)
  refine (congrArg (fun u => (outAt m hO c u j : EReal)) (Fin.ext ht.symm : t = ⟨4 * (t.val / 4) + (4 - 1), ht.trans_lt t.isLt⟩)).trans (key.trans ?_)
  rw [prod, ← sum_blocks 4 1024]
  refine Finset.sum_congr rfl fun s hs => Finset.sum_congr rfl fun k hk => ?_
  have hs : s < 4 := Finset.mem_range.1 hs
  rw [r0, r1, r2, show (4 * (t.val / 4) + s) / 8 = t.val / 8 by omega, show (4 * (t.val / 4) + s) % 4 = s by omega,
    show (4 * (t.val / 4) + s) / 4 = t.val / 4 by omega]

/-- The points write back the groups listed. -/
theorem covered (i : S8x4096x2752.Idx) (h : listed (ids m c) (i 0).val) :
    ∃ t : Fin (cfgM m hO).N, ((cfgM m hO).win 2).flush t = true ∧ i ∈ (((cfgM m hO).win 2).blk t).view.set := by
  have i0 : (i 0).val < 8 := (i 0).isLt
  have i1 : (i 1).val < 4096 := (i 1).isLt
  have i2 : (i 2).val < 2752 := (i 2).isLt
  obtain ⟨j, hj, h⟩ := h
  have hj : j < 2 := hj
  have ht : 8 * ((i 1).val / 1024) + 4 * j < (cfgM m hO).N := by show _ < grid0.N; rw [N_0]; omega
  obtain ⟨u, hu, e⟩ := exists_flush ((cfgM m hO).win 2) rfl _ ⟨8 * ((i 1).val / 1024) + 4 * j, ht⟩ rfl
  refine ⟨u, hu, (((cfgM m hO).win 2).emb_mem_blk_iff u i).mpr fun a => ?_⟩
  have e : w2 m hO u = ![grp (ids m c) ((8 * ((i 1).val / 1024) + 4 * j) / 4 % 2), (8 * ((i 1).val / 1024) + 4 * j) / 8, 0] := e.trans (idx2 m hO c _)
  have e0 : w2 m hO u 0 = grp (ids m c) ((8 * ((i 1).val / 1024) + 4 * j) / 4 % 2) := congrFun e 0
  have e1 : w2 m hO u 1 = (8 * ((i 1).val / 1024) + 4 * j) / 8 := congrFun e 1
  have e2 : w2 m hO u 2 = 0 := congrFun e 2
  rw [show (8 * ((i 1).val / 1024) + 4 * j) / 4 % 2 = j by omega] at e0
  match a with
  | ⟨0, _⟩ => show w2 m hO u 0 * 1 ≤ (i 0).val ∧ (i 0).val < w2 m hO u 0 * 1 + 1; omega
  | ⟨1, _⟩ => show w2 m hO u 1 * 1024 ≤ (i 1).val ∧ (i 1).val < w2 m hO u 1 * 1024 + 1024; omega
  | ⟨2, _⟩ => show w2 m hO u 2 * 2752 ≤ (i 2).val ∧ (i 2).val < w2 m hO u 2 * 2752 + 2752; omega

/-- The kernel's array after the run, where it is written. -/
theorem final (i : S8x4096x2752.Idx) (h : listed (ids m c) (i 0).val) :
    ((dats m hO 0 c).arrAt 2 (cfgM m hO).N : S8x4096x2752.Idx → EReal) i = prod (X m c) (Y m c) i := by
  refine ((dats m hO 0 c).arrAt_eq_piecewise 2 (prod (X m c) (Y m c)) (fun t hf => ?_) i).trans (if_pos (covered m hO c i h))
  funext j
  show (dats m hO 0 c).after 2 t j = _
  rw [after2]
  refine point m hO c t (by_contra fun h3 => ?_) j
  rw [noFlush m hO t h3] at hf
  cases hf

/-- The mask's side conditions. -/
theorem maskFacts : Cert.On_up_near_part.Facts := by
  constructor
  all_goals first | decide | exact Cert.RefUpNearIdeal.Gen.facts.1

/-- The mask says that an element's group is listed. -/
theorem mask (x : FVec Ideal S4096x4096 .bf16) (y : FVec Ideal S8x2752x4096 .bf16) (s : IVec S2 32) (i : S8x4096x2752.Idx)
    (h : @Cert.On_up_near_part.fn maskFacts Ideal _ x y s i = 1#1) : listed s (i 0).val := by
  unfold Cert.On_up_near_part.fn at h
  have i0 : (i 0).val < 8 := (i 0).isLt
  refine (flags2 s (by omega)).mp (Eq.trans ?_ h)
  pointwise
  rfl

end Cert.UpNearIdeal.Product

namespace Cert.RefUpNearIdeal.Product
open Cert Cert.RefUpNearIdeal Cert.RefUpNearIdeal.Gen Cert.Mul

/-- The reference's array holds the whole product. -/
theorem value (x : FVec Ideal S4096x4096 .bf16) (y : FVec Ideal S8x2752x4096 .bf16) :
    (transpose S8x4096x2752 [1, 0, 2] (shapeCast _ (truncf .bf16 (Host.dotGeneral (F := Ideal) dot_S4096x4096_S4096x22016_S4096x22016_1_0_0_1_n_n none
      (extf .f32 x bitsLt_bf16_f32) (shapeCast _ (transpose S4096x8x2752 [2, 0, 1] (extf .f32 y bitsLt_bf16_f32) transposes_S8x2752x4096_S4096x8x2752_2_0_1)
        shapeCasts_S4096x8x2752_S4096x22016)) bitsLt_bf16_f32) shapeCasts_S4096x22016_S4096x8x2752) transposes_S4096x8x2752_S8x4096x2752_1_0_2 :
        FVec Ideal S8x4096x2752 .bf16) = Cert.UpNearIdeal.Product.prod x y := by
  funext i
  pointwise
  show _ = ∑ k ∈ Finset.range 4096, _
  rw [Finset.sum_range]
  exact Finset.sum_congr rfl fun k _ => congrArg₂ (· * ·) (at2_of x _ rfl rfl) (at3_of y _ rfl rfl rfl)

/-- It leaves its arguments, and has no semaphore, whatever the table. -/
theorem frame : quiescent_RefUpNearIdeal (hRefUpNearIdeal := facts) := fun m g _ =>
  (θ_run defs _ _).mono (fun r h => ⟨fun c => (h c).2, sem_eq_zero_of_no_sems (by decide) r.2⟩) (Value.run m g)

end Cert.RefUpNearIdeal.Product

/-- The two runs agree where the mask is set. -/
theorem Cert.UpNearIdeal.Product.claim :
    Cert.algebraic_UpNearIdeal_RefUpNearIdeal_on_up_near_part (hUpNearIdeal := Cert.UpNearIdeal.Gen.facts)
      (hRefUpNearIdeal := Cert.RefUpNearIdeal.Gen.facts) (hPre_up_near_ids := preFacts) (hOn_up_near_part := maskFacts) :=
  fun m g m' g' h e => ⟨fun c => prod (X m c) (Y m c),
    (θ_run Cert.UpNearIdeal.defs _ _).mono (fun _ h' c => ⟨fun i hi => (congrFun (h'.1 c).1 i).trans (final m (ok_of_pre m h) c i (mask _ _ _ i hi)),
      (h'.1 c).2⟩) (run m g (ok_of_pre m h)),
    (θ_run Cert.RefUpNearIdeal.defs _ _).mono (fun _ h c => ⟨fun i _ => congrFun ((h c).1.trans
      ((Cert.RefUpNearIdeal.Product.value _ _).trans (congrArg₂ prod (e c).1 (e c).2.1))) i, (h c).2⟩)
      (Cert.RefUpNearIdeal.Value.run m' g')⟩

/-! The programs over words and over the ideal numbers have one text, so the first has the second's run. -/

namespace Cert.UpNearIdeal.Product

/-- The kernels' functions are one. -/
theorem kernel_eq : @Cert.UpNear.cc0_mm_up_near Bits _ Cert.UpNear.Gen.facts = @cc0_mm_up_near Bits _ Gen.facts := by
  delta Cert.UpNear.cc0_mm_up_near cc0_mm_up_near; rfl

/-- So are what their labels run, -/
theorem defs₀_eq : @Cert.UpNear.defs₀ Bits _ Cert.UpNear.Gen.facts = @defs₀ Bits _ Gen.facts := by
  delta Cert.UpNear.defs₀ defs₀
  refine congrArg Defs.onTc (funext fun l => funext fun x => ?_)
  match l, x with
  | ⟨0, _⟩, (t, s) =>
    show Cert.UpNear.cc0_mm_up_near _ _ _ _ _ _ _ _ _ _ _ = _
    rw [kernel_eq]; rfl

/-- with the pipeline too, -/
theorem defs_eq : @Cert.UpNear.defs Bits _ Cert.UpNear.Gen.facts = @defs Bits _ Gen.facts := by
  delta Cert.UpNear.defs defs
  exact congrArg (Pipeline.defs pcfgs) defs₀_eq

/-- and the programs. -/
theorem main_eq : @Cert.UpNear.main Bits _ Cert.UpNear.Gen.facts = @main Bits _ Gen.facts := rfl

end Cert.UpNearIdeal.Product

/-- The ideal program's frame. -/
theorem Cert.UpNearIdeal.Product.idealFrame :
    Cert.quiescent_UpNearIdeal (hUpNearIdeal := Cert.UpNearIdeal.Gen.facts) (hPre_up_near_ids := preFacts) := fun m g h =>
  (θ_run Cert.UpNearIdeal.defs _ _).mono (fun _ h => ⟨fun c => (h.1 c).2, h.2⟩) (run m g (ok_of_pre m h))

/-- The word program's frame. -/
theorem Cert.UpNearIdeal.Product.wordFrame :
    Cert.quiescent_UpNear (hUpNear := Cert.UpNear.Gen.facts) (hPre_up_near_ids := preFacts) := fun m g h => by
  rw [defs_eq, main_eq]
  exact (θ_run Cert.UpNearIdeal.defs _ _).mono (fun _ h => ⟨fun c => (h.1 c).2, h.2⟩) (run (F := Bits) m g (ok_of_pre (F := Bits) m h))
-- ==== Proof.Mul.UpRestRun.lean ====
/- The expanding product's later stages: the run of its kernel. Over the last axis of the grid the first step stores a product of blocks in
   the scratch array, the next two add theirs, and the last adds its own and writes the sum out. -/
module

public import proofs.«01_k».proof.Proof.Mul.Staged
public import proofs.«01_k».proof.Proof.Gen.UpRestIdeal.Launch
public import proofs.«01_k».proof.Proof.Gen.UpRestIdeal.Skeleton
public import Idealize.ShloMosaic.Lib.Affine
public import Idealize.ShloMosaic.Lib.Pipeline.FrameBody
public import Idealize.ShloMosaic.Lib.Ring
public import Idealize.ShloMosaic.Lib.Tactic
public import Idealize.ShloMosaic.Lib.VecWindow
public import Idealize.ShloMosaic.Lib.WordCmp

public section
set_option maxRecDepth 16384
noncomputable section

namespace Cert.UpRestIdeal.Product
open Cert.UpRestIdeal Cert.UpRestIdeal.Gen Cert.Mul
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The table -/

/-- The table's place that a point reads. -/
theorem place : ∀ j : Fin 3, (Scalar.indexCast (BitVec.ofNat 32 j.val) : Index).toNat = j.val := by decide

/-- The blocks of the weight and of the result, by the group that the table lists. -/
theorem ix1_eq (pf : pre0.Contents (Elt F)) (i : grid0.Coords) :
    cc0_transform_1 k0_off1_inb numel1_S1 pf i = ![grp (pf 0 : S3.Idx → BitVec 32) (i 1).val, 0, (i 2).val] := by
  have e : (pf.at 0 (Rect.unit (s := S3) ![(Scalar.indexCast (BitVec.ofNat 32 (i 1).val) : Index).toNat] S1.size (k0_off1_inb i)) numel1_S1 : BitVec 32).toNat
      = grp (pf 0 : S3.Idx → BitVec 32) (i 1).val := grp_of (pf 0 : S3.Idx → BitVec 32) _ (place (i 1))
  have e2 : (BitVec.ofNat 32 (i 2).val).toNat = (i 2).val := by
    have : (i 2).val < 4 := (i 2).isLt
    rw [BitVec.toNat_ofNat]; exact Nat.mod_eq_of_lt (by omega)
  exact congrArg₂ (fun a b => ![a, 0, b]) e e2
theorem ix3_eq (pf : pre0.Contents (Elt F)) (i : grid0.Coords) :
    cc0_transform_3 k0_off1_inb numel1_S1 pf i = ![grp (pf 0 : S3.Idx → BitVec 32) (i 1).val, (i 0).val, 0] := by
  have e : (pf.at 0 (Rect.unit (s := S3) ![(Scalar.indexCast (BitVec.ofNat 32 (i 1).val) : Index).toNat] S1.size (k0_off1_inb i)) numel1_S1 : BitVec 32).toNat
      = grp (pf 0 : S3.Idx → BitVec 32) (i 1).val := grp_of (pf 0 : S3.Idx → BitVec 32) _ (place (i 1))
  have e0 : (BitVec.ofNat 32 (i 0).val).toNat = (i 0).val := by
    have : (i 0).val < 4 := (i 0).isLt
    rw [BitVec.toNat_ofNat]; exact Nat.mod_eq_of_lt (by omega)
  exact congrArg₂ (fun a b => ![a, b, 0]) e e0

/-- A table in range is admissible. -/
theorem ok_of (pf : pre0.Contents (Elt F)) (h : ∀ x, (pf 0 x : BitVec 32).toNat < 8) : ok0 pf := by
  have hg : ∀ j, grp (pf 0 : S3.Idx → BitVec 32) j < 8 := grp_lt h
  refine ⟨fun i => ⟨?_, .inr ?_⟩, fun i => ⟨?_, .inr ?_⟩⟩
  · rw [ix1_eq]
    have := hg (i 1).val
    have h2 : (i 2).val < 4 := (i 2).isLt
    intro a
    match a with
    | ⟨0, _⟩ => show (grp _ _ + 1) * 1 ≤ 8; omega
    | ⟨1, _⟩ => show (0 + 1) * 2752 ≤ 2752; omega
    | ⟨2, _⟩ => show ((i 2).val + 1) * 1024 ≤ 4096; omega
  · exact Affine.words_rows (by decide) (by rw [ix1_eq]; rfl) rfl
  · rw [ix3_eq]
    have := hg (i 1).val
    have h0 : (i 0).val < 4 := (i 0).isLt
    intro a
    match a with
    | ⟨0, _⟩ => show (grp _ _ + 1) * 1 ≤ 8; omega
    | ⟨1, _⟩ => show ((i 0).val + 1) * 1024 ≤ 4096; omega
    | ⟨2, _⟩ => show (0 + 1) * 2752 ≤ 2752; omega
  · exact Affine.words_of_packed (Affine.packed_dvd (by decide) (by rw [ix3_eq]; exact Dvd.intro_left _ (Nat.mul_assoc (i 0).val 512 2)) (by decide))

/-! ## One step of the kernel -/

/-- The step's place in its run of four. -/
abbrev isFirst (i : grid0.Coords) : Prop := (Scalar.cmpi .ne (Scalar.extui (Scalar.cmpi .eq (BitVec.ofNat 32 (i 2).val) 0#32)) 0#32) = 1#1
abbrev isNext (i : grid0.Coords) : Prop :=
  (Scalar.cmpi .ne (Scalar.extui (Scalar.andi (Scalar.cmpi .sgt (BitVec.ofNat 32 (i 2).val) 0#32) (Scalar.cmpi .slt (BitVec.ofNat 32 (i 2).val) 3#32))) 0#32) = 1#1
abbrev isLast (i : grid0.Coords) : Prop := k0_cond3 i = 1#1

/-- The scratch array and the table, whole, and the half of the table that the step holds. -/
abbrev scr : Memref sig .tc .vmem S1024x2752 .f32 := Memref.whole cc0_scratch0
abbrev tab : Memref sig .tc .smem S3 .i32 := Memref.whole main_arg2
abbrev TabBuf (c : Dev nD) : Type := Buf (Elt F) (tab.view.loc (c : Thread nD τ))
abbrev half (c : Dev nD) (M : Memref sig .tc .smem S3 .i32) (f : Buf (Elt F) (M.view.loc (c : Thread nD τ))) : sProp 𝕄 :=
  M.view.loc (c : Thread nD τ) ↦{fullShare.right} f

section Step
variable (c : Dev nD) (i : grid0.Coords)
  (a : Memref sig .tc .vmem S1024x1024 .bf16) (ha : a.IsWhole) (b : Memref sig .tc .vmem S1x2752x1024 .bf16) (hb : b.IsWhole)
  (o : Memref sig .tc .vmem S1x1024x2752 .bf16) (ho : o.IsWhole) (s : Memref sig .tc .vmem S1024x2752 .f32) (hs : s.IsWhole)
  (x : Vec F S1024x1024 .bf16) (y : Vec F S1x2752x1024 .bf16) (z : Vec F S1x1024x2752 .bf16) (w : Vec F S1024x2752 .f32) (xt : TabBuf (F := F) c)

/-- The body of the kernel, on whole buffers. -/
abbrev body : Prog (TpuEff nD τ sig (Elt F) Λ₀ .tc) PUnit :=
  cc0_mm_up_ici i tab (Memref.isWhole_whole _) a ha b hb (Memref.whole main_arg3) (Memref.isWhole_whole _) o ho s hs

/-- What a step holds: its two blocks, the result's block, the scratch array and the table. -/
abbrev holds (z : Vec F S1x1024x2752 .bf16) (w : Vec F S1024x2752 .f32) : sProp 𝕄 :=
  iprop(owns (c : Thread nD τ) a fullShare x ∗ owns (c : Thread nD τ) b fullShare y ∗ owns (c : Thread nD τ) o fullShare z
    ∗ owns (c : Thread nD τ) s fullShare w ∗ half c tab xt)

/-- The first step leaves the product in the scratch array, -/
theorem first (h0 : isFirst i) (h1 : ¬isNext i) (h2 : ¬isLast i) (E : Set ℕ) (K : PUnit → sProp 𝕄) :
    iprop(holds c a b o s x y xt z w ∗ (holds c a b o s x y xt z (k0_pay1 x y) -∗ K ⟨⟩))
      ⊢ wp frame (wpE (defs₀ (F := F)) Variants.none c none) E (body i a ha b hb o ho s hs) K := by
  unfold body
  simp only [cc0_mm_up_ici_eq_skeleton]; unfold cc0_mm_up_ici_skel
  unfold holds owns
  iintro ⟨⟨⟨%f0, %hf0, H0⟩, ⟨%f1, %hf1, H1⟩, ⟨%f2, %hf2, H2⟩, ⟨%fs, %hfs, HS⟩, HT⟩, Hk⟩
  obtain rfl := ha.eq_unread hf0; obtain rfl := hb.eq_unread hf1; obtain rfl := ho.eq_unread hf2; obtain rfl := hs.eq_unread hfs
  sl_exec (disch := first | sl_exact h0 | sl_exact h1 | sl_exact h2)
  sl_step
  iapply Hk
  isplitl [H0]
  · iexists _; isplitr; · ipureintro; exact hf0
    iexact H0
  isplitl [H1]
  · iexists _; isplitr; · ipureintro; exact hf1
    iexact H1
  isplitl [H2]
  · iexists _; isplitr; swap; · iexact H2
    ipureintro; exact hf2
  isplitl [HS]
  · iexists _; isplitr; swap; · iexact HS
    ipureintro; exact (View.read_writes_full ..).trans (by rw [View.readAt_full, View.readAt_full, hf0, hf1])
  iexact HT

/-- the next ones add theirs to it, -/
theorem next (h0 : ¬isFirst i) (h1 : isNext i) (h2 : ¬isLast i) (E : Set ℕ) (K : PUnit → sProp 𝕄) :
    iprop(holds c a b o s x y xt z w ∗ (holds c a b o s x y xt z (k0_pay2 w x y) -∗ K ⟨⟩))
      ⊢ wp frame (wpE (defs₀ (F := F)) Variants.none c none) E (body i a ha b hb o ho s hs) K := by
  unfold body
  simp only [cc0_mm_up_ici_eq_skeleton]; unfold cc0_mm_up_ici_skel
  unfold holds owns
  iintro ⟨⟨⟨%f0, %hf0, H0⟩, ⟨%f1, %hf1, H1⟩, ⟨%f2, %hf2, H2⟩, ⟨%fs, %hfs, HS⟩, HT⟩, Hk⟩
  obtain rfl := ha.eq_unread hf0; obtain rfl := hb.eq_unread hf1; obtain rfl := ho.eq_unread hf2; obtain rfl := hs.eq_unread hfs
  sl_exec (disch := first | sl_exact h0 | sl_exact h1 | sl_exact h2)
  sl_step
  iapply Hk
  isplitl [H0]
  · iexists _; isplitr; · ipureintro; exact hf0
    iexact H0
  isplitl [H1]
  · iexists _; isplitr; · ipureintro; exact hf1
    iexact H1
  isplitl [H2]
  · iexists _; isplitr; swap; · iexact H2
    ipureintro; exact hf2
  isplitl [HS]
  · iexists _; isplitr; swap; · iexact HS
    ipureintro; exact (View.read_writes_full ..).trans (by rw [View.readAt_full, View.readAt_full, View.readAt_full, hfs, hf0, hf1])
  iexact HT

/-- and the last one writes the sum out. -/
theorem last (h0 : ¬isFirst i) (h1 : ¬isNext i) (h2 : isLast i) (E : Set ℕ) (K : PUnit → sProp 𝕄) :
    iprop(holds c a b o s x y xt z w ∗ (holds c a b o s x y xt (k0_pay3 w x y) w -∗ K ⟨⟩))
      ⊢ wp frame (wpE (defs₀ (F := F)) Variants.none c none) E (body i a ha b hb o ho s hs) K := by
  unfold body
  simp only [cc0_mm_up_ici_eq_skeleton]; unfold cc0_mm_up_ici_skel
  unfold holds owns
  iintro ⟨⟨⟨%f0, %hf0, H0⟩, ⟨%f1, %hf1, H1⟩, ⟨%f2, %hf2, H2⟩, ⟨%fs, %hfs, HS⟩, HT⟩, Hk⟩
  obtain rfl := ha.eq_unread hf0; obtain rfl := hb.eq_unread hf1; obtain rfl := ho.eq_unread hf2; obtain rfl := hs.eq_unread hfs
  sl_exec (disch := first | sl_exact h0 | sl_exact h1 | sl_exact h2)
  sl_step
  iapply Hk
  isplitl [H0]
  · iexists _; isplitr; · ipureintro; exact hf0
    iexact H0
  isplitl [H1]
  · iexists _; isplitr; · ipureintro; exact hf1
    iexact H1
  isplitl [H2]
  · iexists _; isplitr; swap; · iexact H2
    ipureintro; exact (View.read_writes_full ..).trans (by rw [View.readAt_full, View.readAt_full, View.readAt_full, hfs, hf0, hf1])
  isplitl [HS]
  · iexists _; isplitr; swap; · iexact HS
    ipureintro; exact hfs
  iexact HT

end Step

/-! ## The program up to the kernel's call -/

variable (m : (ℓ : Loc nD τ sig) → Buf (Elt F) ℓ) (g : Dev nD → PrngReg)

/-- The arrays that the call finds: the fourth argument is copied to the result's array before. -/
abbrev V (c : Dev nD) (b : Ref sig .tc) : Buf (Elt F) ((c : Thread nD τ).loc b) := StableHlo.after hostOps0 (fun b => m (c, b)) b

theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub (by simp only [List.Forall]; repeat' constructor) main_chain

/-- The copy writes no argument. -/
theorem V_of (c : Dev nD) (b : Ref sig .tc) (h : b ≠ main_v0) : V m c b = m ((c : Thread nD τ).loc b) :=
  StableHlo.after_of_forall_not_mem (b := Proc.devRef .tc b) _ _ (List.forall_iff_forall_mem.mp (by
    simp only [hostOps0, List.Forall, StableHlo.unary_writes, Finset.mem_singleton]
    exact StableHlo.devRef_ne_of_ne h))
theorem V_main_arg0 (c : Dev nD) : V m c main_arg0 = m ((c : Thread nD τ).loc main_arg0) := V_of m c _ (by decide)
theorem V_main_arg1 (c : Dev nD) : V m c main_arg1 = m ((c : Thread nD τ).loc main_arg1) := V_of m c _ (by decide)
theorem V_main_arg2 (c : Dev nD) : V m c main_arg2 = m ((c : Thread nD τ).loc main_arg2) := V_of m c _ (by decide)
theorem V_main_arg3 (c : Dev nD) : V m c main_arg3 = m ((c : Thread nD τ).loc main_arg3) := V_of m c _ (by decide)

/-- The table's contents, of which the call's condition is asked. -/
@[expose] def tbl : pre0.Contents (Elt F) := fun j => V m (0 : Dev nD) (pre0.ref j)
theorem V_pre (c : Dev nD) (j : Fin 1) : V m c (pre0.ref j) = tbl m j := by
  obtain rfl : c = 0 := Subsingleton.elim _ _; rfl
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The half of the table that the call hands to the kernel. -/
theorem half_eq (c : Dev nD) : (Pipeline.ΦT pre0 (tbl m) c : sProp 𝕄) = half c tab (tbl m 0) := by
  unfold Pipeline.ΦT Pipeline.prefHeld
  rw [show (Finset.univ : Finset (Fin 1)) = {(0 : Fin 1)} from by decide, bigSep_singleton]
  rfl

/-- The scratch array that it hands to the kernel, at anything. -/
theorem scratch_eq (c : Dev nD) :
    (Pipeline.ΦA spec0 c : sProp 𝕄) = iprop(iprop(∃ d, owns (c : Thread nD τ) scr fullShare d) ∗ (∃ r, prngReg c r)) := by
  unfold Pipeline.ΦA; rw [scopedRest0_eq]; simp only [scr, owns_whole]; rfl

/-! ## The grid -/

theorem row (t : Fin grid0.N) : (grid0.coords t 0).val = t.val / 12 := by
  have e : (grid0.coords t 0).val = t.val / 12 % 4 := Pipeline.Grid.coords_val t 0 (by decide) rfl
  have : t.val < 48 := lt_of_lt_of_eq t.isLt N_0
  omega
theorem entryOf (t : Fin grid0.N) : (grid0.coords t 1).val = t.val / 4 % 3 := Pipeline.Grid.coords_val t 1 (by decide) rfl
theorem turn (t : Fin grid0.N) : (grid0.coords t 2).val = t.val % 4 := by
  have e : (grid0.coords t 2).val = t.val / 1 % 4 := Pipeline.Grid.coords_val t 2 (by decide) rfl
  omega

/-- Which points are the first, the next and the last of their run. -/
theorem isFirst_iff : ∀ t : Fin grid0.N, isFirst (grid0.coords t) ↔ t.val % 4 = 0 := by decide +kernel
theorem isNext_iff : ∀ t : Fin grid0.N, isNext (grid0.coords t) ↔ (1 ≤ t.val % 4 ∧ t.val % 4 ≤ 2) := by decide +kernel
theorem isLast_iff : ∀ t : Fin grid0.N, isLast (grid0.coords t) ↔ t.val % 4 = 3 := by decide +kernel
theorem idle_of : ∀ t : Fin grid0.N, t.val % 4 ≠ 3 → idle0 2 (grid0.coords t) = true := by decide +kernel
theorem live_of : ∀ t : Fin grid0.N, t.val % 4 = 3 → idle0 2 (grid0.coords t) = false := by decide +kernel

section Blocks
variable (hO : Ok m)

/-- The block of the result at a point is that of the point before, but at the first of a run: it is written back at the last only. -/
theorem noFlush (t : Fin (cfgM m hO).N) (h : t.val % 4 ≠ 3) : ((cfgM m hO).win 2).flush t = false := by
  rw [← Bool.not_eq_true, ((cfgM m hO).win 2).flush_out rfl, not_or]
  have hN : t.val < 48 := lt_of_lt_of_eq t.isLt N_0
  refine ⟨fun e => ?_, fun ⟨hl, e⟩ => e ?_⟩
  · have e : t.val + 1 = grid0.N := e
    rw [N_0] at e; omega
  · refine (ix3_eq (tbl m) (grid0.coords ⟨t.val + 1, hl⟩)).trans (Eq.trans ?_ (ix3_eq (tbl m) (grid0.coords t)).symm)
    rw [row, entryOf, row t, entryOf t, show (t.val + 1) / 12 = t.val / 12 by omega, show (t.val + 1) / 4 = t.val / 4 by omega]

/-- A window's block at a point. -/
@[expose] def iblk (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))
abbrev xb (c : Dev nD) (t : Fin (cfgM m hO).N) : Vec F S1024x1024 .bf16 := iblk m hO c 0 t
abbrev yb (c : Dev nD) (t : Fin (cfgM m hO).N) : Vec F S1x2752x1024 .bf16 := iblk m hO c 1 t

/-- What the scratch array holds after a point, -/
@[expose] def acc (c : Dev nD) : (n : ℕ) → n < (cfgM m hO).N → Vec F S1024x2752 .f32
  | 0, h => k0_pay1 (xb m hO c ⟨0, h⟩) (yb m hO c ⟨0, h⟩)
  | n + 1, h =>
    if (n + 1) % 4 = 0 then k0_pay1 (xb m hO c ⟨n + 1, h⟩) (yb m hO c ⟨n + 1, h⟩)
    else if (n + 1) % 4 = 3 then acc c n (Nat.lt_of_succ_lt h)
    else k0_pay2 (acc c n (Nat.lt_of_succ_lt h)) (xb m hO c ⟨n + 1, h⟩) (yb m hO c ⟨n + 1, h⟩)

/-- before it, -/
abbrev before (c : Dev nD) (t : Fin (cfgM m hO).N) : Vec F S1024x2752 .f32 := acc m hO c (t.val - 1) (Nat.lt_of_le_of_lt (Nat.sub_le _ _) t.isLt)

/-- and what the last point of a run writes out. -/
@[expose] def outAt (c : Dev nD) (t : Fin (cfgM m hO).N) : Vec F S1x1024x2752 .bf16 := k0_pay3 (before m hO c t) (xb m hO c t) (yb m hO c t)

theorem acc_first (c : Dev nD) (t : Fin (cfgM m hO).N) (h : t.val % 4 = 0) :
    acc m hO c t.val t.isLt = k0_pay1 (xb m hO c t) (yb m hO c t) := by
  obtain ⟨n, hn⟩ := t
  cases n with
  | zero => rfl
  | succ n => exact if_pos h
theorem acc_next (c : Dev nD) (t : Fin (cfgM m hO).N) (h : t.val % 4 ≠ 0) (h3 : t.val % 4 ≠ 3) :
    acc m hO c t.val t.isLt = k0_pay2 (before m hO c t) (xb m hO c t) (yb m hO c t) := by
  obtain ⟨n, hn⟩ := t
  cases n with
  | zero => exact absurd (Nat.zero_mod _) h
  | succ n => exact (if_neg h).trans (if_neg h3)
theorem acc_last (c : Dev nD) (t : Fin (cfgM m hO).N) (h : t.val % 4 = 3) : acc m hO c t.val t.isLt = before m hO c t := by
  obtain ⟨n, hn⟩ := t
  have h : n % 4 = 3 := h
  cases n with
  | zero => omega
  | succ n => exact (if_neg (by omega)).trans (if_pos h)

/-- What is held between the points: the scratch array, at anything before the first and at its sum after one. -/
@[expose] def kept (c : Dev nD) : (n : ℕ) → n ≤ (cfgM m hO).N → sProp 𝕄
  | 0, _ => Pipeline.ΦA spec0 c
  | n + 1, h => iprop(iprop(owns (c : Thread nD τ) scr fullShare (acc m hO c n h)) ∗ (∃ r, prngReg c r))

theorem kept_pos (c : Dev nD) (n : ℕ) (h : n ≤ (cfgM m hO).N) (hz : n ≠ 0) :
    kept m hO c n h = iprop(iprop(owns (c : Thread nD τ) scr fullShare (acc m hO c (n - 1) (by omega))) ∗ (∃ r, prngReg c r)) := by
  cases n with
  | zero => exact absurd rfl hz
  | succ n => rfl

/-- The sum may be forgotten. -/
theorem kept_any (c : Dev nD) (n : ℕ) (h : n ≤ (cfgM m hO).N) :
    kept m hO c n h ⊢ iprop(iprop(∃ d, owns (c : Thread nD τ) scr fullShare d) ∗ (∃ r, prngReg c r)) := by
  cases n with
  | zero => rw [show kept m hO c 0 h = _ from scratch_eq c]; try exact .rfl
  | succ n =>
    rw [kept_pos m hO c _ _ (Nat.succ_ne_zero n)]
    iintro ⟨HS, Hg⟩
    isplitl [HS]
    · iexists _; iexact HS
    iexact Hg

/-- The kernel's account: the arrays as the call finds them, and what each point leaves. -/
@[expose] def dats (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => outAt m hO c t
  Φ t := iprop(kept m hO c t.val (Nat.le_of_lt_succ t.isLt) ∗ Pipeline.ΦT pre0 (tbl m) c)
  q _ := fullShare
  owed _ := 0

theorem A_eq (c : Dev nD) (w : Fin (cfgM m hO).W) : (dats m hO 0 c).A w = V m c (Pipeline.arrRef spec0 w) := by dsimp only [dats]
theorem after0 (c : Dev nD) (t : Fin (cfgM m hO).N) : (dats m hO 0 c).after 0 t = iblk m hO c 0 t := by dsimp only [dats]; try rfl
theorem after1 (c : Dev nD) (t : Fin (cfgM m hO).N) : (dats m hO 0 c).after 1 t = iblk m hO c 1 t := by dsimp only [dats]; try rfl
theorem after2 (c : Dev nD) (t : Fin (cfgM m hO).N) : (dats m hO 0 c).after 2 t = outAt m hO c t := by dsimp only [dats]; try rfl

/-- An argument's buffer holds the point's block, fetched there or not. -/
theorem before0 (c : Dev nD) (t : Fin (cfgM m hO).N) (d) : (dats m hO 0 c).before 0 t d = iblk m hO c 0 t :=
  ((dats m hO 0 c).before_in_eq_fetched 0 rfl (fun _ => rfl) (fun _ _ _ => rfl)
    (fun t => by rw [after0]; unfold Dat.blockOf iblk; rw [A_eq]) t d).trans (by unfold Dat.fetched Dat.blockOf iblk; rw [A_eq]; rfl)
theorem before1 (c : Dev nD) (t : Fin (cfgM m hO).N) (d) : (dats m hO 0 c).before 1 t d = iblk m hO c 1 t :=
  ((dats m hO 0 c).before_in_eq_fetched 1 rfl (fun _ => rfl) (fun _ _ _ => rfl)
    (fun t => by rw [after1]; unfold Dat.blockOf iblk; rw [A_eq]) t d).trans (by unfold Dat.fetched Dat.blockOf iblk; rw [A_eq]; rfl)

/-! ## The kernel at a point -/

/-- The buffers that a point works on. -/
abbrev b0 (t : Fin (cfgM m hO).N) : Memref sig .tc .vmem S1024x1024 .bf16 := spec0_0.stage ((cfgM m hO).slots t 0)
abbrev b1 (t : Fin (cfgM m hO).N) : Memref sig .tc .vmem S1x2752x1024 .bf16 := spec0_1.stage ((cfgM m hO).slots t 1)
abbrev b2 (t : Fin (cfgM m hO).N) : Memref sig .tc .vmem S1x1024x2752 .bf16 := spec0_2.stage ((cfgM m hO).slots t 2)
abbrev bodyAt (t : Fin (cfgM m hO).N) : Prog (TpuEff nD τ sig (Elt F) Λ₀ .tc) PUnit :=
  body (grid0.coords t) (b0 m hO t) (hstage0_0 (((cfgM m hO).slots t 0).cast nbuf0_0)) (b1 m hO t) (hstage0_1 (((cfgM m hO).slots t 1).cast nbuf0_1))
    (b2 m hO t) (hstage0_2 (((cfgM m hO).slots t 2).cast nbuf0_2)) scr (Memref.isWhole_whole _)

/-- What it is given, and what it gives back. -/
@[expose] def given (c : Dev nD) (t : Fin (cfgM m hO).N) : sProp 𝕄 :=
  iprop((dats m hO 0 c).Φ t.castSucc ∗ (dats m hO 0 c).owesAt () t.castSucc
    ∗ (∃ d, owns (c : Thread nD τ) (b0 m hO t) fullShare ((dats m hO 0 c).before 0 t d))
    ∗ (∃ d, owns (c : Thread nD τ) (b1 m hO t) fullShare ((dats m hO 0 c).before 1 t d))
    ∗ (∃ d, owns (c : Thread nD τ) (b2 m hO t) fullShare ((dats m hO 0 c).before 2 t d)))
@[expose] def back (c : Dev nD) (t : Fin (cfgM m hO).N) : sProp 𝕄 :=
  iprop((dats m hO 0 c).Φ t.succ ∗ (dats m hO 0 c).owesAt () t.succ
    ∗ (dats m hO 0 c).leavesExact 0 t ∗ (dats m hO 0 c).leavesExact 1 t ∗ (dats m hO 0 c).leavesExact 2 t)

theorem given_eq (c : Dev nD) (t : Fin (cfgM m hO).N) : given m hO c t
    = iprop((kept m hO c t.val (Nat.le_of_lt t.isLt) ∗ half c tab (tbl m 0)) ∗ (dats m hO 0 c).owesAt () t.castSucc
      ∗ (∃ d : Vec F S1024x1024 .bf16, owns (c : Thread nD τ) (b0 m hO t) fullShare (xb m hO c t))
      ∗ (∃ d : Vec F S1x2752x1024 .bf16, owns (c : Thread nD τ) (b1 m hO t) fullShare (yb m hO c t))
      ∗ (∃ d, owns (c : Thread nD τ) (b2 m hO t) fullShare ((dats m hO 0 c).before 2 t d))) := by
  unfold given
  simp only [before0, before1]
  rw [← half_eq]
  rfl

theorem back_eq (c : Dev nD) (t : Fin (cfgM m hO).N) : back m hO c t
    = iprop(((owns (c : Thread nD τ) scr fullShare (acc m hO c t.val t.isLt) ∗ (∃ r, prngReg c r)) ∗ half c tab (tbl m 0)) ∗ (dats m hO 0 c).owesAt () t.castSucc
      ∗ owns (c : Thread nD τ) (b0 m hO t) fullShare (xb m hO c t) ∗ owns (c : Thread nD τ) (b1 m hO t) fullShare (yb m hO c t)
      ∗ (dats m hO 0 c).leavesExact 2 t) := by
  unfold back
  rw [show (dats m hO 0 c).leavesExact 0 t = owns (c : Thread nD τ) (b0 m hO t) fullShare ((dats m hO 0 c).after 0 t) from rfl,
    show (dats m hO 0 c).leavesExact 1 t = owns (c : Thread nD τ) (b1 m hO t) fullShare ((dats m hO 0 c).after 1 t) from rfl, after0, after1, ← half_eq]
  rfl

theorem sound_first (c : Dev nD) (t : Fin (cfgM m hO).N) (h : t.val % 4 = 0) :
    given m hO c t ⊢ wp frame (wpE (defs₀ (F := F)) Variants.none c none) Set.univ (bodyAt m hO t) (fun _ => back m hO c t) := by
  rw [given_eq, back_eq, Dat.leavesExact_idle (dats m hO 0 c) 2 t (idle_of t (by omega)) (noFlush m hO t (by omega)), acc_first m hO c t h]
  refine BIBase.Entails.trans (Q := iprop(((iprop(∃ d, owns (c : Thread nD τ) scr fullShare d) ∗ (∃ r, prngReg c r)) ∗ half c tab (tbl m 0)) ∗ (dats m hO 0 c).owesAt () t.castSucc
      ∗ (∃ d : Vec F S1024x1024 .bf16, owns (c : Thread nD τ) (b0 m hO t) fullShare (xb m hO c t))
      ∗ (∃ d : Vec F S1x2752x1024 .bf16, owns (c : Thread nD τ) (b1 m hO t) fullShare (yb m hO c t))
      ∗ (∃ d, owns (c : Thread nD τ) (b2 m hO t) fullShare ((dats m hO 0 c).before 2 t d))))
    (sep_mono_l (sep_mono_l (kept_any m hO c _ _))) ?_
  iintro ⟨⟨⟨⟨%w, HS⟩, Hg⟩, HT⟩, Ho, ⟨%d0, H0⟩, ⟨%d1, H1⟩, ⟨%d2, H2⟩⟩
  iapply (first c (grid0.coords t) _ _ _ _ _ _ _ _ (xb m hO c t) (yb m hO c t) _ w (tbl m 0) ((isFirst_iff t).mpr h)
    (fun e => by have := (isNext_iff t).mp e; omega) (fun e => by have := (isLast_iff t).mp e; omega) Set.univ _)
  isplitl [H0 H1 H2 HS HT]
  · isplitl [H0]; · iexact H0
    isplitl [H1]; · iexact H1
    isplitl [H2]; · iexact H2
    isplitl [HS]; · iexact HS
    iexact HT
  iintro ⟨H0, H1, H2, HS, HT⟩
  isplitl [HS Hg HT]
  · isplitl [HS Hg]
    · isplitl [HS]; · iexact HS
      iexact Hg
    iexact HT
  isplitl [Ho]; · iexact Ho
  isplitl [H0]; · iexact H0
  isplitl [H1]; · iexact H1
  iexists _; iexact H2

theorem sound_next (c : Dev nD) (t : Fin (cfgM m hO).N) (h : t.val % 4 ≠ 0) (h3 : t.val % 4 ≠ 3) :
    given m hO c t ⊢ wp frame (wpE (defs₀ (F := F)) Variants.none c none) Set.univ (bodyAt m hO t) (fun _ => back m hO c t) := by
  rw [given_eq, back_eq, Dat.leavesExact_idle (dats m hO 0 c) 2 t (idle_of t h3) (noFlush m hO t h3), acc_next m hO c t h h3,
    kept_pos m hO c _ _ (by omega)]
  iintro ⟨⟨⟨HS, Hg⟩, HT⟩, Ho, ⟨%d0, H0⟩, ⟨%d1, H1⟩, ⟨%d2, H2⟩⟩
  iapply (next c (grid0.coords t) _ _ _ _ _ _ _ _ (xb m hO c t) (yb m hO c t) _ (before m hO c t) (tbl m 0) (fun e => h ((isFirst_iff t).mp e))
    ((isNext_iff t).mpr (by omega)) (fun e => h3 ((isLast_iff t).mp e)) Set.univ _)
  isplitl [H0 H1 H2 HS HT]
  · isplitl [H0]; · iexact H0
    isplitl [H1]; · iexact H1
    isplitl [H2]; · iexact H2
    isplitl [HS]; · iexact HS
    iexact HT
  iintro ⟨H0, H1, H2, HS, HT⟩
  isplitl [HS Hg HT]
  · isplitl [HS Hg]
    · isplitl [HS]; · iexact HS
      iexact Hg
    iexact HT
  isplitl [Ho]; · iexact Ho
  isplitl [H0]; · iexact H0
  isplitl [H1]; · iexact H1
  iexists _; iexact H2

theorem sound_last (c : Dev nD) (t : Fin (cfgM m hO).N) (h : t.val % 4 = 3) :
    given m hO c t ⊢ wp frame (wpE (defs₀ (F := F)) Variants.none c none) Set.univ (bodyAt m hO t) (fun _ => back m hO c t) := by
  have e2 : (dats m hO 0 c).leavesExact 2 t = owns (c : Thread nD τ) (b2 m hO t) fullShare ((dats m hO 0 c).after 2 t) := by
    unfold Dat.leavesExact; rw [show (cfgM m hO).idle 2 ((cfgM m hO).grid.coords t) = false from live_of t h]; rfl
  rw [given_eq, back_eq, e2, after2, acc_last m hO c t h, kept_pos m hO c _ _ (by omega)]
  iintro ⟨⟨⟨HS, Hg⟩, HT⟩, Ho, ⟨%d0, H0⟩, ⟨%d1, H1⟩, ⟨%d2, H2⟩⟩
  iapply (last c (grid0.coords t) _ _ _ _ _ _ _ _ (xb m hO c t) (yb m hO c t) _ (before m hO c t) (tbl m 0)
    (fun e => by have := (isFirst_iff t).mp e; omega) (fun e => by have := (isNext_iff t).mp e; omega) ((isLast_iff t).mpr h) Set.univ _)
  isplitl [H0 H1 H2 HS HT]
  · isplitl [H0]; · iexact H0
    isplitl [H1]; · iexact H1
    isplitl [H2]; · iexact H2
    isplitl [HS]; · iexact HS
    iexact HT
  iintro ⟨H0, H1, H2, HS, HT⟩
  isplitl [HS Hg HT]
  · isplitl [HS Hg]
    · isplitl [HS]; · iexact HS
      iexact Hg
    iexact HT
  isplitl [Ho]; · iexact Ho
  isplitl [H0]; · iexact H0
  isplitl [H1]; · iexact H1
  iexact H2

theorem sound (c : Dev nD) (t : Fin (cfgM m hO).N) :
    given m hO c t ⊢ wp frame (wpE (defs₀ (F := F)) Variants.none c none) Set.univ (bodyAt m hO t) (fun _ => back m hO c t) := by
  by_cases h : t.val % 4 = 0
  · exact sound_first m hO c t h
  · by_cases h3 : t.val % 4 = 3
    · exact sound_last m hO c t h3
    · exact sound_next m hO c t h h3

theorem obligation (c : Dev nD) : BodyObligation (dats (F := F) m hO 0 c) (defs₀ (F := F)) Variants.none () Set.univ := fun t => by
  rw [bigSep_W0, bigSep_W0, show defs₀ (F := F) .tc (cfgM m hO).body ((cfgM m hO).bodyArgs t ((cfgM m hO).slots t)) = bodyAt m hO t from by
    unfold defs₀; rw [Defs.onTc_tc]]
  exact triple_restated (sound m hO c t) rfl .rfl fun _ => .rfl

/-! ## The run -/

/-- The last point's sum is forgotten. -/
theorem hout (c : Dev nD) : (dats m hO 0 c).Φ (Fin.last (cfgM m hO).N) ⊢ Pipeline.ΦA spec0 c := by
  refine BIBase.Entails.trans (Q := iprop(kept m hO c (cfgM m hO).N le_rfl ∗ Pipeline.ΦT pre0 (tbl m) c)) .rfl ?_
  rw [scratch_eq]
  refine BIBase.Entails.trans (Q := iprop((iprop(∃ d, owns (c : Thread nD τ) scr fullShare d) ∗ (∃ r, prngReg c r)) ∗ Pipeline.ΦT pre0 (tbl m) c))
    (sep_mono_l (kept_any m hO c _ _)) ?_
  iintro ⟨H, -⟩
  iexact H

set_option backward.isDefEq.respectTransparency.types false in
/-- The program ends, its array at what the points wrote, every other at what the call found, and no semaphore raised. -/
theorem run_quiet : θ_run defs (onTc (τ := τ) (main (F := F))) (s₀ m g)
    (fun r => Pipeline.FramePost (Pipeline.pin pcfgs fun _ => adm m hO) (dats m hO) 0 (V m) r ∧ r.2.sem = fun _ => 0) :=
  Pipeline.θ_run_frameP_track (Q' := _) pcfgs (fun _ => adm m hO) (dats m hO) (0 : Fin 1) launch0 defs₀ Variants.none m g main
    (hbody := fun c => (obligation m hO c).loose) (hshare := fun c => (dats m hO 0 c).share_full fun _ => rfl)
    (howed := fun _ _ => rfl) (V := V m) (hmain := hmain m Variants.none) (hA := A_eq m hO) (hpf := V_pre m)
    (hin := fun c => .rfl) (hout := hout m hO)

/-- The result's array after the run, and the arguments as they were. -/
theorem run : θ_run defs (onTc (τ := τ) (main (F := F))) ⟨m, fun _ => 0, g⟩ (fun r => (∀ c : Dev nD,
      r.2.mem ((c.tc : Thread nD τ).loc main_v0) = (dats m hO 0 c).arrAt 2 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c => ⟨(h.1 c).1 2,
    ((h.1 c).1 0).trans (((dats m hO 0 c).arrAt_in 0 rfl _).trans ((A_eq m hO c 0).trans (V_main_arg0 m c))),
    ((h.1 c).1 1).trans (((dats m hO 0 c).arrAt_in 1 rfl _).trans ((A_eq m hO c 1).trans (V_main_arg1 m c))),
    ((h.1 c).2 main_arg2 (by decide : main_arg2 ∈ Pipeline.restRefs sig spec0)).trans (V_main_arg2 m c),
    ((h.1 c).2 main_arg3 (by decide : main_arg3 ∈ Pipeline.restRefs sig spec0)).trans (V_main_arg3 m c)⟩, h.2⟩) (run_quiet m g hO)

end Blocks

end Cert.UpRestIdeal.Product
end
-- ==== Proof.Mul.UpRest.lean ====
/- The expanding product's later stages: the product of the feed-forward network's modulated input with the three groups of the weight that
   the table lists, written into an array that keeps its other groups. -/
module

public import proofs.«01_k».proof.Defs
public import proofs.«01_k».proof.Proof.Mul.Blocks
public import proofs.«01_k».proof.Proof.Mul.UpRestRun
public import proofs.«01_k».proof.Proof.Gen.UpRest.Launch
public import proofs.«01_k».proof.Proof.Gen.RefUpRestIdeal.Run
public import Idealize.ShloMosaic.Lib.Pipeline.ValueKit.Acc
public import Idealize.ShloMosaic.Lib.Pipeline.ValueKit.Geometry
public import Idealize.ShloMosaic.Lib.Pointwise

public section
open Idealize.ShloMosaic Idealize.ShloMosaic.Ideal
set_option maxRecDepth 16384
noncomputable section

namespace Cert.UpRestIdeal.Product
open Cert.UpRestIdeal Cert.UpRestIdeal.Gen Cert.Mul Idealize.ShloMosaic.TcCoe

/-- The precondition's side conditions. -/
theorem preFacts : Cert.Pre_up_rest_ids.Facts := ⟨by decide⟩

/-- Its tables are in range. -/
theorem ok_of_pre {F : FTy → Type} [FloatOps F] (m : (ℓ : Loc nD τ sig) → Buf (Elt F) ℓ)
    (h : ∀ c : Dev nD, @Cert.Pre_up_rest_ids.fn preFacts F _ (m ((c.tc : Thread nD τ).loc main_arg0)) (m ((c.tc : Thread nD τ).loc main_arg1))
      (m ((c.tc : Thread nD τ).loc main_arg2)) (m ((c.tc : Thread nD τ).loc main_arg3)) = fun _ => 1#1) : Ok m :=
  ok_of (tbl m) fun x => (congrArg BitVec.toNat (congrFun (V_main_arg2 m 0) x)).trans_lt (Cert.Mul.toNat_lt_of_range _ (congrFun (h 0) x))

variable (m : (ℓ : Loc nD τ sig) → Buf (Elt Ideal) ℓ) (hO : Ok m) (c : Dev nD)

/-- The arguments, on a core. -/
@[expose] def X : S4096x4096.Idx → EReal := m ((c : Thread nD τ).loc main_arg0)
@[expose] def Y : S8x2752x4096.Idx → EReal := m ((c : Thread nD τ).loc main_arg1)
@[expose] def ids : S3.Idx → BitVec 32 := m ((c : Thread nD τ).loc main_arg2)
@[expose] def P : S8x4096x2752.Idx → EReal := m ((c : Thread nD τ).loc main_arg3)

/-- The table that the call reads is the third argument. -/
theorem tbl_eq : (tbl m 0 : S3.Idx → BitVec 32) = ids m c := by
  obtain rfl : c = 0 := Subsingleton.elim _ _
  exact V_main_arg2 m 0

/-- The call finds the fourth argument in the result's array. -/
theorem entry : (V m c main_v0 : S8x4096x2752.Idx → EReal) = P m c := by
  show StableHlo.after hostOps0 _ _ = _
  simp only [hostOps0]
  after_results <;> rfl

/-- The blocks at a point. -/
abbrev w0 (t : Fin (cfgM m hO).N) : Fin 2 → ℕ := ((cfgM m hO).win 0).index t
abbrev w1 (t : Fin (cfgM m hO).N) : Fin 3 → ℕ := ((cfgM m hO).win 1).index t
abbrev w2 (t : Fin (cfgM m hO).N) : Fin 3 → ℕ := ((cfgM m hO).win 2).index t
theorem idx0 : ∀ t : Fin (cfgM m hO).N, w0 m hO t = ![t.val / 12, t.val % 4] :=
  (by decide +kernel : ∀ t : Fin grid0.N, cc0_transform_0 (grid0.coords t) = ![t.val / 12, t.val % 4])
theorem idx1 (t : Fin (cfgM m hO).N) : w1 m hO t = ![grp (ids m c) (t.val / 4 % 3), 0, t.val % 4] := by
  rw [← tbl_eq, ← entryOf t, ← turn t]; exact ix1_eq (tbl m) _
theorem idx2 (t : Fin (cfgM m hO).N) : w2 m hO t = ![grp (ids m c) (t.val / 4 % 3), t.val / 12, 0] := by
  rw [← tbl_eq, ← row t, ← entryOf t]; exact ix3_eq (tbl m) _

/-- The product of point `n`'s blocks, at row `p` and column `q`. -/
@[expose] def term (p q n : ℕ) : EReal :=
  ∑ k ∈ Finset.range 1024, at2 (X m c) (1024 * (n / 12) + p) (1024 * (n % 4) + k) * at3 (Y m c) (grp (ids m c) (n / 4 % 3)) q (1024 * (n % 4) + k)

theorem term_eq (t : Fin (cfgM m hO).N) (p : Fin 1024) (q : Fin 2752) :
    (∑ k : Fin 1024, (xb m hO c t (ValueIdx.ix2 p k) * yb m hO c t (ValueIdx.ix3 0 q k) : EReal)) = term m c p.val q.val t.val := by
  have a0 : w0 m hO t 0 = t.val / 12 := congrFun (idx0 m hO t) 0
  have a1 : w0 m hO t 1 = t.val % 4 := congrFun (idx0 m hO t) 1
  have b0 : w1 m hO t 0 = grp (ids m c) (t.val / 4 % 3) := congrFun (idx1 m hO c t) 0
  have b1 : w1 m hO t 1 = 0 := congrFun (idx1 m hO c t) 1
  have b2 : w1 m hO t 2 = t.val % 4 := congrFun (idx1 m hO c t) 2
  rw [term, Finset.sum_range]
  refine Finset.sum_congr rfl fun k _ => congrArg₂ (· * ·) ?_ ?_
  · refine (congrFun (V_main_arg0 m c) ((((cfgM m hO).win 0).rect t).emb (ValueIdx.ix2 p k))).trans (at2_of (X m c) _ ?_ ?_)
    · show w0 m hO t 0 * 1024 + 1 * p.val = _; omega
    · show w0 m hO t 1 * 1024 + 1 * k.val = _; omega
  · refine (congrFun (V_main_arg1 m c) ((((cfgM m hO).win 1).rect t).emb (ValueIdx.ix3 0 q k))).trans (at3_of (Y m c) _ ?_ ?_ ?_)
    · show w1 m hO t 0 * 1 + 1 * 0 = _; omega
    · show w1 m hO t 1 * 2752 + 1 * q.val = _; omega
    · show w1 m hO t 2 * 1024 + 1 * k.val = _; omega

/-- The first point of a run stores its product in the accumulator, -/
theorem stepA (t : Fin (cfgM m hO).N) (h0 : t.val % 4 = 0) (j : S1024x2752.Idx) :
    (acc m hO c t.val t.isLt j : EReal) = term m c (j 0).val (j 1).val t.val := by
  refine (congrFun (acc_first m hO c t h0) j).trans (Eq.trans ?_ (term_eq m hO c t (j 0) (j 1)))
  unfold k0_pay1
  pointwise
  rfl

/-- the next ones add theirs to it, -/
theorem stepB (n : ℕ) (h : n + 1 < (cfgM m hO).N) (h0 : (n + 1) % 4 ≠ 0) (h1 : (n + 1) % 4 ≠ 3) (j : S1024x2752.Idx) :
    (acc m hO c (n + 1) h j : EReal) = acc m hO c n (by omega) j + term m c (j 0).val (j 1).val (n + 1) := by
  refine (congrFun (acc_next m hO c ⟨n + 1, h⟩ h0 h1) j).trans
    (Eq.trans ?_ (congrArg (acc m hO c n (by omega) j + ·) (term_eq m hO c ⟨n + 1, h⟩ (j 0) (j 1))))
  unfold k0_pay2
  pointwise
  rfl

/-- and the last one writes the sum out. -/
theorem stepC (n : ℕ) (h : n + 1 < (cfgM m hO).N) (j : S1x1024x2752.Idx) :
    (outAt m hO c ⟨n + 1, h⟩ j : EReal) = acc m hO c n (by omega) (ValueIdx.ix2 (j 1) (j 2)) + term m c (j 1).val (j 2).val (n + 1) := by
  refine Eq.trans ?_ (congrArg (acc m hO c n (by omega) (ValueIdx.ix2 (j 1) (j 2)) + ·) (term_eq m hO c ⟨n + 1, h⟩ (j 1) (j 2)))
  unfold outAt k0_pay3
  pointwise
  rfl

/-- An element of a point's block of the result, in the array. -/
abbrev put (t : Fin (cfgM m hO).N) (j : S1x1024x2752.Idx) : S8x4096x2752.Idx := (((cfgM m hO).win 2).rect t).emb j

/-- The whole product. -/
@[expose] def prod (x : S4096x4096.Idx → EReal) (y : S8x2752x4096.Idx → EReal) : S8x4096x2752.Idx → EReal := fun i =>
  ∑ k ∈ Finset.range 4096, at2 x (i 1).val k * at3 y (i 0).val (i 2).val k

/-- The result: the product in the groups listed, the fourth argument in the others. -/
@[expose] def out (x : S4096x4096.Idx → EReal) (y : S8x2752x4096.Idx → EReal) (s : S3.Idx → BitVec 32) (p : S8x4096x2752.Idx → EReal) :
    S8x4096x2752.Idx → EReal := fun i => if listed s (i 0).val then prod x y i else p i

/-- The last point of a run writes its block of the product. -/
theorem point (t : Fin (cfgM m hO).N) (h3 : t.val % 4 = 3) (j : S1x1024x2752.Idx) :
    (outAt m hO c t j : EReal) = prod (X m c) (Y m c) (put m hO t j) := by
  have d0 : w2 m hO t 0 = grp (ids m c) (t.val / 4 % 3) := congrFun (idx2 m hO c t) 0
  have d1 : w2 m hO t 1 = t.val / 12 := congrFun (idx2 m hO c t) 1
  have d2 : w2 m hO t 2 = 0 := congrFun (idx2 m hO c t) 2
  have j0 : (j 0).val < 1 := (j 0).isLt
  have r0 : (put m hO t j 0).val = grp (ids m c) (t.val / 4 % 3) := by show w2 m hO t 0 * 1 + 1 * (j 0).val = _; omega
  have r1 : (put m hO t j 1).val = 1024 * (t.val / 12) + (j 1).val := by show w2 m hO t 1 * 1024 + 1 * (j 1).val = _; omega
  have r2 : (put m hO t j 2).val = (j 2).val := by show w2 m hO t 2 * 2752 + 1 * (j 2).val = _; omega
  have ht : 4 * (t.val / 4) + (4 - 1) = t.val := by omega
  have key := out_sum (J := 4) (fun n h => acc m hO c n h (ValueIdx.ix2 (j 1) (j 2))) (fun n h => outAt m hO c ⟨n, h⟩ j)
    (term m c (j 1).val (j 2).val) (by decide) (fun n h h0 => stepA m hO c ⟨n, h⟩ h0 _) (fun n h h0 h1 => stepB m hO c n h h0 h1 _)
    (fun n h _ => stepC m hO c n h j) (t.val / 4) (ht.trans_lt t.isLt)
  refine (congrArg (fun u => (outAt m hO c u j : EReal)) (Fin.ext ht.symm : t = ⟨4 * (t.val / 4) + (4 - 1), ht.trans_lt t.isLt⟩)).trans (key.trans ?_)
  rw [prod, ← sum_blocks 4 1024]
  refine Finset.sum_congr rfl fun s hs => Finset.sum_congr rfl fun k hk => ?_
  have hs : s < 4 := Finset.mem_range.1 hs
  rw [r0, r1, r2, show (4 * (t.val / 4) + s) / 12 = t.val / 12 by omega, show (4 * (t.val / 4) + s) % 4 = s by omega,
    show (4 * (t.val / 4) + s) / 4 = t.val / 4 by omega]

/-- The points write back the groups listed, and no other. -/
theorem covered (i : S8x4096x2752.Idx) :
    (∃ t : Fin (cfgM m hO).N, ((cfgM m hO).win 2).flush t = true ∧ i ∈ (((cfgM m hO).win 2).blk t).view.set) ↔ listed (ids m c) (i 0).val := by
  have i0 : (i 0).val < 8 := (i 0).isLt
  have i1 : (i 1).val < 4096 := (i 1).isLt
  have i2 : (i 2).val < 2752 := (i 2).isLt
  constructor
  · rintro ⟨t, -, h⟩
    have h := (((cfgM m hO).win 2).emb_mem_blk_iff t i).mp h ⟨0, (by decide : 0 < 3)⟩
    have d0 : w2 m hO t 0 = grp (ids m c) (t.val / 4 % 3) := congrFun (idx2 m hO c t) 0
    have h : w2 m hO t 0 * 1 ≤ (i 0).val ∧ (i 0).val < w2 m hO t 0 * 1 + 1 := h
    exact ⟨t.val / 4 % 3, Nat.mod_lt _ (by decide), by omega⟩
  · rintro ⟨j, hj, h⟩
    have hj : j < 3 := hj
    have ht : 12 * ((i 1).val / 1024) + 4 * j < (cfgM m hO).N := by show _ < grid0.N; rw [N_0]; omega
    obtain ⟨u, hu, e⟩ := exists_flush ((cfgM m hO).win 2) rfl _ ⟨12 * ((i 1).val / 1024) + 4 * j, ht⟩ rfl
    refine ⟨u, hu, (((cfgM m hO).win 2).emb_mem_blk_iff u i).mpr fun a => ?_⟩
    have e : w2 m hO u = ![grp (ids m c) ((12 * ((i 1).val / 1024) + 4 * j) / 4 % 3), (12 * ((i 1).val / 1024) + 4 * j) / 12, 0] := e.trans (idx2 m hO c _)
    have e0 : w2 m hO u 0 = grp (ids m c) ((12 * ((i 1).val / 1024) + 4 * j) / 4 % 3) := congrFun e 0
    have e1 : w2 m hO u 1 = (12 * ((i 1).val / 1024) + 4 * j) / 12 := congrFun e 1
    have e2 : w2 m hO u 2 = 0 := congrFun e 2
    rw [show (12 * ((i 1).val / 1024) + 4 * j) / 4 % 3 = j by omega] at e0
    match a with
    | ⟨0, _⟩ => show w2 m hO u 0 * 1 ≤ (i 0).val ∧ (i 0).val < w2 m hO u 0 * 1 + 1; omega
    | ⟨1, _⟩ => show w2 m hO u 1 * 1024 ≤ (i 1).val ∧ (i 1).val < w2 m hO u 1 * 1024 + 1024; omega
    | ⟨2, _⟩ => show w2 m hO u 2 * 2752 ≤ (i 2).val ∧ (i 2).val < w2 m hO u 2 * 2752 + 2752; omega

/-- The kernel's array after the run. -/
theorem final : ((dats m hO 0 c).arrAt 2 (cfgM m hO).N : S8x4096x2752.Idx → EReal) = out (X m c) (Y m c) (ids m c) (P m c) := by
  funext i
  refine ((dats m hO 0 c).arrAt_eq_piecewise 2 (prod (X m c) (Y m c)) (fun t hf => ?_) i).trans ?_
  · funext j
    show (dats m hO 0 c).after 2 t j = _
    rw [after2]
    refine point m hO c t (by_contra fun h3 => ?_) j
    rw [noFlush m hO t h3] at hf
    cases hf
  · refine if_congr (covered m hO c i) rfl ?_
    rw [A_eq]
    exact congrFun (entry m c) i

end Cert.UpRestIdeal.Product

namespace Cert.RefUpRestIdeal.Product
open Cert Cert.RefUpRestIdeal Cert.RefUpRestIdeal.Gen Cert.Mul

/-- The reference's array holds it too. -/
theorem value (x : FVec Ideal S4096x4096 .bf16) (y : FVec Ideal S8x2752x4096 .bf16) (s : IVec S3 32) (p : FVec Ideal S8x4096x2752 .bf16) :
    (select (broadcastInDim S8x4096x2752 ![0, 1, 2] bcast_S8x1x1_S8x4096x2752_0_1_2 (broadcastInDim S8x1x1 ![0] bcast_S8_S8x1x1_0
      (ori (ori (cmpi .eq (iotaInDim S8 32 0) (broadcastInDim S8 ![] bcast_S_S8 (shapeCast _ (extractStridedSlice S1 ![0] s slices_S3_S1_0) shapeCasts_S1_S_)))
        (cmpi .eq (iotaInDim S8 32 0) (broadcastInDim S8 ![] bcast_S_S8 (shapeCast _ (extractStridedSlice S1 ![1] s slices_S3_S1_1) shapeCasts_S1_S_))))
        (cmpi .eq (iotaInDim S8 32 0) (broadcastInDim S8 ![] bcast_S_S8 (shapeCast _ (extractStridedSlice S1 ![2] s slices_S3_S1_2) shapeCasts_S1_S_))))))
      (transpose S8x4096x2752 [1, 0, 2] (shapeCast _ (truncf .bf16 (Host.dotGeneral (F := Ideal) dot_S4096x4096_S4096x22016_S4096x22016_1_0_0_1_n_n none
        (extf .f32 x bitsLt_bf16_f32) (shapeCast _ (transpose S4096x8x2752 [2, 0, 1] (extf .f32 y bitsLt_bf16_f32) transposes_S8x2752x4096_S4096x8x2752_2_0_1)
          shapeCasts_S4096x8x2752_S4096x22016)) bitsLt_bf16_f32) shapeCasts_S4096x22016_S4096x8x2752) transposes_S4096x8x2752_S8x4096x2752_1_0_2) p :
        FVec Ideal S8x4096x2752 .bf16) = Cert.UpRestIdeal.Product.out x y s p := by
  funext i
  pointwise
  have i0 : (i 0).val < 8 := (i 0).isLt
  refine if_congr (flags3 s (by omega)) ?_ rfl
  show _ = ∑ k ∈ Finset.range 4096, _
  rw [Finset.sum_range]
  exact Finset.sum_congr rfl fun k _ => congrArg₂ (· * ·) (at2_of x _ rfl rfl) (at3_of y _ rfl rfl rfl)

/-- It leaves its arguments, and has no semaphore, whatever the table. -/
theorem frame : quiescent_RefUpRestIdeal (hRefUpRestIdeal := facts) := fun m g _ =>
  (θ_run defs _ _).mono (fun r h => ⟨fun c => (h c).2, sem_eq_zero_of_no_sems (by decide) r.2⟩) (Value.run m g)

end Cert.RefUpRestIdeal.Product

/-- The two runs end with one array. -/
theorem Cert.UpRestIdeal.Product.claim :
    Cert.algebraic_UpRestIdeal_RefUpRestIdeal (hUpRestIdeal := Cert.UpRestIdeal.Gen.facts) (hRefUpRestIdeal := Cert.RefUpRestIdeal.Gen.facts)
      (hPre_up_rest_ids := preFacts) :=
  fun m g m' g' h e => ⟨fun c => out (X m c) (Y m c) (ids m c) (P m c),
    (θ_run Cert.UpRestIdeal.defs _ _).mono (fun _ h' c => ⟨(h'.1 c).1.trans (final m (ok_of_pre m h) c), (h'.1 c).2⟩) (run m g (ok_of_pre m h)),
    (θ_run Cert.RefUpRestIdeal.defs _ _).mono (fun _ h c => ⟨(h c).1.trans
      ((Cert.RefUpRestIdeal.Product.value _ _ _ _).trans (by rw [(e c).1, (e c).2.1, (e c).2.2.1, (e c).2.2.2]; rfl)), (h c).2⟩)
      (Cert.RefUpRestIdeal.Value.run m' g')⟩

/-! The programs over words and over the ideal numbers have one text, so the first has the second's run. -/

namespace Cert.UpRestIdeal.Product

/-- The kernels' functions are one. -/
theorem kernel_eq : @Cert.UpRest.cc0_mm_up_ici Bits _ Cert.UpRest.Gen.facts = @cc0_mm_up_ici Bits _ Gen.facts := by
  delta Cert.UpRest.cc0_mm_up_ici cc0_mm_up_ici; rfl

/-- So are what their labels run, -/
theorem defs₀_eq : @Cert.UpRest.defs₀ Bits _ Cert.UpRest.Gen.facts = @defs₀ Bits _ Gen.facts := by
  delta Cert.UpRest.defs₀ defs₀
  refine congrArg Defs.onTc (funext fun l => funext fun x => ?_)
  match l, x with
  | ⟨0, _⟩, (t, s) =>
    show Cert.UpRest.cc0_mm_up_ici _ _ _ _ _ _ _ _ _ _ _ _ _ = _
    rw [kernel_eq]; rfl

/-- with the pipeline too, -/
theorem defs_eq : @Cert.UpRest.defs Bits _ Cert.UpRest.Gen.facts = @defs Bits _ Gen.facts := by
  delta Cert.UpRest.defs defs
  exact congrArg (Pipeline.defs pcfgs) defs₀_eq

/-- and the programs. -/
theorem main_eq : @Cert.UpRest.main Bits _ Cert.UpRest.Gen.facts = @main Bits _ Gen.facts := rfl

end Cert.UpRestIdeal.Product

/-- The ideal program's frame. -/
theorem Cert.UpRestIdeal.Product.idealFrame :
    Cert.quiescent_UpRestIdeal (hUpRestIdeal := Cert.UpRestIdeal.Gen.facts) (hPre_up_rest_ids := preFacts) := fun m g h =>
  (θ_run Cert.UpRestIdeal.defs _ _).mono (fun _ h => ⟨fun c => (h.1 c).2, h.2⟩) (run m g (ok_of_pre m h))

/-- The word program's frame. -/
theorem Cert.UpRestIdeal.Product.wordFrame :
    Cert.quiescent_UpRest (hUpRest := Cert.UpRest.Gen.facts) (hPre_up_rest_ids := preFacts) := fun m g h => by
  rw [defs_eq, main_eq]
  exact (θ_run Cert.UpRestIdeal.defs _ _).mono (fun _ h => ⟨fun c => (h.1 c).2, h.2⟩) (run (F := Bits) m g (ok_of_pre (F := Bits) m h))
-- ==== Proof.Mul.Adam.lean ====
/- What the optimiser's calls share: the arithmetic of one element, and the reference's over a whole weight.  A gradient is the sum of its eight devices' parts, the device's
   own part taking the place of the one it would have sent itself. -/
module

public import proofs.«01_k».proof.Proof.Mul.Staged
public import Idealize.ShloMosaic.Lib.Pointwise

public section
open Idealize.ShloMosaic Idealize.ShloMosaic.Ideal Idealize.ShloMosaic.ValueIdx
set_option maxRecDepth 16384
noncomputable section

namespace Cert.Mul

/-- The part of device `d`: the own one where it is the device itself, else the one received. -/
@[expose] def part {r n : ℕ} (slots own : (⟨3, ![8, r, n]⟩ : Shape).Idx → EReal) (me : ℕ) (i j d : ℕ) : EReal :=
  if me = d then at3 own d i j else at3 slots d i j

/-- The gradient at a place. -/
@[expose] def grad {r n : ℕ} (slots own : (⟨3, ![8, r, n]⟩ : Shape).Idx → EReal) (me : ℕ) (i j : ℕ) : EReal :=
  ∑ d ∈ Finset.range 8, part slots own me i j d

/-- A number as a word's value. -/
abbrev num (b : BitVec 32) : EReal := Scalar.ofBits (F := Ideal) .f32 b

/-- The next first and second moments. -/
@[expose] def first (m g : EReal) : EReal := num 0x3F666666#32 * m + num 0x3DCCCCCD#32 * g
@[expose] def second (v g : EReal) : EReal := num 0x3F7FBE77#32 * v + num 0x3A83126F#32 * (g * g)

/-- The change of a weight, from its next moments. -/
@[expose] def delta (w m v : EReal) : EReal :=
  num 0xBA83126F#32 * (Ideal.div (Ideal.div m (num 0x3F26BD02#32))
    (Ideal.sqrt (Ideal.div v (num 0x3C231ACC#32)) + num 0x322BCC77#32) + num 0x3C23D70A#32 * w)

/-- The same, element by element. -/
@[expose] def firsts {ι : Type} (m g : ι → EReal) : ι → EReal := fun i => first (m i) (g i)
@[expose] def seconds {ι : Type} (v g : ι → EReal) : ι → EReal := fun i => second (v i) (g i)
@[expose] def deltas {ι : Type} (w m v : ι → EReal) : ι → EReal := fun i => delta (w i) (m i) (v i)

/-- A function of three arguments takes equals to equals. -/
theorem congr₃ {α β γ δ : Type} (f : α → β → γ → δ) {a a' : α} {b b' : β} {c c' : γ} (ha : a = a') (hb : b = b') (hc : c = c') :
    f a b c = f a' b' c' := by rw [ha, hb, hc]

/-- The sum of eight parts from the left. -/
theorem sum_eight (f : ℕ → EReal) : f 0 + f 1 + f 2 + f 3 + f 4 + f 5 + f 6 + f 7 = ∑ d ∈ Finset.range 8, f d := by
  simp only [Finset.sum_range_succ, Finset.sum_range_zero, zero_add]

/-- Eight summands at a time. -/
theorem congr_add7 {a b c d e f g h a' b' c' d' e' f' g' h' : EReal} (ha : a = a') (hb : b = b') (hc : c = c') (hd : d = d') (he : e = e')
    (hf : f = f') (hg : g = g') (hh : h = h') : a + b + c + d + e + f + g + h = a' + b' + c' + d' + e' + f' + g' + h' := by
  rw [ha, hb, hc, hd, he, hf, hg, hh]

/-- A flag says that a device has a number, -/
theorem flag (s : BitVec 32) (d : ℕ) (hd : d < 8) : Scalar.cmpi .eq s (BitVec.ofNat 32 d) = 1#1 ↔ s.toNat = d := by
  rw [← eq_flag d hd s]
  exact iff_of_eq (congrArg (· = 1#1) (congrArg BitVec.ofBool BEq.comm))

/-- and chooses by it. -/
theorem pick {f : BitVec 1} {n d : ℕ} (e : f = 1#1 ↔ n = d) {a b a' b' : EReal} (ha : n = d → a = a') (hb : b = b') :
    Scalar.select f a b = if n = d then a' else b' := by
  by_cases h : n = d
  · rw [if_pos h]; exact (if_pos (e.mpr h)).trans (ha h)
  · rw [if_neg h]; exact (if_neg (mt e.mp h)).trans hb

/-- A weight's gradient, for the device that the table names. -/
@[expose] def grads {r n : ℕ} (slots own : (⟨3, ![8, r, n]⟩ : Shape).Idx → EReal) (me : (⟨1, ![1]⟩ : Shape).Idx → BitVec 32) :
    (⟨2, ![r, n]⟩ : Shape).Idx → EReal := fun i => grad slots own (grp me 0) (i 0).val (i 1).val

/-- The reference's sum over the devices, -/
theorem ref_grad {r n : ℕ} (a b : FVec Ideal ⟨3, ![8, r, n]⟩ .bf16) (d : IVec ⟨1, ![1]⟩ 32)
    (h₁ : (⟨3, ![8, 1, 1]⟩ : Shape).BroadcastsInDim ⟨3, ![8, r, n]⟩ ![0, 1, 2]) (h₂ : (⟨1, ![8]⟩ : Shape).BroadcastsInDim ⟨3, ![8, 1, 1]⟩ ![0])
    (h₃ : (⟨1, ![1]⟩ : Shape).BroadcastsInDim ⟨1, ![8]⟩ ![0]) (h₄ : FTy.bits .bf16 < FTy.bits .f32)
    (h₅ : (⟨3, ![8, r, n]⟩ : Shape).ReducesTo [0] ⟨2, ![r, n]⟩) (h₆ : 0 < (⟨0, ![]⟩ : Shape).numel) :
    (Host.reduceAdd (extf .f32 (select (broadcastInDim ⟨3, ![8, r, n]⟩ ![0, 1, 2] h₁ (broadcastInDim ⟨3, ![8, 1, 1]⟩ ![0] h₂
      (cmpi .eq (iotaInDim ⟨1, ![8]⟩ 32 0) (broadcastInDim ⟨1, ![8]⟩ ![0] h₃ d)))) b a) h₄) (constant ⟨0, ![]⟩ .f32 0x00000000#32) h₅ h₆ :
        FVec Ideal ⟨2, ![r, n]⟩ .f32) = grads a b d := by
  funext i
  pointwise
  show _ = ∑ k ∈ Finset.range 8, part a b (grp d 0) (i 0).val (i 1).val k
  rw [Finset.sum_range]
  exact Finset.sum_congr rfl fun x _ => pick ((eq_flag x.val x.isLt _).trans (by rw [grp_of d _ (j := 0) rfl]))
    (fun _ => at3_of b _ rfl rfl rfl) (at3_of a _ rfl rfl rfl)

/-- its next moments and its change. -/
theorem ref_first {s : Shape} (h : (⟨0, ![]⟩ : Shape).BroadcastsInDim s ![]) (m g : FVec Ideal s .f32) :
    addf (mulf (broadcastInDim s ![] h (constant ⟨0, ![]⟩ .f32 0x3F666666#32)) m)
      (mulf (broadcastInDim s ![] h (constant ⟨0, ![]⟩ .f32 0x3DCCCCCD#32)) g) = firsts m g := rfl
theorem ref_second {s : Shape} (h : (⟨0, ![]⟩ : Shape).BroadcastsInDim s ![]) (v g : FVec Ideal s .f32) :
    addf (mulf (broadcastInDim s ![] h (constant ⟨0, ![]⟩ .f32 0x3F7FBE77#32)) v)
      (mulf (broadcastInDim s ![] h (constant ⟨0, ![]⟩ .f32 0x3A83126F#32)) (mulf g g)) = seconds v g := rfl
theorem ref_delta {s : Shape} (h : (⟨0, ![]⟩ : Shape).BroadcastsInDim s ![]) (w m v : FVec Ideal s .f32) :
    mulf (broadcastInDim s ![] h (constant ⟨0, ![]⟩ .f32 0xBA83126F#32)) (addf (Host.divf (Host.divf m
      (broadcastInDim s ![] h (constant ⟨0, ![]⟩ .f32 0x3F26BD02#32))) (addf (Host.sqrt (Host.divf v
        (broadcastInDim s ![] h (constant ⟨0, ![]⟩ .f32 0x3C231ACC#32)))) (broadcastInDim s ![] h (constant ⟨0, ![]⟩ .f32 0x322BCC77#32))))
      (mulf (broadcastInDim s ![] h (constant ⟨0, ![]⟩ .f32 0x3C23D70A#32)) w)) = deltas w m v := rfl

end Cert.Mul
-- ==== Proof.Mul.AdamIn.lean ====
/- The optimiser's step of the input projection's weight: the gradient summed over the devices' parts, the weight's change and its two
   next moments. -/
module

public import proofs.«01_k».proof.Defs
public import proofs.«01_k».proof.Proof.Mul.Adam
public import proofs.«01_k».proof.Proof.Gen.AdamInIdeal.Frame
public import proofs.«01_k».proof.Proof.Gen.AdamIn.Frame
public import proofs.«01_k».proof.Proof.Gen.RefAdamInIdeal.Run
public import Idealize.ShloMosaic.Lib.Affine
public import Idealize.ShloMosaic.Lib.Pipeline.ValueKit.Acc
public import Idealize.ShloMosaic.Lib.Pipeline.ValueKit.Geometry
public import Idealize.ShloMosaic.Lib.Pointwise

public section
open Idealize.ShloMosaic Idealize.ShloMosaic.Ideal
set_option maxRecDepth 16384
noncomputable section

namespace Cert.AdamInIdeal.Product
open Cert.AdamInIdeal Cert.AdamInIdeal.Gen Cert.Mul Idealize.ShloMosaic.TcCoe

section Tables
variable {F : FTy → Type} [FloatOps F]

/-- The own part's block, by the device's number. -/
theorem ix1_eq (pf : pre0.Contents (Elt F)) (i : grid0.Coords) :
    cc0_transform_1 inb_S1_S1_0 numel1_S1 pf i = ![grp (pf 0 : S1.Idx → BitVec 32) 0, (i 0).val, 0] := by
  have e : (pf.at 0 (Rect.unit (s := S1) ![0] S1.size inb_S1_S1_0) numel1_S1 : BitVec 32).toNat
      = grp (pf 0 : S1.Idx → BitVec 32) 0 := grp_of (pf 0 : S1.Idx → BitVec 32) _ rfl
  have e0 : (BitVec.ofNat 32 (i 0).val).toNat = (i 0).val := by
    have : (i 0).val < 16 := (i 0).isLt
    rw [BitVec.toNat_ofNat]; exact Nat.mod_eq_of_lt (by omega)
  exact congrArg₂ (fun a b => ![a, b, 0]) e e0

/-- A number in range is admissible. -/
theorem ok_of (pf : pre0.Contents (Elt F)) (h : ∀ x, (pf 0 x : BitVec 32).toNat < 8) : ok0 pf := by
  have hg : grp (pf 0 : S1.Idx → BitVec 32) 0 < 8 := grp_lt h 0
  refine fun i => ⟨?_, .inr ?_⟩
  · rw [ix1_eq]
    have h0 : (i 0).val < 16 := (i 0).isLt
    intro a
    match a with
    | ⟨0, _⟩ => show (grp (pf 0 : S1.Idx → BitVec 32) 0 + 1) * 1 ≤ 8; omega
    | ⟨1, _⟩ => show ((i 0).val + 1) * 256 ≤ 4096; omega
    | ⟨2, _⟩ => show (0 + 1) * 1024 ≤ 1024; omega
  · exact Affine.words_of_packed (Affine.packed_dvd (by decide) (by rw [ix1_eq]; exact Dvd.intro_left _ (Nat.mul_assoc (i 0).val 128 2)) (by decide))

/-- The precondition's side conditions. -/
theorem preFacts : Cert.Pre_adam_in_place.Facts := ⟨by decide⟩

/-- Its number is in range. -/
theorem ok_of_pre (m : (ℓ : Loc nD τ sig) → Buf (Elt F) ℓ)
    (h : ∀ c : Dev nD, @Cert.Pre_adam_in_place.fn preFacts F _ (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) = fun _ => 1#1) : Ok m :=
  ok_of (tbl m) fun x => (congrArg BitVec.toNat (congrFun (V_main_arg2 m 0) x)).trans_lt (Cert.Mul.toNat_lt_of_range _ (congrFun (h 0) x))

end Tables

variable (m : (ℓ : Loc nD τ sig) → Buf (Elt Ideal) ℓ) (hO : Ok m) (c : Dev nD)

/-- The arguments, on a core. -/
@[expose] def slots : S8x4096x1024.Idx → EReal := m ((c : Thread nD τ).loc main_arg0)
@[expose] def own : S8x4096x1024.Idx → EReal := m ((c : Thread nD τ).loc main_arg1)
@[expose] def me : S1.Idx → BitVec 32 := m ((c : Thread nD τ).loc main_arg2)
@[expose] def W : S4096x1024.Idx → EReal := m ((c : Thread nD τ).loc main_arg3)
@[expose] def M : S4096x1024.Idx → EReal := m ((c : Thread nD τ).loc main_arg4)
@[expose] def N : S4096x1024.Idx → EReal := m ((c : Thread nD τ).loc main_arg5)

/-- The table that the region reads is the third argument. -/
theorem tbl_eq : (tbl m 0 : S1.Idx → BitVec 32) = me m c := by
  obtain rfl : c = 0 := Subsingleton.elim _ _
  exact V_main_arg2 m 0

/-- The blocks at a point. -/
theorem row (t : Fin grid0.N) : (grid0.coords t 0).val = t.val := by
  have e : (grid0.coords t 0).val = t.val / 1 % 16 := Pipeline.Grid.coords_val t 0 (by decide) rfl
  have : t.val < 16 := lt_of_lt_of_eq t.isLt N_0
  omega
abbrev w0 (t : Fin (cfgM m hO).N) : Fin 3 → ℕ := ((cfgM m hO).win 0).index t
abbrev w1 (t : Fin (cfgM m hO).N) : Fin 3 → ℕ := ((cfgM m hO).win 1).index t
abbrev w2 (t : Fin (cfgM m hO).N) : Fin 2 → ℕ := ((cfgM m hO).win 5).index t
theorem idx0 : ∀ t : Fin (cfgM m hO).N, w0 m hO t = ![0, t.val, 0] :=
  (by decide +kernel : ∀ t : Fin grid0.N, cc0_transform_0 (grid0.coords t) = ![0, t.val, 0])
theorem idx1 (t : Fin (cfgM m hO).N) : w1 m hO t = ![grp (me m c) 0, t.val, 0] := by
  rw [← tbl_eq, ← row t]; exact ix1_eq (tbl m) _
theorem idx2 : ∀ t : Fin (cfgM m hO).N, w2 m hO t = ![t.val, 0] :=
  (by decide +kernel : ∀ t : Fin grid0.N, cc0_transform_5 (grid0.coords t) = ![t.val, 0])

/-- The results over a whole weight: the gradient, the next moments and the change. -/
abbrev G : S4096x1024.Idx → EReal := grads (slots m c) (own m c) (me m c)
abbrev M' : S4096x1024.Idx → EReal := firsts (M m c) (G m c)
abbrev N' : S4096x1024.Idx → EReal := seconds (N m c) (G m c)
abbrev D : S4096x1024.Idx → EReal := deltas (W m c) (M' m c) (N' m c)

/-- An element of a point's block of a result, in the array. -/
abbrev put (t : Fin (cfgM m hO).N) (j : S256x1024.Idx) : S4096x1024.Idx := (((cfgM m hO).win 5).rect t).emb j

/-- A part's block among the eight. -/
abbrev ld (x : FVec Ideal S8x256x1024 .bf16) (d : ℕ) (h : ∀ a, (![d, 0, 0] : Fin 3 → ℕ) a + S1x256x1024.size a ≤ S8x256x1024.size a) :
    FVec Ideal S1x256x1024 .bf16 := View.ld (Val := Elt Ideal) (e' := EltTy.bf16) x (Rect.unit (s := S8x256x1024) ![d, 0, 0] S1x256x1024.size h)

/-- The body's sum of the parts: the device's number, its own part's block and the blocks received. -/
@[expose] def sums (s : BitVec 32) (o : FVec Ideal S1x256x1024 .bf16) (x : FVec Ideal S8x256x1024 .bf16) : FVec Ideal S256x1024 .f32 :=
  k0_pay4 (F := Ideal) s (k0_pay2 o) (k0_pay3 s o (ld x 0 inb_S8x256x1024_S1x256x1024_0_0_0) (ld x 1 inb_S8x256x1024_S1x256x1024_1_0_0)
    (ld x 2 inb_S8x256x1024_S1x256x1024_2_0_0) (ld x 3 inb_S8x256x1024_S1x256x1024_3_0_0) (ld x 4 inb_S8x256x1024_S1x256x1024_4_0_0))
    (Scalar.cmpi .eq s 5#32) (ld x 5 inb_S8x256x1024_S1x256x1024_5_0_0) (ld x 6 inb_S8x256x1024_S1x256x1024_6_0_0)
    (ld x 7 inb_S8x256x1024_S1x256x1024_7_0_0)

theorem sums_eq (s : BitVec 32) (o : FVec Ideal S1x256x1024 .bf16) (x : FVec Ideal S8x256x1024 .bf16) (j : S256x1024.Idx) (f : ℕ → EReal)
    (h : ∀ d (hd : d < 8), (Scalar.select (Scalar.cmpi .eq s (BitVec.ofNat 32 d)) (o (ValueIdx.ix3 0 (j 0) (j 1)))
      (x (ValueIdx.ix3 ⟨d, hd⟩ (j 0) (j 1))) : EReal) = f d) : (sums s o x j : EReal) = ∑ d ∈ Finset.range 8, f d := by
  have e (d) (hd : d < 8) (b) : (Scalar.select (Scalar.cmpi .eq s (BitVec.ofNat 32 d)) (o (ValueIdx.ix3 0 (j 0) (j 1)))
      (ld x d b (ValueIdx.ix3 0 (j 0) (j 1))) : EReal) = f d := by
    refine (congrArg (Scalar.select _ _) (congrArg x (funext fun a => Fin.ext ?_))).trans (h d hd)
    match a with
    | ⟨0, _⟩ => show d + 1 * 0 = d; omega
    | ⟨1, _⟩ => show 0 + 1 * (j 0).val = (j 0).val; omega
    | ⟨2, _⟩ => show 0 + 1 * (j 1).val = (j 1).val; omega
  rw [← sum_eight]
  unfold sums k0_pay4 k0_pay3 k0_pay2
  pointwise
  exact congr_add7 (e 0 (by decide) _) (e 1 (by decide) _) (e 2 (by decide) _) (e 3 (by decide) _) (e 4 (by decide) _) (e 5 (by decide) _)
    (e 6 (by decide) _) (e 7 (by decide) _)

/-- The device's number, as the body reads it. -/
@[expose] def dev : BitVec 32 := (tbl m).at 0 (Rect.unit (s := S1) ![0] S1.size inb_S1_S1_0) numel1_S1

/-- A point's block of the gradient. -/
theorem out5 (t : Fin (cfgM m hO).N) : (outsAt0 m hO c t).1 = sums (dev m) (iblk m hO c 1 t) (iblk m hO c 0 t) := by
  unfold outsAt0 out0_A_5
  dsimp only
  frame_out
  exact congrArg₂ (sums (dev m)) (Memref.IsWhole.read_unread _ _) (Memref.IsWhole.read_unread _ _)

/-- The next moments' blocks and the change's, from the gradient's. -/
theorem out7 (t : Fin (cfgM m hO).N) : (outsAt0 m hO c t).2.2.1 = firsts (iblk m hO c 3 t) (outsAt0 m hO c t).1 := by
  rw [out5]
  unfold outsAt0 out0_A_7
  dsimp only
  frame_out
  exact congrArg₂ firsts (Memref.IsWhole.read_unread _ _)
    (congrArg₂ (sums (dev m)) (Memref.IsWhole.read_unread _ _) (Memref.IsWhole.read_unread _ _))
theorem out8 (t : Fin (cfgM m hO).N) : (outsAt0 m hO c t).2.2.2 = seconds (iblk m hO c 4 t) (outsAt0 m hO c t).1 := by
  rw [out5]
  unfold outsAt0 out0_A_8
  dsimp only
  frame_out
  exact congrArg₂ seconds (Memref.IsWhole.read_unread _ _)
    (congrArg₂ (sums (dev m)) (Memref.IsWhole.read_unread _ _) (Memref.IsWhole.read_unread _ _))
theorem out6 (t : Fin (cfgM m hO).N) : (outsAt0 m hO c t).2.1
    = deltas (iblk m hO c 2 t) (firsts (iblk m hO c 3 t) (outsAt0 m hO c t).1) (seconds (iblk m hO c 4 t) (outsAt0 m hO c t).1) := by
  rw [out5]
  unfold outsAt0 out0_A_6
  dsimp only
  frame_out
  have e := congrArg₂ (sums (dev m)) (Memref.IsWhole.read_unread (hs0_1 m hO t) (iblk m hO c 1 t))
    (Memref.IsWhole.read_unread (hs0_0 m hO t) (iblk m hO c 0 t))
  exact congr (congrArg₂ deltas (Memref.IsWhole.read_unread _ _) (congrArg₂ firsts (Memref.IsWhole.read_unread _ _) e))
    (congrArg₂ seconds (Memref.IsWhole.read_unread _ _) e)

/-- A place's part. -/
theorem part_eq (t : Fin (cfgM m hO).N) (j : S256x1024.Idx) (d : ℕ) (hd : d < 8) :
    (Scalar.select (Scalar.cmpi .eq (dev m) (BitVec.ofNat 32 d)) (iblk m hO c 1 t (ValueIdx.ix3 0 (j 0) (j 1)))
      (iblk m hO c 0 t (ValueIdx.ix3 ⟨d, hd⟩ (j 0) (j 1))) : EReal)
        = part (slots m c) (own m c) (grp (me m c) 0) (put m hO t j 0).val (put m hO t j 1).val d := by
  have a0 : w0 m hO t 0 = 0 := congrFun (idx0 m hO t) 0
  have a1 : w0 m hO t 1 = t.val := congrFun (idx0 m hO t) 1
  have a2 : w0 m hO t 2 = 0 := congrFun (idx0 m hO t) 2
  have b0 : w1 m hO t 0 = grp (me m c) 0 := congrFun (idx1 m hO c t) 0
  have b1 : w1 m hO t 1 = t.val := congrFun (idx1 m hO c t) 1
  have b2 : w1 m hO t 2 = 0 := congrFun (idx1 m hO c t) 2
  have d0 : w2 m hO t 0 = t.val := congrFun (idx2 m hO t) 0
  have d1 : w2 m hO t 1 = 0 := congrFun (idx2 m hO t) 1
  have r0 : (put m hO t j 0).val = t.val * 256 + (j 0).val := by
    show w2 m hO t 0 * 256 + 1 * (j 0).val = _; omega
  have r1 : (put m hO t j 1).val = (j 1).val := by
    show w2 m hO t 1 * 1024 + 1 * (j 1).val = _; omega
  have g : (dev m).toNat = grp (me m c) 0 := by
    rw [← tbl_eq]; exact grp_of (tbl m 0 : S1.Idx → BitVec 32) _ rfl
  rw [r0, r1]
  refine pick ((flag (dev m) d hd).trans (by rw [g])) (fun e => ?_) ?_
  · refine (congrFun (V_main_arg1 m c) ((((cfgM m hO).win 1).rect t).emb (ValueIdx.ix3 0 (j 0) (j 1)))).trans (at3_of (own m c) _ ?_ ?_ ?_)
    · show w1 m hO t 0 * 1 + 1 * 0 = d; omega
    · show w1 m hO t 1 * 256 + 1 * (j 0).val = _; omega
    · show w1 m hO t 2 * 1024 + 1 * (j 1).val = _; omega
  · refine (congrFun (V_main_arg0 m c) ((((cfgM m hO).win 0).rect t).emb (ValueIdx.ix3 ⟨d, hd⟩ (j 0) (j 1)))).trans (at3_of (slots m c) _ ?_ ?_ ?_)
    · show w0 m hO t 0 * 8 + 1 * d = d; omega
    · show w0 m hO t 1 * 256 + 1 * (j 0).val = _; omega
    · show w0 m hO t 2 * 1024 + 1 * (j 1).val = _; omega

theorem point5 (t : Fin (cfgM m hO).N) (j : S256x1024.Idx) :
    ((outsAt0 m hO c t).1 j : EReal) = G m c (put m hO t j) := by
  rw [out5]
  exact sums_eq _ _ _ j _ (part_eq m hO c t j)

theorem point7 (t : Fin (cfgM m hO).N) (j : S256x1024.Idx) : ((outsAt0 m hO c t).2.2.1 j : EReal) = M' m c (put m hO t j) := by
  rw [out7]
  exact congrArg₂ first (congrFun (V_main_arg4 m c) (put m hO t j)) (point5 m hO c t j)
theorem point8 (t : Fin (cfgM m hO).N) (j : S256x1024.Idx) : ((outsAt0 m hO c t).2.2.2 j : EReal) = N' m c (put m hO t j) := by
  rw [out8]
  exact congrArg₂ second (congrFun (V_main_arg5 m c) (put m hO t j)) (point5 m hO c t j)
theorem point6 (t : Fin (cfgM m hO).N) (j : S256x1024.Idx) : ((outsAt0 m hO c t).2.1 j : EReal) = D m c (put m hO t j) := by
  rw [out6]
  exact congr (congrArg₂ delta (congrFun (V_main_arg3 m c) (put m hO t j))
    (congrArg₂ first (congrFun (V_main_arg4 m c) (put m hO t j)) (point5 m hO c t j)))
    (congrArg₂ second (congrFun (V_main_arg5 m c) (put m hO t j)) (point5 m hO c t j))

/-- The points write back every row of a result. -/
theorem covered (i : S4096x1024.Idx) :
    ∃ t : Fin (cfgM m hO).N, ((cfgM m hO).win 5).flush t = true ∧ i ∈ (((cfgM m hO).win 5).blk t).view.set := by
  have i0 : (i 0).val < 4096 := (i 0).isLt
  have i1 : (i 1).val < 1024 := (i 1).isLt
  have ht : (i 0).val / 256 < (cfgM m hO).N := by show _ < grid0.N; rw [N_0]; omega
  obtain ⟨u, hu, e⟩ := exists_flush ((cfgM m hO).win 5) rfl _ ⟨(i 0).val / 256, ht⟩ rfl
  refine ⟨u, hu, (((cfgM m hO).win 5).emb_mem_blk_iff u i).mpr fun a => ?_⟩
  have e : w2 m hO u = ![(i 0).val / 256, 0] := e.trans (idx2 m hO _)
  have e0 : w2 m hO u 0 = (i 0).val / 256 := congrFun e 0
  have e1 : w2 m hO u 1 = 0 := congrFun e 1
  match a with
  | ⟨0, _⟩ => show w2 m hO u 0 * 256 ≤ (i 0).val ∧ (i 0).val < w2 m hO u 0 * 256 + 256; omega
  | ⟨1, _⟩ => show w2 m hO u 1 * 1024 ≤ (i 1).val ∧ (i 1).val < w2 m hO u 1 * 1024 + 1024; omega

/-- The kernel's arrays after the run. -/
theorem final5 : ((dats m hO 0 c).arrAt 5 (cfgM m hO).N : S4096x1024.Idx → EReal) = G m c := funext fun i =>
  ((dats m hO 0 c).arrAt_eq_piecewise 5 (G m c) (fun t _ => funext fun j => (congrFun (after0_5 m hO c t) j).trans (point5 m hO c t j)) i).trans
    (if_pos (covered m hO i))
theorem final6 : ((dats m hO 0 c).arrAt 6 (cfgM m hO).N : S4096x1024.Idx → EReal) = D m c := funext fun i =>
  ((dats m hO 0 c).arrAt_eq_piecewise 6 (D m c) (fun t _ => funext fun j => (congrFun (after0_6 m hO c t) j).trans (point6 m hO c t j)) i).trans
    (if_pos (covered m hO i))
theorem final7 : ((dats m hO 0 c).arrAt 7 (cfgM m hO).N : S4096x1024.Idx → EReal) = M' m c := funext fun i =>
  ((dats m hO 0 c).arrAt_eq_piecewise 7 (M' m c) (fun t _ => funext fun j => (congrFun (after0_7 m hO c t) j).trans (point7 m hO c t j)) i).trans
    (if_pos (covered m hO i))
theorem final8 : ((dats m hO 0 c).arrAt 8 (cfgM m hO).N : S4096x1024.Idx → EReal) = N' m c := funext fun i =>
  ((dats m hO 0 c).arrAt_eq_piecewise 8 (N' m c) (fun t _ => funext fun j => (congrFun (after0_8 m hO c t) j).trans (point8 m hO c t j)) i).trans
    (if_pos (covered m hO i))

/-- The run, with the results named. -/
theorem named (hO : Ok m) (g : Dev nD → PrngReg) : θ_run defs (onTc (τ := τ) main) ⟨m, fun _ => 0, g⟩ (fun r => ∀ c : Dev nD,
      r.2.mem ((c.tc : Thread nD τ).loc main_v0_0) = G m c
      ∧ r.2.mem ((c.tc : Thread nD τ).loc main_v0_1) = D m c
      ∧ r.2.mem ((c.tc : Thread nD τ).loc main_v0_2) = M' m c
      ∧ r.2.mem ((c.tc : Thread nD τ).loc main_v0_3) = N' m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h.1 c).1 5).trans (final5 m hO c), ((h.1 c).1 6).trans (final6 m hO c),
    ((h.1 c).1 7).trans (final7 m hO c), ((h.1 c).1 8).trans (final8 m hO c), h.2 c⟩) (θ_run_and (run_main m g hO) (unchanged m g hO))

end Cert.AdamInIdeal.Product

namespace Cert.RefAdamInIdeal.Product
open Cert Cert.RefAdamInIdeal Cert.RefAdamInIdeal.Gen Cert.Mul

/-- The reference's gradient. -/
abbrev total (a b : FVec Ideal S8x4096x1024 .bf16) (d : IVec S1 32) : FVec Ideal S4096x1024 .f32 :=
  Host.reduceAdd (extf .f32 (select (broadcastInDim S8x4096x1024 ![0, 1, 2] bcast_S8x1x1_S8x4096x1024_0_1_2
    (broadcastInDim S8x1x1 ![0] bcast_S8_S8x1x1_0 (cmpi .eq (iotaInDim S8 32 0) (broadcastInDim S8 ![0] bcast_S1_S8_0 d)))) b a)
    bitsLt_bf16_f32) (constant S_ .f32 0x00000000#32) reducesTo_S8x4096x1024_S4096x1024_d0 h_S_
theorem total_eq (a b : FVec Ideal S8x4096x1024 .bf16) (d : IVec S1 32) : total a b d = grads a b d := ref_grad a b d _ _ _ _ _ _

section Run
variable (m : (ℓ : Loc nD τ sig) → Buf (Elt Ideal) ℓ) (c : Dev nD)

/-- Its arguments and its results, on a core. -/
abbrev slots : S8x4096x1024.Idx → EReal := m ((c.tc : Thread nD τ).loc main_arg0)
abbrev own : S8x4096x1024.Idx → EReal := m ((c.tc : Thread nD τ).loc main_arg1)
abbrev me : S1.Idx → BitVec 32 := m ((c.tc : Thread nD τ).loc main_arg2)
abbrev W : S4096x1024.Idx → EReal := m ((c.tc : Thread nD τ).loc main_arg3)
abbrev M : S4096x1024.Idx → EReal := m ((c.tc : Thread nD τ).loc main_arg4)
abbrev N : S4096x1024.Idx → EReal := m ((c.tc : Thread nD τ).loc main_arg5)
abbrev G : S4096x1024.Idx → EReal := grads (slots m c) (own m c) (me m c)
abbrev M' : S4096x1024.Idx → EReal := firsts (M m c) (G m c)
abbrev N' : S4096x1024.Idx → EReal := seconds (N m c) (G m c)
abbrev D : S4096x1024.Idx → EReal := deltas (W m c) (M' m c) (N' m c)

/-- Its run, with the results named. -/
theorem named (ρ : Dev nD → PrngReg) : θ_run defs (onTc (τ := τ) main) ⟨m, fun _ => 0, ρ⟩ (fun r => ∀ c : Dev nD,
      r.2.mem ((c.tc : Thread nD τ).loc main_v6) = G m c
      ∧ r.2.mem ((c.tc : Thread nD τ).loc main_v30) = D m c
      ∧ r.2.mem ((c.tc : Thread nD τ).loc main_v11) = M' m c
      ∧ r.2.mem ((c.tc : Thread nD τ).loc main_v17) = N' m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => by
    have g := total_eq (slots m c) (own m c) (me m c)
    have p := (ref_first bcast_S_S4096x1024 (M m c) _).trans (congrArg (firsts (M m c)) g)
    have q := (ref_second bcast_S_S4096x1024 (N m c) _).trans (congrArg (seconds (N m c)) g)
    exact ⟨(h c).1.trans g, (h c).2.1.trans ((ref_delta bcast_S_S4096x1024 (W m c) _ _).trans (congrArg₂ (deltas (W m c)) p q)),
      (h c).2.2.1.trans p, (h c).2.2.2.1.trans q, (h c).2.2.2.2⟩) (Value.run m ρ)

end Run

/-- It leaves its arguments, and has no semaphore, whatever the table. -/
theorem frame : quiescent_RefAdamInIdeal (hRefAdamInIdeal := facts) := fun m g _ =>
  (θ_run defs _ _).mono (fun r h => ⟨fun c => (h c).2.2.2.2, sem_eq_zero_of_no_sems (by decide) r.2⟩) (named m g)

end Cert.RefAdamInIdeal.Product

/-- The two runs end with the same arrays. -/
theorem Cert.AdamInIdeal.Product.claim :
    Cert.algebraic_AdamInIdeal_RefAdamInIdeal (hAdamInIdeal := Cert.AdamInIdeal.Gen.facts) (hRefAdamInIdeal := Cert.RefAdamInIdeal.Gen.facts)
      (hPre_adam_in_place := preFacts) := fun m g m' g' h e => by
  have s (c) : Cert.RefAdamInIdeal.Product.G m' c = G m c := Cert.Mul.congr₃ Cert.Mul.grads (e c).1 (e c).2.1 (e c).2.2.1
  have p (c) : Cert.RefAdamInIdeal.Product.M' m' c = M' m c := congrArg₂ Cert.Mul.firsts (e c).2.2.2.2.1 (s c)
  have q (c) : Cert.RefAdamInIdeal.Product.N' m' c = N' m c := congrArg₂ Cert.Mul.seconds (e c).2.2.2.2.2 (s c)
  exact ⟨fun c => G m c, fun c => D m c, fun c => M' m c, fun c => N' m c, named m (ok_of_pre m h) g,
    (θ_run Cert.RefAdamInIdeal.defs _ _).mono (fun _ h c => ⟨(h c).1.trans (s c),
      (h c).2.1.trans (Cert.Mul.congr₃ Cert.Mul.deltas (e c).2.2.2.1 (p c) (q c)), (h c).2.2.1.trans (p c), (h c).2.2.2.1.trans (q c),
      (h c).2.2.2.2⟩)
      (Cert.RefAdamInIdeal.Product.named m' g')⟩

/-- The two programs' frames: a number that one admits, the other does. -/
theorem Cert.AdamInIdeal.Product.wordFrame :
    Cert.quiescent_AdamIn (hAdamIn := Cert.AdamIn.Gen.facts) (hPre_adam_in_place := preFacts) := fun m g h =>
  Cert.AdamIn.Gen.frame m g (ok_of (F := Bits) (Cert.AdamIn.Gen.tbl m)
    fun x => (congrArg BitVec.toNat (congrFun (Cert.AdamIn.Gen.V_main_arg2 m 0) x)).trans_lt (Cert.Mul.toNat_lt_of_range _ (congrFun (h 0) x)))
theorem Cert.AdamInIdeal.Product.idealFrame :
    Cert.quiescent_AdamInIdeal (hAdamInIdeal := Cert.AdamInIdeal.Gen.facts) (hPre_adam_in_place := preFacts) := fun m g h =>
  Cert.AdamInIdeal.Gen.frame m g (ok_of_pre m h)
-- ==== Proof.Mul.AdamOut.lean ====
/- The optimiser's step of the output projection's weight: the gradient summed over the devices' parts, the weight's change and its two
   next moments. -/
module

public import proofs.«01_k».proof.Defs
public import proofs.«01_k».proof.Proof.Mul.Adam
public import proofs.«01_k».proof.Proof.Gen.AdamOutIdeal.Frame
public import proofs.«01_k».proof.Proof.Gen.AdamOut.Frame
public import proofs.«01_k».proof.Proof.Gen.RefAdamOutIdeal.Run
public import Idealize.ShloMosaic.Lib.Affine
public import Idealize.ShloMosaic.Lib.Pipeline.ValueKit.Acc
public import Idealize.ShloMosaic.Lib.Pipeline.ValueKit.Geometry
public import Idealize.ShloMosaic.Lib.Pointwise

public section
open Idealize.ShloMosaic Idealize.ShloMosaic.Ideal
set_option maxRecDepth 16384
noncomputable section

namespace Cert.AdamOutIdeal.Product
open Cert.AdamOutIdeal Cert.AdamOutIdeal.Gen Cert.Mul Idealize.ShloMosaic.TcCoe

section Tables
variable {F : FTy → Type} [FloatOps F]

/-- The own part's block, by the device's number. -/
theorem ix1_eq (pf : pre0.Contents (Elt F)) (i : grid0.Coords) :
    cc0_transform_1 inb_S1_S1_0 numel1_S1 pf i = ![grp (pf 0 : S1.Idx → BitVec 32) 0, (i 0).val, 0] := by
  have e : (pf.at 0 (Rect.unit (s := S1) ![0] S1.size inb_S1_S1_0) numel1_S1 : BitVec 32).toNat
      = grp (pf 0 : S1.Idx → BitVec 32) 0 := grp_of (pf 0 : S1.Idx → BitVec 32) _ rfl
  have e0 : (BitVec.ofNat 32 (i 0).val).toNat = (i 0).val := by
    have : (i 0).val < 8 := (i 0).isLt
    rw [BitVec.toNat_ofNat]; exact Nat.mod_eq_of_lt (by omega)
  exact congrArg₂ (fun a b => ![a, b, 0]) e e0

/-- A number in range is admissible. -/
theorem ok_of (pf : pre0.Contents (Elt F)) (h : ∀ x, (pf 0 x : BitVec 32).toNat < 8) : ok0 pf := by
  have hg : grp (pf 0 : S1.Idx → BitVec 32) 0 < 8 := grp_lt h 0
  refine fun i => ⟨?_, .inr ?_⟩
  · rw [ix1_eq]
    have h0 : (i 0).val < 8 := (i 0).isLt
    intro a
    match a with
    | ⟨0, _⟩ => show (grp (pf 0 : S1.Idx → BitVec 32) 0 + 1) * 1 ≤ 8; omega
    | ⟨1, _⟩ => show ((i 0).val + 1) * 64 ≤ 512; omega
    | ⟨2, _⟩ => show (0 + 1) * 4096 ≤ 4096; omega
  · exact Affine.words_of_packed (Affine.packed_dvd (by decide) (by rw [ix1_eq]; exact Dvd.intro_left _ (Nat.mul_assoc (i 0).val 32 2)) (by decide))

/-- The precondition's side conditions. -/
theorem preFacts : Cert.Pre_adam_out_place.Facts := ⟨by decide⟩

/-- Its number is in range. -/
theorem ok_of_pre (m : (ℓ : Loc nD τ sig) → Buf (Elt F) ℓ)
    (h : ∀ c : Dev nD, @Cert.Pre_adam_out_place.fn preFacts F _ (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) = fun _ => 1#1) : Ok m :=
  ok_of (tbl m) fun x => (congrArg BitVec.toNat (congrFun (V_main_arg2 m 0) x)).trans_lt (Cert.Mul.toNat_lt_of_range _ (congrFun (h 0) x))

end Tables

variable (m : (ℓ : Loc nD τ sig) → Buf (Elt Ideal) ℓ) (hO : Ok m) (c : Dev nD)

/-- The arguments, on a core. -/
@[expose] def slots : S8x512x4096.Idx → EReal := m ((c : Thread nD τ).loc main_arg0)
@[expose] def own : S8x512x4096.Idx → EReal := m ((c : Thread nD τ).loc main_arg1)
@[expose] def me : S1.Idx → BitVec 32 := m ((c : Thread nD τ).loc main_arg2)
@[expose] def W : S512x4096.Idx → EReal := m ((c : Thread nD τ).loc main_arg3)
@[expose] def M : S512x4096.Idx → EReal := m ((c : Thread nD τ).loc main_arg4)
@[expose] def N : S512x4096.Idx → EReal := m ((c : Thread nD τ).loc main_arg5)

/-- The table that the region reads is the third argument. -/
theorem tbl_eq : (tbl m 0 : S1.Idx → BitVec 32) = me m c := by
  obtain rfl : c = 0 := Subsingleton.elim _ _
  exact V_main_arg2 m 0

/-- The blocks at a point. -/
theorem row (t : Fin grid0.N) : (grid0.coords t 0).val = t.val := by
  have e : (grid0.coords t 0).val = t.val / 1 % 8 := Pipeline.Grid.coords_val t 0 (by decide) rfl
  have : t.val < 8 := lt_of_lt_of_eq t.isLt N_0
  omega
abbrev w0 (t : Fin (cfgM m hO).N) : Fin 3 → ℕ := ((cfgM m hO).win 0).index t
abbrev w1 (t : Fin (cfgM m hO).N) : Fin 3 → ℕ := ((cfgM m hO).win 1).index t
abbrev w2 (t : Fin (cfgM m hO).N) : Fin 2 → ℕ := ((cfgM m hO).win 5).index t
theorem idx0 : ∀ t : Fin (cfgM m hO).N, w0 m hO t = ![0, t.val, 0] :=
  (by decide +kernel : ∀ t : Fin grid0.N, cc0_transform_0 (grid0.coords t) = ![0, t.val, 0])
theorem idx1 (t : Fin (cfgM m hO).N) : w1 m hO t = ![grp (me m c) 0, t.val, 0] := by
  rw [← tbl_eq, ← row t]; exact ix1_eq (tbl m) _
theorem idx2 : ∀ t : Fin (cfgM m hO).N, w2 m hO t = ![t.val, 0] :=
  (by decide +kernel : ∀ t : Fin grid0.N, cc0_transform_5 (grid0.coords t) = ![t.val, 0])

/-- The results over a whole weight: the gradient, the next moments and the change. -/
abbrev G : S512x4096.Idx → EReal := grads (slots m c) (own m c) (me m c)
abbrev M' : S512x4096.Idx → EReal := firsts (M m c) (G m c)
abbrev N' : S512x4096.Idx → EReal := seconds (N m c) (G m c)
abbrev D : S512x4096.Idx → EReal := deltas (W m c) (M' m c) (N' m c)

/-- An element of a point's block of a result, in the array. -/
abbrev put (t : Fin (cfgM m hO).N) (j : S64x4096.Idx) : S512x4096.Idx := (((cfgM m hO).win 5).rect t).emb j

/-- A part's block among the eight. -/
abbrev ld (x : FVec Ideal S8x64x4096 .bf16) (d : ℕ) (h : ∀ a, (![d, 0, 0] : Fin 3 → ℕ) a + S1x64x4096.size a ≤ S8x64x4096.size a) :
    FVec Ideal S1x64x4096 .bf16 := View.ld (Val := Elt Ideal) (e' := EltTy.bf16) x (Rect.unit (s := S8x64x4096) ![d, 0, 0] S1x64x4096.size h)

/-- The body's sum of the parts: the device's number, its own part's block and the blocks received. -/
@[expose] def sums (s : BitVec 32) (o : FVec Ideal S1x64x4096 .bf16) (x : FVec Ideal S8x64x4096 .bf16) : FVec Ideal S64x4096 .f32 :=
  k0_pay4 (F := Ideal) s (k0_pay2 o) (k0_pay3 s o (ld x 0 inb_S8x64x4096_S1x64x4096_0_0_0) (ld x 1 inb_S8x64x4096_S1x64x4096_1_0_0)
    (ld x 2 inb_S8x64x4096_S1x64x4096_2_0_0) (ld x 3 inb_S8x64x4096_S1x64x4096_3_0_0) (ld x 4 inb_S8x64x4096_S1x64x4096_4_0_0))
    (Scalar.cmpi .eq s 5#32) (ld x 5 inb_S8x64x4096_S1x64x4096_5_0_0) (ld x 6 inb_S8x64x4096_S1x64x4096_6_0_0)
    (ld x 7 inb_S8x64x4096_S1x64x4096_7_0_0)

theorem sums_eq (s : BitVec 32) (o : FVec Ideal S1x64x4096 .bf16) (x : FVec Ideal S8x64x4096 .bf16) (j : S64x4096.Idx) (f : ℕ → EReal)
    (h : ∀ d (hd : d < 8), (Scalar.select (Scalar.cmpi .eq s (BitVec.ofNat 32 d)) (o (ValueIdx.ix3 0 (j 0) (j 1)))
      (x (ValueIdx.ix3 ⟨d, hd⟩ (j 0) (j 1))) : EReal) = f d) : (sums s o x j : EReal) = ∑ d ∈ Finset.range 8, f d := by
  have e (d) (hd : d < 8) (b) : (Scalar.select (Scalar.cmpi .eq s (BitVec.ofNat 32 d)) (o (ValueIdx.ix3 0 (j 0) (j 1)))
      (ld x d b (ValueIdx.ix3 0 (j 0) (j 1))) : EReal) = f d := by
    refine (congrArg (Scalar.select _ _) (congrArg x (funext fun a => Fin.ext ?_))).trans (h d hd)
    match a with
    | ⟨0, _⟩ => show d + 1 * 0 = d; omega
    | ⟨1, _⟩ => show 0 + 1 * (j 0).val = (j 0).val; omega
    | ⟨2, _⟩ => show 0 + 1 * (j 1).val = (j 1).val; omega
  rw [← sum_eight]
  unfold sums k0_pay4 k0_pay3 k0_pay2
  pointwise
  exact congr_add7 (e 0 (by decide) _) (e 1 (by decide) _) (e 2 (by decide) _) (e 3 (by decide) _) (e 4 (by decide) _) (e 5 (by decide) _)
    (e 6 (by decide) _) (e 7 (by decide) _)

/-- The device's number, as the body reads it. -/
@[expose] def dev : BitVec 32 := (tbl m).at 0 (Rect.unit (s := S1) ![0] S1.size inb_S1_S1_0) numel1_S1

/-- A point's block of the gradient. -/
theorem out5 (t : Fin (cfgM m hO).N) : (outsAt0 m hO c t).1 = sums (dev m) (iblk m hO c 1 t) (iblk m hO c 0 t) := by
  unfold outsAt0 out0_A_5
  dsimp only
  frame_out
  exact congrArg₂ (sums (dev m)) (Memref.IsWhole.read_unread _ _) (Memref.IsWhole.read_unread _ _)

/-- The next moments' blocks and the change's, from the gradient's. -/
theorem out7 (t : Fin (cfgM m hO).N) : (outsAt0 m hO c t).2.2.1 = firsts (iblk m hO c 3 t) (outsAt0 m hO c t).1 := by
  rw [out5]
  unfold outsAt0 out0_A_7
  dsimp only
  frame_out
  exact congrArg₂ firsts (Memref.IsWhole.read_unread _ _)
    (congrArg₂ (sums (dev m)) (Memref.IsWhole.read_unread _ _) (Memref.IsWhole.read_unread _ _))
theorem out8 (t : Fin (cfgM m hO).N) : (outsAt0 m hO c t).2.2.2 = seconds (iblk m hO c 4 t) (outsAt0 m hO c t).1 := by
  rw [out5]
  unfold outsAt0 out0_A_8
  dsimp only
  frame_out
  exact congrArg₂ seconds (Memref.IsWhole.read_unread _ _)
    (congrArg₂ (sums (dev m)) (Memref.IsWhole.read_unread _ _) (Memref.IsWhole.read_unread _ _))
theorem out6 (t : Fin (cfgM m hO).N) : (outsAt0 m hO c t).2.1
    = deltas (iblk m hO c 2 t) (firsts (iblk m hO c 3 t) (outsAt0 m hO c t).1) (seconds (iblk m hO c 4 t) (outsAt0 m hO c t).1) := by
  rw [out5]
  unfold outsAt0 out0_A_6
  dsimp only
  frame_out
  have e := congrArg₂ (sums (dev m)) (Memref.IsWhole.read_unread (hs0_1 m hO t) (iblk m hO c 1 t))
    (Memref.IsWhole.read_unread (hs0_0 m hO t) (iblk m hO c 0 t))
  exact congr (congrArg₂ deltas (Memref.IsWhole.read_unread _ _) (congrArg₂ firsts (Memref.IsWhole.read_unread _ _) e))
    (congrArg₂ seconds (Memref.IsWhole.read_unread _ _) e)

/-- A place's part. -/
theorem part_eq (t : Fin (cfgM m hO).N) (j : S64x4096.Idx) (d : ℕ) (hd : d < 8) :
    (Scalar.select (Scalar.cmpi .eq (dev m) (BitVec.ofNat 32 d)) (iblk m hO c 1 t (ValueIdx.ix3 0 (j 0) (j 1)))
      (iblk m hO c 0 t (ValueIdx.ix3 ⟨d, hd⟩ (j 0) (j 1))) : EReal)
        = part (slots m c) (own m c) (grp (me m c) 0) (put m hO t j 0).val (put m hO t j 1).val d := by
  have a0 : w0 m hO t 0 = 0 := congrFun (idx0 m hO t) 0
  have a1 : w0 m hO t 1 = t.val := congrFun (idx0 m hO t) 1
  have a2 : w0 m hO t 2 = 0 := congrFun (idx0 m hO t) 2
  have b0 : w1 m hO t 0 = grp (me m c) 0 := congrFun (idx1 m hO c t) 0
  have b1 : w1 m hO t 1 = t.val := congrFun (idx1 m hO c t) 1
  have b2 : w1 m hO t 2 = 0 := congrFun (idx1 m hO c t) 2
  have d0 : w2 m hO t 0 = t.val := congrFun (idx2 m hO t) 0
  have d1 : w2 m hO t 1 = 0 := congrFun (idx2 m hO t) 1
  have r0 : (put m hO t j 0).val = t.val * 64 + (j 0).val := by
    show w2 m hO t 0 * 64 + 1 * (j 0).val = _; omega
  have r1 : (put m hO t j 1).val = (j 1).val := by
    show w2 m hO t 1 * 4096 + 1 * (j 1).val = _; omega
  have g : (dev m).toNat = grp (me m c) 0 := by
    rw [← tbl_eq]; exact grp_of (tbl m 0 : S1.Idx → BitVec 32) _ rfl
  rw [r0, r1]
  refine pick ((flag (dev m) d hd).trans (by rw [g])) (fun e => ?_) ?_
  · refine (congrFun (V_main_arg1 m c) ((((cfgM m hO).win 1).rect t).emb (ValueIdx.ix3 0 (j 0) (j 1)))).trans (at3_of (own m c) _ ?_ ?_ ?_)
    · show w1 m hO t 0 * 1 + 1 * 0 = d; omega
    · show w1 m hO t 1 * 64 + 1 * (j 0).val = _; omega
    · show w1 m hO t 2 * 4096 + 1 * (j 1).val = _; omega
  · refine (congrFun (V_main_arg0 m c) ((((cfgM m hO).win 0).rect t).emb (ValueIdx.ix3 ⟨d, hd⟩ (j 0) (j 1)))).trans (at3_of (slots m c) _ ?_ ?_ ?_)
    · show w0 m hO t 0 * 8 + 1 * d = d; omega
    · show w0 m hO t 1 * 64 + 1 * (j 0).val = _; omega
    · show w0 m hO t 2 * 4096 + 1 * (j 1).val = _; omega

theorem point5 (t : Fin (cfgM m hO).N) (j : S64x4096.Idx) :
    ((outsAt0 m hO c t).1 j : EReal) = G m c (put m hO t j) := by
  rw [out5]
  exact sums_eq _ _ _ j _ (part_eq m hO c t j)

theorem point7 (t : Fin (cfgM m hO).N) (j : S64x4096.Idx) : ((outsAt0 m hO c t).2.2.1 j : EReal) = M' m c (put m hO t j) := by
  rw [out7]
  exact congrArg₂ first (congrFun (V_main_arg4 m c) (put m hO t j)) (point5 m hO c t j)
theorem point8 (t : Fin (cfgM m hO).N) (j : S64x4096.Idx) : ((outsAt0 m hO c t).2.2.2 j : EReal) = N' m c (put m hO t j) := by
  rw [out8]
  exact congrArg₂ second (congrFun (V_main_arg5 m c) (put m hO t j)) (point5 m hO c t j)
theorem point6 (t : Fin (cfgM m hO).N) (j : S64x4096.Idx) : ((outsAt0 m hO c t).2.1 j : EReal) = D m c (put m hO t j) := by
  rw [out6]
  exact congr (congrArg₂ delta (congrFun (V_main_arg3 m c) (put m hO t j))
    (congrArg₂ first (congrFun (V_main_arg4 m c) (put m hO t j)) (point5 m hO c t j)))
    (congrArg₂ second (congrFun (V_main_arg5 m c) (put m hO t j)) (point5 m hO c t j))

/-- The points write back every row of a result. -/
theorem covered (i : S512x4096.Idx) :
    ∃ t : Fin (cfgM m hO).N, ((cfgM m hO).win 5).flush t = true ∧ i ∈ (((cfgM m hO).win 5).blk t).view.set := by
  have i0 : (i 0).val < 512 := (i 0).isLt
  have i1 : (i 1).val < 4096 := (i 1).isLt
  have ht : (i 0).val / 64 < (cfgM m hO).N := by show _ < grid0.N; rw [N_0]; omega
  obtain ⟨u, hu, e⟩ := exists_flush ((cfgM m hO).win 5) rfl _ ⟨(i 0).val / 64, ht⟩ rfl
  refine ⟨u, hu, (((cfgM m hO).win 5).emb_mem_blk_iff u i).mpr fun a => ?_⟩
  have e : w2 m hO u = ![(i 0).val / 64, 0] := e.trans (idx2 m hO _)
  have e0 : w2 m hO u 0 = (i 0).val / 64 := congrFun e 0
  have e1 : w2 m hO u 1 = 0 := congrFun e 1
  match a with
  | ⟨0, _⟩ => show w2 m hO u 0 * 64 ≤ (i 0).val ∧ (i 0).val < w2 m hO u 0 * 64 + 64; omega
  | ⟨1, _⟩ => show w2 m hO u 1 * 4096 ≤ (i 1).val ∧ (i 1).val < w2 m hO u 1 * 4096 + 4096; omega

/-- The kernel's arrays after the run. -/
theorem final5 : ((dats m hO 0 c).arrAt 5 (cfgM m hO).N : S512x4096.Idx → EReal) = G m c := funext fun i =>
  ((dats m hO 0 c).arrAt_eq_piecewise 5 (G m c) (fun t _ => funext fun j => (congrFun (after0_5 m hO c t) j).trans (point5 m hO c t j)) i).trans
    (if_pos (covered m hO i))
theorem final6 : ((dats m hO 0 c).arrAt 6 (cfgM m hO).N : S512x4096.Idx → EReal) = D m c := funext fun i =>
  ((dats m hO 0 c).arrAt_eq_piecewise 6 (D m c) (fun t _ => funext fun j => (congrFun (after0_6 m hO c t) j).trans (point6 m hO c t j)) i).trans
    (if_pos (covered m hO i))
theorem final7 : ((dats m hO 0 c).arrAt 7 (cfgM m hO).N : S512x4096.Idx → EReal) = M' m c := funext fun i =>
  ((dats m hO 0 c).arrAt_eq_piecewise 7 (M' m c) (fun t _ => funext fun j => (congrFun (after0_7 m hO c t) j).trans (point7 m hO c t j)) i).trans
    (if_pos (covered m hO i))
theorem final8 : ((dats m hO 0 c).arrAt 8 (cfgM m hO).N : S512x4096.Idx → EReal) = N' m c := funext fun i =>
  ((dats m hO 0 c).arrAt_eq_piecewise 8 (N' m c) (fun t _ => funext fun j => (congrFun (after0_8 m hO c t) j).trans (point8 m hO c t j)) i).trans
    (if_pos (covered m hO i))

/-- The run, with the results named. -/
theorem named (hO : Ok m) (g : Dev nD → PrngReg) : θ_run defs (onTc (τ := τ) main) ⟨m, fun _ => 0, g⟩ (fun r => ∀ c : Dev nD,
      r.2.mem ((c.tc : Thread nD τ).loc main_v0_0) = G m c
      ∧ r.2.mem ((c.tc : Thread nD τ).loc main_v0_1) = D m c
      ∧ r.2.mem ((c.tc : Thread nD τ).loc main_v0_2) = M' m c
      ∧ r.2.mem ((c.tc : Thread nD τ).loc main_v0_3) = N' m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h.1 c).1 5).trans (final5 m hO c), ((h.1 c).1 6).trans (final6 m hO c),
    ((h.1 c).1 7).trans (final7 m hO c), ((h.1 c).1 8).trans (final8 m hO c), h.2 c⟩) (θ_run_and (run_main m g hO) (unchanged m g hO))

end Cert.AdamOutIdeal.Product

namespace Cert.RefAdamOutIdeal.Product
open Cert Cert.RefAdamOutIdeal Cert.RefAdamOutIdeal.Gen Cert.Mul

/-- The reference's gradient. -/
abbrev total (a b : FVec Ideal S8x512x4096 .bf16) (d : IVec S1 32) : FVec Ideal S512x4096 .f32 :=
  Host.reduceAdd (extf .f32 (select (broadcastInDim S8x512x4096 ![0, 1, 2] bcast_S8x1x1_S8x512x4096_0_1_2
    (broadcastInDim S8x1x1 ![0] bcast_S8_S8x1x1_0 (cmpi .eq (iotaInDim S8 32 0) (broadcastInDim S8 ![0] bcast_S1_S8_0 d)))) b a)
    bitsLt_bf16_f32) (constant S_ .f32 0x00000000#32) reducesTo_S8x512x4096_S512x4096_d0 h_S_
theorem total_eq (a b : FVec Ideal S8x512x4096 .bf16) (d : IVec S1 32) : total a b d = grads a b d := ref_grad a b d _ _ _ _ _ _

section Run
variable (m : (ℓ : Loc nD τ sig) → Buf (Elt Ideal) ℓ) (c : Dev nD)

/-- Its arguments and its results, on a core. -/
abbrev slots : S8x512x4096.Idx → EReal := m ((c.tc : Thread nD τ).loc main_arg0)
abbrev own : S8x512x4096.Idx → EReal := m ((c.tc : Thread nD τ).loc main_arg1)
abbrev me : S1.Idx → BitVec 32 := m ((c.tc : Thread nD τ).loc main_arg2)
abbrev W : S512x4096.Idx → EReal := m ((c.tc : Thread nD τ).loc main_arg3)
abbrev M : S512x4096.Idx → EReal := m ((c.tc : Thread nD τ).loc main_arg4)
abbrev N : S512x4096.Idx → EReal := m ((c.tc : Thread nD τ).loc main_arg5)
abbrev G : S512x4096.Idx → EReal := grads (slots m c) (own m c) (me m c)
abbrev M' : S512x4096.Idx → EReal := firsts (M m c) (G m c)
abbrev N' : S512x4096.Idx → EReal := seconds (N m c) (G m c)
abbrev D : S512x4096.Idx → EReal := deltas (W m c) (M' m c) (N' m c)

/-- Its run, with the results named. -/
theorem named (ρ : Dev nD → PrngReg) : θ_run defs (onTc (τ := τ) main) ⟨m, fun _ => 0, ρ⟩ (fun r => ∀ c : Dev nD,
      r.2.mem ((c.tc : Thread nD τ).loc main_v6) = G m c
      ∧ r.2.mem ((c.tc : Thread nD τ).loc main_v30) = D m c
      ∧ r.2.mem ((c.tc : Thread nD τ).loc main_v11) = M' m c
      ∧ r.2.mem ((c.tc : Thread nD τ).loc main_v17) = N' m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => by
    have g := total_eq (slots m c) (own m c) (me m c)
    have p := (ref_first bcast_S_S512x4096 (M m c) _).trans (congrArg (firsts (M m c)) g)
    have q := (ref_second bcast_S_S512x4096 (N m c) _).trans (congrArg (seconds (N m c)) g)
    exact ⟨(h c).1.trans g, (h c).2.1.trans ((ref_delta bcast_S_S512x4096 (W m c) _ _).trans (congrArg₂ (deltas (W m c)) p q)),
      (h c).2.2.1.trans p, (h c).2.2.2.1.trans q, (h c).2.2.2.2⟩) (Value.run m ρ)

end Run

/-- It leaves its arguments, and has no semaphore, whatever the table. -/
theorem frame : quiescent_RefAdamOutIdeal (hRefAdamOutIdeal := facts) := fun m g _ =>
  (θ_run defs _ _).mono (fun r h => ⟨fun c => (h c).2.2.2.2, sem_eq_zero_of_no_sems (by decide) r.2⟩) (named m g)

end Cert.RefAdamOutIdeal.Product

/-- The two runs end with the same arrays. -/
theorem Cert.AdamOutIdeal.Product.claim :
    Cert.algebraic_AdamOutIdeal_RefAdamOutIdeal (hAdamOutIdeal := Cert.AdamOutIdeal.Gen.facts) (hRefAdamOutIdeal := Cert.RefAdamOutIdeal.Gen.facts)
      (hPre_adam_out_place := preFacts) := fun m g m' g' h e => by
  have s (c) : Cert.RefAdamOutIdeal.Product.G m' c = G m c := Cert.Mul.congr₃ Cert.Mul.grads (e c).1 (e c).2.1 (e c).2.2.1
  have p (c) : Cert.RefAdamOutIdeal.Product.M' m' c = M' m c := congrArg₂ Cert.Mul.firsts (e c).2.2.2.2.1 (s c)
  have q (c) : Cert.RefAdamOutIdeal.Product.N' m' c = N' m c := congrArg₂ Cert.Mul.seconds (e c).2.2.2.2.2 (s c)
  exact ⟨fun c => G m c, fun c => D m c, fun c => M' m c, fun c => N' m c, named m (ok_of_pre m h) g,
    (θ_run Cert.RefAdamOutIdeal.defs _ _).mono (fun _ h c => ⟨(h c).1.trans (s c),
      (h c).2.1.trans (Cert.Mul.congr₃ Cert.Mul.deltas (e c).2.2.2.1 (p c) (q c)), (h c).2.2.1.trans (p c), (h c).2.2.2.1.trans (q c),
      (h c).2.2.2.2⟩)
      (Cert.RefAdamOutIdeal.Product.named m' g')⟩

/-- The two programs' frames: a number that one admits, the other does. -/
theorem Cert.AdamOutIdeal.Product.wordFrame :
    Cert.quiescent_AdamOut (hAdamOut := Cert.AdamOut.Gen.facts) (hPre_adam_out_place := preFacts) := fun m g h =>
  Cert.AdamOut.Gen.frame m g (ok_of (F := Bits) (Cert.AdamOut.Gen.tbl m)
    fun x => (congrArg BitVec.toNat (congrFun (Cert.AdamOut.Gen.V_main_arg2 m 0) x)).trans_lt (Cert.Mul.toNat_lt_of_range _ (congrFun (h 0) x)))
theorem Cert.AdamOutIdeal.Product.idealFrame :
    Cert.quiescent_AdamOutIdeal (hAdamOutIdeal := Cert.AdamOutIdeal.Gen.facts) (hPre_adam_out_place := preFacts) := fun m g h =>
  Cert.AdamOutIdeal.Gen.frame m g (ok_of_pre m h)
-- ==== Proof.Mul.AdamUp.lean ====
/- The optimiser's step of the expanding product's weight: the gradient summed over the devices' parts, the weight's change and its two
   next moments. -/
module

public import proofs.«01_k».proof.Defs
public import proofs.«01_k».proof.Proof.Mul.Adam
public import proofs.«01_k».proof.Proof.Gen.AdamUpIdeal.Frame
public import proofs.«01_k».proof.Proof.Gen.AdamUp.Frame
public import proofs.«01_k».proof.Proof.Gen.RefAdamUpIdeal.Run
public import Idealize.ShloMosaic.Lib.Affine
public import Idealize.ShloMosaic.Lib.Pipeline.ValueKit.Acc
public import Idealize.ShloMosaic.Lib.Pipeline.ValueKit.Geometry
public import Idealize.ShloMosaic.Lib.Pointwise

public section
open Idealize.ShloMosaic Idealize.ShloMosaic.Ideal
set_option maxRecDepth 16384
noncomputable section

namespace Cert.AdamUpIdeal.Product
open Cert.AdamUpIdeal Cert.AdamUpIdeal.Gen Cert.Mul Idealize.ShloMosaic.TcCoe

section Tables
variable {F : FTy → Type} [FloatOps F]

/-- The own part's block, by the device's number. -/
theorem ix1_eq (pf : pre0.Contents (Elt F)) (i : grid0.Coords) :
    cc0_transform_1 inb_S1_S1_0 numel1_S1 pf i = ![grp (pf 0 : S1.Idx → BitVec 32) 0, (i 0).val, 0] := by
  have e : (pf.at 0 (Rect.unit (s := S1) ![0] S1.size inb_S1_S1_0) numel1_S1 : BitVec 32).toNat
      = grp (pf 0 : S1.Idx → BitVec 32) 0 := grp_of (pf 0 : S1.Idx → BitVec 32) _ rfl
  have e0 : (BitVec.ofNat 32 (i 0).val).toNat = (i 0).val := by
    have : (i 0).val < 43 := (i 0).isLt
    rw [BitVec.toNat_ofNat]; exact Nat.mod_eq_of_lt (by omega)
  exact congrArg₂ (fun a b => ![a, b, 0]) e e0

/-- A number in range is admissible. -/
theorem ok_of (pf : pre0.Contents (Elt F)) (h : ∀ x, (pf 0 x : BitVec 32).toNat < 8) : ok0 pf := by
  have hg : grp (pf 0 : S1.Idx → BitVec 32) 0 < 8 := grp_lt h 0
  refine fun i => ⟨?_, .inr ?_⟩
  · rw [ix1_eq]
    have h0 : (i 0).val < 43 := (i 0).isLt
    intro a
    match a with
    | ⟨0, _⟩ => show (grp (pf 0 : S1.Idx → BitVec 32) 0 + 1) * 1 ≤ 8; omega
    | ⟨1, _⟩ => show ((i 0).val + 1) * 64 ≤ 2752; omega
    | ⟨2, _⟩ => show (0 + 1) * 4096 ≤ 4096; omega
  · exact Affine.words_of_packed (Affine.packed_dvd (by decide) (by rw [ix1_eq]; exact Dvd.intro_left _ (Nat.mul_assoc (i 0).val 32 2)) (by decide))

/-- The precondition's side conditions. -/
theorem preFacts : Cert.Pre_adam_up_place.Facts := ⟨by decide⟩

/-- Its number is in range. -/
theorem ok_of_pre (m : (ℓ : Loc nD τ sig) → Buf (Elt F) ℓ)
    (h : ∀ c : Dev nD, @Cert.Pre_adam_up_place.fn preFacts F _ (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) = fun _ => 1#1) : Ok m :=
  ok_of (tbl m) fun x => (congrArg BitVec.toNat (congrFun (V_main_arg2 m 0) x)).trans_lt (Cert.Mul.toNat_lt_of_range _ (congrFun (h 0) x))

end Tables

variable (m : (ℓ : Loc nD τ sig) → Buf (Elt Ideal) ℓ) (hO : Ok m) (c : Dev nD)

/-- The arguments, on a core. -/
@[expose] def slots : S8x2752x4096.Idx → EReal := m ((c : Thread nD τ).loc main_arg0)
@[expose] def own : S8x2752x4096.Idx → EReal := m ((c : Thread nD τ).loc main_arg1)
@[expose] def me : S1.Idx → BitVec 32 := m ((c : Thread nD τ).loc main_arg2)
@[expose] def W : S2752x4096.Idx → EReal := m ((c : Thread nD τ).loc main_arg3)
@[expose] def M : S2752x4096.Idx → EReal := m ((c : Thread nD τ).loc main_arg4)
@[expose] def N : S2752x4096.Idx → EReal := m ((c : Thread nD τ).loc main_arg5)

/-- The table that the region reads is the third argument. -/
theorem tbl_eq : (tbl m 0 : S1.Idx → BitVec 32) = me m c := by
  obtain rfl : c = 0 := Subsingleton.elim _ _
  exact V_main_arg2 m 0

/-- The blocks at a point. -/
theorem row (t : Fin grid0.N) : (grid0.coords t 0).val = t.val := by
  have e : (grid0.coords t 0).val = t.val / 1 % 43 := Pipeline.Grid.coords_val t 0 (by decide) rfl
  have : t.val < 43 := lt_of_lt_of_eq t.isLt N_0
  omega
abbrev w0 (t : Fin (cfgM m hO).N) : Fin 3 → ℕ := ((cfgM m hO).win 0).index t
abbrev w1 (t : Fin (cfgM m hO).N) : Fin 3 → ℕ := ((cfgM m hO).win 1).index t
abbrev w2 (t : Fin (cfgM m hO).N) : Fin 2 → ℕ := ((cfgM m hO).win 5).index t
theorem idx0 : ∀ t : Fin (cfgM m hO).N, w0 m hO t = ![0, t.val, 0] :=
  (by decide +kernel : ∀ t : Fin grid0.N, cc0_transform_0 (grid0.coords t) = ![0, t.val, 0])
theorem idx1 (t : Fin (cfgM m hO).N) : w1 m hO t = ![grp (me m c) 0, t.val, 0] := by
  rw [← tbl_eq, ← row t]; exact ix1_eq (tbl m) _
theorem idx2 : ∀ t : Fin (cfgM m hO).N, w2 m hO t = ![t.val, 0] :=
  (by decide +kernel : ∀ t : Fin grid0.N, cc0_transform_5 (grid0.coords t) = ![t.val, 0])

/-- The results over a whole weight: the gradient, the next moments and the change. -/
abbrev G : S2752x4096.Idx → EReal := grads (slots m c) (own m c) (me m c)
abbrev M' : S2752x4096.Idx → EReal := firsts (M m c) (G m c)
abbrev N' : S2752x4096.Idx → EReal := seconds (N m c) (G m c)
abbrev D : S2752x4096.Idx → EReal := deltas (W m c) (M' m c) (N' m c)

/-- An element of a point's block of a result, in the array. -/
abbrev put (t : Fin (cfgM m hO).N) (j : S64x4096.Idx) : S2752x4096.Idx := (((cfgM m hO).win 5).rect t).emb j

/-- A part's block among the eight. -/
abbrev ld (x : FVec Ideal S8x64x4096 .bf16) (d : ℕ) (h : ∀ a, (![d, 0, 0] : Fin 3 → ℕ) a + S1x64x4096.size a ≤ S8x64x4096.size a) :
    FVec Ideal S1x64x4096 .bf16 := View.ld (Val := Elt Ideal) (e' := EltTy.bf16) x (Rect.unit (s := S8x64x4096) ![d, 0, 0] S1x64x4096.size h)

/-- The body's sum of the parts: the device's number, its own part's block and the blocks received. -/
@[expose] def sums (s : BitVec 32) (o : FVec Ideal S1x64x4096 .bf16) (x : FVec Ideal S8x64x4096 .bf16) : FVec Ideal S64x4096 .f32 :=
  k0_pay4 (F := Ideal) s (k0_pay2 o) (k0_pay3 s o (ld x 0 inb_S8x64x4096_S1x64x4096_0_0_0) (ld x 1 inb_S8x64x4096_S1x64x4096_1_0_0)
    (ld x 2 inb_S8x64x4096_S1x64x4096_2_0_0) (ld x 3 inb_S8x64x4096_S1x64x4096_3_0_0) (ld x 4 inb_S8x64x4096_S1x64x4096_4_0_0))
    (Scalar.cmpi .eq s 5#32) (ld x 5 inb_S8x64x4096_S1x64x4096_5_0_0) (ld x 6 inb_S8x64x4096_S1x64x4096_6_0_0)
    (ld x 7 inb_S8x64x4096_S1x64x4096_7_0_0)

theorem sums_eq (s : BitVec 32) (o : FVec Ideal S1x64x4096 .bf16) (x : FVec Ideal S8x64x4096 .bf16) (j : S64x4096.Idx) (f : ℕ → EReal)
    (h : ∀ d (hd : d < 8), (Scalar.select (Scalar.cmpi .eq s (BitVec.ofNat 32 d)) (o (ValueIdx.ix3 0 (j 0) (j 1)))
      (x (ValueIdx.ix3 ⟨d, hd⟩ (j 0) (j 1))) : EReal) = f d) : (sums s o x j : EReal) = ∑ d ∈ Finset.range 8, f d := by
  have e (d) (hd : d < 8) (b) : (Scalar.select (Scalar.cmpi .eq s (BitVec.ofNat 32 d)) (o (ValueIdx.ix3 0 (j 0) (j 1)))
      (ld x d b (ValueIdx.ix3 0 (j 0) (j 1))) : EReal) = f d := by
    refine (congrArg (Scalar.select _ _) (congrArg x (funext fun a => Fin.ext ?_))).trans (h d hd)
    match a with
    | ⟨0, _⟩ => show d + 1 * 0 = d; omega
    | ⟨1, _⟩ => show 0 + 1 * (j 0).val = (j 0).val; omega
    | ⟨2, _⟩ => show 0 + 1 * (j 1).val = (j 1).val; omega
  rw [← sum_eight]
  unfold sums k0_pay4 k0_pay3 k0_pay2
  pointwise
  exact congr_add7 (e 0 (by decide) _) (e 1 (by decide) _) (e 2 (by decide) _) (e 3 (by decide) _) (e 4 (by decide) _) (e 5 (by decide) _)
    (e 6 (by decide) _) (e 7 (by decide) _)

/-- The device's number, as the body reads it. -/
@[expose] def dev : BitVec 32 := (tbl m).at 0 (Rect.unit (s := S1) ![0] S1.size inb_S1_S1_0) numel1_S1

/-- A point's block of the gradient. -/
theorem out5 (t : Fin (cfgM m hO).N) : (outsAt0 m hO c t).1 = sums (dev m) (iblk m hO c 1 t) (iblk m hO c 0 t) := by
  unfold outsAt0 out0_A_5
  dsimp only
  frame_out
  exact congrArg₂ (sums (dev m)) (Memref.IsWhole.read_unread _ _) (Memref.IsWhole.read_unread _ _)

/-- The next moments' blocks and the change's, from the gradient's. -/
theorem out7 (t : Fin (cfgM m hO).N) : (outsAt0 m hO c t).2.2.1 = firsts (iblk m hO c 3 t) (outsAt0 m hO c t).1 := by
  rw [out5]
  unfold outsAt0 out0_A_7
  dsimp only
  frame_out
  exact congrArg₂ firsts (Memref.IsWhole.read_unread _ _)
    (congrArg₂ (sums (dev m)) (Memref.IsWhole.read_unread _ _) (Memref.IsWhole.read_unread _ _))
theorem out8 (t : Fin (cfgM m hO).N) : (outsAt0 m hO c t).2.2.2 = seconds (iblk m hO c 4 t) (outsAt0 m hO c t).1 := by
  rw [out5]
  unfold outsAt0 out0_A_8
  dsimp only
  frame_out
  exact congrArg₂ seconds (Memref.IsWhole.read_unread _ _)
    (congrArg₂ (sums (dev m)) (Memref.IsWhole.read_unread _ _) (Memref.IsWhole.read_unread _ _))
theorem out6 (t : Fin (cfgM m hO).N) : (outsAt0 m hO c t).2.1
    = deltas (iblk m hO c 2 t) (firsts (iblk m hO c 3 t) (outsAt0 m hO c t).1) (seconds (iblk m hO c 4 t) (outsAt0 m hO c t).1) := by
  rw [out5]
  unfold outsAt0 out0_A_6
  dsimp only
  frame_out
  have e := congrArg₂ (sums (dev m)) (Memref.IsWhole.read_unread (hs0_1 m hO t) (iblk m hO c 1 t))
    (Memref.IsWhole.read_unread (hs0_0 m hO t) (iblk m hO c 0 t))
  exact congr (congrArg₂ deltas (Memref.IsWhole.read_unread _ _) (congrArg₂ firsts (Memref.IsWhole.read_unread _ _) e))
    (congrArg₂ seconds (Memref.IsWhole.read_unread _ _) e)

/-- A place's part. -/
theorem part_eq (t : Fin (cfgM m hO).N) (j : S64x4096.Idx) (d : ℕ) (hd : d < 8) :
    (Scalar.select (Scalar.cmpi .eq (dev m) (BitVec.ofNat 32 d)) (iblk m hO c 1 t (ValueIdx.ix3 0 (j 0) (j 1)))
      (iblk m hO c 0 t (ValueIdx.ix3 ⟨d, hd⟩ (j 0) (j 1))) : EReal)
        = part (slots m c) (own m c) (grp (me m c) 0) (put m hO t j 0).val (put m hO t j 1).val d := by
  have a0 : w0 m hO t 0 = 0 := congrFun (idx0 m hO t) 0
  have a1 : w0 m hO t 1 = t.val := congrFun (idx0 m hO t) 1
  have a2 : w0 m hO t 2 = 0 := congrFun (idx0 m hO t) 2
  have b0 : w1 m hO t 0 = grp (me m c) 0 := congrFun (idx1 m hO c t) 0
  have b1 : w1 m hO t 1 = t.val := congrFun (idx1 m hO c t) 1
  have b2 : w1 m hO t 2 = 0 := congrFun (idx1 m hO c t) 2
  have d0 : w2 m hO t 0 = t.val := congrFun (idx2 m hO t) 0
  have d1 : w2 m hO t 1 = 0 := congrFun (idx2 m hO t) 1
  have r0 : (put m hO t j 0).val = t.val * 64 + (j 0).val := by
    show w2 m hO t 0 * 64 + 1 * (j 0).val = _; omega
  have r1 : (put m hO t j 1).val = (j 1).val := by
    show w2 m hO t 1 * 4096 + 1 * (j 1).val = _; omega
  have g : (dev m).toNat = grp (me m c) 0 := by
    rw [← tbl_eq]; exact grp_of (tbl m 0 : S1.Idx → BitVec 32) _ rfl
  rw [r0, r1]
  refine pick ((flag (dev m) d hd).trans (by rw [g])) (fun e => ?_) ?_
  · refine (congrFun (V_main_arg1 m c) ((((cfgM m hO).win 1).rect t).emb (ValueIdx.ix3 0 (j 0) (j 1)))).trans (at3_of (own m c) _ ?_ ?_ ?_)
    · show w1 m hO t 0 * 1 + 1 * 0 = d; omega
    · show w1 m hO t 1 * 64 + 1 * (j 0).val = _; omega
    · show w1 m hO t 2 * 4096 + 1 * (j 1).val = _; omega
  · refine (congrFun (V_main_arg0 m c) ((((cfgM m hO).win 0).rect t).emb (ValueIdx.ix3 ⟨d, hd⟩ (j 0) (j 1)))).trans (at3_of (slots m c) _ ?_ ?_ ?_)
    · show w0 m hO t 0 * 8 + 1 * d = d; omega
    · show w0 m hO t 1 * 64 + 1 * (j 0).val = _; omega
    · show w0 m hO t 2 * 4096 + 1 * (j 1).val = _; omega

theorem point5 (t : Fin (cfgM m hO).N) (j : S64x4096.Idx) :
    ((outsAt0 m hO c t).1 j : EReal) = G m c (put m hO t j) := by
  rw [out5]
  exact sums_eq _ _ _ j _ (part_eq m hO c t j)

theorem point7 (t : Fin (cfgM m hO).N) (j : S64x4096.Idx) : ((outsAt0 m hO c t).2.2.1 j : EReal) = M' m c (put m hO t j) := by
  rw [out7]
  exact congrArg₂ first (congrFun (V_main_arg4 m c) (put m hO t j)) (point5 m hO c t j)
theorem point8 (t : Fin (cfgM m hO).N) (j : S64x4096.Idx) : ((outsAt0 m hO c t).2.2.2 j : EReal) = N' m c (put m hO t j) := by
  rw [out8]
  exact congrArg₂ second (congrFun (V_main_arg5 m c) (put m hO t j)) (point5 m hO c t j)
theorem point6 (t : Fin (cfgM m hO).N) (j : S64x4096.Idx) : ((outsAt0 m hO c t).2.1 j : EReal) = D m c (put m hO t j) := by
  rw [out6]
  exact congr (congrArg₂ delta (congrFun (V_main_arg3 m c) (put m hO t j))
    (congrArg₂ first (congrFun (V_main_arg4 m c) (put m hO t j)) (point5 m hO c t j)))
    (congrArg₂ second (congrFun (V_main_arg5 m c) (put m hO t j)) (point5 m hO c t j))

/-- The points write back every row of a result. -/
theorem covered (i : S2752x4096.Idx) :
    ∃ t : Fin (cfgM m hO).N, ((cfgM m hO).win 5).flush t = true ∧ i ∈ (((cfgM m hO).win 5).blk t).view.set := by
  have i0 : (i 0).val < 2752 := (i 0).isLt
  have i1 : (i 1).val < 4096 := (i 1).isLt
  have ht : (i 0).val / 64 < (cfgM m hO).N := by show _ < grid0.N; rw [N_0]; omega
  obtain ⟨u, hu, e⟩ := exists_flush ((cfgM m hO).win 5) rfl _ ⟨(i 0).val / 64, ht⟩ rfl
  refine ⟨u, hu, (((cfgM m hO).win 5).emb_mem_blk_iff u i).mpr fun a => ?_⟩
  have e : w2 m hO u = ![(i 0).val / 64, 0] := e.trans (idx2 m hO _)
  have e0 : w2 m hO u 0 = (i 0).val / 64 := congrFun e 0
  have e1 : w2 m hO u 1 = 0 := congrFun e 1
  match a with
  | ⟨0, _⟩ => show w2 m hO u 0 * 64 ≤ (i 0).val ∧ (i 0).val < w2 m hO u 0 * 64 + 64; omega
  | ⟨1, _⟩ => show w2 m hO u 1 * 4096 ≤ (i 1).val ∧ (i 1).val < w2 m hO u 1 * 4096 + 4096; omega

/-- The kernel's arrays after the run. -/
theorem final5 : ((dats m hO 0 c).arrAt 5 (cfgM m hO).N : S2752x4096.Idx → EReal) = G m c := funext fun i =>
  ((dats m hO 0 c).arrAt_eq_piecewise 5 (G m c) (fun t _ => funext fun j => (congrFun (after0_5 m hO c t) j).trans (point5 m hO c t j)) i).trans
    (if_pos (covered m hO i))
theorem final6 : ((dats m hO 0 c).arrAt 6 (cfgM m hO).N : S2752x4096.Idx → EReal) = D m c := funext fun i =>
  ((dats m hO 0 c).arrAt_eq_piecewise 6 (D m c) (fun t _ => funext fun j => (congrFun (after0_6 m hO c t) j).trans (point6 m hO c t j)) i).trans
    (if_pos (covered m hO i))
theorem final7 : ((dats m hO 0 c).arrAt 7 (cfgM m hO).N : S2752x4096.Idx → EReal) = M' m c := funext fun i =>
  ((dats m hO 0 c).arrAt_eq_piecewise 7 (M' m c) (fun t _ => funext fun j => (congrFun (after0_7 m hO c t) j).trans (point7 m hO c t j)) i).trans
    (if_pos (covered m hO i))
theorem final8 : ((dats m hO 0 c).arrAt 8 (cfgM m hO).N : S2752x4096.Idx → EReal) = N' m c := funext fun i =>
  ((dats m hO 0 c).arrAt_eq_piecewise 8 (N' m c) (fun t _ => funext fun j => (congrFun (after0_8 m hO c t) j).trans (point8 m hO c t j)) i).trans
    (if_pos (covered m hO i))

/-- The run, with the results named. -/
theorem named (hO : Ok m) (g : Dev nD → PrngReg) : θ_run defs (onTc (τ := τ) main) ⟨m, fun _ => 0, g⟩ (fun r => ∀ c : Dev nD,
      r.2.mem ((c.tc : Thread nD τ).loc main_v0_0) = G m c
      ∧ r.2.mem ((c.tc : Thread nD τ).loc main_v0_1) = D m c
      ∧ r.2.mem ((c.tc : Thread nD τ).loc main_v0_2) = M' m c
      ∧ r.2.mem ((c.tc : Thread nD τ).loc main_v0_3) = N' m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h.1 c).1 5).trans (final5 m hO c), ((h.1 c).1 6).trans (final6 m hO c),
    ((h.1 c).1 7).trans (final7 m hO c), ((h.1 c).1 8).trans (final8 m hO c), h.2 c⟩) (θ_run_and (run_main m g hO) (unchanged m g hO))

end Cert.AdamUpIdeal.Product

namespace Cert.RefAdamUpIdeal.Product
open Cert Cert.RefAdamUpIdeal Cert.RefAdamUpIdeal.Gen Cert.Mul

/-- The reference's gradient. -/
abbrev total (a b : FVec Ideal S8x2752x4096 .bf16) (d : IVec S1 32) : FVec Ideal S2752x4096 .f32 :=
  Host.reduceAdd (extf .f32 (select (broadcastInDim S8x2752x4096 ![0, 1, 2] bcast_S8x1x1_S8x2752x4096_0_1_2
    (broadcastInDim S8x1x1 ![0] bcast_S8_S8x1x1_0 (cmpi .eq (iotaInDim S8 32 0) (broadcastInDim S8 ![0] bcast_S1_S8_0 d)))) b a)
    bitsLt_bf16_f32) (constant S_ .f32 0x00000000#32) reducesTo_S8x2752x4096_S2752x4096_d0 h_S_
theorem total_eq (a b : FVec Ideal S8x2752x4096 .bf16) (d : IVec S1 32) : total a b d = grads a b d := ref_grad a b d _ _ _ _ _ _

section Run
variable (m : (ℓ : Loc nD τ sig) → Buf (Elt Ideal) ℓ) (c : Dev nD)

/-- Its arguments and its results, on a core. -/
abbrev slots : S8x2752x4096.Idx → EReal := m ((c.tc : Thread nD τ).loc main_arg0)
abbrev own : S8x2752x4096.Idx → EReal := m ((c.tc : Thread nD τ).loc main_arg1)
abbrev me : S1.Idx → BitVec 32 := m ((c.tc : Thread nD τ).loc main_arg2)
abbrev W : S2752x4096.Idx → EReal := m ((c.tc : Thread nD τ).loc main_arg3)
abbrev M : S2752x4096.Idx → EReal := m ((c.tc : Thread nD τ).loc main_arg4)
abbrev N : S2752x4096.Idx → EReal := m ((c.tc : Thread nD τ).loc main_arg5)
abbrev G : S2752x4096.Idx → EReal := grads (slots m c) (own m c) (me m c)
abbrev M' : S2752x4096.Idx → EReal := firsts (M m c) (G m c)
abbrev N' : S2752x4096.Idx → EReal := seconds (N m c) (G m c)
abbrev D : S2752x4096.Idx → EReal := deltas (W m c) (M' m c) (N' m c)

/-- Its run, with the results named. -/
theorem named (ρ : Dev nD → PrngReg) : θ_run defs (onTc (τ := τ) main) ⟨m, fun _ => 0, ρ⟩ (fun r => ∀ c : Dev nD,
      r.2.mem ((c.tc : Thread nD τ).loc main_v6) = G m c
      ∧ r.2.mem ((c.tc : Thread nD τ).loc main_v30) = D m c
      ∧ r.2.mem ((c.tc : Thread nD τ).loc main_v11) = M' m c
      ∧ r.2.mem ((c.tc : Thread nD τ).loc main_v17) = N' m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => by
    have g := total_eq (slots m c) (own m c) (me m c)
    have p := (ref_first bcast_S_S2752x4096 (M m c) _).trans (congrArg (firsts (M m c)) g)
    have q := (ref_second bcast_S_S2752x4096 (N m c) _).trans (congrArg (seconds (N m c)) g)
    exact ⟨(h c).1.trans g, (h c).2.1.trans ((ref_delta bcast_S_S2752x4096 (W m c) _ _).trans (congrArg₂ (deltas (W m c)) p q)),
      (h c).2.2.1.trans p, (h c).2.2.2.1.trans q, (h c).2.2.2.2⟩) (Value.run m ρ)

end Run

/-- It leaves its arguments, and has no semaphore, whatever the table. -/
theorem frame : quiescent_RefAdamUpIdeal (hRefAdamUpIdeal := facts) := fun m g _ =>
  (θ_run defs _ _).mono (fun r h => ⟨fun c => (h c).2.2.2.2, sem_eq_zero_of_no_sems (by decide) r.2⟩) (named m g)

end Cert.RefAdamUpIdeal.Product

/-- The two runs end with the same arrays. -/
theorem Cert.AdamUpIdeal.Product.claim :
    Cert.algebraic_AdamUpIdeal_RefAdamUpIdeal (hAdamUpIdeal := Cert.AdamUpIdeal.Gen.facts) (hRefAdamUpIdeal := Cert.RefAdamUpIdeal.Gen.facts)
      (hPre_adam_up_place := preFacts) := fun m g m' g' h e => by
  have s (c) : Cert.RefAdamUpIdeal.Product.G m' c = G m c := Cert.Mul.congr₃ Cert.Mul.grads (e c).1 (e c).2.1 (e c).2.2.1
  have p (c) : Cert.RefAdamUpIdeal.Product.M' m' c = M' m c := congrArg₂ Cert.Mul.firsts (e c).2.2.2.2.1 (s c)
  have q (c) : Cert.RefAdamUpIdeal.Product.N' m' c = N' m c := congrArg₂ Cert.Mul.seconds (e c).2.2.2.2.2 (s c)
  exact ⟨fun c => G m c, fun c => D m c, fun c => M' m c, fun c => N' m c, named m (ok_of_pre m h) g,
    (θ_run Cert.RefAdamUpIdeal.defs _ _).mono (fun _ h c => ⟨(h c).1.trans (s c),
      (h c).2.1.trans (Cert.Mul.congr₃ Cert.Mul.deltas (e c).2.2.2.1 (p c) (q c)), (h c).2.2.1.trans (p c), (h c).2.2.2.1.trans (q c),
      (h c).2.2.2.2⟩)
      (Cert.RefAdamUpIdeal.Product.named m' g')⟩

/-- The two programs' frames: a number that one admits, the other does. -/
theorem Cert.AdamUpIdeal.Product.wordFrame :
    Cert.quiescent_AdamUp (hAdamUp := Cert.AdamUp.Gen.facts) (hPre_adam_up_place := preFacts) := fun m g h =>
  Cert.AdamUp.Gen.frame m g (ok_of (F := Bits) (Cert.AdamUp.Gen.tbl m)
    fun x => (congrArg BitVec.toNat (congrFun (Cert.AdamUp.Gen.V_main_arg2 m 0) x)).trans_lt (Cert.Mul.toNat_lt_of_range _ (congrFun (h 0) x)))
theorem Cert.AdamUpIdeal.Product.idealFrame :
    Cert.quiescent_AdamUpIdeal (hAdamUpIdeal := Cert.AdamUpIdeal.Gen.facts) (hPre_adam_up_place := preFacts) := fun m g h =>
  Cert.AdamUpIdeal.Gen.frame m g (ok_of_pre m h)
-- ==== Proof.Mul.AdamDown.lean ====
/- The optimiser's step of the contracting product's weight: the gradient summed over the devices' parts, the weight's change and its two
   next moments. -/
module

public import proofs.«01_k».proof.Defs
public import proofs.«01_k».proof.Proof.Mul.Adam
public import proofs.«01_k».proof.Proof.Gen.AdamDownIdeal.Frame
public import proofs.«01_k».proof.Proof.Gen.AdamDown.Frame
public import proofs.«01_k».proof.Proof.Gen.RefAdamDownIdeal.Run
public import Idealize.ShloMosaic.Lib.Affine
public import Idealize.ShloMosaic.Lib.Pipeline.ValueKit.Acc
public import Idealize.ShloMosaic.Lib.Pipeline.ValueKit.Geometry
public import Idealize.ShloMosaic.Lib.Pointwise

public section
open Idealize.ShloMosaic Idealize.ShloMosaic.Ideal
set_option maxRecDepth 16384
noncomputable section

namespace Cert.AdamDownIdeal.Product
open Cert.AdamDownIdeal Cert.AdamDownIdeal.Gen Cert.Mul Idealize.ShloMosaic.TcCoe

section Tables
variable {F : FTy → Type} [FloatOps F]

/-- The own part's block, by the device's number. -/
theorem ix1_eq (pf : pre0.Contents (Elt F)) (i : grid0.Coords) :
    cc0_transform_1 inb_S1_S1_0 numel1_S1 pf i = ![grp (pf 0 : S1.Idx → BitVec 32) 0, (i 0).val, 0] := by
  have e : (pf.at 0 (Rect.unit (s := S1) ![0] S1.size inb_S1_S1_0) numel1_S1 : BitVec 32).toNat
      = grp (pf 0 : S1.Idx → BitVec 32) 0 := grp_of (pf 0 : S1.Idx → BitVec 32) _ rfl
  have e0 : (BitVec.ofNat 32 (i 0).val).toNat = (i 0).val := by
    have : (i 0).val < 43 := (i 0).isLt
    rw [BitVec.toNat_ofNat]; exact Nat.mod_eq_of_lt (by omega)
  exact congrArg₂ (fun a b => ![a, b, 0]) e e0

/-- A number in range is admissible. -/
theorem ok_of (pf : pre0.Contents (Elt F)) (h : ∀ x, (pf 0 x : BitVec 32).toNat < 8) : ok0 pf := by
  have hg : grp (pf 0 : S1.Idx → BitVec 32) 0 < 8 := grp_lt h 0
  refine fun i => ⟨?_, .inr ?_⟩
  · rw [ix1_eq]
    have h0 : (i 0).val < 43 := (i 0).isLt
    intro a
    match a with
    | ⟨0, _⟩ => show (grp (pf 0 : S1.Idx → BitVec 32) 0 + 1) * 1 ≤ 8; omega
    | ⟨1, _⟩ => show ((i 0).val + 1) * 32 ≤ 1376; omega
    | ⟨2, _⟩ => show (0 + 1) * 4096 ≤ 4096; omega
  · exact Affine.words_of_packed (Affine.packed_dvd (by decide) (by rw [ix1_eq]; exact Dvd.intro_left _ (Nat.mul_assoc (i 0).val 16 2)) (by decide))

/-- The precondition's side conditions. -/
theorem preFacts : Cert.Pre_adam_down_place.Facts := ⟨by decide⟩

/-- Its number is in range. -/
theorem ok_of_pre (m : (ℓ : Loc nD τ sig) → Buf (Elt F) ℓ)
    (h : ∀ c : Dev nD, @Cert.Pre_adam_down_place.fn preFacts F _ (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) = fun _ => 1#1) : Ok m :=
  ok_of (tbl m) fun x => (congrArg BitVec.toNat (congrFun (V_main_arg2 m 0) x)).trans_lt (Cert.Mul.toNat_lt_of_range _ (congrFun (h 0) x))

end Tables

variable (m : (ℓ : Loc nD τ sig) → Buf (Elt Ideal) ℓ) (hO : Ok m) (c : Dev nD)

/-- The arguments, on a core. -/
@[expose] def slots : S8x1376x4096.Idx → EReal := m ((c : Thread nD τ).loc main_arg0)
@[expose] def own : S8x1376x4096.Idx → EReal := m ((c : Thread nD τ).loc main_arg1)
@[expose] def me : S1.Idx → BitVec 32 := m ((c : Thread nD τ).loc main_arg2)
@[expose] def W : S1376x4096.Idx → EReal := m ((c : Thread nD τ).loc main_arg3)
@[expose] def M : S1376x4096.Idx → EReal := m ((c : Thread nD τ).loc main_arg4)
@[expose] def N : S1376x4096.Idx → EReal := m ((c : Thread nD τ).loc main_arg5)

/-- The table that the region reads is the third argument. -/
theorem tbl_eq : (tbl m 0 : S1.Idx → BitVec 32) = me m c := by
  obtain rfl : c = 0 := Subsingleton.elim _ _
  exact V_main_arg2 m 0

/-- The blocks at a point. -/
theorem row (t : Fin grid0.N) : (grid0.coords t 0).val = t.val := by
  have e : (grid0.coords t 0).val = t.val / 1 % 43 := Pipeline.Grid.coords_val t 0 (by decide) rfl
  have : t.val < 43 := lt_of_lt_of_eq t.isLt N_0
  omega
abbrev w0 (t : Fin (cfgM m hO).N) : Fin 3 → ℕ := ((cfgM m hO).win 0).index t
abbrev w1 (t : Fin (cfgM m hO).N) : Fin 3 → ℕ := ((cfgM m hO).win 1).index t
abbrev w2 (t : Fin (cfgM m hO).N) : Fin 2 → ℕ := ((cfgM m hO).win 5).index t
theorem idx0 : ∀ t : Fin (cfgM m hO).N, w0 m hO t = ![0, t.val, 0] :=
  (by decide +kernel : ∀ t : Fin grid0.N, cc0_transform_0 (grid0.coords t) = ![0, t.val, 0])
theorem idx1 (t : Fin (cfgM m hO).N) : w1 m hO t = ![grp (me m c) 0, t.val, 0] := by
  rw [← tbl_eq, ← row t]; exact ix1_eq (tbl m) _
theorem idx2 : ∀ t : Fin (cfgM m hO).N, w2 m hO t = ![t.val, 0] :=
  (by decide +kernel : ∀ t : Fin grid0.N, cc0_transform_5 (grid0.coords t) = ![t.val, 0])

/-- The results over a whole weight: the gradient, the next moments and the change. -/
abbrev G : S1376x4096.Idx → EReal := grads (slots m c) (own m c) (me m c)
abbrev M' : S1376x4096.Idx → EReal := firsts (M m c) (G m c)
abbrev N' : S1376x4096.Idx → EReal := seconds (N m c) (G m c)
abbrev D : S1376x4096.Idx → EReal := deltas (W m c) (M' m c) (N' m c)

/-- An element of a point's block of a result, in the array. -/
abbrev put (t : Fin (cfgM m hO).N) (j : S32x4096.Idx) : S1376x4096.Idx := (((cfgM m hO).win 5).rect t).emb j

/-- A part's block among the eight. -/
abbrev ld (x : FVec Ideal S8x32x4096 .bf16) (d : ℕ) (h : ∀ a, (![d, 0, 0] : Fin 3 → ℕ) a + S1x32x4096.size a ≤ S8x32x4096.size a) :
    FVec Ideal S1x32x4096 .bf16 := View.ld (Val := Elt Ideal) (e' := EltTy.bf16) x (Rect.unit (s := S8x32x4096) ![d, 0, 0] S1x32x4096.size h)

/-- The body's sum of the parts: the device's number, its own part's block and the blocks received. -/
@[expose] def sums (s : BitVec 32) (o : FVec Ideal S1x32x4096 .bf16) (x : FVec Ideal S8x32x4096 .bf16) : FVec Ideal S32x4096 .f32 :=
  k0_pay4 (F := Ideal) s (k0_pay2 o) (k0_pay3 s o (ld x 0 inb_S8x32x4096_S1x32x4096_0_0_0) (ld x 1 inb_S8x32x4096_S1x32x4096_1_0_0)
    (ld x 2 inb_S8x32x4096_S1x32x4096_2_0_0) (ld x 3 inb_S8x32x4096_S1x32x4096_3_0_0) (ld x 4 inb_S8x32x4096_S1x32x4096_4_0_0))
    (Scalar.cmpi .eq s 5#32) (ld x 5 inb_S8x32x4096_S1x32x4096_5_0_0) (ld x 6 inb_S8x32x4096_S1x32x4096_6_0_0)
    (ld x 7 inb_S8x32x4096_S1x32x4096_7_0_0)

theorem sums_eq (s : BitVec 32) (o : FVec Ideal S1x32x4096 .bf16) (x : FVec Ideal S8x32x4096 .bf16) (j : S32x4096.Idx) (f : ℕ → EReal)
    (h : ∀ d (hd : d < 8), (Scalar.select (Scalar.cmpi .eq s (BitVec.ofNat 32 d)) (o (ValueIdx.ix3 0 (j 0) (j 1)))
      (x (ValueIdx.ix3 ⟨d, hd⟩ (j 0) (j 1))) : EReal) = f d) : (sums s o x j : EReal) = ∑ d ∈ Finset.range 8, f d := by
  have e (d) (hd : d < 8) (b) : (Scalar.select (Scalar.cmpi .eq s (BitVec.ofNat 32 d)) (o (ValueIdx.ix3 0 (j 0) (j 1)))
      (ld x d b (ValueIdx.ix3 0 (j 0) (j 1))) : EReal) = f d := by
    refine (congrArg (Scalar.select _ _) (congrArg x (funext fun a => Fin.ext ?_))).trans (h d hd)
    match a with
    | ⟨0, _⟩ => show d + 1 * 0 = d; omega
    | ⟨1, _⟩ => show 0 + 1 * (j 0).val = (j 0).val; omega
    | ⟨2, _⟩ => show 0 + 1 * (j 1).val = (j 1).val; omega
  rw [← sum_eight]
  unfold sums k0_pay4 k0_pay3 k0_pay2
  pointwise
  exact congr_add7 (e 0 (by decide) _) (e 1 (by decide) _) (e 2 (by decide) _) (e 3 (by decide) _) (e 4 (by decide) _) (e 5 (by decide) _)
    (e 6 (by decide) _) (e 7 (by decide) _)

/-- The device's number, as the body reads it. -/
@[expose] def dev : BitVec 32 := (tbl m).at 0 (Rect.unit (s := S1) ![0] S1.size inb_S1_S1_0) numel1_S1

/-- A point's block of the gradient. -/
theorem out5 (t : Fin (cfgM m hO).N) : (outsAt0 m hO c t).1 = sums (dev m) (iblk m hO c 1 t) (iblk m hO c 0 t) := by
  unfold outsAt0 out0_A_5
  dsimp only
  frame_out
  exact congrArg₂ (sums (dev m)) (Memref.IsWhole.read_unread _ _) (Memref.IsWhole.read_unread _ _)

/-- The next moments' blocks and the change's, from the gradient's. -/
theorem out7 (t : Fin (cfgM m hO).N) : (outsAt0 m hO c t).2.2.1 = firsts (iblk m hO c 3 t) (outsAt0 m hO c t).1 := by
  rw [out5]
  unfold outsAt0 out0_A_7
  dsimp only
  frame_out
  exact congrArg₂ firsts (Memref.IsWhole.read_unread _ _)
    (congrArg₂ (sums (dev m)) (Memref.IsWhole.read_unread _ _) (Memref.IsWhole.read_unread _ _))
theorem out8 (t : Fin (cfgM m hO).N) : (outsAt0 m hO c t).2.2.2 = seconds (iblk m hO c 4 t) (outsAt0 m hO c t).1 := by
  rw [out5]
  unfold outsAt0 out0_A_8
  dsimp only
  frame_out
  exact congrArg₂ seconds (Memref.IsWhole.read_unread _ _)
    (congrArg₂ (sums (dev m)) (Memref.IsWhole.read_unread _ _) (Memref.IsWhole.read_unread _ _))
theorem out6 (t : Fin (cfgM m hO).N) : (outsAt0 m hO c t).2.1
    = deltas (iblk m hO c 2 t) (firsts (iblk m hO c 3 t) (outsAt0 m hO c t).1) (seconds (iblk m hO c 4 t) (outsAt0 m hO c t).1) := by
  rw [out5]
  unfold outsAt0 out0_A_6
  dsimp only
  frame_out
  have e := congrArg₂ (sums (dev m)) (Memref.IsWhole.read_unread (hs0_1 m hO t) (iblk m hO c 1 t))
    (Memref.IsWhole.read_unread (hs0_0 m hO t) (iblk m hO c 0 t))
  exact congr (congrArg₂ deltas (Memref.IsWhole.read_unread _ _) (congrArg₂ firsts (Memref.IsWhole.read_unread _ _) e))
    (congrArg₂ seconds (Memref.IsWhole.read_unread _ _) e)

/-- A place's part. -/
theorem part_eq (t : Fin (cfgM m hO).N) (j : S32x4096.Idx) (d : ℕ) (hd : d < 8) :
    (Scalar.select (Scalar.cmpi .eq (dev m) (BitVec.ofNat 32 d)) (iblk m hO c 1 t (ValueIdx.ix3 0 (j 0) (j 1)))
      (iblk m hO c 0 t (ValueIdx.ix3 ⟨d, hd⟩ (j 0) (j 1))) : EReal)
        = part (slots m c) (own m c) (grp (me m c) 0) (put m hO t j 0).val (put m hO t j 1).val d := by
  have a0 : w0 m hO t 0 = 0 := congrFun (idx0 m hO t) 0
  have a1 : w0 m hO t 1 = t.val := congrFun (idx0 m hO t) 1
  have a2 : w0 m hO t 2 = 0 := congrFun (idx0 m hO t) 2
  have b0 : w1 m hO t 0 = grp (me m c) 0 := congrFun (idx1 m hO c t) 0
  have b1 : w1 m hO t 1 = t.val := congrFun (idx1 m hO c t) 1
  have b2 : w1 m hO t 2 = 0 := congrFun (idx1 m hO c t) 2
  have d0 : w2 m hO t 0 = t.val := congrFun (idx2 m hO t) 0
  have d1 : w2 m hO t 1 = 0 := congrFun (idx2 m hO t) 1
  have r0 : (put m hO t j 0).val = t.val * 32 + (j 0).val := by
    show w2 m hO t 0 * 32 + 1 * (j 0).val = _; omega
  have r1 : (put m hO t j 1).val = (j 1).val := by
    show w2 m hO t 1 * 4096 + 1 * (j 1).val = _; omega
  have g : (dev m).toNat = grp (me m c) 0 := by
    rw [← tbl_eq]; exact grp_of (tbl m 0 : S1.Idx → BitVec 32) _ rfl
  rw [r0, r1]
  refine pick ((flag (dev m) d hd).trans (by rw [g])) (fun e => ?_) ?_
  · refine (congrFun (V_main_arg1 m c) ((((cfgM m hO).win 1).rect t).emb (ValueIdx.ix3 0 (j 0) (j 1)))).trans (at3_of (own m c) _ ?_ ?_ ?_)
    · show w1 m hO t 0 * 1 + 1 * 0 = d; omega
    · show w1 m hO t 1 * 32 + 1 * (j 0).val = _; omega
    · show w1 m hO t 2 * 4096 + 1 * (j 1).val = _; omega
  · refine (congrFun (V_main_arg0 m c) ((((cfgM m hO).win 0).rect t).emb (ValueIdx.ix3 ⟨d, hd⟩ (j 0) (j 1)))).trans (at3_of (slots m c) _ ?_ ?_ ?_)
    · show w0 m hO t 0 * 8 + 1 * d = d; omega
    · show w0 m hO t 1 * 32 + 1 * (j 0).val = _; omega
    · show w0 m hO t 2 * 4096 + 1 * (j 1).val = _; omega

theorem point5 (t : Fin (cfgM m hO).N) (j : S32x4096.Idx) :
    ((outsAt0 m hO c t).1 j : EReal) = G m c (put m hO t j) := by
  rw [out5]
  exact sums_eq _ _ _ j _ (part_eq m hO c t j)

theorem point7 (t : Fin (cfgM m hO).N) (j : S32x4096.Idx) : ((outsAt0 m hO c t).2.2.1 j : EReal) = M' m c (put m hO t j) := by
  rw [out7]
  exact congrArg₂ first (congrFun (V_main_arg4 m c) (put m hO t j)) (point5 m hO c t j)
theorem point8 (t : Fin (cfgM m hO).N) (j : S32x4096.Idx) : ((outsAt0 m hO c t).2.2.2 j : EReal) = N' m c (put m hO t j) := by
  rw [out8]
  exact congrArg₂ second (congrFun (V_main_arg5 m c) (put m hO t j)) (point5 m hO c t j)
theorem point6 (t : Fin (cfgM m hO).N) (j : S32x4096.Idx) : ((outsAt0 m hO c t).2.1 j : EReal) = D m c (put m hO t j) := by
  rw [out6]
  exact congr (congrArg₂ delta (congrFun (V_main_arg3 m c) (put m hO t j))
    (congrArg₂ first (congrFun (V_main_arg4 m c) (put m hO t j)) (point5 m hO c t j)))
    (congrArg₂ second (congrFun (V_main_arg5 m c) (put m hO t j)) (point5 m hO c t j))

/-- The points write back every row of a result. -/
theorem covered (i : S1376x4096.Idx) :
    ∃ t : Fin (cfgM m hO).N, ((cfgM m hO).win 5).flush t = true ∧ i ∈ (((cfgM m hO).win 5).blk t).view.set := by
  have i0 : (i 0).val < 1376 := (i 0).isLt
  have i1 : (i 1).val < 4096 := (i 1).isLt
  have ht : (i 0).val / 32 < (cfgM m hO).N := by show _ < grid0.N; rw [N_0]; omega
  obtain ⟨u, hu, e⟩ := exists_flush ((cfgM m hO).win 5) rfl _ ⟨(i 0).val / 32, ht⟩ rfl
  refine ⟨u, hu, (((cfgM m hO).win 5).emb_mem_blk_iff u i).mpr fun a => ?_⟩
  have e : w2 m hO u = ![(i 0).val / 32, 0] := e.trans (idx2 m hO _)
  have e0 : w2 m hO u 0 = (i 0).val / 32 := congrFun e 0
  have e1 : w2 m hO u 1 = 0 := congrFun e 1
  match a with
  | ⟨0, _⟩ => show w2 m hO u 0 * 32 ≤ (i 0).val ∧ (i 0).val < w2 m hO u 0 * 32 + 32; omega
  | ⟨1, _⟩ => show w2 m hO u 1 * 4096 ≤ (i 1).val ∧ (i 1).val < w2 m hO u 1 * 4096 + 4096; omega

/-- The kernel's arrays after the run. -/
theorem final5 : ((dats m hO 0 c).arrAt 5 (cfgM m hO).N : S1376x4096.Idx → EReal) = G m c := funext fun i =>
  ((dats m hO 0 c).arrAt_eq_piecewise 5 (G m c) (fun t _ => funext fun j => (congrFun (after0_5 m hO c t) j).trans (point5 m hO c t j)) i).trans
    (if_pos (covered m hO i))
theorem final6 : ((dats m hO 0 c).arrAt 6 (cfgM m hO).N : S1376x4096.Idx → EReal) = D m c := funext fun i =>
  ((dats m hO 0 c).arrAt_eq_piecewise 6 (D m c) (fun t _ => funext fun j => (congrFun (after0_6 m hO c t) j).trans (point6 m hO c t j)) i).trans
    (if_pos (covered m hO i))
theorem final7 : ((dats m hO 0 c).arrAt 7 (cfgM m hO).N : S1376x4096.Idx → EReal) = M' m c := funext fun i =>
  ((dats m hO 0 c).arrAt_eq_piecewise 7 (M' m c) (fun t _ => funext fun j => (congrFun (after0_7 m hO c t) j).trans (point7 m hO c t j)) i).trans
    (if_pos (covered m hO i))
theorem final8 : ((dats m hO 0 c).arrAt 8 (cfgM m hO).N : S1376x4096.Idx → EReal) = N' m c := funext fun i =>
  ((dats m hO 0 c).arrAt_eq_piecewise 8 (N' m c) (fun t _ => funext fun j => (congrFun (after0_8 m hO c t) j).trans (point8 m hO c t j)) i).trans
    (if_pos (covered m hO i))

/-- The run, with the results named. -/
theorem named (hO : Ok m) (g : Dev nD → PrngReg) : θ_run defs (onTc (τ := τ) main) ⟨m, fun _ => 0, g⟩ (fun r => ∀ c : Dev nD,
      r.2.mem ((c.tc : Thread nD τ).loc main_v0_0) = G m c
      ∧ r.2.mem ((c.tc : Thread nD τ).loc main_v0_1) = D m c
      ∧ r.2.mem ((c.tc : Thread nD τ).loc main_v0_2) = M' m c
      ∧ r.2.mem ((c.tc : Thread nD τ).loc main_v0_3) = N' m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h.1 c).1 5).trans (final5 m hO c), ((h.1 c).1 6).trans (final6 m hO c),
    ((h.1 c).1 7).trans (final7 m hO c), ((h.1 c).1 8).trans (final8 m hO c), h.2 c⟩) (θ_run_and (run_main m g hO) (unchanged m g hO))

end Cert.AdamDownIdeal.Product

namespace Cert.RefAdamDownIdeal.Product
open Cert Cert.RefAdamDownIdeal Cert.RefAdamDownIdeal.Gen Cert.Mul

/-- The reference's gradient. -/
abbrev total (a b : FVec Ideal S8x1376x4096 .bf16) (d : IVec S1 32) : FVec Ideal S1376x4096 .f32 :=
  Host.reduceAdd (extf .f32 (select (broadcastInDim S8x1376x4096 ![0, 1, 2] bcast_S8x1x1_S8x1376x4096_0_1_2
    (broadcastInDim S8x1x1 ![0] bcast_S8_S8x1x1_0 (cmpi .eq (iotaInDim S8 32 0) (broadcastInDim S8 ![0] bcast_S1_S8_0 d)))) b a)
    bitsLt_bf16_f32) (constant S_ .f32 0x00000000#32) reducesTo_S8x1376x4096_S1376x4096_d0 h_S_
theorem total_eq (a b : FVec Ideal S8x1376x4096 .bf16) (d : IVec S1 32) : total a b d = grads a b d := ref_grad a b d _ _ _ _ _ _

section Run
variable (m : (ℓ : Loc nD τ sig) → Buf (Elt Ideal) ℓ) (c : Dev nD)

/-- Its arguments and its results, on a core. -/
abbrev slots : S8x1376x4096.Idx → EReal := m ((c.tc : Thread nD τ).loc main_arg0)
abbrev own : S8x1376x4096.Idx → EReal := m ((c.tc : Thread nD τ).loc main_arg1)
abbrev me : S1.Idx → BitVec 32 := m ((c.tc : Thread nD τ).loc main_arg2)
abbrev W : S1376x4096.Idx → EReal := m ((c.tc : Thread nD τ).loc main_arg3)
abbrev M : S1376x4096.Idx → EReal := m ((c.tc : Thread nD τ).loc main_arg4)
abbrev N : S1376x4096.Idx → EReal := m ((c.tc : Thread nD τ).loc main_arg5)
abbrev G : S1376x4096.Idx → EReal := grads (slots m c) (own m c) (me m c)
abbrev M' : S1376x4096.Idx → EReal := firsts (M m c) (G m c)
abbrev N' : S1376x4096.Idx → EReal := seconds (N m c) (G m c)
abbrev D : S1376x4096.Idx → EReal := deltas (W m c) (M' m c) (N' m c)

/-- Its run, with the results named. -/
theorem named (ρ : Dev nD → PrngReg) : θ_run defs (onTc (τ := τ) main) ⟨m, fun _ => 0, ρ⟩ (fun r => ∀ c : Dev nD,
      r.2.mem ((c.tc : Thread nD τ).loc main_v6) = G m c
      ∧ r.2.mem ((c.tc : Thread nD τ).loc main_v30) = D m c
      ∧ r.2.mem ((c.tc : Thread nD τ).loc main_v11) = M' m c
      ∧ r.2.mem ((c.tc : Thread nD τ).loc main_v17) = N' m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => by
    have g := total_eq (slots m c) (own m c) (me m c)
    have p := (ref_first bcast_S_S1376x4096 (M m c) _).trans (congrArg (firsts (M m c)) g)
    have q := (ref_second bcast_S_S1376x4096 (N m c) _).trans (congrArg (seconds (N m c)) g)
    exact ⟨(h c).1.trans g, (h c).2.1.trans ((ref_delta bcast_S_S1376x4096 (W m c) _ _).trans (congrArg₂ (deltas (W m c)) p q)),
      (h c).2.2.1.trans p, (h c).2.2.2.1.trans q, (h c).2.2.2.2⟩) (Value.run m ρ)

end Run

/-- It leaves its arguments, and has no semaphore, whatever the table. -/
theorem frame : quiescent_RefAdamDownIdeal (hRefAdamDownIdeal := facts) := fun m g _ =>
  (θ_run defs _ _).mono (fun r h => ⟨fun c => (h c).2.2.2.2, sem_eq_zero_of_no_sems (by decide) r.2⟩) (named m g)

end Cert.RefAdamDownIdeal.Product

/-- The two runs end with the same arrays. -/
theorem Cert.AdamDownIdeal.Product.claim :
    Cert.algebraic_AdamDownIdeal_RefAdamDownIdeal (hAdamDownIdeal := Cert.AdamDownIdeal.Gen.facts) (hRefAdamDownIdeal := Cert.RefAdamDownIdeal.Gen.facts)
      (hPre_adam_down_place := preFacts) := fun m g m' g' h e => by
  have s (c) : Cert.RefAdamDownIdeal.Product.G m' c = G m c := Cert.Mul.congr₃ Cert.Mul.grads (e c).1 (e c).2.1 (e c).2.2.1
  have p (c) : Cert.RefAdamDownIdeal.Product.M' m' c = M' m c := congrArg₂ Cert.Mul.firsts (e c).2.2.2.2.1 (s c)
  have q (c) : Cert.RefAdamDownIdeal.Product.N' m' c = N' m c := congrArg₂ Cert.Mul.seconds (e c).2.2.2.2.2 (s c)
  exact ⟨fun c => G m c, fun c => D m c, fun c => M' m c, fun c => N' m c, named m (ok_of_pre m h) g,
    (θ_run Cert.RefAdamDownIdeal.defs _ _).mono (fun _ h c => ⟨(h c).1.trans (s c),
      (h c).2.1.trans (Cert.Mul.congr₃ Cert.Mul.deltas (e c).2.2.2.1 (p c) (q c)), (h c).2.2.1.trans (p c), (h c).2.2.2.1.trans (q c),
      (h c).2.2.2.2⟩)
      (Cert.RefAdamDownIdeal.Product.named m' g')⟩

/-- The two programs' frames: a number that one admits, the other does. -/
theorem Cert.AdamDownIdeal.Product.wordFrame :
    Cert.quiescent_AdamDown (hAdamDown := Cert.AdamDown.Gen.facts) (hPre_adam_down_place := preFacts) := fun m g h =>
  Cert.AdamDown.Gen.frame m g (ok_of (F := Bits) (Cert.AdamDown.Gen.tbl m)
    fun x => (congrArg BitVec.toNat (congrFun (Cert.AdamDown.Gen.V_main_arg2 m 0) x)).trans_lt (Cert.Mul.toNat_lt_of_range _ (congrFun (h 0) x)))
theorem Cert.AdamDownIdeal.Product.idealFrame :
    Cert.quiescent_AdamDownIdeal (hAdamDownIdeal := Cert.AdamDownIdeal.Gen.facts) (hPre_adam_down_place := preFacts) := fun m g h =>
  Cert.AdamDownIdeal.Gen.frame m g (ok_of_pre m h)
-- ==== Proof.Arr.lean ====
/- Arrays of real numbers as arrays of the ideal machine.  `a1 f`, `a2 f`, `a3 f` and `a5 f` are the vectors whose element at an
   index is the real number `f` of its coordinates.  Each operation that the kernel's body and the reference use sends such arrays
   to such an array; the lemmas below say to which, so that a printed term over real inputs is rewritten to a real formula. -/
module

public import Idealize.ShloMosaic.PureOps.Ideal.Laws
public import Idealize.ShloMosaic.Lib.Pipeline.Value
public import Idealize.ShloMosaic.Lib.ValueIdxCore

public section
open Idealize.ShloMosaic Idealize.ShloMosaic.Ideal Idealize.ShloMosaic.ValueIdx
set_option maxRecDepth 16384
noncomputable section

namespace Cert.Arr

/-- The scalar array of a real number. -/
@[expose] def a0 {φ : FTy} (r : ℝ) : FVec Ideal ⟨0, ![]⟩ φ := fun _ => ((r : ℝ) : EReal)
/-- The vector of a real function of one coordinate. -/
@[expose] def a1 {n : Nat} {φ : FTy} (f : Fin n → ℝ) : FVec Ideal ⟨1, ![n]⟩ φ := fun i => ((f (i 0) : ℝ) : EReal)
/-- The matrix of a real function of two coordinates. -/
@[expose] def a2 {m n : Nat} {φ : FTy} (f : Fin m → Fin n → ℝ) : FVec Ideal ⟨2, ![m, n]⟩ φ := fun i => ((f (i 0) (i 1) : ℝ) : EReal)
/-- The array of a real function of three coordinates. -/
@[expose] def a3 {l m n : Nat} {φ : FTy} (f : Fin l → Fin m → Fin n → ℝ) : FVec Ideal ⟨3, ![l, m, n]⟩ φ :=
  fun i => ((f (i 0) (i 1) (i 2) : ℝ) : EReal)
/-- The array of a real function of four coordinates. -/
@[expose] def a4 {k l m n : Nat} {φ : FTy} (f : Fin k → Fin l → Fin m → Fin n → ℝ) : FVec Ideal ⟨4, ![k, l, m, n]⟩ φ :=
  fun i => ((f (i 0) (i 1) (i 2) (i 3) : ℝ) : EReal)
/-- The array of a real function of five coordinates. -/
@[expose] def a5 {k l m n o : Nat} {φ : FTy} (f : Fin k → Fin l → Fin m → Fin n → Fin o → ℝ) : FVec Ideal ⟨5, ![k, l, m, n, o]⟩ φ :=
  fun i => ((f (i 0) (i 1) (i 2) (i 3) (i 4) : ℝ) : EReal)

/-! ### Real numbers among the extended reals -/

/-- A finite sum of real numbers, taken among the extended reals, is the real sum. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The quotient of two real numbers, the divisor not zero. -/
theorem div_real (a : ℝ) {b : ℝ} (h : b ≠ 0) : Ideal.div (a : EReal) (b : EReal) = ((a / b : ℝ) : EReal) := by
  rw [Ideal.div_coe h, ← EReal.coe_mul, mul_one_div]

/-- The reciprocal root of a positive real number. -/
theorem rsqrt_real {a : ℝ} (h : 0 < a) : Ideal.rsqrt (a : EReal) = (((Real.sqrt a)⁻¹ : ℝ) : EReal) := by
  rw [Ideal.rsqrt_coe, if_neg (not_lt.mpr h.le), if_neg h.ne']

/-- The root of a real number that is not negative. -/
theorem sqrt_real {a : ℝ} (h : 0 ≤ a) : Ideal.sqrt (a : EReal) = ((Real.sqrt a : ℝ) : EReal) := by
  rw [Ideal.sqrt_coe, if_neg (not_lt.mpr h)]

/-- The error function of a real number. -/
@[expose] def erfR (x : ℝ) : ℝ := 2 / Real.sqrt Real.pi * ∫ t in (0 : ℝ)..x, Real.exp (-(t ^ 2))
theorem erf_real (a : ℝ) : Ideal.erf (a : EReal) = ((erfR a : ℝ) : EReal) := rfl
theorem erfc_real (a : ℝ) : Ideal.erfc (a : EReal) = ((1 - erfR a : ℝ) : EReal) := by
  rw [EReal.coe_sub]; rfl

/-- The error function is odd. -/
theorem erfR_neg (x : ℝ) : erfR (-x) = -erfR x := by
  unfold erfR
  have h : (∫ t in (0 : ℝ)..x, Real.exp (-(t ^ 2))) = ∫ t in (-x)..0, Real.exp (-(t ^ 2)) := by
    have := intervalIntegral.integral_comp_neg (a := 0) (b := x) (fun t : ℝ => Real.exp (-(t ^ 2)))
    simpa using this
  rw [intervalIntegral.integral_symm, ← h]; ring

/-! ### The constants' bit patterns -/

theorem c_zero : Ideal.ofBits .f32 0x00000000#32 = ((0 : ℝ) : EReal) := by rw [ofBits_zero_f32]; rfl
theorem c_one : Ideal.ofBits .f32 0x3F800000#32 = ((1 : ℝ) : EReal) := by
  simp [Ideal.ofBits, Ideal.ieee, -EReal.coe_mul]; norm_num
theorem c_half : Ideal.ofBits .f32 0x3F000000#32 = ((1 / 2 : ℝ) : EReal) := by
  simp [Ideal.ofBits, Ideal.ieee, -EReal.coe_mul]; norm_num
theorem c_neg_half : Ideal.ofBits .f32 0xBF000000#32 = ((-(1 / 2) : ℝ) : EReal) := by
  simp [Ideal.ofBits, Ideal.ieee, -EReal.coe_mul, -EReal.coe_neg]; norm_num
theorem c_two : Ideal.ofBits .f32 0x40000000#32 = ((2 : ℝ) : EReal) := by
  simp [Ideal.ofBits, Ideal.ieee, -EReal.coe_mul]; norm_num
theorem c_neg_two : Ideal.ofBits .f32 0xC0000000#32 = ((-2 : ℝ) : EReal) := by
  simp [Ideal.ofBits, Ideal.ieee, -EReal.coe_mul, -EReal.coe_neg]; norm_num
theorem c_neg_one : Ideal.ofBits .f32 0xBF800000#32 = ((-1 : ℝ) : EReal) := by
  simp [Ideal.ofBits, Ideal.ieee, -EReal.coe_mul]; norm_num
theorem c_2048 : Ideal.ofBits .f32 0x45000000#32 = ((2048 : ℝ) : EReal) := by
  simp [Ideal.ofBits, Ideal.ieee, -EReal.coe_mul]; norm_num
/-- The constant under the roots: the number in `float32` nearest to a millionth. -/
@[expose] def eps : ℝ := 8796093 / 8796093022208
theorem eps_pos : 0 < eps := by unfold eps; norm_num
theorem c_eps : Ideal.ofBits .f32 0x358637BD#32 = ((eps : ℝ) : EReal) := by
  unfold eps
  simp [Ideal.ofBits, Ideal.ieee, -EReal.coe_mul]; norm_num

/-! ### Elementwise operations on matrices -/

section Elementwise
variable {l m n : Nat} {φ : FTy}

theorem mulf_a2 (f g : Fin m → Fin n → ℝ) : mulf (a2 f : FVec Ideal _ φ) (a2 g) = a2 fun p c => f p c * g p c :=
  funext fun i => (EReal.coe_mul _ _).symm
theorem addf_a2 (f g : Fin m → Fin n → ℝ) : addf (a2 f : FVec Ideal _ φ) (a2 g) = a2 fun p c => f p c + g p c :=
  funext fun i => (EReal.coe_add _ _).symm
theorem subf_a2 (f g : Fin m → Fin n → ℝ) : subf (a2 f : FVec Ideal _ φ) (a2 g) = a2 fun p c => f p c - g p c :=
  funext fun i => (EReal.coe_sub _ _).symm
theorem erf_a2 (f : Fin m → Fin n → ℝ) : erf (a2 f : FVec Ideal _ φ) = a2 fun p c => erfR (f p c) := rfl
theorem exp_a2 (f : Fin m → Fin n → ℝ) : exp (a2 f : FVec Ideal _ φ) = a2 fun p c => Real.exp (f p c) := rfl
theorem rsqrt_a2 (f : Fin m → Fin n → ℝ) (h : ∀ p c, 0 < f p c) :
    rsqrt (a2 f : FVec Ideal _ φ) = a2 fun p c => (Real.sqrt (f p c))⁻¹ :=
  funext fun i => rsqrt_real (h _ _)
theorem divf_a2 (f : Fin m → Fin n → ℝ) (b : ℝ) (hb : b ≠ 0) :
    divf (a2 f : FVec Ideal _ φ) (a2 fun _ _ => b) = a2 fun p c => f p c / b :=
  funext fun i => div_real _ hb
theorem extf_a2 {ψ : FTy} (h : φ.bits < ψ.bits) (f : Fin m → Fin n → ℝ) : extf ψ (a2 f : FVec Ideal _ φ) h = a2 f := rfl
theorem truncf_a2 {ψ : FTy} (h : ψ.bits < φ.bits) (f : Fin m → Fin n → ℝ) : truncf ψ (a2 f : FVec Ideal _ φ) h = a2 f := rfl
/-- A real scalar spread over a matrix. -/
theorem broadcast_a2 (r : ℝ) : broadcast ⟨2, ![m, n]⟩ ((r : ℝ) : EReal) = (a2 fun _ _ => r : FVec Ideal _ φ) := rfl
theorem broadcast_lit (b : BitVec 32) (r : ℝ) (h : Ideal.ofBits .f32 b = (r : EReal)) :
    broadcast ⟨2, ![m, n]⟩ (Scalar.ofBits (F := Ideal) .f32 b) = (a2 fun _ _ => r : FVec Ideal _ .f32) :=
  funext fun _ => h
theorem constant_a2 (b : BitVec 32) (r : ℝ) (h : Ideal.ofBits .f32 b = (r : EReal)) :
    (constant ⟨2, ![m, n]⟩ .f32 b : FVec Ideal _ .f32) = a2 fun _ _ => r :=
  funext fun _ => h
end Elementwise

/-! ### Layout operations -/

section Layout
variable {m n : Nat} {φ : FTy}

/-- A vector seen as a column. -/
theorem shapeCast_col (f : Fin m → ℝ) (h : (⟨1, ![m]⟩ : Shape).ShapeCasts ⟨2, ![m, 1]⟩) :
    shapeCast ⟨2, ![m, 1]⟩ (a1 f : FVec Ideal _ φ) h = a2 fun p _ => f p := by
  funext i
  refine (shapeCast_apply _ h i (ix1 (i 0)) ?_).trans rfl
  rw [Shape.rowMajor_val_one, Shape.rowMajor_val_two]
  have h1 : (i 1).val < 1 := (i 1).isLt
  show (i 0).val = (i 0).val * 1 + (i 1).val
  omega

/-- A vector seen as a row. -/
theorem shapeCast_row (f : Fin n → ℝ) (h : (⟨1, ![n]⟩ : Shape).ShapeCasts ⟨2, ![1, n]⟩) :
    shapeCast ⟨2, ![1, n]⟩ (a1 f : FVec Ideal _ φ) h = a2 fun _ c => f c := by
  funext i
  refine (shapeCast_apply _ h i (ix1 (i 1)) ?_).trans rfl
  rw [Shape.rowMajor_val_one, Shape.rowMajor_val_two]
  have h1 : (i 0).val < 1 := (i 0).isLt
  show (i 1).val = (i 0).val * n + (i 1).val
  have h0 : (i 0).val = 0 := by omega
  rw [h0]; omega

/-- One leading plane seen as a matrix. -/
theorem shapeCast_plane (f : Fin 1 → Fin m → Fin n → ℝ) (h : (⟨3, ![1, m, n]⟩ : Shape).ShapeCasts ⟨2, ![m, n]⟩) :
    shapeCast ⟨2, ![m, n]⟩ (a3 f : FVec Ideal _ φ) h = a2 (f 0) := by
  funext i
  refine (shapeCast_apply _ h i (ix3 0 (i 0) (i 1)) ?_).trans rfl
  rw [Shape.rowMajor_val_three, Shape.rowMajor_val_two]
  show (0 * m + (i 0).val) * n + (i 1).val = (i 0).val * n + (i 1).val
  rw [Nat.zero_mul, Nat.zero_add]

/-- A matrix seen as one leading plane. -/
theorem shapeCast_unplane (f : Fin m → Fin n → ℝ) (h : (⟨2, ![m, n]⟩ : Shape).ShapeCasts ⟨3, ![1, m, n]⟩) :
    shapeCast ⟨3, ![1, m, n]⟩ (a2 f : FVec Ideal _ φ) h = a3 fun _ => f := by
  funext i
  refine (shapeCast_apply _ h i (ix2 (i 1) (i 2)) ?_).trans rfl
  rw [Shape.rowMajor_val_three, Shape.rowMajor_val_two]
  have h0 : (i 0).val < 1 := (i 0).isLt
  show (i 1).val * n + (i 2).val = ((i 0).val * m + (i 1).val) * n + (i 2).val
  have h1 : (i 0).val = 0 := by omega
  rw [h1, Nat.zero_mul, Nat.zero_add]

/-- A column spread over the lanes. -/
theorem broadcastTo_col (hm : m ≠ 1) (f : Fin m → Fin 1 → ℝ) (h : (⟨2, ![m, 1]⟩ : Shape).Broadcasts ⟨2, ![m, n]⟩) :
    broadcastTo ⟨2, ![m, n]⟩ (a2 f : FVec Ideal _ φ) h = a2 fun p _ => f p 0 := by
  funext i
  exact (broadcastTo_apply _ h i (ix2 (i 0) 0) (fun a => match a with
    | ⟨0, _⟩ => by show (i 0).val = if m = 1 then 0 else _; rw [if_neg hm]; rfl
    | ⟨1, _⟩ => by show 0 = if (1 : Nat) = 1 then 0 else _; rw [if_pos rfl])).trans rfl

/-- A row spread over the sublanes. -/
theorem broadcastTo_row (hn : n ≠ 1) (f : Fin 1 → Fin n → ℝ) (h : (⟨2, ![1, n]⟩ : Shape).Broadcasts ⟨2, ![m, n]⟩) :
    broadcastTo ⟨2, ![m, n]⟩ (a2 f : FVec Ideal _ φ) h = a2 fun _ c => f 0 c := by
  funext i
  exact (broadcastTo_apply _ h i (ix2 0 (i 1)) (fun a => match a with
    | ⟨0, _⟩ => by show 0 = if (1 : Nat) = 1 then 0 else _; rw [if_pos rfl]
    | ⟨1, _⟩ => by show (i 1).val = if n = 1 then 0 else _; rw [if_neg hn]; rfl)).trans rfl

/-- A sum over the lanes. -/
theorem sum_lanes (f : Fin m → Fin n → ℝ) (h : (⟨2, ![m, n]⟩ : Shape).Reduces [1] ⟨1, ![m]⟩) (hf : FKind.Formats .f32)
    (acc : BitVec 32) (ha : acc = FKind.add.neutral .f32 hf) :
    multiReduction .add [1] ⟨1, ![m]⟩ (a2 f : FVec Ideal _ .f32) acc h hf ha = a1 fun p => ∑ c, f p c := by
  funext i
  refine (multiReduction_add_single _ acc h hf ha i).trans (Eq.trans ?_ (coe_sum Finset.univ fun c => f (i 0) c))
  refine Finset.sum_congr rfl fun k _ => ?_
  have e : h.lift i k = ix2 (i 0) k := funext fun a => match a with
    | ⟨0, _⟩ => Fin.ext (by simp [Shape.Reduces.lift]; rfl)
    | ⟨1, _⟩ => Fin.ext (by simp [Shape.Reduces.lift]; rfl)
  rw [e]; rfl

/-- A sum over the sublanes. -/
theorem sum_rows (f : Fin m → Fin n → ℝ) (h : (⟨2, ![m, n]⟩ : Shape).Reduces [0] ⟨1, ![n]⟩) (hf : FKind.Formats .f32)
    (acc : BitVec 32) (ha : acc = FKind.add.neutral .f32 hf) :
    multiReduction .add [0] ⟨1, ![n]⟩ (a2 f : FVec Ideal _ .f32) acc h hf ha = a1 fun c => ∑ p, f p c := by
  funext i
  refine (multiReduction_add_single _ acc h hf ha i).trans (Eq.trans ?_ (coe_sum Finset.univ fun p => f p (i 0)))
  refine Finset.sum_congr rfl fun k _ => ?_
  have e : h.lift i k = ix2 k (i 0) := funext fun a => match a with
    | ⟨0, _⟩ => Fin.ext (by simp [Shape.Reduces.lift]; rfl)
    | ⟨1, _⟩ => Fin.ext (by simp [Shape.Reduces.lift]; rfl)
  rw [e]; rfl

end Layout
end Cert.Arr
-- ==== Proof.Spec.lean ====
/- The mathematics of the gating group's backward pass over the real numbers, for one chunk of 128 positions.
   A chunk holds the cotangent `dy` of the gated branch and the two projected halves `pu`, `pv`; the parameters are the layer
   norm's scale and shift, the mixing matrices of the sixteen heads, the bias of each position and channel, and the output
   norm's scale.  The second part states the identities by which automatic differentiation's formulas agree with the closed ones. -/
module

public import proofs.«01_k».proof.Proof.Arr

public section
open Idealize.ShloMosaic
noncomputable section

namespace Cert.Spec
open Cert.Arr

/-- The mean of a row of 2048 channels. -/
@[expose] def mean (f : Fin 2048 → ℝ) : ℝ := (∑ c, f c) / 2048

/-- The Gaussian error linear unit, the error function scaled by the root of a half. -/
@[expose] def gel (x : ℝ) : ℝ := x * (erfR (x * (Real.sqrt 2)⁻¹) + 1) * (1 / 2)
/-- Its derivative. -/
@[expose] def gelD (x : ℝ) : ℝ :=
  1 / 2 * (1 + erfR (x * (Real.sqrt 2)⁻¹)) + x * Real.exp (-(1 / 2) * x * x) * (Real.sqrt (2 * Real.pi))⁻¹

/-- A row less its mean. -/
@[expose] def zc (f : Fin 2048 → ℝ) (c : Fin 2048) : ℝ := f c - mean f
/-- The reciprocal root of a row's mean square. -/
@[expose] def rms (f : Fin 2048 → ℝ) : ℝ := (Real.sqrt (mean (fun c => f c * f c) + eps))⁻¹
/-- A row divided by its root mean square. -/
@[expose] def nrm (f : Fin 2048 → ℝ) (c : Fin 2048) : ℝ := f c * rms f
/-- The cotangent of a row from the cotangent of its normalization. -/
@[expose] def rmsB (f d : Fin 2048 → ℝ) (c : Fin 2048) : ℝ := rms f * (d c - nrm f c * mean fun c => d c * nrm f c)
/-- The same for the layer norm: the row is centred first. -/
@[expose] def lnB (f d : Fin 2048 → ℝ) (c : Fin 2048) : ℝ :=
  rms (zc f) * (d c - mean d - nrm (zc f) c * mean fun c => d c * nrm (zc f) c)

/-- The head of a channel. -/
@[expose] def hd (c : Fin 2048) : Fin 16 := ⟨c.val / 128, by omega⟩
/-- The channel of a head's lane. -/
@[expose] def col (h : Fin 16) (d : Fin 128) : Fin 2048 := ⟨h.val * 128 + d.val, by omega⟩

/-- A chunk: the cotangent and the two projected halves. -/
structure Chunk where
  dy : Fin 128 → Fin 2048 → ℝ
  pu : Fin 128 → Fin 2048 → ℝ
  pv : Fin 128 → Fin 2048 → ℝ

/-- The parameters. -/
structure Par where
  lg : Fin 2048 → ℝ
  lb : Fin 2048 → ℝ
  W : Fin 16 → Fin 128 → Fin 128 → ℝ
  B : Fin 128 → Fin 2048 → ℝ
  og : Fin 2048 → ℝ

variable (P : Par) (X : Chunk)

@[expose] def u (p : Fin 128) (c : Fin 2048) : ℝ := gel (X.pu p c)
@[expose] def v (p : Fin 128) (c : Fin 2048) : ℝ := gel (X.pv p c)
/-- The normalized half. -/
@[expose] def xh (p : Fin 128) (c : Fin 2048) : ℝ := nrm (zc (v X p)) c
@[expose] def vn (p : Fin 128) (c : Fin 2048) : ℝ := xh X p c * P.lg c + P.lb c
/-- The half mixed over the chunk's positions, each head by its matrix. -/
@[expose] def vs (p : Fin 128) (c : Fin 2048) : ℝ := (∑ q, P.W (hd c) p q * vn P X q c) + P.B p c
/-- The gated branch before its norm. -/
@[expose] def bg (p : Fin 128) (c : Fin 2048) : ℝ := u X p c * vs P X p c
@[expose] def nb (p : Fin 128) (c : Fin 2048) : ℝ := nrm (bg P X p) c
@[expose] def dnb (p : Fin 128) (c : Fin 2048) : ℝ := X.dy p c * P.og c
@[expose] def dbg (p : Fin 128) (c : Fin 2048) : ℝ := rmsB (bg P X p) (dnb P X p) c
@[expose] def dvs (p : Fin 128) (c : Fin 2048) : ℝ := dbg P X p c * u X p c
/-- The cotangent of the normalized half, mixed back over the chunk's positions. -/
@[expose] def dvn (q : Fin 128) (c : Fin 2048) : ℝ := ∑ p, P.W (hd c) p q * dvs P X p c
@[expose] def dxh (p : Fin 128) (c : Fin 2048) : ℝ := dvn P X p c * P.lg c

/-- The results of a chunk: the cotangents of the two halves, and the chunk's terms of the five parameters' sums. -/
@[expose] def dpu (p : Fin 128) (c : Fin 2048) : ℝ := dbg P X p c * vs P X p c * gelD (X.pu p c)
@[expose] def dpv (p : Fin 128) (c : Fin 2048) : ℝ := lnB (v X p) (dxh P X p) c * gelD (X.pv p c)
@[expose] def tog (c : Fin 2048) : ℝ := ∑ p, X.dy p c * nb P X p c
@[expose] def tlg (c : Fin 2048) : ℝ := ∑ p, dvn P X p c * xh X p c
@[expose] def tlb (c : Fin 2048) : ℝ := ∑ p, dvn P X p c
@[expose] def tw (h : Fin 16) (p q : Fin 128) : ℝ := ∑ d, dvs P X p (col h d) * vn P X q (col h d)

/-! ### Identities -/

theorem mean_sq_nonneg (f : Fin 2048 → ℝ) : 0 ≤ mean fun c => f c * f c :=
  div_nonneg (Finset.sum_nonneg fun c _ => mul_self_nonneg (f c)) (by norm_num)
theorem var_pos (f : Fin 2048 → ℝ) : 0 < mean (fun c => f c * f c) + eps := add_pos_of_nonneg_of_pos (mean_sq_nonneg f) eps_pos

/-- The cube of the reciprocal root is the reciprocal root over the mean square. -/
theorem rms_div (f : Fin 2048 → ℝ) : rms f / (mean (fun c => f c * f c) + eps) = rms f * rms f * rms f := by
  have h := var_pos f
  have e : rms f * rms f = (mean (fun c => f c * f c) + eps)⁻¹ := by
    unfold rms; rw [← mul_inv, Real.mul_self_sqrt h.le]
  rw [mul_assoc, e, div_eq_mul_inv]

/-- The centred row sums to zero. -/
theorem sum_zc (f : Fin 2048 → ℝ) : ∑ c, zc f c = 0 := by
  unfold zc mean
  rw [Finset.sum_sub_distrib, Finset.sum_const, Finset.card_univ, Fintype.card_fin, nsmul_eq_mul]
  push_cast; ring

/-- The cotangent of the reciprocal root's argument, spread over the row, as the derivative rule of the reciprocal root gives it. -/
@[expose] def qv (f d : Fin 2048 → ℝ) : ℝ :=
  (∑ c, f c * d c) * (-(1 / 2) * (rms f / (mean (fun c => f c * f c) + eps))) / 2048

/-- The derivative rules' formula for the norm's cotangent is the closed one. -/
theorem rmsB_ad (f d : Fin 2048 → ℝ) (c : Fin 2048) :
    d c * rms f + (f c * qv f d + qv f d * f c) = rmsB f d c := by
  have h : (∑ c, d c * nrm f c) = rms f * ∑ c, f c * d c := by
    rw [Finset.mul_sum]; exact Finset.sum_congr rfl fun c _ => by unfold nrm; ring
  unfold rmsB qv mean
  rw [h]
  have := rms_div f
  unfold mean at this
  rw [this]
  unfold nrm
  ring

/-- The same for the layer norm: the mean of the cotangent is taken off. -/
theorem lnB_ad (f d : Fin 2048 → ℝ) (c : Fin 2048) :
    rmsB (zc f) d c + (∑ c, -(rmsB (zc f) d c)) / 2048 = lnB f d c := by
  have hs : ∑ c, rmsB (zc f) d c = rms (zc f) * ∑ c, d c := by
    have e : ∀ c, rmsB (zc f) d c = rms (zc f) * d c - rms (zc f) * rms (zc f) * (mean fun c => d c * nrm (zc f) c) * zc f c := by
      intro c; unfold rmsB nrm; ring
    rw [Finset.sum_congr rfl fun c _ => e c, Finset.sum_sub_distrib, ← Finset.mul_sum, ← Finset.mul_sum, sum_zc]; ring
  rw [Finset.sum_neg_distrib, hs]
  unfold rmsB lnB
  rw [show mean d = (∑ c, d c) / 2048 from rfl]
  ring

theorem sqrt_half : Real.sqrt (1 / 2) = (Real.sqrt 2)⁻¹ := by rw [one_div, Real.sqrt_inv]

/-- The unit through the complementary error function. -/
theorem gel_erfc (x : ℝ) : 1 / 2 * x * (1 - erfR (-x * Real.sqrt (1 / 2))) = gel x := by
  rw [sqrt_half, neg_mul, erfR_neg]; unfold gel; ring

theorem const_gauss : 2 / Real.sqrt Real.pi * (1 / 2) * (Real.sqrt 2)⁻¹ = (Real.sqrt (2 * Real.pi))⁻¹ := by
  rw [Real.sqrt_mul (by norm_num)]
  have h1 : Real.sqrt 2 ≠ 0 := by positivity
  have h2 : Real.sqrt Real.pi ≠ 0 := by positivity
  field_simp

/-- The derivative of the unit as the chain rule gives it through the complementary error function. -/
theorem gelD_erfc (x g : ℝ) :
    -((-2 / Real.sqrt Real.pi * Real.exp (-((-x * Real.sqrt (1 / 2)) * (-x * Real.sqrt (1 / 2))))) * (1 / 2 * x * g) * Real.sqrt (1 / 2))
      + 1 / 2 * (g * (1 - erfR (-x * Real.sqrt (1 / 2)))) = g * gelD x := by
  have hs : (Real.sqrt 2)⁻¹ * (Real.sqrt 2)⁻¹ = 1 / 2 := by
    rw [← mul_inv, Real.mul_self_sqrt (by norm_num)]; norm_num
  rw [sqrt_half]
  have e : -((-x * (Real.sqrt 2)⁻¹) * (-x * (Real.sqrt 2)⁻¹)) = -(1 / 2) * x * x := by
    rw [show -((-x * (Real.sqrt 2)⁻¹) * (-x * (Real.sqrt 2)⁻¹)) = -(((Real.sqrt 2)⁻¹ * (Real.sqrt 2)⁻¹) * x * x) by ring, hs]; ring
  rw [e, neg_mul x, erfR_neg]
  unfold gelD
  rw [← const_gauss]
  ring

end Cert.Spec
-- ==== Proof.RefArr.lean ====
/- The reference's side: its arguments as real arrays, the chunk of a position, and the sums over two leading axes. -/
module

public import proofs.«01_k».proof.Proof.Spec

public section
open Idealize.ShloMosaic Idealize.ShloMosaic.Ideal Idealize.ShloMosaic.ValueIdx
set_option maxRecDepth 16384
noncomputable section

namespace Cert.Spec
open Cert.Arr

/-- The seven arguments as real functions of their coordinates. -/
structure In where
  dy : Fin 4096 → Fin 4096 → ℝ
  pr : Fin 4096 → Fin 8192 → ℝ
  lg : Fin 1 → Fin 2048 → ℝ
  lb : Fin 1 → Fin 2048 → ℝ
  w : Fin 1 → Fin 16 → Fin 128 → Fin 128 → ℝ
  sb : Fin 1 → Fin 16 → Fin 128 → ℝ
  og : Fin 1 → Fin 2048 → ℝ

/-- The row of a chunk's position. -/
@[expose] def row (k : Fin 32) (p : Fin 128) : Fin 4096 := ⟨k.val * 128 + p.val, by omega⟩
/-- The chunk of a row, and the row's position in it. -/
@[expose] def ck (b : Fin 2) (s : Fin 2048) : Fin 32 := ⟨b.val * 16 + s.val / 128, by omega⟩
@[expose] def po (s : Fin 2048) : Fin 128 := ⟨s.val % 128, by omega⟩
/-- The chunk with a batch member's number. -/
@[expose] def cn (b : Fin 2) (n : Fin 16) : Fin 32 := ⟨b.val * 16 + n.val, by omega⟩

/-- Chunk `k` of the arguments: of `dy` the upper half of the columns, of the projection the third and the last quarter. -/
@[expose] def chunk (I : In) (k : Fin 32) : Chunk where
  dy p c := I.dy (row k p) ⟨c.val + 2048, by omega⟩
  pu p c := I.pr (row k p) ⟨c.val + 4096, by omega⟩
  pv p c := I.pr (row k p) ⟨c.val + 6144, by omega⟩
/-- The parameters among the arguments; the bias is one number for a head's channels. -/
@[expose] def par (I : In) : Par where
  lg := I.lg 0
  lb := I.lb 0
  W := I.w 0
  B p c := I.sb 0 (hd c) p
  og := I.og 0

/-- A function of a chunk's positions and channels, over all batch members, positions and channels. -/
@[expose] def all (I : In) (g : Chunk → Fin 128 → Fin 2048 → ℝ) : FVec Ideal ⟨3, ![2, 2048, 2048]⟩ .f32 :=
  a3 fun b s c => g (chunk I (ck b s)) (po s) c
/-- The same by batch member, chunk, position, head and lane. -/
@[expose] def all5 (I : In) (g : Chunk → Fin 128 → Fin 2048 → ℝ) : FVec Ideal ⟨5, ![2, 16, 128, 16, 128]⟩ .f32 :=
  a5 fun b n p h d => g (chunk I (cn b n)) p (col h d)

/-- A function of a chunk's positions, as a column and as a plain array over batch members and positions. -/
@[expose] def allCol (I : In) (g : Chunk → Fin 128 → ℝ) : FVec Ideal ⟨3, ![2, 2048, 1]⟩ .f32 :=
  a3 fun b s _ => g (chunk I (ck b s)) (po s)
@[expose] def allRow (I : In) (g : Chunk → Fin 128 → ℝ) : FVec Ideal ⟨2, ![2, 2048]⟩ .f32 :=
  a2 fun b s => g (chunk I (ck b s)) (po s)

theorem sum_rows_chunks (g : Fin 32 → Fin 128 → ℝ) : (∑ b : Fin 2, ∑ s : Fin 2048, g (ck b s) (po s)) = ∑ k, ∑ p, g k p := by
  let e : Fin 2 × Fin 2048 ≃ Fin 32 × Fin 128 :=
    { toFun := fun q => (ck q.1 q.2, po q.2)
      invFun := fun q => (⟨q.1.val / 16, by omega⟩, ⟨q.1.val % 16 * 128 + q.2.val, by omega⟩)
      left_inv := fun q => Prod.ext (Fin.ext (by show (q.1.val * 16 + q.2.val / 128) / 16 = q.1.val; omega))
        (Fin.ext (by show (q.1.val * 16 + q.2.val / 128) % 16 * 128 + q.2.val % 128 = q.2.val; omega))
      right_inv := fun q => Prod.ext
        (Fin.ext (by show q.1.val / 16 * 16 + (q.1.val % 16 * 128 + q.2.val) / 128 = q.1.val; omega))
        (Fin.ext (by show (q.1.val % 16 * 128 + q.2.val) % 128 = q.2.val; omega)) }
  rw [← Fintype.sum_prod_type', ← Fintype.sum_prod_type']
  exact e.sum_comp fun q => g q.1 q.2

theorem sum_chunks (g : Fin 32 → ℝ) : (∑ b : Fin 2, ∑ n : Fin 16, g (cn b n)) = ∑ k, g k := by
  let e : Fin 2 × Fin 16 ≃ Fin 32 :=
    { toFun := fun q => cn q.1 q.2
      invFun := fun q => (⟨q.val / 16, by omega⟩, ⟨q.val % 16, by omega⟩)
      left_inv := fun q => Prod.ext (Fin.ext (by show (q.1.val * 16 + q.2.val) / 16 = q.1.val; omega))
        (Fin.ext (by show (q.1.val * 16 + q.2.val) % 16 = q.2.val; omega))
      right_inv := fun q => Fin.ext (by show q.val / 16 * 16 + q.val % 16 = q.val; omega) }
  rw [← Fintype.sum_prod_type']
  exact e.sum_comp g

theorem cn_div (b : Fin 2) (s : Fin 2048) (h : s.val / 128 < 16) : cn b ⟨s.val / 128, h⟩ = ck b s := rfl
theorem col_hd (c : Fin 2048) (h : c.val % 128 < 128) : col (hd c) ⟨c.val % 128, h⟩ = c :=
  Fin.ext (by show c.val / 128 * 128 + c.val % 128 = c.val; omega)
theorem hd_col (h : Fin 16) (d : Fin 128) : hd (col h d) = h :=
  Fin.ext (by show (h.val * 128 + d.val) / 128 = h.val; omega)

/-- Such an array read where the position and channel are given by chunk, position, head and lane; and the reverse. -/
theorem all_at (I : In) (g : Chunk → Fin 128 → Fin 2048 → ℝ) (j : (⟨3, ![2, 2048, 2048]⟩ : Shape).Idx) (b : Fin 2) (n : Fin 16)
    (p : Fin 128) (h : Fin 16) (d : Fin 128) (e0 : (j 0).val = b.val) (e1 : (j 1).val = n.val * 128 + p.val)
    (e2 : (j 2).val = h.val * 128 + d.val) : all I g j = ((g (chunk I (cn b n)) p (col h d) : ℝ) : EReal) := by
  have hk : ck (j 0) (j 1) = cn b n := Fin.ext (by show (j 0).val * 16 + (j 1).val / 128 = b.val * 16 + n.val; omega)
  have hp : po (j 1) = p := Fin.ext (by show (j 1).val % 128 = p.val; omega)
  have hc : (j 2 : Fin 2048) = col h d := Fin.ext e2
  show ((g (chunk I (ck (j 0) (j 1))) (po (j 1)) (j 2) : ℝ) : EReal) = _
  rw [hk, hp, hc]

theorem all5_at (I : In) (g : Chunk → Fin 128 → Fin 2048 → ℝ) (j : (⟨5, ![2, 16, 128, 16, 128]⟩ : Shape).Idx) (b : Fin 2)
    (s c : Fin 2048) (e0 : (j 0).val = b.val) (e1 : (j 1).val = s.val / 128) (e2 : (j 2).val = s.val % 128)
    (e3 : (j 3).val = c.val / 128) (e4 : (j 4).val = c.val % 128) :
    all5 I g j = ((g (chunk I (ck b s)) (po s) c : ℝ) : EReal) := by
  have hk : cn (j 0) (j 1) = ck b s := Fin.ext (by show (j 0).val * 16 + (j 1).val = b.val * 16 + s.val / 128; omega)
  have hp : (j 2 : Fin 128) = po s := Fin.ext e2
  have hc : col (j 3) (j 4) = c := Fin.ext (by show (j 3).val * 128 + (j 4).val = c.val; omega)
  show ((g (chunk I (cn (j 0) (j 1))) (j 2) (col (j 3) (j 4)) : ℝ) : EReal) = _
  rw [hk, hp, hc]

/-- The host's sum over the two leading axes of an array of three. -/
theorem hostSum3 {l m n : Nat} (f : Fin l → Fin m → Fin n → ℝ) (init : FVec Ideal ⟨0, ![]⟩ .f32) (h0 : ∀ i, init i = ((0 : ℝ) : EReal))
    (h : (⟨3, ![l, m, n]⟩ : Shape).ReducesTo [0, 1] ⟨1, ![n]⟩) (hu : 0 < (⟨0, ![]⟩ : Shape).numel) :
    Host.reduceAdd (a3 f : FVec Ideal _ .f32) init h hu = a1 fun c => ∑ b, ∑ s, f b s c := by
  funext j
  simp only [Host.reduceAdd, Ideal.hostReduceAdd_def]
  unfold Ideal.hostReduceAdd
  rw [h0, EReal.coe_zero, zero_add]
  have e : ∑ i ∈ Finset.univ.filter (fun i => h.drop i = j), (a3 f : FVec Ideal _ .f32) i
      = ∑ q : Fin l × Fin m, ((f q.1 q.2 (j 0) : ℝ) : EReal) := by
    refine Finset.sum_bij' (fun i _ => ((i 0, i 1) : Fin l × Fin m)) (fun q _ => ix3 q.1 q.2 (j 0)) (fun _ _ => Finset.mem_univ _)
      (fun q _ => ?_) (fun i hi => ?_) (fun _ _ => rfl) (fun i hi => ?_)
    · rw [Finset.mem_filter]
      exact ⟨Finset.mem_univ _, funext fun b => match b with | ⟨0, _⟩ => rfl⟩
    · have := (Finset.mem_filter.mp hi).2
      subst this
      exact (eq_ix3 i).symm
    · have := (Finset.mem_filter.mp hi).2
      subst this
      rfl
  rw [e, Arr.coe_sum, Fintype.sum_prod_type]
  rfl

/-- The host's sum over the two leading axes of an array of five. -/
theorem hostSum5 {k l m n o : Nat} (f : Fin k → Fin l → Fin m → Fin n → Fin o → ℝ) (init : FVec Ideal ⟨0, ![]⟩ .f32)
    (h0 : ∀ i, init i = ((0 : ℝ) : EReal))
    (h : (⟨5, ![k, l, m, n, o]⟩ : Shape).ReducesTo [0, 1] ⟨3, ![m, n, o]⟩) (hu : 0 < (⟨0, ![]⟩ : Shape).numel) :
    Host.reduceAdd (a5 f : FVec Ideal _ .f32) init h hu = a3 fun p c d => ∑ b, ∑ s, f b s p c d := by
  funext j
  simp only [Host.reduceAdd, Ideal.hostReduceAdd_def]
  unfold Ideal.hostReduceAdd
  rw [h0, EReal.coe_zero, zero_add]
  have e : ∑ i ∈ Finset.univ.filter (fun i => h.drop i = j), (a5 f : FVec Ideal _ .f32) i
      = ∑ q : Fin k × Fin l, ((f q.1 q.2 (j 0) (j 1) (j 2) : ℝ) : EReal) := by
    refine Finset.sum_bij' (fun i _ => ((i 0, i 1) : Fin k × Fin l)) (fun q _ => ix5 q.1 q.2 (j 0) (j 1) (j 2))
      (fun _ _ => Finset.mem_univ _) (fun q _ => ?_) (fun i hi => ?_) (fun _ _ => rfl) (fun i hi => ?_)
    · rw [Finset.mem_filter]
      exact ⟨Finset.mem_univ _, funext fun b => match b with | ⟨0, _⟩ => rfl | ⟨1, _⟩ => rfl | ⟨2, _⟩ => rfl⟩
    · have := (Finset.mem_filter.mp hi).2
      subst this
      exact (eq_ix5 i).symm
    · have := (Finset.mem_filter.mp hi).2
      subst this
      rfl
  rw [e, Arr.coe_sum, Fintype.sum_prod_type]
  rfl

end Cert.Spec
-- ==== Proof.KerHost.lean ====
/- What the region finds in its windows when every argument is an array of reals: the prepared weights, and each window's block at
   point `t`, which is chunk `t` of the arguments. -/
module

public import proofs.«01_k».proof.Proof.RefArr
public import proofs.«01_k».proof.Proof.Gen.KernelIdeal.Value
public import Idealize.ShloMosaic.Lib.Claim

public section
open Idealize.ShloMosaic Idealize.ShloMosaic.Ideal Idealize.ShloMosaic.ValueIdx
set_option maxRecDepth 16384
noncomputable section

namespace Cert.KernelIdeal.KerVal
open Cert.KernelIdeal Cert.KernelIdeal.Gen Cert.Arr Cert.Spec Idealize.ShloMosaic.TcCoe

variable (m : (ℓ : Loc nD τ sig) → Buf (Elt Ideal) ℓ) (c : Dev nD) (I : In)

/-- The seven arguments, on one core, are the real arrays `I`. -/
structure Holds : Prop where
  dy : m ((c : Thread nD τ).loc main_arg0) = (a2 I.dy : FVec Ideal S4096x4096 .bf16)
  pr : m ((c : Thread nD τ).loc main_arg1) = (a2 I.pr : FVec Ideal S4096x8192 .bf16)
  lg : m ((c : Thread nD τ).loc main_arg2) = (a2 I.lg : FVec Ideal S1x2048 .f32)
  lb : m ((c : Thread nD τ).loc main_arg3) = (a2 I.lb : FVec Ideal S1x2048 .f32)
  w : m ((c : Thread nD τ).loc main_arg4) = (a4 I.w : FVec Ideal S1x16x128x128 .f32)
  sb : m ((c : Thread nD τ).loc main_arg5) = (a3 I.sb : FVec Ideal S1x16x128 .f32)
  og : m ((c : Thread nD τ).loc main_arg6) = (a2 I.og : FVec Ideal S1x2048 .f32)

variable {m c I}

/-- A matrix of one row, at any index. -/
theorem one_row (f : Fin 1 → Fin 2048 → ℝ) (g : Fin 2048 → ℝ) (j : S1x2048.Idx) (h : f 0 = g := by rfl) :
    (a2 f : FVec Ideal S1x2048 .f32) j = (a2 (fun _ => g) : FVec Ideal S1x2048 .f32) j := by
  subst h
  have h0 : (j 0).val < 1 := (j 0).isLt
  have e : j 0 = (0 : Fin 1) := Fin.ext (by show (j 0).val = 0; omega)
  show ((f (j 0) (j 1) : ℝ) : EReal) = ((f 0 (j 1) : ℝ) : EReal)
  rw [e]

/-- A leading axis of one dropped from a stack of matrices. -/
theorem weights_plain (w : Fin 1 → Fin 16 → Fin 128 → Fin 128 → ℝ) : shapeCast S16x128x128 (a4 w : FVec Ideal S1x16x128x128 .f32)
    shapeCasts_S1x16x128x128_S16x128x128 = (a3 (w 0) : FVec Ideal S16x128x128 .f32) := by
  funext i
  refine (shapeCast_apply _ _ i (ix4 0 (i 0) (i 1) (i 2)) ?_).trans rfl
  rw [Shape.rowMajor_val_three, Shape.rowMajor_val_four]
  show ((0 * 16 + (i 0).val) * 128 + (i 1).val) * 128 + (i 2).val = ((i 0).val * 128 + (i 1).val) * 128 + (i 2).val
  rw [Nat.zero_mul, Nat.zero_add]

theorem bias_plain (w : Fin 1 → Fin 16 → Fin 128 → ℝ) : shapeCast S16x128 (a3 w : FVec Ideal S1x16x128 .f32)
    shapeCasts_S1x16x128_S16x128 = (a2 (w 0) : FVec Ideal S16x128 .f32) := shapeCast_plane w _

theorem bias_turn (f : Fin 16 → Fin 128 → ℝ) : transpose S128x16 [1, 0] (a2 f : FVec Ideal S16x128 .f32) transposes_S16x128_S128x16_1_0
    = (a2 (fun p h => f h p) : FVec Ideal S128x16 .f32) := by
  funext i
  exact (transpose_apply _ _ _ i (ix2 (i 1) (i 0)) fun b => match b with | ⟨0, _⟩ => rfl | ⟨1, _⟩ => rfl).trans rfl

theorem bias_repeat (f : Fin 128 → Fin 16 → ℝ) : broadcastInDim S128x16x128 ![0, 1] bcast_S128x16_S128x16x128_0_1
    (a2 f : FVec Ideal S128x16 .f32) = (a3 (fun p h _ => f p h) : FVec Ideal S128x16x128 .f32) := by
  funext i
  exact (broadcastInDim_apply _ _ _ i (ix2 (i 0) (i 1)) fun a => match a with | ⟨0, _⟩ => rfl | ⟨1, _⟩ => rfl).trans rfl

theorem bias_flat (f : Fin 128 → Fin 16 → Fin 128 → ℝ) : shapeCast S128x2048 (a3 f : FVec Ideal S128x16x128 .f32)
    shapeCasts_S128x16x128_S128x2048 = (a2 (fun p c => f p (hd c) ⟨c.val % 128, Nat.mod_lt _ (by decide)⟩) : FVec Ideal S128x2048 .f32) := by
  funext i
  refine (shapeCast_apply _ _ i (ix3 (i 0) (hd (i 1)) ⟨(i 1).val % 128, Nat.mod_lt _ (by decide)⟩) ?_).trans rfl
  rw [Shape.rowMajor_val_three, Shape.rowMajor_val_two]
  show ((i 0).val * 16 + (i 1).val / 128) * 128 + (i 1).val % 128 = (i 0).val * 2048 + (i 1).val
  omega

theorem stack_turn (f : Fin 16 → Fin 128 → Fin 128 → ℝ) : transpose S16x128x128 [0, 2, 1] (a3 f : FVec Ideal S16x128x128 .f32)
    transposes_S16x128x128_S16x128x128_0_2_1 = (a3 (fun h q p => f h p q) : FVec Ideal S16x128x128 .f32) := by
  funext i
  exact (transpose_apply _ _ _ i (ix3 (i 0) (i 2) (i 1)) fun b => match b with
    | ⟨0, _⟩ => rfl | ⟨1, _⟩ => rfl | ⟨2, _⟩ => rfl).trans rfl

/-- The mixing weights, -/
theorem host_w (H : Holds m c I) : V m c main_v1 = (a3 (I.w 0) : FVec Ideal S16x128x128 .bf16) := by
  have e : V m c main_v1 = truncf (F := Ideal) .bf16 (shapeCast S16x128x128 (m ((c : Thread nD τ).loc main_arg4) : FVec Ideal S1x16x128x128 .f32)
      shapeCasts_S1x16x128x128_S16x128x128) bitsLt_bf16_f32 := by
    unfold_abbrev_sides
    after_results
    rfl
  rw [e, H.w, weights_plain]; rfl

/-- transposed, -/
theorem host_wt (H : Holds m c I) : V m c main_v4 = (a3 (fun h q p => I.w 0 h p q) : FVec Ideal S16x128x128 .bf16) := by
  have e : V m c main_v4 = truncf (F := Ideal) .bf16 (transpose S16x128x128 [0, 2, 1] (shapeCast S16x128x128
      (m ((c : Thread nD τ).loc main_arg4) : FVec Ideal S1x16x128x128 .f32)
      shapeCasts_S1x16x128x128_S16x128x128) transposes_S16x128x128_S16x128x128_0_2_1) bitsLt_bf16_f32 := by
    unfold_abbrev_sides
    after_results
    rfl
  rw [e, H.w, weights_plain, stack_turn]; rfl

/-- and the bias, one column for each of a head's channels. -/
theorem host_b (H : Holds m c I) : V m c main_v8 = (a2 (par I).B : FVec Ideal S128x2048 .f32) := by
  have e : V m c main_v8 = shapeCast S128x2048 (broadcastInDim S128x16x128 ![0, 1] bcast_S128x16_S128x16x128_0_1
      (transpose S128x16 [1, 0] (shapeCast S16x128 (m ((c : Thread nD τ).loc main_arg5) : FVec Ideal S1x16x128 .f32)
      shapeCasts_S1x16x128_S16x128) transposes_S16x128_S128x16_1_0)) shapeCasts_S128x16x128_S128x2048 := by
    unfold_abbrev_sides
    after_results
    rfl
  rw [e, H.sb, bias_plain, bias_turn, bias_repeat, bias_flat]; rfl

/-- The index maps of the windows, at every point. -/
theorem idx0 : ∀ t : Fin cfg0.N, win0_0.index t = ![t.val, 1] := (by decide +kernel : ∀ t : Fin grid0.N, win0_0.index t = ![t.val, 1])
theorem idx1 : ∀ t : Fin cfg0.N, win0_1.index t = ![t.val, 2] := (by decide +kernel : ∀ t : Fin grid0.N, win0_1.index t = ![t.val, 2])
theorem idx2 : ∀ t : Fin cfg0.N, win0_2.index t = ![t.val, 3] := (by decide +kernel : ∀ t : Fin grid0.N, win0_2.index t = ![t.val, 3])
theorem idx9 : ∀ t : Fin cfg0.N, win0_9.index t = ![t.val, 1] := (by decide +kernel : ∀ t : Fin grid0.N, win0_9.index t = ![t.val, 1])
theorem idx3 : ∀ t : Fin cfg0.N, win0_3.index t = ![0, 0] := (by decide +kernel : ∀ t : Fin grid0.N, win0_3.index t = ![0, 0])
theorem idx4 : ∀ t : Fin cfg0.N, win0_4.index t = ![0, 0] := (by decide +kernel : ∀ t : Fin grid0.N, win0_4.index t = ![0, 0])
theorem idx7 : ∀ t : Fin cfg0.N, win0_7.index t = ![0, 0] := (by decide +kernel : ∀ t : Fin grid0.N, win0_7.index t = ![0, 0])
theorem idx8 : ∀ t : Fin cfg0.N, win0_8.index t = ![0, 0] := (by decide +kernel : ∀ t : Fin grid0.N, win0_8.index t = ![0, 0])
theorem idx10 : ∀ t : Fin cfg0.N, win0_10.index t = ![0, 0] := (by decide +kernel : ∀ t : Fin grid0.N, win0_10.index t = ![0, 0])
theorem idx11 : ∀ t : Fin cfg0.N, win0_11.index t = ![0, 0] := (by decide +kernel : ∀ t : Fin grid0.N, win0_11.index t = ![0, 0])
theorem idx12 : ∀ t : Fin cfg0.N, win0_12.index t = ![0, 0] := (by decide +kernel : ∀ t : Fin grid0.N, win0_12.index t = ![0, 0])
theorem idx14 : ∀ t : Fin cfg0.N, win0_14.index t = ![0, 0] := (by decide +kernel : ∀ t : Fin grid0.N, win0_14.index t = ![0, 0])
theorem idx5 : ∀ t : Fin cfg0.N, win0_5.index t = ![0, 0, 0] := (by decide +kernel : ∀ t : Fin grid0.N, win0_5.index t = ![0, 0, 0])
theorem idx6 : ∀ t : Fin cfg0.N, win0_6.index t = ![0, 0, 0] := (by decide +kernel : ∀ t : Fin grid0.N, win0_6.index t = ![0, 0, 0])
theorem idx13 : ∀ t : Fin cfg0.N, win0_13.index t = ![0, 0, 0] := (by decide +kernel : ∀ t : Fin grid0.N, win0_13.index t = ![0, 0, 0])

/-- A point's number, as a chunk's. -/
@[expose] def pt (t : Fin cfg0.N) : Fin 32 := ⟨t.val, by have h : t.val < grid0.N := t.isLt; rw [N_0] at h; exact h⟩

theorem blk0 (H : Holds m c I) (t : Fin cfg0.N) : iblk m c 0 t = (a2 (chunk I (pt t)).dy : FVec Ideal S128x2048 .bf16) := by
  funext j
  have j0 : (j 0).val < 128 := (j 0).isLt
  have j1 : (j 1).val < 2048 := (j 1).isLt
  have h0 : win0_0.index t 0 = t.val := congrFun (idx0 t) 0
  have h1 : win0_0.index t 1 = 1 := congrFun (idx0 t) 1
  show V m c main_arg0 ((win0_0.rect t).emb j) = _
  rw [V_main_arg0, H.dy]
  refine congrArg (a2 (φ := .bf16) I.dy) (a₂ := ix2 (row (pt t) (j 0)) ⟨(j 1).val + 2048, by omega⟩) (funext fun a => match a with
    | ⟨0, _⟩ => Fin.ext ?_ | ⟨1, _⟩ => Fin.ext ?_)
  · show win0_0.index t 0 * 128 + 1 * (j 0).val = t.val * 128 + (j 0).val
    omega
  · show win0_0.index t 1 * 2048 + 1 * (j 1).val = (j 1).val + 2048
    omega

theorem blk1 (H : Holds m c I) (t : Fin cfg0.N) : iblk m c 1 t = (a2 (chunk I (pt t)).pu : FVec Ideal S128x2048 .bf16) := by
  funext j
  have j0 : (j 0).val < 128 := (j 0).isLt
  have j1 : (j 1).val < 2048 := (j 1).isLt
  have h0 : win0_1.index t 0 = t.val := congrFun (idx1 t) 0
  have h1 : win0_1.index t 1 = 2 := congrFun (idx1 t) 1
  show V m c main_arg1 ((win0_1.rect t).emb j) = _
  rw [V_main_arg1, H.pr]
  refine congrArg (a2 (φ := .bf16) I.pr) (a₂ := ix2 (row (pt t) (j 0)) ⟨(j 1).val + 4096, by omega⟩) (funext fun a => match a with
    | ⟨0, _⟩ => Fin.ext ?_ | ⟨1, _⟩ => Fin.ext ?_)
  · show win0_1.index t 0 * 128 + 1 * (j 0).val = t.val * 128 + (j 0).val
    omega
  · show win0_1.index t 1 * 2048 + 1 * (j 1).val = (j 1).val + 4096
    omega

theorem blk2 (H : Holds m c I) (t : Fin cfg0.N) : iblk m c 2 t = (a2 (chunk I (pt t)).pv : FVec Ideal S128x2048 .bf16) := by
  funext j
  have j0 : (j 0).val < 128 := (j 0).isLt
  have j1 : (j 1).val < 2048 := (j 1).isLt
  have h0 : win0_2.index t 0 = t.val := congrFun (idx2 t) 0
  have h1 : win0_2.index t 1 = 3 := congrFun (idx2 t) 1
  show V m c main_arg1 ((win0_2.rect t).emb j) = _
  rw [V_main_arg1, H.pr]
  refine congrArg (a2 (φ := .bf16) I.pr) (a₂ := ix2 (row (pt t) (j 0)) ⟨(j 1).val + 6144, by omega⟩) (funext fun a => match a with
    | ⟨0, _⟩ => Fin.ext ?_ | ⟨1, _⟩ => Fin.ext ?_)
  · show win0_2.index t 0 * 128 + 1 * (j 0).val = t.val * 128 + (j 0).val
    omega
  · show win0_2.index t 1 * 2048 + 1 * (j 1).val = (j 1).val + 6144
    omega

theorem blk3 (H : Holds m c I) (t : Fin cfg0.N) : iblk m c 3 t = (a2 fun _ => (par I).lg : FVec Ideal S1x2048 .f32) := by
  funext j
  have h0 : win0_3.index t 0 = 0 := congrFun (idx3 t) 0
  have h1 : win0_3.index t 1 = 0 := congrFun (idx3 t) 1
  show V m c main_arg2 ((win0_3.rect t).emb j) = _
  refine (congrArg (V m c main_arg2) (a₂ := j) (funext fun a => match a with
    | ⟨0, _⟩ => Fin.ext (by show win0_3.index t 0 * 1 + 1 * (j 0).val = (j 0).val; omega) | ⟨1, _⟩ => Fin.ext (by show win0_3.index t 1 * 2048 + 1 * (j 1).val = (j 1).val; omega))).trans ?_
  exact (congrFun ((V_main_arg2 m c).trans H.lg) j).trans (one_row _ _ j)

theorem blk4 (H : Holds m c I) (t : Fin cfg0.N) : iblk m c 4 t = (a2 fun _ => (par I).lb : FVec Ideal S1x2048 .f32) := by
  funext j
  have h0 : win0_4.index t 0 = 0 := congrFun (idx4 t) 0
  have h1 : win0_4.index t 1 = 0 := congrFun (idx4 t) 1
  show V m c main_arg3 ((win0_4.rect t).emb j) = _
  refine (congrArg (V m c main_arg3) (a₂ := j) (funext fun a => match a with
    | ⟨0, _⟩ => Fin.ext (by show win0_4.index t 0 * 1 + 1 * (j 0).val = (j 0).val; omega) | ⟨1, _⟩ => Fin.ext (by show win0_4.index t 1 * 2048 + 1 * (j 1).val = (j 1).val; omega))).trans ?_
  exact (congrFun ((V_main_arg3 m c).trans H.lb) j).trans (one_row _ _ j)

theorem blk5 (H : Holds m c I) (t : Fin cfg0.N) : iblk m c 5 t = (a3 (par I).W : FVec Ideal S16x128x128 .bf16) := by
  funext j
  have h0 : win0_5.index t 0 = 0 := congrFun (idx5 t) 0
  have h1 : win0_5.index t 1 = 0 := congrFun (idx5 t) 1
  have h2 : win0_5.index t 2 = 0 := congrFun (idx5 t) 2
  show V m c main_v1 ((win0_5.rect t).emb j) = _
  refine (congrArg (V m c main_v1) (a₂ := j) (funext fun a => match a with
    | ⟨0, _⟩ => Fin.ext (by show win0_5.index t 0 * 16 + 1 * (j 0).val = (j 0).val; omega) | ⟨1, _⟩ => Fin.ext (by show win0_5.index t 1 * 128 + 1 * (j 1).val = (j 1).val; omega) | ⟨2, _⟩ => Fin.ext (by show win0_5.index t 2 * 128 + 1 * (j 2).val = (j 2).val; omega))).trans ?_
  exact (congrFun (host_w H) j).trans rfl

theorem blk6 (H : Holds m c I) (t : Fin cfg0.N) : iblk m c 6 t = (a3 fun h q p => (par I).W h p q : FVec Ideal S16x128x128 .bf16) := by
  funext j
  have h0 : win0_6.index t 0 = 0 := congrFun (idx6 t) 0
  have h1 : win0_6.index t 1 = 0 := congrFun (idx6 t) 1
  have h2 : win0_6.index t 2 = 0 := congrFun (idx6 t) 2
  show V m c main_v4 ((win0_6.rect t).emb j) = _
  refine (congrArg (V m c main_v4) (a₂ := j) (funext fun a => match a with
    | ⟨0, _⟩ => Fin.ext (by show win0_6.index t 0 * 16 + 1 * (j 0).val = (j 0).val; omega) | ⟨1, _⟩ => Fin.ext (by show win0_6.index t 1 * 128 + 1 * (j 1).val = (j 1).val; omega) | ⟨2, _⟩ => Fin.ext (by show win0_6.index t 2 * 128 + 1 * (j 2).val = (j 2).val; omega))).trans ?_
  exact (congrFun (host_wt H) j).trans rfl

theorem blk7 (H : Holds m c I) (t : Fin cfg0.N) : iblk m c 7 t = (a2 (par I).B : FVec Ideal S128x2048 .f32) := by
  funext j
  have h0 : win0_7.index t 0 = 0 := congrFun (idx7 t) 0
  have h1 : win0_7.index t 1 = 0 := congrFun (idx7 t) 1
  show V m c main_v8 ((win0_7.rect t).emb j) = _
  refine (congrArg (V m c main_v8) (a₂ := j) (funext fun a => match a with
    | ⟨0, _⟩ => Fin.ext (by show win0_7.index t 0 * 128 + 1 * (j 0).val = (j 0).val; omega) | ⟨1, _⟩ => Fin.ext (by show win0_7.index t 1 * 2048 + 1 * (j 1).val = (j 1).val; omega))).trans ?_
  exact (congrFun (host_b H) j).trans rfl

theorem blk8 (H : Holds m c I) (t : Fin cfg0.N) : iblk m c 8 t = (a2 fun _ => (par I).og : FVec Ideal S1x2048 .f32) := by
  funext j
  have h0 : win0_8.index t 0 = 0 := congrFun (idx8 t) 0
  have h1 : win0_8.index t 1 = 0 := congrFun (idx8 t) 1
  show V m c main_arg6 ((win0_8.rect t).emb j) = _
  refine (congrArg (V m c main_arg6) (a₂ := j) (funext fun a => match a with
    | ⟨0, _⟩ => Fin.ext (by show win0_8.index t 0 * 1 + 1 * (j 0).val = (j 0).val; omega) | ⟨1, _⟩ => Fin.ext (by show win0_8.index t 1 * 2048 + 1 * (j 1).val = (j 1).val; omega))).trans ?_
  exact (congrFun ((V_main_arg6 m c).trans H.og) j).trans (one_row _ _ j)

end Cert.KernelIdeal.KerVal
-- ==== Proof.KerPay.lean ====
/- The kernel body's vectors over real inputs.  The body is cut into named terms; each of the terms that handle a whole chunk is
   shown to send arrays of real numbers to the array of the corresponding real formula. -/
module

public import proofs.«01_k».proof.Proof.Spec
public import proofs.«01_k».proof.Proof.Gen.KernelIdeal.Skeleton

public section
open Idealize.ShloMosaic Idealize.ShloMosaic.Ideal Idealize.ShloMosaic.ValueIdx
set_option maxRecDepth 16384
noncomputable section

namespace Cert.KernelIdeal.KerVal
open Cert.KernelIdeal Cert.KernelIdeal.Gen Cert.Arr Cert.Spec

/-- The real number that stands for the constant nearest to the reciprocal root of two. -/
theorem named_a : (Named.named κ "inv_sqrt2" 0x3F3504F3#32 : Ideal .f32) = (((Real.sqrt 2)⁻¹ : ℝ) : EReal) :=
  IdealRules.named_const.ideal_named_scalar _ _ _ _ rfl
/-- The real number that stands for the constant nearest to the reciprocal root of a full turn. -/
theorem named_b : (Named.named κ "inv_sqrt2pi" 0x3ECC422A#32 : Ideal .f32) = (((Real.sqrt (2 * Real.pi))⁻¹ : ℝ) : EReal) :=
  IdealRules.named_const.ideal_named_scalar _ _ _ _ rfl
theorem spread_a {m n : Nat} : broadcast ⟨2, ![m, n]⟩ (Named.named κ "inv_sqrt2" 0x3F3504F3#32 : Ideal .f32)
    = (a2 fun _ _ => (Real.sqrt 2)⁻¹ : FVec Ideal _ .f32) := funext fun _ => named_a
theorem spread_b {m n : Nat} : broadcast ⟨2, ![m, n]⟩ (Named.named κ "inv_sqrt2pi" 0x3ECC422A#32 : Ideal .f32)
    = (a2 fun _ _ => (Real.sqrt (2 * Real.pi))⁻¹ : FVec Ideal _ .f32) := funext fun _ => named_b

/-- The sums over the lanes and over the sublanes, at this kernel's shapes. -/
theorem lane_sum (f : Fin 128 → Fin 2048 → ℝ) :
    multiReduction .add [1] S128 (a2 f : FVec Ideal S128x2048 .f32) 0x00000000#32 reduces_S128x2048_S128 (.inl rfl) rfl
      = (a1 fun p => ∑ c, f p c : FVec Ideal S128 .f32) := sum_lanes f _ _ _ _
theorem sublane_sum (f : Fin 128 → Fin 2048 → ℝ) :
    multiReduction .add [0] S2048 (a2 f : FVec Ideal S128x2048 .f32) 0x00000000#32 reduces_S128x2048_S2048 (.inl rfl) rfl
      = (a1 fun c => ∑ p, f p c : FVec Ideal S2048 .f32) := sum_rows f _ _ _ _

/-- The sum over a row's lanes, as a column, divided by their number. -/
theorem mean_col (f : Fin 128 → Fin 2048 → ℝ) :
    divf (shapeCast S128x1 (multiReduction .add [1] S128 (a2 f : FVec Ideal S128x2048 .f32) 0x00000000#32 reduces_S128x2048_S128 (.inl rfl) rfl)
        shapeCasts_S128_S128x1) (broadcast S128x1 (Scalar.ofBits (F := Ideal) .f32 0x45000000#32))
      = (a2 fun p _ => mean (f p) : FVec Ideal S128x1 .f32) := by
  rw [lane_sum f, shapeCast_col, broadcast_lit _ _ c_2048, divf_a2 _ _ (by norm_num)]; rfl

/-- A column over the lanes, at this kernel's shapes. -/
theorem col_spread (f : Fin 128 → Fin 1 → ℝ) :
    broadcastTo S128x2048 (a2 f : FVec Ideal S128x1 .f32) broadcasts_S128x1_S128x2048 = (a2 fun p _ => f p 0 : FVec Ideal S128x2048 .f32) :=
  broadcastTo_col (by decide) f _
/-- A row over the sublanes. -/
theorem row_spread (f : Fin 1 → Fin 2048 → ℝ) :
    broadcastTo S128x2048 (a2 f : FVec Ideal S1x2048 .f32) broadcasts_S1x2048_S128x2048 = (a2 fun _ c => f 0 c : FVec Ideal S128x2048 .f32) :=
  broadcastTo_row (by decide) f _
/-- The sum over the sublanes, as a row. -/
theorem sum_row (f : Fin 128 → Fin 2048 → ℝ) :
    shapeCast S1x2048 (multiReduction .add [0] S2048 (a2 f : FVec Ideal S128x2048 .f32) 0x00000000#32 reduces_S128x2048_S2048 (.inl rfl) rfl)
        shapeCasts_S2048_S1x2048 = (a2 fun _ c => ∑ p, f p c : FVec Ideal S1x2048 .f32) := by
  rw [sublane_sum f, shapeCast_row]
/-- The reciprocal root of a mean square with the small constant added. -/
theorem rms_col (f : Fin 128 → Fin 2048 → ℝ) :
    rsqrt (addf (a2 fun p _ => mean (fun c => f p c * f p c) : FVec Ideal S128x1 .f32)
        (broadcast S128x1 (Scalar.ofBits (F := Ideal) .f32 0x358637BD#32))) = (a2 fun p _ => rms (f p) : FVec Ideal S128x1 .f32) := by
  rw [broadcast_lit _ _ c_eps, addf_a2, rsqrt_a2 _ (fun p _ => var_pos (f p))]; rfl

variable (dy pu pv : Fin 128 → Fin 2048 → ℝ)

theorem pay1 : k0_pay1 (F := Ideal) (a2 (φ := .bf16) pu) = a2 pu := rfl
theorem pay2 : k0_pay2 (F := Ideal) (a2 (φ := .bf16) pv) = a2 pv := rfl
theorem pay33 : k0_pay33 (F := Ideal) (a2 (φ := .bf16) dy) = a2 dy := rfl

theorem pay3 : k0_pay3 (F := Ideal) (a2 (φ := .bf16) pu) = a2 fun p c => gel (pu p c) := by
  unfold k0_pay3; dsimp only
  rw [pay1, spread_a, mulf_a2, erf_a2, broadcast_lit _ _ c_one, addf_a2, mulf_a2, broadcast_lit _ _ c_half, mulf_a2]; rfl

theorem pay4 : k0_pay4 (F := Ideal) (a2 (φ := .bf16) pv) = a2 fun p c => zc (fun c => gel (pv p c)) c := by
  unfold k0_pay4; dsimp only
  rw [pay2, spread_a, mulf_a2, erf_a2, broadcast_lit _ _ c_one, addf_a2, mulf_a2, broadcast_lit _ _ c_half, mulf_a2, mean_col, col_spread, subf_a2]; rfl

theorem pay5 : k0_pay5 (F := Ideal) (a2 (φ := .bf16) pv) = a2 fun p _ => rms (zc fun c => gel (pv p c)) := by
  unfold k0_pay5; dsimp only
  rw [pay4, mulf_a2, mean_col, rms_col fun p c => zc (fun c => gel (pv p c)) c]

theorem pay6 : k0_pay6 (F := Ideal) (a2 (φ := .bf16) pv) = a2 fun p c => nrm (zc fun c => gel (pv p c)) c := by
  unfold k0_pay6; dsimp only
  rw [pay4, pay5, col_spread, mulf_a2]; rfl

theorem pay7 (g : Fin 2048 → ℝ) : k0_pay7 (F := Ideal) (a2 (φ := .bf16) pv) (a2 (φ := .f32) fun _ => g)
    = a2 fun p c => nrm (zc fun c => gel (pv p c)) c * g c := by
  unfold k0_pay7; dsimp only
  rw [pay6, row_spread, mulf_a2]

theorem pay8 (f : Fin 128 → Fin 2048 → ℝ) (b : Fin 2048 → ℝ) : k0_pay8 (F := Ideal) (a2 f) (a2 (φ := .f32) fun _ => b)
    = a2 fun p c => f p c + b c := by
  unfold k0_pay8; dsimp only
  rw [row_spread, addf_a2, truncf_a2]

section Gate
variable (uu ss : Fin 128 → Fin 2048 → ℝ) (og : Fin 2048 → ℝ)

theorem pay30 : k0_pay30 (F := Ideal) (a2 uu) (a2 (φ := .f32) ss) = a2 fun p c => uu p c * ss p c := by
  unfold k0_pay30; dsimp only; rw [mulf_a2]
theorem pay31 : k0_pay31 (F := Ideal) (a2 uu) (a2 (φ := .f32) ss) = a2 fun p _ => rms fun c => uu p c * ss p c := by
  unfold k0_pay31; dsimp only
  rw [pay30, mulf_a2, mean_col, rms_col fun p c => uu p c * ss p c]
theorem pay32 : k0_pay32 (F := Ideal) (a2 uu) (a2 (φ := .f32) ss) = a2 fun p c => nrm (fun c => uu p c * ss p c) c := by
  unfold k0_pay32; dsimp only
  rw [pay30, pay31, col_spread, mulf_a2]; rfl
theorem pay34 : k0_pay34 (F := Ideal) (a2 uu) (a2 (φ := .f32) ss) (a2 (φ := .bf16) dy) (a2 (φ := .f32) fun _ => og)
    = a2 fun p c => rmsB (fun c => uu p c * ss p c) (fun c => dy p c * og c) c := by
  unfold k0_pay34; dsimp only
  rw [pay33, pay32, pay31, row_spread, mulf_a2, mulf_a2, mean_col]
  simp only [col_spread, mulf_a2, subf_a2]; rfl
theorem pay35 : k0_pay35 (F := Ideal) (a2 uu) (a2 (φ := .f32) ss) (a2 (φ := .bf16) dy) (a2 (φ := .f32) fun _ => og)
    = a2 fun p c => rmsB (fun c => uu p c * ss p c) (fun c => dy p c * og c) c * ss p c := by
  unfold k0_pay35; dsimp only; rw [pay34, mulf_a2]
theorem pay36 : k0_pay36 (F := Ideal) (a2 uu) (a2 (φ := .f32) ss) (a2 (φ := .bf16) dy) (a2 (φ := .f32) fun _ => og)
    = a2 fun p c => rmsB (fun c => uu p c * ss p c) (fun c => dy p c * og c) c * uu p c := by
  unfold k0_pay36; dsimp only; rw [pay34, mulf_a2]
theorem pay37 : k0_pay37 (F := Ideal) (a2 uu) (a2 (φ := .f32) ss) (a2 (φ := .bf16) dy) (a2 (φ := .f32) fun _ => og)
    = a2 fun p c => rmsB (fun c => uu p c * ss p c) (fun c => dy p c * og c) c * uu p c := by
  unfold k0_pay37; dsimp only; rw [pay36, truncf_a2]
theorem pay44 : k0_pay44 (F := Ideal) (a2 uu) (a2 (φ := .f32) ss) (a2 (φ := .bf16) dy)
    = a2 fun p c => dy p c * nrm (fun c => uu p c * ss p c) c := by
  unfold k0_pay44; dsimp only; rw [pay33, pay32, mulf_a2]
end Gate

theorem pay38 : k0_pay38 (F := Ideal) = a2 fun _ _ => 0 := by unfold k0_pay38; dsimp only; rw [broadcast_lit _ _ c_zero]
theorem pay39 : k0_pay39 (F := Ideal) = a2 fun _ _ => 0 := by unfold k0_pay39; dsimp only; rw [broadcast_lit _ _ c_zero]
theorem pay40 : k0_pay40 (F := Ideal) = a2 fun _ _ => 0 := by unfold k0_pay40; dsimp only; rw [broadcast_lit _ _ c_zero]
theorem pay41 : k0_pay41 (F := Ideal) = a3 fun _ _ _ => 0 := funext fun _ => c_zero
theorem pay42 : k0_pay42 (F := Ideal) = a2 fun _ _ => 0 := by unfold k0_pay42; dsimp only; rw [broadcast_lit _ _ c_zero]

section Sums
variable (f g : Fin 128 → Fin 2048 → ℝ) (o : Fin 2048 → ℝ)

theorem pay43 : k0_pay43 (F := Ideal) (a2 (φ := .f32) fun _ => o) = a2 fun _ => o := by
  unfold k0_pay43; dsimp only; rw [shapeCast_self]
theorem pay45 : k0_pay45 (F := Ideal) (a2 (φ := .f32) fun _ => o) (a2 f) = a2 fun _ c => o c + ∑ p, f p c := by
  unfold k0_pay45; dsimp only; rw [sum_row, addf_a2]
theorem pay46 : k0_pay46 (F := Ideal) (a2 f) (a2 (φ := .f32) g) = a2 fun p c => g p c + f p c := by
  unfold k0_pay46; dsimp only; rw [shapeCast_self, addf_a2]
theorem pay103 : k0_pay103 (F := Ideal) (a2 f) (a2 (φ := .f32) g) (a2 (φ := .f32) fun _ => o) = a2 fun _ c => o c + ∑ p, g p c * f p c := by
  unfold k0_pay103; dsimp only; rw [shapeCast_self, mulf_a2, sum_row, addf_a2]
theorem pay104 : k0_pay104 (F := Ideal) (a2 (φ := .f32) f) (a2 (φ := .f32) fun _ => o) = a2 fun _ c => o c + ∑ p, f p c := by
  unfold k0_pay104; dsimp only; rw [shapeCast_self, sum_row, addf_a2]
theorem pay105 : k0_pay105 (F := Ideal) (a2 (φ := .f32) f) (a2 (φ := .f32) fun _ => o) = a2 fun p c => f p c * o c := by
  unfold k0_pay105; dsimp only; rw [row_spread, mulf_a2]
theorem pay106 : k0_pay106 (F := Ideal) (a2 (φ := .f32) f) (a2 (φ := .f32) fun _ => o)
    = a2 fun p c => f p c * o c - mean fun c => f p c * o c := by
  unfold k0_pay106; dsimp only; rw [pay105, mean_col, col_spread, subf_a2]
theorem pay107 : k0_pay107 (F := Ideal) (a2 g) (a2 (φ := .f32) f) (a2 (φ := .f32) fun _ => o)
    = a1 fun p => ∑ c, f p c * o c * g p c := by
  unfold k0_pay107; dsimp only; rw [pay105, mulf_a2]; exact sum_lanes _ _ _ _ _
theorem pay108 : k0_pay108 (F := Ideal) (a2 f) (a2 g) = a2 fun p c => g p c * gelD (f p c) := by
  unfold k0_pay108; dsimp only
  rw [spread_a, spread_b, mulf_a2, erf_a2, broadcast_lit _ _ c_one, addf_a2, broadcast_lit _ _ c_half, mulf_a2,
    broadcast_lit _ _ c_neg_half, mulf_a2, mulf_a2, exp_a2, mulf_a2, mulf_a2, addf_a2, mulf_a2, truncf_a2]; rfl
theorem pay109 (r : Fin 128 → ℝ) (x d : Fin 128 → Fin 2048 → ℝ) (s : Fin 128 → ℝ) :
    k0_pay109 (F := Ideal) (a2 f) (a2 fun p _ => r p) (a2 x) (a2 d) (a1 s)
      = a2 fun p c => r p * (d p c - x p c * (s p / 2048)) * gelD (f p c) := by
  unfold k0_pay109; dsimp only
  rw [shapeCast_col, broadcast_lit _ _ c_2048, divf_a2 _ _ (by norm_num)]
  simp only [col_spread, mulf_a2, subf_a2]
  rw [spread_a, spread_b, mulf_a2, erf_a2, broadcast_lit _ _ c_one, addf_a2, broadcast_lit _ _ c_half, mulf_a2,
    broadcast_lit _ _ c_neg_half, mulf_a2, mulf_a2, exp_a2, mulf_a2, mulf_a2, addf_a2, mulf_a2, truncf_a2]; rfl
end Sums

end Cert.KernelIdeal.KerVal
-- ==== Proof.KerOps.lean ====
/- The kernel body's loads and products of one head over real inputs: a load of one plane or one block of columns, a product of two
   128×128 matrices, the sixteen blocks of columns that tile a scratch buffer and the sixteen planes that tile a stack. -/
module

public import proofs.«01_k».proof.Proof.KerPay
public import Idealize.ShloMosaic.Lib.Pipeline.FrameBody

public section
open Idealize.ShloMosaic Idealize.ShloMosaic.Ideal Idealize.ShloMosaic.ValueIdx
set_option maxRecDepth 16384
noncomputable section

namespace Cert.KernelIdeal.KerVal
open Cert.KernelIdeal Cert.KernelIdeal.Gen Cert.Arr Cert.Spec

theorem zeros2 : (![0, 0] : Fin 2 → Nat) = fun _ => 0 := by decide
theorem zeros3 : (![0, 0, 0] : Fin 3 → Nat) = fun _ => 0 := by decide

/-- The load of a whole buffer reads its contents. -/
theorem load_all {S : Shape} {e : EltTy} (arg : Memref sig .tc .vmem S e) (h : arg.IsWhole) (x : S.Idx → Elt Ideal e)
    {off : Fin S.rank → Nat} (hz : off = fun _ => 0) (inb : ∀ a, off a + S.size a ≤ S.size a) :
    View.readAt (Elt Ideal) arg.view (Rect.unit off S.size inb).toLoadRect (h.unread x) = x := by
  rw [View.readAt_eq_ld, h.read_unread]; exact View.ld_unit_zero hz inb x

/-- The load of one plane of a stack of sixteen. -/
theorem load_plane {e : EltTy} (arg : Memref sig .tc .vmem S16x128x128 e) (h : arg.IsWhole) (x : S16x128x128.Idx → Elt Ideal e)
    (k : Fin 16) {off : Fin S16x128x128.rank → Nat} (ho : off = ![k.val, 0, 0]) (inb : ∀ a, off a + S1x128x128.size a ≤ S16x128x128.size a) :
    View.readAt (Elt Ideal) arg.view (Rect.unit off S1x128x128.size inb).toLoadRect (h.unread x)
      = fun j : S1x128x128.Idx => x (ix3 k (j 1) (j 2)) := by
  subst ho
  rw [View.readAt_eq_ld, h.read_unread]
  funext j
  refine congrArg x (funext fun a => match a with
    | ⟨0, _⟩ => Fin.ext ?_ | ⟨1, _⟩ => Fin.ext ?_ | ⟨2, _⟩ => Fin.ext ?_)
  · have h0 : (j 0).val < 1 := (j 0).isLt
    show k.val + 1 * (j 0).val = k.val; omega
  · show 0 + 1 * (j 1).val = (j 1).val; omega
  · show 0 + 1 * (j 2).val = (j 2).val; omega

/-- The load of one head's block of columns. -/
theorem load_head {e : EltTy} (arg : Memref sig .tc .vmem S128x2048 e) (h : arg.IsWhole) (x : S128x2048.Idx → Elt Ideal e)
    (k : Fin 16) {off : Fin S128x2048.rank → Nat} (ho : off = ![0, k.val * 128]) (inb : ∀ a, off a + S128x128.size a ≤ S128x2048.size a) :
    View.readAt (Elt Ideal) arg.view (Rect.unit off S128x128.size inb).toLoadRect (h.unread x)
      = fun j : S128x128.Idx => x (ix2 (j 0) (col k (j 1))) := by
  subst ho
  rw [View.readAt_eq_ld, h.read_unread]
  funext j
  refine congrArg x (funext fun a => match a with
    | ⟨0, _⟩ => Fin.ext ?_ | ⟨1, _⟩ => Fin.ext ?_)
  · show 0 + 1 * (j 0).val = (j 0).val; omega
  · show k.val * 128 + 1 * (j 1).val = k.val * 128 + (j 1).val; omega

/-- One head's block of columns of a matrix. -/
theorem slice_head {φ : FTy} (f : Fin 128 → Fin 2048 → ℝ) (k : Fin 16) {off : Fin S128x2048.rank → Nat} (ho : off = ![0, k.val * 128])
    (h : S128x2048.Slices off S128x128) :
    extractStridedSlice S128x128 off (a2 f : FVec Ideal S128x2048 φ) h = (a2 fun p d => f p (col k d) : FVec Ideal S128x128 φ) := by
  subst ho
  funext j
  refine (extractStridedSlice_apply _ _ h j (ix2 (j 0) (col k (j 1))) fun a => match a with
    | ⟨0, _⟩ => ?_ | ⟨1, _⟩ => ?_).trans rfl
  · show (j 0).val = 0 + (j 0).val; omega
  · show k.val * 128 + (j 1).val = k.val * 128 + (j 1).val; rfl

/-! The kept coordinates of the products' operands. -/
theorem dot1_0_0_1_lhs (j : S128x128.Idx) (i : dot_S128x128_S128x128_S128x128_1_0_0_1_n_n.contr.Idx) :
    (dot_S128x128_S128x128_S128x128_1_0_0_1_n_n.lhsIdx j i 0).val = (j 0).val := by
  unfold DotDims.lhsIdx
  rw [dif_neg (show (0 : Fin 2) ∉ dot_S128x128_S128x128_S128x128_1_0_0_1_n_n.lhsBatch by decide),
    dif_pos (show (0 : Fin 2) ∈ dot_S128x128_S128x128_S128x128_1_0_0_1_n_n.lhsNonContracting by decide)]; rfl
theorem dot1_0_0_1_rhs (j : S128x128.Idx) (i : dot_S128x128_S128x128_S128x128_1_0_0_1_n_n.contr.Idx) :
    (dot_S128x128_S128x128_S128x128_1_0_0_1_n_n.rhsIdx j i 1).val = (j 1).val := by
  unfold DotDims.rhsIdx
  rw [dif_neg (show (1 : Fin 2) ∉ dot_S128x128_S128x128_S128x128_1_0_0_1_n_n.rhsBatch by decide),
    dif_pos (show (1 : Fin 2) ∈ dot_S128x128_S128x128_S128x128_1_0_0_1_n_n.rhsNonContracting by decide)]; rfl
theorem dot1_1_0_0_lhs (j : S128x128.Idx) (i : dot_S128x128_S128x128_S128x128_1_1_0_0_n_n.contr.Idx) :
    (dot_S128x128_S128x128_S128x128_1_1_0_0_n_n.lhsIdx j i 0).val = (j 0).val := by
  unfold DotDims.lhsIdx
  rw [dif_neg (show (0 : Fin 2) ∉ dot_S128x128_S128x128_S128x128_1_1_0_0_n_n.lhsBatch by decide),
    dif_pos (show (0 : Fin 2) ∈ dot_S128x128_S128x128_S128x128_1_1_0_0_n_n.lhsNonContracting by decide)]; rfl
theorem dot1_1_0_0_rhs (j : S128x128.Idx) (i : dot_S128x128_S128x128_S128x128_1_1_0_0_n_n.contr.Idx) :
    (dot_S128x128_S128x128_S128x128_1_1_0_0_n_n.rhsIdx j i 0).val = (j 1).val := by
  unfold DotDims.rhsIdx
  rw [dif_neg (show (0 : Fin 2) ∉ dot_S128x128_S128x128_S128x128_1_1_0_0_n_n.rhsBatch by decide),
    dif_pos (show (0 : Fin 2) ∈ dot_S128x128_S128x128_S128x128_1_1_0_0_n_n.rhsNonContracting by decide)]; rfl
/-- The product of two matrices. -/
theorem product {φ : FTy} (f g : Fin 128 → Fin 128 → ℝ) (prec : Option ContractPrecision) :
    matmul dot_S128x128_S128x128_S128x128_1_0_0_1_n_n prec (a2 f : FVec Ideal S128x128 φ) (a2 g : FVec Ideal S128x128 φ)
      (constant S128x128 .f32 0x00000000#32) = (a2 fun p d => ∑ q, f p q * g q d : FVec Ideal S128x128 .f32) := by
  funext j
  simp only [Idealize.ShloMosaic.matmul]
  rw [Ideal.matmul_constant_zero_apply, ← Equiv.sum_comp (ValueIdx.contrEquiv1 dot_S128x128_S128x128_S128x128_1_0_0_1_n_n 128 rfl rfl).symm]
  refine Eq.trans (Finset.sum_congr rfl fun q _ => ?_) (coe_sum Finset.univ fun q => f (j 0) q * g q (j 1))
  have h : (dot_S128x128_S128x128_S128x128_1_0_0_1_n_n.lhsIdx j ((ValueIdx.contrEquiv1 dot_S128x128_S128x128_S128x128_1_0_0_1_n_n 128 rfl rfl).symm q)) = ix2 (j 0) q :=
    funext fun a => match a with
    | ⟨0, _⟩ => Fin.ext (dot1_0_0_1_lhs j _)
    | ⟨1, _⟩ => Fin.ext ((DotDims.lhsIdx_val_of_single _ rfl j _).trans (ValueIdx.contrEquiv1_symm_val _ _ _ _ q))
  have h' : (dot_S128x128_S128x128_S128x128_1_0_0_1_n_n.rhsIdx j ((ValueIdx.contrEquiv1 dot_S128x128_S128x128_S128x128_1_0_0_1_n_n 128 rfl rfl).symm q)) = ix2 q (j 1) :=
    funext fun a => match a with
    | ⟨0, _⟩ => Fin.ext ((DotDims.rhsIdx_val_of_single _ rfl j _).trans (ValueIdx.contrEquiv1_symm_val _ _ _ _ q))
    | ⟨1, _⟩ => Fin.ext (dot1_0_0_1_rhs j _)
  rw [h, h']
  exact (EReal.coe_mul _ _).symm

/-- The product of a matrix and a transposed one. -/
theorem productT {φ : FTy} (f g : Fin 128 → Fin 128 → ℝ) (prec : Option ContractPrecision) :
    matmul dot_S128x128_S128x128_S128x128_1_1_0_0_n_n prec (a2 f : FVec Ideal S128x128 φ) (a2 g : FVec Ideal S128x128 φ)
      (constant S128x128 .f32 0x00000000#32) = (a2 fun p q => ∑ d, f p d * g q d : FVec Ideal S128x128 .f32) := by
  funext j
  simp only [Idealize.ShloMosaic.matmul]
  rw [Ideal.matmul_constant_zero_apply, ← Equiv.sum_comp (ValueIdx.contrEquiv1 dot_S128x128_S128x128_S128x128_1_1_0_0_n_n 128 rfl rfl).symm]
  refine Eq.trans (Finset.sum_congr rfl fun q _ => ?_) (coe_sum Finset.univ fun d => f (j 0) d * g (j 1) d)
  have h : (dot_S128x128_S128x128_S128x128_1_1_0_0_n_n.lhsIdx j ((ValueIdx.contrEquiv1 dot_S128x128_S128x128_S128x128_1_1_0_0_n_n 128 rfl rfl).symm q)) = ix2 (j 0) q :=
    funext fun a => match a with
    | ⟨0, _⟩ => Fin.ext (dot1_1_0_0_lhs j _)
    | ⟨1, _⟩ => Fin.ext ((DotDims.lhsIdx_val_of_single _ rfl j _).trans (ValueIdx.contrEquiv1_symm_val _ _ _ _ q))
  have h' : (dot_S128x128_S128x128_S128x128_1_1_0_0_n_n.rhsIdx j ((ValueIdx.contrEquiv1 dot_S128x128_S128x128_S128x128_1_1_0_0_n_n 128 rfl rfl).symm q)) = ix2 (j 1) q :=
    funext fun a => match a with
    | ⟨0, _⟩ => Fin.ext (dot1_1_0_0_rhs j _)
    | ⟨1, _⟩ => Fin.ext ((DotDims.rhsIdx_val_of_single _ rfl j _).trans (ValueIdx.contrEquiv1_symm_val _ _ _ _ q))
  rw [h, h']
  exact (EReal.coe_mul _ _).symm

/-! ### One head -/

section Head
variable (vn dv : Fin 128 → Fin 2048 → ℝ) (w b t : Fin 128 → Fin 128 → ℝ) (k : Fin 16)

/-- A head's mixed block: its matrix times its block of columns, and the bias. -/
theorem mix {off : Fin S128x2048.rank → Nat} (ho : off = ![0, k.val * 128]) (hs : S128x2048.Slices off S128x128) :
    shapeCast S128x128 (addf (matmul dot_S128x128_S128x128_S128x128_1_0_0_1_n_n none
        (shapeCast S128x128 (a3 fun _ => w : FVec Ideal S1x128x128 .bf16) shapeCasts_S1x128x128_S128x128)
        (extractStridedSlice S128x128 off (a2 vn : FVec Ideal S128x2048 .bf16) hs) (constant S128x128 .f32 0x00000000#32))
        (shapeCast S128x128 (a2 b : FVec Ideal S128x128 .f32) shapeCasts_S128x128_S128x128)) shapeCasts_S128x128_S128x128
      = (a2 fun p d => (∑ q, w p q * vn q (col k d)) + b p d : FVec Ideal S128x128 .f32) := by
  rw [shapeCast_self, shapeCast_self, shapeCast_plane, slice_head vn k ho, product, addf_a2]

/-- A head's block mixed back. -/
theorem mixBack {off : Fin S128x2048.rank → Nat} (ho : off = ![0, k.val * 128]) (hs : S128x2048.Slices off S128x128) :
    shapeCast S128x128 (matmul dot_S128x128_S128x128_S128x128_1_0_0_1_n_n none
        (shapeCast S128x128 (a3 fun _ => w : FVec Ideal S1x128x128 .bf16) shapeCasts_S1x128x128_S128x128)
        (extractStridedSlice S128x128 off (a2 dv : FVec Ideal S128x2048 .bf16) hs) (constant S128x128 .f32 0x00000000#32))
        shapeCasts_S128x128_S128x128
      = (a2 fun p d => ∑ q, w p q * dv q (col k d) : FVec Ideal S128x128 .f32) := by
  rw [shapeCast_self, shapeCast_plane, slice_head dv k ho, product]

/-- A head's term of the matrices' gradient, added to what is there. -/
theorem mixGrad {off : Fin S128x2048.rank → Nat} (ho : off = ![0, k.val * 128]) (hs : S128x2048.Slices off S128x128) :
    shapeCast S1x128x128 (addf (shapeCast S128x128 (a3 fun _ => t : FVec Ideal S1x128x128 .f32) shapeCasts_S1x128x128_S128x128)
        (matmul dot_S128x128_S128x128_S128x128_1_1_0_0_n_n none
          (extractStridedSlice S128x128 off (a2 dv : FVec Ideal S128x2048 .bf16) hs)
          (extractStridedSlice S128x128 off (a2 vn : FVec Ideal S128x2048 .bf16) hs) (constant S128x128 .f32 0x00000000#32)))
        shapeCasts_S128x128_S1x128x128
      = (a3 fun _ p q => t p q + ∑ d, dv p (col k d) * vn q (col k d) : FVec Ideal S1x128x128 .f32) := by
  rw [shapeCast_plane, slice_head dv k ho, slice_head vn k ho, productT, addf_a2, shapeCast_unplane]
end Head

/-! ### Blocks of columns, planes -/

/-- A head's block of a matrix is the matrix under the block's rectangle. -/
theorem under_head (f : Fin 128 → Fin 2048 → ℝ) (k : Fin 16) {off : Fin S128x2048.rank → Nat} (ho : off = ![0, k.val * 128])
    (inb : ∀ a, off a + S128x128.size a ≤ S128x2048.size a) (w : S128x128.Idx → EReal)
    (hw : w = (a2 fun p d => f p (col k d) : FVec Ideal S128x128 .f32)) (x : S128x128.Idx) :
    w x = (a2 f : FVec Ideal S128x2048 .f32) ((Rect.unit off S128x128.size inb).emb x) := by
  subst ho hw
  refine congrArg (a2 f : FVec Ideal S128x2048 .f32) (a₁ := ix2 (x 0) (col k (x 1))) (funext fun a => match a with
    | ⟨0, _⟩ => Fin.ext ?_ | ⟨1, _⟩ => Fin.ext ?_)
  · show (x 0).val = 0 + 1 * (x 0).val; omega
  · show k.val * 128 + (x 1).val = k.val * 128 + 1 * (x 1).val; omega

/-- A plane of a stack under the plane's rectangle. -/
theorem plane_idx (k h : Fin 16) (p q : Fin 128) {off : Fin S16x128x128.rank → Nat} (ho : off = ![k.val, 0, 0])
    (inb : ∀ a, off a + S1x128x128.size a ≤ S16x128x128.size a) (hk : h ≠ k) :
    (ix3 h p q : S16x128x128.Idx) ∉ (Rect.unit off S1x128x128.size inb).set := by
  subst ho
  rw [Rect.mem_set_unit]
  intro hm
  have h0 := hm 0
  have e1 : k.val ≤ h.val := h0.1
  have e2 : h.val < k.val + 1 := h0.2
  exact hk (Fin.ext (by omega))

abbrev Stack := List (View.Piece (Elt Ideal) S16x128x128 .f32)

/-- The planes below the `k`-th hold `G`, those from it on hold `Z`. -/
@[expose] def Upto (L : Stack) (G Z : Fin 16 → Fin 128 → Fin 128 → ℝ) (k : Nat) : Prop :=
  ∀ (h : Fin 16) (p q : Fin 128), View.canon L (ix3 h p q) = (((if h.val < k then G h p q else Z h p q) : ℝ) : EReal)

/-- One more plane stored. -/
theorem Upto.store {L : Stack} {G Z : Fin 16 → Fin 128 → Fin 128 → ℝ} (k : Fin 16) (H : Upto L G Z k.val)
    {off : Fin S16x128x128.rank → Nat} (ho : off = ![k.val, 0, 0]) (inb : ∀ a, off a + S1x128x128.size a ≤ S16x128x128.size a)
    (w : S1x128x128.Idx → EReal) (hw : w = (a3 fun _ => G k : FVec Ideal S1x128x128 .f32)) :
    Upto ((⟨Rect.unit off S1x128x128.size inb, w⟩ : View.Piece (Elt Ideal) S16x128x128 .f32) :: L) G Z (k.val + 1) := by
  intro h p q
  by_cases e : h = k
  · subst e ho hw
    have e1 : (ix3 h p q : S16x128x128.Idx) = (Rect.unit (s := S16x128x128) ![h.val, 0, 0] S1x128x128.size inb).emb (ix3 (0 : Fin 1) p q : S1x128x128.Idx) :=
      funext fun a => match a with
      | ⟨0, _⟩ => Fin.ext (by show h.val = h.val + 1 * 0; omega)
      | ⟨1, _⟩ => Fin.ext (by show p.val = 0 + 1 * p.val; omega)
      | ⟨2, _⟩ => Fin.ext (by show q.val = 0 + 1 * q.val; omega)
    rw [if_pos (Nat.lt_succ_self _)]
    exact (congrArg _ e1).trans (View.canon_cons_emb _ _ _ _)
  · have hn : (ix3 h p q : S16x128x128.Idx) ∉
        (⟨Rect.unit off S1x128x128.size inb, w⟩ : View.Piece (Elt Ideal) S16x128x128 .f32).1.set := plane_idx k h p q ho inb e
    refine (View.canon_cons_of_not_mem _ L hn).trans ((H h p q).trans ?_)
    have : h.val ≠ k.val := fun h' => e (Fin.ext h')
    by_cases hl : h.val < k.val
    · rw [if_pos hl, if_pos (by omega)]
    · rw [if_neg hl, if_neg (by omega)]

/-- A plane not yet stored reads `Z`. -/
theorem Upto.load {L : Stack} {G Z : Fin 16 → Fin 128 → Fin 128 → ℝ} (k : Fin 16) {n : Nat} (H : Upto L G Z n) (hn : n ≤ k.val)
    (arg : Memref sig .tc .vmem S16x128x128 .f32) {off : Fin S16x128x128.rank → Nat} (ho : off = ![k.val, 0, 0])
    (inb : ∀ a, off a + S1x128x128.size a ≤ S16x128x128.size a) :
    arg.view.readCov L (Rect.unit off S1x128x128.size inb).toLoadRect = (a3 fun _ => Z k : FVec Ideal S1x128x128 .f32) := by
  subst ho
  rw [View.readCov_eq_canon']
  funext j
  refine Eq.trans (congrArg (View.canon L) (a₂ := ix3 k (j 1) (j 2)) ?_) ((H k (j 1) (j 2)).trans ?_)
  · refine funext fun a => match a with
      | ⟨0, _⟩ => Fin.ext ?_ | ⟨1, _⟩ => Fin.ext ?_ | ⟨2, _⟩ => Fin.ext ?_
    · have h0 : (j 0).val < 1 := (j 0).isLt
      show k.val + 1 * (j 0).val = k.val; omega
    · show 0 + 1 * (j 1).val = (j 1).val; omega
    · show 0 + 1 * (j 2).val = (j 2).val; omega
  · rw [if_neg (by omega)]; rfl

/-- All planes stored. -/
theorem Upto.all {L : Stack} {G Z : Fin 16 → Fin 128 → Fin 128 → ℝ} (H : Upto L G Z 16) :
    View.canon L = (a3 G : FVec Ideal S16x128x128 .f32) := by
  funext i
  refine Eq.trans (congrArg (View.canon L) (a₂ := ix3 (i 0) (i 1) (i 2)) ?_) ((H (i 0) (i 1) (i 2)).trans ?_)
  · exact funext fun a => match a with | ⟨0, _⟩ => rfl | ⟨1, _⟩ => rfl | ⟨2, _⟩ => rfl
  · exact congrArg _ (if_pos (show (i 0).val < 16 from (i 0).isLt))

end Cert.KernelIdeal.KerVal
-- ==== Proof.KerHeads.lean ====
/- The forms in which the body's text cuts a head's product, each shown equal to the head's block; the reading of a scratch buffer
   filled block by block; the two halves of the first result side by side. -/
module

public import proofs.«01_k».proof.Proof.KerOps

public section
open Idealize.ShloMosaic Idealize.ShloMosaic.Ideal Idealize.ShloMosaic.ValueIdx
set_option maxRecDepth 16384
noncomputable section

namespace Cert.KernelIdeal.KerVal
open Cert.KernelIdeal Cert.KernelIdeal.Gen Cert.Arr Cert.Spec

section Forms
variable (vn f : Fin 128 → Fin 2048 → ℝ) (g : Fin 2048 → ℝ) (w b t : Fin 128 → Fin 128 → ℝ) (k : Fin 16)

/-- The product alone. -/
theorem mixFirst {off : Fin S128x2048.rank → Nat} (ho : off = ![0, k.val * 128]) (hs : S128x2048.Slices off S128x128) :
    matmul dot_S128x128_S128x128_S128x128_1_0_0_1_n_n none
        (shapeCast S128x128 (a3 fun _ => w : FVec Ideal S1x128x128 .bf16) shapeCasts_S1x128x128_S128x128)
        (extractStridedSlice S128x128 off (a2 vn : FVec Ideal S128x2048 .bf16) hs) (constant S128x128 .f32 0x00000000#32)
      = (a2 fun p d => ∑ q, w p q * vn q (col k d) : FVec Ideal S128x128 .f32) := by
  rw [shapeCast_plane, slice_head vn k ho, product]

/-- The head's block where the layer norm's shift is added on the way. -/
theorem mixLate {off : Fin S128x2048.rank → Nat} (ho : off = ![0, k.val * 128]) (hs : S128x2048.Slices off S128x128) :
    shapeCast S128x128 (addf (matmul dot_S128x128_S128x128_S128x128_1_0_0_1_n_n none
        (shapeCast S128x128 (a3 fun _ => w : FVec Ideal S1x128x128 .bf16) shapeCasts_S1x128x128_S128x128)
        (extractStridedSlice S128x128 off (k0_pay8 (F := Ideal) (a2 f) (a2 (φ := .f32) fun _ => g)) hs) (constant S128x128 .f32 0x00000000#32))
        (shapeCast S128x128 (a2 b : FVec Ideal S128x128 .f32) shapeCasts_S128x128_S128x128)) shapeCasts_S128x128_S128x128
      = (a2 fun p d => (∑ q, w p q * (f q (col k d) + g (col k d))) + b p d : FVec Ideal S128x128 .f32) := by
  rw [pay8]; exact mix _ _ _ k ho hs

/-- The product of a block taken before, and the bias. -/
theorem mixSplit : shapeCast S128x128 (addf (matmul dot_S128x128_S128x128_S128x128_1_0_0_1_n_n none
        (a2 w : FVec Ideal S128x128 .bf16) (a2 t : FVec Ideal S128x128 .bf16) (constant S128x128 .f32 0x00000000#32))
        (shapeCast S128x128 (a2 b : FVec Ideal S128x128 .f32) shapeCasts_S128x128_S128x128)) shapeCasts_S128x128_S128x128
      = (a2 fun p d => (∑ q, w p q * t q d) + b p d : FVec Ideal S128x128 .f32) := by
  rw [shapeCast_self, shapeCast_self, product, addf_a2]

/-- The bias added to a product made before. -/
theorem addBias : shapeCast S128x128 (addf (a2 t : FVec Ideal S128x128 .f32)
        (shapeCast S128x128 (a2 b : FVec Ideal S128x128 .f32) shapeCasts_S128x128_S128x128)) shapeCasts_S128x128_S128x128
      = (a2 fun p d => t p d + b p d : FVec Ideal S128x128 .f32) := by
  rw [shapeCast_self, shapeCast_self, addf_a2]
theorem addOnly : shapeCast S128x128 (addf (a2 t : FVec Ideal S128x128 .f32) (a2 b : FVec Ideal S128x128 .f32)) shapeCasts_S128x128_S128x128
      = (a2 fun p d => t p d + b p d : FVec Ideal S128x128 .f32) := by
  rw [shapeCast_self, addf_a2]
end Forms

section Spec
variable (P : Par) (X : Chunk)

theorem hd_of_col (h : Fin 16) (d : Fin 128) : hd (col h d) = h := Fin.ext (by
  show (h.val * 128 + d.val) / 128 = h.val
  omega)

theorem vs_head (h : Fin 16) : (a2 fun p d => (∑ q, P.W h p q * vn P X q (col h d)) + P.B p (col h d) : FVec Ideal S128x128 .f32)
    = a2 fun p d => vs P X p (col h d) := by
  refine congrArg a2 (funext fun p => funext fun d => ?_)
  unfold vs; rw [hd_of_col]
theorem dvn_head (h : Fin 16) : (a2 fun q d => ∑ p, P.W h p q * dvs P X p (col h d) : FVec Ideal S128x128 .f32)
    = a2 fun q d => dvn P X q (col h d) := by
  refine congrArg a2 (funext fun p => funext fun d => ?_)
  unfold dvn; rw [hd_of_col]
theorem tw_new (h : Fin 16) : (a3 fun _ p q => 0 + ∑ d, dvs P X p (col h d) * vn P X q (col h d) : FVec Ideal S1x128x128 .f32)
    = a3 fun _ => tw P X h := by
  refine congrArg a3 (funext fun _ => funext fun p => funext fun q => ?_)
  rw [zero_add]; rfl
end Spec

/-- A load of one plane of a stack of real matrices, -/
theorem plane_of (arg : Memref sig .tc .vmem S16x128x128 .bf16) (h : arg.IsWhole) (G : Fin 16 → Fin 128 → Fin 128 → ℝ)
    (k : Fin 16) {off : Fin S16x128x128.rank → Nat} (ho : off = ![k.val, 0, 0]) (inb : ∀ a, off a + S1x128x128.size a ≤ S16x128x128.size a) :
    View.readAt (Elt Ideal) arg.view (Rect.unit off S1x128x128.size inb).toLoadRect (h.unread (a3 (φ := .bf16) G))
      = (a3 (φ := .bf16) fun _ => G k : FVec Ideal S1x128x128 .bf16) := load_plane arg h _ k ho inb

/-- of one plane of the accumulated stack, -/
theorem sum_of (arg : Memref sig .tc .vmem S16x128x128 .f32) (h : arg.IsWhole) (G : Fin 16 → Fin 128 → Fin 128 → ℝ)
    (k : Fin 16) {off : Fin S16x128x128.rank → Nat} (ho : off = ![k.val, 0, 0]) (inb : ∀ a, off a + S1x128x128.size a ≤ S16x128x128.size a) :
    View.readAt (Elt Ideal) arg.view (Rect.unit off S1x128x128.size inb).toLoadRect (h.unread (a3 (φ := .f32) G))
      = (a3 (φ := .f32) fun _ => G k : FVec Ideal S1x128x128 .f32) := load_plane arg h _ k ho inb

/-- and of one head's columns of a real matrix. -/
theorem head_of (arg : Memref sig .tc .vmem S128x2048 .f32) (h : arg.IsWhole) (f : Fin 128 → Fin 2048 → ℝ)
    (k : Fin 16) {off : Fin S128x2048.rank → Nat} (ho : off = ![0, k.val * 128]) (inb : ∀ a, off a + S128x128.size a ≤ S128x2048.size a) :
    View.readAt (Elt Ideal) arg.view (Rect.unit off S128x128.size inb).toLoadRect (h.unread (a2 (φ := .f32) f))
      = (a2 (φ := .f32) fun p d => f p (col k d) : FVec Ideal S128x128 .f32) := load_head arg h _ k ho inb

/-- Every stored block is a block of the matrix `f`. -/
@[expose] def Blocks (L : List (View.Piece (Elt Ideal) S128x2048 .f32)) (f : Fin 128 → Fin 2048 → ℝ) : Prop :=
  ∀ p ∈ L, ∀ x : p.1.shape.Idx, p.2 x = (a2 f : FVec Ideal S128x2048 .f32) (p.1.emb x)

theorem Blocks.none (f : Fin 128 → Fin 2048 → ℝ) : Blocks [] f := fun _ h => absurd h List.not_mem_nil

theorem Blocks.store {L : List (View.Piece (Elt Ideal) S128x2048 .f32)} {f : Fin 128 → Fin 2048 → ℝ} (k : Fin 16) (H : Blocks L f)
    {off : Fin S128x2048.rank → Nat} (ho : off = ![0, k.val * 128]) (inb : ∀ a, off a + S128x128.size a ≤ S128x2048.size a)
    (w : S128x128.Idx → EReal) (hw : w = (a2 fun p d => f p (col k d) : FVec Ideal S128x128 .f32)) :
    Blocks ((⟨Rect.unit off S128x128.size inb, w⟩ : View.Piece (Elt Ideal) S128x2048 .f32) :: L) f :=
  List.forall_mem_cons.mpr ⟨fun x => under_head f k ho inb w hw x, H⟩

/-- A scratch buffer whose stored blocks are all blocks of one matrix reads as that matrix. -/
theorem read_heads (v : View sig .tc .vmem S128x2048 .f32) (L : List (View.Piece (Elt Ideal) S128x2048 .f32)) (f : Fin 128 → Fin 2048 → ℝ)
    (hL : Blocks L f) (hc : ∀ y, ∃ p ∈ L, y ∈ p.1.set) {off : Fin S128x2048.rank → Nat} (hz : off = fun _ => 0)
    (inb : ∀ a, off a + S128x2048.size a ≤ S128x2048.size a) :
    v.readCov L (Rect.unit off S128x2048.size inb).toLoadRect = (a2 f : FVec Ideal S128x2048 .f32) := by
  subst hz
  rw [View.readCov_eq_canon']
  funext y
  refine (View.canon_apply_of_pieces (a2 (φ := .f32) f : S128x2048.Idx → EReal) L (fun p hp x => hL p hp x) _ (hc _)).trans (congrArg (a2 (φ := .f32) f) (funext fun a => Fin.ext ?_))
  show 0 + 1 * (y a).val = (y a).val
  omega

/-- The planes below the `k`-th hold `G`. -/
@[expose] def Below (L : Stack) (G : Fin 16 → Fin 128 → Fin 128 → ℝ) (k : Nat) : Prop :=
  ∀ (h : Fin 16) (p q : Fin 128), h.val < k → View.canon L (ix3 h p q) = ((G h p q : ℝ) : EReal)

theorem Below.none (G : Fin 16 → Fin 128 → Fin 128 → ℝ) : Below [] G 0 := fun _ _ _ h => absurd h (Nat.not_lt_zero _)

theorem Below.store {L : Stack} {G : Fin 16 → Fin 128 → Fin 128 → ℝ} (k : Fin 16) (H : Below L G k.val)
    {off : Fin S16x128x128.rank → Nat} (ho : off = ![k.val, 0, 0]) (inb : ∀ a, off a + S1x128x128.size a ≤ S16x128x128.size a)
    (w : S1x128x128.Idx → EReal) (hw : w = (a3 fun _ => G k : FVec Ideal S1x128x128 .f32)) :
    Below ((⟨Rect.unit off S1x128x128.size inb, w⟩ : View.Piece (Elt Ideal) S16x128x128 .f32) :: L) G (k.val + 1) := by
  intro h p q hlt
  by_cases e : h = k
  · subst e ho hw
    have e1 : (ix3 h p q : S16x128x128.Idx) = (Rect.unit (s := S16x128x128) ![h.val, 0, 0] S1x128x128.size inb).emb (ix3 (0 : Fin 1) p q : S1x128x128.Idx) :=
      funext fun a => match a with
      | ⟨0, _⟩ => Fin.ext (by show h.val = h.val + 1 * 0; omega)
      | ⟨1, _⟩ => Fin.ext (by show p.val = 0 + 1 * p.val; omega)
      | ⟨2, _⟩ => Fin.ext (by show q.val = 0 + 1 * q.val; omega)
    exact (congrArg _ e1).trans (View.canon_cons_emb _ _ _ _)
  · have hn : (ix3 h p q : S16x128x128.Idx) ∉
        (⟨Rect.unit off S1x128x128.size inb, w⟩ : View.Piece (Elt Ideal) S16x128x128 .f32).1.set := plane_idx k h p q ho inb e
    have : h.val ≠ k.val := fun h' => e (Fin.ext h')
    exact (View.canon_cons_of_not_mem _ L hn).trans (H h p q (by omega))

theorem Below.all {L : Stack} {G : Fin 16 → Fin 128 → Fin 128 → ℝ} (H : Below L G 16) :
    View.canon L = (a3 G : FVec Ideal S16x128x128 .f32) := by
  funext i
  refine Eq.trans (congrArg (View.canon L) (a₂ := ix3 (i 0) (i 1) (i 2)) ?_) ((H (i 0) (i 1) (i 2) (i 0).isLt).trans rfl)
  exact funext fun a => match a with | ⟨0, _⟩ => rfl | ⟨1, _⟩ => rfl | ⟨2, _⟩ => rfl

/-- Two rows of 2048 side by side. -/
@[expose] def sides (f g : Fin 2048 → ℝ) (c : Fin 4096) : ℝ := if h : c.val < 2048 then f ⟨c.val, h⟩ else g ⟨c.val - 2048, by omega⟩

theorem sides_left {f g : Fin 2048 → ℝ} {c : Fin 4096} (h : c.val < 2048) : sides f g c = f ⟨c.val, h⟩ := by
  unfold sides; exact dif_pos h
theorem sides_right {f g : Fin 2048 → ℝ} {c : Fin 4096} (h : ¬ c.val < 2048) : sides f g c = g ⟨c.val - 2048, by omega⟩ := by
  unfold sides; exact dif_neg h

/-- Two blocks stored side by side. -/
theorem canon_sides (f g : Fin 128 → Fin 2048 → ℝ) (wf wg : S128x2048.Idx → EReal)
    (inb : ∀ a, (![0, 2048] : Fin 2 → Nat) a + S128x2048.size a ≤ S128x4096.size a)
    (inb' : ∀ a, (![0, 0] : Fin 2 → Nat) a + S128x2048.size a ≤ S128x4096.size a)
    (hg : wg = (a2 g : FVec Ideal S128x2048 .bf16)) (hf : wf = (a2 f : FVec Ideal S128x2048 .bf16)) :
    View.canon [(⟨Rect.unit (s := S128x4096) ![0, 2048] S128x2048.size inb, wg⟩ : View.Piece (Elt Ideal) S128x4096 .bf16),
        ⟨Rect.unit (s := S128x4096) ![0, 0] S128x2048.size inb', wf⟩]
      = (a2 fun p (c : Fin 4096) => sides (f p) (g p) c : FVec Ideal S128x4096 .bf16) := by
  subst hg hf
  funext y
  have y1 : (y 1).val < 4096 := (y 1).isLt
  by_cases h : (y 1).val < 2048
  · have hn : y ∉ (⟨Rect.unit (s := S128x4096) ![0, 2048] S128x2048.size inb, a2 (φ := .bf16) g⟩ : View.Piece (Elt Ideal) S128x4096 .bf16).1.set := by
      show y ∉ (Rect.unit (s := S128x4096) ![0, 2048] S128x2048.size inb).set
      rw [Rect.mem_set_unit]; intro hm
      have : 2048 ≤ (y 1).val := (hm 1).1
      omega
    refine (View.canon_cons_of_not_mem _ _ hn).trans ?_
    have e : y = (Rect.unit (s := S128x4096) ![0, 0] S128x2048.size inb').emb (ix2 (y 0) ⟨(y 1).val, h⟩ : S128x2048.Idx) :=
      funext fun a => match a with
      | ⟨0, _⟩ => Fin.ext (by show (y 0).val = 0 + 1 * (y 0).val; omega)
      | ⟨1, _⟩ => Fin.ext (by show (y 1).val = 0 + 1 * (y 1).val; omega)
    refine ((congrArg _ e).trans (View.canon_cons_emb _ _ _ _)).trans ?_
    exact congrArg (fun r : ℝ => (r : EReal)) (show f (y 0) ⟨(y 1).val, h⟩ = sides (f (y 0)) (g (y 0)) (y 1) from (sides_left (c := y 1) h).symm)
  · have e : y = (Rect.unit (s := S128x4096) ![0, 2048] S128x2048.size inb).emb (ix2 (y 0) ⟨(y 1).val - 2048, by omega⟩ : S128x2048.Idx) :=
      funext fun a => match a with
      | ⟨0, _⟩ => Fin.ext (by show (y 0).val = 0 + 1 * (y 0).val; omega)
      | ⟨1, _⟩ => Fin.ext (by show (y 1).val = 2048 + 1 * ((y 1).val - 2048); omega)
    refine ((congrArg _ e).trans (View.canon_cons_emb _ _ _ _)).trans ?_
    exact congrArg (fun r : ℝ => (r : EReal))
      (show g (y 0) ⟨(y 1).val - 2048, by omega⟩ = sides (f (y 0)) (g (y 0)) (y 1) from (sides_right (c := y 1) h).symm)

end Cert.KernelIdeal.KerVal
-- ==== Proof.KerA.lean ====
/- What the body leaves at the first point, where the five accumulated results are set to zero first: the named terms of its run over real inputs, the two scratch
   buffers read back whole, and the six results. -/
module

public import proofs.«01_k».proof.Proof.KerHeads
public import proofs.«01_k».proof.Proof.Gen.KernelIdeal.Frame
public import Idealize.ShloMosaic.Lib.Pipeline.ValueKit.Tiles

public section
open Idealize.ShloMosaic Idealize.ShloMosaic.Ideal Idealize.ShloMosaic.ValueIdx
set_option maxRecDepth 16384
noncomputable section

namespace Cert.KernelIdeal.KerVal.CaseA
open Cert.KernelIdeal Cert.KernelIdeal.Gen Cert.Arr Cert.Spec

variable {X : Chunk} {P : Par} {c : Dev nD} {i : grid0.Coords}
variable {arg1 : Memref sig .tc .vmem S128x2048 .bf16} {harg1 : arg1.IsWhole}
variable {arg2 : Memref sig .tc .vmem S128x2048 .bf16} {harg2 : arg2.IsWhole}
variable {arg3 : Memref sig .tc .vmem S128x2048 .bf16} {harg3 : arg3.IsWhole}
variable {arg4 : Memref sig .tc .vmem S1x2048 .f32} {harg4 : arg4.IsWhole}
variable {arg5 : Memref sig .tc .vmem S1x2048 .f32} {harg5 : arg5.IsWhole}
variable {arg6 : Memref sig .tc .vmem S16x128x128 .bf16} {harg6 : arg6.IsWhole}
variable {arg7 : Memref sig .tc .vmem S16x128x128 .bf16} {harg7 : arg7.IsWhole}
variable {arg8 : Memref sig .tc .vmem S128x2048 .f32} {harg8 : arg8.IsWhole}
variable {arg9 : Memref sig .tc .vmem S1x2048 .f32} {harg9 : arg9.IsWhole}
variable {arg10 : Memref sig .tc .vmem S128x4096 .bf16} {harg10 : arg10.IsWhole}
variable {arg11 : Memref sig .tc .vmem S1x2048 .f32} {harg11 : arg11.IsWhole}
variable {arg12 : Memref sig .tc .vmem S1x2048 .f32} {harg12 : arg12.IsWhole}
variable {arg13 : Memref sig .tc .vmem S1x2048 .f32} {harg13 : arg13.IsWhole}
variable {arg14 : Memref sig .tc .vmem S16x128x128 .f32} {harg14 : arg14.IsWhole}
variable {arg15 : Memref sig .tc .vmem S128x2048 .f32} {harg15 : arg15.IsWhole}
variable {arg16 : Memref sig .tc .vmem S128x2048 .f32} {harg16 : arg16.IsWhole}
variable {arg17 : Memref sig .tc .vmem S128x2048 .f32} {harg17 : arg17.IsWhole}
variable {o10 o11 o12 : Fin 2048 → ℝ} {T : Fin 16 → Fin 128 → Fin 128 → ℝ} {o14 : Fin 128 → Fin 2048 → ℝ}

theorem r : (kernelRun0_A.sl.r (F := Ideal) c arg2 harg2 (a2 (φ := .bf16) X.pu))
    = a2 (φ := .f32) X.pu := by
  unfold kernelRun0_A.sl.r; rw [load_all _ _ _ zeros2]; exact pay1 _

theorem r_1 : (kernelRun0_A.sl.r_1 (F := Ideal) c arg3 harg3 (a2 (φ := .bf16) X.pv))
    = a2 (φ := .f32) X.pv := by
  unfold kernelRun0_A.sl.r_1; rw [load_all _ _ _ zeros2]; exact pay2 _

theorem r_2 : (kernelRun0_A.sl.r_2 (F := Ideal) c arg2 harg2 (a2 (φ := .bf16) X.pu))
    = a2 (φ := .f32) (u X) := by
  unfold kernelRun0_A.sl.r_2; rw [load_all _ _ _ zeros2]; exact pay3 _

theorem r_3 : (kernelRun0_A.sl.r_3 (F := Ideal) c arg3 harg3 (a2 (φ := .bf16) X.pv))
    = a2 (φ := .f32) fun p _ => rms (zc (v X p)) := by
  unfold kernelRun0_A.sl.r_3; rw [load_all _ _ _ zeros2]; exact pay5 _

theorem r_4 : (kernelRun0_A.sl.r_4 (F := Ideal) c arg3 harg3 (a2 (φ := .bf16) X.pv))
    = a2 (φ := .f32) (xh X) := by
  unfold kernelRun0_A.sl.r_4; rw [load_all _ _ _ zeros2]; exact pay6 _

theorem r_5 : (kernelRun0_A.sl.r_5 (F := Ideal) c arg3 harg3 arg4 harg4 (a2 (φ := .bf16) X.pv) (a2 (φ := .f32) fun _ => P.lg))
    = a2 (φ := .f32) fun p c => xh X p c * P.lg c := by
  unfold kernelRun0_A.sl.r_5; rw [load_all _ _ _ zeros2, load_all _ _ _ zeros2]; exact pay7 _ _

theorem r_6 : (kernelRun0_A.sl.r_6 (F := Ideal) c arg5 harg5 (a2 (φ := .f32) fun _ => P.lb))
    = a2 (φ := .f32) fun _ => P.lb := by
  unfold kernelRun0_A.sl.r_6; exact load_all _ _ _ zeros2 _

/-- The normalized half. -/
theorem r_7 : (kernelRun0_A.sl.r_7 (F := Ideal) c arg3 harg3 arg4 harg4 arg5 harg5 (a2 (φ := .bf16) X.pv) (a2 (φ := .f32) fun _ => P.lg) (a2 (φ := .f32) fun _ => P.lb))
    = a2 (φ := .bf16) (vn P X) := by
  unfold kernelRun0_A.sl.r_7; rw [r_5, r_6]; exact pay8 _ _

theorem r_8 : (kernelRun0_A.sl.r_8 (F := Ideal) c arg6 harg6 (a3 (φ := .bf16) P.W))
    = a2 (φ := .bf16) (P.W 9) := by
  unfold kernelRun0_A.sl.r_8; rw [plane_of (off := ![9, 0, 0]) _ _ _ 9 rfl]; unfold k0_pay18; exact shapeCast_plane _ _

theorem r_9 : (kernelRun0_A.sl.r_9 (F := Ideal) c arg3 harg3 arg4 harg4 arg5 harg5 (a2 (φ := .bf16) X.pv) (a2 (φ := .f32) fun _ => P.lg) (a2 (φ := .f32) fun _ => P.lb))
    = a2 (φ := .bf16) fun p d => vn P X p (col 9 d) := by
  unfold kernelRun0_A.sl.r_9; rw [r_7]; unfold k0_pay19; exact slice_head _ 9 rfl _

theorem r_10 : (kernelRun0_A.sl.r_10 (F := Ideal) c arg3 harg3 arg4 harg4 arg5 harg5 arg6 harg6 (a2 (φ := .bf16) X.pv) (a2 (φ := .f32) fun _ => P.lg) (a2 (φ := .f32) fun _ => P.lb) (a3 (φ := .bf16) P.W))
    = a2 (φ := .f32) fun p d => ∑ q, P.W 12 p q * vn P X q (col 12 d) := by
  unfold kernelRun0_A.sl.r_10; rw [r_7, plane_of (off := ![12, 0, 0]) _ _ _ 12 rfl]; unfold k0_pay23; exact mixFirst _ _ 12 rfl _

theorem r_11 : (kernelRun0_A.sl.r_11 (F := Ideal) c arg3 harg3 arg4 harg4 arg5 harg5 arg6 harg6 (a2 (φ := .bf16) X.pv) (a2 (φ := .f32) fun _ => P.lg) (a2 (φ := .f32) fun _ => P.lb) (a3 (φ := .bf16) P.W))
    = a2 (φ := .f32) fun p d => ∑ q, P.W 15 p q * vn P X q (col 15 d) := by
  unfold kernelRun0_A.sl.r_11; rw [r_7, plane_of (off := ![15, 0, 0]) _ _ _ 15 rfl]; unfold k0_pay27; exact mixFirst _ _ 15 rfl _

theorem r_12 : (kernelRun0_A.sl.r_12 (F := Ideal) c arg8 harg8 (a2 (φ := .f32) P.B))
    = a2 (φ := .f32) fun p d => P.B p (col 15 d) := by
  unfold kernelRun0_A.sl.r_12; rw [head_of (off := ![0, 1920]) _ _ _ 15 rfl]; unfold k0_pay28; exact shapeCast_self _ _

/-- The mixed half, read back from the first scratch buffer. -/
theorem v203 : (kernelRun0_A.sl.v203 (F := Ideal) c arg3 harg3 arg4 harg4 arg5 harg5 arg6 harg6 arg8 harg8 arg16 (a2 (φ := .bf16) X.pv) (a2 (φ := .f32) fun _ => P.lg) (a2 (φ := .f32) fun _ => P.lb) (a3 (φ := .bf16) P.W) (a2 (φ := .f32) P.B))
    = a2 (φ := .f32) (vs P X) := by
  unfold kernelRun0_A.sl.v203 kernelRun0_A.sl.HS0_16
  exact read_heads _ _ (vs P X) (Blocks.store 15
    (Blocks.store 14
    (Blocks.store 13
    (Blocks.store 12
    (Blocks.store 11
    (Blocks.store 10
    (Blocks.store 9
    (Blocks.store 8
    (Blocks.store 7
    (Blocks.store 6
    (Blocks.store 5
    (Blocks.store 4
    (Blocks.store 3
    (Blocks.store 2
    (Blocks.store 1
    (Blocks.store 0
    (Blocks.none _)
    rfl _ _ ((show _ = _ by rw [r_5, r_6, plane_of (off := ![0, 0, 0]) _ _ _ 0 rfl, head_of (off := ![0, 0]) _ _ _ 0 rfl]; unfold k0_pay9; dsimp only; exact mixLate _ _ _ _ 0 rfl _).trans (vs_head P X 0)))
    rfl _ _ ((show _ = _ by rw [r_5, r_6, plane_of (off := ![1, 0, 0]) _ _ _ 1 rfl, head_of (off := ![0, 128]) _ _ _ 1 rfl]; unfold k0_pay10; dsimp only; exact mixLate _ _ _ _ 1 rfl _).trans (vs_head P X 1)))
    rfl _ _ ((show _ = _ by rw [r_5, r_6, plane_of (off := ![2, 0, 0]) _ _ _ 2 rfl, head_of (off := ![0, 256]) _ _ _ 2 rfl]; unfold k0_pay11; dsimp only; exact mixLate _ _ _ _ 2 rfl _).trans (vs_head P X 2)))
    rfl _ _ ((show _ = _ by rw [r_7, plane_of (off := ![3, 0, 0]) _ _ _ 3 rfl, head_of (off := ![0, 384]) _ _ _ 3 rfl]; unfold k0_pay12; dsimp only; exact mix _ _ _ 3 rfl _).trans (vs_head P X 3)))
    rfl _ _ ((show _ = _ by rw [r_7, plane_of (off := ![4, 0, 0]) _ _ _ 4 rfl, head_of (off := ![0, 512]) _ _ _ 4 rfl]; unfold k0_pay13; dsimp only; exact mix _ _ _ 4 rfl _).trans (vs_head P X 4)))
    rfl _ _ ((show _ = _ by rw [r_7, plane_of (off := ![5, 0, 0]) _ _ _ 5 rfl, head_of (off := ![0, 640]) _ _ _ 5 rfl]; unfold k0_pay14; dsimp only; exact mix _ _ _ 5 rfl _).trans (vs_head P X 5)))
    rfl _ _ ((show _ = _ by rw [r_7, plane_of (off := ![6, 0, 0]) _ _ _ 6 rfl, head_of (off := ![0, 768]) _ _ _ 6 rfl]; unfold k0_pay15; dsimp only; exact mix _ _ _ 6 rfl _).trans (vs_head P X 6)))
    rfl _ _ ((show _ = _ by rw [r_7, plane_of (off := ![7, 0, 0]) _ _ _ 7 rfl, head_of (off := ![0, 896]) _ _ _ 7 rfl]; unfold k0_pay16; dsimp only; exact mix _ _ _ 7 rfl _).trans (vs_head P X 7)))
    rfl _ _ ((show _ = _ by rw [r_7, plane_of (off := ![8, 0, 0]) _ _ _ 8 rfl, head_of (off := ![0, 1024]) _ _ _ 8 rfl]; unfold k0_pay17; dsimp only; exact mix _ _ _ 8 rfl _).trans (vs_head P X 8)))
    rfl _ _ ((show _ = _ by rw [r_8, r_9, head_of (off := ![0, 1152]) _ _ _ 9 rfl]; unfold k0_pay20; dsimp only; exact mixSplit _ _ _).trans (vs_head P X 9)))
    rfl _ _ ((show _ = _ by rw [r_7, plane_of (off := ![10, 0, 0]) _ _ _ 10 rfl, head_of (off := ![0, 1280]) _ _ _ 10 rfl]; unfold k0_pay21; dsimp only; exact mix _ _ _ 10 rfl _).trans (vs_head P X 10)))
    rfl _ _ ((show _ = _ by rw [r_7, plane_of (off := ![11, 0, 0]) _ _ _ 11 rfl, head_of (off := ![0, 1408]) _ _ _ 11 rfl]; unfold k0_pay22; dsimp only; exact mix _ _ _ 11 rfl _).trans (vs_head P X 11)))
    rfl _ _ ((show _ = _ by rw [r_10, head_of (off := ![0, 1536]) _ _ _ 12 rfl]; unfold k0_pay24; dsimp only; exact addBias _ _).trans (vs_head P X 12)))
    rfl _ _ ((show _ = _ by rw [r_7, plane_of (off := ![13, 0, 0]) _ _ _ 13 rfl, head_of (off := ![0, 1664]) _ _ _ 13 rfl]; unfold k0_pay25; dsimp only; exact mix _ _ _ 13 rfl _).trans (vs_head P X 13)))
    rfl _ _ ((show _ = _ by rw [r_7, plane_of (off := ![14, 0, 0]) _ _ _ 14 rfl, head_of (off := ![0, 1792]) _ _ _ 14 rfl]; unfold k0_pay26; dsimp only; exact mix _ _ _ 14 rfl _).trans (vs_head P X 14)))
    rfl _ _ ((show _ = _ by rw [r_11, r_12]; unfold k0_pay29; dsimp only; exact addOnly _ _).trans (vs_head P X 15)))
    (fun y => View.cover_of_tiled_head _ _ _ rfl y) zeros2 _

theorem r_13 : (kernelRun0_A.sl.r_13 (F := Ideal) c arg1 harg1 arg2 harg2 arg3 harg3 arg4 harg4 arg5 harg5 arg6 harg6 arg8 harg8 arg9 harg9 arg16 (a2 (φ := .bf16) X.dy) (a2 (φ := .bf16) X.pu) (a2 (φ := .bf16) X.pv) (a2 (φ := .f32) fun _ => P.lg) (a2 (φ := .f32) fun _ => P.lb) (a3 (φ := .bf16) P.W) (a2 (φ := .f32) P.B) (a2 (φ := .f32) fun _ => P.og))
    = a2 (φ := .f32) fun p c => dbg P X p c * vs P X p c := by
  unfold kernelRun0_A.sl.r_13; rw [r_2, v203, load_all _ _ _ zeros2, load_all _ _ _ zeros2]; exact pay35 _ _ _ _

theorem r_14 : (kernelRun0_A.sl.r_14 (F := Ideal) c arg1 harg1 arg2 harg2 arg3 harg3 arg4 harg4 arg5 harg5 arg6 harg6 arg8 harg8 arg9 harg9 arg16 (a2 (φ := .bf16) X.dy) (a2 (φ := .bf16) X.pu) (a2 (φ := .bf16) X.pv) (a2 (φ := .f32) fun _ => P.lg) (a2 (φ := .f32) fun _ => P.lb) (a3 (φ := .bf16) P.W) (a2 (φ := .f32) P.B) (a2 (φ := .f32) fun _ => P.og))
    = a2 (φ := .f32) (dvs P X) := by
  unfold kernelRun0_A.sl.r_14; rw [r_2, v203, load_all _ _ _ zeros2, load_all _ _ _ zeros2]; exact pay36 _ _ _ _

theorem r_15 : (kernelRun0_A.sl.r_15 (F := Ideal) c arg1 harg1 arg2 harg2 arg3 harg3 arg4 harg4 arg5 harg5 arg6 harg6 arg8 harg8 arg9 harg9 arg16 (a2 (φ := .bf16) X.dy) (a2 (φ := .bf16) X.pu) (a2 (φ := .bf16) X.pv) (a2 (φ := .f32) fun _ => P.lg) (a2 (φ := .f32) fun _ => P.lb) (a3 (φ := .bf16) P.W) (a2 (φ := .f32) P.B) (a2 (φ := .f32) fun _ => P.og))
    = a2 (φ := .bf16) (dvs P X) := by
  unfold kernelRun0_A.sl.r_15; rw [r_2, v203, load_all _ _ _ zeros2, load_all _ _ _ zeros2]; exact pay37 _ _ _ _

theorem r_17 : (kernelRun0_A.sl.r_17 (F := Ideal) c arg1 harg1 arg2 harg2 arg3 harg3 arg4 harg4 arg5 harg5 arg6 harg6 arg8 harg8 arg16 (a2 (φ := .bf16) X.dy) (a2 (φ := .bf16) X.pu) (a2 (φ := .bf16) X.pv) (a2 (φ := .f32) fun _ => P.lg) (a2 (φ := .f32) fun _ => P.lb) (a3 (φ := .bf16) P.W) (a2 (φ := .f32) P.B))
    = a2 (φ := .f32) fun p c => X.dy p c * nb P X p c := by
  unfold kernelRun0_A.sl.r_17; rw [r_2, v203, load_all _ _ _ zeros2]; exact pay44 _ _ _

/-- The cotangent of the normalized half, read back from the second scratch buffer. -/
theorem v487 : (kernelRun0_A.sl.v487 (F := Ideal) c arg1 harg1 arg2 harg2 arg3 harg3 arg4 harg4 arg5 harg5 arg6 harg6 arg7 harg7 arg8 harg8 arg9 harg9 arg16 arg17 (a2 (φ := .bf16) X.dy) (a2 (φ := .bf16) X.pu) (a2 (φ := .bf16) X.pv) (a2 (φ := .f32) fun _ => P.lg) (a2 (φ := .f32) fun _ => P.lb) (a3 (φ := .bf16) P.W) (a3 (φ := .bf16) fun h q p => P.W h p q) (a2 (φ := .f32) P.B) (a2 (φ := .f32) fun _ => P.og))
    = a2 (φ := .f32) (dvn P X) := by
  unfold kernelRun0_A.sl.v487 kernelRun0_A.sl.HS1_16
  exact read_heads _ _ (dvn P X) (Blocks.store 15
    (Blocks.store 14
    (Blocks.store 13
    (Blocks.store 12
    (Blocks.store 11
    (Blocks.store 10
    (Blocks.store 9
    (Blocks.store 8
    (Blocks.store 7
    (Blocks.store 6
    (Blocks.store 5
    (Blocks.store 4
    (Blocks.store 3
    (Blocks.store 2
    (Blocks.store 1
    (Blocks.store 0
    (Blocks.none _)
    rfl _ _ ((show _ = _ by rw [r_15, plane_of (off := ![0, 0, 0]) _ _ _ 0 rfl]; unfold k0_pay49 k0_pay47; dsimp only; exact mixBack _ _ 0 rfl _).trans (dvn_head P X 0)))
    rfl _ _ ((show _ = _ by unfold kernelRun0_A.sl.r_18; rw [r_15, plane_of (off := ![1, 0, 0]) _ _ _ 1 rfl]; unfold k0_pay53 k0_pay50; dsimp only; exact mixBack _ _ 1 rfl _).trans (dvn_head P X 1)))
    rfl _ _ ((show _ = _ by rw [r_15, plane_of (off := ![2, 0, 0]) _ _ _ 2 rfl]; unfold k0_pay56 k0_pay54; dsimp only; exact mixBack _ _ 2 rfl _).trans (dvn_head P X 2)))
    rfl _ _ ((show _ = _ by unfold kernelRun0_A.sl.r_20; rw [r_15, plane_of (off := ![3, 0, 0]) _ _ _ 3 rfl]; unfold k0_pay60 k0_pay57; dsimp only; exact mixBack _ _ 3 rfl _).trans (dvn_head P X 3)))
    rfl _ _ ((show _ = _ by rw [r_15, plane_of (off := ![4, 0, 0]) _ _ _ 4 rfl]; unfold k0_pay63 k0_pay61; dsimp only; exact mixBack _ _ 4 rfl _).trans (dvn_head P X 4)))
    rfl _ _ ((show _ = _ by unfold kernelRun0_A.sl.r_22; rw [r_15, plane_of (off := ![5, 0, 0]) _ _ _ 5 rfl]; unfold k0_pay67 k0_pay64; dsimp only; exact mixBack _ _ 5 rfl _).trans (dvn_head P X 5)))
    rfl _ _ ((show _ = _ by rw [r_15, plane_of (off := ![6, 0, 0]) _ _ _ 6 rfl]; unfold k0_pay70 k0_pay68; dsimp only; exact mixBack _ _ 6 rfl _).trans (dvn_head P X 6)))
    rfl _ _ ((show _ = _ by unfold kernelRun0_A.sl.r_24; rw [r_15, plane_of (off := ![7, 0, 0]) _ _ _ 7 rfl]; unfold k0_pay74 k0_pay71; dsimp only; exact mixBack _ _ 7 rfl _).trans (dvn_head P X 7)))
    rfl _ _ ((show _ = _ by rw [r_15, plane_of (off := ![8, 0, 0]) _ _ _ 8 rfl]; unfold k0_pay77 k0_pay75; dsimp only; exact mixBack _ _ 8 rfl _).trans (dvn_head P X 8)))
    rfl _ _ ((show _ = _ by unfold kernelRun0_A.sl.r_26; rw [r_15, plane_of (off := ![9, 0, 0]) _ _ _ 9 rfl]; unfold k0_pay81 k0_pay78; dsimp only; exact mixBack _ _ 9 rfl _).trans (dvn_head P X 9)))
    rfl _ _ ((show _ = _ by rw [r_15, plane_of (off := ![10, 0, 0]) _ _ _ 10 rfl]; unfold k0_pay84 k0_pay82; dsimp only; exact mixBack _ _ 10 rfl _).trans (dvn_head P X 10)))
    rfl _ _ ((show _ = _ by unfold kernelRun0_A.sl.r_28; rw [r_15, plane_of (off := ![11, 0, 0]) _ _ _ 11 rfl]; unfold k0_pay88 k0_pay85; dsimp only; exact mixBack _ _ 11 rfl _).trans (dvn_head P X 11)))
    rfl _ _ ((show _ = _ by rw [r_15, plane_of (off := ![12, 0, 0]) _ _ _ 12 rfl]; unfold k0_pay91 k0_pay89; dsimp only; exact mixBack _ _ 12 rfl _).trans (dvn_head P X 12)))
    rfl _ _ ((show _ = _ by unfold kernelRun0_A.sl.r_30; rw [r_15, plane_of (off := ![13, 0, 0]) _ _ _ 13 rfl]; unfold k0_pay95 k0_pay92; dsimp only; exact mixBack _ _ 13 rfl _).trans (dvn_head P X 13)))
    rfl _ _ ((show _ = _ by rw [r_15, plane_of (off := ![14, 0, 0]) _ _ _ 14 rfl]; unfold k0_pay98 k0_pay96; dsimp only; exact mixBack _ _ 14 rfl _).trans (dvn_head P X 14)))
    rfl _ _ ((show _ = _ by unfold kernelRun0_A.sl.r_32; rw [r_15, plane_of (off := ![15, 0, 0]) _ _ _ 15 rfl]; unfold k0_pay102 k0_pay99; dsimp only; exact mixBack _ _ 15 rfl _).trans (dvn_head P X 15)))
    (fun y => View.cover_of_tiled_head _ _ _ rfl y) zeros2 _

theorem r_34 : (kernelRun0_A.sl.r_34 (F := Ideal) c arg1 harg1 arg2 harg2 arg3 harg3 arg4 harg4 arg5 harg5 arg6 harg6 arg7 harg7 arg8 harg8 arg9 harg9 arg16 arg17 (a2 (φ := .bf16) X.dy) (a2 (φ := .bf16) X.pu) (a2 (φ := .bf16) X.pv) (a2 (φ := .f32) fun _ => P.lg) (a2 (φ := .f32) fun _ => P.lb) (a3 (φ := .bf16) P.W) (a3 (φ := .bf16) fun h q p => P.W h p q) (a2 (φ := .f32) P.B) (a2 (φ := .f32) fun _ => P.og))
    = a2 (φ := .f32) fun p c => dxh P X p c - mean (dxh P X p) := by
  unfold kernelRun0_A.sl.r_34; rw [v487, load_all _ _ _ zeros2]; exact pay106 _ _

theorem r_35 : (kernelRun0_A.sl.r_35 (F := Ideal) c arg1 harg1 arg2 harg2 arg3 harg3 arg4 harg4 arg5 harg5 arg6 harg6 arg7 harg7 arg8 harg8 arg9 harg9 arg16 arg17 (a2 (φ := .bf16) X.dy) (a2 (φ := .bf16) X.pu) (a2 (φ := .bf16) X.pv) (a2 (φ := .f32) fun _ => P.lg) (a2 (φ := .f32) fun _ => P.lb) (a3 (φ := .bf16) P.W) (a3 (φ := .bf16) fun h q p => P.W h p q) (a2 (φ := .f32) P.B) (a2 (φ := .f32) fun _ => P.og))
    = a1 (φ := .f32) fun p => ∑ c, dxh P X p c * xh X p c := by
  unfold kernelRun0_A.sl.r_35; rw [r_4, v487, load_all _ _ _ zeros2]; exact pay107 _ _ _

/-- The cotangent of the second half. -/
theorem r_36 : (kernelRun0_A.sl.r_36 (F := Ideal) c arg1 harg1 arg2 harg2 arg3 harg3 arg4 harg4 arg5 harg5 arg6 harg6 arg7 harg7 arg8 harg8 arg9 harg9 arg16 arg17 (a2 (φ := .bf16) X.dy) (a2 (φ := .bf16) X.pu) (a2 (φ := .bf16) X.pv) (a2 (φ := .f32) fun _ => P.lg) (a2 (φ := .f32) fun _ => P.lb) (a3 (φ := .bf16) P.W) (a3 (φ := .bf16) fun h q p => P.W h p q) (a2 (φ := .f32) P.B) (a2 (φ := .f32) fun _ => P.og))
    = a2 (φ := .bf16) (dpv P X) := by
  unfold kernelRun0_A.sl.r_36; rw [r_1, r_3, r_4, r_34, r_35]; exact pay109 _ _ _ _ _

theorem v236 : (kernelRun0_A.sl.v236 (F := Ideal) c arg11)
    = a2 (φ := .f32) fun _ _ => 0 := by
  unfold kernelRun0_A.sl.v236 kernelRun0_A.sl.H10_1; rw [View.readCov_unit_zero _ zeros2]; exact pay38

theorem v488 : (kernelRun0_A.sl.v488 (F := Ideal) c arg12)
    = a2 (φ := .f32) fun _ _ => 0 := by
  unfold kernelRun0_A.sl.v488 kernelRun0_A.sl.H11_1; rw [View.readCov_unit_zero _ zeros2]; exact pay39

theorem v495 : (kernelRun0_A.sl.v495 (F := Ideal) c arg13)
    = a2 (φ := .f32) fun _ _ => 0 := by
  unfold kernelRun0_A.sl.v495 kernelRun0_A.sl.H12_1; rw [View.readCov_unit_zero _ zeros2]; exact pay40

theorem v243 : (kernelRun0_A.sl.v243 (F := Ideal) c arg15)
    = a2 (φ := .f32) fun _ _ => 0 := by
  unfold kernelRun0_A.sl.v243 kernelRun0_A.sl.H14_1; rw [View.readCov_unit_zero _ zeros2]; exact pay42

theorem r_16 : (kernelRun0_A.sl.r_16 (F := Ideal) c arg11)
    = a2 (φ := .f32) fun _ _ => 0 := by
  unfold kernelRun0_A.sl.r_16; rw [v236]; exact pay43 _

variable {hc0 : cond0_0 i}

/-- The stack of sixteen after the zeros and the first `k` planes. -/
theorem up_0 {G : Fin 16 → Fin 128 → Fin 128 → ℝ} : Upto (kernelRun0_A.sl.H13_1 (F := Ideal)) G (fun _ _ _ => 0) 0 := by
  intro h p q
  unfold kernelRun0_A.sl.H13_1
  rw [View.canon_unit_zero zeros3, pay41]; rfl

theorem v249 : (kernelRun0_A.sl.v249 (F := Ideal) c arg14)
    = a3 (φ := .f32) fun _ _ _ => 0 := by
  unfold kernelRun0_A.sl.v249; exact (up_0 (G := fun _ _ _ => 0)).load 0 (by decide) _ rfl _

theorem up_1 : Upto (kernelRun0_A.sl.H13_2 (F := Ideal) c arg1 harg1 arg2 harg2 arg3 harg3 arg4 harg4 arg5 harg5 arg6 harg6 arg8 harg8 arg9 harg9 arg14 arg16 (a2 (φ := .bf16) X.dy) (a2 (φ := .bf16) X.pu) (a2 (φ := .bf16) X.pv) (a2 (φ := .f32) fun _ => P.lg) (a2 (φ := .f32) fun _ => P.lb) (a3 (φ := .bf16) P.W) (a2 (φ := .f32) P.B) (a2 (φ := .f32) fun _ => P.og)) (tw P X) (fun _ _ _ => 0) 1 := by
  unfold kernelRun0_A.sl.H13_2
  exact Upto.store 0 up_0 rfl _ _ (by rw [r_7, r_15, v249]; unfold k0_pay48 k0_pay47; dsimp only; exact (mixGrad _ _ _ 0 rfl _).trans (tw_new P X 0))

theorem v264 : (kernelRun0_A.sl.v264 (F := Ideal) c arg1 harg1 arg2 harg2 arg3 harg3 arg4 harg4 arg5 harg5 arg6 harg6 arg8 harg8 arg9 harg9 arg14 arg16 (a2 (φ := .bf16) X.dy) (a2 (φ := .bf16) X.pu) (a2 (φ := .bf16) X.pv) (a2 (φ := .f32) fun _ => P.lg) (a2 (φ := .f32) fun _ => P.lb) (a3 (φ := .bf16) P.W) (a2 (φ := .f32) P.B) (a2 (φ := .f32) fun _ => P.og))
    = a3 (φ := .f32) fun _ _ _ => 0 := by
  unfold kernelRun0_A.sl.v264; exact (up_1 (P := P) (X := X)).load 1 (by decide) _ rfl _

theorem up_2 : Upto (kernelRun0_A.sl.H13_3 (F := Ideal) c arg1 harg1 arg2 harg2 arg3 harg3 arg4 harg4 arg5 harg5 arg6 harg6 arg8 harg8 arg9 harg9 arg14 arg16 (a2 (φ := .bf16) X.dy) (a2 (φ := .bf16) X.pu) (a2 (φ := .bf16) X.pv) (a2 (φ := .f32) fun _ => P.lg) (a2 (φ := .f32) fun _ => P.lb) (a3 (φ := .bf16) P.W) (a2 (φ := .f32) P.B) (a2 (φ := .f32) fun _ => P.og)) (tw P X) (fun _ _ _ => 0) 2 := by
  unfold kernelRun0_A.sl.H13_3
  exact Upto.store 1 up_1 rfl _ _ (by unfold kernelRun0_A.sl.r_19; rw [r_7, r_15, v264]; unfold k0_pay52 k0_pay51 k0_pay50; dsimp only; exact (mixGrad _ _ _ 1 rfl _).trans (tw_new P X 1))

theorem v279 : (kernelRun0_A.sl.v279 (F := Ideal) c arg1 harg1 arg2 harg2 arg3 harg3 arg4 harg4 arg5 harg5 arg6 harg6 arg8 harg8 arg9 harg9 arg14 arg16 (a2 (φ := .bf16) X.dy) (a2 (φ := .bf16) X.pu) (a2 (φ := .bf16) X.pv) (a2 (φ := .f32) fun _ => P.lg) (a2 (φ := .f32) fun _ => P.lb) (a3 (φ := .bf16) P.W) (a2 (φ := .f32) P.B) (a2 (φ := .f32) fun _ => P.og))
    = a3 (φ := .f32) fun _ _ _ => 0 := by
  unfold kernelRun0_A.sl.v279; exact (up_2 (P := P) (X := X)).load 2 (by decide) _ rfl _

theorem up_3 : Upto (kernelRun0_A.sl.H13_4 (F := Ideal) c arg1 harg1 arg2 harg2 arg3 harg3 arg4 harg4 arg5 harg5 arg6 harg6 arg8 harg8 arg9 harg9 arg14 arg16 (a2 (φ := .bf16) X.dy) (a2 (φ := .bf16) X.pu) (a2 (φ := .bf16) X.pv) (a2 (φ := .f32) fun _ => P.lg) (a2 (φ := .f32) fun _ => P.lb) (a3 (φ := .bf16) P.W) (a2 (φ := .f32) P.B) (a2 (φ := .f32) fun _ => P.og)) (tw P X) (fun _ _ _ => 0) 3 := by
  unfold kernelRun0_A.sl.H13_4
  exact Upto.store 2 up_2 rfl _ _ (by rw [r_7, r_15, v279]; unfold k0_pay55 k0_pay54; dsimp only; exact (mixGrad _ _ _ 2 rfl _).trans (tw_new P X 2))

theorem v294 : (kernelRun0_A.sl.v294 (F := Ideal) c arg1 harg1 arg2 harg2 arg3 harg3 arg4 harg4 arg5 harg5 arg6 harg6 arg8 harg8 arg9 harg9 arg14 arg16 (a2 (φ := .bf16) X.dy) (a2 (φ := .bf16) X.pu) (a2 (φ := .bf16) X.pv) (a2 (φ := .f32) fun _ => P.lg) (a2 (φ := .f32) fun _ => P.lb) (a3 (φ := .bf16) P.W) (a2 (φ := .f32) P.B) (a2 (φ := .f32) fun _ => P.og))
    = a3 (φ := .f32) fun _ _ _ => 0 := by
  unfold kernelRun0_A.sl.v294; exact (up_3 (P := P) (X := X)).load 3 (by decide) _ rfl _

theorem up_4 : Upto (kernelRun0_A.sl.H13_5 (F := Ideal) c arg1 harg1 arg2 harg2 arg3 harg3 arg4 harg4 arg5 harg5 arg6 harg6 arg8 harg8 arg9 harg9 arg14 arg16 (a2 (φ := .bf16) X.dy) (a2 (φ := .bf16) X.pu) (a2 (φ := .bf16) X.pv) (a2 (φ := .f32) fun _ => P.lg) (a2 (φ := .f32) fun _ => P.lb) (a3 (φ := .bf16) P.W) (a2 (φ := .f32) P.B) (a2 (φ := .f32) fun _ => P.og)) (tw P X) (fun _ _ _ => 0) 4 := by
  unfold kernelRun0_A.sl.H13_5
  exact Upto.store 3 up_3 rfl _ _ (by unfold kernelRun0_A.sl.r_21; rw [r_7, r_15, v294]; unfold k0_pay59 k0_pay58 k0_pay57; dsimp only; exact (mixGrad _ _ _ 3 rfl _).trans (tw_new P X 3))

theorem v309 : (kernelRun0_A.sl.v309 (F := Ideal) c arg1 harg1 arg2 harg2 arg3 harg3 arg4 harg4 arg5 harg5 arg6 harg6 arg8 harg8 arg9 harg9 arg14 arg16 (a2 (φ := .bf16) X.dy) (a2 (φ := .bf16) X.pu) (a2 (φ := .bf16) X.pv) (a2 (φ := .f32) fun _ => P.lg) (a2 (φ := .f32) fun _ => P.lb) (a3 (φ := .bf16) P.W) (a2 (φ := .f32) P.B) (a2 (φ := .f32) fun _ => P.og))
    = a3 (φ := .f32) fun _ _ _ => 0 := by
  unfold kernelRun0_A.sl.v309; exact (up_4 (P := P) (X := X)).load 4 (by decide) _ rfl _

theorem up_5 : Upto (kernelRun0_A.sl.H13_6 (F := Ideal) c arg1 harg1 arg2 harg2 arg3 harg3 arg4 harg4 arg5 harg5 arg6 harg6 arg8 harg8 arg9 harg9 arg14 arg16 (a2 (φ := .bf16) X.dy) (a2 (φ := .bf16) X.pu) (a2 (φ := .bf16) X.pv) (a2 (φ := .f32) fun _ => P.lg) (a2 (φ := .f32) fun _ => P.lb) (a3 (φ := .bf16) P.W) (a2 (φ := .f32) P.B) (a2 (φ := .f32) fun _ => P.og)) (tw P X) (fun _ _ _ => 0) 5 := by
  unfold kernelRun0_A.sl.H13_6
  exact Upto.store 4 up_4 rfl _ _ (by rw [r_7, r_15, v309]; unfold k0_pay62 k0_pay61; dsimp only; exact (mixGrad _ _ _ 4 rfl _).trans (tw_new P X 4))

theorem v324 : (kernelRun0_A.sl.v324 (F := Ideal) c arg1 harg1 arg2 harg2 arg3 harg3 arg4 harg4 arg5 harg5 arg6 harg6 arg8 harg8 arg9 harg9 arg14 arg16 (a2 (φ := .bf16) X.dy) (a2 (φ := .bf16) X.pu) (a2 (φ := .bf16) X.pv) (a2 (φ := .f32) fun _ => P.lg) (a2 (φ := .f32) fun _ => P.lb) (a3 (φ := .bf16) P.W) (a2 (φ := .f32) P.B) (a2 (φ := .f32) fun _ => P.og))
    = a3 (φ := .f32) fun _ _ _ => 0 := by
  unfold kernelRun0_A.sl.v324; exact (up_5 (P := P) (X := X)).load 5 (by decide) _ rfl _

theorem up_6 : Upto (kernelRun0_A.sl.H13_7 (F := Ideal) c arg1 harg1 arg2 harg2 arg3 harg3 arg4 harg4 arg5 harg5 arg6 harg6 arg8 harg8 arg9 harg9 arg14 arg16 (a2 (φ := .bf16) X.dy) (a2 (φ := .bf16) X.pu) (a2 (φ := .bf16) X.pv) (a2 (φ := .f32) fun _ => P.lg) (a2 (φ := .f32) fun _ => P.lb) (a3 (φ := .bf16) P.W) (a2 (φ := .f32) P.B) (a2 (φ := .f32) fun _ => P.og)) (tw P X) (fun _ _ _ => 0) 6 := by
  unfold kernelRun0_A.sl.H13_7
  exact Upto.store 5 up_5 rfl _ _ (by unfold kernelRun0_A.sl.r_23; rw [r_7, r_15, v324]; unfold k0_pay66 k0_pay65 k0_pay64; dsimp only; exact (mixGrad _ _ _ 5 rfl _).trans (tw_new P X 5))

theorem v339 : (kernelRun0_A.sl.v339 (F := Ideal) c arg1 harg1 arg2 harg2 arg3 harg3 arg4 harg4 arg5 harg5 arg6 harg6 arg8 harg8 arg9 harg9 arg14 arg16 (a2 (φ := .bf16) X.dy) (a2 (φ := .bf16) X.pu) (a2 (φ := .bf16) X.pv) (a2 (φ := .f32) fun _ => P.lg) (a2 (φ := .f32) fun _ => P.lb) (a3 (φ := .bf16) P.W) (a2 (φ := .f32) P.B) (a2 (φ := .f32) fun _ => P.og))
    = a3 (φ := .f32) fun _ _ _ => 0 := by
  unfold kernelRun0_A.sl.v339; exact (up_6 (P := P) (X := X)).load 6 (by decide) _ rfl _

theorem up_7 : Upto (kernelRun0_A.sl.H13_8 (F := Ideal) c arg1 harg1 arg2 harg2 arg3 harg3 arg4 harg4 arg5 harg5 arg6 harg6 arg8 harg8 arg9 harg9 arg14 arg16 (a2 (φ := .bf16) X.dy) (a2 (φ := .bf16) X.pu) (a2 (φ := .bf16) X.pv) (a2 (φ := .f32) fun _ => P.lg) (a2 (φ := .f32) fun _ => P.lb) (a3 (φ := .bf16) P.W) (a2 (φ := .f32) P.B) (a2 (φ := .f32) fun _ => P.og)) (tw P X) (fun _ _ _ => 0) 7 := by
  unfold kernelRun0_A.sl.H13_8
  exact Upto.store 6 up_6 rfl _ _ (by rw [r_7, r_15, v339]; unfold k0_pay69 k0_pay68; dsimp only; exact (mixGrad _ _ _ 6 rfl _).trans (tw_new P X 6))

theorem v354 : (kernelRun0_A.sl.v354 (F := Ideal) c arg1 harg1 arg2 harg2 arg3 harg3 arg4 harg4 arg5 harg5 arg6 harg6 arg8 harg8 arg9 harg9 arg14 arg16 (a2 (φ := .bf16) X.dy) (a2 (φ := .bf16) X.pu) (a2 (φ := .bf16) X.pv) (a2 (φ := .f32) fun _ => P.lg) (a2 (φ := .f32) fun _ => P.lb) (a3 (φ := .bf16) P.W) (a2 (φ := .f32) P.B) (a2 (φ := .f32) fun _ => P.og))
    = a3 (φ := .f32) fun _ _ _ => 0 := by
  unfold kernelRun0_A.sl.v354; exact (up_7 (P := P) (X := X)).load 7 (by decide) _ rfl _

theorem up_8 : Upto (kernelRun0_A.sl.H13_9 (F := Ideal) c arg1 harg1 arg2 harg2 arg3 harg3 arg4 harg4 arg5 harg5 arg6 harg6 arg8 harg8 arg9 harg9 arg14 arg16 (a2 (φ := .bf16) X.dy) (a2 (φ := .bf16) X.pu) (a2 (φ := .bf16) X.pv) (a2 (φ := .f32) fun _ => P.lg) (a2 (φ := .f32) fun _ => P.lb) (a3 (φ := .bf16) P.W) (a2 (φ := .f32) P.B) (a2 (φ := .f32) fun _ => P.og)) (tw P X) (fun _ _ _ => 0) 8 := by
  unfold kernelRun0_A.sl.H13_9
  exact Upto.store 7 up_7 rfl _ _ (by unfold kernelRun0_A.sl.r_25; rw [r_7, r_15, v354]; unfold k0_pay73 k0_pay72 k0_pay71; dsimp only; exact (mixGrad _ _ _ 7 rfl _).trans (tw_new P X 7))

theorem v369 : (kernelRun0_A.sl.v369 (F := Ideal) c arg1 harg1 arg2 harg2 arg3 harg3 arg4 harg4 arg5 harg5 arg6 harg6 arg8 harg8 arg9 harg9 arg14 arg16 (a2 (φ := .bf16) X.dy) (a2 (φ := .bf16) X.pu) (a2 (φ := .bf16) X.pv) (a2 (φ := .f32) fun _ => P.lg) (a2 (φ := .f32) fun _ => P.lb) (a3 (φ := .bf16) P.W) (a2 (φ := .f32) P.B) (a2 (φ := .f32) fun _ => P.og))
    = a3 (φ := .f32) fun _ _ _ => 0 := by
  unfold kernelRun0_A.sl.v369; exact (up_8 (P := P) (X := X)).load 8 (by decide) _ rfl _

theorem up_9 : Upto (kernelRun0_A.sl.H13_10 (F := Ideal) c arg1 harg1 arg2 harg2 arg3 harg3 arg4 harg4 arg5 harg5 arg6 harg6 arg8 harg8 arg9 harg9 arg14 arg16 (a2 (φ := .bf16) X.dy) (a2 (φ := .bf16) X.pu) (a2 (φ := .bf16) X.pv) (a2 (φ := .f32) fun _ => P.lg) (a2 (φ := .f32) fun _ => P.lb) (a3 (φ := .bf16) P.W) (a2 (φ := .f32) P.B) (a2 (φ := .f32) fun _ => P.og)) (tw P X) (fun _ _ _ => 0) 9 := by
  unfold kernelRun0_A.sl.H13_10
  exact Upto.store 8 up_8 rfl _ _ (by rw [r_7, r_15, v369]; unfold k0_pay76 k0_pay75; dsimp only; exact (mixGrad _ _ _ 8 rfl _).trans (tw_new P X 8))

theorem v384 : (kernelRun0_A.sl.v384 (F := Ideal) c arg1 harg1 arg2 harg2 arg3 harg3 arg4 harg4 arg5 harg5 arg6 harg6 arg8 harg8 arg9 harg9 arg14 arg16 (a2 (φ := .bf16) X.dy) (a2 (φ := .bf16) X.pu) (a2 (φ := .bf16) X.pv) (a2 (φ := .f32) fun _ => P.lg) (a2 (φ := .f32) fun _ => P.lb) (a3 (φ := .bf16) P.W) (a2 (φ := .f32) P.B) (a2 (φ := .f32) fun _ => P.og))
    = a3 (φ := .f32) fun _ _ _ => 0 := by
  unfold kernelRun0_A.sl.v384; exact (up_9 (P := P) (X := X)).load 9 (by decide) _ rfl _

theorem up_10 : Upto (kernelRun0_A.sl.H13_11 (F := Ideal) c arg1 harg1 arg2 harg2 arg3 harg3 arg4 harg4 arg5 harg5 arg6 harg6 arg8 harg8 arg9 harg9 arg14 arg16 (a2 (φ := .bf16) X.dy) (a2 (φ := .bf16) X.pu) (a2 (φ := .bf16) X.pv) (a2 (φ := .f32) fun _ => P.lg) (a2 (φ := .f32) fun _ => P.lb) (a3 (φ := .bf16) P.W) (a2 (φ := .f32) P.B) (a2 (φ := .f32) fun _ => P.og)) (tw P X) (fun _ _ _ => 0) 10 := by
  unfold kernelRun0_A.sl.H13_11
  exact Upto.store 9 up_9 rfl _ _ (by unfold kernelRun0_A.sl.r_27; rw [r_7, r_15, v384]; unfold k0_pay80 k0_pay79 k0_pay78; dsimp only; exact (mixGrad _ _ _ 9 rfl _).trans (tw_new P X 9))

theorem v399 : (kernelRun0_A.sl.v399 (F := Ideal) c arg1 harg1 arg2 harg2 arg3 harg3 arg4 harg4 arg5 harg5 arg6 harg6 arg8 harg8 arg9 harg9 arg14 arg16 (a2 (φ := .bf16) X.dy) (a2 (φ := .bf16) X.pu) (a2 (φ := .bf16) X.pv) (a2 (φ := .f32) fun _ => P.lg) (a2 (φ := .f32) fun _ => P.lb) (a3 (φ := .bf16) P.W) (a2 (φ := .f32) P.B) (a2 (φ := .f32) fun _ => P.og))
    = a3 (φ := .f32) fun _ _ _ => 0 := by
  unfold kernelRun0_A.sl.v399; exact (up_10 (P := P) (X := X)).load 10 (by decide) _ rfl _

theorem up_11 : Upto (kernelRun0_A.sl.H13_12 (F := Ideal) c arg1 harg1 arg2 harg2 arg3 harg3 arg4 harg4 arg5 harg5 arg6 harg6 arg8 harg8 arg9 harg9 arg14 arg16 (a2 (φ := .bf16) X.dy) (a2 (φ := .bf16) X.pu) (a2 (φ := .bf16) X.pv) (a2 (φ := .f32) fun _ => P.lg) (a2 (φ := .f32) fun _ => P.lb) (a3 (φ := .bf16) P.W) (a2 (φ := .f32) P.B) (a2 (φ := .f32) fun _ => P.og)) (tw P X) (fun _ _ _ => 0) 11 := by
  unfold kernelRun0_A.sl.H13_12
  exact Upto.store 10 up_10 rfl _ _ (by rw [r_7, r_15, v399]; unfold k0_pay83 k0_pay82; dsimp only; exact (mixGrad _ _ _ 10 rfl _).trans (tw_new P X 10))

theorem v414 : (kernelRun0_A.sl.v414 (F := Ideal) c arg1 harg1 arg2 harg2 arg3 harg3 arg4 harg4 arg5 harg5 arg6 harg6 arg8 harg8 arg9 harg9 arg14 arg16 (a2 (φ := .bf16) X.dy) (a2 (φ := .bf16) X.pu) (a2 (φ := .bf16) X.pv) (a2 (φ := .f32) fun _ => P.lg) (a2 (φ := .f32) fun _ => P.lb) (a3 (φ := .bf16) P.W) (a2 (φ := .f32) P.B) (a2 (φ := .f32) fun _ => P.og))
    = a3 (φ := .f32) fun _ _ _ => 0 := by
  unfold kernelRun0_A.sl.v414; exact (up_11 (P := P) (X := X)).load 11 (by decide) _ rfl _

theorem up_12 : Upto (kernelRun0_A.sl.H13_13 (F := Ideal) c arg1 harg1 arg2 harg2 arg3 harg3 arg4 harg4 arg5 harg5 arg6 harg6 arg8 harg8 arg9 harg9 arg14 arg16 (a2 (φ := .bf16) X.dy) (a2 (φ := .bf16) X.pu) (a2 (φ := .bf16) X.pv) (a2 (φ := .f32) fun _ => P.lg) (a2 (φ := .f32) fun _ => P.lb) (a3 (φ := .bf16) P.W) (a2 (φ := .f32) P.B) (a2 (φ := .f32) fun _ => P.og)) (tw P X) (fun _ _ _ => 0) 12 := by
  unfold kernelRun0_A.sl.H13_13
  exact Upto.store 11 up_11 rfl _ _ (by unfold kernelRun0_A.sl.r_29; rw [r_7, r_15, v414]; unfold k0_pay87 k0_pay86 k0_pay85; dsimp only; exact (mixGrad _ _ _ 11 rfl _).trans (tw_new P X 11))

theorem v429 : (kernelRun0_A.sl.v429 (F := Ideal) c arg1 harg1 arg2 harg2 arg3 harg3 arg4 harg4 arg5 harg5 arg6 harg6 arg8 harg8 arg9 harg9 arg14 arg16 (a2 (φ := .bf16) X.dy) (a2 (φ := .bf16) X.pu) (a2 (φ := .bf16) X.pv) (a2 (φ := .f32) fun _ => P.lg) (a2 (φ := .f32) fun _ => P.lb) (a3 (φ := .bf16) P.W) (a2 (φ := .f32) P.B) (a2 (φ := .f32) fun _ => P.og))
    = a3 (φ := .f32) fun _ _ _ => 0 := by
  unfold kernelRun0_A.sl.v429; exact (up_12 (P := P) (X := X)).load 12 (by decide) _ rfl _

theorem up_13 : Upto (kernelRun0_A.sl.H13_14 (F := Ideal) c arg1 harg1 arg2 harg2 arg3 harg3 arg4 harg4 arg5 harg5 arg6 harg6 arg8 harg8 arg9 harg9 arg14 arg16 (a2 (φ := .bf16) X.dy) (a2 (φ := .bf16) X.pu) (a2 (φ := .bf16) X.pv) (a2 (φ := .f32) fun _ => P.lg) (a2 (φ := .f32) fun _ => P.lb) (a3 (φ := .bf16) P.W) (a2 (φ := .f32) P.B) (a2 (φ := .f32) fun _ => P.og)) (tw P X) (fun _ _ _ => 0) 13 := by
  unfold kernelRun0_A.sl.H13_14
  exact Upto.store 12 up_12 rfl _ _ (by rw [r_7, r_15, v429]; unfold k0_pay90 k0_pay89; dsimp only; exact (mixGrad _ _ _ 12 rfl _).trans (tw_new P X 12))

theorem v444 : (kernelRun0_A.sl.v444 (F := Ideal) c arg1 harg1 arg2 harg2 arg3 harg3 arg4 harg4 arg5 harg5 arg6 harg6 arg8 harg8 arg9 harg9 arg14 arg16 (a2 (φ := .bf16) X.dy) (a2 (φ := .bf16) X.pu) (a2 (φ := .bf16) X.pv) (a2 (φ := .f32) fun _ => P.lg) (a2 (φ := .f32) fun _ => P.lb) (a3 (φ := .bf16) P.W) (a2 (φ := .f32) P.B) (a2 (φ := .f32) fun _ => P.og))
    = a3 (φ := .f32) fun _ _ _ => 0 := by
  unfold kernelRun0_A.sl.v444; exact (up_13 (P := P) (X := X)).load 13 (by decide) _ rfl _

theorem up_14 : Upto (kernelRun0_A.sl.H13_15 (F := Ideal) c arg1 harg1 arg2 harg2 arg3 harg3 arg4 harg4 arg5 harg5 arg6 harg6 arg8 harg8 arg9 harg9 arg14 arg16 (a2 (φ := .bf16) X.dy) (a2 (φ := .bf16) X.pu) (a2 (φ := .bf16) X.pv) (a2 (φ := .f32) fun _ => P.lg) (a2 (φ := .f32) fun _ => P.lb) (a3 (φ := .bf16) P.W) (a2 (φ := .f32) P.B) (a2 (φ := .f32) fun _ => P.og)) (tw P X) (fun _ _ _ => 0) 14 := by
  unfold kernelRun0_A.sl.H13_15
  exact Upto.store 13 up_13 rfl _ _ (by unfold kernelRun0_A.sl.r_31; rw [r_7, r_15, v444]; unfold k0_pay94 k0_pay93 k0_pay92; dsimp only; exact (mixGrad _ _ _ 13 rfl _).trans (tw_new P X 13))

theorem v459 : (kernelRun0_A.sl.v459 (F := Ideal) c arg1 harg1 arg2 harg2 arg3 harg3 arg4 harg4 arg5 harg5 arg6 harg6 arg8 harg8 arg9 harg9 arg14 arg16 (a2 (φ := .bf16) X.dy) (a2 (φ := .bf16) X.pu) (a2 (φ := .bf16) X.pv) (a2 (φ := .f32) fun _ => P.lg) (a2 (φ := .f32) fun _ => P.lb) (a3 (φ := .bf16) P.W) (a2 (φ := .f32) P.B) (a2 (φ := .f32) fun _ => P.og))
    = a3 (φ := .f32) fun _ _ _ => 0 := by
  unfold kernelRun0_A.sl.v459; exact (up_14 (P := P) (X := X)).load 14 (by decide) _ rfl _

theorem up_15 : Upto (kernelRun0_A.sl.H13_16 (F := Ideal) c arg1 harg1 arg2 harg2 arg3 harg3 arg4 harg4 arg5 harg5 arg6 harg6 arg8 harg8 arg9 harg9 arg14 arg16 (a2 (φ := .bf16) X.dy) (a2 (φ := .bf16) X.pu) (a2 (φ := .bf16) X.pv) (a2 (φ := .f32) fun _ => P.lg) (a2 (φ := .f32) fun _ => P.lb) (a3 (φ := .bf16) P.W) (a2 (φ := .f32) P.B) (a2 (φ := .f32) fun _ => P.og)) (tw P X) (fun _ _ _ => 0) 15 := by
  unfold kernelRun0_A.sl.H13_16
  exact Upto.store 14 up_14 rfl _ _ (by rw [r_7, r_15, v459]; unfold k0_pay97 k0_pay96; dsimp only; exact (mixGrad _ _ _ 14 rfl _).trans (tw_new P X 14))

theorem v474 : (kernelRun0_A.sl.v474 (F := Ideal) c arg1 harg1 arg2 harg2 arg3 harg3 arg4 harg4 arg5 harg5 arg6 harg6 arg8 harg8 arg9 harg9 arg14 arg16 (a2 (φ := .bf16) X.dy) (a2 (φ := .bf16) X.pu) (a2 (φ := .bf16) X.pv) (a2 (φ := .f32) fun _ => P.lg) (a2 (φ := .f32) fun _ => P.lb) (a3 (φ := .bf16) P.W) (a2 (φ := .f32) P.B) (a2 (φ := .f32) fun _ => P.og))
    = a3 (φ := .f32) fun _ _ _ => 0 := by
  unfold kernelRun0_A.sl.v474; exact (up_15 (P := P) (X := X)).load 15 (by decide) _ rfl _

theorem out_13 : (out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 (a2 (φ := .bf16) X.dy) (a2 (φ := .bf16) X.pu) (a2 (φ := .bf16) X.pv) (a2 (φ := .f32) fun _ => P.lg) (a2 (φ := .f32) fun _ => P.lb) (a3 (φ := .bf16) P.W) (a3 (φ := .bf16) fun h q p => P.W h p q) (a2 (φ := .f32) P.B) (a2 (φ := .f32) fun _ => P.og))
    = a3 (φ := .f32) (tw P X) := by
  unfold out0_A_13 kernelRun0_A; dsimp only
  rw [View.read_writes_junk_eq_canon]
  exact Upto.all (Upto.store 15 (up_15 (P := P) (X := X)) rfl _ _ (by unfold kernelRun0_A.sl.r_33; rw [r_7, r_15, v474]; unfold k0_pay101 k0_pay100 k0_pay99; dsimp only; exact (mixGrad _ _ _ 15 rfl _).trans (tw_new P X 15)))

theorem out_10 : (out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 (a2 (φ := .bf16) X.dy) (a2 (φ := .bf16) X.pu) (a2 (φ := .bf16) X.pv) (a2 (φ := .f32) fun _ => P.lg) (a2 (φ := .f32) fun _ => P.lb) (a3 (φ := .bf16) P.W) (a3 (φ := .bf16) fun h q p => P.W h p q) (a2 (φ := .f32) P.B) (a2 (φ := .f32) fun _ => P.og))
    = a2 (φ := .f32) fun _ => tog P X := by
  unfold out0_A_10 kernelRun0_A; dsimp only
  rw [View.read_writes_junk_eq_canon, View.canon_cons_unit_zero zeros2, r_16, r_17, pay45]; exact congrArg _ (funext fun _ => funext fun _ => zero_add _)

theorem out_11 : (out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 (a2 (φ := .bf16) X.dy) (a2 (φ := .bf16) X.pu) (a2 (φ := .bf16) X.pv) (a2 (φ := .f32) fun _ => P.lg) (a2 (φ := .f32) fun _ => P.lb) (a3 (φ := .bf16) P.W) (a3 (φ := .bf16) fun h q p => P.W h p q) (a2 (φ := .f32) P.B) (a2 (φ := .f32) fun _ => P.og))
    = a2 (φ := .f32) fun _ => tlg P X := by
  unfold out0_A_11 kernelRun0_A; dsimp only
  rw [View.read_writes_junk_eq_canon, View.canon_cons_unit_zero zeros2, r_4, v487, v488, pay103]; exact congrArg _ (funext fun _ => funext fun _ => zero_add _)

theorem out_12 : (out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 (a2 (φ := .bf16) X.dy) (a2 (φ := .bf16) X.pu) (a2 (φ := .bf16) X.pv) (a2 (φ := .f32) fun _ => P.lg) (a2 (φ := .f32) fun _ => P.lb) (a3 (φ := .bf16) P.W) (a3 (φ := .bf16) fun h q p => P.W h p q) (a2 (φ := .f32) P.B) (a2 (φ := .f32) fun _ => P.og))
    = a2 (φ := .f32) fun _ => tlb P X := by
  unfold out0_A_12 kernelRun0_A; dsimp only
  rw [View.read_writes_junk_eq_canon, View.canon_cons_unit_zero zeros2, v487, v495, pay104]; exact congrArg _ (funext fun _ => funext fun _ => zero_add _)

theorem out_14 : (out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 (a2 (φ := .bf16) X.dy) (a2 (φ := .bf16) X.pu) (a2 (φ := .bf16) X.pv) (a2 (φ := .f32) fun _ => P.lg) (a2 (φ := .f32) fun _ => P.lb) (a3 (φ := .bf16) P.W) (a3 (φ := .bf16) fun h q p => P.W h p q) (a2 (φ := .f32) P.B) (a2 (φ := .f32) fun _ => P.og))
    = a2 (φ := .f32) (dvs P X) := by
  unfold out0_A_14 kernelRun0_A; dsimp only
  rw [View.read_writes_junk_eq_canon, View.canon_cons_unit_zero zeros2, r_14, v243, pay46]; exact congrArg _ (funext fun _ => funext fun _ => zero_add _)

/-- The two halves' cotangents, side by side. -/
theorem out_9 : (out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 (a2 (φ := .bf16) X.dy) (a2 (φ := .bf16) X.pu) (a2 (φ := .bf16) X.pv) (a2 (φ := .f32) fun _ => P.lg) (a2 (φ := .f32) fun _ => P.lb) (a3 (φ := .bf16) P.W) (a3 (φ := .bf16) fun h q p => P.W h p q) (a2 (φ := .f32) P.B) (a2 (φ := .f32) fun _ => P.og))
    = (a2 fun p (c : Fin 4096) => sides (dpu P X p) (dpv P X p) c : FVec Ideal S128x4096 .bf16) := by
  unfold out0_A_9 kernelRun0_A; dsimp only
  rw [View.read_writes_junk_eq_canon, r, r_13, r_36]
  exact canon_sides _ _ _ _ _ _ rfl (pay108 _ _)

end Cert.KernelIdeal.KerVal.CaseA
-- ==== Proof.KerB.lean ====
/- What the body leaves at a later point, where the five accumulated results hold the sums so far: the named terms of its run over real inputs, the two scratch
   buffers read back whole, and the six results. -/
module

public import proofs.«01_k».proof.Proof.KerHeads
public import proofs.«01_k».proof.Proof.Gen.KernelIdeal.Frame
public import Idealize.ShloMosaic.Lib.Pipeline.ValueKit.Tiles

public section
open Idealize.ShloMosaic Idealize.ShloMosaic.Ideal Idealize.ShloMosaic.ValueIdx
set_option maxRecDepth 16384
noncomputable section

namespace Cert.KernelIdeal.KerVal.CaseB
open Cert.KernelIdeal Cert.KernelIdeal.Gen Cert.Arr Cert.Spec

variable {X : Chunk} {P : Par} {c : Dev nD} {i : grid0.Coords}
variable {arg1 : Memref sig .tc .vmem S128x2048 .bf16} {harg1 : arg1.IsWhole}
variable {arg2 : Memref sig .tc .vmem S128x2048 .bf16} {harg2 : arg2.IsWhole}
variable {arg3 : Memref sig .tc .vmem S128x2048 .bf16} {harg3 : arg3.IsWhole}
variable {arg4 : Memref sig .tc .vmem S1x2048 .f32} {harg4 : arg4.IsWhole}
variable {arg5 : Memref sig .tc .vmem S1x2048 .f32} {harg5 : arg5.IsWhole}
variable {arg6 : Memref sig .tc .vmem S16x128x128 .bf16} {harg6 : arg6.IsWhole}
variable {arg7 : Memref sig .tc .vmem S16x128x128 .bf16} {harg7 : arg7.IsWhole}
variable {arg8 : Memref sig .tc .vmem S128x2048 .f32} {harg8 : arg8.IsWhole}
variable {arg9 : Memref sig .tc .vmem S1x2048 .f32} {harg9 : arg9.IsWhole}
variable {arg10 : Memref sig .tc .vmem S128x4096 .bf16} {harg10 : arg10.IsWhole}
variable {arg11 : Memref sig .tc .vmem S1x2048 .f32} {harg11 : arg11.IsWhole}
variable {arg12 : Memref sig .tc .vmem S1x2048 .f32} {harg12 : arg12.IsWhole}
variable {arg13 : Memref sig .tc .vmem S1x2048 .f32} {harg13 : arg13.IsWhole}
variable {arg14 : Memref sig .tc .vmem S16x128x128 .f32} {harg14 : arg14.IsWhole}
variable {arg15 : Memref sig .tc .vmem S128x2048 .f32} {harg15 : arg15.IsWhole}
variable {arg16 : Memref sig .tc .vmem S128x2048 .f32} {harg16 : arg16.IsWhole}
variable {arg17 : Memref sig .tc .vmem S128x2048 .f32} {harg17 : arg17.IsWhole}
variable {o10 o11 o12 : Fin 2048 → ℝ} {T : Fin 16 → Fin 128 → Fin 128 → ℝ} {o14 : Fin 128 → Fin 2048 → ℝ}

theorem r : (kernelRun0_B.sl.r (F := Ideal) c arg2 harg2 (a2 (φ := .bf16) X.pu))
    = a2 (φ := .f32) X.pu := by
  unfold kernelRun0_B.sl.r; rw [load_all _ _ _ zeros2]; exact pay1 _

theorem r_1 : (kernelRun0_B.sl.r_1 (F := Ideal) c arg3 harg3 (a2 (φ := .bf16) X.pv))
    = a2 (φ := .f32) X.pv := by
  unfold kernelRun0_B.sl.r_1; rw [load_all _ _ _ zeros2]; exact pay2 _

theorem r_2 : (kernelRun0_B.sl.r_2 (F := Ideal) c arg2 harg2 (a2 (φ := .bf16) X.pu))
    = a2 (φ := .f32) (u X) := by
  unfold kernelRun0_B.sl.r_2; rw [load_all _ _ _ zeros2]; exact pay3 _

theorem r_3 : (kernelRun0_B.sl.r_3 (F := Ideal) c arg3 harg3 (a2 (φ := .bf16) X.pv))
    = a2 (φ := .f32) fun p _ => rms (zc (v X p)) := by
  unfold kernelRun0_B.sl.r_3; rw [load_all _ _ _ zeros2]; exact pay5 _

theorem r_4 : (kernelRun0_B.sl.r_4 (F := Ideal) c arg3 harg3 (a2 (φ := .bf16) X.pv))
    = a2 (φ := .f32) (xh X) := by
  unfold kernelRun0_B.sl.r_4; rw [load_all _ _ _ zeros2]; exact pay6 _

theorem r_5 : (kernelRun0_B.sl.r_5 (F := Ideal) c arg3 harg3 arg4 harg4 (a2 (φ := .bf16) X.pv) (a2 (φ := .f32) fun _ => P.lg))
    = a2 (φ := .f32) fun p c => xh X p c * P.lg c := by
  unfold kernelRun0_B.sl.r_5; rw [load_all _ _ _ zeros2, load_all _ _ _ zeros2]; exact pay7 _ _

theorem r_6 : (kernelRun0_B.sl.r_6 (F := Ideal) c arg5 harg5 (a2 (φ := .f32) fun _ => P.lb))
    = a2 (φ := .f32) fun _ => P.lb := by
  unfold kernelRun0_B.sl.r_6; exact load_all _ _ _ zeros2 _

/-- The normalized half. -/
theorem r_7 : (kernelRun0_B.sl.r_7 (F := Ideal) c arg3 harg3 arg4 harg4 arg5 harg5 (a2 (φ := .bf16) X.pv) (a2 (φ := .f32) fun _ => P.lg) (a2 (φ := .f32) fun _ => P.lb))
    = a2 (φ := .bf16) (vn P X) := by
  unfold kernelRun0_B.sl.r_7; rw [r_5, r_6]; exact pay8 _ _

theorem r_8 : (kernelRun0_B.sl.r_8 (F := Ideal) c arg6 harg6 (a3 (φ := .bf16) P.W))
    = a2 (φ := .bf16) (P.W 9) := by
  unfold kernelRun0_B.sl.r_8; rw [plane_of (off := ![9, 0, 0]) _ _ _ 9 rfl]; unfold k0_pay18; exact shapeCast_plane _ _

theorem r_9 : (kernelRun0_B.sl.r_9 (F := Ideal) c arg3 harg3 arg4 harg4 arg5 harg5 (a2 (φ := .bf16) X.pv) (a2 (φ := .f32) fun _ => P.lg) (a2 (φ := .f32) fun _ => P.lb))
    = a2 (φ := .bf16) fun p d => vn P X p (col 9 d) := by
  unfold kernelRun0_B.sl.r_9; rw [r_7]; unfold k0_pay19; exact slice_head _ 9 rfl _

theorem r_10 : (kernelRun0_B.sl.r_10 (F := Ideal) c arg3 harg3 arg4 harg4 arg5 harg5 arg6 harg6 (a2 (φ := .bf16) X.pv) (a2 (φ := .f32) fun _ => P.lg) (a2 (φ := .f32) fun _ => P.lb) (a3 (φ := .bf16) P.W))
    = a2 (φ := .f32) fun p d => ∑ q, P.W 12 p q * vn P X q (col 12 d) := by
  unfold kernelRun0_B.sl.r_10; rw [r_7, plane_of (off := ![12, 0, 0]) _ _ _ 12 rfl]; unfold k0_pay23; exact mixFirst _ _ 12 rfl _

theorem r_11 : (kernelRun0_B.sl.r_11 (F := Ideal) c arg3 harg3 arg4 harg4 arg5 harg5 arg6 harg6 (a2 (φ := .bf16) X.pv) (a2 (φ := .f32) fun _ => P.lg) (a2 (φ := .f32) fun _ => P.lb) (a3 (φ := .bf16) P.W))
    = a2 (φ := .f32) fun p d => ∑ q, P.W 15 p q * vn P X q (col 15 d) := by
  unfold kernelRun0_B.sl.r_11; rw [r_7, plane_of (off := ![15, 0, 0]) _ _ _ 15 rfl]; unfold k0_pay27; exact mixFirst _ _ 15 rfl _

theorem r_12 : (kernelRun0_B.sl.r_12 (F := Ideal) c arg8 harg8 (a2 (φ := .f32) P.B))
    = a2 (φ := .f32) fun p d => P.B p (col 15 d) := by
  unfold kernelRun0_B.sl.r_12; rw [head_of (off := ![0, 1920]) _ _ _ 15 rfl]; unfold k0_pay28; exact shapeCast_self _ _

/-- The mixed half, read back from the first scratch buffer. -/
theorem v203 : (kernelRun0_B.sl.v203 (F := Ideal) c arg3 harg3 arg4 harg4 arg5 harg5 arg6 harg6 arg8 harg8 arg16 (a2 (φ := .bf16) X.pv) (a2 (φ := .f32) fun _ => P.lg) (a2 (φ := .f32) fun _ => P.lb) (a3 (φ := .bf16) P.W) (a2 (φ := .f32) P.B))
    = a2 (φ := .f32) (vs P X) := by
  unfold kernelRun0_B.sl.v203 kernelRun0_B.sl.HS0_16
  exact read_heads _ _ (vs P X) (Blocks.store 15
    (Blocks.store 14
    (Blocks.store 13
    (Blocks.store 12
    (Blocks.store 11
    (Blocks.store 10
    (Blocks.store 9
    (Blocks.store 8
    (Blocks.store 7
    (Blocks.store 6
    (Blocks.store 5
    (Blocks.store 4
    (Blocks.store 3
    (Blocks.store 2
    (Blocks.store 1
    (Blocks.store 0
    (Blocks.none _)
    rfl _ _ ((show _ = _ by rw [r_5, r_6, plane_of (off := ![0, 0, 0]) _ _ _ 0 rfl, head_of (off := ![0, 0]) _ _ _ 0 rfl]; unfold k0_pay9; dsimp only; exact mixLate _ _ _ _ 0 rfl _).trans (vs_head P X 0)))
    rfl _ _ ((show _ = _ by rw [r_5, r_6, plane_of (off := ![1, 0, 0]) _ _ _ 1 rfl, head_of (off := ![0, 128]) _ _ _ 1 rfl]; unfold k0_pay10; dsimp only; exact mixLate _ _ _ _ 1 rfl _).trans (vs_head P X 1)))
    rfl _ _ ((show _ = _ by rw [r_5, r_6, plane_of (off := ![2, 0, 0]) _ _ _ 2 rfl, head_of (off := ![0, 256]) _ _ _ 2 rfl]; unfold k0_pay11; dsimp only; exact mixLate _ _ _ _ 2 rfl _).trans (vs_head P X 2)))
    rfl _ _ ((show _ = _ by rw [r_7, plane_of (off := ![3, 0, 0]) _ _ _ 3 rfl, head_of (off := ![0, 384]) _ _ _ 3 rfl]; unfold k0_pay12; dsimp only; exact mix _ _ _ 3 rfl _).trans (vs_head P X 3)))
    rfl _ _ ((show _ = _ by rw [r_7, plane_of (off := ![4, 0, 0]) _ _ _ 4 rfl, head_of (off := ![0, 512]) _ _ _ 4 rfl]; unfold k0_pay13; dsimp only; exact mix _ _ _ 4 rfl _).trans (vs_head P X 4)))
    rfl _ _ ((show _ = _ by rw [r_7, plane_of (off := ![5, 0, 0]) _ _ _ 5 rfl, head_of (off := ![0, 640]) _ _ _ 5 rfl]; unfold k0_pay14; dsimp only; exact mix _ _ _ 5 rfl _).trans (vs_head P X 5)))
    rfl _ _ ((show _ = _ by rw [r_7, plane_of (off := ![6, 0, 0]) _ _ _ 6 rfl, head_of (off := ![0, 768]) _ _ _ 6 rfl]; unfold k0_pay15; dsimp only; exact mix _ _ _ 6 rfl _).trans (vs_head P X 6)))
    rfl _ _ ((show _ = _ by rw [r_7, plane_of (off := ![7, 0, 0]) _ _ _ 7 rfl, head_of (off := ![0, 896]) _ _ _ 7 rfl]; unfold k0_pay16; dsimp only; exact mix _ _ _ 7 rfl _).trans (vs_head P X 7)))
    rfl _ _ ((show _ = _ by rw [r_7, plane_of (off := ![8, 0, 0]) _ _ _ 8 rfl, head_of (off := ![0, 1024]) _ _ _ 8 rfl]; unfold k0_pay17; dsimp only; exact mix _ _ _ 8 rfl _).trans (vs_head P X 8)))
    rfl _ _ ((show _ = _ by rw [r_8, r_9, head_of (off := ![0, 1152]) _ _ _ 9 rfl]; unfold k0_pay20; dsimp only; exact mixSplit _ _ _).trans (vs_head P X 9)))
    rfl _ _ ((show _ = _ by rw [r_7, plane_of (off := ![10, 0, 0]) _ _ _ 10 rfl, head_of (off := ![0, 1280]) _ _ _ 10 rfl]; unfold k0_pay21; dsimp only; exact mix _ _ _ 10 rfl _).trans (vs_head P X 10)))
    rfl _ _ ((show _ = _ by rw [r_7, plane_of (off := ![11, 0, 0]) _ _ _ 11 rfl, head_of (off := ![0, 1408]) _ _ _ 11 rfl]; unfold k0_pay22; dsimp only; exact mix _ _ _ 11 rfl _).trans (vs_head P X 11)))
    rfl _ _ ((show _ = _ by rw [r_10, head_of (off := ![0, 1536]) _ _ _ 12 rfl]; unfold k0_pay24; dsimp only; exact addBias _ _).trans (vs_head P X 12)))
    rfl _ _ ((show _ = _ by rw [r_7, plane_of (off := ![13, 0, 0]) _ _ _ 13 rfl, head_of (off := ![0, 1664]) _ _ _ 13 rfl]; unfold k0_pay25; dsimp only; exact mix _ _ _ 13 rfl _).trans (vs_head P X 13)))
    rfl _ _ ((show _ = _ by rw [r_7, plane_of (off := ![14, 0, 0]) _ _ _ 14 rfl, head_of (off := ![0, 1792]) _ _ _ 14 rfl]; unfold k0_pay26; dsimp only; exact mix _ _ _ 14 rfl _).trans (vs_head P X 14)))
    rfl _ _ ((show _ = _ by rw [r_11, r_12]; unfold k0_pay29; dsimp only; exact addOnly _ _).trans (vs_head P X 15)))
    (fun y => View.cover_of_tiled_head _ _ _ rfl y) zeros2 _

theorem r_13 : (kernelRun0_B.sl.r_13 (F := Ideal) c arg1 harg1 arg2 harg2 arg3 harg3 arg4 harg4 arg5 harg5 arg6 harg6 arg8 harg8 arg9 harg9 arg16 (a2 (φ := .bf16) X.dy) (a2 (φ := .bf16) X.pu) (a2 (φ := .bf16) X.pv) (a2 (φ := .f32) fun _ => P.lg) (a2 (φ := .f32) fun _ => P.lb) (a3 (φ := .bf16) P.W) (a2 (φ := .f32) P.B) (a2 (φ := .f32) fun _ => P.og))
    = a2 (φ := .f32) fun p c => dbg P X p c * vs P X p c := by
  unfold kernelRun0_B.sl.r_13; rw [r_2, v203, load_all _ _ _ zeros2, load_all _ _ _ zeros2]; exact pay35 _ _ _ _

theorem r_14 : (kernelRun0_B.sl.r_14 (F := Ideal) c arg1 harg1 arg2 harg2 arg3 harg3 arg4 harg4 arg5 harg5 arg6 harg6 arg8 harg8 arg9 harg9 arg16 (a2 (φ := .bf16) X.dy) (a2 (φ := .bf16) X.pu) (a2 (φ := .bf16) X.pv) (a2 (φ := .f32) fun _ => P.lg) (a2 (φ := .f32) fun _ => P.lb) (a3 (φ := .bf16) P.W) (a2 (φ := .f32) P.B) (a2 (φ := .f32) fun _ => P.og))
    = a2 (φ := .f32) (dvs P X) := by
  unfold kernelRun0_B.sl.r_14; rw [r_2, v203, load_all _ _ _ zeros2, load_all _ _ _ zeros2]; exact pay36 _ _ _ _

theorem r_15 : (kernelRun0_B.sl.r_15 (F := Ideal) c arg1 harg1 arg2 harg2 arg3 harg3 arg4 harg4 arg5 harg5 arg6 harg6 arg8 harg8 arg9 harg9 arg16 (a2 (φ := .bf16) X.dy) (a2 (φ := .bf16) X.pu) (a2 (φ := .bf16) X.pv) (a2 (φ := .f32) fun _ => P.lg) (a2 (φ := .f32) fun _ => P.lb) (a3 (φ := .bf16) P.W) (a2 (φ := .f32) P.B) (a2 (φ := .f32) fun _ => P.og))
    = a2 (φ := .bf16) (dvs P X) := by
  unfold kernelRun0_B.sl.r_15; rw [r_2, v203, load_all _ _ _ zeros2, load_all _ _ _ zeros2]; exact pay37 _ _ _ _

theorem r_17 : (kernelRun0_B.sl.r_17 (F := Ideal) c arg1 harg1 arg2 harg2 arg3 harg3 arg4 harg4 arg5 harg5 arg6 harg6 arg8 harg8 arg16 (a2 (φ := .bf16) X.dy) (a2 (φ := .bf16) X.pu) (a2 (φ := .bf16) X.pv) (a2 (φ := .f32) fun _ => P.lg) (a2 (φ := .f32) fun _ => P.lb) (a3 (φ := .bf16) P.W) (a2 (φ := .f32) P.B))
    = a2 (φ := .f32) fun p c => X.dy p c * nb P X p c := by
  unfold kernelRun0_B.sl.r_17; rw [r_2, v203, load_all _ _ _ zeros2]; exact pay44 _ _ _

/-- The cotangent of the normalized half, read back from the second scratch buffer. -/
theorem v487 : (kernelRun0_B.sl.v487 (F := Ideal) c arg1 harg1 arg2 harg2 arg3 harg3 arg4 harg4 arg5 harg5 arg6 harg6 arg7 harg7 arg8 harg8 arg9 harg9 arg16 arg17 (a2 (φ := .bf16) X.dy) (a2 (φ := .bf16) X.pu) (a2 (φ := .bf16) X.pv) (a2 (φ := .f32) fun _ => P.lg) (a2 (φ := .f32) fun _ => P.lb) (a3 (φ := .bf16) P.W) (a3 (φ := .bf16) fun h q p => P.W h p q) (a2 (φ := .f32) P.B) (a2 (φ := .f32) fun _ => P.og))
    = a2 (φ := .f32) (dvn P X) := by
  unfold kernelRun0_B.sl.v487 kernelRun0_B.sl.HS1_16
  exact read_heads _ _ (dvn P X) (Blocks.store 15
    (Blocks.store 14
    (Blocks.store 13
    (Blocks.store 12
    (Blocks.store 11
    (Blocks.store 10
    (Blocks.store 9
    (Blocks.store 8
    (Blocks.store 7
    (Blocks.store 6
    (Blocks.store 5
    (Blocks.store 4
    (Blocks.store 3
    (Blocks.store 2
    (Blocks.store 1
    (Blocks.store 0
    (Blocks.none _)
    rfl _ _ ((show _ = _ by rw [r_15, plane_of (off := ![0, 0, 0]) _ _ _ 0 rfl]; unfold k0_pay49 k0_pay47; dsimp only; exact mixBack _ _ 0 rfl _).trans (dvn_head P X 0)))
    rfl _ _ ((show _ = _ by unfold kernelRun0_B.sl.r_18; rw [r_15, plane_of (off := ![1, 0, 0]) _ _ _ 1 rfl]; unfold k0_pay53 k0_pay50; dsimp only; exact mixBack _ _ 1 rfl _).trans (dvn_head P X 1)))
    rfl _ _ ((show _ = _ by rw [r_15, plane_of (off := ![2, 0, 0]) _ _ _ 2 rfl]; unfold k0_pay56 k0_pay54; dsimp only; exact mixBack _ _ 2 rfl _).trans (dvn_head P X 2)))
    rfl _ _ ((show _ = _ by unfold kernelRun0_B.sl.r_20; rw [r_15, plane_of (off := ![3, 0, 0]) _ _ _ 3 rfl]; unfold k0_pay60 k0_pay57; dsimp only; exact mixBack _ _ 3 rfl _).trans (dvn_head P X 3)))
    rfl _ _ ((show _ = _ by rw [r_15, plane_of (off := ![4, 0, 0]) _ _ _ 4 rfl]; unfold k0_pay63 k0_pay61; dsimp only; exact mixBack _ _ 4 rfl _).trans (dvn_head P X 4)))
    rfl _ _ ((show _ = _ by unfold kernelRun0_B.sl.r_22; rw [r_15, plane_of (off := ![5, 0, 0]) _ _ _ 5 rfl]; unfold k0_pay67 k0_pay64; dsimp only; exact mixBack _ _ 5 rfl _).trans (dvn_head P X 5)))
    rfl _ _ ((show _ = _ by rw [r_15, plane_of (off := ![6, 0, 0]) _ _ _ 6 rfl]; unfold k0_pay70 k0_pay68; dsimp only; exact mixBack _ _ 6 rfl _).trans (dvn_head P X 6)))
    rfl _ _ ((show _ = _ by unfold kernelRun0_B.sl.r_24; rw [r_15, plane_of (off := ![7, 0, 0]) _ _ _ 7 rfl]; unfold k0_pay74 k0_pay71; dsimp only; exact mixBack _ _ 7 rfl _).trans (dvn_head P X 7)))
    rfl _ _ ((show _ = _ by rw [r_15, plane_of (off := ![8, 0, 0]) _ _ _ 8 rfl]; unfold k0_pay77 k0_pay75; dsimp only; exact mixBack _ _ 8 rfl _).trans (dvn_head P X 8)))
    rfl _ _ ((show _ = _ by unfold kernelRun0_B.sl.r_26; rw [r_15, plane_of (off := ![9, 0, 0]) _ _ _ 9 rfl]; unfold k0_pay81 k0_pay78; dsimp only; exact mixBack _ _ 9 rfl _).trans (dvn_head P X 9)))
    rfl _ _ ((show _ = _ by rw [r_15, plane_of (off := ![10, 0, 0]) _ _ _ 10 rfl]; unfold k0_pay84 k0_pay82; dsimp only; exact mixBack _ _ 10 rfl _).trans (dvn_head P X 10)))
    rfl _ _ ((show _ = _ by unfold kernelRun0_B.sl.r_28; rw [r_15, plane_of (off := ![11, 0, 0]) _ _ _ 11 rfl]; unfold k0_pay88 k0_pay85; dsimp only; exact mixBack _ _ 11 rfl _).trans (dvn_head P X 11)))
    rfl _ _ ((show _ = _ by rw [r_15, plane_of (off := ![12, 0, 0]) _ _ _ 12 rfl]; unfold k0_pay91 k0_pay89; dsimp only; exact mixBack _ _ 12 rfl _).trans (dvn_head P X 12)))
    rfl _ _ ((show _ = _ by unfold kernelRun0_B.sl.r_30; rw [r_15, plane_of (off := ![13, 0, 0]) _ _ _ 13 rfl]; unfold k0_pay95 k0_pay92; dsimp only; exact mixBack _ _ 13 rfl _).trans (dvn_head P X 13)))
    rfl _ _ ((show _ = _ by rw [r_15, plane_of (off := ![14, 0, 0]) _ _ _ 14 rfl]; unfold k0_pay98 k0_pay96; dsimp only; exact mixBack _ _ 14 rfl _).trans (dvn_head P X 14)))
    rfl _ _ ((show _ = _ by unfold kernelRun0_B.sl.r_32; rw [r_15, plane_of (off := ![15, 0, 0]) _ _ _ 15 rfl]; unfold k0_pay102 k0_pay99; dsimp only; exact mixBack _ _ 15 rfl _).trans (dvn_head P X 15)))
    (fun y => View.cover_of_tiled_head _ _ _ rfl y) zeros2 _

theorem r_34 : (kernelRun0_B.sl.r_34 (F := Ideal) c arg1 harg1 arg2 harg2 arg3 harg3 arg4 harg4 arg5 harg5 arg6 harg6 arg7 harg7 arg8 harg8 arg9 harg9 arg16 arg17 (a2 (φ := .bf16) X.dy) (a2 (φ := .bf16) X.pu) (a2 (φ := .bf16) X.pv) (a2 (φ := .f32) fun _ => P.lg) (a2 (φ := .f32) fun _ => P.lb) (a3 (φ := .bf16) P.W) (a3 (φ := .bf16) fun h q p => P.W h p q) (a2 (φ := .f32) P.B) (a2 (φ := .f32) fun _ => P.og))
    = a2 (φ := .f32) fun p c => dxh P X p c - mean (dxh P X p) := by
  unfold kernelRun0_B.sl.r_34; rw [v487, load_all _ _ _ zeros2]; exact pay106 _ _

theorem r_35 : (kernelRun0_B.sl.r_35 (F := Ideal) c arg1 harg1 arg2 harg2 arg3 harg3 arg4 harg4 arg5 harg5 arg6 harg6 arg7 harg7 arg8 harg8 arg9 harg9 arg16 arg17 (a2 (φ := .bf16) X.dy) (a2 (φ := .bf16) X.pu) (a2 (φ := .bf16) X.pv) (a2 (φ := .f32) fun _ => P.lg) (a2 (φ := .f32) fun _ => P.lb) (a3 (φ := .bf16) P.W) (a3 (φ := .bf16) fun h q p => P.W h p q) (a2 (φ := .f32) P.B) (a2 (φ := .f32) fun _ => P.og))
    = a1 (φ := .f32) fun p => ∑ c, dxh P X p c * xh X p c := by
  unfold kernelRun0_B.sl.r_35; rw [r_4, v487, load_all _ _ _ zeros2]; exact pay107 _ _ _

/-- The cotangent of the second half. -/
theorem r_36 : (kernelRun0_B.sl.r_36 (F := Ideal) c arg1 harg1 arg2 harg2 arg3 harg3 arg4 harg4 arg5 harg5 arg6 harg6 arg7 harg7 arg8 harg8 arg9 harg9 arg16 arg17 (a2 (φ := .bf16) X.dy) (a2 (φ := .bf16) X.pu) (a2 (φ := .bf16) X.pv) (a2 (φ := .f32) fun _ => P.lg) (a2 (φ := .f32) fun _ => P.lb) (a3 (φ := .bf16) P.W) (a3 (φ := .bf16) fun h q p => P.W h p q) (a2 (φ := .f32) P.B) (a2 (φ := .f32) fun _ => P.og))
    = a2 (φ := .bf16) (dpv P X) := by
  unfold kernelRun0_B.sl.r_36; rw [r_1, r_3, r_4, r_34, r_35]; exact pay109 _ _ _ _ _

theorem r_16 : (kernelRun0_B.sl.r_16 (F := Ideal) c arg11 harg11 (a2 (φ := .f32) fun _ => o10))
    = a2 (φ := .f32) fun _ => o10 := by
  unfold kernelRun0_B.sl.r_16; rw [load_all _ _ _ zeros2]; exact pay43 _

variable {hc0 : ¬ cond0_0 i}

/-- The stack of sixteen: each plane is what it held plus this point's term. -/
theorem out_13 : (out0_B_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 (a2 (φ := .bf16) X.dy) (a2 (φ := .bf16) X.pu) (a2 (φ := .bf16) X.pv) (a2 (φ := .f32) fun _ => P.lg) (a2 (φ := .f32) fun _ => P.lb) (a3 (φ := .bf16) P.W) (a3 (φ := .bf16) fun h q p => P.W h p q) (a2 (φ := .f32) P.B) (a2 (φ := .f32) fun _ => P.og) (a2 (φ := .f32) fun _ => o10) (a2 (φ := .f32) fun _ => o11) (a2 (φ := .f32) fun _ => o12) (a3 (φ := .f32) T) (a2 (φ := .f32) o14))
    = a3 (φ := .f32) fun h p q => T h p q + tw P X h p q := by
  unfold out0_B_13 kernelRun0_B; dsimp only
  rw [View.read_writes_junk_eq_canon]
  exact Below.all (Below.store 15
    (Below.store 14
    (Below.store 13
    (Below.store 12
    (Below.store 11
    (Below.store 10
    (Below.store 9
    (Below.store 8
    (Below.store 7
    (Below.store 6
    (Below.store 5
    (Below.store 4
    (Below.store 3
    (Below.store 2
    (Below.store 1
    (Below.store 0 (Below.none (fun h p q => T h p q + tw P X h p q)) rfl _ _ (by rw [r_7, r_15, sum_of (off := ![0, 0, 0]) _ _ _ 0 rfl]; unfold k0_pay48 k0_pay47; dsimp only; exact mixGrad _ _ _ 0 rfl _)) rfl _ _ (by unfold kernelRun0_B.sl.r_19 kernelRun0_B.sl.v264; rw [r_7, r_15, sum_of (off := ![1, 0, 0]) _ _ _ 1 rfl]; unfold k0_pay52 k0_pay51 k0_pay50; dsimp only; exact mixGrad _ _ _ 1 rfl _)) rfl _ _ (by rw [r_7, r_15]; unfold kernelRun0_B.sl.v279; rw [sum_of (off := ![2, 0, 0]) _ _ _ 2 rfl]; unfold k0_pay55 k0_pay54; dsimp only; exact mixGrad _ _ _ 2 rfl _)) rfl _ _ (by unfold kernelRun0_B.sl.r_21 kernelRun0_B.sl.v294; rw [r_7, r_15, sum_of (off := ![3, 0, 0]) _ _ _ 3 rfl]; unfold k0_pay59 k0_pay58 k0_pay57; dsimp only; exact mixGrad _ _ _ 3 rfl _)) rfl _ _ (by rw [r_7, r_15]; unfold kernelRun0_B.sl.v309; rw [sum_of (off := ![4, 0, 0]) _ _ _ 4 rfl]; unfold k0_pay62 k0_pay61; dsimp only; exact mixGrad _ _ _ 4 rfl _)) rfl _ _ (by unfold kernelRun0_B.sl.r_23 kernelRun0_B.sl.v324; rw [r_7, r_15, sum_of (off := ![5, 0, 0]) _ _ _ 5 rfl]; unfold k0_pay66 k0_pay65 k0_pay64; dsimp only; exact mixGrad _ _ _ 5 rfl _)) rfl _ _ (by rw [r_7, r_15]; unfold kernelRun0_B.sl.v339; rw [sum_of (off := ![6, 0, 0]) _ _ _ 6 rfl]; unfold k0_pay69 k0_pay68; dsimp only; exact mixGrad _ _ _ 6 rfl _)) rfl _ _ (by unfold kernelRun0_B.sl.r_25 kernelRun0_B.sl.v354; rw [r_7, r_15, sum_of (off := ![7, 0, 0]) _ _ _ 7 rfl]; unfold k0_pay73 k0_pay72 k0_pay71; dsimp only; exact mixGrad _ _ _ 7 rfl _)) rfl _ _ (by rw [r_7, r_15]; unfold kernelRun0_B.sl.v369; rw [sum_of (off := ![8, 0, 0]) _ _ _ 8 rfl]; unfold k0_pay76 k0_pay75; dsimp only; exact mixGrad _ _ _ 8 rfl _)) rfl _ _ (by unfold kernelRun0_B.sl.r_27 kernelRun0_B.sl.v384; rw [r_7, r_15, sum_of (off := ![9, 0, 0]) _ _ _ 9 rfl]; unfold k0_pay80 k0_pay79 k0_pay78; dsimp only; exact mixGrad _ _ _ 9 rfl _)) rfl _ _ (by rw [r_7, r_15]; unfold kernelRun0_B.sl.v399; rw [sum_of (off := ![10, 0, 0]) _ _ _ 10 rfl]; unfold k0_pay83 k0_pay82; dsimp only; exact mixGrad _ _ _ 10 rfl _)) rfl _ _ (by unfold kernelRun0_B.sl.r_29 kernelRun0_B.sl.v414; rw [r_7, r_15, sum_of (off := ![11, 0, 0]) _ _ _ 11 rfl]; unfold k0_pay87 k0_pay86 k0_pay85; dsimp only; exact mixGrad _ _ _ 11 rfl _)) rfl _ _ (by rw [r_7, r_15]; unfold kernelRun0_B.sl.v429; rw [sum_of (off := ![12, 0, 0]) _ _ _ 12 rfl]; unfold k0_pay90 k0_pay89; dsimp only; exact mixGrad _ _ _ 12 rfl _)) rfl _ _ (by unfold kernelRun0_B.sl.r_31 kernelRun0_B.sl.v444; rw [r_7, r_15, sum_of (off := ![13, 0, 0]) _ _ _ 13 rfl]; unfold k0_pay94 k0_pay93 k0_pay92; dsimp only; exact mixGrad _ _ _ 13 rfl _)) rfl _ _ (by rw [r_7, r_15]; unfold kernelRun0_B.sl.v459; rw [sum_of (off := ![14, 0, 0]) _ _ _ 14 rfl]; unfold k0_pay97 k0_pay96; dsimp only; exact mixGrad _ _ _ 14 rfl _)) rfl _ _ (by unfold kernelRun0_B.sl.r_33 kernelRun0_B.sl.v474; rw [r_7, r_15, sum_of (off := ![15, 0, 0]) _ _ _ 15 rfl]; unfold k0_pay101 k0_pay100 k0_pay99; dsimp only; exact mixGrad _ _ _ 15 rfl _))

theorem out_10 : (out0_B_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 (a2 (φ := .bf16) X.dy) (a2 (φ := .bf16) X.pu) (a2 (φ := .bf16) X.pv) (a2 (φ := .f32) fun _ => P.lg) (a2 (φ := .f32) fun _ => P.lb) (a3 (φ := .bf16) P.W) (a3 (φ := .bf16) fun h q p => P.W h p q) (a2 (φ := .f32) P.B) (a2 (φ := .f32) fun _ => P.og) (a2 (φ := .f32) fun _ => o10) (a2 (φ := .f32) fun _ => o11) (a2 (φ := .f32) fun _ => o12) (a3 (φ := .f32) T) (a2 (φ := .f32) o14))
    = a2 (φ := .f32) fun _ c => o10 c + tog P X c := by
  unfold out0_B_10 kernelRun0_B; dsimp only
  rw [View.read_writes_junk_eq_canon, View.canon_cons_unit_zero zeros2, r_16, r_17, pay45]; rfl

theorem out_11 : (out0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 (a2 (φ := .bf16) X.dy) (a2 (φ := .bf16) X.pu) (a2 (φ := .bf16) X.pv) (a2 (φ := .f32) fun _ => P.lg) (a2 (φ := .f32) fun _ => P.lb) (a3 (φ := .bf16) P.W) (a3 (φ := .bf16) fun h q p => P.W h p q) (a2 (φ := .f32) P.B) (a2 (φ := .f32) fun _ => P.og) (a2 (φ := .f32) fun _ => o10) (a2 (φ := .f32) fun _ => o11) (a2 (φ := .f32) fun _ => o12) (a3 (φ := .f32) T) (a2 (φ := .f32) o14))
    = a2 (φ := .f32) fun _ c => o11 c + tlg P X c := by
  unfold out0_B_11 kernelRun0_B; dsimp only
  rw [View.read_writes_junk_eq_canon, View.canon_cons_unit_zero zeros2, r_4, v487]
  exact (congrArg (k0_pay103 _ _) (load_all _ _ _ zeros2 _)).trans (pay103 _ _ _)

theorem out_12 : (out0_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 (a2 (φ := .bf16) X.dy) (a2 (φ := .bf16) X.pu) (a2 (φ := .bf16) X.pv) (a2 (φ := .f32) fun _ => P.lg) (a2 (φ := .f32) fun _ => P.lb) (a3 (φ := .bf16) P.W) (a3 (φ := .bf16) fun h q p => P.W h p q) (a2 (φ := .f32) P.B) (a2 (φ := .f32) fun _ => P.og) (a2 (φ := .f32) fun _ => o10) (a2 (φ := .f32) fun _ => o11) (a2 (φ := .f32) fun _ => o12) (a3 (φ := .f32) T) (a2 (φ := .f32) o14))
    = a2 (φ := .f32) fun _ c => o12 c + tlb P X c := by
  unfold out0_B_12 kernelRun0_B; dsimp only
  rw [View.read_writes_junk_eq_canon, View.canon_cons_unit_zero zeros2, v487]
  exact (congrArg (k0_pay104 _) (load_all _ _ _ zeros2 _)).trans (pay104 _ _)

theorem out_14 : (out0_B_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 (a2 (φ := .bf16) X.dy) (a2 (φ := .bf16) X.pu) (a2 (φ := .bf16) X.pv) (a2 (φ := .f32) fun _ => P.lg) (a2 (φ := .f32) fun _ => P.lb) (a3 (φ := .bf16) P.W) (a3 (φ := .bf16) fun h q p => P.W h p q) (a2 (φ := .f32) P.B) (a2 (φ := .f32) fun _ => P.og) (a2 (φ := .f32) fun _ => o10) (a2 (φ := .f32) fun _ => o11) (a2 (φ := .f32) fun _ => o12) (a3 (φ := .f32) T) (a2 (φ := .f32) o14))
    = a2 (φ := .f32) fun p c => o14 p c + dvs P X p c := by
  unfold out0_B_14 kernelRun0_B; dsimp only
  rw [View.read_writes_junk_eq_canon, View.canon_cons_unit_zero zeros2, r_14]
  exact (congrArg (k0_pay46 _) (load_all _ _ _ zeros2 _)).trans (pay46 _ _)

/-- The two halves' cotangents, side by side. -/
theorem out_9 : (out0_B_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 (a2 (φ := .bf16) X.dy) (a2 (φ := .bf16) X.pu) (a2 (φ := .bf16) X.pv) (a2 (φ := .f32) fun _ => P.lg) (a2 (φ := .f32) fun _ => P.lb) (a3 (φ := .bf16) P.W) (a3 (φ := .bf16) fun h q p => P.W h p q) (a2 (φ := .f32) P.B) (a2 (φ := .f32) fun _ => P.og) (a2 (φ := .f32) fun _ => o10) (a2 (φ := .f32) fun _ => o11) (a2 (φ := .f32) fun _ => o12) (a3 (φ := .f32) T) (a2 (φ := .f32) o14))
    = (a2 fun p (c : Fin 4096) => sides (dpu P X p) (dpv P X p) c : FVec Ideal S128x4096 .bf16) := by
  unfold out0_B_9 kernelRun0_B; dsimp only
  rw [View.read_writes_junk_eq_canon, r, r_13, r_36]
  exact canon_sides _ _ _ _ _ _ rfl (pay108 _ _)

end Cert.KernelIdeal.KerVal.CaseB
-- ==== Proof.KerFold.lean ====
/- The five accumulated results after each point: the sums of the chunks' terms so far; and the first result's block at each point. -/
module

public import proofs.«01_k».proof.Proof.KerHost
public import proofs.«01_k».proof.Proof.KerA
public import proofs.«01_k».proof.Proof.KerB

public section
open Idealize.ShloMosaic Idealize.ShloMosaic.Ideal Idealize.ShloMosaic.ValueIdx
set_option maxRecDepth 16384
noncomputable section

namespace Cert.KernelIdeal.KerVal
open Cert.KernelIdeal Cert.KernelIdeal.Gen Cert.Arr Cert.Spec Idealize.ShloMosaic.TcCoe

/-- The sum of the terms of the chunks up to `n`. -/
@[expose] def acc (g : Fin 32 → ℝ) (n : Nat) : ℝ := ∑ i ∈ Finset.range (n + 1), if h : i < 32 then g ⟨i, h⟩ else 0

theorem acc_zero (g : Fin 32 → ℝ) : acc g 0 = g 0 := by
  unfold acc; rw [Finset.sum_range_one]; rfl
theorem acc_succ (g : Fin 32 → ℝ) (n : Nat) (h : n + 1 < 32) : acc g (n + 1) = acc g n + g ⟨n + 1, h⟩ := by
  unfold acc; rw [Finset.sum_range_succ, dif_pos h]
theorem acc_last (g : Fin 32 → ℝ) : acc g 31 = ∑ k, g k := by
  unfold acc
  rw [← Fin.sum_univ_eq_sum_range (fun i => if h : i < 32 then g ⟨i, h⟩ else 0) 32]
  exact Finset.sum_congr rfl fun k _ => dif_pos k.isLt

variable {m : (ℓ : Loc nD τ sig) → Buf (Elt Ideal) ℓ} {c : Dev nD} {I : In}

/-- The contents of the six outputs: the cotangents of chunk `k`, and the five sums over the chunks `acc` takes. -/
@[expose] def outs (I : In) (k : Fin 32) (s : (Fin 32 → ℝ) → ℝ) : FVec Ideal S128x4096 .bf16 × FVec Ideal S1x2048 .f32 × FVec Ideal S1x2048 .f32
    × FVec Ideal S1x2048 .f32 × FVec Ideal S16x128x128 .f32 × FVec Ideal S128x2048 .f32 :=
  (a2 fun p (c : Fin 4096) => sides (dpu (par I) (chunk I k) p) (dpv (par I) (chunk I k) p) c,
   a2 fun _ c => s fun k => tog (par I) (chunk I k) c,
   a2 fun _ c => s fun k => tlg (par I) (chunk I k) c,
   a2 fun _ c => s fun k => tlb (par I) (chunk I k) c,
   a3 fun h p q => s fun k => tw (par I) (chunk I k) h p q,
   a2 fun p c => s fun k => dvs (par I) (chunk I k) p c)

theorem outs_first (H : Holds m c I) (t : Fin cfg0.N) (h0 : t.val % 32 = 0) :
    outsAt0 m c t.val t.isLt = outs I (pt t) fun g => g (pt t) := by
  rw [outsAt0_A m c t h0, blk0 H, blk1 H, blk2 H, blk3 H, blk4 H, blk5 H, blk6 H, blk7 H, blk8 H,
    CaseA.out_9 (X := chunk I (pt t)), CaseA.out_10 (X := chunk I (pt t)), CaseA.out_11, CaseA.out_12, CaseA.out_13, CaseA.out_14]
  rfl

theorem outs_next (H : Holds m c I) (t : Fin cfg0.N) (h0 : ¬t.val % 32 = 0) (k : Fin 32) (s : (Fin 32 → ℝ) → ℝ)
    (ih : ∀ h, outsAt0 m c (t.val - 1) h = outs I k s) :
    outsAt0 m c t.val t.isLt = outs I (pt t) fun g => s g + g (pt t) := by
  rw [outsAt0_B m c t h0, blk0 H, blk1 H, blk2 H, blk3 H, blk4 H, blk5 H, blk6 H, blk7 H, blk8 H, ih]
  unfold outs; dsimp only
  rw [CaseB.out_9 (X := chunk I (pt t)), CaseB.out_10 (X := chunk I (pt t)), CaseB.out_11, CaseB.out_12, CaseB.out_13, CaseB.out_14]

/-- After point `n`. -/
theorem outs_at (H : Holds m c I) : ∀ (n : Nat) (hn : n < cfg0.N), outsAt0 m c n hn = outs I (pt ⟨n, hn⟩) fun g => acc g n
  | 0, hn => (outs_first H ⟨0, hn⟩ rfl).trans (congrArg (outs I _) (funext fun g => (acc_zero g).symm))
  | n + 1, hn => by
    have h32 : n + 1 < 32 := by have h : n + 1 < grid0.N := hn; rw [N_0] at h; exact h
    refine (outs_next H ⟨n + 1, hn⟩ (fun h => ?_) _ _ fun h => outs_at H n (Nat.lt_of_succ_lt hn)).trans
      (congrArg (outs I _) (funext fun g => (acc_succ g n h32).symm))
    have h' : (n + 1) % 32 = 0 := h
    omega

end Cert.KernelIdeal.KerVal
-- ==== Proof.KerFinal.lean ====
/- The six result arrays after the run, over real arguments. -/
module

public import proofs.«01_k».proof.Proof.KerFold
public import Idealize.ShloMosaic.Lib.Pipeline.ValueKit.Geometry

public section
open Idealize.ShloMosaic Idealize.ShloMosaic.Ideal Idealize.ShloMosaic.ValueIdx
set_option maxRecDepth 16384
noncomputable section

namespace Cert.KernelIdeal.KerVal
open Cert.KernelIdeal Cert.KernelIdeal.Gen Cert.Arr Cert.Spec Idealize.ShloMosaic.TcCoe

variable {m : (ℓ : Loc nD τ sig) → Buf (Elt Ideal) ℓ} {c : Dev nD} {I : In}

/-- The last point. -/
@[expose] def last : Fin cfg0.N := ⟨31, by show 31 < grid0.N; rw [N_0]; decide⟩

theorem after_last (H : Holds m c I) : outsAt0 m c last.val last.isLt = outs I (pt last) fun g => ∑ k, g k :=
  (outs_at H 31 _).trans (congrArg (outs I _) (funext fun g => acc_last g))

/-- The cotangent of the gate's scale, -/
theorem final10 (H : Holds m c I) : (dats m 0 c).arrAt 10 cfg0.N = (a2 fun _ c => ∑ k, tog (par I) (chunk I k) c : FVec Ideal S1x2048 .f32) :=
  (dats m 0 c).arrAt_eq_of_after_last 10 last (by decide +kernel) _ fun j => by
    rw [after0_10, after_last H]; rfl
/-- of the layer norm's scale, -/
theorem final11 (H : Holds m c I) : (dats m 0 c).arrAt 11 cfg0.N = (a2 fun _ c => ∑ k, tlg (par I) (chunk I k) c : FVec Ideal S1x2048 .f32) :=
  (dats m 0 c).arrAt_eq_of_after_last 11 last (by decide +kernel) _ fun j => by
    rw [after0_11, after_last H]; rfl
/-- of its shift, -/
theorem final12 (H : Holds m c I) : (dats m 0 c).arrAt 12 cfg0.N = (a2 fun _ c => ∑ k, tlb (par I) (chunk I k) c : FVec Ideal S1x2048 .f32) :=
  (dats m 0 c).arrAt_eq_of_after_last 12 last (by decide +kernel) _ fun j => by
    rw [after0_12, after_last H]; rfl
/-- of the mixing weights, -/
theorem final13 (H : Holds m c I) : (dats m 0 c).arrAt 13 cfg0.N
    = (a3 fun h p q => ∑ k, tw (par I) (chunk I k) h p q : FVec Ideal S16x128x128 .f32) :=
  (dats m 0 c).arrAt_eq_of_after_last 13 last (by decide +kernel) _ fun j => by
    rw [after0_13, after_last H]; rfl
/-- and of the bias before the sum over a head's channels. -/
theorem final14 (H : Holds m c I) : (dats m 0 c).arrAt 14 cfg0.N
    = (a2 fun p c => ∑ k, dvs (par I) (chunk I k) p c : FVec Ideal S128x2048 .f32) :=
  (dats m 0 c).arrAt_eq_of_after_last 14 last (by decide +kernel) _ fun j => by
    rw [after0_14, after_last H]; rfl

theorem flush9 : ∀ t : Fin cfg0.N, (cfg0.win 9).flush t = true := (by decide +kernel : ∀ t : Fin grid0.N, win0_9.flush t = true)

/-- The cotangent of the projection's second half, at any row and column: the two halves of its chunk's block. -/
theorem final9 (H : Holds m c I) (r : Fin 4096) (C : Fin 4096) :
    (dats m 0 c).arrAt 9 cfg0.N (ix2 r ⟨C.val + 4096, by omega⟩ : S4096x8192.Idx)
      = ((sides (dpu (par I) (chunk I ⟨r.val / 128, by omega⟩) ⟨r.val % 128, by omega⟩)
          (dpv (par I) (chunk I ⟨r.val / 128, by omega⟩) ⟨r.val % 128, by omega⟩) C : ℝ) : EReal) := by
  have ht : r.val / 128 < cfg0.N := by show r.val / 128 < grid0.N; rw [N_0]; omega
  let t : Fin cfg0.N := ⟨r.val / 128, ht⟩
  let y : S128x4096.Idx := ix2 ⟨r.val % 128, by omega⟩ C
  have h0 : win0_9.index t 0 = r.val / 128 := congrFun (idx9 t) 0
  have h1 : win0_9.index t 1 = 1 := congrFun (idx9 t) 1
  have e : (ix2 r ⟨C.val + 4096, by omega⟩ : S4096x8192.Idx) = (win0_9.rect t).emb y := funext fun a => match a with
    | ⟨0, _⟩ => Fin.ext (by show r.val = win0_9.index t 0 * 128 + 1 * (r.val % 128); omega)
    | ⟨1, _⟩ => Fin.ext (by show C.val + 4096 = win0_9.index t 1 * 4096 + 1 * C.val; omega)
  refine (congrArg _ e).trans ((congrFun (Value.blocks9 m c t (flush9 t)) y).trans ?_)
  rw [Value.flushed9, outs_at H]
  rfl

end Cert.KernelIdeal.KerVal
-- ==== Proof.Real.lean ====
/- What the precondition and the mask say.  Arguments that meet `finite` are arrays of real numbers; an index that `written` selects
   in the first result lies in the columns from 4096 on. -/
module

public import proofs.«01_k».proof.Proof.KerFinal
public import proofs.«01_k».proof.Defs
public import Idealize.ShloMosaic.Lib.Claim

public section
open Idealize.ShloMosaic Idealize.ShloMosaic.Ideal Idealize.ShloMosaic.ValueIdx
set_option maxRecDepth 16384
noncomputable section

namespace Cert.Real
open Cert.Arr Cert.Spec Cert.KernelIdeal.KerVal Cert.KernelIdeal.Gen Idealize.ShloMosaic.TcCoe

theorem top_bits : Ideal.ofBits .f32 0x7F800000#32 = ⊤ := by simp [Ideal.ofBits, Ideal.ieee]
theorem bot_bits : Ideal.ofBits .f32 0xFF800000#32 = ⊥ := by simp [Ideal.ofBits, Ideal.ieee]

/-- An extended real that is below one infinity and above the other is a real number. -/
theorem real_of (x : EReal)
    (h : IntOp.andi (Ideal.cmp .olt x (Ideal.ofBits .f32 0x7F800000#32)) (Ideal.cmp .ogt x (Ideal.ofBits .f32 0xFF800000#32)) = 1#1) :
    x = ((x.toReal : ℝ) : EReal) := by
  rw [top_bits, bot_bits] at h
  refine (EReal.coe_toReal ?_ ?_).symm
  · rintro rfl
    revert h; simp [IntOp.andi, Ideal.cmp]
  · rintro rfl
    revert h; simp [IntOp.andi, Ideal.cmp]

theorem real2 {l n : Nat} {φ : FTy} (x : FVec Ideal ⟨2, ![l, n]⟩ φ) (h : ∀ i, x i = (((x i : EReal).toReal : ℝ) : EReal)) :
    x = a2 fun p q => (x (ix2 p q) : EReal).toReal := funext fun i => by
  have e : i = ix2 (i 0) (i 1) := funext fun a => match a with
    | ⟨0, _⟩ => rfl
    | ⟨1, _⟩ => rfl
  exact (h i).trans (congrArg (fun j => (((x j : EReal).toReal : ℝ) : EReal)) e)

theorem real3 {k l n : Nat} {φ : FTy} (x : FVec Ideal ⟨3, ![k, l, n]⟩ φ) (h : ∀ i, x i = (((x i : EReal).toReal : ℝ) : EReal)) :
    x = a3 fun o p q => (x (ix3 o p q) : EReal).toReal := funext fun i => by
  have e : i = ix3 (i 0) (i 1) (i 2) := funext fun a => match a with
    | ⟨0, _⟩ => rfl
    | ⟨1, _⟩ => rfl
    | ⟨2, _⟩ => rfl
  exact (h i).trans (congrArg (fun j => (((x j : EReal).toReal : ℝ) : EReal)) e)

theorem real4 {j k l n : Nat} {φ : FTy} (x : FVec Ideal ⟨4, ![j, k, l, n]⟩ φ) (h : ∀ i, x i = (((x i : EReal).toReal : ℝ) : EReal)) :
    x = a4 fun o p q r => (x (ix4 o p q r) : EReal).toReal := funext fun i => by
  have e : i = ix4 (i 0) (i 1) (i 2) (i 3) := funext fun a => match a with
    | ⟨0, _⟩ => rfl
    | ⟨1, _⟩ => rfl
    | ⟨2, _⟩ => rfl
    | ⟨3, _⟩ => rfl
  exact (h i).trans (congrArg (fun j => (((x j : EReal).toReal : ℝ) : EReal)) e)

section Pre
variable [Cert.Pre_finite.Facts]
variable (x0 : FVec Ideal ⟨2, ![4096, 4096]⟩ .bf16) (x1 : FVec Ideal ⟨2, ![4096, 8192]⟩ .bf16) (x2 x3 : FVec Ideal ⟨2, ![1, 2048]⟩ .f32)
  (x4 : FVec Ideal ⟨4, ![1, 16, 128, 128]⟩ .f32) (x5 : FVec Ideal ⟨3, ![1, 16, 128]⟩ .f32) (x6 : FVec Ideal ⟨2, ![1, 2048]⟩ .f32)

/-- The seven arrays of the precondition, element by element. -/
theorem pre0 (h : (Cert.Pre_finite.fn (F := Ideal) x0 x1 x2 x3 x4 x5 x6).1 = fun _ => 1#1) (i) : x0 i = (((x0 i : EReal).toReal : ℝ) : EReal) :=
  real_of _ (congrFun h i)
theorem pre1 (h : (Cert.Pre_finite.fn (F := Ideal) x0 x1 x2 x3 x4 x5 x6).2.1 = fun _ => 1#1) (i) : x1 i = (((x1 i : EReal).toReal : ℝ) : EReal) :=
  real_of _ (congrFun h i)
theorem pre2 (h : (Cert.Pre_finite.fn (F := Ideal) x0 x1 x2 x3 x4 x5 x6).2.2.1 = fun _ => 1#1) (i) : x2 i = (((x2 i : EReal).toReal : ℝ) : EReal) :=
  real_of _ (congrFun h i)
theorem pre3 (h : (Cert.Pre_finite.fn (F := Ideal) x0 x1 x2 x3 x4 x5 x6).2.2.2.1 = fun _ => 1#1) (i) : x3 i = (((x3 i : EReal).toReal : ℝ) : EReal) :=
  real_of _ (congrFun h i)
theorem pre4 (h : (Cert.Pre_finite.fn (F := Ideal) x0 x1 x2 x3 x4 x5 x6).2.2.2.2.1 = fun _ => 1#1) (i) : x4 i = (((x4 i : EReal).toReal : ℝ) : EReal) :=
  real_of _ (congrFun h i)
theorem pre5 (h : (Cert.Pre_finite.fn (F := Ideal) x0 x1 x2 x3 x4 x5 x6).2.2.2.2.2.1 = fun _ => 1#1) (i) : x5 i = (((x5 i : EReal).toReal : ℝ) : EReal) :=
  real_of _ (congrFun h i)
theorem pre6 (h : (Cert.Pre_finite.fn (F := Ideal) x0 x1 x2 x3 x4 x5 x6).2.2.2.2.2.2 = fun _ => 1#1) (i) : x6 i = (((x6 i : EReal).toReal : ℝ) : EReal) :=
  real_of _ (congrFun h i)
end Pre

/-- The real arrays that a memory's arguments hold on one device. -/
@[expose] def reals (m : (ℓ : Loc Cert.KernelIdeal.nD Cert.KernelIdeal.τ Cert.KernelIdeal.sig) → Buf (Elt Ideal) ℓ) (c : Dev Cert.KernelIdeal.nD) : In where
  dy p q := EReal.toReal ((m ((c : Thread Cert.KernelIdeal.nD Cert.KernelIdeal.τ).loc Cert.KernelIdeal.main_arg0) : FVec Ideal ⟨2, ![4096, 4096]⟩ .bf16) (ix2 p q))
  pr p q := EReal.toReal ((m ((c : Thread Cert.KernelIdeal.nD Cert.KernelIdeal.τ).loc Cert.KernelIdeal.main_arg1) : FVec Ideal ⟨2, ![4096, 8192]⟩ .bf16) (ix2 p q))
  lg p q := EReal.toReal ((m ((c : Thread Cert.KernelIdeal.nD Cert.KernelIdeal.τ).loc Cert.KernelIdeal.main_arg2) : FVec Ideal ⟨2, ![1, 2048]⟩ .f32) (ix2 p q))
  lb p q := EReal.toReal ((m ((c : Thread Cert.KernelIdeal.nD Cert.KernelIdeal.τ).loc Cert.KernelIdeal.main_arg3) : FVec Ideal ⟨2, ![1, 2048]⟩ .f32) (ix2 p q))
  w o p q r := EReal.toReal ((m ((c : Thread Cert.KernelIdeal.nD Cert.KernelIdeal.τ).loc Cert.KernelIdeal.main_arg4) : FVec Ideal ⟨4, ![1, 16, 128, 128]⟩ .f32) (ix4 o p q r))
  sb o p q := EReal.toReal ((m ((c : Thread Cert.KernelIdeal.nD Cert.KernelIdeal.τ).loc Cert.KernelIdeal.main_arg5) : FVec Ideal ⟨3, ![1, 16, 128]⟩ .f32) (ix3 o p q))
  og p q := EReal.toReal ((m ((c : Thread Cert.KernelIdeal.nD Cert.KernelIdeal.τ).loc Cert.KernelIdeal.main_arg6) : FVec Ideal ⟨2, ![1, 2048]⟩ .f32) (ix2 p q))

/-- Under the precondition every argument is the array of those reals. -/
theorem holds [Cert.Pre_finite.Facts] (m : (ℓ : Loc Cert.KernelIdeal.nD Cert.KernelIdeal.τ Cert.KernelIdeal.sig) → Buf (Elt Ideal) ℓ)
    (h : Cert.Pre_KernelIdeal_finite m) (c : Dev Cert.KernelIdeal.nD) : Holds m c (reals m c) where
  dy := real2 _ (pre0 _ _ _ _ _ _ _ (h c).1)
  pr := real2 _ (pre1 _ _ _ _ _ _ _ (h c).2.1)
  lg := real2 _ (pre2 _ _ _ _ _ _ _ (h c).2.2.1)
  lb := real2 _ (pre3 _ _ _ _ _ _ _ (h c).2.2.2.1)
  w := real4 _ (pre4 _ _ _ _ _ _ _ (h c).2.2.2.2.1)
  sb := real3 _ (pre5 _ _ _ _ _ _ _ (h c).2.2.2.2.2.1)
  og := real2 _ (pre6 _ _ _ _ _ _ _ (h c).2.2.2.2.2.2)

/-- The first mask selects the columns from 4096 on. -/
theorem mask [Cert.On_written.Facts] (x0 : FVec Ideal ⟨2, ![4096, 4096]⟩ .bf16) (x1 : FVec Ideal ⟨2, ![4096, 8192]⟩ .bf16)
    (x2 x3 : FVec Ideal ⟨2, ![1, 2048]⟩ .f32) (x4 : FVec Ideal ⟨4, ![1, 16, 128, 128]⟩ .f32) (x5 : FVec Ideal ⟨3, ![1, 16, 128]⟩ .f32)
    (x6 : FVec Ideal ⟨2, ![1, 2048]⟩ .f32) (i : (⟨2, ![4096, 8192]⟩ : Shape).Idx)
    (h : (Cert.On_written.fn (F := Ideal) x0 x1 x2 x3 x4 x5 x6).1 i = 1#1) : 4096 ≤ (i 1).val := by
  have h1 : IntOp.cmpi .sge (BitVec.ofNat 32 (i 1).val) 4096#32 = 1#1 := h
  have hi : (i 1).val < 8192 := (i 1).isLt
  by_contra hn
  have hb : (BitVec.ofNat 32 (i 1).val).toInt = (i 1).val := by
    rw [BitVec.toInt_eq_toNat_cond, BitVec.toNat_ofNat, Nat.mod_eq_of_lt (by omega), if_pos (by omega)]
  have hs : (4096#32).sle (BitVec.ofNat 32 (i 1).val) = false := by
    rw [BitVec.sle, hb]
    exact decide_eq_false (by show ¬ ((4096 : Int) ≤ _); omega)
  rw [IntOp.cmpi, show ((4096#32).sle (BitVec.ofNat 32 (i 1).val)) = false from hs] at h1
  exact absurd h1 (by decide)

end Cert.Real
-- ==== Proof.RefA.lean ====
/- The reference's first stages: the arguments' slices and the Gaussian error linear units. -/
module

public import proofs.«01_k».proof.Proof.Gen.ReferenceIdeal.Read
public import proofs.«01_k».proof.Proof.RefArr

public section
open Idealize.ShloMosaic Idealize.ShloMosaic.Ideal Idealize.ShloMosaic.ValueIdx Cert.Arr Cert.Spec
set_option maxRecDepth 16384
noncomputable section

namespace Cert.ReferenceIdeal.RefVal
open Cert.ReferenceIdeal Cert.ReferenceIdeal.Gen Cert.ReferenceIdeal.Read
variable (I : In)
theorem s10 :
    val_main_v10 (F := Ideal) (a2 (φ := .bf16) I.pr) = all I Chunk.pu := by
  funext i
  rw [val_main_v10_apply, val_main_v2_apply, val_main_v1_apply, val_main_v0_apply]
  have h0 : (i 0).val < 2 := (i 0).isLt
  have h1 : (i 1).val < 2048 := (i 1).isLt
  have h2 : (i 2).val < 2048 := (i 2).isLt
  refine congrArg (fun z : ℝ => (z : EReal)) (congrArg₂ I.pr (Fin.ext ?_) (Fin.ext ?_))
  · show (((i 0).val * 2048 + (i 1).val) * 4096 + (i 2).val) / 4096 = ((i 0).val * 16 + (i 1).val / 128) * 128 + (i 1).val % 128; omega
  · show 4096 + (((i 0).val * 2048 + (i 1).val) * 4096 + (i 2).val) % 4096 = (i 2).val + 4096; omega

theorem s11 :
    val_main_v11 (F := Ideal) (a2 (φ := .bf16) I.pr) = all I Chunk.pv := by
  funext i
  rw [val_main_v11_apply, val_main_v2_apply, val_main_v1_apply, val_main_v0_apply]
  have h0 : (i 0).val < 2 := (i 0).isLt
  have h1 : (i 1).val < 2048 := (i 1).isLt
  have h2 : (i 2).val < 2048 := (i 2).isLt
  refine congrArg (fun z : ℝ => (z : EReal)) (congrArg₂ I.pr (Fin.ext ?_) (Fin.ext ?_))
  · show (((i 0).val * 2048 + (i 1).val) * 4096 + (2048 + (i 2).val)) / 4096 = ((i 0).val * 16 + (i 1).val / 128) * 128 + (i 1).val % 128; omega
  · show 4096 + (((i 0).val * 2048 + (i 1).val) * 4096 + (2048 + (i 2).val)) % 4096 = (i 2).val + 6144; omega

theorem s5 :
    val_main_v5 (F := Ideal) (a2 (φ := .bf16) I.dy) = all I Chunk.dy := by
  funext i
  rw [val_main_v5_apply, val_main_v4_apply, val_main_v3_apply]
  have h0 : (i 0).val < 2 := (i 0).isLt
  have h1 : (i 1).val < 2048 := (i 1).isLt
  have h2 : (i 2).val < 2048 := (i 2).isLt
  refine congrArg (fun z : ℝ => (z : EReal)) (congrArg₂ I.dy (Fin.ext ?_) (Fin.ext ?_))
  · show (((i 0).val * 2048 + (i 1).val) * 2048 + (i 2).val) / 2048 = ((i 0).val * 16 + (i 1).val / 128) * 128 + (i 1).val % 128; omega
  · show 2048 + (((i 0).val * 2048 + (i 1).val) * 2048 + (i 2).val) % 2048 = (i 2).val + 2048; omega

theorem s_half :
    val_main_v19 (F := Ideal)  = a0 (φ := .f32) (Real.sqrt (1 / 2)) := by
  funext i
  rw [val_main_v19_apply, val_main_cst_0_apply, Ideal.hostUnary_sqrt_def, Ideal.ofBits_def, c_half, sqrt_real (by norm_num)]
  rfl

theorem s_half2 :
    val_main_v35 (F := Ideal)  = a0 (φ := .f32) (Real.sqrt (1 / 2)) := by
  funext i
  rw [val_main_v35_apply, val_main_cst_4_apply, Ideal.hostUnary_sqrt_def, Ideal.ofBits_def, c_half, sqrt_real (by norm_num)]
  rfl

theorem s25 :
    val_main_v25 (F := Ideal)  = a0 (φ := .f32) (-2 / Real.sqrt Real.pi) := by
  funext i
  rw [val_main_v25_apply, val_main_v24_apply, val_main_v23_apply, val_main_cst_1_apply, val_main_cst_2_apply, Ideal.hostDivf_def, Ideal.hostUnary_sqrt_def, Ideal.hostUnary_acos_def, Ideal.ofBits_def, Ideal.ofBits_def, c_neg_one, c_neg_two,
    Ideal.acos_coe, if_pos (by norm_num), Real.arccos_neg_one, sqrt_real Real.pi_pos.le, div_real _ (Real.sqrt_pos.mpr Real.pi_pos).ne']
  rfl

theorem s41 :
    val_main_v41 (F := Ideal)  = a0 (φ := .f32) (-2 / Real.sqrt Real.pi) := by
  funext i
  rw [val_main_v41_apply, val_main_v40_apply, val_main_v39_apply, val_main_cst_5_apply, val_main_cst_6_apply, Ideal.hostDivf_def, Ideal.hostUnary_sqrt_def, Ideal.hostUnary_acos_def, Ideal.ofBits_def, Ideal.ofBits_def, c_neg_one, c_neg_two,
    Ideal.acos_coe, if_pos (by norm_num), Real.arccos_neg_one, sqrt_real Real.pi_pos.le, div_real _ (Real.sqrt_pos.mpr Real.pi_pos).ne']
  rfl

theorem s17 :
    val_main_v17 (F := Ideal) (a2 (φ := .bf16) I.pr) = all I fun X p c => 1 / 2 * Chunk.pu X p c := by
  funext i
  rw [val_main_v17_apply, val_main_v16_apply, val_main_cst_apply, s10, Ideal.mulf_def, Ideal.ofBits_def, c_half]
  exact (EReal.coe_mul _ _).symm

theorem s21 :
    val_main_v21 (F := Ideal) (a2 (φ := .bf16) I.pr) = all I fun X p c => -Chunk.pu X p c * Real.sqrt (1 / 2) := by
  funext i
  rw [val_main_v21_apply, val_main_v18_apply, val_main_v20_apply, s10, s_half, Ideal.mulf_def, Ideal.hostNegf_def, Ideal.negf_def]
  exact ((EReal.coe_mul _ _).trans (congrArg (· * _) (EReal.coe_neg _))).symm

theorem s22 :
    val_main_v22 (F := Ideal) (a2 (φ := .bf16) I.pr) = all I fun X p c => 1 - erfR (-Chunk.pu X p c * Real.sqrt (1 / 2)) := by
  funext i
  rw [val_main_v22_apply, s21, Ideal.hostUnary_erfc_def]
  exact erfc_real _

theorem s31 :
    val_main_v31 (F := Ideal) (a2 (φ := .bf16) I.pr) = all I u := by
  funext i
  rw [val_main_v31_apply, s17, s22, Ideal.mulf_def]
  exact (EReal.coe_mul _ _).symm.trans (congrArg (fun z : ℝ => (z : EReal)) (gel_erfc _))

theorem s33 :
    val_main_v33 (F := Ideal) (a2 (φ := .bf16) I.pr) = all I fun X p c => 1 / 2 * Chunk.pv X p c := by
  funext i
  rw [val_main_v33_apply, val_main_v32_apply, val_main_cst_3_apply, s11, Ideal.mulf_def, Ideal.ofBits_def, c_half]
  exact (EReal.coe_mul _ _).symm

theorem s37 :
    val_main_v37 (F := Ideal) (a2 (φ := .bf16) I.pr) = all I fun X p c => -Chunk.pv X p c * Real.sqrt (1 / 2) := by
  funext i
  rw [val_main_v37_apply, val_main_v34_apply, val_main_v36_apply, s11, s_half2, Ideal.mulf_def, Ideal.hostNegf_def, Ideal.negf_def]
  exact ((EReal.coe_mul _ _).trans (congrArg (· * _) (EReal.coe_neg _))).symm

theorem s38 :
    val_main_v38 (F := Ideal) (a2 (φ := .bf16) I.pr) = all I fun X p c => 1 - erfR (-Chunk.pv X p c * Real.sqrt (1 / 2)) := by
  funext i
  rw [val_main_v38_apply, s37, Ideal.hostUnary_erfc_def]
  exact erfc_real _

theorem s47 :
    val_main_v47 (F := Ideal) (a2 (φ := .bf16) I.pr) = all I v := by
  funext i
  rw [val_main_v47_apply, s33, s38, Ideal.mulf_def]
  exact (EReal.coe_mul _ _).symm.trans (congrArg (fun z : ℝ => (z : EReal)) (gel_erfc _))

theorem s30 :
    val_main_v30 (F := Ideal) (a2 (φ := .bf16) I.pr) = all I fun X p c => -2 / Real.sqrt Real.pi * Real.exp (-((-Chunk.pu X p c * Real.sqrt (1 / 2)) * (-Chunk.pu X p c * Real.sqrt (1 / 2)))) := by
  funext i
  rw [val_main_v30_apply, val_main_v29_apply, val_main_v28_apply, val_main_v27_apply, val_main_v26_apply, s21, s25, Ideal.mulf_def, Ideal.mulf_def, Ideal.hostUnary_exp_def, Ideal.hostNegf_def, Ideal.negf_def]
  unfold all a3 a0
  rw [← EReal.coe_mul, ← EReal.coe_neg, Ideal.exp_coe, ← EReal.coe_mul]

theorem s46 :
    val_main_v46 (F := Ideal) (a2 (φ := .bf16) I.pr) = all I fun X p c => -2 / Real.sqrt Real.pi * Real.exp (-((-Chunk.pv X p c * Real.sqrt (1 / 2)) * (-Chunk.pv X p c * Real.sqrt (1 / 2)))) := by
  funext i
  rw [val_main_v46_apply, val_main_v45_apply, val_main_v44_apply, val_main_v43_apply, val_main_v42_apply, s37, s41, Ideal.mulf_def, Ideal.mulf_def, Ideal.hostUnary_exp_def, Ideal.hostNegf_def, Ideal.negf_def]
  unfold all a3 a0
  rw [← EReal.coe_mul, ← EReal.coe_neg, Ideal.exp_coe, ← EReal.coe_mul]

end Cert.ReferenceIdeal.RefVal
-- ==== Proof.RefB.lean ====
/- The reference's layer norm, stage by stage. -/
module

public import proofs.«01_k».proof.Proof.Gen.ReferenceIdeal.Read
public import proofs.«01_k».proof.Proof.RefArr
public import proofs.«01_k».proof.Proof.RefA

public section
open Idealize.ShloMosaic Idealize.ShloMosaic.Ideal Idealize.ShloMosaic.ValueIdx Cert.Arr Cert.Spec
set_option maxRecDepth 16384
noncomputable section

namespace Cert.ReferenceIdeal.RefVal
open Cert.ReferenceIdeal Cert.ReferenceIdeal.Gen Cert.ReferenceIdeal.Read
variable (I : In)
/-- The normalized half's centred row, as a function of a chunk. -/
@[expose] def zv (X : Chunk) (p : Fin 128) (c : Fin 2048) : ℝ := zc (v X p) c

theorem s48 :
    val_main_v48 (F := Ideal) (a2 (φ := .bf16) I.pr) = allRow I fun X p => ∑ c, v X p c := by
  funext i
  rw [val_main_v48_apply, val_main_cst_7_apply, s47, Ideal.ofBits_def, c_zero, EReal.coe_zero, zero_add]
  exact Arr.coe_sum Finset.univ _

theorem s51 :
    val_main_v51 (F := Ideal) (a2 (φ := .bf16) I.pr) = allCol I fun X p => mean (v X p) := by
  funext i
  rw [val_main_v51_apply, val_main_v49_apply, val_main_v50_apply, val_main_cst_8_apply, s48, Ideal.hostDivf_def, Ideal.ofBits_def, c_2048]
  exact div_real _ (by norm_num)

theorem s53 :
    val_main_v53 (F := Ideal) (a2 (φ := .bf16) I.pr) = all I zv := by
  funext i
  rw [val_main_v53_apply, val_main_v52_apply, s47, s51, Ideal.subf_def]
  exact (EReal.coe_sub _ _).symm

theorem s54 :
    val_main_v54 (F := Ideal) (a2 (φ := .bf16) I.pr) = all I fun X p c => zv X p c * zv X p c := by
  funext i
  rw [val_main_v54_apply, s53, Ideal.mulf_def]
  exact (EReal.coe_mul _ _).symm

theorem s55 :
    val_main_v55 (F := Ideal) (a2 (φ := .bf16) I.pr) = allRow I fun X p => ∑ c, zv X p c * zv X p c := by
  funext i
  rw [val_main_v55_apply, val_main_cst_9_apply, s54, Ideal.ofBits_def, c_zero, EReal.coe_zero, zero_add]
  exact Arr.coe_sum Finset.univ _

theorem s60 :
    val_main_v60 (F := Ideal) (a2 (φ := .bf16) I.pr) = allCol I fun X p => mean (fun c => zv X p c * zv X p c) + eps := by
  funext i
  rw [val_main_v60_apply, val_main_v58_apply, val_main_v56_apply, val_main_v57_apply, val_main_cst_10_apply, val_main_v59_apply, val_main_cst_11_apply, s55, Ideal.addf_def, Ideal.hostDivf_def, Ideal.ofBits_def, Ideal.ofBits_def, c_2048, c_eps]
  exact (congrArg (· + ((eps : ℝ) : EReal)) (div_real _ (by norm_num))).trans (EReal.coe_add _ _).symm

theorem s61 :
    val_main_v61 (F := Ideal) (a2 (φ := .bf16) I.pr) = allCol I fun X p => rms (zv X p) := by
  funext i
  rw [val_main_v61_apply, s60, Ideal.hostUnary_rsqrt_def]
  exact rsqrt_real (var_pos _)

theorem s64 :
    val_main_v64 (F := Ideal) (a2 (φ := .bf16) I.pr) = allCol I fun X p => -(1 / 2) * (rms (zv X p) / (mean (fun c => zv X p c * zv X p c) + eps)) := by
  funext i
  rw [val_main_v64_apply, val_main_v62_apply, val_main_v63_apply, val_main_cst_12_apply, s61, s60, Ideal.mulf_def, Ideal.hostDivf_def, Ideal.ofBits_def, c_neg_half]
  exact (congrArg (_ * ·) (div_real _ (var_pos _).ne')).trans (EReal.coe_mul _ _).symm

theorem s66 :
    val_main_v66 (F := Ideal) (a2 (φ := .bf16) I.pr) = all I xh := by
  funext i
  rw [val_main_v66_apply, val_main_v65_apply, s53, s61, Ideal.mulf_def]
  exact (EReal.coe_mul _ _).symm

theorem s68 :
    val_main_v68 (F := Ideal) (a2 (φ := .f32) I.lg) = all I fun _ _ c => (par I).lg c := by
  funext i
  rw [val_main_v68_apply, val_main_v67_apply, val_main_v12_apply]
  refine congrArg (fun z : ℝ => (z : EReal)) (congrArg₂ I.lg (Subsingleton.elim _ _) (Fin.ext ?_))
  have h2 : (i 2).val < 2048 := (i 2).isLt
  show (i 2).val % 2048 = (i 2).val; omega

theorem s71 :
    val_main_v71 (F := Ideal) (a2 (φ := .f32) I.lb) = all I fun _ _ c => (par I).lb c := by
  funext i
  rw [val_main_v71_apply, val_main_v70_apply, val_main_v13_apply]
  refine congrArg (fun z : ℝ => (z : EReal)) (congrArg₂ I.lb (Subsingleton.elim _ _) (Fin.ext ?_))
  have h2 : (i 2).val < 2048 := (i 2).isLt
  show (i 2).val % 2048 = (i 2).val; omega

theorem s95 :
    val_main_v95 (F := Ideal) (a2 (φ := .f32) I.og) = all I fun _ _ c => (par I).og c := by
  funext i
  rw [val_main_v95_apply, val_main_v94_apply, val_main_v15_apply]
  refine congrArg (fun z : ℝ => (z : EReal)) (congrArg₂ I.og (Subsingleton.elim _ _) (Fin.ext ?_))
  have h2 : (i 2).val < 2048 := (i 2).isLt
  show (i 2).val % 2048 = (i 2).val; omega

theorem s100 :
    val_main_v100 (F := Ideal) (a2 (φ := .f32) I.og) = all I fun _ _ c => (par I).og c := by
  funext i
  rw [val_main_v100_apply, val_main_v94_apply, val_main_v15_apply]
  refine congrArg (fun z : ℝ => (z : EReal)) (congrArg₂ I.og (Subsingleton.elim _ _) (Fin.ext ?_))
  have h2 : (i 2).val < 2048 := (i 2).isLt
  show (i 2).val % 2048 = (i 2).val; omega

theorem s134 :
    val_main_v134 (F := Ideal) (a2 (φ := .f32) I.lg) = all I fun _ _ c => (par I).lg c := by
  funext i
  rw [val_main_v134_apply, val_main_v67_apply, val_main_v12_apply]
  refine congrArg (fun z : ℝ => (z : EReal)) (congrArg₂ I.lg (Subsingleton.elim _ _) (Fin.ext ?_))
  have h2 : (i 2).val < 2048 := (i 2).isLt
  show (i 2).val % 2048 = (i 2).val; omega

theorem s72 :
    val_main_v72 (F := Ideal) (a2 (φ := .bf16) I.pr) (a2 (φ := .f32) I.lg) (a2 (φ := .f32) I.lb) = all I (vn (par I)) := by
  funext i
  rw [val_main_v72_apply, val_main_v69_apply, s66, s68, s71, Ideal.mulf_def, Ideal.addf_def]
  exact ((EReal.coe_add _ _).trans (congrArg (· + _) (EReal.coe_mul _ _))).symm

end Cert.ReferenceIdeal.RefVal
-- ==== Proof.RefC.lean ====
/- The reference's mixing over positions, the gated branch and the backward pass of its norm. -/
module

public import proofs.«01_k».proof.Proof.Gen.ReferenceIdeal.Read
public import proofs.«01_k».proof.Proof.RefArr
public import proofs.«01_k».proof.Proof.RefB

public section
open Idealize.ShloMosaic Idealize.ShloMosaic.Ideal Idealize.ShloMosaic.ValueIdx Cert.Arr Cert.Spec
set_option maxRecDepth 16384
noncomputable section

namespace Cert.ReferenceIdeal.RefVal
open Cert.ReferenceIdeal Cert.ReferenceIdeal.Gen Cert.ReferenceIdeal.Read
variable (I : In)
theorem s73 :
    val_main_v73 (F := Ideal) (a2 (φ := .bf16) I.pr) (a2 (φ := .f32) I.lg) (a2 (φ := .f32) I.lb) = all5 I (vn (par I)) := by
  funext i
  rw [val_main_v73_apply, s72]
  have h0 : (i 0).val < 2 := (i 0).isLt
  have h1 : (i 1).val < 16 := (i 1).isLt
  have h2 : (i 2).val < 128 := (i 2).isLt
  have h3 : (i 3).val < 16 := (i 3).isLt
  have h4 : (i 4).val < 128 := (i 4).isLt
  refine all_at I (vn (par I)) _ (i 0) (i 1) (i 2) (i 3) (i 4) ?_ ?_ ?_
  · show (((((i 0).val * 16 + (i 1).val) * 128 + (i 2).val) * 16 + (i 3).val) * 128 + (i 4).val) / 4194304 = (i 0).val; omega
  · show (((((i 0).val * 16 + (i 1).val) * 128 + (i 2).val) * 16 + (i 3).val) * 128 + (i 4).val) / 2048 % 2048 = (i 1).val * 128 + (i 2).val; omega
  · show (((((i 0).val * 16 + (i 1).val) * 128 + (i 2).val) * 16 + (i 3).val) * 128 + (i 4).val) % 2048 = (i 3).val * 128 + (i 4).val; omega

theorem s14 :
    val_main_v14 (F := Ideal) (a4 (φ := .f32) I.w) = a3 (φ := .f32) fun h p q => (par I).W h p q := by
  funext i
  rw [val_main_v14_apply]
  have h0 : (i 0).val < 16 := (i 0).isLt
  have h1 : (i 1).val < 128 := (i 1).isLt
  have h2 : (i 2).val < 128 := (i 2).isLt
  refine congrArg (fun z : ℝ => (z : EReal)) ?_
  have e1 : (idx_main_v14 i 1 : Fin 16) = i 0 := Fin.ext (by show (((i 0).val * 128 + (i 1).val) * 128 + (i 2).val) / 16384 % 16 = (i 0).val; omega)
  have e2 : (idx_main_v14 i 2 : Fin 128) = i 1 := Fin.ext (by show (((i 0).val * 128 + (i 1).val) * 128 + (i 2).val) / 128 % 128 = (i 1).val; omega)
  have e3 : (idx_main_v14 i 3 : Fin 128) = i 2 := Fin.ext (by show (((i 0).val * 128 + (i 1).val) * 128 + (i 2).val) % 128 = (i 2).val; omega)
  show I.w (idx_main_v14 i 0) (idx_main_v14 i 1) (idx_main_v14 i 2) (idx_main_v14 i 3) = I.w 0 (i 0) (i 1) (i 2)
  rw [e1, e2, e3]
  rfl

theorem s74 :
    val_main_v74 (F := Ideal) (a2 (φ := .bf16) I.pr) (a2 (φ := .f32) I.lg) (a2 (φ := .f32) I.lb) (a4 (φ := .f32) I.w) = a5 (φ := .f32) fun h b n d p => ∑ q, vn (par I) (chunk I (cn b n)) q (col h d) * (par I).W h p q := by
  funext i
  rw [val_main_v74_apply, s73, s14]
  exact (Finset.sum_congr rfl fun k _ => (EReal.coe_mul _ _).symm).trans (Arr.coe_sum _ _)

theorem s75 :
    val_main_v75 (F := Ideal) (a2 (φ := .bf16) I.pr) (a2 (φ := .f32) I.lg) (a2 (φ := .f32) I.lb) (a4 (φ := .f32) I.w) = all5 I fun X p c => ∑ q, (par I).W (hd c) p q * vn (par I) X q c := by
  funext i
  rw [val_main_v75_apply, s74]
  refine congrArg (fun z : ℝ => (z : EReal)) ?_
  refine Finset.sum_congr rfl fun q _ => ?_
  show vn (par I) (chunk I (cn (i 0) (i 1))) q (col (i 3) (i 4)) * (par I).W (i 3) (i 2) q
    = (par I).W (hd (col (i 3) (i 4))) (i 2) q * vn (par I) (chunk I (cn (i 0) (i 1))) q (col (i 3) (i 4))
  exact (mul_comm _ _).trans (congrArg (fun h => (par I).W h (i 2) q * vn (par I) (chunk I (cn (i 0) (i 1))) q (col (i 3) (i 4))) (hd_col _ _).symm)

theorem s77 :
    val_main_v77 (F := Ideal) (a3 (φ := .f32) I.sb) = all5 I fun _ p c => (par I).B p c := by
  funext i
  rw [val_main_v77_apply, val_main_v76_apply, val_main_v9_apply, val_main_v8_apply, val_main_v7_apply, val_main_v6_apply]
  have h2 : (i 2).val < 128 := (i 2).isLt
  have h3 : (i 3).val < 16 := (i 3).isLt
  have h4 : (i 4).val < 128 := (i 4).isLt
  have e1 : ((idx_main_v6 (idx_main_v7 (idx_main_v8 (idx_main_v9 (idx_main_v76 (idx_main_v77 i)))))) 1 : Fin 16) = hd (col (i 3) (i 4)) :=
    (Fin.ext (by show ((i 3).val * 128 + (i 2).val) / 128 % 16 = (i 3).val; omega)).trans (hd_col _ _).symm
  have e2 : ((idx_main_v6 (idx_main_v7 (idx_main_v8 (idx_main_v9 (idx_main_v76 (idx_main_v77 i)))))) 2 : Fin 128) = i 2 :=
    Fin.ext (by show ((i 3).val * 128 + (i 2).val) % 128 = (i 2).val; omega)
  exact congrArg (fun z : ℝ => (z : EReal)) (congrArg₂ (fun a b => I.sb 0 a b) e1 e2)

theorem s78 :
    val_main_v78 (F := Ideal) (a2 (φ := .bf16) I.pr) (a2 (φ := .f32) I.lg) (a2 (φ := .f32) I.lb) (a4 (φ := .f32) I.w) (a3 (φ := .f32) I.sb) = all5 I (vs (par I)) := by
  funext i
  rw [val_main_v78_apply, s75, s77, Ideal.addf_def]
  exact (EReal.coe_add _ _).symm

theorem s79 :
    val_main_v79 (F := Ideal) (a2 (φ := .bf16) I.pr) (a2 (φ := .f32) I.lg) (a2 (φ := .f32) I.lb) (a4 (φ := .f32) I.w) (a3 (φ := .f32) I.sb) = all I (vs (par I)) := by
  funext i
  rw [val_main_v79_apply, s78]
  have h0 : (i 0).val < 2 := (i 0).isLt
  have h1 : (i 1).val < 2048 := (i 1).isLt
  have h2 : (i 2).val < 2048 := (i 2).isLt
  refine all5_at I (vs (par I)) _ (i 0) (i 1) (i 2) ?_ ?_ ?_ ?_ ?_
  · show (((i 0).val * 2048 + (i 1).val) * 2048 + (i 2).val) / 4194304 = (i 0).val; omega
  · show (((i 0).val * 2048 + (i 1).val) * 2048 + (i 2).val) / 262144 % 16 = (i 1).val / 128; omega
  · show (((i 0).val * 2048 + (i 1).val) * 2048 + (i 2).val) / 2048 % 128 = (i 1).val % 128; omega
  · show (((i 0).val * 2048 + (i 1).val) * 2048 + (i 2).val) / 128 % 16 = (i 2).val / 128; omega
  · show (((i 0).val * 2048 + (i 1).val) * 2048 + (i 2).val) % 128 = (i 2).val % 128; omega

theorem s80 :
    val_main_v80 (F := Ideal) (a2 (φ := .bf16) I.pr) (a2 (φ := .f32) I.lg) (a2 (φ := .f32) I.lb) (a4 (φ := .f32) I.w) (a3 (φ := .f32) I.sb) = all I (bg (par I)) := by
  funext i
  rw [val_main_v80_apply, s31, s79, Ideal.mulf_def]
  exact (EReal.coe_mul _ _).symm

theorem s81 :
    val_main_v81 (F := Ideal) (a2 (φ := .bf16) I.pr) (a2 (φ := .f32) I.lg) (a2 (φ := .f32) I.lb) (a4 (φ := .f32) I.w) (a3 (φ := .f32) I.sb) = all I fun X p c => bg (par I) X p c * bg (par I) X p c := by
  funext i
  rw [val_main_v81_apply, s80, Ideal.mulf_def]
  exact (EReal.coe_mul _ _).symm

theorem s82 :
    val_main_v82 (F := Ideal) (a2 (φ := .bf16) I.pr) (a2 (φ := .f32) I.lg) (a2 (φ := .f32) I.lb) (a4 (φ := .f32) I.w) (a3 (φ := .f32) I.sb) = allRow I fun X p => ∑ c, bg (par I) X p c * bg (par I) X p c := by
  funext i
  rw [val_main_v82_apply, val_main_cst_13_apply, s81, Ideal.ofBits_def, c_zero, EReal.coe_zero, zero_add]
  exact Arr.coe_sum Finset.univ _

theorem s87 :
    val_main_v87 (F := Ideal) (a2 (φ := .bf16) I.pr) (a2 (φ := .f32) I.lg) (a2 (φ := .f32) I.lb) (a4 (φ := .f32) I.w) (a3 (φ := .f32) I.sb) = allCol I fun X p => mean (fun c => bg (par I) X p c * bg (par I) X p c) + eps := by
  funext i
  rw [val_main_v87_apply, val_main_v85_apply, val_main_v83_apply, val_main_v84_apply, val_main_cst_14_apply, val_main_v86_apply, val_main_cst_15_apply, s82, Ideal.addf_def, Ideal.hostDivf_def, Ideal.ofBits_def, Ideal.ofBits_def, c_2048, c_eps]
  exact (congrArg (· + ((eps : ℝ) : EReal)) (div_real _ (by norm_num))).trans (EReal.coe_add _ _).symm

theorem s88 :
    val_main_v88 (F := Ideal) (a2 (φ := .bf16) I.pr) (a2 (φ := .f32) I.lg) (a2 (φ := .f32) I.lb) (a4 (φ := .f32) I.w) (a3 (φ := .f32) I.sb) = allCol I fun X p => rms (bg (par I) X p) := by
  funext i
  rw [val_main_v88_apply, s87, Ideal.hostUnary_rsqrt_def]
  exact rsqrt_real (var_pos _)

theorem s91 :
    val_main_v91 (F := Ideal) (a2 (φ := .bf16) I.pr) (a2 (φ := .f32) I.lg) (a2 (φ := .f32) I.lb) (a4 (φ := .f32) I.w) (a3 (φ := .f32) I.sb) = allCol I fun X p => -(1 / 2) * (rms (bg (par I) X p) / (mean (fun c => bg (par I) X p c * bg (par I) X p c) + eps)) := by
  funext i
  rw [val_main_v91_apply, val_main_v89_apply, val_main_v90_apply, val_main_cst_16_apply, s88, s87, Ideal.mulf_def, Ideal.hostDivf_def, Ideal.ofBits_def, c_neg_half]
  exact (congrArg (_ * ·) (div_real _ (var_pos _).ne')).trans (EReal.coe_mul _ _).symm

theorem s93 :
    val_main_v93 (F := Ideal) (a2 (φ := .bf16) I.pr) (a2 (φ := .f32) I.lg) (a2 (φ := .f32) I.lb) (a4 (φ := .f32) I.w) (a3 (φ := .f32) I.sb) = all I (nb (par I)) := by
  funext i
  rw [val_main_v93_apply, val_main_v92_apply, s80, s88, Ideal.mulf_def]
  exact (EReal.coe_mul _ _).symm

theorem s97 :
    val_main_v97 (F := Ideal) (a2 (φ := .bf16) I.dy) (a2 (φ := .bf16) I.pr) (a2 (φ := .f32) I.lg) (a2 (φ := .f32) I.lb) (a4 (φ := .f32) I.w) (a3 (φ := .f32) I.sb) = all I fun X p c => X.dy p c * nb (par I) X p c := by
  funext i
  rw [val_main_v97_apply, s93, s5, Ideal.mulf_def]
  exact (mul_comm _ _).trans (EReal.coe_mul _ _).symm

theorem s98 :
    val_main_v98 (F := Ideal) (a2 (φ := .bf16) I.dy) (a2 (φ := .bf16) I.pr) (a2 (φ := .f32) I.lg) (a2 (φ := .f32) I.lb) (a4 (φ := .f32) I.w) (a3 (φ := .f32) I.sb) = a1 (φ := .f32) fun c => ∑ k, ∑ p, (fun X p c => X.dy p c * nb (par I) X p c) (chunk I k) p c := by
  unfold val_main_v98
  rw [s97]
  refine (hostSum3 _ _ (fun i => by rw [val_main_cst_17_apply, Ideal.ofBits_def, c_zero]) _ _).trans ?_
  funext i
  exact congrArg (fun z : ℝ => (z : EReal)) (sum_rows_chunks fun k p => (fun X p c => X.dy p c * nb (par I) X p c) (chunk I k) p (i 0))

theorem s102 :
    val_main_v102 (F := Ideal) (a2 (φ := .bf16) I.dy) (a2 (φ := .bf16) I.pr) (a2 (φ := .f32) I.lg) (a2 (φ := .f32) I.lb) (a4 (φ := .f32) I.w) (a3 (φ := .f32) I.sb) = a1 (φ := .f32) fun c => ∑ k, tog (par I) (chunk I k) c := by
  have e : val_main_v99 (F := Ideal) (a2 (φ := .bf16) I.dy) (a2 (φ := .bf16) I.pr) (a2 (φ := .f32) I.lg) (a2 (φ := .f32) I.lb) (a4 (φ := .f32) I.w) (a3 (φ := .f32) I.sb) = a3 (φ := .f32) fun _ _ c => ∑ k, tog (par I) (chunk I k) c := by
    funext i
    rw [val_main_v99_apply, s98]
    refine congrArg (fun z : ℝ => (z : EReal)) (congrArg (fun c => ∑ k, tog (par I) (chunk I k) c) (Fin.ext ?_))
    have h0 : (i 0).val < 1 := (i 0).isLt
    have h1 : (i 1).val < 1 := (i 1).isLt
    show ((i 0).val * 1 + (i 1).val) * 2048 + (i 2).val = (i 2).val; omega
  unfold val_main_v102
  rw [e]
  refine (hostSum3 _ _ (fun i => by rw [val_main_cst_18_apply, Ideal.ofBits_def, c_zero]) _ _).trans ?_
  funext i
  exact congrArg (fun z : ℝ => (z : EReal)) ((Fin.sum_univ_one _).trans (Fin.sum_univ_one _))

theorem s101 :
    val_main_v101 (F := Ideal) (a2 (φ := .bf16) I.dy) (a2 (φ := .f32) I.og) = all I (dnb (par I)) := by
  funext i
  rw [val_main_v101_apply, s5, s100, Ideal.mulf_def]
  exact (EReal.coe_mul _ _).symm

theorem s103 :
    val_main_v103 (F := Ideal) (a2 (φ := .bf16) I.dy) (a2 (φ := .bf16) I.pr) (a2 (φ := .f32) I.lg) (a2 (φ := .f32) I.lb) (a4 (φ := .f32) I.w) (a3 (φ := .f32) I.sb) (a2 (φ := .f32) I.og) = all I fun X p c => bg (par I) X p c * dnb (par I) X p c := by
  funext i
  rw [val_main_v103_apply, s80, s101, Ideal.mulf_def]
  exact (EReal.coe_mul _ _).symm

theorem s104 :
    val_main_v104 (F := Ideal) (a2 (φ := .bf16) I.dy) (a2 (φ := .bf16) I.pr) (a2 (φ := .f32) I.lg) (a2 (φ := .f32) I.lb) (a4 (φ := .f32) I.w) (a3 (φ := .f32) I.sb) (a2 (φ := .f32) I.og) = allRow I fun X p => ∑ c, bg (par I) X p c * dnb (par I) X p c := by
  funext i
  rw [val_main_v104_apply, val_main_cst_19_apply, s103, Ideal.ofBits_def, c_zero, EReal.coe_zero, zero_add]
  exact Arr.coe_sum Finset.univ _

theorem s111 :
    val_main_v111 (F := Ideal) (a2 (φ := .bf16) I.dy) (a2 (φ := .bf16) I.pr) (a2 (φ := .f32) I.lg) (a2 (φ := .f32) I.lb) (a4 (φ := .f32) I.w) (a3 (φ := .f32) I.sb) (a2 (φ := .f32) I.og) = allRow I fun X p => qv (bg (par I) X p) (dnb (par I) X p) := by
  funext i
  rw [val_main_v111_apply, val_main_cst_21_apply, Ideal.ofBits_def, c_zero, EReal.coe_zero, zero_add, Fin.sum_univ_one, val_main_v110_apply, val_main_v108_apply, val_main_v105_apply, val_main_v109_apply, val_main_cst_20_apply, s104, s91, Ideal.hostDivf_def, Ideal.mulf_def, Ideal.ofBits_def, c_2048]
  have h0 : (i 0).val < 2 := (i 0).isLt
  have h1 : (i 1).val < 2048 := (i 1).isLt
  have e0 : (idx_main_v105 (idx_main_v111 i 0) 0 : Fin 2) = i 0 := Fin.ext (by show (((i 0).val * 2048 + (i 1).val) * 1 + 0) / 2048 = (i 0).val; omega)
  have e1 : (idx_main_v105 (idx_main_v111 i 0) 1 : Fin 2048) = i 1 := Fin.ext (by show (((i 0).val * 2048 + (i 1).val) * 1 + 0) % 2048 = (i 1).val; omega)
  have e : idx_main_v105 (idx_main_v111 i 0) = i := (eq_ix2 _).trans ((congrArg₂ ix2 e0 e1).trans (eq_ix2 i).symm)
  rw [e]
  exact (congrArg (Ideal.div · _) (EReal.coe_mul _ _).symm).trans (div_real _ (by norm_num))

theorem s116 :
    val_main_v116 (F := Ideal) (a2 (φ := .bf16) I.dy) (a2 (φ := .bf16) I.pr) (a2 (φ := .f32) I.lg) (a2 (φ := .f32) I.lb) (a4 (φ := .f32) I.w) (a3 (φ := .f32) I.sb) (a2 (φ := .f32) I.og) = all I (dbg (par I)) := by
  funext i
  rw [val_main_v116_apply, val_main_v115_apply, val_main_v114_apply, val_main_v113_apply, val_main_v107_apply, val_main_v106_apply, val_main_v112_apply, s101, s88, s80, s111, Ideal.addf_def, Ideal.addf_def, Ideal.mulf_def, Ideal.mulf_def, Ideal.mulf_def]
  unfold all allCol allRow a3 a2
  rw [← EReal.coe_mul, ← EReal.coe_mul, ← EReal.coe_mul, ← EReal.coe_add, ← EReal.coe_add]
  exact congrArg (fun z : ℝ => (z : EReal)) ((add_assoc _ _ _).trans (rmsB_ad _ _ _))

theorem s117 :
    val_main_v117 (F := Ideal) (a2 (φ := .bf16) I.dy) (a2 (φ := .bf16) I.pr) (a2 (φ := .f32) I.lg) (a2 (φ := .f32) I.lb) (a4 (φ := .f32) I.w) (a3 (φ := .f32) I.sb) (a2 (φ := .f32) I.og) = all I (dvs (par I)) := by
  funext i
  rw [val_main_v117_apply, s31, s116, Ideal.mulf_def]
  exact (mul_comm _ _).trans (EReal.coe_mul _ _).symm

theorem s118 :
    val_main_v118 (F := Ideal) (a2 (φ := .bf16) I.dy) (a2 (φ := .bf16) I.pr) (a2 (φ := .f32) I.lg) (a2 (φ := .f32) I.lb) (a4 (φ := .f32) I.w) (a3 (φ := .f32) I.sb) (a2 (φ := .f32) I.og) = all I fun X p c => dbg (par I) X p c * vs (par I) X p c := by
  funext i
  rw [val_main_v118_apply, s116, s79, Ideal.mulf_def]
  exact (EReal.coe_mul _ _).symm

end Cert.ReferenceIdeal.RefVal
-- ==== Proof.RefD.lean ====
/- The reference's weight, bias and mixed-back gradients, and the sums for the layer norm's parameters. -/
module

public import proofs.«01_k».proof.Proof.Gen.ReferenceIdeal.Read
public import proofs.«01_k».proof.Proof.RefArr
public import proofs.«01_k».proof.Proof.RefC

public section
open Idealize.ShloMosaic Idealize.ShloMosaic.Ideal Idealize.ShloMosaic.ValueIdx Cert.Arr Cert.Spec
set_option maxRecDepth 16384
noncomputable section

namespace Cert.ReferenceIdeal.RefVal
open Cert.ReferenceIdeal Cert.ReferenceIdeal.Gen Cert.ReferenceIdeal.Read
variable (I : In)
theorem s119 :
    val_main_v119 (F := Ideal) (a2 (φ := .bf16) I.dy) (a2 (φ := .bf16) I.pr) (a2 (φ := .f32) I.lg) (a2 (φ := .f32) I.lb) (a4 (φ := .f32) I.w) (a3 (φ := .f32) I.sb) (a2 (φ := .f32) I.og) = all5 I (dvs (par I)) := by
  funext i
  rw [val_main_v119_apply, s117]
  have h0 : (i 0).val < 2 := (i 0).isLt
  have h1 : (i 1).val < 16 := (i 1).isLt
  have h2 : (i 2).val < 128 := (i 2).isLt
  have h3 : (i 3).val < 16 := (i 3).isLt
  have h4 : (i 4).val < 128 := (i 4).isLt
  refine all_at I (dvs (par I)) _ (i 0) (i 1) (i 2) (i 3) (i 4) ?_ ?_ ?_
  · show (((((i 0).val * 16 + (i 1).val) * 128 + (i 2).val) * 16 + (i 3).val) * 128 + (i 4).val) / 4194304 = (i 0).val; omega
  · show (((((i 0).val * 16 + (i 1).val) * 128 + (i 2).val) * 16 + (i 3).val) * 128 + (i 4).val) / 2048 % 2048 = (i 1).val * 128 + (i 2).val; omega
  · show (((((i 0).val * 16 + (i 1).val) * 128 + (i 2).val) * 16 + (i 3).val) * 128 + (i 4).val) % 2048 = (i 3).val * 128 + (i 4).val; omega

theorem s120 :
    val_main_v120 (F := Ideal) (a2 (φ := .bf16) I.dy) (a2 (φ := .bf16) I.pr) (a2 (φ := .f32) I.lg) (a2 (φ := .f32) I.lb) (a4 (φ := .f32) I.w) (a3 (φ := .f32) I.sb) (a2 (φ := .f32) I.og) = a3 (φ := .f32) fun p h d => ∑ k, dvs (par I) (chunk I k) p (col h d) := by
  unfold val_main_v120
  rw [s119]
  refine (hostSum5 _ _ (fun i => by rw [val_main_cst_22_apply, Ideal.ofBits_def, c_zero]) _ _).trans ?_
  funext i
  exact congrArg (fun z : ℝ => (z : EReal)) (sum_chunks fun k => dvs (par I) (chunk I k) (i 0) (col (i 1) (i 2)))

theorem s122 :
    val_main_v122 (F := Ideal) (a2 (φ := .bf16) I.dy) (a2 (φ := .bf16) I.pr) (a2 (φ := .f32) I.lg) (a2 (φ := .f32) I.lb) (a4 (φ := .f32) I.w) (a3 (φ := .f32) I.sb) (a2 (φ := .f32) I.og) = a3 (φ := .f32) fun p h d => ∑ k, dvs (par I) (chunk I k) p (col h d) := by
  have e : val_main_v121 (F := Ideal) (a2 (φ := .bf16) I.dy) (a2 (φ := .bf16) I.pr) (a2 (φ := .f32) I.lg) (a2 (φ := .f32) I.lb) (a4 (φ := .f32) I.w) (a3 (φ := .f32) I.sb) (a2 (φ := .f32) I.og) = a5 (φ := .f32) fun _ _ p h d => ∑ k, dvs (par I) (chunk I k) p (col h d) := by
    funext i
    rw [val_main_v121_apply, s120]
    have h0 : (i 0).val < 1 := (i 0).isLt
    have h1 : (i 1).val < 1 := (i 1).isLt
    have h2 : (i 2).val < 128 := (i 2).isLt
    have h3 : (i 3).val < 16 := (i 3).isLt
    have h4 : (i 4).val < 128 := (i 4).isLt
    have e0 : (idx_main_v121 i 0 : Fin 128) = i 2 := Fin.ext (by
      show (((((i 0).val * 1 + (i 1).val) * 128 + (i 2).val) * 16 + (i 3).val) * 128 + (i 4).val) / 2048 = (i 2).val; omega)
    have e1 : (idx_main_v121 i 1 : Fin 16) = i 3 := Fin.ext (by
      show (((((i 0).val * 1 + (i 1).val) * 128 + (i 2).val) * 16 + (i 3).val) * 128 + (i 4).val) / 128 % 16 = (i 3).val; omega)
    have e2 : (idx_main_v121 i 2 : Fin 128) = i 4 := Fin.ext (by
      show (((((i 0).val * 1 + (i 1).val) * 128 + (i 2).val) * 16 + (i 3).val) * 128 + (i 4).val) % 128 = (i 4).val; omega)
    have e : idx_main_v121 i = ix3 (i 2) (i 3) (i 4) := (eq_ix3 _).trans (congr (congrArg₂ ix3 e0 e1) e2)
    rw [e]; rfl
  unfold val_main_v122
  rw [e]
  refine (hostSum5 _ _ (fun i => by rw [val_main_cst_23_apply, Ideal.ofBits_def, c_zero]) _ _).trans ?_
  funext i
  exact congrArg (fun z : ℝ => (z : EReal)) ((Fin.sum_univ_one _).trans (Fin.sum_univ_one _))

theorem s123 :
    val_main_v123 (F := Ideal) (a2 (φ := .bf16) I.dy) (a2 (φ := .bf16) I.pr) (a2 (φ := .f32) I.lg) (a2 (φ := .f32) I.lb) (a4 (φ := .f32) I.w) (a3 (φ := .f32) I.sb) (a2 (φ := .f32) I.og) = a5 (φ := .f32) fun h b n d p => dvs (par I) (chunk I (cn b n)) p (col h d) := by
  funext i
  rw [val_main_v123_apply, s119]
  rfl

theorem contr3_shape : dot_S16x2x16x128x128_S2x16x128x16x128_S16x128x128_123_014_4_2_0_3.contr = ⟨3, ![2, 16, 128]⟩ :=
  congrArg (Shape.mk 3) (funext fun a => match a with | ⟨0, _⟩ => rfl | ⟨1, _⟩ => rfl | ⟨2, _⟩ => rfl)

/-- An index of a shape with three axes is its three coordinates. -/
def idx3 (S : Shape) (l m n : Nat) (h : S = ⟨3, ![l, m, n]⟩) : S.Idx ≃ Fin l × Fin m × Fin n := by
  subst h
  exact { toFun := fun k => (k 0, k 1, k 2), invFun := fun q => ix3 q.1 q.2.1 q.2.2, left_inv := fun k => (eq_ix3 k).symm, right_inv := fun _ => rfl }
theorem idx3_0 (S : Shape) (l m n : Nat) (h : S = ⟨3, ![l, m, n]⟩) (q : Fin l × Fin m × Fin n) (h0 : 0 < S.rank) :
    ((idx3 S l m n h).symm q ⟨0, h0⟩).val = q.1.val := by
  subst h; rfl
theorem idx3_1 (S : Shape) (l m n : Nat) (h : S = ⟨3, ![l, m, n]⟩) (q : Fin l × Fin m × Fin n) (h0 : 1 < S.rank) :
    ((idx3 S l m n h).symm q ⟨1, h0⟩).val = q.2.1.val := by
  subst h; rfl
theorem idx3_2 (S : Shape) (l m n : Nat) (h : S = ⟨3, ![l, m, n]⟩) (q : Fin l × Fin m × Fin n) (h0 : 2 < S.rank) :
    ((idx3 S l m n h).symm q ⟨2, h0⟩).val = q.2.2.val := by
  subst h; rfl

/-- The indices that the weight gradient's product contracts over: batch member, chunk and lane. -/
def contr3 : dot_S16x2x16x128x128_S2x16x128x16x128_S16x128x128_123_014_4_2_0_3.contr.Idx ≃ Fin 2 × Fin 16 × Fin 128 := idx3 _ _ _ _ contr3_shape

theorem lhs3_0 (i : S16x128x128.Idx) (q : Fin 2 × Fin 16 × Fin 128) :
    (dot_S16x2x16x128x128_S2x16x128x16x128_S16x128x128_123_014_4_2_0_3.lhsIdx i (contr3.symm q) 0).val = (i 0).val := by
  unfold DotDims.lhsIdx
  rw [dif_pos (show (0 : Fin 5) ∈ dot_S16x2x16x128x128_S2x16x128x16x128_S16x128x128_123_014_4_2_0_3.lhsBatch by decide)]; rfl

theorem lhs3_1 (i : S16x128x128.Idx) (q : Fin 2 × Fin 16 × Fin 128) :
    (dot_S16x2x16x128x128_S2x16x128x16x128_S16x128x128_123_014_4_2_0_3.lhsIdx i (contr3.symm q) 1).val = (q.1).val := by
  unfold DotDims.lhsIdx
  rw [dif_neg (show (1 : Fin 5) ∉ dot_S16x2x16x128x128_S2x16x128x16x128_S16x128x128_123_014_4_2_0_3.lhsBatch by decide), dif_neg (show (1 : Fin 5) ∉ dot_S16x2x16x128x128_S2x16x128x16x128_S16x128x128_123_014_4_2_0_3.lhsNonContracting by decide)]; exact idx3_0 _ _ _ _ contr3_shape q (by decide)

theorem lhs3_2 (i : S16x128x128.Idx) (q : Fin 2 × Fin 16 × Fin 128) :
    (dot_S16x2x16x128x128_S2x16x128x16x128_S16x128x128_123_014_4_2_0_3.lhsIdx i (contr3.symm q) 2).val = (q.2.1).val := by
  unfold DotDims.lhsIdx
  rw [dif_neg (show (2 : Fin 5) ∉ dot_S16x2x16x128x128_S2x16x128x16x128_S16x128x128_123_014_4_2_0_3.lhsBatch by decide), dif_neg (show (2 : Fin 5) ∉ dot_S16x2x16x128x128_S2x16x128x16x128_S16x128x128_123_014_4_2_0_3.lhsNonContracting by decide)]; exact idx3_1 _ _ _ _ contr3_shape q (by decide)

theorem lhs3_3 (i : S16x128x128.Idx) (q : Fin 2 × Fin 16 × Fin 128) :
    (dot_S16x2x16x128x128_S2x16x128x16x128_S16x128x128_123_014_4_2_0_3.lhsIdx i (contr3.symm q) 3).val = (q.2.2).val := by
  unfold DotDims.lhsIdx
  rw [dif_neg (show (3 : Fin 5) ∉ dot_S16x2x16x128x128_S2x16x128x16x128_S16x128x128_123_014_4_2_0_3.lhsBatch by decide), dif_neg (show (3 : Fin 5) ∉ dot_S16x2x16x128x128_S2x16x128x16x128_S16x128x128_123_014_4_2_0_3.lhsNonContracting by decide)]; exact idx3_2 _ _ _ _ contr3_shape q (by decide)

theorem lhs3_4 (i : S16x128x128.Idx) (q : Fin 2 × Fin 16 × Fin 128) :
    (dot_S16x2x16x128x128_S2x16x128x16x128_S16x128x128_123_014_4_2_0_3.lhsIdx i (contr3.symm q) 4).val = (i 1).val := by
  unfold DotDims.lhsIdx
  rw [dif_neg (show (4 : Fin 5) ∉ dot_S16x2x16x128x128_S2x16x128x16x128_S16x128x128_123_014_4_2_0_3.lhsBatch by decide), dif_pos (show (4 : Fin 5) ∈ dot_S16x2x16x128x128_S2x16x128x16x128_S16x128x128_123_014_4_2_0_3.lhsNonContracting by decide)]; rfl

theorem rhs3_0 (i : S16x128x128.Idx) (q : Fin 2 × Fin 16 × Fin 128) :
    (dot_S16x2x16x128x128_S2x16x128x16x128_S16x128x128_123_014_4_2_0_3.rhsIdx i (contr3.symm q) 0).val = (q.1).val := by
  unfold DotDims.rhsIdx
  rw [dif_neg (show (0 : Fin 5) ∉ dot_S16x2x16x128x128_S2x16x128x16x128_S16x128x128_123_014_4_2_0_3.rhsBatch by decide), dif_neg (show (0 : Fin 5) ∉ dot_S16x2x16x128x128_S2x16x128x16x128_S16x128x128_123_014_4_2_0_3.rhsNonContracting by decide)]; exact idx3_0 _ _ _ _ contr3_shape q (by decide)

theorem rhs3_1 (i : S16x128x128.Idx) (q : Fin 2 × Fin 16 × Fin 128) :
    (dot_S16x2x16x128x128_S2x16x128x16x128_S16x128x128_123_014_4_2_0_3.rhsIdx i (contr3.symm q) 1).val = (q.2.1).val := by
  unfold DotDims.rhsIdx
  rw [dif_neg (show (1 : Fin 5) ∉ dot_S16x2x16x128x128_S2x16x128x16x128_S16x128x128_123_014_4_2_0_3.rhsBatch by decide), dif_neg (show (1 : Fin 5) ∉ dot_S16x2x16x128x128_S2x16x128x16x128_S16x128x128_123_014_4_2_0_3.rhsNonContracting by decide)]; exact idx3_1 _ _ _ _ contr3_shape q (by decide)

theorem rhs3_2 (i : S16x128x128.Idx) (q : Fin 2 × Fin 16 × Fin 128) :
    (dot_S16x2x16x128x128_S2x16x128x16x128_S16x128x128_123_014_4_2_0_3.rhsIdx i (contr3.symm q) 2).val = (i 2).val := by
  unfold DotDims.rhsIdx
  rw [dif_neg (show (2 : Fin 5) ∉ dot_S16x2x16x128x128_S2x16x128x16x128_S16x128x128_123_014_4_2_0_3.rhsBatch by decide), dif_pos (show (2 : Fin 5) ∈ dot_S16x2x16x128x128_S2x16x128x16x128_S16x128x128_123_014_4_2_0_3.rhsNonContracting by decide)]; rfl

theorem rhs3_3 (i : S16x128x128.Idx) (q : Fin 2 × Fin 16 × Fin 128) :
    (dot_S16x2x16x128x128_S2x16x128x16x128_S16x128x128_123_014_4_2_0_3.rhsIdx i (contr3.symm q) 3).val = (i 0).val := by
  unfold DotDims.rhsIdx
  rw [dif_pos (show (3 : Fin 5) ∈ dot_S16x2x16x128x128_S2x16x128x16x128_S16x128x128_123_014_4_2_0_3.rhsBatch by decide)]; rfl

theorem rhs3_4 (i : S16x128x128.Idx) (q : Fin 2 × Fin 16 × Fin 128) :
    (dot_S16x2x16x128x128_S2x16x128x16x128_S16x128x128_123_014_4_2_0_3.rhsIdx i (contr3.symm q) 4).val = (q.2.2).val := by
  unfold DotDims.rhsIdx
  rw [dif_neg (show (4 : Fin 5) ∉ dot_S16x2x16x128x128_S2x16x128x16x128_S16x128x128_123_014_4_2_0_3.rhsBatch by decide), dif_neg (show (4 : Fin 5) ∉ dot_S16x2x16x128x128_S2x16x128x16x128_S16x128x128_123_014_4_2_0_3.rhsNonContracting by decide)]; exact idx3_2 _ _ _ _ contr3_shape q (by decide)

theorem s124 :
    val_main_v124 (F := Ideal) (a2 (φ := .bf16) I.dy) (a2 (φ := .bf16) I.pr) (a2 (φ := .f32) I.lg) (a2 (φ := .f32) I.lb) (a4 (φ := .f32) I.w) (a3 (φ := .f32) I.sb) (a2 (φ := .f32) I.og) = a3 (φ := .f32) fun h p q => ∑ k, tw (par I) (chunk I k) h p q := by
  funext i
  unfold val_main_v124
  rw [s123, s73]
  simp only [Host.dotGeneral]
  rw [Ideal.dotGeneral_apply, ← Equiv.sum_comp contr3.symm]
  have e : ∀ q : Fin 2 × Fin 16 × Fin 128, (a5 (φ := .f32) fun h b n d p => dvs (par I) (chunk I (cn b n)) p (col h d)) (dot_S16x2x16x128x128_S2x16x128x16x128_S16x128x128_123_014_4_2_0_3.lhsIdx i (contr3.symm q))
      * all5 I (vn (par I)) (dot_S16x2x16x128x128_S2x16x128x16x128_S16x128x128_123_014_4_2_0_3.rhsIdx i (contr3.symm q))
      = ((dvs (par I) (chunk I (cn q.1 q.2.1)) (i 1) (col (i 0) q.2.2) * vn (par I) (chunk I (cn q.1 q.2.1)) (i 2) (col (i 0) q.2.2) : ℝ) : EReal) := by
    intro q
    have el : dot_S16x2x16x128x128_S2x16x128x16x128_S16x128x128_123_014_4_2_0_3.lhsIdx i (contr3.symm q) = ix5 (i 0) q.1 q.2.1 q.2.2 (i 1) := funext fun a => Fin.ext (by
      match a with
      | ⟨0, _⟩ => exact lhs3_0 i q
      | ⟨1, _⟩ => exact lhs3_1 i q
      | ⟨2, _⟩ => exact lhs3_2 i q
      | ⟨3, _⟩ => exact lhs3_3 i q
      | ⟨4, _⟩ => exact lhs3_4 i q)
    have er : dot_S16x2x16x128x128_S2x16x128x16x128_S16x128x128_123_014_4_2_0_3.rhsIdx i (contr3.symm q) = ix5 q.1 q.2.1 (i 2) (i 0) q.2.2 := funext fun a => Fin.ext (by
      match a with
      | ⟨0, _⟩ => exact rhs3_0 i q
      | ⟨1, _⟩ => exact rhs3_1 i q
      | ⟨2, _⟩ => exact rhs3_2 i q
      | ⟨3, _⟩ => exact rhs3_3 i q
      | ⟨4, _⟩ => exact rhs3_4 i q)
    rw [el, er]
    exact (EReal.coe_mul _ _).symm
  rw [Finset.sum_congr rfl fun q _ => e q, Arr.coe_sum, Fintype.sum_prod_type]
  refine congrArg (fun z : ℝ => (z : EReal)) (Eq.trans ?_ (sum_chunks fun k => tw (par I) (chunk I k) (i 0) (i 1) (i 2)))
  exact Finset.sum_congr rfl fun b _ => Fintype.sum_prod_type _

theorem s125 :
    val_main_v125 (F := Ideal) (a2 (φ := .bf16) I.dy) (a2 (φ := .bf16) I.pr) (a2 (φ := .f32) I.lg) (a2 (φ := .f32) I.lb) (a4 (φ := .f32) I.w) (a3 (φ := .f32) I.sb) (a2 (φ := .f32) I.og) = a5 (φ := .f32) fun h b n d q => ∑ p, dvs (par I) (chunk I (cn b n)) p (col h d) * (par I).W h p q := by
  funext i
  rw [val_main_v125_apply, s123, s14]
  exact (Finset.sum_congr rfl fun k _ => (EReal.coe_mul _ _).symm).trans (Arr.coe_sum _ _)

theorem s126 :
    val_main_v126 (F := Ideal) (a2 (φ := .bf16) I.dy) (a2 (φ := .bf16) I.pr) (a2 (φ := .f32) I.lg) (a2 (φ := .f32) I.lb) (a4 (φ := .f32) I.w) (a3 (φ := .f32) I.sb) (a2 (φ := .f32) I.og) = all5 I (dvn (par I)) := by
  funext i
  rw [val_main_v126_apply, s125]
  refine congrArg (fun z : ℝ => (z : EReal)) ?_
  refine Finset.sum_congr rfl fun p _ => ?_
  exact (mul_comm _ _).trans (congrArg (fun h => (par I).W h p (i 2) * dvs (par I) (chunk I (cn (i 0) (i 1))) p (col (i 3) (i 4))) (hd_col _ _).symm)

theorem s127 :
    val_main_v127 (F := Ideal) (a2 (φ := .bf16) I.dy) (a2 (φ := .bf16) I.pr) (a2 (φ := .f32) I.lg) (a2 (φ := .f32) I.lb) (a4 (φ := .f32) I.w) (a3 (φ := .f32) I.sb) (a2 (φ := .f32) I.og) = all I (dvn (par I)) := by
  funext i
  rw [val_main_v127_apply, s126]
  have h0 : (i 0).val < 2 := (i 0).isLt
  have h1 : (i 1).val < 2048 := (i 1).isLt
  have h2 : (i 2).val < 2048 := (i 2).isLt
  refine all5_at I (dvn (par I)) _ (i 0) (i 1) (i 2) ?_ ?_ ?_ ?_ ?_
  · show (((i 0).val * 2048 + (i 1).val) * 2048 + (i 2).val) / 4194304 = (i 0).val; omega
  · show (((i 0).val * 2048 + (i 1).val) * 2048 + (i 2).val) / 262144 % 16 = (i 1).val / 128; omega
  · show (((i 0).val * 2048 + (i 1).val) * 2048 + (i 2).val) / 2048 % 128 = (i 1).val % 128; omega
  · show (((i 0).val * 2048 + (i 1).val) * 2048 + (i 2).val) / 128 % 16 = (i 2).val / 128; omega
  · show (((i 0).val * 2048 + (i 1).val) * 2048 + (i 2).val) % 128 = (i 2).val % 128; omega

theorem s128 :
    val_main_v128 (F := Ideal) (a2 (φ := .bf16) I.dy) (a2 (φ := .bf16) I.pr) (a2 (φ := .f32) I.lg) (a2 (φ := .f32) I.lb) (a4 (φ := .f32) I.w) (a3 (φ := .f32) I.sb) (a2 (φ := .f32) I.og) = a1 (φ := .f32) fun c => ∑ k, ∑ p, dvn (par I) (chunk I k) p c := by
  unfold val_main_v128
  rw [s127]
  refine (hostSum3 _ _ (fun i => by rw [val_main_cst_24_apply, Ideal.ofBits_def, c_zero]) _ _).trans ?_
  funext i
  exact congrArg (fun z : ℝ => (z : EReal)) (sum_rows_chunks fun k p => dvn (par I) (chunk I k) p (i 0))

theorem s130 :
    val_main_v130 (F := Ideal) (a2 (φ := .bf16) I.dy) (a2 (φ := .bf16) I.pr) (a2 (φ := .f32) I.lg) (a2 (φ := .f32) I.lb) (a4 (φ := .f32) I.w) (a3 (φ := .f32) I.sb) (a2 (φ := .f32) I.og) = a1 (φ := .f32) fun c => ∑ k, tlb (par I) (chunk I k) c := by
  have e : val_main_v129 (F := Ideal) (a2 (φ := .bf16) I.dy) (a2 (φ := .bf16) I.pr) (a2 (φ := .f32) I.lg) (a2 (φ := .f32) I.lb) (a4 (φ := .f32) I.w) (a3 (φ := .f32) I.sb) (a2 (φ := .f32) I.og) = a3 (φ := .f32) fun _ _ c => ∑ k, tlb (par I) (chunk I k) c := by
    funext i
    rw [val_main_v129_apply, s128]
    refine congrArg (fun z : ℝ => (z : EReal)) (congrArg (fun c => ∑ k, tlb (par I) (chunk I k) c) (Fin.ext ?_))
    have h0 : (i 0).val < 1 := (i 0).isLt
    have h1 : (i 1).val < 1 := (i 1).isLt
    show ((i 0).val * 1 + (i 1).val) * 2048 + (i 2).val = (i 2).val; omega
  unfold val_main_v130
  rw [e]
  refine (hostSum3 _ _ (fun i => by rw [val_main_cst_25_apply, Ideal.ofBits_def, c_zero]) _ _).trans ?_
  funext i
  exact congrArg (fun z : ℝ => (z : EReal)) ((Fin.sum_univ_one _).trans (Fin.sum_univ_one _))

theorem s131 :
    val_main_v131 (F := Ideal) (a2 (φ := .bf16) I.dy) (a2 (φ := .bf16) I.pr) (a2 (φ := .f32) I.lg) (a2 (φ := .f32) I.lb) (a4 (φ := .f32) I.w) (a3 (φ := .f32) I.sb) (a2 (φ := .f32) I.og) = all I fun X p c => dvn (par I) X p c * xh X p c := by
  funext i
  rw [val_main_v131_apply, s66, s127, Ideal.mulf_def]
  exact (mul_comm _ _).trans (EReal.coe_mul _ _).symm

theorem s132 :
    val_main_v132 (F := Ideal) (a2 (φ := .bf16) I.dy) (a2 (φ := .bf16) I.pr) (a2 (φ := .f32) I.lg) (a2 (φ := .f32) I.lb) (a4 (φ := .f32) I.w) (a3 (φ := .f32) I.sb) (a2 (φ := .f32) I.og) = a1 (φ := .f32) fun c => ∑ k, ∑ p, (fun X p c => dvn (par I) X p c * xh X p c) (chunk I k) p c := by
  unfold val_main_v132
  rw [s131]
  refine (hostSum3 _ _ (fun i => by rw [val_main_cst_26_apply, Ideal.ofBits_def, c_zero]) _ _).trans ?_
  funext i
  exact congrArg (fun z : ℝ => (z : EReal)) (sum_rows_chunks fun k p => (fun X p c => dvn (par I) X p c * xh X p c) (chunk I k) p (i 0))

theorem s136 :
    val_main_v136 (F := Ideal) (a2 (φ := .bf16) I.dy) (a2 (φ := .bf16) I.pr) (a2 (φ := .f32) I.lg) (a2 (φ := .f32) I.lb) (a4 (φ := .f32) I.w) (a3 (φ := .f32) I.sb) (a2 (φ := .f32) I.og) = a1 (φ := .f32) fun c => ∑ k, tlg (par I) (chunk I k) c := by
  have e : val_main_v133 (F := Ideal) (a2 (φ := .bf16) I.dy) (a2 (φ := .bf16) I.pr) (a2 (φ := .f32) I.lg) (a2 (φ := .f32) I.lb) (a4 (φ := .f32) I.w) (a3 (φ := .f32) I.sb) (a2 (φ := .f32) I.og) = a3 (φ := .f32) fun _ _ c => ∑ k, tlg (par I) (chunk I k) c := by
    funext i
    rw [val_main_v133_apply, s132]
    refine congrArg (fun z : ℝ => (z : EReal)) (congrArg (fun c => ∑ k, tlg (par I) (chunk I k) c) (Fin.ext ?_))
    have h0 : (i 0).val < 1 := (i 0).isLt
    have h1 : (i 1).val < 1 := (i 1).isLt
    show ((i 0).val * 1 + (i 1).val) * 2048 + (i 2).val = (i 2).val; omega
  unfold val_main_v136
  rw [e]
  refine (hostSum3 _ _ (fun i => by rw [val_main_cst_27_apply, Ideal.ofBits_def, c_zero]) _ _).trans ?_
  funext i
  exact congrArg (fun z : ℝ => (z : EReal)) ((Fin.sum_univ_one _).trans (Fin.sum_univ_one _))

end Cert.ReferenceIdeal.RefVal
-- ==== Proof.RefE.lean ====
/- The reference's backward pass of the layer norm and of the Gaussian units, and its results. -/
module

public import proofs.«01_k».proof.Proof.Gen.ReferenceIdeal.Read
public import proofs.«01_k».proof.Proof.RefArr
public import proofs.«01_k».proof.Proof.RefD

public section
open Idealize.ShloMosaic Idealize.ShloMosaic.Ideal Idealize.ShloMosaic.ValueIdx Cert.Arr Cert.Spec
set_option maxRecDepth 16384
noncomputable section

namespace Cert.ReferenceIdeal.RefVal
open Cert.ReferenceIdeal Cert.ReferenceIdeal.Gen Cert.ReferenceIdeal.Read
variable (I : In)
theorem s135 :
    val_main_v135 (F := Ideal) (a2 (φ := .bf16) I.dy) (a2 (φ := .bf16) I.pr) (a2 (φ := .f32) I.lg) (a2 (φ := .f32) I.lb) (a4 (φ := .f32) I.w) (a3 (φ := .f32) I.sb) (a2 (φ := .f32) I.og) = all I (dxh (par I)) := by
  funext i
  rw [val_main_v135_apply, s127, s134, Ideal.mulf_def]
  exact (EReal.coe_mul _ _).symm

theorem s137 :
    val_main_v137 (F := Ideal) (a2 (φ := .bf16) I.dy) (a2 (φ := .bf16) I.pr) (a2 (φ := .f32) I.lg) (a2 (φ := .f32) I.lb) (a4 (φ := .f32) I.w) (a3 (φ := .f32) I.sb) (a2 (φ := .f32) I.og) = all I fun X p c => zv X p c * dxh (par I) X p c := by
  funext i
  rw [val_main_v137_apply, s53, s135, Ideal.mulf_def]
  exact (EReal.coe_mul _ _).symm

theorem s138 :
    val_main_v138 (F := Ideal) (a2 (φ := .bf16) I.dy) (a2 (φ := .bf16) I.pr) (a2 (φ := .f32) I.lg) (a2 (φ := .f32) I.lb) (a4 (φ := .f32) I.w) (a3 (φ := .f32) I.sb) (a2 (φ := .f32) I.og) = allRow I fun X p => ∑ c, zv X p c * dxh (par I) X p c := by
  funext i
  rw [val_main_v138_apply, val_main_cst_28_apply, s137, Ideal.ofBits_def, c_zero, EReal.coe_zero, zero_add]
  exact Arr.coe_sum Finset.univ _

theorem s145 :
    val_main_v145 (F := Ideal) (a2 (φ := .bf16) I.dy) (a2 (φ := .bf16) I.pr) (a2 (φ := .f32) I.lg) (a2 (φ := .f32) I.lb) (a4 (φ := .f32) I.w) (a3 (φ := .f32) I.sb) (a2 (φ := .f32) I.og) = allRow I fun X p => qv (zv X p) (dxh (par I) X p) := by
  funext i
  rw [val_main_v145_apply, val_main_cst_30_apply, Ideal.ofBits_def, c_zero, EReal.coe_zero, zero_add, Fin.sum_univ_one, val_main_v144_apply, val_main_v142_apply, val_main_v139_apply, val_main_v143_apply, val_main_cst_29_apply, s138, s64, Ideal.hostDivf_def, Ideal.mulf_def, Ideal.ofBits_def, c_2048]
  have h0 : (i 0).val < 2 := (i 0).isLt
  have h1 : (i 1).val < 2048 := (i 1).isLt
  have e0 : (idx_main_v139 (idx_main_v145 i 0) 0 : Fin 2) = i 0 := Fin.ext (by show (((i 0).val * 2048 + (i 1).val) * 1 + 0) / 2048 = (i 0).val; omega)
  have e1 : (idx_main_v139 (idx_main_v145 i 0) 1 : Fin 2048) = i 1 := Fin.ext (by show (((i 0).val * 2048 + (i 1).val) * 1 + 0) % 2048 = (i 1).val; omega)
  have e : idx_main_v139 (idx_main_v145 i 0) = i := (eq_ix2 _).trans ((congrArg₂ ix2 e0 e1).trans (eq_ix2 i).symm)
  rw [e]
  exact (congrArg (Ideal.div · _) (EReal.coe_mul _ _).symm).trans (div_real _ (by norm_num))

theorem s150 :
    val_main_v150 (F := Ideal) (a2 (φ := .bf16) I.dy) (a2 (φ := .bf16) I.pr) (a2 (φ := .f32) I.lg) (a2 (φ := .f32) I.lb) (a4 (φ := .f32) I.w) (a3 (φ := .f32) I.sb) (a2 (φ := .f32) I.og) = all I fun X p c => rmsB (zc (v X p)) (dxh (par I) X p) c := by
  funext i
  rw [val_main_v150_apply, val_main_v149_apply, val_main_v148_apply, val_main_v147_apply, val_main_v141_apply, val_main_v140_apply, val_main_v146_apply, s135, s61, s53, s145, Ideal.addf_def, Ideal.addf_def, Ideal.mulf_def, Ideal.mulf_def, Ideal.mulf_def]
  unfold all allCol allRow a3 a2
  rw [← EReal.coe_mul, ← EReal.coe_mul, ← EReal.coe_mul, ← EReal.coe_add, ← EReal.coe_add]
  exact congrArg (fun z : ℝ => (z : EReal)) ((add_assoc _ _ _).trans (rmsB_ad _ _ _))

theorem s151 :
    val_main_v151 (F := Ideal) (a2 (φ := .bf16) I.dy) (a2 (φ := .bf16) I.pr) (a2 (φ := .f32) I.lg) (a2 (φ := .f32) I.lb) (a4 (φ := .f32) I.w) (a3 (φ := .f32) I.sb) (a2 (φ := .f32) I.og) = all I fun X p c => -rmsB (zc (v X p)) (dxh (par I) X p) c := by
  funext i
  rw [val_main_v151_apply, s150, Ideal.hostNegf_def, Ideal.negf_def]
  exact (EReal.coe_neg _).symm

theorem s152 :
    val_main_v152 (F := Ideal) (a2 (φ := .bf16) I.dy) (a2 (φ := .bf16) I.pr) (a2 (φ := .f32) I.lg) (a2 (φ := .f32) I.lb) (a4 (φ := .f32) I.w) (a3 (φ := .f32) I.sb) (a2 (φ := .f32) I.og) = allRow I fun X p => ∑ c, -rmsB (zc (v X p)) (dxh (par I) X p) c := by
  funext i
  rw [val_main_v152_apply, val_main_cst_31_apply, s151, Ideal.ofBits_def, c_zero, EReal.coe_zero, zero_add]
  exact Arr.coe_sum Finset.univ _

theorem s156 :
    val_main_v156 (F := Ideal) (a2 (φ := .bf16) I.dy) (a2 (φ := .bf16) I.pr) (a2 (φ := .f32) I.lg) (a2 (φ := .f32) I.lb) (a4 (φ := .f32) I.w) (a3 (φ := .f32) I.sb) (a2 (φ := .f32) I.og) = allRow I fun X p => (∑ c, -rmsB (zc (v X p)) (dxh (par I) X p) c) / 2048 := by
  funext i
  rw [val_main_v156_apply, val_main_cst_33_apply, Ideal.ofBits_def, c_zero, EReal.coe_zero, zero_add, Fin.sum_univ_one, val_main_v155_apply, val_main_v153_apply, val_main_v154_apply, val_main_cst_32_apply, s152, Ideal.hostDivf_def, Ideal.ofBits_def, c_2048]
  have h0 : (i 0).val < 2 := (i 0).isLt
  have h1 : (i 1).val < 2048 := (i 1).isLt
  have e0 : (idx_main_v153 (idx_main_v156 i 0) 0 : Fin 2) = i 0 := Fin.ext (by show (((i 0).val * 2048 + (i 1).val) * 1 + 0) / 2048 = (i 0).val; omega)
  have e1 : (idx_main_v153 (idx_main_v156 i 0) 1 : Fin 2048) = i 1 := Fin.ext (by show (((i 0).val * 2048 + (i 1).val) * 1 + 0) % 2048 = (i 1).val; omega)
  have e : idx_main_v153 (idx_main_v156 i 0) = i := (eq_ix2 _).trans ((congrArg₂ ix2 e0 e1).trans (eq_ix2 i).symm)
  rw [e]
  exact div_real _ (by norm_num)

theorem s158 :
    val_main_v158 (F := Ideal) (a2 (φ := .bf16) I.dy) (a2 (φ := .bf16) I.pr) (a2 (φ := .f32) I.lg) (a2 (φ := .f32) I.lb) (a4 (φ := .f32) I.w) (a3 (φ := .f32) I.sb) (a2 (φ := .f32) I.og) = all I fun X p c => lnB (v X p) (dxh (par I) X p) c := by
  funext i
  rw [val_main_v158_apply, val_main_v157_apply, s150, s156, Ideal.addf_def]
  exact (EReal.coe_add _ _).symm.trans (congrArg (fun z : ℝ => (z : EReal)) (lnB_ad _ _ _))

theorem s167 :
    val_main_v167 (F := Ideal) (a2 (φ := .bf16) I.dy) (a2 (φ := .bf16) I.pr) (a2 (φ := .f32) I.lg) (a2 (φ := .f32) I.lb) (a4 (φ := .f32) I.w) (a3 (φ := .f32) I.sb) (a2 (φ := .f32) I.og) = all I (dpv (par I)) := by
  funext i
  rw [val_main_v167_apply, val_main_v164_apply, val_main_v163_apply, val_main_v161_apply, val_main_v159_apply, val_main_v162_apply, val_main_v166_apply, val_main_v165_apply, val_main_cst_34_apply, val_main_v160_apply, s33, s46, s38, s158, s_half2, Ideal.addf_def, Ideal.hostNegf_def, Ideal.negf_def,
    Ideal.mulf_def, Ideal.mulf_def, Ideal.mulf_def, Ideal.mulf_def, Ideal.mulf_def, Ideal.ofBits_def, c_half]
  unfold all a3 a0
  rw [← EReal.coe_mul, ← EReal.coe_mul, ← EReal.coe_mul, ← EReal.coe_mul, ← EReal.coe_mul, ← EReal.coe_neg, ← EReal.coe_add]
  exact congrArg (fun z : ℝ => (z : EReal)) (gelD_erfc _ _)

theorem s176 :
    val_main_v176 (F := Ideal) (a2 (φ := .bf16) I.dy) (a2 (φ := .bf16) I.pr) (a2 (φ := .f32) I.lg) (a2 (φ := .f32) I.lb) (a4 (φ := .f32) I.w) (a3 (φ := .f32) I.sb) (a2 (φ := .f32) I.og) = all I (dpu (par I)) := by
  funext i
  rw [val_main_v176_apply, val_main_v173_apply, val_main_v172_apply, val_main_v170_apply, val_main_v168_apply, val_main_v171_apply, val_main_v175_apply, val_main_v174_apply, val_main_cst_35_apply, val_main_v169_apply, s17, s30, s22, s118, s_half, Ideal.addf_def, Ideal.hostNegf_def, Ideal.negf_def,
    Ideal.mulf_def, Ideal.mulf_def, Ideal.mulf_def, Ideal.mulf_def, Ideal.mulf_def, Ideal.ofBits_def, c_half]
  unfold all a3 a0
  rw [← EReal.coe_mul, ← EReal.coe_mul, ← EReal.coe_mul, ← EReal.coe_mul, ← EReal.coe_mul, ← EReal.coe_neg, ← EReal.coe_add]
  exact congrArg (fun z : ℝ => (z : EReal)) (gelD_erfc _ _)

/-- The concatenated columns: past the zeros, the two halves. -/
theorem s178 (y0 : FVec Ideal S2x2048x4096 .f32) (y1 y2 : FVec Ideal S2x2048x2048 .f32)
    (h : Shape.Concatenates [S2x2048x4096, S2x2048x2048, S2x2048x2048] S2x2048x8192 2) (b : Fin 2) (s c : Fin 2048) (hc : c.val < 2048) :
    concatenate S2x2048x8192 2 [⟨S2x2048x4096, y0⟩, ⟨S2x2048x2048, y1⟩, ⟨S2x2048x2048, y2⟩] h (ix3 b s (⟨c.val + 4096, by omega⟩ : Fin 8192)) = y1 (ix3 b s c)
    ∧ concatenate S2x2048x8192 2 [⟨S2x2048x4096, y0⟩, ⟨S2x2048x2048, y1⟩, ⟨S2x2048x2048, y2⟩] h (ix3 b s (⟨c.val + 6144, by omega⟩ : Fin 8192)) = y2 (ix3 b s c) := by
  let xs : List ((s : Shape) × (s.Idx → Elt Ideal .f32)) := [⟨S2x2048x4096, y0⟩, ⟨S2x2048x2048, y1⟩, ⟨S2x2048x2048, y2⟩]
  have off : ∀ (x : Fin 8192) (a : Fin S2x2048x2048.rank), a.cast (rfl : S2x2048x2048.rank = S2x2048x8192.rank) ≠ 2 →
      (ix3 b s c a).val = (ix3 b s x (a.cast (rfl : S2x2048x2048.rank = S2x2048x8192.rank))).val := fun x a ha => by
    match a with
    | ⟨0, _⟩ => rfl
    | ⟨1, _⟩ => rfl
    | ⟨2, _⟩ => exact absurd rfl ha
  exact ⟨concatenate_apply_piece (t := S2x2048x8192) 2 xs h _ 1 (by show 1 < 3; omega) S2x2048x2048 y1 rfl rfl 4096 rfl
      (ix3 b s c) (off _) (by show 4096 + c.val = c.val + 4096; omega),
    concatenate_apply_piece (t := S2x2048x8192) 2 xs h _ 2 (by show 2 < 3; omega) S2x2048x2048 y2 rfl rfl 6144 rfl
      (ix3 b s c) (off _) (by show 6144 + c.val = c.val + 6144; omega)⟩

theorem s180_dpu (r : Fin 4096) (c : Fin 2048) :
    val_main_v180 (F := Ideal) (a2 (φ := .bf16) I.dy) (a2 (φ := .bf16) I.pr) (a2 (φ := .f32) I.lg) (a2 (φ := .f32) I.lb) (a4 (φ := .f32) I.w) (a3 (φ := .f32) I.sb) (a2 (φ := .f32) I.og) (ix2 r ⟨c.val + 4096, by omega⟩) = ((dpu (par I) (chunk I ⟨r.val / 128, by omega⟩) ⟨r.val % 128, by omega⟩ c : ℝ) : EReal) := by
  rw [val_main_v180_apply, val_main_v179_apply, Ideal.truncf_def]
  have hr : r.val < 4096 := r.isLt
  have hc : c.val < 2048 := c.isLt
  unfold val_main_v178
  have e : idx_main_v179 (ix2 r ⟨c.val + 4096, by omega⟩) = ix3 (⟨r.val / 2048, by omega⟩ : Fin 2) (⟨r.val % 2048, by omega⟩ : Fin 2048) (⟨c.val + 4096, by omega⟩ : Fin 8192) :=
    funext fun a => Fin.ext (by
      match a with
      | ⟨0, _⟩ => show (r.val * 8192 + (c.val + 4096)) / 16777216 = r.val / 2048; omega
      | ⟨1, _⟩ => show (r.val * 8192 + (c.val + 4096)) / 8192 % 2048 = r.val % 2048; omega
      | ⟨2, _⟩ => show (r.val * 8192 + (c.val + 4096)) % 8192 = c.val + 4096; omega)
  rw [e]
  refine (s178 _ _ _ _ (⟨r.val / 2048, by omega⟩ : Fin 2) (⟨r.val % 2048, by omega⟩ : Fin 2048) c hc).1.trans ?_
  rw [s176]
  have ek : ck ⟨r.val / 2048, by omega⟩ ⟨r.val % 2048, by omega⟩ = ⟨r.val / 128, by omega⟩ := Fin.ext (by
    show r.val / 2048 * 16 + r.val % 2048 / 128 = r.val / 128; omega)
  have ep : po ⟨r.val % 2048, by omega⟩ = ⟨r.val % 128, by omega⟩ := Fin.ext (by show r.val % 2048 % 128 = r.val % 128; omega)
  show ((dpu (par I) (chunk I (ck ⟨r.val / 2048, _⟩ ⟨r.val % 2048, _⟩)) (po ⟨r.val % 2048, _⟩) c : ℝ) : EReal) = _
  rw [ek, ep]

theorem s180_dpv (r : Fin 4096) (c : Fin 2048) :
    val_main_v180 (F := Ideal) (a2 (φ := .bf16) I.dy) (a2 (φ := .bf16) I.pr) (a2 (φ := .f32) I.lg) (a2 (φ := .f32) I.lb) (a4 (φ := .f32) I.w) (a3 (φ := .f32) I.sb) (a2 (φ := .f32) I.og) (ix2 r ⟨c.val + 6144, by omega⟩) = ((dpv (par I) (chunk I ⟨r.val / 128, by omega⟩) ⟨r.val % 128, by omega⟩ c : ℝ) : EReal) := by
  rw [val_main_v180_apply, val_main_v179_apply, Ideal.truncf_def]
  have hr : r.val < 4096 := r.isLt
  have hc : c.val < 2048 := c.isLt
  unfold val_main_v178
  have e : idx_main_v179 (ix2 r ⟨c.val + 6144, by omega⟩) = ix3 (⟨r.val / 2048, by omega⟩ : Fin 2) (⟨r.val % 2048, by omega⟩ : Fin 2048) (⟨c.val + 6144, by omega⟩ : Fin 8192) :=
    funext fun a => Fin.ext (by
      match a with
      | ⟨0, _⟩ => show (r.val * 8192 + (c.val + 6144)) / 16777216 = r.val / 2048; omega
      | ⟨1, _⟩ => show (r.val * 8192 + (c.val + 6144)) / 8192 % 2048 = r.val % 2048; omega
      | ⟨2, _⟩ => show (r.val * 8192 + (c.val + 6144)) % 8192 = c.val + 6144; omega)
  rw [e]
  refine (s178 _ _ _ _ (⟨r.val / 2048, by omega⟩ : Fin 2) (⟨r.val % 2048, by omega⟩ : Fin 2048) c hc).2.trans ?_
  rw [s167]
  have ek : ck ⟨r.val / 2048, by omega⟩ ⟨r.val % 2048, by omega⟩ = ⟨r.val / 128, by omega⟩ := Fin.ext (by
    show r.val / 2048 * 16 + r.val % 2048 / 128 = r.val / 128; omega)
  have ep : po ⟨r.val % 2048, by omega⟩ = ⟨r.val % 128, by omega⟩ := Fin.ext (by show r.val % 2048 % 128 = r.val % 128; omega)
  show ((dpv (par I) (chunk I (ck ⟨r.val / 2048, _⟩ ⟨r.val % 2048, _⟩)) (po ⟨r.val % 2048, _⟩) c : ℝ) : EReal) = _
  rw [ek, ep]

theorem s181 :
    val_main_v181 (F := Ideal) (a2 (φ := .bf16) I.dy) (a2 (φ := .bf16) I.pr) (a2 (φ := .f32) I.lg) (a2 (φ := .f32) I.lb) (a4 (φ := .f32) I.w) (a3 (φ := .f32) I.sb) = a2 (φ := .f32) fun _ c => ∑ k, tog (par I) (chunk I k) c := by
  funext i
  rw [val_main_v181_apply, s102]
  rfl

theorem s182 :
    val_main_v182 (F := Ideal) (a2 (φ := .bf16) I.dy) (a2 (φ := .bf16) I.pr) (a2 (φ := .f32) I.lg) (a2 (φ := .f32) I.lb) (a4 (φ := .f32) I.w) (a3 (φ := .f32) I.sb) (a2 (φ := .f32) I.og) = a2 (φ := .f32) fun _ c => ∑ k, tlg (par I) (chunk I k) c := by
  funext i
  rw [val_main_v182_apply, s136]
  rfl

theorem s183 :
    val_main_v183 (F := Ideal) (a2 (φ := .bf16) I.dy) (a2 (φ := .bf16) I.pr) (a2 (φ := .f32) I.lg) (a2 (φ := .f32) I.lb) (a4 (φ := .f32) I.w) (a3 (φ := .f32) I.sb) (a2 (φ := .f32) I.og) = a2 (φ := .f32) fun _ c => ∑ k, tlb (par I) (chunk I k) c := by
  funext i
  rw [val_main_v183_apply, s130]
  rfl

theorem s184 :
    val_main_v184 (F := Ideal) (a2 (φ := .bf16) I.dy) (a2 (φ := .bf16) I.pr) (a2 (φ := .f32) I.lg) (a2 (φ := .f32) I.lb) (a4 (φ := .f32) I.w) (a3 (φ := .f32) I.sb) (a2 (φ := .f32) I.og) = a2 (φ := .f32) fun p c => ∑ k, dvs (par I) (chunk I k) p c := by
  funext i
  rw [val_main_v184_apply, s122]
  have h0 : (i 0).val < 128 := (i 0).isLt
  have h1 : (i 1).val < 2048 := (i 1).isLt
  have e0 : (idx_main_v184 i 0 : Fin 128) = i 0 := Fin.ext (by show ((i 0).val * 2048 + (i 1).val) / 2048 = (i 0).val; omega)
  have e1 : col (idx_main_v184 i 1) (idx_main_v184 i 2) = i 1 := Fin.ext (by
    show ((i 0).val * 2048 + (i 1).val) / 128 % 16 * 128 + ((i 0).val * 2048 + (i 1).val) % 128 = (i 1).val; omega)
  exact congrArg (fun z : ℝ => (z : EReal)) (congrArg₂ (fun p c => ∑ k, dvs (par I) (chunk I k) p c) e0 e1)

end Cert.ReferenceIdeal.RefVal
-- ==== Proof.lean ====
/- The certificate.  The frames are the generated ones, but those of the expanding product.  The value claim of the gating unit sets the
   kernel's arrays after the run (Proof/KerFinal.lean) beside the reference's results (Proof/RefD.lean, Proof/RefE.lean): over the real
   arrays that the precondition gives (Proof/Real.lean) both are the same real formulas (Proof/Spec.lean).  The products of two matrices
   and the optimiser's steps have a module for each program (Proof/Mul), the expanding product a second for its run. -/
module

public import proofs.«01_k».proof.Defs
public import proofs.«01_k».proof.Proof.Gen.GwUp.Frame
public import proofs.«01_k».proof.Proof.Mul.GwUp
public import proofs.«01_k».proof.Proof.Gen.Dh2.Frame
public import proofs.«01_k».proof.Proof.Mul.Dh2
public import proofs.«01_k».proof.Proof.Gen.GwDown.Frame
public import proofs.«01_k».proof.Proof.Mul.GwDown
public import proofs.«01_k».proof.Proof.Gen.Dact.Frame
public import proofs.«01_k».proof.Proof.Mul.Dact
public import proofs.«01_k».proof.Proof.Gen.GwIn.Frame
public import proofs.«01_k».proof.Proof.Mul.GwIn
public import proofs.«01_k».proof.Proof.Gen.Dh1.Frame
public import proofs.«01_k».proof.Proof.Mul.Dh1
public import proofs.«01_k».proof.Proof.Gen.GwOut.Frame
public import proofs.«01_k».proof.Proof.Mul.GwOut
public import proofs.«01_k».proof.Proof.Gen.Dy.Frame
public import proofs.«01_k».proof.Proof.Mul.Dy
public import proofs.«01_k».proof.Proof.Gen.Down.Frame
public import proofs.«01_k».proof.Proof.Mul.Down
public import proofs.«01_k».proof.Proof.Gen.Out.Frame
public import proofs.«01_k».proof.Proof.Mul.Out
public import proofs.«01_k».proof.Proof.Mul.ProjNear
public import proofs.«01_k».proof.Proof.Mul.ProjRest
public import proofs.«01_k».proof.Proof.Mul.UpNear
public import proofs.«01_k».proof.Proof.Mul.UpRest
public import proofs.«01_k».proof.Proof.Mul.AdamIn
public import proofs.«01_k».proof.Proof.Mul.AdamOut
public import proofs.«01_k».proof.Proof.Mul.AdamUp
public import proofs.«01_k».proof.Proof.Mul.AdamDown
public import proofs.«01_k».proof.Proof.Gen.Kernel.Frame
public import proofs.«01_k».proof.Proof.Gen.KernelIdeal.Value
public import proofs.«01_k».proof.Proof.Gen.ReferenceIdeal.Run
public import proofs.«01_k».proof.Proof.Real
public import proofs.«01_k».proof.Proof.RefE
public import Idealize.ShloMosaic.Adequacy
public import Idealize.ShloMosaic.Init

@[expose] public section

set_option maxRecDepth 16384

noncomputable section

namespace Cert.Proof

open Idealize.ShloMosaic Idealize.ShloMosaic.ValueIdx Idealize.SL.Sem Cert.Arr Cert.Spec Cert.KernelIdeal.KerVal

/-- The side conditions of the precondition's operations. -/
theorem finite_facts : Cert.Pre_finite.Facts where
  bitsLt_bf16_f32 := by decide
  bcast_S_S4096x4096 := by decide
  bcast_S_S4096x8192 := by decide
  bcast_S_S1x2048 := by decide
  bcast_S_S1x16x128x128 := by decide
  bcast_S_S1x16x128 := by decide

/-- The side conditions of the mask's operations. -/
theorem written_facts : Cert.On_written.Facts where
  bcast_S_S4096x8192 := by decide
  bcast_S_S1x2048 := by decide
  bcast_S_S16x128x128 := by decide
  bcast_S_S128x2048 := by decide

/-- The reference's first result, over the arguments of one device. -/
def ref180 (I : In) : FVec Ideal ⟨2, ![4096, 8192]⟩ .bf16 :=
  Cert.ReferenceIdeal.Read.val_main_v180 (F := Ideal) (a2 (φ := .bf16) I.dy) (a2 (φ := .bf16) I.pr) (a2 (φ := .f32) I.lg) (a2 (φ := .f32) I.lb)
    (a4 (φ := .f32) I.w) (a3 (φ := .f32) I.sb) (a2 (φ := .f32) I.og)

/-- In the columns from 4096 on it is what the kernel stores there. -/
theorem ref180_right (I : In) (r : Fin 4096) (C : Fin 4096) :
    ref180 I (ValueIdx.ix2 r ⟨C.val + 4096, by omega⟩ : (⟨2, ![4096, 8192]⟩ : Shape).Idx)
      = ((sides (dpu (par I) (chunk I ⟨r.val / 128, by omega⟩) ⟨r.val % 128, by omega⟩)
          (dpv (par I) (chunk I ⟨r.val / 128, by omega⟩) ⟨r.val % 128, by omega⟩) C : ℝ) : EReal) := by
  by_cases h : C.val < 2048
  · rw [sides_left h]
    exact Cert.ReferenceIdeal.RefVal.s180_dpu I r ⟨C.val, h⟩
  · rw [sides_right h]
    have e : (⟨C.val + 4096, by omega⟩ : Fin 8192) = ⟨(C.val - 2048) + 6144, by omega⟩ := Fin.ext (by show C.val + 4096 = C.val - 2048 + 6144; omega)
    exact (congrArg (fun z : Fin 8192 => ref180 I (ValueIdx.ix2 r z : (⟨2, ![4096, 8192]⟩ : Shape).Idx)) e).trans
      (Cert.ReferenceIdeal.RefVal.s180_dpv I r ⟨C.val - 2048, by omega⟩)

/-- An index at or right of column 4096, by its row and its column among those. -/
theorem right_ix (i : (⟨2, ![4096, 8192]⟩ : Shape).Idx) (h : 4096 ≤ (i 1).val) :
    ∃ (r C : Fin 4096), i = (ValueIdx.ix2 r ⟨C.val + 4096, by omega⟩ : (⟨2, ![4096, 8192]⟩ : Shape).Idx) := by
  have h1 : (i 1).val < 8192 := (i 1).isLt
  refine ⟨i 0, ⟨(i 1).val - 4096, by omega⟩, funext fun a => match a with
    | ⟨0, _⟩ => rfl
    | ⟨1, _⟩ => Fin.ext ?_⟩
  show (i 1).val = (i 1).val - 4096 + 4096
  omega

section Runs
variable (m : (ℓ : Loc Cert.KernelIdeal.nD Cert.KernelIdeal.τ Cert.KernelIdeal.sig) → Buf (Elt Ideal) ℓ)

/-- The common values of the results, on each device. -/
def w0 (c : Dev Cert.KernelIdeal.nD) : FVec Ideal ⟨2, ![4096, 8192]⟩ .bf16 := ref180 (Cert.Real.reals m c)
def w1 (c : Dev Cert.KernelIdeal.nD) : FVec Ideal ⟨2, ![1, 2048]⟩ .f32 :=
  a2 fun _ x => ∑ k, tog (par (Cert.Real.reals m c)) (chunk (Cert.Real.reals m c) k) x
def w2 (c : Dev Cert.KernelIdeal.nD) : FVec Ideal ⟨2, ![1, 2048]⟩ .f32 :=
  a2 fun _ x => ∑ k, tlg (par (Cert.Real.reals m c)) (chunk (Cert.Real.reals m c) k) x
def w3 (c : Dev Cert.KernelIdeal.nD) : FVec Ideal ⟨2, ![1, 2048]⟩ .f32 :=
  a2 fun _ x => ∑ k, tlb (par (Cert.Real.reals m c)) (chunk (Cert.Real.reals m c) k) x
def w4 (c : Dev Cert.KernelIdeal.nD) : FVec Ideal ⟨3, ![16, 128, 128]⟩ .f32 :=
  a3 fun h p q => ∑ k, tw (par (Cert.Real.reals m c)) (chunk (Cert.Real.reals m c) k) h p q
def w5 (c : Dev Cert.KernelIdeal.nD) : FVec Ideal ⟨2, ![128, 2048]⟩ .f32 :=
  a2 fun p x => ∑ k, dvs (par (Cert.Real.reals m c)) (chunk (Cert.Real.reals m c) k) p x

end Runs

section Ref
open Cert.ReferenceIdeal Idealize.ShloMosaic.StableHlo
variable (m : (ℓ : Loc nD τ sig) → Buf (Elt Ideal) ℓ) (c : Dev nD) (I : In)

/-- The reference's arguments on one device are the arrays of `I`. -/
structure HoldsRef : Prop where
  dy : m ((c.tc : Thread nD τ).loc main_arg0) = (a2 I.dy : FVec Ideal ⟨2, ![4096, 4096]⟩ .bf16)
  pr : m ((c.tc : Thread nD τ).loc main_arg1) = (a2 I.pr : FVec Ideal ⟨2, ![4096, 8192]⟩ .bf16)
  lg : m ((c.tc : Thread nD τ).loc main_arg2) = (a2 I.lg : FVec Ideal ⟨2, ![1, 2048]⟩ .f32)
  lb : m ((c.tc : Thread nD τ).loc main_arg3) = (a2 I.lb : FVec Ideal ⟨2, ![1, 2048]⟩ .f32)
  w : m ((c.tc : Thread nD τ).loc main_arg4) = (a4 I.w : FVec Ideal ⟨4, ![1, 16, 128, 128]⟩ .f32)
  sb : m ((c.tc : Thread nD τ).loc main_arg5) = (a3 I.sb : FVec Ideal ⟨3, ![1, 16, 128]⟩ .f32)
  og : m ((c.tc : Thread nD τ).loc main_arg6) = (a2 I.og : FVec Ideal ⟨2, ![1, 2048]⟩ .f32)

variable {m c I}

/-- A function of the seven arguments, at their arrays. -/
theorem HoldsRef.at {α : Type} (H : HoldsRef m c I)
    (f : FVec Ideal ⟨2, ![4096, 4096]⟩ .bf16 → FVec Ideal ⟨2, ![4096, 8192]⟩ .bf16 → FVec Ideal ⟨2, ![1, 2048]⟩ .f32 → FVec Ideal ⟨2, ![1, 2048]⟩ .f32
      → FVec Ideal ⟨4, ![1, 16, 128, 128]⟩ .f32 → FVec Ideal ⟨3, ![1, 16, 128]⟩ .f32 → FVec Ideal ⟨2, ![1, 2048]⟩ .f32 → α) :
    f (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6))
      = f (a2 (φ := .bf16) I.dy) (a2 (φ := .bf16) I.pr) (a2 (φ := .f32) I.lg) (a2 (φ := .f32) I.lb) (a4 (φ := .f32) I.w) (a3 (φ := .f32) I.sb) (a2 (φ := .f32) I.og) := by
  rw [H.dy, H.pr, H.lg, H.lb, H.w, H.sb, H.og]

end Ref

/-- The reference ends with its arguments unchanged; it has no semaphore. -/
theorem ref_frame (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
        ∧ r.2.sem = fun _ => 0) :=
  (θ_run Cert.ReferenceIdeal.defs _ _).mono (fun r h => ⟨fun c => (h c).2.2.2.2.2.2, sem_eq_zero_of_no_sems (by decide) r.2⟩)
    (Cert.ReferenceIdeal.Value.run m g)

/-- The gating unit's backward pass and its reference end with the same arrays. -/
theorem sgu : Cert.algebraic_KernelIdeal_ReferenceIdeal_on_written_pre_finite (hKernelIdeal := Cert.KernelIdeal.Gen.facts)
    (hReferenceIdeal := Cert.ReferenceIdeal.Gen.facts) (hPre_finite := finite_facts) (hOn_written := written_facts) := by
  intro m g m' g' hP hA
  have H : ∀ c : Dev Cert.KernelIdeal.nD, Holds m c (Cert.Real.reals m c) := fun c => @Cert.Real.holds finite_facts m hP c
  have H' : ∀ c : Dev Cert.KernelIdeal.nD, HoldsRef m' c (Cert.Real.reals m c) := fun c =>
    ⟨(hA c).1.trans (H c).dy, (hA c).2.1.trans (H c).pr, (hA c).2.2.1.trans (H c).lg, (hA c).2.2.2.1.trans (H c).lb,
     (hA c).2.2.2.2.1.trans (H c).w, (hA c).2.2.2.2.2.1.trans (H c).sb, (hA c).2.2.2.2.2.2.trans (H c).og⟩
  refine ⟨w0 m, w1 m, w2 m, w3 m, w4 m, w5 m, ?_, ?_⟩
  · refine (θ_run Cert.KernelIdeal.defs _ _).mono (fun r h c => ⟨fun i hi => ?_, fun i _ => ?_, fun i _ => ?_, fun i _ => ?_, fun i _ => ?_, fun i _ => ?_, (h c).2.2.2.2.2.2⟩)
      (Cert.KernelIdeal.Value.run_blocks m g)
    · obtain ⟨r, C, e⟩ := right_ix i (@Cert.Real.mask written_facts _ _ _ _ _ _ _ i hi)
      exact (congrFun (h c).1 i).trans ((congrArg ((Cert.KernelIdeal.Gen.dats m 0 c).arrAt 9 Cert.KernelIdeal.cfg0.N) e).trans
        ((final9 (H c) r C).trans ((ref180_right _ r C).symm.trans (congrArg (w0 m c) e).symm)))
    · exact congrFun ((h c).2.1.trans (final10 (H c))) i
    · exact congrFun ((h c).2.2.1.trans (final11 (H c))) i
    · exact congrFun ((h c).2.2.2.1.trans (final12 (H c))) i
    · exact congrFun ((h c).2.2.2.2.1.trans (final13 (H c))) i
    · exact congrFun ((h c).2.2.2.2.2.1.trans (final14 (H c))) i
  · refine (θ_run Cert.ReferenceIdeal.defs _ _).mono (fun r h c => ⟨fun i _ => ?_, fun i _ => ?_, fun i _ => ?_, fun i _ => ?_, fun i _ => ?_, fun i _ => ?_, (h c).2.2.2.2.2.2⟩)
      (Cert.ReferenceIdeal.Value.run m' g')
    · exact congrFun (((h c).1.trans (Cert.ReferenceIdeal.Read.val_main_v180_eq _)).trans
        ((H' c).at (Cert.ReferenceIdeal.Read.val_main_v180 (F := Ideal)))) i
    · exact congrFun (((h c).2.1.trans (Cert.ReferenceIdeal.Read.val_main_v181_eq _)).trans
        (((H' c).at fun x0 x1 x2 x3 x4 x5 _ => Cert.ReferenceIdeal.Read.val_main_v181 (F := Ideal) x0 x1 x2 x3 x4 x5).trans (Cert.ReferenceIdeal.RefVal.s181 _))) i
    · exact congrFun (((h c).2.2.1.trans (Cert.ReferenceIdeal.Read.val_main_v182_eq _)).trans
        (((H' c).at (Cert.ReferenceIdeal.Read.val_main_v182 (F := Ideal))).trans (Cert.ReferenceIdeal.RefVal.s182 _))) i
    · exact congrFun (((h c).2.2.2.1.trans (Cert.ReferenceIdeal.Read.val_main_v183_eq _)).trans
        (((H' c).at (Cert.ReferenceIdeal.Read.val_main_v183 (F := Ideal))).trans (Cert.ReferenceIdeal.RefVal.s183 _))) i
    · exact congrFun (((h c).2.2.2.2.1.trans (Cert.ReferenceIdeal.Read.val_main_v124_eq _)).trans
        (((H' c).at (Cert.ReferenceIdeal.Read.val_main_v124 (F := Ideal))).trans (Cert.ReferenceIdeal.RefVal.s124 _))) i
    · exact congrFun (((h c).2.2.2.2.2.1.trans (Cert.ReferenceIdeal.Read.val_main_v184_eq _)).trans
        (((H' c).at (Cert.ReferenceIdeal.Read.val_main_v184 (F := Ideal))).trans (Cert.ReferenceIdeal.RefVal.s184 _))) i

theorem claim : Cert.Claim :=
  ⟨Cert.Kernel.Gen.facts, Cert.KernelIdeal.Gen.facts, Cert.ReferenceIdeal.Gen.facts,
    Cert.GwUp.Gen.facts, Cert.GwUpIdeal.Gen.facts, Cert.RefGwUpIdeal.Gen.facts,
    Cert.Dh2.Gen.facts, Cert.Dh2Ideal.Gen.facts, Cert.RefDh2Ideal.Gen.facts,
    Cert.GwDown.Gen.facts, Cert.GwDownIdeal.Gen.facts, Cert.RefGwDownIdeal.Gen.facts,
    Cert.Dact.Gen.facts, Cert.DactIdeal.Gen.facts, Cert.RefDactIdeal.Gen.facts,
    Cert.GwIn.Gen.facts, Cert.GwInIdeal.Gen.facts, Cert.RefGwInIdeal.Gen.facts,
    Cert.Dh1.Gen.facts, Cert.Dh1Ideal.Gen.facts, Cert.RefDh1Ideal.Gen.facts,
    Cert.GwOut.Gen.facts, Cert.GwOutIdeal.Gen.facts, Cert.RefGwOutIdeal.Gen.facts,
    Cert.Dy.Gen.facts, Cert.DyIdeal.Gen.facts, Cert.RefDyIdeal.Gen.facts,
    Cert.Down.Gen.facts, Cert.DownIdeal.Gen.facts, Cert.RefDownIdeal.Gen.facts,
    Cert.Out.Gen.facts, Cert.OutIdeal.Gen.facts, Cert.RefOutIdeal.Gen.facts,
    Cert.ProjNear.Gen.facts, Cert.ProjNearIdeal.Gen.facts, Cert.RefProjNearIdeal.Gen.facts,
    Cert.ProjRest.Gen.facts, Cert.ProjRestIdeal.Gen.facts, Cert.RefProjRestIdeal.Gen.facts,
    Cert.UpNear.Gen.facts, Cert.UpNearIdeal.Gen.facts, Cert.RefUpNearIdeal.Gen.facts,
    Cert.UpRest.Gen.facts, Cert.UpRestIdeal.Gen.facts, Cert.RefUpRestIdeal.Gen.facts,
    Cert.AdamIn.Gen.facts, Cert.AdamInIdeal.Gen.facts, Cert.RefAdamInIdeal.Gen.facts,
    Cert.AdamOut.Gen.facts, Cert.AdamOutIdeal.Gen.facts, Cert.RefAdamOutIdeal.Gen.facts,
    Cert.AdamUp.Gen.facts, Cert.AdamUpIdeal.Gen.facts, Cert.RefAdamUpIdeal.Gen.facts,
    Cert.AdamDown.Gen.facts, Cert.AdamDownIdeal.Gen.facts, Cert.RefAdamDownIdeal.Gen.facts,
    finite_facts, Cert.ProjNearIdeal.Product.preFacts, Cert.ProjRestIdeal.Product.preFacts,
    Cert.UpNearIdeal.Product.preFacts, Cert.UpRestIdeal.Product.preFacts,
    Cert.AdamInIdeal.Product.preFacts, Cert.AdamOutIdeal.Product.preFacts, Cert.AdamUpIdeal.Product.preFacts, Cert.AdamDownIdeal.Product.preFacts,
    written_facts, Cert.ProjNearIdeal.Product.maskFacts, Cert.UpNearIdeal.Product.maskFacts,
    fun m g _ => Cert.Kernel.Gen.frame m g, fun m g _ => Cert.KernelIdeal.Gen.frame m g, fun m g _ => Cert.KernelIdeal.Gen.frame m g,
    fun m g _ => ref_frame m g, fun m g _ => ref_frame m g,
    fun m g _ => Cert.GwUp.Gen.frame m g, fun m g _ => Cert.GwUpIdeal.Gen.frame m g, Cert.RefGwUpIdeal.Product.frame,
    fun m g _ => Cert.Dh2.Gen.frame m g, fun m g _ => Cert.Dh2Ideal.Gen.frame m g, Cert.RefDh2Ideal.Product.frame,
    fun m g _ => Cert.GwDown.Gen.frame m g, fun m g _ => Cert.GwDownIdeal.Gen.frame m g, Cert.RefGwDownIdeal.Product.frame,
    fun m g _ => Cert.Dact.Gen.frame m g, fun m g _ => Cert.DactIdeal.Gen.frame m g, Cert.RefDactIdeal.Product.frame,
    fun m g _ => Cert.GwIn.Gen.frame m g, fun m g _ => Cert.GwInIdeal.Gen.frame m g, Cert.RefGwInIdeal.Product.frame,
    fun m g _ => Cert.Dh1.Gen.frame m g, fun m g _ => Cert.Dh1Ideal.Gen.frame m g, Cert.RefDh1Ideal.Product.frame,
    fun m g _ => Cert.GwOut.Gen.frame m g, fun m g _ => Cert.GwOutIdeal.Gen.frame m g, Cert.RefGwOutIdeal.Product.frame,
    fun m g _ => Cert.Dy.Gen.frame m g, fun m g _ => Cert.DyIdeal.Gen.frame m g, Cert.RefDyIdeal.Product.frame,
    fun m g _ => Cert.Down.Gen.frame m g, fun m g _ => Cert.DownIdeal.Gen.frame m g, Cert.RefDownIdeal.Product.frame,
    fun m g _ => Cert.Out.Gen.frame m g, fun m g _ => Cert.OutIdeal.Gen.frame m g, Cert.RefOutIdeal.Product.frame,
    Cert.ProjNearIdeal.Product.wordFrame, Cert.ProjNearIdeal.Product.idealFrame, Cert.RefProjNearIdeal.Product.frame,
    fun m g _ => Cert.RefProjNearIdeal.Product.frame m g trivial,
    Cert.ProjRestIdeal.Product.wordFrame, Cert.ProjRestIdeal.Product.idealFrame, Cert.RefProjRestIdeal.Product.frame,
    fun m g _ => Cert.RefProjRestIdeal.Product.frame m g trivial,
    Cert.UpNearIdeal.Product.wordFrame, Cert.UpNearIdeal.Product.idealFrame, Cert.RefUpNearIdeal.Product.frame,
    fun m g _ => Cert.RefUpNearIdeal.Product.frame m g trivial,
    Cert.UpRestIdeal.Product.wordFrame, Cert.UpRestIdeal.Product.idealFrame, Cert.RefUpRestIdeal.Product.frame,
    fun m g _ => Cert.RefUpRestIdeal.Product.frame m g trivial,
    Cert.AdamInIdeal.Product.wordFrame, Cert.AdamInIdeal.Product.idealFrame, Cert.RefAdamInIdeal.Product.frame,
    fun m g _ => Cert.RefAdamInIdeal.Product.frame m g trivial,
    Cert.AdamOutIdeal.Product.wordFrame, Cert.AdamOutIdeal.Product.idealFrame, Cert.RefAdamOutIdeal.Product.frame,
    fun m g _ => Cert.RefAdamOutIdeal.Product.frame m g trivial,
    Cert.AdamUpIdeal.Product.wordFrame, Cert.AdamUpIdeal.Product.idealFrame, Cert.RefAdamUpIdeal.Product.frame,
    fun m g _ => Cert.RefAdamUpIdeal.Product.frame m g trivial,
    Cert.AdamDownIdeal.Product.wordFrame, Cert.AdamDownIdeal.Product.idealFrame, Cert.RefAdamDownIdeal.Product.frame,
    fun m g _ => Cert.RefAdamDownIdeal.Product.frame m g trivial,
    ⟨IdealRules.named_const.statement Cert.KernelIdeal.κ "inv_sqrt2" .f32 0x3F3504F3#32 _ rfl,
     IdealRules.named_const.statement Cert.KernelIdeal.κ "inv_sqrt2pi" .f32 0x3ECC422A#32 _ rfl⟩, sgu,
    trivial, Cert.GwUpIdeal.Product.claim,
    trivial, Cert.Dh2Ideal.Product.claim,
    trivial, Cert.GwDownIdeal.Product.claim,
    trivial, Cert.DactIdeal.Product.claim,
    trivial, Cert.GwInIdeal.Product.claim,
    trivial, Cert.Dh1Ideal.Product.claim,
    trivial, Cert.GwOutIdeal.Product.claim,
    trivial, Cert.DyIdeal.Product.claim,
    trivial, Cert.DownIdeal.Product.claim,
    trivial, Cert.OutIdeal.Product.claim,
    trivial, Cert.ProjNearIdeal.Product.claim,
    trivial, Cert.ProjRestIdeal.Product.claim,
    trivial, Cert.UpNearIdeal.Product.claim,
    trivial, Cert.UpRestIdeal.Product.claim,
    trivial, Cert.AdamInIdeal.Product.claim,
    trivial, Cert.AdamOutIdeal.Product.claim,
    trivial, Cert.AdamUpIdeal.Product.claim,
    trivial, Cert.AdamDownIdeal.Product.claim⟩

end Cert.Proof

end
